-- ==== Defs.lean ====
def Pre_MmGDown (m : (ℓ : Loc Cert.MmGDown.nD Cert.MmGDown.τ Cert.MmGDown.sig) → Buf (Elt Bits) ℓ) : Prop :=
  True

def Pre_MmGDownIdeal (m : (ℓ : Loc Cert.MmGDownIdeal.nD Cert.MmGDownIdeal.τ Cert.MmGDownIdeal.sig) → Buf (Elt Ideal) ℓ) : Prop :=
  True

def Pre_MmGDownRefIdeal (m : (ℓ : Loc Cert.MmGDownRefIdeal.nD Cert.MmGDownRefIdeal.τ Cert.MmGDownRefIdeal.sig) → Buf (Elt Ideal) ℓ) : Prop :=
  True

def Pre_MmDAct (m : (ℓ : Loc Cert.MmDAct.nD Cert.MmDAct.τ Cert.MmDAct.sig) → Buf (Elt Bits) ℓ) : Prop :=
  True

def Pre_MmDActIdeal (m : (ℓ : Loc Cert.MmDActIdeal.nD Cert.MmDActIdeal.τ Cert.MmDActIdeal.sig) → Buf (Elt Ideal) ℓ) : Prop :=
  True

def Pre_MmDActRefIdeal (m : (ℓ : Loc Cert.MmDActRefIdeal.nD Cert.MmDActRefIdeal.τ Cert.MmDActRefIdeal.sig) → Buf (Elt Ideal) ℓ) : Prop :=
  True

def Pre_MmGUp (m : (ℓ : Loc Cert.MmGUp.nD Cert.MmGUp.τ Cert.MmGUp.sig) → Buf (Elt Bits) ℓ) : Prop :=
  True

def Pre_MmGUpIdeal (m : (ℓ : Loc Cert.MmGUpIdeal.nD Cert.MmGUpIdeal.τ Cert.MmGUpIdeal.sig) → Buf (Elt Ideal) ℓ) : Prop :=
  True

def Pre_MmGUpRefIdeal (m : (ℓ : Loc Cert.MmGUpRefIdeal.nD Cert.MmGUpRefIdeal.τ Cert.MmGUpRefIdeal.sig) → Buf (Elt Ideal) ℓ) : Prop :=
  True

def Pre_MmDH2 (m : (ℓ : Loc Cert.MmDH2.nD Cert.MmDH2.τ Cert.MmDH2.sig) → Buf (Elt Bits) ℓ) : Prop :=
  True

def Pre_MmDH2Ideal (m : (ℓ : Loc Cert.MmDH2Ideal.nD Cert.MmDH2Ideal.τ Cert.MmDH2Ideal.sig) → Buf (Elt Ideal) ℓ) : Prop :=
  True

def Pre_MmDH2RefIdeal (m : (ℓ : Loc Cert.MmDH2RefIdeal.nD Cert.MmDH2RefIdeal.τ Cert.MmDH2RefIdeal.sig) → Buf (Elt Ideal) ℓ) : Prop :=
  True

def Pre_MmGWo (m : (ℓ : Loc Cert.MmGWo.nD Cert.MmGWo.τ Cert.MmGWo.sig) → Buf (Elt Bits) ℓ) : Prop :=
  True

def Pre_MmGWoIdeal (m : (ℓ : Loc Cert.MmGWoIdeal.nD Cert.MmGWoIdeal.τ Cert.MmGWoIdeal.sig) → Buf (Elt Ideal) ℓ) : Prop :=
  True

def Pre_MmGWoRefIdeal (m : (ℓ : Loc Cert.MmGWoRefIdeal.nD Cert.MmGWoRefIdeal.τ Cert.MmGWoRefIdeal.sig) → Buf (Elt Ideal) ℓ) : Prop :=
  True

def Pre_MmDO (m : (ℓ : Loc Cert.MmDO.nD Cert.MmDO.τ Cert.MmDO.sig) → Buf (Elt Bits) ℓ) : Prop :=
  True

def Pre_MmDOIdeal (m : (ℓ : Loc Cert.MmDOIdeal.nD Cert.MmDOIdeal.τ Cert.MmDOIdeal.sig) → Buf (Elt Ideal) ℓ) : Prop :=
  True

def Pre_MmDORefIdeal (m : (ℓ : Loc Cert.MmDORefIdeal.nD Cert.MmDORefIdeal.τ Cert.MmDORefIdeal.sig) → Buf (Elt Ideal) ℓ) : Prop :=
  True

def Pre_MmGWin (m : (ℓ : Loc Cert.MmGWin.nD Cert.MmGWin.τ Cert.MmGWin.sig) → Buf (Elt Bits) ℓ) : Prop :=
  True

def Pre_MmGWinIdeal (m : (ℓ : Loc Cert.MmGWinIdeal.nD Cert.MmGWinIdeal.τ Cert.MmGWinIdeal.sig) → Buf (Elt Ideal) ℓ) : Prop :=
  True

def Pre_MmGWinRefIdeal (m : (ℓ : Loc Cert.MmGWinRefIdeal.nD Cert.MmGWinRefIdeal.τ Cert.MmGWinRefIdeal.sig) → Buf (Elt Ideal) ℓ) : Prop :=
  True

def Pre_MmDH1 (m : (ℓ : Loc Cert.MmDH1.nD Cert.MmDH1.τ Cert.MmDH1.sig) → Buf (Elt Bits) ℓ) : Prop :=
  True

def Pre_MmDH1Ideal (m : (ℓ : Loc Cert.MmDH1Ideal.nD Cert.MmDH1Ideal.τ Cert.MmDH1Ideal.sig) → Buf (Elt Ideal) ℓ) : Prop :=
  True

def Pre_MmDH1RefIdeal (m : (ℓ : Loc Cert.MmDH1RefIdeal.nD Cert.MmDH1RefIdeal.τ Cert.MmDH1RefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_MmWo (m : (ℓ : Loc Cert.MmWo.nD Cert.MmWo.τ Cert.MmWo.sig) → Buf (Elt Bits) ℓ) : Prop :=
  True

def Pre_MmWoIdeal (m : (ℓ : Loc Cert.MmWoIdeal.nD Cert.MmWoIdeal.τ Cert.MmWoIdeal.sig) → Buf (Elt Ideal) ℓ) : Prop :=
  True

def Pre_MmWoRefIdeal (m : (ℓ : Loc Cert.MmWoRefIdeal.nD Cert.MmWoRefIdeal.τ Cert.MmWoRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmGAda (m : (ℓ : Loc Cert.MmGAda.nD Cert.MmGAda.τ Cert.MmGAda.sig) → Buf (Elt Bits) ℓ) : Prop :=
  True

def Pre_MmGAdaIdeal (m : (ℓ : Loc Cert.MmGAdaIdeal.nD Cert.MmGAdaIdeal.τ Cert.MmGAdaIdeal.sig) → Buf (Elt Ideal) ℓ) : Prop :=
  True

def Pre_MmGAdaRefIdeal (m : (ℓ : Loc Cert.MmGAdaRefIdeal.nD Cert.MmGAdaRefIdeal.τ Cert.MmGAdaRefIdeal.sig) → Buf (Elt Ideal) ℓ) : Prop :=
  True

def Pre_ColSum (m : (ℓ : Loc Cert.ColSum.nD Cert.ColSum.τ Cert.ColSum.sig) → Buf (Elt Bits) ℓ) : Prop :=
  True

def Pre_ColSumIdeal (m : (ℓ : Loc Cert.ColSumIdeal.nD Cert.ColSumIdeal.τ Cert.ColSumIdeal.sig) → Buf (Elt Ideal) ℓ) : Prop :=
  True

def Pre_ColSumRefIdeal (m : (ℓ : Loc Cert.ColSumRefIdeal.nD Cert.ColSumRefIdeal.τ Cert.ColSumRefIdeal.sig) → Buf (Elt Ideal) ℓ) : Prop :=
  True

def Pre_Ln0Bwd (m : (ℓ : Loc Cert.Ln0Bwd.nD Cert.Ln0Bwd.τ Cert.Ln0Bwd.sig) → Buf (Elt Bits) ℓ) : Prop :=
  True

def Pre_Ln0BwdIdeal (m : (ℓ : Loc Cert.Ln0BwdIdeal.nD Cert.Ln0BwdIdeal.τ Cert.Ln0BwdIdeal.sig) → Buf (Elt Ideal) ℓ) : Prop :=
  True

def Pre_Ln0BwdRefIdeal (m : (ℓ : Loc Cert.Ln0BwdRefIdeal.nD Cert.Ln0BwdRefIdeal.τ Cert.Ln0BwdRefIdeal.sig) → Buf (Elt Ideal) ℓ) : Prop :=
  True

def Pre_Ln1Bwd (m : (ℓ : Loc Cert.Ln1Bwd.nD Cert.Ln1Bwd.τ Cert.Ln1Bwd.sig) → Buf (Elt Bits) ℓ) : Prop :=
  True

def Pre_Ln1BwdIdeal (m : (ℓ : Loc Cert.Ln1BwdIdeal.nD Cert.Ln1BwdIdeal.τ Cert.Ln1BwdIdeal.sig) → Buf (Elt Ideal) ℓ) : Prop :=
  True

def Pre_Ln1BwdRefIdeal (m : (ℓ : Loc Cert.Ln1BwdRefIdeal.nD Cert.Ln1BwdRefIdeal.τ Cert.Ln1BwdRefIdeal.sig) → Buf (Elt Ideal) ℓ) : Prop :=
  True

def Pre_Ln2LossBwd (m : (ℓ : Loc Cert.Ln2LossBwd.nD Cert.Ln2LossBwd.τ Cert.Ln2LossBwd.sig) → Buf (Elt Bits) ℓ) : Prop :=
  True

def Pre_Ln2LossBwdIdeal (m : (ℓ : Loc Cert.Ln2LossBwdIdeal.nD Cert.Ln2LossBwdIdeal.τ Cert.Ln2LossBwdIdeal.sig) → Buf (Elt Ideal) ℓ) : Prop :=
  True

def Pre_Ln2LossBwdRefIdeal (m : (ℓ : Loc Cert.Ln2LossBwdRefIdeal.nD Cert.Ln2LossBwdRefIdeal.τ Cert.Ln2LossBwdRefIdeal.sig) → Buf (Elt Ideal) ℓ) : Prop :=
  True

def Pre_Ln0Fwd (m : (ℓ : Loc Cert.Ln0Fwd.nD Cert.Ln0Fwd.τ Cert.Ln0Fwd.sig) → Buf (Elt Bits) ℓ) : Prop :=
  True

def Pre_Ln0FwdIdeal (m : (ℓ : Loc Cert.Ln0FwdIdeal.nD Cert.Ln0FwdIdeal.τ Cert.Ln0FwdIdeal.sig) → Buf (Elt Ideal) ℓ) : Prop :=
  True

def Pre_Ln0FwdRefIdeal (m : (ℓ : Loc Cert.Ln0FwdRefIdeal.nD Cert.Ln0FwdRefIdeal.τ Cert.Ln0FwdRefIdeal.sig) → Buf (Elt Ideal) ℓ) : Prop :=
  True

def Pre_Ln1Fwd (m : (ℓ : Loc Cert.Ln1Fwd.nD Cert.Ln1Fwd.τ Cert.Ln1Fwd.sig) → Buf (Elt Bits) ℓ) : Prop :=
  True

def Pre_Ln1FwdIdeal (m : (ℓ : Loc Cert.Ln1FwdIdeal.nD Cert.Ln1FwdIdeal.τ Cert.Ln1FwdIdeal.sig) → Buf (Elt Ideal) ℓ) : Prop :=
  True

def Pre_Ln1FwdRefIdeal (m : (ℓ : Loc Cert.Ln1FwdRefIdeal.nD Cert.Ln1FwdRefIdeal.τ Cert.Ln1FwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DnPreFwd (m : (ℓ : Loc Cert.DnPreFwd.nD Cert.DnPreFwd.τ Cert.DnPreFwd.sig) → Buf (Elt Bits) ℓ) : Prop :=
  True

def Pre_DnPreFwdIdeal (m : (ℓ : Loc Cert.DnPreFwdIdeal.nD Cert.DnPreFwdIdeal.τ Cert.DnPreFwdIdeal.sig) → Buf (Elt Ideal) ℓ) : Prop :=
  True

def Pre_DnPreFwdRefIdeal (m : (ℓ : Loc Cert.DnPreFwdRefIdeal.nD Cert.DnPreFwdRefIdeal.τ Cert.DnPreFwdRefIdeal.sig) → Buf (Elt Ideal) ℓ) : Prop :=
  True

def Pre_WInPadded (m : (ℓ : Loc Cert.WInPadded.nD Cert.WInPadded.τ Cert.WInPadded.sig) → Buf (Elt Bits) ℓ) : Prop :=
  True

def Pre_WInPaddedIdeal (m : (ℓ : Loc Cert.WInPaddedIdeal.nD Cert.WInPaddedIdeal.τ Cert.WInPaddedIdeal.sig) → Buf (Elt Ideal) ℓ) : Prop :=
  True

def Pre_WInPaddedRefIdeal (m : (ℓ : Loc Cert.WInPaddedRefIdeal.nD Cert.WInPaddedRefIdeal.τ Cert.WInPaddedRefIdeal.sig) → Buf (Elt Ideal) ℓ) : Prop :=
  True

def Pre_WInChips (m : (ℓ : Loc Cert.WInChips.nD Cert.WInChips.τ Cert.WInChips.sig) → Buf (Elt Bits) ℓ) : Prop :=
  True

def Pre_WInChipsIdeal (m : (ℓ : Loc Cert.WInChipsIdeal.nD Cert.WInChipsIdeal.τ Cert.WInChipsIdeal.sig) → Buf (Elt Ideal) ℓ) : Prop :=
  True

def Pre_WInChipsRefIdeal (m : (ℓ : Loc Cert.WInChipsRefIdeal.nD Cert.WInChipsRefIdeal.τ Cert.WInChipsRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamWO (m : (ℓ : Loc Cert.AdamWO.nD Cert.AdamWO.τ Cert.AdamWO.sig) → Buf (Elt Bits) ℓ) : Prop :=
  True

def Pre_AdamWOIdeal (m : (ℓ : Loc Cert.AdamWOIdeal.nD Cert.AdamWOIdeal.τ Cert.AdamWOIdeal.sig) → Buf (Elt Ideal) ℓ) : Prop :=
  True

def Pre_AdamWORefIdeal (m : (ℓ : Loc Cert.AdamWORefIdeal.nD Cert.AdamWORefIdeal.τ Cert.AdamWORefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamSmallA (m : (ℓ : Loc Cert.AdamSmallA.nD Cert.AdamSmallA.τ Cert.AdamSmallA.sig) → Buf (Elt Bits) ℓ) : Prop :=
  True

def Pre_AdamSmallAIdeal (m : (ℓ : Loc Cert.AdamSmallAIdeal.nD Cert.AdamSmallAIdeal.τ Cert.AdamSmallAIdeal.sig) → Buf (Elt Ideal) ℓ) : Prop :=
  True

def Pre_AdamSmallARefIdeal (m : (ℓ : Loc Cert.AdamSmallARefIdeal.nD Cert.AdamSmallARefIdeal.τ Cert.AdamSmallARefIdeal.sig) → Buf (Elt Ideal) ℓ) : Prop :=
  True

def Pre_AdamSmallB (m : (ℓ : Loc Cert.AdamSmallB.nD Cert.AdamSmallB.τ Cert.AdamSmallB.sig) → Buf (Elt Bits) ℓ) : Prop :=
  True

def Pre_AdamSmallBIdeal (m : (ℓ : Loc Cert.AdamSmallBIdeal.nD Cert.AdamSmallBIdeal.τ Cert.AdamSmallBIdeal.sig) → Buf (Elt Ideal) ℓ) : Prop :=
  True

def Pre_AdamSmallBRefIdeal (m : (ℓ : Loc Cert.AdamSmallBRefIdeal.nD Cert.AdamSmallBRefIdeal.τ Cert.AdamSmallBRefIdeal.sig) → Buf (Elt Ideal) ℓ) : Prop :=
  True

def Pre_AdamSmallC (m : (ℓ : Loc Cert.AdamSmallC.nD Cert.AdamSmallC.τ Cert.AdamSmallC.sig) → Buf (Elt Bits) ℓ) : Prop :=
  True

def Pre_AdamSmallCIdeal (m : (ℓ : Loc Cert.AdamSmallCIdeal.nD Cert.AdamSmallCIdeal.τ Cert.AdamSmallCIdeal.sig) → Buf (Elt Ideal) ℓ) : Prop :=
  True

def Pre_AdamSmallCRefIdeal (m : (ℓ : Loc Cert.AdamSmallCRefIdeal.nD Cert.AdamSmallCRefIdeal.τ Cert.AdamSmallCRefIdeal.sig) → Buf (Elt Ideal) ℓ) : Prop :=
  True

def Pre_AdamSmallD (m : (ℓ : Loc Cert.AdamSmallD.nD Cert.AdamSmallD.τ Cert.AdamSmallD.sig) → Buf (Elt Bits) ℓ) : Prop :=
  True

def Pre_AdamSmallDIdeal (m : (ℓ : Loc Cert.AdamSmallDIdeal.nD Cert.AdamSmallDIdeal.τ Cert.AdamSmallDIdeal.sig) → Buf (Elt Ideal) ℓ) : Prop :=
  True

def Pre_AdamSmallDRefIdeal (m : (ℓ : Loc Cert.AdamSmallDRefIdeal.nD Cert.AdamSmallDRefIdeal.τ Cert.AdamSmallDRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_value_finite [hPre_value_finite : Cert.Pre_value_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_value_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_value_finite [hPre_value_finite : Cert.Pre_value_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_value_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3))) = (fun _ => 1#1)

def Pre_DnPreBwd (m : (ℓ : Loc Cert.DnPreBwd.nD Cert.DnPreBwd.τ Cert.DnPreBwd.sig) → Buf (Elt Bits) ℓ) : Prop :=
  True

def Pre_DnPreBwdIdeal (m : (ℓ : Loc Cert.DnPreBwdIdeal.nD Cert.DnPreBwdIdeal.τ Cert.DnPreBwdIdeal.sig) → Buf (Elt Ideal) ℓ) : Prop :=
  True

def Pre_DnPreBwdIdeal_given_finite [hPre_given_finite : Cert.Pre_given_finite.Facts] (m : (ℓ : Loc Cert.DnPreBwdIdeal.nD Cert.DnPreBwdIdeal.τ Cert.DnPreBwdIdeal.sig) → Buf (Elt Ideal) ℓ) : Prop :=
  ∀ c : Dev Cert.DnPreBwdIdeal.nD,
    (Cert.Pre_given_finite.fn (F := Ideal) (m ((c.tc : Thread Cert.DnPreBwdIdeal.nD Cert.DnPreBwdIdeal.τ).loc Cert.DnPreBwdIdeal.main_arg0)) (m ((c.tc : Thread Cert.DnPreBwdIdeal.nD Cert.DnPreBwdIdeal.τ).loc Cert.DnPreBwdIdeal.main_arg1)) (m ((c.tc : Thread Cert.DnPreBwdIdeal.nD Cert.DnPreBwdIdeal.τ).loc Cert.DnPreBwdIdeal.main_arg2)) (m ((c.tc : Thread Cert.DnPreBwdIdeal.nD Cert.DnPreBwdIdeal.τ).loc Cert.DnPreBwdIdeal.main_arg3))) = (fun _ => 1#1)

def Pre_DnPreBwdRefIdeal (m : (ℓ : Loc Cert.DnPreBwdRefIdeal.nD Cert.DnPreBwdRefIdeal.τ Cert.DnPreBwdRefIdeal.sig) → Buf (Elt Ideal) ℓ) : Prop :=
  True

def Pre_DnPreBwdRefIdeal_given_finite [hPre_given_finite : Cert.Pre_given_finite.Facts] (m : (ℓ : Loc Cert.DnPreBwdRefIdeal.nD Cert.DnPreBwdRefIdeal.τ Cert.DnPreBwdRefIdeal.sig) → Buf (Elt Ideal) ℓ) : Prop :=
  ∀ c : Dev Cert.DnPreBwdRefIdeal.nD,
    (Cert.Pre_given_finite.fn (F := Ideal) (m ((c.tc : Thread Cert.DnPreBwdRefIdeal.nD Cert.DnPreBwdRefIdeal.τ).loc Cert.DnPreBwdRefIdeal.main_arg0)) (m ((c.tc : Thread Cert.DnPreBwdRefIdeal.nD Cert.DnPreBwdRefIdeal.τ).loc Cert.DnPreBwdRefIdeal.main_arg1)) (m ((c.tc : Thread Cert.DnPreBwdRefIdeal.nD Cert.DnPreBwdRefIdeal.τ).loc Cert.DnPreBwdRefIdeal.main_arg2)) (m ((c.tc : Thread Cert.DnPreBwdRefIdeal.nD Cert.DnPreBwdRefIdeal.τ).loc Cert.DnPreBwdRefIdeal.main_arg3))) = (fun _ => 1#1)

def Pre_PairAddWUp [hPre_a_core_w_up : Cert.Pre_a_core_w_up.Facts] (m : (ℓ : Loc Cert.PairAddWUp.nD Cert.PairAddWUp.τ Cert.PairAddWUp.sig) → Buf (Elt Bits) ℓ) : Prop :=
  ∀ c : Dev Cert.PairAddWUp.nD,
    (Cert.Pre_a_core_w_up.fn (F := Bits) (m ((c.tc : Thread Cert.PairAddWUp.nD Cert.PairAddWUp.τ).loc Cert.PairAddWUp.main_arg0)) (m ((c.tc : Thread Cert.PairAddWUp.nD Cert.PairAddWUp.τ).loc Cert.PairAddWUp.main_arg1)) (m ((c.tc : Thread Cert.PairAddWUp.nD Cert.PairAddWUp.τ).loc Cert.PairAddWUp.main_arg2))) = (fun _ => 1#1)

def Pre_PairAddWUpIdeal [hPre_a_core_w_up : Cert.Pre_a_core_w_up.Facts] (m : (ℓ : Loc Cert.PairAddWUpIdeal.nD Cert.PairAddWUpIdeal.τ Cert.PairAddWUpIdeal.sig) → Buf (Elt Ideal) ℓ) : Prop :=
  ∀ c : Dev Cert.PairAddWUpIdeal.nD,
    (Cert.Pre_a_core_w_up.fn (F := Ideal) (m ((c.tc : Thread Cert.PairAddWUpIdeal.nD Cert.PairAddWUpIdeal.τ).loc Cert.PairAddWUpIdeal.main_arg0)) (m ((c.tc : Thread Cert.PairAddWUpIdeal.nD Cert.PairAddWUpIdeal.τ).loc Cert.PairAddWUpIdeal.main_arg1)) (m ((c.tc : Thread Cert.PairAddWUpIdeal.nD Cert.PairAddWUpIdeal.τ).loc Cert.PairAddWUpIdeal.main_arg2))) = (fun _ => 1#1)

def Pre_PairAddWUpRefIdeal (m : (ℓ : Loc Cert.PairAddWUpRefIdeal.nD Cert.PairAddWUpRefIdeal.τ Cert.PairAddWUpRefIdeal.sig) → Buf (Elt Ideal) ℓ) : Prop :=
  True

def Pre_PairAddWUpRefIdeal_a_core_w_up [hPre_a_core_w_up : Cert.Pre_a_core_w_up.Facts] (m : (ℓ : Loc Cert.PairAddWUpRefIdeal.nD Cert.PairAddWUpRefIdeal.τ Cert.PairAddWUpRefIdeal.sig) → Buf (Elt Ideal) ℓ) : Prop :=
  ∀ c : Dev Cert.PairAddWUpRefIdeal.nD,
    (Cert.Pre_a_core_w_up.fn (F := Ideal) (m ((c.tc : Thread Cert.PairAddWUpRefIdeal.nD Cert.PairAddWUpRefIdeal.τ).loc Cert.PairAddWUpRefIdeal.main_arg0)) (m ((c.tc : Thread Cert.PairAddWUpRefIdeal.nD Cert.PairAddWUpRefIdeal.τ).loc Cert.PairAddWUpRefIdeal.main_arg1)) (m ((c.tc : Thread Cert.PairAddWUpRefIdeal.nD Cert.PairAddWUpRefIdeal.τ).loc Cert.PairAddWUpRefIdeal.main_arg2))) = (fun _ => 1#1)

def Pre_PairAddWDown [hPre_a_core_w_down : Cert.Pre_a_core_w_down.Facts] (m : (ℓ : Loc Cert.PairAddWDown.nD Cert.PairAddWDown.τ Cert.PairAddWDown.sig) → Buf (Elt Bits) ℓ) : Prop :=
  ∀ c : Dev Cert.PairAddWDown.nD,
    (Cert.Pre_a_core_w_down.fn (F := Bits) (m ((c.tc : Thread Cert.PairAddWDown.nD Cert.PairAddWDown.τ).loc Cert.PairAddWDown.main_arg0)) (m ((c.tc : Thread Cert.PairAddWDown.nD Cert.PairAddWDown.τ).loc Cert.PairAddWDown.main_arg1)) (m ((c.tc : Thread Cert.PairAddWDown.nD Cert.PairAddWDown.τ).loc Cert.PairAddWDown.main_arg2))) = (fun _ => 1#1)

def Pre_PairAddWDownIdeal [hPre_a_core_w_down : Cert.Pre_a_core_w_down.Facts] (m : (ℓ : Loc Cert.PairAddWDownIdeal.nD Cert.PairAddWDownIdeal.τ Cert.PairAddWDownIdeal.sig) → Buf (Elt Ideal) ℓ) : Prop :=
  ∀ c : Dev Cert.PairAddWDownIdeal.nD,
    (Cert.Pre_a_core_w_down.fn (F := Ideal) (m ((c.tc : Thread Cert.PairAddWDownIdeal.nD Cert.PairAddWDownIdeal.τ).loc Cert.PairAddWDownIdeal.main_arg0)) (m ((c.tc : Thread Cert.PairAddWDownIdeal.nD Cert.PairAddWDownIdeal.τ).loc Cert.PairAddWDownIdeal.main_arg1)) (m ((c.tc : Thread Cert.PairAddWDownIdeal.nD Cert.PairAddWDownIdeal.τ).loc Cert.PairAddWDownIdeal.main_arg2))) = (fun _ => 1#1)

def Pre_PairAddWDownRefIdeal (m : (ℓ : Loc Cert.PairAddWDownRefIdeal.nD Cert.PairAddWDownRefIdeal.τ Cert.PairAddWDownRefIdeal.sig) → Buf (Elt Ideal) ℓ) : Prop :=
  True

def Pre_PairAddWDownRefIdeal_a_core_w_down [hPre_a_core_w_down : Cert.Pre_a_core_w_down.Facts] (m : (ℓ : Loc Cert.PairAddWDownRefIdeal.nD Cert.PairAddWDownRefIdeal.τ Cert.PairAddWDownRefIdeal.sig) → Buf (Elt Ideal) ℓ) : Prop :=
  ∀ c : Dev Cert.PairAddWDownRefIdeal.nD,
    (Cert.Pre_a_core_w_down.fn (F := Ideal) (m ((c.tc : Thread Cert.PairAddWDownRefIdeal.nD Cert.PairAddWDownRefIdeal.τ).loc Cert.PairAddWDownRefIdeal.main_arg0)) (m ((c.tc : Thread Cert.PairAddWDownRefIdeal.nD Cert.PairAddWDownRefIdeal.τ).loc Cert.PairAddWDownRefIdeal.main_arg1)) (m ((c.tc : Thread Cert.PairAddWDownRefIdeal.nD Cert.PairAddWDownRefIdeal.τ).loc Cert.PairAddWDownRefIdeal.main_arg2))) = (fun _ => 1#1)

def Pre_PairAddWO [hPre_a_core_w_o : Cert.Pre_a_core_w_o.Facts] (m : (ℓ : Loc Cert.PairAddWO.nD Cert.PairAddWO.τ Cert.PairAddWO.sig) → Buf (Elt Bits) ℓ) : Prop :=
  ∀ c : Dev Cert.PairAddWO.nD,
    (Cert.Pre_a_core_w_o.fn (F := Bits) (m ((c.tc : Thread Cert.PairAddWO.nD Cert.PairAddWO.τ).loc Cert.PairAddWO.main_arg0)) (m ((c.tc : Thread Cert.PairAddWO.nD Cert.PairAddWO.τ).loc Cert.PairAddWO.main_arg1)) (m ((c.tc : Thread Cert.PairAddWO.nD Cert.PairAddWO.τ).loc Cert.PairAddWO.main_arg2))) = (fun _ => 1#1)

def Pre_PairAddWOIdeal [hPre_a_core_w_o : Cert.Pre_a_core_w_o.Facts] (m : (ℓ : Loc Cert.PairAddWOIdeal.nD Cert.PairAddWOIdeal.τ Cert.PairAddWOIdeal.sig) → Buf (Elt Ideal) ℓ) : Prop :=
  ∀ c : Dev Cert.PairAddWOIdeal.nD,
    (Cert.Pre_a_core_w_o.fn (F := Ideal) (m ((c.tc : Thread Cert.PairAddWOIdeal.nD Cert.PairAddWOIdeal.τ).loc Cert.PairAddWOIdeal.main_arg0)) (m ((c.tc : Thread Cert.PairAddWOIdeal.nD Cert.PairAddWOIdeal.τ).loc Cert.PairAddWOIdeal.main_arg1)) (m ((c.tc : Thread Cert.PairAddWOIdeal.nD Cert.PairAddWOIdeal.τ).loc Cert.PairAddWOIdeal.main_arg2))) = (fun _ => 1#1)

def Pre_PairAddWORefIdeal (m : (ℓ : Loc Cert.PairAddWORefIdeal.nD Cert.PairAddWORefIdeal.τ Cert.PairAddWORefIdeal.sig) → Buf (Elt Ideal) ℓ) : Prop :=
  True

def Pre_PairAddWORefIdeal_a_core_w_o [hPre_a_core_w_o : Cert.Pre_a_core_w_o.Facts] (m : (ℓ : Loc Cert.PairAddWORefIdeal.nD Cert.PairAddWORefIdeal.τ Cert.PairAddWORefIdeal.sig) → Buf (Elt Ideal) ℓ) : Prop :=
  ∀ c : Dev Cert.PairAddWORefIdeal.nD,
    (Cert.Pre_a_core_w_o.fn (F := Ideal) (m ((c.tc : Thread Cert.PairAddWORefIdeal.nD Cert.PairAddWORefIdeal.τ).loc Cert.PairAddWORefIdeal.main_arg0)) (m ((c.tc : Thread Cert.PairAddWORefIdeal.nD Cert.PairAddWORefIdeal.τ).loc Cert.PairAddWORefIdeal.main_arg1)) (m ((c.tc : Thread Cert.PairAddWORefIdeal.nD Cert.PairAddWORefIdeal.τ).loc Cert.PairAddWORefIdeal.main_arg2))) = (fun _ => 1#1)

def Pre_PairAddWIn [hPre_a_core_w_in : Cert.Pre_a_core_w_in.Facts] (m : (ℓ : Loc Cert.PairAddWIn.nD Cert.PairAddWIn.τ Cert.PairAddWIn.sig) → Buf (Elt Bits) ℓ) : Prop :=
  ∀ c : Dev Cert.PairAddWIn.nD,
    (Cert.Pre_a_core_w_in.fn (F := Bits) (m ((c.tc : Thread Cert.PairAddWIn.nD Cert.PairAddWIn.τ).loc Cert.PairAddWIn.main_arg0)) (m ((c.tc : Thread Cert.PairAddWIn.nD Cert.PairAddWIn.τ).loc Cert.PairAddWIn.main_arg1)) (m ((c.tc : Thread Cert.PairAddWIn.nD Cert.PairAddWIn.τ).loc Cert.PairAddWIn.main_arg2))) = (fun _ => 1#1)

def Pre_PairAddWInIdeal [hPre_a_core_w_in : Cert.Pre_a_core_w_in.Facts] (m : (ℓ : Loc Cert.PairAddWInIdeal.nD Cert.PairAddWInIdeal.τ Cert.PairAddWInIdeal.sig) → Buf (Elt Ideal) ℓ) : Prop :=
  ∀ c : Dev Cert.PairAddWInIdeal.nD,
    (Cert.Pre_a_core_w_in.fn (F := Ideal) (m ((c.tc : Thread Cert.PairAddWInIdeal.nD Cert.PairAddWInIdeal.τ).loc Cert.PairAddWInIdeal.main_arg0)) (m ((c.tc : Thread Cert.PairAddWInIdeal.nD Cert.PairAddWInIdeal.τ).loc Cert.PairAddWInIdeal.main_arg1)) (m ((c.tc : Thread Cert.PairAddWInIdeal.nD Cert.PairAddWInIdeal.τ).loc Cert.PairAddWInIdeal.main_arg2))) = (fun _ => 1#1)

def Pre_PairAddWInRefIdeal (m : (ℓ : Loc Cert.PairAddWInRefIdeal.nD Cert.PairAddWInRefIdeal.τ Cert.PairAddWInRefIdeal.sig) → Buf (Elt Ideal) ℓ) : Prop :=
  True

def Pre_PairAddWInRefIdeal_a_core_w_in [hPre_a_core_w_in : Cert.Pre_a_core_w_in.Facts] (m : (ℓ : Loc Cert.PairAddWInRefIdeal.nD Cert.PairAddWInRefIdeal.τ Cert.PairAddWInRefIdeal.sig) → Buf (Elt Ideal) ℓ) : Prop :=
  ∀ c : Dev Cert.PairAddWInRefIdeal.nD,
    (Cert.Pre_a_core_w_in.fn (F := Ideal) (m ((c.tc : Thread Cert.PairAddWInRefIdeal.nD Cert.PairAddWInRefIdeal.τ).loc Cert.PairAddWInRefIdeal.main_arg0)) (m ((c.tc : Thread Cert.PairAddWInRefIdeal.nD Cert.PairAddWInRefIdeal.τ).loc Cert.PairAddWInRefIdeal.main_arg1)) (m ((c.tc : Thread Cert.PairAddWInRefIdeal.nD Cert.PairAddWInRefIdeal.τ).loc Cert.PairAddWInRefIdeal.main_arg2))) = (fun _ => 1#1)

def Pre_PlaceOwnWUp [hPre_a_chip_w_up : Cert.Pre_a_chip_w_up.Facts] (m : (ℓ : Loc Cert.PlaceOwnWUp.nD Cert.PlaceOwnWUp.τ Cert.PlaceOwnWUp.sig) → Buf (Elt Bits) ℓ) : Prop :=
  ∀ c : Dev Cert.PlaceOwnWUp.nD,
    (Cert.Pre_a_chip_w_up.fn (F := Bits) (m ((c.tc : Thread Cert.PlaceOwnWUp.nD Cert.PlaceOwnWUp.τ).loc Cert.PlaceOwnWUp.main_arg0)) (m ((c.tc : Thread Cert.PlaceOwnWUp.nD Cert.PlaceOwnWUp.τ).loc Cert.PlaceOwnWUp.main_arg1)) (m ((c.tc : Thread Cert.PlaceOwnWUp.nD Cert.PlaceOwnWUp.τ).loc Cert.PlaceOwnWUp.main_arg2))) = (fun _ => 1#1)

def Pre_PlaceOwnWUpIdeal [hPre_a_chip_w_up : Cert.Pre_a_chip_w_up.Facts] (m : (ℓ : Loc Cert.PlaceOwnWUpIdeal.nD Cert.PlaceOwnWUpIdeal.τ Cert.PlaceOwnWUpIdeal.sig) → Buf (Elt Ideal) ℓ) : Prop :=
  ∀ c : Dev Cert.PlaceOwnWUpIdeal.nD,
    (Cert.Pre_a_chip_w_up.fn (F := Ideal) (m ((c.tc : Thread Cert.PlaceOwnWUpIdeal.nD Cert.PlaceOwnWUpIdeal.τ).loc Cert.PlaceOwnWUpIdeal.main_arg0)) (m ((c.tc : Thread Cert.PlaceOwnWUpIdeal.nD Cert.PlaceOwnWUpIdeal.τ).loc Cert.PlaceOwnWUpIdeal.main_arg1)) (m ((c.tc : Thread Cert.PlaceOwnWUpIdeal.nD Cert.PlaceOwnWUpIdeal.τ).loc Cert.PlaceOwnWUpIdeal.main_arg2))) = (fun _ => 1#1)

def Pre_PlaceOwnWUpRefIdeal (m : (ℓ : Loc Cert.PlaceOwnWUpRefIdeal.nD Cert.PlaceOwnWUpRefIdeal.τ Cert.PlaceOwnWUpRefIdeal.sig) → Buf (Elt Ideal) ℓ) : Prop :=
  True

def Pre_PlaceOwnWUpRefIdeal_a_chip_w_up [hPre_a_chip_w_up : Cert.Pre_a_chip_w_up.Facts] (m : (ℓ : Loc Cert.PlaceOwnWUpRefIdeal.nD Cert.PlaceOwnWUpRefIdeal.τ Cert.PlaceOwnWUpRefIdeal.sig) → Buf (Elt Ideal) ℓ) : Prop :=
  ∀ c : Dev Cert.PlaceOwnWUpRefIdeal.nD,
    (Cert.Pre_a_chip_w_up.fn (F := Ideal) (m ((c.tc : Thread Cert.PlaceOwnWUpRefIdeal.nD Cert.PlaceOwnWUpRefIdeal.τ).loc Cert.PlaceOwnWUpRefIdeal.main_arg0)) (m ((c.tc : Thread Cert.PlaceOwnWUpRefIdeal.nD Cert.PlaceOwnWUpRefIdeal.τ).loc Cert.PlaceOwnWUpRefIdeal.main_arg1)) (m ((c.tc : Thread Cert.PlaceOwnWUpRefIdeal.nD Cert.PlaceOwnWUpRefIdeal.τ).loc Cert.PlaceOwnWUpRefIdeal.main_arg2))) = (fun _ => 1#1)

def Pre_PlaceOwnWDown [hPre_a_chip_w_down : Cert.Pre_a_chip_w_down.Facts] (m : (ℓ : Loc Cert.PlaceOwnWDown.nD Cert.PlaceOwnWDown.τ Cert.PlaceOwnWDown.sig) → Buf (Elt Bits) ℓ) : Prop :=
  ∀ c : Dev Cert.PlaceOwnWDown.nD,
    (Cert.Pre_a_chip_w_down.fn (F := Bits) (m ((c.tc : Thread Cert.PlaceOwnWDown.nD Cert.PlaceOwnWDown.τ).loc Cert.PlaceOwnWDown.main_arg0)) (m ((c.tc : Thread Cert.PlaceOwnWDown.nD Cert.PlaceOwnWDown.τ).loc Cert.PlaceOwnWDown.main_arg1)) (m ((c.tc : Thread Cert.PlaceOwnWDown.nD Cert.PlaceOwnWDown.τ).loc Cert.PlaceOwnWDown.main_arg2))) = (fun _ => 1#1)

def Pre_PlaceOwnWDownIdeal [hPre_a_chip_w_down : Cert.Pre_a_chip_w_down.Facts] (m : (ℓ : Loc Cert.PlaceOwnWDownIdeal.nD Cert.PlaceOwnWDownIdeal.τ Cert.PlaceOwnWDownIdeal.sig) → Buf (Elt Ideal) ℓ) : Prop :=
  ∀ c : Dev Cert.PlaceOwnWDownIdeal.nD,
    (Cert.Pre_a_chip_w_down.fn (F := Ideal) (m ((c.tc : Thread Cert.PlaceOwnWDownIdeal.nD Cert.PlaceOwnWDownIdeal.τ).loc Cert.PlaceOwnWDownIdeal.main_arg0)) (m ((c.tc : Thread Cert.PlaceOwnWDownIdeal.nD Cert.PlaceOwnWDownIdeal.τ).loc Cert.PlaceOwnWDownIdeal.main_arg1)) (m ((c.tc : Thread Cert.PlaceOwnWDownIdeal.nD Cert.PlaceOwnWDownIdeal.τ).loc Cert.PlaceOwnWDownIdeal.main_arg2))) = (fun _ => 1#1)

def Pre_PlaceOwnWDownRefIdeal (m : (ℓ : Loc Cert.PlaceOwnWDownRefIdeal.nD Cert.PlaceOwnWDownRefIdeal.τ Cert.PlaceOwnWDownRefIdeal.sig) → Buf (Elt Ideal) ℓ) : Prop :=
  True

def Pre_PlaceOwnWDownRefIdeal_a_chip_w_down [hPre_a_chip_w_down : Cert.Pre_a_chip_w_down.Facts] (m : (ℓ : Loc Cert.PlaceOwnWDownRefIdeal.nD Cert.PlaceOwnWDownRefIdeal.τ Cert.PlaceOwnWDownRefIdeal.sig) → Buf (Elt Ideal) ℓ) : Prop :=
  ∀ c : Dev Cert.PlaceOwnWDownRefIdeal.nD,
    (Cert.Pre_a_chip_w_down.fn (F := Ideal) (m ((c.tc : Thread Cert.PlaceOwnWDownRefIdeal.nD Cert.PlaceOwnWDownRefIdeal.τ).loc Cert.PlaceOwnWDownRefIdeal.main_arg0)) (m ((c.tc : Thread Cert.PlaceOwnWDownRefIdeal.nD Cert.PlaceOwnWDownRefIdeal.τ).loc Cert.PlaceOwnWDownRefIdeal.main_arg1)) (m ((c.tc : Thread Cert.PlaceOwnWDownRefIdeal.nD Cert.PlaceOwnWDownRefIdeal.τ).loc Cert.PlaceOwnWDownRefIdeal.main_arg2))) = (fun _ => 1#1)

def Pre_PlaceOwnWO [hPre_a_chip_w_o : Cert.Pre_a_chip_w_o.Facts] (m : (ℓ : Loc Cert.PlaceOwnWO.nD Cert.PlaceOwnWO.τ Cert.PlaceOwnWO.sig) → Buf (Elt Bits) ℓ) : Prop :=
  ∀ c : Dev Cert.PlaceOwnWO.nD,
    (Cert.Pre_a_chip_w_o.fn (F := Bits) (m ((c.tc : Thread Cert.PlaceOwnWO.nD Cert.PlaceOwnWO.τ).loc Cert.PlaceOwnWO.main_arg0)) (m ((c.tc : Thread Cert.PlaceOwnWO.nD Cert.PlaceOwnWO.τ).loc Cert.PlaceOwnWO.main_arg1)) (m ((c.tc : Thread Cert.PlaceOwnWO.nD Cert.PlaceOwnWO.τ).loc Cert.PlaceOwnWO.main_arg2))) = (fun _ => 1#1)

def Pre_PlaceOwnWOIdeal [hPre_a_chip_w_o : Cert.Pre_a_chip_w_o.Facts] (m : (ℓ : Loc Cert.PlaceOwnWOIdeal.nD Cert.PlaceOwnWOIdeal.τ Cert.PlaceOwnWOIdeal.sig) → Buf (Elt Ideal) ℓ) : Prop :=
  ∀ c : Dev Cert.PlaceOwnWOIdeal.nD,
    (Cert.Pre_a_chip_w_o.fn (F := Ideal) (m ((c.tc : Thread Cert.PlaceOwnWOIdeal.nD Cert.PlaceOwnWOIdeal.τ).loc Cert.PlaceOwnWOIdeal.main_arg0)) (m ((c.tc : Thread Cert.PlaceOwnWOIdeal.nD Cert.PlaceOwnWOIdeal.τ).loc Cert.PlaceOwnWOIdeal.main_arg1)) (m ((c.tc : Thread Cert.PlaceOwnWOIdeal.nD Cert.PlaceOwnWOIdeal.τ).loc Cert.PlaceOwnWOIdeal.main_arg2))) = (fun _ => 1#1)

def Pre_PlaceOwnWORefIdeal (m : (ℓ : Loc Cert.PlaceOwnWORefIdeal.nD Cert.PlaceOwnWORefIdeal.τ Cert.PlaceOwnWORefIdeal.sig) → Buf (Elt Ideal) ℓ) : Prop :=
  True

def Pre_PlaceOwnWORefIdeal_a_chip_w_o [hPre_a_chip_w_o : Cert.Pre_a_chip_w_o.Facts] (m : (ℓ : Loc Cert.PlaceOwnWORefIdeal.nD Cert.PlaceOwnWORefIdeal.τ Cert.PlaceOwnWORefIdeal.sig) → Buf (Elt Ideal) ℓ) : Prop :=
  ∀ c : Dev Cert.PlaceOwnWORefIdeal.nD,
    (Cert.Pre_a_chip_w_o.fn (F := Ideal) (m ((c.tc : Thread Cert.PlaceOwnWORefIdeal.nD Cert.PlaceOwnWORefIdeal.τ).loc Cert.PlaceOwnWORefIdeal.main_arg0)) (m ((c.tc : Thread Cert.PlaceOwnWORefIdeal.nD Cert.PlaceOwnWORefIdeal.τ).loc Cert.PlaceOwnWORefIdeal.main_arg1)) (m ((c.tc : Thread Cert.PlaceOwnWORefIdeal.nD Cert.PlaceOwnWORefIdeal.τ).loc Cert.PlaceOwnWORefIdeal.main_arg2))) = (fun _ => 1#1)

def Pre_PlaceOwnWIn [hPre_a_chip_w_in : Cert.Pre_a_chip_w_in.Facts] (m : (ℓ : Loc Cert.PlaceOwnWIn.nD Cert.PlaceOwnWIn.τ Cert.PlaceOwnWIn.sig) → Buf (Elt Bits) ℓ) : Prop :=
  ∀ c : Dev Cert.PlaceOwnWIn.nD,
    (Cert.Pre_a_chip_w_in.fn (F := Bits) (m ((c.tc : Thread Cert.PlaceOwnWIn.nD Cert.PlaceOwnWIn.τ).loc Cert.PlaceOwnWIn.main_arg0)) (m ((c.tc : Thread Cert.PlaceOwnWIn.nD Cert.PlaceOwnWIn.τ).loc Cert.PlaceOwnWIn.main_arg1)) (m ((c.tc : Thread Cert.PlaceOwnWIn.nD Cert.PlaceOwnWIn.τ).loc Cert.PlaceOwnWIn.main_arg2))) = (fun _ => 1#1)

def Pre_PlaceOwnWInIdeal [hPre_a_chip_w_in : Cert.Pre_a_chip_w_in.Facts] (m : (ℓ : Loc Cert.PlaceOwnWInIdeal.nD Cert.PlaceOwnWInIdeal.τ Cert.PlaceOwnWInIdeal.sig) → Buf (Elt Ideal) ℓ) : Prop :=
  ∀ c : Dev Cert.PlaceOwnWInIdeal.nD,
    (Cert.Pre_a_chip_w_in.fn (F := Ideal) (m ((c.tc : Thread Cert.PlaceOwnWInIdeal.nD Cert.PlaceOwnWInIdeal.τ).loc Cert.PlaceOwnWInIdeal.main_arg0)) (m ((c.tc : Thread Cert.PlaceOwnWInIdeal.nD Cert.PlaceOwnWInIdeal.τ).loc Cert.PlaceOwnWInIdeal.main_arg1)) (m ((c.tc : Thread Cert.PlaceOwnWInIdeal.nD Cert.PlaceOwnWInIdeal.τ).loc Cert.PlaceOwnWInIdeal.main_arg2))) = (fun _ => 1#1)

def Pre_PlaceOwnWInRefIdeal (m : (ℓ : Loc Cert.PlaceOwnWInRefIdeal.nD Cert.PlaceOwnWInRefIdeal.τ Cert.PlaceOwnWInRefIdeal.sig) → Buf (Elt Ideal) ℓ) : Prop :=
  True

def Pre_PlaceOwnWInRefIdeal_a_chip_w_in [hPre_a_chip_w_in : Cert.Pre_a_chip_w_in.Facts] (m : (ℓ : Loc Cert.PlaceOwnWInRefIdeal.nD Cert.PlaceOwnWInRefIdeal.τ Cert.PlaceOwnWInRefIdeal.sig) → Buf (Elt Ideal) ℓ) : Prop :=
  ∀ c : Dev Cert.PlaceOwnWInRefIdeal.nD,
    (Cert.Pre_a_chip_w_in.fn (F := Ideal) (m ((c.tc : Thread Cert.PlaceOwnWInRefIdeal.nD Cert.PlaceOwnWInRefIdeal.τ).loc Cert.PlaceOwnWInRefIdeal.main_arg0)) (m ((c.tc : Thread Cert.PlaceOwnWInRefIdeal.nD Cert.PlaceOwnWInRefIdeal.τ).loc Cert.PlaceOwnWInRefIdeal.main_arg1)) (m ((c.tc : Thread Cert.PlaceOwnWInRefIdeal.nD Cert.PlaceOwnWInRefIdeal.τ).loc Cert.PlaceOwnWInRefIdeal.main_arg2))) = (fun _ => 1#1)

def Pre_ChipAddWUp [hPre_a_place_w_up : Cert.Pre_a_place_w_up.Facts] (m : (ℓ : Loc Cert.ChipAddWUp.nD Cert.ChipAddWUp.τ Cert.ChipAddWUp.sig) → Buf (Elt Bits) ℓ) : Prop :=
  ∀ c : Dev Cert.ChipAddWUp.nD,
    (Cert.Pre_a_place_w_up.fn (F := Bits) (m ((c.tc : Thread Cert.ChipAddWUp.nD Cert.ChipAddWUp.τ).loc Cert.ChipAddWUp.main_arg0)) (m ((c.tc : Thread Cert.ChipAddWUp.nD Cert.ChipAddWUp.τ).loc Cert.ChipAddWUp.main_arg1)) (m ((c.tc : Thread Cert.ChipAddWUp.nD Cert.ChipAddWUp.τ).loc Cert.ChipAddWUp.main_arg2)) (m ((c.tc : Thread Cert.ChipAddWUp.nD Cert.ChipAddWUp.τ).loc Cert.ChipAddWUp.main_arg3))) = (fun _ => 1#1)

def Pre_ChipAddWUpIdeal [hPre_a_place_w_up : Cert.Pre_a_place_w_up.Facts] (m : (ℓ : Loc Cert.ChipAddWUpIdeal.nD Cert.ChipAddWUpIdeal.τ Cert.ChipAddWUpIdeal.sig) → Buf (Elt Ideal) ℓ) : Prop :=
  ∀ c : Dev Cert.ChipAddWUpIdeal.nD,
    (Cert.Pre_a_place_w_up.fn (F := Ideal) (m ((c.tc : Thread Cert.ChipAddWUpIdeal.nD Cert.ChipAddWUpIdeal.τ).loc Cert.ChipAddWUpIdeal.main_arg0)) (m ((c.tc : Thread Cert.ChipAddWUpIdeal.nD Cert.ChipAddWUpIdeal.τ).loc Cert.ChipAddWUpIdeal.main_arg1)) (m ((c.tc : Thread Cert.ChipAddWUpIdeal.nD Cert.ChipAddWUpIdeal.τ).loc Cert.ChipAddWUpIdeal.main_arg2)) (m ((c.tc : Thread Cert.ChipAddWUpIdeal.nD Cert.ChipAddWUpIdeal.τ).loc Cert.ChipAddWUpIdeal.main_arg3))) = (fun _ => 1#1)

def Pre_ChipAddWUpRefIdeal (m : (ℓ : Loc Cert.ChipAddWUpRefIdeal.nD Cert.ChipAddWUpRefIdeal.τ Cert.ChipAddWUpRefIdeal.sig) → Buf (Elt Ideal) ℓ) : Prop :=
  True

def Pre_ChipAddWUpRefIdeal_a_place_w_up [hPre_a_place_w_up : Cert.Pre_a_place_w_up.Facts] (m : (ℓ : Loc Cert.ChipAddWUpRefIdeal.nD Cert.ChipAddWUpRefIdeal.τ Cert.ChipAddWUpRefIdeal.sig) → Buf (Elt Ideal) ℓ) : Prop :=
  ∀ c : Dev Cert.ChipAddWUpRefIdeal.nD,
    (Cert.Pre_a_place_w_up.fn (F := Ideal) (m ((c.tc : Thread Cert.ChipAddWUpRefIdeal.nD Cert.ChipAddWUpRefIdeal.τ).loc Cert.ChipAddWUpRefIdeal.main_arg0)) (m ((c.tc : Thread Cert.ChipAddWUpRefIdeal.nD Cert.ChipAddWUpRefIdeal.τ).loc Cert.ChipAddWUpRefIdeal.main_arg1)) (m ((c.tc : Thread Cert.ChipAddWUpRefIdeal.nD Cert.ChipAddWUpRefIdeal.τ).loc Cert.ChipAddWUpRefIdeal.main_arg2)) (m ((c.tc : Thread Cert.ChipAddWUpRefIdeal.nD Cert.ChipAddWUpRefIdeal.τ).loc Cert.ChipAddWUpRefIdeal.main_arg3))) = (fun _ => 1#1)

def Pre_ChipAddWDown [hPre_a_place_w_down : Cert.Pre_a_place_w_down.Facts] (m : (ℓ : Loc Cert.ChipAddWDown.nD Cert.ChipAddWDown.τ Cert.ChipAddWDown.sig) → Buf (Elt Bits) ℓ) : Prop :=
  ∀ c : Dev Cert.ChipAddWDown.nD,
    (Cert.Pre_a_place_w_down.fn (F := Bits) (m ((c.tc : Thread Cert.ChipAddWDown.nD Cert.ChipAddWDown.τ).loc Cert.ChipAddWDown.main_arg0)) (m ((c.tc : Thread Cert.ChipAddWDown.nD Cert.ChipAddWDown.τ).loc Cert.ChipAddWDown.main_arg1)) (m ((c.tc : Thread Cert.ChipAddWDown.nD Cert.ChipAddWDown.τ).loc Cert.ChipAddWDown.main_arg2)) (m ((c.tc : Thread Cert.ChipAddWDown.nD Cert.ChipAddWDown.τ).loc Cert.ChipAddWDown.main_arg3))) = (fun _ => 1#1)

def Pre_ChipAddWDownIdeal [hPre_a_place_w_down : Cert.Pre_a_place_w_down.Facts] (m : (ℓ : Loc Cert.ChipAddWDownIdeal.nD Cert.ChipAddWDownIdeal.τ Cert.ChipAddWDownIdeal.sig) → Buf (Elt Ideal) ℓ) : Prop :=
  ∀ c : Dev Cert.ChipAddWDownIdeal.nD,
    (Cert.Pre_a_place_w_down.fn (F := Ideal) (m ((c.tc : Thread Cert.ChipAddWDownIdeal.nD Cert.ChipAddWDownIdeal.τ).loc Cert.ChipAddWDownIdeal.main_arg0)) (m ((c.tc : Thread Cert.ChipAddWDownIdeal.nD Cert.ChipAddWDownIdeal.τ).loc Cert.ChipAddWDownIdeal.main_arg1)) (m ((c.tc : Thread Cert.ChipAddWDownIdeal.nD Cert.ChipAddWDownIdeal.τ).loc Cert.ChipAddWDownIdeal.main_arg2)) (m ((c.tc : Thread Cert.ChipAddWDownIdeal.nD Cert.ChipAddWDownIdeal.τ).loc Cert.ChipAddWDownIdeal.main_arg3))) = (fun _ => 1#1)

def Pre_ChipAddWDownRefIdeal (m : (ℓ : Loc Cert.ChipAddWDownRefIdeal.nD Cert.ChipAddWDownRefIdeal.τ Cert.ChipAddWDownRefIdeal.sig) → Buf (Elt Ideal) ℓ) : Prop :=
  True

def Pre_ChipAddWDownRefIdeal_a_place_w_down [hPre_a_place_w_down : Cert.Pre_a_place_w_down.Facts] (m : (ℓ : Loc Cert.ChipAddWDownRefIdeal.nD Cert.ChipAddWDownRefIdeal.τ Cert.ChipAddWDownRefIdeal.sig) → Buf (Elt Ideal) ℓ) : Prop :=
  ∀ c : Dev Cert.ChipAddWDownRefIdeal.nD,
    (Cert.Pre_a_place_w_down.fn (F := Ideal) (m ((c.tc : Thread Cert.ChipAddWDownRefIdeal.nD Cert.ChipAddWDownRefIdeal.τ).loc Cert.ChipAddWDownRefIdeal.main_arg0)) (m ((c.tc : Thread Cert.ChipAddWDownRefIdeal.nD Cert.ChipAddWDownRefIdeal.τ).loc Cert.ChipAddWDownRefIdeal.main_arg1)) (m ((c.tc : Thread Cert.ChipAddWDownRefIdeal.nD Cert.ChipAddWDownRefIdeal.τ).loc Cert.ChipAddWDownRefIdeal.main_arg2)) (m ((c.tc : Thread Cert.ChipAddWDownRefIdeal.nD Cert.ChipAddWDownRefIdeal.τ).loc Cert.ChipAddWDownRefIdeal.main_arg3))) = (fun _ => 1#1)

def Pre_ChipAddWO [hPre_a_place_w_o : Cert.Pre_a_place_w_o.Facts] (m : (ℓ : Loc Cert.ChipAddWO.nD Cert.ChipAddWO.τ Cert.ChipAddWO.sig) → Buf (Elt Bits) ℓ) : Prop :=
  ∀ c : Dev Cert.ChipAddWO.nD,
    (Cert.Pre_a_place_w_o.fn (F := Bits) (m ((c.tc : Thread Cert.ChipAddWO.nD Cert.ChipAddWO.τ).loc Cert.ChipAddWO.main_arg0)) (m ((c.tc : Thread Cert.ChipAddWO.nD Cert.ChipAddWO.τ).loc Cert.ChipAddWO.main_arg1)) (m ((c.tc : Thread Cert.ChipAddWO.nD Cert.ChipAddWO.τ).loc Cert.ChipAddWO.main_arg2)) (m ((c.tc : Thread Cert.ChipAddWO.nD Cert.ChipAddWO.τ).loc Cert.ChipAddWO.main_arg3))) = (fun _ => 1#1)

def Pre_ChipAddWOIdeal [hPre_a_place_w_o : Cert.Pre_a_place_w_o.Facts] (m : (ℓ : Loc Cert.ChipAddWOIdeal.nD Cert.ChipAddWOIdeal.τ Cert.ChipAddWOIdeal.sig) → Buf (Elt Ideal) ℓ) : Prop :=
  ∀ c : Dev Cert.ChipAddWOIdeal.nD,
    (Cert.Pre_a_place_w_o.fn (F := Ideal) (m ((c.tc : Thread Cert.ChipAddWOIdeal.nD Cert.ChipAddWOIdeal.τ).loc Cert.ChipAddWOIdeal.main_arg0)) (m ((c.tc : Thread Cert.ChipAddWOIdeal.nD Cert.ChipAddWOIdeal.τ).loc Cert.ChipAddWOIdeal.main_arg1)) (m ((c.tc : Thread Cert.ChipAddWOIdeal.nD Cert.ChipAddWOIdeal.τ).loc Cert.ChipAddWOIdeal.main_arg2)) (m ((c.tc : Thread Cert.ChipAddWOIdeal.nD Cert.ChipAddWOIdeal.τ).loc Cert.ChipAddWOIdeal.main_arg3))) = (fun _ => 1#1)

def Pre_ChipAddWORefIdeal (m : (ℓ : Loc Cert.ChipAddWORefIdeal.nD Cert.ChipAddWORefIdeal.τ Cert.ChipAddWORefIdeal.sig) → Buf (Elt Ideal) ℓ) : Prop :=
  True

def Pre_ChipAddWORefIdeal_a_place_w_o [hPre_a_place_w_o : Cert.Pre_a_place_w_o.Facts] (m : (ℓ : Loc Cert.ChipAddWORefIdeal.nD Cert.ChipAddWORefIdeal.τ Cert.ChipAddWORefIdeal.sig) → Buf (Elt Ideal) ℓ) : Prop :=
  ∀ c : Dev Cert.ChipAddWORefIdeal.nD,
    (Cert.Pre_a_place_w_o.fn (F := Ideal) (m ((c.tc : Thread Cert.ChipAddWORefIdeal.nD Cert.ChipAddWORefIdeal.τ).loc Cert.ChipAddWORefIdeal.main_arg0)) (m ((c.tc : Thread Cert.ChipAddWORefIdeal.nD Cert.ChipAddWORefIdeal.τ).loc Cert.ChipAddWORefIdeal.main_arg1)) (m ((c.tc : Thread Cert.ChipAddWORefIdeal.nD Cert.ChipAddWORefIdeal.τ).loc Cert.ChipAddWORefIdeal.main_arg2)) (m ((c.tc : Thread Cert.ChipAddWORefIdeal.nD Cert.ChipAddWORefIdeal.τ).loc Cert.ChipAddWORefIdeal.main_arg3))) = (fun _ => 1#1)

def Pre_ChipAddWIn [hPre_a_place_w_in : Cert.Pre_a_place_w_in.Facts] (m : (ℓ : Loc Cert.ChipAddWIn.nD Cert.ChipAddWIn.τ Cert.ChipAddWIn.sig) → Buf (Elt Bits) ℓ) : Prop :=
  ∀ c : Dev Cert.ChipAddWIn.nD,
    (Cert.Pre_a_place_w_in.fn (F := Bits) (m ((c.tc : Thread Cert.ChipAddWIn.nD Cert.ChipAddWIn.τ).loc Cert.ChipAddWIn.main_arg0)) (m ((c.tc : Thread Cert.ChipAddWIn.nD Cert.ChipAddWIn.τ).loc Cert.ChipAddWIn.main_arg1)) (m ((c.tc : Thread Cert.ChipAddWIn.nD Cert.ChipAddWIn.τ).loc Cert.ChipAddWIn.main_arg2)) (m ((c.tc : Thread Cert.ChipAddWIn.nD Cert.ChipAddWIn.τ).loc Cert.ChipAddWIn.main_arg3))) = (fun _ => 1#1)

def Pre_ChipAddWInIdeal [hPre_a_place_w_in : Cert.Pre_a_place_w_in.Facts] (m : (ℓ : Loc Cert.ChipAddWInIdeal.nD Cert.ChipAddWInIdeal.τ Cert.ChipAddWInIdeal.sig) → Buf (Elt Ideal) ℓ) : Prop :=
  ∀ c : Dev Cert.ChipAddWInIdeal.nD,
    (Cert.Pre_a_place_w_in.fn (F := Ideal) (m ((c.tc : Thread Cert.ChipAddWInIdeal.nD Cert.ChipAddWInIdeal.τ).loc Cert.ChipAddWInIdeal.main_arg0)) (m ((c.tc : Thread Cert.ChipAddWInIdeal.nD Cert.ChipAddWInIdeal.τ).loc Cert.ChipAddWInIdeal.main_arg1)) (m ((c.tc : Thread Cert.ChipAddWInIdeal.nD Cert.ChipAddWInIdeal.τ).loc Cert.ChipAddWInIdeal.main_arg2)) (m ((c.tc : Thread Cert.ChipAddWInIdeal.nD Cert.ChipAddWInIdeal.τ).loc Cert.ChipAddWInIdeal.main_arg3))) = (fun _ => 1#1)

def Pre_ChipAddWInRefIdeal (m : (ℓ : Loc Cert.ChipAddWInRefIdeal.nD Cert.ChipAddWInRefIdeal.τ Cert.ChipAddWInRefIdeal.sig) → Buf (Elt Ideal) ℓ) : Prop :=
  True

def Pre_ChipAddWInRefIdeal_a_place_w_in [hPre_a_place_w_in : Cert.Pre_a_place_w_in.Facts] (m : (ℓ : Loc Cert.ChipAddWInRefIdeal.nD Cert.ChipAddWInRefIdeal.τ Cert.ChipAddWInRefIdeal.sig) → Buf (Elt Ideal) ℓ) : Prop :=
  ∀ c : Dev Cert.ChipAddWInRefIdeal.nD,
    (Cert.Pre_a_place_w_in.fn (F := Ideal) (m ((c.tc : Thread Cert.ChipAddWInRefIdeal.nD Cert.ChipAddWInRefIdeal.τ).loc Cert.ChipAddWInRefIdeal.main_arg0)) (m ((c.tc : Thread Cert.ChipAddWInRefIdeal.nD Cert.ChipAddWInRefIdeal.τ).loc Cert.ChipAddWInRefIdeal.main_arg1)) (m ((c.tc : Thread Cert.ChipAddWInRefIdeal.nD Cert.ChipAddWInRefIdeal.τ).loc Cert.ChipAddWInRefIdeal.main_arg2)) (m ((c.tc : Thread Cert.ChipAddWInRefIdeal.nD Cert.ChipAddWInRefIdeal.τ).loc Cert.ChipAddWInRefIdeal.main_arg3))) = (fun _ => 1#1)

def quiescent_MmGDown [hMmGDown : Cert.MmGDown.Facts] : Prop :=
  ∀ (m : (ℓ : Loc Cert.MmGDown.nD Cert.MmGDown.τ Cert.MmGDown.sig) → Buf (Elt Bits) ℓ) (g : Dev Cert.MmGDown.nD → PrngReg), Pre_MmGDown m →
    θ_run (Cert.MmGDown.defs (F := Bits)) (onTc (τ := Cert.MmGDown.τ) (Cert.MmGDown.main (F := Bits))) ⟨m, fun _ => 0, g⟩ (fun r => (∀ c : Dev Cert.MmGDown.nD,
      r.2.mem ((c.tc : Thread Cert.MmGDown.nD Cert.MmGDown.τ).loc Cert.MmGDown.main_arg0) = m ((c.tc : Thread Cert.MmGDown.nD Cert.MmGDown.τ).loc Cert.MmGDown.main_arg0)
      ∧ r.2.mem ((c.tc : Thread Cert.MmGDown.nD Cert.MmGDown.τ).loc Cert.MmGDown.main_arg1) = m ((c.tc : Thread Cert.MmGDown.nD Cert.MmGDown.τ).loc Cert.MmGDown.main_arg1))
      ∧ r.2.sem = fun _ => 0)

def quiescent_MmGDownIdeal [hMmGDownIdeal : Cert.MmGDownIdeal.Facts] : Prop :=
  ∀ (m : (ℓ : Loc Cert.MmGDownIdeal.nD Cert.MmGDownIdeal.τ Cert.MmGDownIdeal.sig) → Buf (Elt Ideal) ℓ) (g : Dev Cert.MmGDownIdeal.nD → PrngReg), Pre_MmGDownIdeal m →
    θ_run (Cert.MmGDownIdeal.defs (F := Ideal)) (onTc (τ := Cert.MmGDownIdeal.τ) (Cert.MmGDownIdeal.main (F := Ideal))) ⟨m, fun _ => 0, g⟩ (fun r => (∀ c : Dev Cert.MmGDownIdeal.nD,
      r.2.mem ((c.tc : Thread Cert.MmGDownIdeal.nD Cert.MmGDownIdeal.τ).loc Cert.MmGDownIdeal.main_arg0) = m ((c.tc : Thread Cert.MmGDownIdeal.nD Cert.MmGDownIdeal.τ).loc Cert.MmGDownIdeal.main_arg0)
      ∧ r.2.mem ((c.tc : Thread Cert.MmGDownIdeal.nD Cert.MmGDownIdeal.τ).loc Cert.MmGDownIdeal.main_arg1) = m ((c.tc : Thread Cert.MmGDownIdeal.nD Cert.MmGDownIdeal.τ).loc Cert.MmGDownIdeal.main_arg1))
      ∧ r.2.sem = fun _ => 0)

def quiescent_MmGDownRefIdeal [hMmGDownRefIdeal : Cert.MmGDownRefIdeal.Facts] : Prop :=
  ∀ (m : (ℓ : Loc Cert.MmGDownRefIdeal.nD Cert.MmGDownRefIdeal.τ Cert.MmGDownRefIdeal.sig) → Buf (Elt Ideal) ℓ) (g : Dev Cert.MmGDownRefIdeal.nD → PrngReg), Pre_MmGDownRefIdeal m →
    θ_run (Cert.MmGDownRefIdeal.defs (F := Ideal)) (onTc (τ := Cert.MmGDownRefIdeal.τ) (Cert.MmGDownRefIdeal.main (F := Ideal))) ⟨m, fun _ => 0, g⟩ (fun r => (∀ c : Dev Cert.MmGDownRefIdeal.nD,
      r.2.mem ((c.tc : Thread Cert.MmGDownRefIdeal.nD Cert.MmGDownRefIdeal.τ).loc Cert.MmGDownRefIdeal.main_arg0) = m ((c.tc : Thread Cert.MmGDownRefIdeal.nD Cert.MmGDownRefIdeal.τ).loc Cert.MmGDownRefIdeal.main_arg0)
      ∧ r.2.mem ((c.tc : Thread Cert.MmGDownRefIdeal.nD Cert.MmGDownRefIdeal.τ).loc Cert.MmGDownRefIdeal.main_arg1) = m ((c.tc : Thread Cert.MmGDownRefIdeal.nD Cert.MmGDownRefIdeal.τ).loc Cert.MmGDownRefIdeal.main_arg1))
      ∧ r.2.sem = fun _ => 0)

def quiescent_MmDAct [hMmDAct : Cert.MmDAct.Facts] : Prop :=
  ∀ (m : (ℓ : Loc Cert.MmDAct.nD Cert.MmDAct.τ Cert.MmDAct.sig) → Buf (Elt Bits) ℓ) (g : Dev Cert.MmDAct.nD → PrngReg), Pre_MmDAct m →
    θ_run (Cert.MmDAct.defs (F := Bits)) (onTc (τ := Cert.MmDAct.τ) (Cert.MmDAct.main (F := Bits))) ⟨m, fun _ => 0, g⟩ (fun r => (∀ c : Dev Cert.MmDAct.nD,
      r.2.mem ((c.tc : Thread Cert.MmDAct.nD Cert.MmDAct.τ).loc Cert.MmDAct.main_arg0) = m ((c.tc : Thread Cert.MmDAct.nD Cert.MmDAct.τ).loc Cert.MmDAct.main_arg0)
      ∧ r.2.mem ((c.tc : Thread Cert.MmDAct.nD Cert.MmDAct.τ).loc Cert.MmDAct.main_arg1) = m ((c.tc : Thread Cert.MmDAct.nD Cert.MmDAct.τ).loc Cert.MmDAct.main_arg1))
      ∧ r.2.sem = fun _ => 0)

def quiescent_MmDActIdeal [hMmDActIdeal : Cert.MmDActIdeal.Facts] : Prop :=
  ∀ (m : (ℓ : Loc Cert.MmDActIdeal.nD Cert.MmDActIdeal.τ Cert.MmDActIdeal.sig) → Buf (Elt Ideal) ℓ) (g : Dev Cert.MmDActIdeal.nD → PrngReg), Pre_MmDActIdeal m →
    θ_run (Cert.MmDActIdeal.defs (F := Ideal)) (onTc (τ := Cert.MmDActIdeal.τ) (Cert.MmDActIdeal.main (F := Ideal))) ⟨m, fun _ => 0, g⟩ (fun r => (∀ c : Dev Cert.MmDActIdeal.nD,
      r.2.mem ((c.tc : Thread Cert.MmDActIdeal.nD Cert.MmDActIdeal.τ).loc Cert.MmDActIdeal.main_arg0) = m ((c.tc : Thread Cert.MmDActIdeal.nD Cert.MmDActIdeal.τ).loc Cert.MmDActIdeal.main_arg0)
      ∧ r.2.mem ((c.tc : Thread Cert.MmDActIdeal.nD Cert.MmDActIdeal.τ).loc Cert.MmDActIdeal.main_arg1) = m ((c.tc : Thread Cert.MmDActIdeal.nD Cert.MmDActIdeal.τ).loc Cert.MmDActIdeal.main_arg1))
      ∧ r.2.sem = fun _ => 0)

def quiescent_MmDActRefIdeal [hMmDActRefIdeal : Cert.MmDActRefIdeal.Facts] : Prop :=
  ∀ (m : (ℓ : Loc Cert.MmDActRefIdeal.nD Cert.MmDActRefIdeal.τ Cert.MmDActRefIdeal.sig) → Buf (Elt Ideal) ℓ) (g : Dev Cert.MmDActRefIdeal.nD → PrngReg), Pre_MmDActRefIdeal m →
    θ_run (Cert.MmDActRefIdeal.defs (F := Ideal)) (onTc (τ := Cert.MmDActRefIdeal.τ) (Cert.MmDActRefIdeal.main (F := Ideal))) ⟨m, fun _ => 0, g⟩ (fun r => (∀ c : Dev Cert.MmDActRefIdeal.nD,
      r.2.mem ((c.tc : Thread Cert.MmDActRefIdeal.nD Cert.MmDActRefIdeal.τ).loc Cert.MmDActRefIdeal.main_arg0) = m ((c.tc : Thread Cert.MmDActRefIdeal.nD Cert.MmDActRefIdeal.τ).loc Cert.MmDActRefIdeal.main_arg0)
      ∧ r.2.mem ((c.tc : Thread Cert.MmDActRefIdeal.nD Cert.MmDActRefIdeal.τ).loc Cert.MmDActRefIdeal.main_arg1) = m ((c.tc : Thread Cert.MmDActRefIdeal.nD Cert.MmDActRefIdeal.τ).loc Cert.MmDActRefIdeal.main_arg1))
      ∧ r.2.sem = fun _ => 0)

def quiescent_MmGUp [hMmGUp : Cert.MmGUp.Facts] : Prop :=
  ∀ (m : (ℓ : Loc Cert.MmGUp.nD Cert.MmGUp.τ Cert.MmGUp.sig) → Buf (Elt Bits) ℓ) (g : Dev Cert.MmGUp.nD → PrngReg), Pre_MmGUp m →
    θ_run (Cert.MmGUp.defs (F := Bits)) (onTc (τ := Cert.MmGUp.τ) (Cert.MmGUp.main (F := Bits))) ⟨m, fun _ => 0, g⟩ (fun r => (∀ c : Dev Cert.MmGUp.nD,
      r.2.mem ((c.tc : Thread Cert.MmGUp.nD Cert.MmGUp.τ).loc Cert.MmGUp.main_arg0) = m ((c.tc : Thread Cert.MmGUp.nD Cert.MmGUp.τ).loc Cert.MmGUp.main_arg0)
      ∧ r.2.mem ((c.tc : Thread Cert.MmGUp.nD Cert.MmGUp.τ).loc Cert.MmGUp.main_arg1) = m ((c.tc : Thread Cert.MmGUp.nD Cert.MmGUp.τ).loc Cert.MmGUp.main_arg1))
      ∧ r.2.sem = fun _ => 0)

def quiescent_MmGUpIdeal [hMmGUpIdeal : Cert.MmGUpIdeal.Facts] : Prop :=
  ∀ (m : (ℓ : Loc Cert.MmGUpIdeal.nD Cert.MmGUpIdeal.τ Cert.MmGUpIdeal.sig) → Buf (Elt Ideal) ℓ) (g : Dev Cert.MmGUpIdeal.nD → PrngReg), Pre_MmGUpIdeal m →
    θ_run (Cert.MmGUpIdeal.defs (F := Ideal)) (onTc (τ := Cert.MmGUpIdeal.τ) (Cert.MmGUpIdeal.main (F := Ideal))) ⟨m, fun _ => 0, g⟩ (fun r => (∀ c : Dev Cert.MmGUpIdeal.nD,
      r.2.mem ((c.tc : Thread Cert.MmGUpIdeal.nD Cert.MmGUpIdeal.τ).loc Cert.MmGUpIdeal.main_arg0) = m ((c.tc : Thread Cert.MmGUpIdeal.nD Cert.MmGUpIdeal.τ).loc Cert.MmGUpIdeal.main_arg0)
      ∧ r.2.mem ((c.tc : Thread Cert.MmGUpIdeal.nD Cert.MmGUpIdeal.τ).loc Cert.MmGUpIdeal.main_arg1) = m ((c.tc : Thread Cert.MmGUpIdeal.nD Cert.MmGUpIdeal.τ).loc Cert.MmGUpIdeal.main_arg1))
      ∧ r.2.sem = fun _ => 0)

def quiescent_MmGUpRefIdeal [hMmGUpRefIdeal : Cert.MmGUpRefIdeal.Facts] : Prop :=
  ∀ (m : (ℓ : Loc Cert.MmGUpRefIdeal.nD Cert.MmGUpRefIdeal.τ Cert.MmGUpRefIdeal.sig) → Buf (Elt Ideal) ℓ) (g : Dev Cert.MmGUpRefIdeal.nD → PrngReg), Pre_MmGUpRefIdeal m →
    θ_run (Cert.MmGUpRefIdeal.defs (F := Ideal)) (onTc (τ := Cert.MmGUpRefIdeal.τ) (Cert.MmGUpRefIdeal.main (F := Ideal))) ⟨m, fun _ => 0, g⟩ (fun r => (∀ c : Dev Cert.MmGUpRefIdeal.nD,
      r.2.mem ((c.tc : Thread Cert.MmGUpRefIdeal.nD Cert.MmGUpRefIdeal.τ).loc Cert.MmGUpRefIdeal.main_arg0) = m ((c.tc : Thread Cert.MmGUpRefIdeal.nD Cert.MmGUpRefIdeal.τ).loc Cert.MmGUpRefIdeal.main_arg0)
      ∧ r.2.mem ((c.tc : Thread Cert.MmGUpRefIdeal.nD Cert.MmGUpRefIdeal.τ).loc Cert.MmGUpRefIdeal.main_arg1) = m ((c.tc : Thread Cert.MmGUpRefIdeal.nD Cert.MmGUpRefIdeal.τ).loc Cert.MmGUpRefIdeal.main_arg1))
      ∧ r.2.sem = fun _ => 0)

def quiescent_MmDH2 [hMmDH2 : Cert.MmDH2.Facts] : Prop :=
  ∀ (m : (ℓ : Loc Cert.MmDH2.nD Cert.MmDH2.τ Cert.MmDH2.sig) → Buf (Elt Bits) ℓ) (g : Dev Cert.MmDH2.nD → PrngReg), Pre_MmDH2 m →
    θ_run (Cert.MmDH2.defs (F := Bits)) (onTc (τ := Cert.MmDH2.τ) (Cert.MmDH2.main (F := Bits))) ⟨m, fun _ => 0, g⟩ (fun r => (∀ c : Dev Cert.MmDH2.nD,
      r.2.mem ((c.tc : Thread Cert.MmDH2.nD Cert.MmDH2.τ).loc Cert.MmDH2.main_arg0) = m ((c.tc : Thread Cert.MmDH2.nD Cert.MmDH2.τ).loc Cert.MmDH2.main_arg0)
      ∧ r.2.mem ((c.tc : Thread Cert.MmDH2.nD Cert.MmDH2.τ).loc Cert.MmDH2.main_arg1) = m ((c.tc : Thread Cert.MmDH2.nD Cert.MmDH2.τ).loc Cert.MmDH2.main_arg1))
      ∧ r.2.sem = fun _ => 0)

def quiescent_MmDH2Ideal [hMmDH2Ideal : Cert.MmDH2Ideal.Facts] : Prop :=
  ∀ (m : (ℓ : Loc Cert.MmDH2Ideal.nD Cert.MmDH2Ideal.τ Cert.MmDH2Ideal.sig) → Buf (Elt Ideal) ℓ) (g : Dev Cert.MmDH2Ideal.nD → PrngReg), Pre_MmDH2Ideal m →
    θ_run (Cert.MmDH2Ideal.defs (F := Ideal)) (onTc (τ := Cert.MmDH2Ideal.τ) (Cert.MmDH2Ideal.main (F := Ideal))) ⟨m, fun _ => 0, g⟩ (fun r => (∀ c : Dev Cert.MmDH2Ideal.nD,
      r.2.mem ((c.tc : Thread Cert.MmDH2Ideal.nD Cert.MmDH2Ideal.τ).loc Cert.MmDH2Ideal.main_arg0) = m ((c.tc : Thread Cert.MmDH2Ideal.nD Cert.MmDH2Ideal.τ).loc Cert.MmDH2Ideal.main_arg0)
      ∧ r.2.mem ((c.tc : Thread Cert.MmDH2Ideal.nD Cert.MmDH2Ideal.τ).loc Cert.MmDH2Ideal.main_arg1) = m ((c.tc : Thread Cert.MmDH2Ideal.nD Cert.MmDH2Ideal.τ).loc Cert.MmDH2Ideal.main_arg1))
      ∧ r.2.sem = fun _ => 0)

def quiescent_MmDH2RefIdeal [hMmDH2RefIdeal : Cert.MmDH2RefIdeal.Facts] : Prop :=
  ∀ (m : (ℓ : Loc Cert.MmDH2RefIdeal.nD Cert.MmDH2RefIdeal.τ Cert.MmDH2RefIdeal.sig) → Buf (Elt Ideal) ℓ) (g : Dev Cert.MmDH2RefIdeal.nD → PrngReg), Pre_MmDH2RefIdeal m →
    θ_run (Cert.MmDH2RefIdeal.defs (F := Ideal)) (onTc (τ := Cert.MmDH2RefIdeal.τ) (Cert.MmDH2RefIdeal.main (F := Ideal))) ⟨m, fun _ => 0, g⟩ (fun r => (∀ c : Dev Cert.MmDH2RefIdeal.nD,
      r.2.mem ((c.tc : Thread Cert.MmDH2RefIdeal.nD Cert.MmDH2RefIdeal.τ).loc Cert.MmDH2RefIdeal.main_arg0) = m ((c.tc : Thread Cert.MmDH2RefIdeal.nD Cert.MmDH2RefIdeal.τ).loc Cert.MmDH2RefIdeal.main_arg0)
      ∧ r.2.mem ((c.tc : Thread Cert.MmDH2RefIdeal.nD Cert.MmDH2RefIdeal.τ).loc Cert.MmDH2RefIdeal.main_arg1) = m ((c.tc : Thread Cert.MmDH2RefIdeal.nD Cert.MmDH2RefIdeal.τ).loc Cert.MmDH2RefIdeal.main_arg1))
      ∧ r.2.sem = fun _ => 0)

def quiescent_MmGWo [hMmGWo : Cert.MmGWo.Facts] : Prop :=
  ∀ (m : (ℓ : Loc Cert.MmGWo.nD Cert.MmGWo.τ Cert.MmGWo.sig) → Buf (Elt Bits) ℓ) (g : Dev Cert.MmGWo.nD → PrngReg), Pre_MmGWo m →
    θ_run (Cert.MmGWo.defs (F := Bits)) (onTc (τ := Cert.MmGWo.τ) (Cert.MmGWo.main (F := Bits))) ⟨m, fun _ => 0, g⟩ (fun r => (∀ c : Dev Cert.MmGWo.nD,
      r.2.mem ((c.tc : Thread Cert.MmGWo.nD Cert.MmGWo.τ).loc Cert.MmGWo.main_arg0) = m ((c.tc : Thread Cert.MmGWo.nD Cert.MmGWo.τ).loc Cert.MmGWo.main_arg0)
      ∧ r.2.mem ((c.tc : Thread Cert.MmGWo.nD Cert.MmGWo.τ).loc Cert.MmGWo.main_arg1) = m ((c.tc : Thread Cert.MmGWo.nD Cert.MmGWo.τ).loc Cert.MmGWo.main_arg1))
      ∧ r.2.sem = fun _ => 0)

def quiescent_MmGWoIdeal [hMmGWoIdeal : Cert.MmGWoIdeal.Facts] : Prop :=
  ∀ (m : (ℓ : Loc Cert.MmGWoIdeal.nD Cert.MmGWoIdeal.τ Cert.MmGWoIdeal.sig) → Buf (Elt Ideal) ℓ) (g : Dev Cert.MmGWoIdeal.nD → PrngReg), Pre_MmGWoIdeal m →
    θ_run (Cert.MmGWoIdeal.defs (F := Ideal)) (onTc (τ := Cert.MmGWoIdeal.τ) (Cert.MmGWoIdeal.main (F := Ideal))) ⟨m, fun _ => 0, g⟩ (fun r => (∀ c : Dev Cert.MmGWoIdeal.nD,
      r.2.mem ((c.tc : Thread Cert.MmGWoIdeal.nD Cert.MmGWoIdeal.τ).loc Cert.MmGWoIdeal.main_arg0) = m ((c.tc : Thread Cert.MmGWoIdeal.nD Cert.MmGWoIdeal.τ).loc Cert.MmGWoIdeal.main_arg0)
      ∧ r.2.mem ((c.tc : Thread Cert.MmGWoIdeal.nD Cert.MmGWoIdeal.τ).loc Cert.MmGWoIdeal.main_arg1) = m ((c.tc : Thread Cert.MmGWoIdeal.nD Cert.MmGWoIdeal.τ).loc Cert.MmGWoIdeal.main_arg1))
      ∧ r.2.sem = fun _ => 0)

def quiescent_MmGWoRefIdeal [hMmGWoRefIdeal : Cert.MmGWoRefIdeal.Facts] : Prop :=
  ∀ (m : (ℓ : Loc Cert.MmGWoRefIdeal.nD Cert.MmGWoRefIdeal.τ Cert.MmGWoRefIdeal.sig) → Buf (Elt Ideal) ℓ) (g : Dev Cert.MmGWoRefIdeal.nD → PrngReg), Pre_MmGWoRefIdeal m →
    θ_run (Cert.MmGWoRefIdeal.defs (F := Ideal)) (onTc (τ := Cert.MmGWoRefIdeal.τ) (Cert.MmGWoRefIdeal.main (F := Ideal))) ⟨m, fun _ => 0, g⟩ (fun r => (∀ c : Dev Cert.MmGWoRefIdeal.nD,
      r.2.mem ((c.tc : Thread Cert.MmGWoRefIdeal.nD Cert.MmGWoRefIdeal.τ).loc Cert.MmGWoRefIdeal.main_arg0) = m ((c.tc : Thread Cert.MmGWoRefIdeal.nD Cert.MmGWoRefIdeal.τ).loc Cert.MmGWoRefIdeal.main_arg0)
      ∧ r.2.mem ((c.tc : Thread Cert.MmGWoRefIdeal.nD Cert.MmGWoRefIdeal.τ).loc Cert.MmGWoRefIdeal.main_arg1) = m ((c.tc : Thread Cert.MmGWoRefIdeal.nD Cert.MmGWoRefIdeal.τ).loc Cert.MmGWoRefIdeal.main_arg1))
      ∧ r.2.sem = fun _ => 0)

def quiescent_MmDO [hMmDO : Cert.MmDO.Facts] : Prop :=
  ∀ (m : (ℓ : Loc Cert.MmDO.nD Cert.MmDO.τ Cert.MmDO.sig) → Buf (Elt Bits) ℓ) (g : Dev Cert.MmDO.nD → PrngReg), Pre_MmDO m →
    θ_run (Cert.MmDO.defs (F := Bits)) (onTc (τ := Cert.MmDO.τ) (Cert.MmDO.main (F := Bits))) ⟨m, fun _ => 0, g⟩ (fun r => (∀ c : Dev Cert.MmDO.nD,
      r.2.mem ((c.tc : Thread Cert.MmDO.nD Cert.MmDO.τ).loc Cert.MmDO.main_arg0) = m ((c.tc : Thread Cert.MmDO.nD Cert.MmDO.τ).loc Cert.MmDO.main_arg0)
      ∧ r.2.mem ((c.tc : Thread Cert.MmDO.nD Cert.MmDO.τ).loc Cert.MmDO.main_arg1) = m ((c.tc : Thread Cert.MmDO.nD Cert.MmDO.τ).loc Cert.MmDO.main_arg1))
      ∧ r.2.sem = fun _ => 0)

def quiescent_MmDOIdeal [hMmDOIdeal : Cert.MmDOIdeal.Facts] : Prop :=
  ∀ (m : (ℓ : Loc Cert.MmDOIdeal.nD Cert.MmDOIdeal.τ Cert.MmDOIdeal.sig) → Buf (Elt Ideal) ℓ) (g : Dev Cert.MmDOIdeal.nD → PrngReg), Pre_MmDOIdeal m →
    θ_run (Cert.MmDOIdeal.defs (F := Ideal)) (onTc (τ := Cert.MmDOIdeal.τ) (Cert.MmDOIdeal.main (F := Ideal))) ⟨m, fun _ => 0, g⟩ (fun r => (∀ c : Dev Cert.MmDOIdeal.nD,
      r.2.mem ((c.tc : Thread Cert.MmDOIdeal.nD Cert.MmDOIdeal.τ).loc Cert.MmDOIdeal.main_arg0) = m ((c.tc : Thread Cert.MmDOIdeal.nD Cert.MmDOIdeal.τ).loc Cert.MmDOIdeal.main_arg0)
      ∧ r.2.mem ((c.tc : Thread Cert.MmDOIdeal.nD Cert.MmDOIdeal.τ).loc Cert.MmDOIdeal.main_arg1) = m ((c.tc : Thread Cert.MmDOIdeal.nD Cert.MmDOIdeal.τ).loc Cert.MmDOIdeal.main_arg1))
      ∧ r.2.sem = fun _ => 0)

def quiescent_MmDORefIdeal [hMmDORefIdeal : Cert.MmDORefIdeal.Facts] : Prop :=
  ∀ (m : (ℓ : Loc Cert.MmDORefIdeal.nD Cert.MmDORefIdeal.τ Cert.MmDORefIdeal.sig) → Buf (Elt Ideal) ℓ) (g : Dev Cert.MmDORefIdeal.nD → PrngReg), Pre_MmDORefIdeal m →
    θ_run (Cert.MmDORefIdeal.defs (F := Ideal)) (onTc (τ := Cert.MmDORefIdeal.τ) (Cert.MmDORefIdeal.main (F := Ideal))) ⟨m, fun _ => 0, g⟩ (fun r => (∀ c : Dev Cert.MmDORefIdeal.nD,
      r.2.mem ((c.tc : Thread Cert.MmDORefIdeal.nD Cert.MmDORefIdeal.τ).loc Cert.MmDORefIdeal.main_arg0) = m ((c.tc : Thread Cert.MmDORefIdeal.nD Cert.MmDORefIdeal.τ).loc Cert.MmDORefIdeal.main_arg0)
      ∧ r.2.mem ((c.tc : Thread Cert.MmDORefIdeal.nD Cert.MmDORefIdeal.τ).loc Cert.MmDORefIdeal.main_arg1) = m ((c.tc : Thread Cert.MmDORefIdeal.nD Cert.MmDORefIdeal.τ).loc Cert.MmDORefIdeal.main_arg1))
      ∧ r.2.sem = fun _ => 0)

def quiescent_MmGWin [hMmGWin : Cert.MmGWin.Facts] : Prop :=
  ∀ (m : (ℓ : Loc Cert.MmGWin.nD Cert.MmGWin.τ Cert.MmGWin.sig) → Buf (Elt Bits) ℓ) (g : Dev Cert.MmGWin.nD → PrngReg), Pre_MmGWin m →
    θ_run (Cert.MmGWin.defs (F := Bits)) (onTc (τ := Cert.MmGWin.τ) (Cert.MmGWin.main (F := Bits))) ⟨m, fun _ => 0, g⟩ (fun r => (∀ c : Dev Cert.MmGWin.nD,
      r.2.mem ((c.tc : Thread Cert.MmGWin.nD Cert.MmGWin.τ).loc Cert.MmGWin.main_arg0) = m ((c.tc : Thread Cert.MmGWin.nD Cert.MmGWin.τ).loc Cert.MmGWin.main_arg0)
      ∧ r.2.mem ((c.tc : Thread Cert.MmGWin.nD Cert.MmGWin.τ).loc Cert.MmGWin.main_arg1) = m ((c.tc : Thread Cert.MmGWin.nD Cert.MmGWin.τ).loc Cert.MmGWin.main_arg1))
      ∧ r.2.sem = fun _ => 0)

def quiescent_MmGWinIdeal [hMmGWinIdeal : Cert.MmGWinIdeal.Facts] : Prop :=
  ∀ (m : (ℓ : Loc Cert.MmGWinIdeal.nD Cert.MmGWinIdeal.τ Cert.MmGWinIdeal.sig) → Buf (Elt Ideal) ℓ) (g : Dev Cert.MmGWinIdeal.nD → PrngReg), Pre_MmGWinIdeal m →
    θ_run (Cert.MmGWinIdeal.defs (F := Ideal)) (onTc (τ := Cert.MmGWinIdeal.τ) (Cert.MmGWinIdeal.main (F := Ideal))) ⟨m, fun _ => 0, g⟩ (fun r => (∀ c : Dev Cert.MmGWinIdeal.nD,
      r.2.mem ((c.tc : Thread Cert.MmGWinIdeal.nD Cert.MmGWinIdeal.τ).loc Cert.MmGWinIdeal.main_arg0) = m ((c.tc : Thread Cert.MmGWinIdeal.nD Cert.MmGWinIdeal.τ).loc Cert.MmGWinIdeal.main_arg0)
      ∧ r.2.mem ((c.tc : Thread Cert.MmGWinIdeal.nD Cert.MmGWinIdeal.τ).loc Cert.MmGWinIdeal.main_arg1) = m ((c.tc : Thread Cert.MmGWinIdeal.nD Cert.MmGWinIdeal.τ).loc Cert.MmGWinIdeal.main_arg1))
      ∧ r.2.sem = fun _ => 0)

def quiescent_MmGWinRefIdeal [hMmGWinRefIdeal : Cert.MmGWinRefIdeal.Facts] : Prop :=
  ∀ (m : (ℓ : Loc Cert.MmGWinRefIdeal.nD Cert.MmGWinRefIdeal.τ Cert.MmGWinRefIdeal.sig) → Buf (Elt Ideal) ℓ) (g : Dev Cert.MmGWinRefIdeal.nD → PrngReg), Pre_MmGWinRefIdeal m →
    θ_run (Cert.MmGWinRefIdeal.defs (F := Ideal)) (onTc (τ := Cert.MmGWinRefIdeal.τ) (Cert.MmGWinRefIdeal.main (F := Ideal))) ⟨m, fun _ => 0, g⟩ (fun r => (∀ c : Dev Cert.MmGWinRefIdeal.nD,
      r.2.mem ((c.tc : Thread Cert.MmGWinRefIdeal.nD Cert.MmGWinRefIdeal.τ).loc Cert.MmGWinRefIdeal.main_arg0) = m ((c.tc : Thread Cert.MmGWinRefIdeal.nD Cert.MmGWinRefIdeal.τ).loc Cert.MmGWinRefIdeal.main_arg0)
      ∧ r.2.mem ((c.tc : Thread Cert.MmGWinRefIdeal.nD Cert.MmGWinRefIdeal.τ).loc Cert.MmGWinRefIdeal.main_arg1) = m ((c.tc : Thread Cert.MmGWinRefIdeal.nD Cert.MmGWinRefIdeal.τ).loc Cert.MmGWinRefIdeal.main_arg1))
      ∧ r.2.sem = fun _ => 0)

def quiescent_MmDH1 [hMmDH1 : Cert.MmDH1.Facts] : Prop :=
  ∀ (m : (ℓ : Loc Cert.MmDH1.nD Cert.MmDH1.τ Cert.MmDH1.sig) → Buf (Elt Bits) ℓ) (g : Dev Cert.MmDH1.nD → PrngReg), Pre_MmDH1 m →
    θ_run (Cert.MmDH1.defs (F := Bits)) (onTc (τ := Cert.MmDH1.τ) (Cert.MmDH1.main (F := Bits))) ⟨m, fun _ => 0, g⟩ (fun r => (∀ c : Dev Cert.MmDH1.nD,
      r.2.mem ((c.tc : Thread Cert.MmDH1.nD Cert.MmDH1.τ).loc Cert.MmDH1.main_arg0) = m ((c.tc : Thread Cert.MmDH1.nD Cert.MmDH1.τ).loc Cert.MmDH1.main_arg0)
      ∧ r.2.mem ((c.tc : Thread Cert.MmDH1.nD Cert.MmDH1.τ).loc Cert.MmDH1.main_arg1) = m ((c.tc : Thread Cert.MmDH1.nD Cert.MmDH1.τ).loc Cert.MmDH1.main_arg1))
      ∧ r.2.sem = fun _ => 0)

def quiescent_MmDH1Ideal [hMmDH1Ideal : Cert.MmDH1Ideal.Facts] : Prop :=
  ∀ (m : (ℓ : Loc Cert.MmDH1Ideal.nD Cert.MmDH1Ideal.τ Cert.MmDH1Ideal.sig) → Buf (Elt Ideal) ℓ) (g : Dev Cert.MmDH1Ideal.nD → PrngReg), Pre_MmDH1Ideal m →
    θ_run (Cert.MmDH1Ideal.defs (F := Ideal)) (onTc (τ := Cert.MmDH1Ideal.τ) (Cert.MmDH1Ideal.main (F := Ideal))) ⟨m, fun _ => 0, g⟩ (fun r => (∀ c : Dev Cert.MmDH1Ideal.nD,
      r.2.mem ((c.tc : Thread Cert.MmDH1Ideal.nD Cert.MmDH1Ideal.τ).loc Cert.MmDH1Ideal.main_arg0) = m ((c.tc : Thread Cert.MmDH1Ideal.nD Cert.MmDH1Ideal.τ).loc Cert.MmDH1Ideal.main_arg0)
      ∧ r.2.mem ((c.tc : Thread Cert.MmDH1Ideal.nD Cert.MmDH1Ideal.τ).loc Cert.MmDH1Ideal.main_arg1) = m ((c.tc : Thread Cert.MmDH1Ideal.nD Cert.MmDH1Ideal.τ).loc Cert.MmDH1Ideal.main_arg1))
      ∧ r.2.sem = fun _ => 0)

def quiescent_MmDH1RefIdeal [hMmDH1RefIdeal : Cert.MmDH1RefIdeal.Facts] : Prop :=
  ∀ (m : (ℓ : Loc Cert.MmDH1RefIdeal.nD Cert.MmDH1RefIdeal.τ Cert.MmDH1RefIdeal.sig) → Buf (Elt Ideal) ℓ) (g : Dev Cert.MmDH1RefIdeal.nD → PrngReg), Pre_MmDH1RefIdeal m →
    θ_run (Cert.MmDH1RefIdeal.defs (F := Ideal)) (onTc (τ := Cert.MmDH1RefIdeal.τ) (Cert.MmDH1RefIdeal.main (F := Ideal))) ⟨m, fun _ => 0, g⟩ (fun r => (∀ c : Dev Cert.MmDH1RefIdeal.nD,
      r.2.mem ((c.tc : Thread Cert.MmDH1RefIdeal.nD Cert.MmDH1RefIdeal.τ).loc Cert.MmDH1RefIdeal.main_arg0) = m ((c.tc : Thread Cert.MmDH1RefIdeal.nD Cert.MmDH1RefIdeal.τ).loc Cert.MmDH1RefIdeal.main_arg0)
      ∧ r.2.mem ((c.tc : Thread Cert.MmDH1RefIdeal.nD Cert.MmDH1RefIdeal.τ).loc Cert.MmDH1RefIdeal.main_arg1) = m ((c.tc : Thread Cert.MmDH1RefIdeal.nD Cert.MmDH1RefIdeal.τ).loc Cert.MmDH1RefIdeal.main_arg1))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_MmWo [hMmWo : Cert.MmWo.Facts] : Prop :=
  ∀ (m : (ℓ : Loc Cert.MmWo.nD Cert.MmWo.τ Cert.MmWo.sig) → Buf (Elt Bits) ℓ) (g : Dev Cert.MmWo.nD → PrngReg), Pre_MmWo m →
    θ_run (Cert.MmWo.defs (F := Bits)) (onTc (τ := Cert.MmWo.τ) (Cert.MmWo.main (F := Bits))) ⟨m, fun _ => 0, g⟩ (fun r => (∀ c : Dev Cert.MmWo.nD,
      r.2.mem ((c.tc : Thread Cert.MmWo.nD Cert.MmWo.τ).loc Cert.MmWo.main_arg0) = m ((c.tc : Thread Cert.MmWo.nD Cert.MmWo.τ).loc Cert.MmWo.main_arg0)
      ∧ r.2.mem ((c.tc : Thread Cert.MmWo.nD Cert.MmWo.τ).loc Cert.MmWo.main_arg1) = m ((c.tc : Thread Cert.MmWo.nD Cert.MmWo.τ).loc Cert.MmWo.main_arg1))
      ∧ r.2.sem = fun _ => 0)

def quiescent_MmWoIdeal [hMmWoIdeal : Cert.MmWoIdeal.Facts] : Prop :=
  ∀ (m : (ℓ : Loc Cert.MmWoIdeal.nD Cert.MmWoIdeal.τ Cert.MmWoIdeal.sig) → Buf (Elt Ideal) ℓ) (g : Dev Cert.MmWoIdeal.nD → PrngReg), Pre_MmWoIdeal m →
    θ_run (Cert.MmWoIdeal.defs (F := Ideal)) (onTc (τ := Cert.MmWoIdeal.τ) (Cert.MmWoIdeal.main (F := Ideal))) ⟨m, fun _ => 0, g⟩ (fun r => (∀ c : Dev Cert.MmWoIdeal.nD,
      r.2.mem ((c.tc : Thread Cert.MmWoIdeal.nD Cert.MmWoIdeal.τ).loc Cert.MmWoIdeal.main_arg0) = m ((c.tc : Thread Cert.MmWoIdeal.nD Cert.MmWoIdeal.τ).loc Cert.MmWoIdeal.main_arg0)
      ∧ r.2.mem ((c.tc : Thread Cert.MmWoIdeal.nD Cert.MmWoIdeal.τ).loc Cert.MmWoIdeal.main_arg1) = m ((c.tc : Thread Cert.MmWoIdeal.nD Cert.MmWoIdeal.τ).loc Cert.MmWoIdeal.main_arg1))
      ∧ r.2.sem = fun _ => 0)

def quiescent_MmWoRefIdeal [hMmWoRefIdeal : Cert.MmWoRefIdeal.Facts] : Prop :=
  ∀ (m : (ℓ : Loc Cert.MmWoRefIdeal.nD Cert.MmWoRefIdeal.τ Cert.MmWoRefIdeal.sig) → Buf (Elt Ideal) ℓ) (g : Dev Cert.MmWoRefIdeal.nD → PrngReg), Pre_MmWoRefIdeal m →
    θ_run (Cert.MmWoRefIdeal.defs (F := Ideal)) (onTc (τ := Cert.MmWoRefIdeal.τ) (Cert.MmWoRefIdeal.main (F := Ideal))) ⟨m, fun _ => 0, g⟩ (fun r => (∀ c : Dev Cert.MmWoRefIdeal.nD,
      r.2.mem ((c.tc : Thread Cert.MmWoRefIdeal.nD Cert.MmWoRefIdeal.τ).loc Cert.MmWoRefIdeal.main_arg0) = m ((c.tc : Thread Cert.MmWoRefIdeal.nD Cert.MmWoRefIdeal.τ).loc Cert.MmWoRefIdeal.main_arg0)
      ∧ r.2.mem ((c.tc : Thread Cert.MmWoRefIdeal.nD Cert.MmWoRefIdeal.τ).loc Cert.MmWoRefIdeal.main_arg1) = m ((c.tc : Thread Cert.MmWoRefIdeal.nD Cert.MmWoRefIdeal.τ).loc Cert.MmWoRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_MmGAda [hMmGAda : Cert.MmGAda.Facts] : Prop :=
  ∀ (m : (ℓ : Loc Cert.MmGAda.nD Cert.MmGAda.τ Cert.MmGAda.sig) → Buf (Elt Bits) ℓ) (g : Dev Cert.MmGAda.nD → PrngReg), Pre_MmGAda m →
    θ_run (Cert.MmGAda.defs (F := Bits)) (onTc (τ := Cert.MmGAda.τ) (Cert.MmGAda.main (F := Bits))) ⟨m, fun _ => 0, g⟩ (fun r => (∀ c : Dev Cert.MmGAda.nD,
      r.2.mem ((c.tc : Thread Cert.MmGAda.nD Cert.MmGAda.τ).loc Cert.MmGAda.main_arg0) = m ((c.tc : Thread Cert.MmGAda.nD Cert.MmGAda.τ).loc Cert.MmGAda.main_arg0)
      ∧ r.2.mem ((c.tc : Thread Cert.MmGAda.nD Cert.MmGAda.τ).loc Cert.MmGAda.main_arg1) = m ((c.tc : Thread Cert.MmGAda.nD Cert.MmGAda.τ).loc Cert.MmGAda.main_arg1))
      ∧ r.2.sem = fun _ => 0)

def quiescent_MmGAdaIdeal [hMmGAdaIdeal : Cert.MmGAdaIdeal.Facts] : Prop :=
  ∀ (m : (ℓ : Loc Cert.MmGAdaIdeal.nD Cert.MmGAdaIdeal.τ Cert.MmGAdaIdeal.sig) → Buf (Elt Ideal) ℓ) (g : Dev Cert.MmGAdaIdeal.nD → PrngReg), Pre_MmGAdaIdeal m →
    θ_run (Cert.MmGAdaIdeal.defs (F := Ideal)) (onTc (τ := Cert.MmGAdaIdeal.τ) (Cert.MmGAdaIdeal.main (F := Ideal))) ⟨m, fun _ => 0, g⟩ (fun r => (∀ c : Dev Cert.MmGAdaIdeal.nD,
      r.2.mem ((c.tc : Thread Cert.MmGAdaIdeal.nD Cert.MmGAdaIdeal.τ).loc Cert.MmGAdaIdeal.main_arg0) = m ((c.tc : Thread Cert.MmGAdaIdeal.nD Cert.MmGAdaIdeal.τ).loc Cert.MmGAdaIdeal.main_arg0)
      ∧ r.2.mem ((c.tc : Thread Cert.MmGAdaIdeal.nD Cert.MmGAdaIdeal.τ).loc Cert.MmGAdaIdeal.main_arg1) = m ((c.tc : Thread Cert.MmGAdaIdeal.nD Cert.MmGAdaIdeal.τ).loc Cert.MmGAdaIdeal.main_arg1))
      ∧ r.2.sem = fun _ => 0)

def quiescent_MmGAdaRefIdeal [hMmGAdaRefIdeal : Cert.MmGAdaRefIdeal.Facts] : Prop :=
  ∀ (m : (ℓ : Loc Cert.MmGAdaRefIdeal.nD Cert.MmGAdaRefIdeal.τ Cert.MmGAdaRefIdeal.sig) → Buf (Elt Ideal) ℓ) (g : Dev Cert.MmGAdaRefIdeal.nD → PrngReg), Pre_MmGAdaRefIdeal m →
    θ_run (Cert.MmGAdaRefIdeal.defs (F := Ideal)) (onTc (τ := Cert.MmGAdaRefIdeal.τ) (Cert.MmGAdaRefIdeal.main (F := Ideal))) ⟨m, fun _ => 0, g⟩ (fun r => (∀ c : Dev Cert.MmGAdaRefIdeal.nD,
      r.2.mem ((c.tc : Thread Cert.MmGAdaRefIdeal.nD Cert.MmGAdaRefIdeal.τ).loc Cert.MmGAdaRefIdeal.main_arg0) = m ((c.tc : Thread Cert.MmGAdaRefIdeal.nD Cert.MmGAdaRefIdeal.τ).loc Cert.MmGAdaRefIdeal.main_arg0)
      ∧ r.2.mem ((c.tc : Thread Cert.MmGAdaRefIdeal.nD Cert.MmGAdaRefIdeal.τ).loc Cert.MmGAdaRefIdeal.main_arg1) = m ((c.tc : Thread Cert.MmGAdaRefIdeal.nD Cert.MmGAdaRefIdeal.τ).loc Cert.MmGAdaRefIdeal.main_arg1))
      ∧ r.2.sem = fun _ => 0)

def quiescent_ColSum [hColSum : Cert.ColSum.Facts] : Prop :=
  ∀ (m : (ℓ : Loc Cert.ColSum.nD Cert.ColSum.τ Cert.ColSum.sig) → Buf (Elt Bits) ℓ) (g : Dev Cert.ColSum.nD → PrngReg), Pre_ColSum m →
    θ_run (Cert.ColSum.defs (F := Bits)) (onTc (τ := Cert.ColSum.τ) (Cert.ColSum.main (F := Bits))) ⟨m, fun _ => 0, g⟩ (fun r => (∀ c : Dev Cert.ColSum.nD,
      r.2.mem ((c.tc : Thread Cert.ColSum.nD Cert.ColSum.τ).loc Cert.ColSum.main_arg0) = m ((c.tc : Thread Cert.ColSum.nD Cert.ColSum.τ).loc Cert.ColSum.main_arg0))
      ∧ r.2.sem = fun _ => 0)

def quiescent_ColSumIdeal [hColSumIdeal : Cert.ColSumIdeal.Facts] : Prop :=
  ∀ (m : (ℓ : Loc Cert.ColSumIdeal.nD Cert.ColSumIdeal.τ Cert.ColSumIdeal.sig) → Buf (Elt Ideal) ℓ) (g : Dev Cert.ColSumIdeal.nD → PrngReg), Pre_ColSumIdeal m →
    θ_run (Cert.ColSumIdeal.defs (F := Ideal)) (onTc (τ := Cert.ColSumIdeal.τ) (Cert.ColSumIdeal.main (F := Ideal))) ⟨m, fun _ => 0, g⟩ (fun r => (∀ c : Dev Cert.ColSumIdeal.nD,
      r.2.mem ((c.tc : Thread Cert.ColSumIdeal.nD Cert.ColSumIdeal.τ).loc Cert.ColSumIdeal.main_arg0) = m ((c.tc : Thread Cert.ColSumIdeal.nD Cert.ColSumIdeal.τ).loc Cert.ColSumIdeal.main_arg0))
      ∧ r.2.sem = fun _ => 0)

def quiescent_ColSumRefIdeal [hColSumRefIdeal : Cert.ColSumRefIdeal.Facts] : Prop :=
  ∀ (m : (ℓ : Loc Cert.ColSumRefIdeal.nD Cert.ColSumRefIdeal.τ Cert.ColSumRefIdeal.sig) → Buf (Elt Ideal) ℓ) (g : Dev Cert.ColSumRefIdeal.nD → PrngReg), Pre_ColSumRefIdeal m →
    θ_run (Cert.ColSumRefIdeal.defs (F := Ideal)) (onTc (τ := Cert.ColSumRefIdeal.τ) (Cert.ColSumRefIdeal.main (F := Ideal))) ⟨m, fun _ => 0, g⟩ (fun r => (∀ c : Dev Cert.ColSumRefIdeal.nD,
      r.2.mem ((c.tc : Thread Cert.ColSumRefIdeal.nD Cert.ColSumRefIdeal.τ).loc Cert.ColSumRefIdeal.main_arg0) = m ((c.tc : Thread Cert.ColSumRefIdeal.nD Cert.ColSumRefIdeal.τ).loc Cert.ColSumRefIdeal.main_arg0))
      ∧ r.2.sem = fun _ => 0)

def quiescent_Ln0Bwd [hLn0Bwd : Cert.Ln0Bwd.Facts] : Prop :=
  ∀ (m : (ℓ : Loc Cert.Ln0Bwd.nD Cert.Ln0Bwd.τ Cert.Ln0Bwd.sig) → Buf (Elt Bits) ℓ) (g : Dev Cert.Ln0Bwd.nD → PrngReg), Pre_Ln0Bwd m →
    θ_run (Cert.Ln0Bwd.defs (F := Bits)) (onTc (τ := Cert.Ln0Bwd.τ) (Cert.Ln0Bwd.main (F := Bits))) ⟨m, fun _ => 0, g⟩ (fun r => (∀ c : Dev Cert.Ln0Bwd.nD,
      r.2.mem ((c.tc : Thread Cert.Ln0Bwd.nD Cert.Ln0Bwd.τ).loc Cert.Ln0Bwd.main_arg0) = m ((c.tc : Thread Cert.Ln0Bwd.nD Cert.Ln0Bwd.τ).loc Cert.Ln0Bwd.main_arg0)
      ∧ r.2.mem ((c.tc : Thread Cert.Ln0Bwd.nD Cert.Ln0Bwd.τ).loc Cert.Ln0Bwd.main_arg1) = m ((c.tc : Thread Cert.Ln0Bwd.nD Cert.Ln0Bwd.τ).loc Cert.Ln0Bwd.main_arg1)
      ∧ r.2.mem ((c.tc : Thread Cert.Ln0Bwd.nD Cert.Ln0Bwd.τ).loc Cert.Ln0Bwd.main_arg2) = m ((c.tc : Thread Cert.Ln0Bwd.nD Cert.Ln0Bwd.τ).loc Cert.Ln0Bwd.main_arg2)
      ∧ r.2.mem ((c.tc : Thread Cert.Ln0Bwd.nD Cert.Ln0Bwd.τ).loc Cert.Ln0Bwd.main_arg3) = m ((c.tc : Thread Cert.Ln0Bwd.nD Cert.Ln0Bwd.τ).loc Cert.Ln0Bwd.main_arg3)
      ∧ r.2.mem ((c.tc : Thread Cert.Ln0Bwd.nD Cert.Ln0Bwd.τ).loc Cert.Ln0Bwd.main_arg4) = m ((c.tc : Thread Cert.Ln0Bwd.nD Cert.Ln0Bwd.τ).loc Cert.Ln0Bwd.main_arg4)
      ∧ r.2.mem ((c.tc : Thread Cert.Ln0Bwd.nD Cert.Ln0Bwd.τ).loc Cert.Ln0Bwd.main_arg5) = m ((c.tc : Thread Cert.Ln0Bwd.nD Cert.Ln0Bwd.τ).loc Cert.Ln0Bwd.main_arg5))
      ∧ r.2.sem = fun _ => 0)

def quiescent_Ln0BwdIdeal [hLn0BwdIdeal : Cert.Ln0BwdIdeal.Facts] : Prop :=
  ∀ (m : (ℓ : Loc Cert.Ln0BwdIdeal.nD Cert.Ln0BwdIdeal.τ Cert.Ln0BwdIdeal.sig) → Buf (Elt Ideal) ℓ) (g : Dev Cert.Ln0BwdIdeal.nD → PrngReg), Pre_Ln0BwdIdeal m →
    θ_run (Cert.Ln0BwdIdeal.defs (F := Ideal)) (onTc (τ := Cert.Ln0BwdIdeal.τ) (Cert.Ln0BwdIdeal.main (F := Ideal))) ⟨m, fun _ => 0, g⟩ (fun r => (∀ c : Dev Cert.Ln0BwdIdeal.nD,
      r.2.mem ((c.tc : Thread Cert.Ln0BwdIdeal.nD Cert.Ln0BwdIdeal.τ).loc Cert.Ln0BwdIdeal.main_arg0) = m ((c.tc : Thread Cert.Ln0BwdIdeal.nD Cert.Ln0BwdIdeal.τ).loc Cert.Ln0BwdIdeal.main_arg0)
      ∧ r.2.mem ((c.tc : Thread Cert.Ln0BwdIdeal.nD Cert.Ln0BwdIdeal.τ).loc Cert.Ln0BwdIdeal.main_arg1) = m ((c.tc : Thread Cert.Ln0BwdIdeal.nD Cert.Ln0BwdIdeal.τ).loc Cert.Ln0BwdIdeal.main_arg1)
      ∧ r.2.mem ((c.tc : Thread Cert.Ln0BwdIdeal.nD Cert.Ln0BwdIdeal.τ).loc Cert.Ln0BwdIdeal.main_arg2) = m ((c.tc : Thread Cert.Ln0BwdIdeal.nD Cert.Ln0BwdIdeal.τ).loc Cert.Ln0BwdIdeal.main_arg2)
      ∧ r.2.mem ((c.tc : Thread Cert.Ln0BwdIdeal.nD Cert.Ln0BwdIdeal.τ).loc Cert.Ln0BwdIdeal.main_arg3) = m ((c.tc : Thread Cert.Ln0BwdIdeal.nD Cert.Ln0BwdIdeal.τ).loc Cert.Ln0BwdIdeal.main_arg3)
      ∧ r.2.mem ((c.tc : Thread Cert.Ln0BwdIdeal.nD Cert.Ln0BwdIdeal.τ).loc Cert.Ln0BwdIdeal.main_arg4) = m ((c.tc : Thread Cert.Ln0BwdIdeal.nD Cert.Ln0BwdIdeal.τ).loc Cert.Ln0BwdIdeal.main_arg4)
      ∧ r.2.mem ((c.tc : Thread Cert.Ln0BwdIdeal.nD Cert.Ln0BwdIdeal.τ).loc Cert.Ln0BwdIdeal.main_arg5) = m ((c.tc : Thread Cert.Ln0BwdIdeal.nD Cert.Ln0BwdIdeal.τ).loc Cert.Ln0BwdIdeal.main_arg5))
      ∧ r.2.sem = fun _ => 0)

def quiescent_Ln0BwdRefIdeal [hLn0BwdRefIdeal : Cert.Ln0BwdRefIdeal.Facts] : Prop :=
  ∀ (m : (ℓ : Loc Cert.Ln0BwdRefIdeal.nD Cert.Ln0BwdRefIdeal.τ Cert.Ln0BwdRefIdeal.sig) → Buf (Elt Ideal) ℓ) (g : Dev Cert.Ln0BwdRefIdeal.nD → PrngReg), Pre_Ln0BwdRefIdeal m →
    θ_run (Cert.Ln0BwdRefIdeal.defs (F := Ideal)) (onTc (τ := Cert.Ln0BwdRefIdeal.τ) (Cert.Ln0BwdRefIdeal.main (F := Ideal))) ⟨m, fun _ => 0, g⟩ (fun r => (∀ c : Dev Cert.Ln0BwdRefIdeal.nD,
      r.2.mem ((c.tc : Thread Cert.Ln0BwdRefIdeal.nD Cert.Ln0BwdRefIdeal.τ).loc Cert.Ln0BwdRefIdeal.main_arg0) = m ((c.tc : Thread Cert.Ln0BwdRefIdeal.nD Cert.Ln0BwdRefIdeal.τ).loc Cert.Ln0BwdRefIdeal.main_arg0)
      ∧ r.2.mem ((c.tc : Thread Cert.Ln0BwdRefIdeal.nD Cert.Ln0BwdRefIdeal.τ).loc Cert.Ln0BwdRefIdeal.main_arg1) = m ((c.tc : Thread Cert.Ln0BwdRefIdeal.nD Cert.Ln0BwdRefIdeal.τ).loc Cert.Ln0BwdRefIdeal.main_arg1)
      ∧ r.2.mem ((c.tc : Thread Cert.Ln0BwdRefIdeal.nD Cert.Ln0BwdRefIdeal.τ).loc Cert.Ln0BwdRefIdeal.main_arg2) = m ((c.tc : Thread Cert.Ln0BwdRefIdeal.nD Cert.Ln0BwdRefIdeal.τ).loc Cert.Ln0BwdRefIdeal.main_arg2)
      ∧ r.2.mem ((c.tc : Thread Cert.Ln0BwdRefIdeal.nD Cert.Ln0BwdRefIdeal.τ).loc Cert.Ln0BwdRefIdeal.main_arg3) = m ((c.tc : Thread Cert.Ln0BwdRefIdeal.nD Cert.Ln0BwdRefIdeal.τ).loc Cert.Ln0BwdRefIdeal.main_arg3)
      ∧ r.2.mem ((c.tc : Thread Cert.Ln0BwdRefIdeal.nD Cert.Ln0BwdRefIdeal.τ).loc Cert.Ln0BwdRefIdeal.main_arg4) = m ((c.tc : Thread Cert.Ln0BwdRefIdeal.nD Cert.Ln0BwdRefIdeal.τ).loc Cert.Ln0BwdRefIdeal.main_arg4)
      ∧ r.2.mem ((c.tc : Thread Cert.Ln0BwdRefIdeal.nD Cert.Ln0BwdRefIdeal.τ).loc Cert.Ln0BwdRefIdeal.main_arg5) = m ((c.tc : Thread Cert.Ln0BwdRefIdeal.nD Cert.Ln0BwdRefIdeal.τ).loc Cert.Ln0BwdRefIdeal.main_arg5))
      ∧ r.2.sem = fun _ => 0)

def quiescent_Ln1Bwd [hLn1Bwd : Cert.Ln1Bwd.Facts] : Prop :=
  ∀ (m : (ℓ : Loc Cert.Ln1Bwd.nD Cert.Ln1Bwd.τ Cert.Ln1Bwd.sig) → Buf (Elt Bits) ℓ) (g : Dev Cert.Ln1Bwd.nD → PrngReg), Pre_Ln1Bwd m →
    θ_run (Cert.Ln1Bwd.defs (F := Bits)) (onTc (τ := Cert.Ln1Bwd.τ) (Cert.Ln1Bwd.main (F := Bits))) ⟨m, fun _ => 0, g⟩ (fun r => (∀ c : Dev Cert.Ln1Bwd.nD,
      r.2.mem ((c.tc : Thread Cert.Ln1Bwd.nD Cert.Ln1Bwd.τ).loc Cert.Ln1Bwd.main_arg0) = m ((c.tc : Thread Cert.Ln1Bwd.nD Cert.Ln1Bwd.τ).loc Cert.Ln1Bwd.main_arg0)
      ∧ r.2.mem ((c.tc : Thread Cert.Ln1Bwd.nD Cert.Ln1Bwd.τ).loc Cert.Ln1Bwd.main_arg1) = m ((c.tc : Thread Cert.Ln1Bwd.nD Cert.Ln1Bwd.τ).loc Cert.Ln1Bwd.main_arg1)
      ∧ r.2.mem ((c.tc : Thread Cert.Ln1Bwd.nD Cert.Ln1Bwd.τ).loc Cert.Ln1Bwd.main_arg2) = m ((c.tc : Thread Cert.Ln1Bwd.nD Cert.Ln1Bwd.τ).loc Cert.Ln1Bwd.main_arg2)
      ∧ r.2.mem ((c.tc : Thread Cert.Ln1Bwd.nD Cert.Ln1Bwd.τ).loc Cert.Ln1Bwd.main_arg3) = m ((c.tc : Thread Cert.Ln1Bwd.nD Cert.Ln1Bwd.τ).loc Cert.Ln1Bwd.main_arg3)
      ∧ r.2.mem ((c.tc : Thread Cert.Ln1Bwd.nD Cert.Ln1Bwd.τ).loc Cert.Ln1Bwd.main_arg4) = m ((c.tc : Thread Cert.Ln1Bwd.nD Cert.Ln1Bwd.τ).loc Cert.Ln1Bwd.main_arg4)
      ∧ r.2.mem ((c.tc : Thread Cert.Ln1Bwd.nD Cert.Ln1Bwd.τ).loc Cert.Ln1Bwd.main_arg5) = m ((c.tc : Thread Cert.Ln1Bwd.nD Cert.Ln1Bwd.τ).loc Cert.Ln1Bwd.main_arg5)
      ∧ r.2.mem ((c.tc : Thread Cert.Ln1Bwd.nD Cert.Ln1Bwd.τ).loc Cert.Ln1Bwd.main_arg6) = m ((c.tc : Thread Cert.Ln1Bwd.nD Cert.Ln1Bwd.τ).loc Cert.Ln1Bwd.main_arg6))
      ∧ r.2.sem = fun _ => 0)

def quiescent_Ln1BwdIdeal [hLn1BwdIdeal : Cert.Ln1BwdIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
      ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6))
      ∧ r.2.sem = fun _ => 0)

def quiescent_Ln1BwdRefIdeal [hLn1BwdRefIdeal : Cert.Ln1BwdRefIdeal.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5)
      ∧ r.2.mem ((c.tc : Thread Cert.Ln1BwdRefIdeal.nD Cert.Ln1BwdRefIdeal.τ).loc Cert.Ln1BwdRefIdeal.main_arg6) = m ((c.tc : Thread Cert.Ln1BwdRefIdeal.nD Cert.Ln1BwdRefIdeal.τ).loc Cert.Ln1BwdRefIdeal.main_arg6))
      ∧ r.2.sem = fun _ => 0)

def quiescent_Ln2LossBwd [hLn2LossBwd : Cert.Ln2LossBwd.Facts] : Prop :=
  ∀ (m : (ℓ : Loc Cert.Ln2LossBwd.nD Cert.Ln2LossBwd.τ Cert.Ln2LossBwd.sig) → Buf (Elt Bits) ℓ) (g : Dev Cert.Ln2LossBwd.nD → PrngReg), Pre_Ln2LossBwd m →
    θ_run (Cert.Ln2LossBwd.defs (F := Bits)) (onTc (τ := Cert.Ln2LossBwd.τ) (Cert.Ln2LossBwd.main (F := Bits))) ⟨m, fun _ => 0, g⟩ (fun r => (∀ c : Dev Cert.Ln2LossBwd.nD,
      r.2.mem ((c.tc : Thread Cert.Ln2LossBwd.nD Cert.Ln2LossBwd.τ).loc Cert.Ln2LossBwd.main_arg0) = m ((c.tc : Thread Cert.Ln2LossBwd.nD Cert.Ln2LossBwd.τ).loc Cert.Ln2LossBwd.main_arg0)
      ∧ r.2.mem ((c.tc : Thread Cert.Ln2LossBwd.nD Cert.Ln2LossBwd.τ).loc Cert.Ln2LossBwd.main_arg1) = m ((c.tc : Thread Cert.Ln2LossBwd.nD Cert.Ln2LossBwd.τ).loc Cert.Ln2LossBwd.main_arg1)
      ∧ r.2.mem ((c.tc : Thread Cert.Ln2LossBwd.nD Cert.Ln2LossBwd.τ).loc Cert.Ln2LossBwd.main_arg2) = m ((c.tc : Thread Cert.Ln2LossBwd.nD Cert.Ln2LossBwd.τ).loc Cert.Ln2LossBwd.main_arg2)
      ∧ r.2.mem ((c.tc : Thread Cert.Ln2LossBwd.nD Cert.Ln2LossBwd.τ).loc Cert.Ln2LossBwd.main_arg3) = m ((c.tc : Thread Cert.Ln2LossBwd.nD Cert.Ln2LossBwd.τ).loc Cert.Ln2LossBwd.main_arg3)
      ∧ r.2.mem ((c.tc : Thread Cert.Ln2LossBwd.nD Cert.Ln2LossBwd.τ).loc Cert.Ln2LossBwd.main_arg4) = m ((c.tc : Thread Cert.Ln2LossBwd.nD Cert.Ln2LossBwd.τ).loc Cert.Ln2LossBwd.main_arg4)
      ∧ r.2.mem ((c.tc : Thread Cert.Ln2LossBwd.nD Cert.Ln2LossBwd.τ).loc Cert.Ln2LossBwd.main_arg5) = m ((c.tc : Thread Cert.Ln2LossBwd.nD Cert.Ln2LossBwd.τ).loc Cert.Ln2LossBwd.main_arg5))
      ∧ r.2.sem = fun _ => 0)

def quiescent_Ln2LossBwdIdeal [hLn2LossBwdIdeal : Cert.Ln2LossBwdIdeal.Facts] : Prop :=
  ∀ (m : (ℓ : Loc Cert.Ln2LossBwdIdeal.nD Cert.Ln2LossBwdIdeal.τ Cert.Ln2LossBwdIdeal.sig) → Buf (Elt Ideal) ℓ) (g : Dev Cert.Ln2LossBwdIdeal.nD → PrngReg), Pre_Ln2LossBwdIdeal m →
    θ_run (Cert.Ln2LossBwdIdeal.defs (F := Ideal)) (onTc (τ := Cert.Ln2LossBwdIdeal.τ) (Cert.Ln2LossBwdIdeal.main (F := Ideal))) ⟨m, fun _ => 0, g⟩ (fun r => (∀ c : Dev Cert.Ln2LossBwdIdeal.nD,
      r.2.mem ((c.tc : Thread Cert.Ln2LossBwdIdeal.nD Cert.Ln2LossBwdIdeal.τ).loc Cert.Ln2LossBwdIdeal.main_arg0) = m ((c.tc : Thread Cert.Ln2LossBwdIdeal.nD Cert.Ln2LossBwdIdeal.τ).loc Cert.Ln2LossBwdIdeal.main_arg0)
      ∧ r.2.mem ((c.tc : Thread Cert.Ln2LossBwdIdeal.nD Cert.Ln2LossBwdIdeal.τ).loc Cert.Ln2LossBwdIdeal.main_arg1) = m ((c.tc : Thread Cert.Ln2LossBwdIdeal.nD Cert.Ln2LossBwdIdeal.τ).loc Cert.Ln2LossBwdIdeal.main_arg1)
      ∧ r.2.mem ((c.tc : Thread Cert.Ln2LossBwdIdeal.nD Cert.Ln2LossBwdIdeal.τ).loc Cert.Ln2LossBwdIdeal.main_arg2) = m ((c.tc : Thread Cert.Ln2LossBwdIdeal.nD Cert.Ln2LossBwdIdeal.τ).loc Cert.Ln2LossBwdIdeal.main_arg2)
      ∧ r.2.mem ((c.tc : Thread Cert.Ln2LossBwdIdeal.nD Cert.Ln2LossBwdIdeal.τ).loc Cert.Ln2LossBwdIdeal.main_arg3) = m ((c.tc : Thread Cert.Ln2LossBwdIdeal.nD Cert.Ln2LossBwdIdeal.τ).loc Cert.Ln2LossBwdIdeal.main_arg3)
      ∧ r.2.mem ((c.tc : Thread Cert.Ln2LossBwdIdeal.nD Cert.Ln2LossBwdIdeal.τ).loc Cert.Ln2LossBwdIdeal.main_arg4) = m ((c.tc : Thread Cert.Ln2LossBwdIdeal.nD Cert.Ln2LossBwdIdeal.τ).loc Cert.Ln2LossBwdIdeal.main_arg4)
      ∧ r.2.mem ((c.tc : Thread Cert.Ln2LossBwdIdeal.nD Cert.Ln2LossBwdIdeal.τ).loc Cert.Ln2LossBwdIdeal.main_arg5) = m ((c.tc : Thread Cert.Ln2LossBwdIdeal.nD Cert.Ln2LossBwdIdeal.τ).loc Cert.Ln2LossBwdIdeal.main_arg5))
      ∧ r.2.sem = fun _ => 0)

def quiescent_Ln2LossBwdRefIdeal [hLn2LossBwdRefIdeal : Cert.Ln2LossBwdRefIdeal.Facts] : Prop :=
  ∀ (m : (ℓ : Loc Cert.Ln2LossBwdRefIdeal.nD Cert.Ln2LossBwdRefIdeal.τ Cert.Ln2LossBwdRefIdeal.sig) → Buf (Elt Ideal) ℓ) (g : Dev Cert.Ln2LossBwdRefIdeal.nD → PrngReg), Pre_Ln2LossBwdRefIdeal m →
    θ_run (Cert.Ln2LossBwdRefIdeal.defs (F := Ideal)) (onTc (τ := Cert.Ln2LossBwdRefIdeal.τ) (Cert.Ln2LossBwdRefIdeal.main (F := Ideal))) ⟨m, fun _ => 0, g⟩ (fun r => (∀ c : Dev Cert.Ln2LossBwdRefIdeal.nD,
      r.2.mem ((c.tc : Thread Cert.Ln2LossBwdRefIdeal.nD Cert.Ln2LossBwdRefIdeal.τ).loc Cert.Ln2LossBwdRefIdeal.main_arg0) = m ((c.tc : Thread Cert.Ln2LossBwdRefIdeal.nD Cert.Ln2LossBwdRefIdeal.τ).loc Cert.Ln2LossBwdRefIdeal.main_arg0)
      ∧ r.2.mem ((c.tc : Thread Cert.Ln2LossBwdRefIdeal.nD Cert.Ln2LossBwdRefIdeal.τ).loc Cert.Ln2LossBwdRefIdeal.main_arg1) = m ((c.tc : Thread Cert.Ln2LossBwdRefIdeal.nD Cert.Ln2LossBwdRefIdeal.τ).loc Cert.Ln2LossBwdRefIdeal.main_arg1)
      ∧ r.2.mem ((c.tc : Thread Cert.Ln2LossBwdRefIdeal.nD Cert.Ln2LossBwdRefIdeal.τ).loc Cert.Ln2LossBwdRefIdeal.main_arg2) = m ((c.tc : Thread Cert.Ln2LossBwdRefIdeal.nD Cert.Ln2LossBwdRefIdeal.τ).loc Cert.Ln2LossBwdRefIdeal.main_arg2)
      ∧ r.2.mem ((c.tc : Thread Cert.Ln2LossBwdRefIdeal.nD Cert.Ln2LossBwdRefIdeal.τ).loc Cert.Ln2LossBwdRefIdeal.main_arg3) = m ((c.tc : Thread Cert.Ln2LossBwdRefIdeal.nD Cert.Ln2LossBwdRefIdeal.τ).loc Cert.Ln2LossBwdRefIdeal.main_arg3)
      ∧ r.2.mem ((c.tc : Thread Cert.Ln2LossBwdRefIdeal.nD Cert.Ln2LossBwdRefIdeal.τ).loc Cert.Ln2LossBwdRefIdeal.main_arg4) = m ((c.tc : Thread Cert.Ln2LossBwdRefIdeal.nD Cert.Ln2LossBwdRefIdeal.τ).loc Cert.Ln2LossBwdRefIdeal.main_arg4)
      ∧ r.2.mem ((c.tc : Thread Cert.Ln2LossBwdRefIdeal.nD Cert.Ln2LossBwdRefIdeal.τ).loc Cert.Ln2LossBwdRefIdeal.main_arg5) = m ((c.tc : Thread Cert.Ln2LossBwdRefIdeal.nD Cert.Ln2LossBwdRefIdeal.τ).loc Cert.Ln2LossBwdRefIdeal.main_arg5))
      ∧ r.2.sem = fun _ => 0)

def quiescent_Ln0Fwd [hLn0Fwd : Cert.Ln0Fwd.Facts] : Prop :=
  ∀ (m : (ℓ : Loc Cert.Ln0Fwd.nD Cert.Ln0Fwd.τ Cert.Ln0Fwd.sig) → Buf (Elt Bits) ℓ) (g : Dev Cert.Ln0Fwd.nD → PrngReg), Pre_Ln0Fwd m →
    θ_run (Cert.Ln0Fwd.defs (F := Bits)) (onTc (τ := Cert.Ln0Fwd.τ) (Cert.Ln0Fwd.main (F := Bits))) ⟨m, fun _ => 0, g⟩ (fun r => (∀ c : Dev Cert.Ln0Fwd.nD,
      r.2.mem ((c.tc : Thread Cert.Ln0Fwd.nD Cert.Ln0Fwd.τ).loc Cert.Ln0Fwd.main_arg0) = m ((c.tc : Thread Cert.Ln0Fwd.nD Cert.Ln0Fwd.τ).loc Cert.Ln0Fwd.main_arg0)
      ∧ r.2.mem ((c.tc : Thread Cert.Ln0Fwd.nD Cert.Ln0Fwd.τ).loc Cert.Ln0Fwd.main_arg1) = m ((c.tc : Thread Cert.Ln0Fwd.nD Cert.Ln0Fwd.τ).loc Cert.Ln0Fwd.main_arg1)
      ∧ r.2.mem ((c.tc : Thread Cert.Ln0Fwd.nD Cert.Ln0Fwd.τ).loc Cert.Ln0Fwd.main_arg2) = m ((c.tc : Thread Cert.Ln0Fwd.nD Cert.Ln0Fwd.τ).loc Cert.Ln0Fwd.main_arg2)
      ∧ r.2.mem ((c.tc : Thread Cert.Ln0Fwd.nD Cert.Ln0Fwd.τ).loc Cert.Ln0Fwd.main_arg3) = m ((c.tc : Thread Cert.Ln0Fwd.nD Cert.Ln0Fwd.τ).loc Cert.Ln0Fwd.main_arg3))
      ∧ r.2.sem = fun _ => 0)

def quiescent_Ln0FwdIdeal [hLn0FwdIdeal : Cert.Ln0FwdIdeal.Facts] : Prop :=
  ∀ (m : (ℓ : Loc Cert.Ln0FwdIdeal.nD Cert.Ln0FwdIdeal.τ Cert.Ln0FwdIdeal.sig) → Buf (Elt Ideal) ℓ) (g : Dev Cert.Ln0FwdIdeal.nD → PrngReg), Pre_Ln0FwdIdeal m →
    θ_run (Cert.Ln0FwdIdeal.defs (F := Ideal)) (onTc (τ := Cert.Ln0FwdIdeal.τ) (Cert.Ln0FwdIdeal.main (F := Ideal))) ⟨m, fun _ => 0, g⟩ (fun r => (∀ c : Dev Cert.Ln0FwdIdeal.nD,
      r.2.mem ((c.tc : Thread Cert.Ln0FwdIdeal.nD Cert.Ln0FwdIdeal.τ).loc Cert.Ln0FwdIdeal.main_arg0) = m ((c.tc : Thread Cert.Ln0FwdIdeal.nD Cert.Ln0FwdIdeal.τ).loc Cert.Ln0FwdIdeal.main_arg0)
      ∧ r.2.mem ((c.tc : Thread Cert.Ln0FwdIdeal.nD Cert.Ln0FwdIdeal.τ).loc Cert.Ln0FwdIdeal.main_arg1) = m ((c.tc : Thread Cert.Ln0FwdIdeal.nD Cert.Ln0FwdIdeal.τ).loc Cert.Ln0FwdIdeal.main_arg1)
      ∧ r.2.mem ((c.tc : Thread Cert.Ln0FwdIdeal.nD Cert.Ln0FwdIdeal.τ).loc Cert.Ln0FwdIdeal.main_arg2) = m ((c.tc : Thread Cert.Ln0FwdIdeal.nD Cert.Ln0FwdIdeal.τ).loc Cert.Ln0FwdIdeal.main_arg2)
      ∧ r.2.mem ((c.tc : Thread Cert.Ln0FwdIdeal.nD Cert.Ln0FwdIdeal.τ).loc Cert.Ln0FwdIdeal.main_arg3) = m ((c.tc : Thread Cert.Ln0FwdIdeal.nD Cert.Ln0FwdIdeal.τ).loc Cert.Ln0FwdIdeal.main_arg3))
      ∧ r.2.sem = fun _ => 0)

def quiescent_Ln0FwdRefIdeal [hLn0FwdRefIdeal : Cert.Ln0FwdRefIdeal.Facts] : Prop :=
  ∀ (m : (ℓ : Loc Cert.Ln0FwdRefIdeal.nD Cert.Ln0FwdRefIdeal.τ Cert.Ln0FwdRefIdeal.sig) → Buf (Elt Ideal) ℓ) (g : Dev Cert.Ln0FwdRefIdeal.nD → PrngReg), Pre_Ln0FwdRefIdeal m →
    θ_run (Cert.Ln0FwdRefIdeal.defs (F := Ideal)) (onTc (τ := Cert.Ln0FwdRefIdeal.τ) (Cert.Ln0FwdRefIdeal.main (F := Ideal))) ⟨m, fun _ => 0, g⟩ (fun r => (∀ c : Dev Cert.Ln0FwdRefIdeal.nD,
      r.2.mem ((c.tc : Thread Cert.Ln0FwdRefIdeal.nD Cert.Ln0FwdRefIdeal.τ).loc Cert.Ln0FwdRefIdeal.main_arg0) = m ((c.tc : Thread Cert.Ln0FwdRefIdeal.nD Cert.Ln0FwdRefIdeal.τ).loc Cert.Ln0FwdRefIdeal.main_arg0)
      ∧ r.2.mem ((c.tc : Thread Cert.Ln0FwdRefIdeal.nD Cert.Ln0FwdRefIdeal.τ).loc Cert.Ln0FwdRefIdeal.main_arg1) = m ((c.tc : Thread Cert.Ln0FwdRefIdeal.nD Cert.Ln0FwdRefIdeal.τ).loc Cert.Ln0FwdRefIdeal.main_arg1)
      ∧ r.2.mem ((c.tc : Thread Cert.Ln0FwdRefIdeal.nD Cert.Ln0FwdRefIdeal.τ).loc Cert.Ln0FwdRefIdeal.main_arg2) = m ((c.tc : Thread Cert.Ln0FwdRefIdeal.nD Cert.Ln0FwdRefIdeal.τ).loc Cert.Ln0FwdRefIdeal.main_arg2)
      ∧ r.2.mem ((c.tc : Thread Cert.Ln0FwdRefIdeal.nD Cert.Ln0FwdRefIdeal.τ).loc Cert.Ln0FwdRefIdeal.main_arg3) = m ((c.tc : Thread Cert.Ln0FwdRefIdeal.nD Cert.Ln0FwdRefIdeal.τ).loc Cert.Ln0FwdRefIdeal.main_arg3))
      ∧ r.2.sem = fun _ => 0)

def quiescent_Ln1Fwd [hLn1Fwd : Cert.Ln1Fwd.Facts] : Prop :=
  ∀ (m : (ℓ : Loc Cert.Ln1Fwd.nD Cert.Ln1Fwd.τ Cert.Ln1Fwd.sig) → Buf (Elt Bits) ℓ) (g : Dev Cert.Ln1Fwd.nD → PrngReg), Pre_Ln1Fwd m →
    θ_run (Cert.Ln1Fwd.defs (F := Bits)) (onTc (τ := Cert.Ln1Fwd.τ) (Cert.Ln1Fwd.main (F := Bits))) ⟨m, fun _ => 0, g⟩ (fun r => (∀ c : Dev Cert.Ln1Fwd.nD,
      r.2.mem ((c.tc : Thread Cert.Ln1Fwd.nD Cert.Ln1Fwd.τ).loc Cert.Ln1Fwd.main_arg0) = m ((c.tc : Thread Cert.Ln1Fwd.nD Cert.Ln1Fwd.τ).loc Cert.Ln1Fwd.main_arg0)
      ∧ r.2.mem ((c.tc : Thread Cert.Ln1Fwd.nD Cert.Ln1Fwd.τ).loc Cert.Ln1Fwd.main_arg1) = m ((c.tc : Thread Cert.Ln1Fwd.nD Cert.Ln1Fwd.τ).loc Cert.Ln1Fwd.main_arg1)
      ∧ r.2.mem ((c.tc : Thread Cert.Ln1Fwd.nD Cert.Ln1Fwd.τ).loc Cert.Ln1Fwd.main_arg2) = m ((c.tc : Thread Cert.Ln1Fwd.nD Cert.Ln1Fwd.τ).loc Cert.Ln1Fwd.main_arg2)
      ∧ r.2.mem ((c.tc : Thread Cert.Ln1Fwd.nD Cert.Ln1Fwd.τ).loc Cert.Ln1Fwd.main_arg3) = m ((c.tc : Thread Cert.Ln1Fwd.nD Cert.Ln1Fwd.τ).loc Cert.Ln1Fwd.main_arg3)
      ∧ r.2.mem ((c.tc : Thread Cert.Ln1Fwd.nD Cert.Ln1Fwd.τ).loc Cert.Ln1Fwd.main_arg4) = m ((c.tc : Thread Cert.Ln1Fwd.nD Cert.Ln1Fwd.τ).loc Cert.Ln1Fwd.main_arg4))
      ∧ r.2.sem = fun _ => 0)

def quiescent_Ln1FwdIdeal [hLn1FwdIdeal : Cert.Ln1FwdIdeal.Facts] : Prop :=
  ∀ (m : (ℓ : Loc Cert.Ln1FwdIdeal.nD Cert.Ln1FwdIdeal.τ Cert.Ln1FwdIdeal.sig) → Buf (Elt Ideal) ℓ) (g : Dev Cert.Ln1FwdIdeal.nD → PrngReg), Pre_Ln1FwdIdeal m →
    θ_run (Cert.Ln1FwdIdeal.defs (F := Ideal)) (onTc (τ := Cert.Ln1FwdIdeal.τ) (Cert.Ln1FwdIdeal.main (F := Ideal))) ⟨m, fun _ => 0, g⟩ (fun r => (∀ c : Dev Cert.Ln1FwdIdeal.nD,
      r.2.mem ((c.tc : Thread Cert.Ln1FwdIdeal.nD Cert.Ln1FwdIdeal.τ).loc Cert.Ln1FwdIdeal.main_arg0) = m ((c.tc : Thread Cert.Ln1FwdIdeal.nD Cert.Ln1FwdIdeal.τ).loc Cert.Ln1FwdIdeal.main_arg0)
      ∧ r.2.mem ((c.tc : Thread Cert.Ln1FwdIdeal.nD Cert.Ln1FwdIdeal.τ).loc Cert.Ln1FwdIdeal.main_arg1) = m ((c.tc : Thread Cert.Ln1FwdIdeal.nD Cert.Ln1FwdIdeal.τ).loc Cert.Ln1FwdIdeal.main_arg1)
      ∧ r.2.mem ((c.tc : Thread Cert.Ln1FwdIdeal.nD Cert.Ln1FwdIdeal.τ).loc Cert.Ln1FwdIdeal.main_arg2) = m ((c.tc : Thread Cert.Ln1FwdIdeal.nD Cert.Ln1FwdIdeal.τ).loc Cert.Ln1FwdIdeal.main_arg2)
      ∧ r.2.mem ((c.tc : Thread Cert.Ln1FwdIdeal.nD Cert.Ln1FwdIdeal.τ).loc Cert.Ln1FwdIdeal.main_arg3) = m ((c.tc : Thread Cert.Ln1FwdIdeal.nD Cert.Ln1FwdIdeal.τ).loc Cert.Ln1FwdIdeal.main_arg3)
      ∧ r.2.mem ((c.tc : Thread Cert.Ln1FwdIdeal.nD Cert.Ln1FwdIdeal.τ).loc Cert.Ln1FwdIdeal.main_arg4) = m ((c.tc : Thread Cert.Ln1FwdIdeal.nD Cert.Ln1FwdIdeal.τ).loc Cert.Ln1FwdIdeal.main_arg4))
      ∧ r.2.sem = fun _ => 0)

def quiescent_Ln1FwdRefIdeal [hLn1FwdRefIdeal : Cert.Ln1FwdRefIdeal.Facts] : Prop :=
  ∀ (m : (ℓ : Loc Cert.Ln1FwdRefIdeal.nD Cert.Ln1FwdRefIdeal.τ Cert.Ln1FwdRefIdeal.sig) → Buf (Elt Ideal) ℓ) (g : Dev Cert.Ln1FwdRefIdeal.nD → PrngReg), Pre_Ln1FwdRefIdeal m →
    θ_run (Cert.Ln1FwdRefIdeal.defs (F := Ideal)) (onTc (τ := Cert.Ln1FwdRefIdeal.τ) (Cert.Ln1FwdRefIdeal.main (F := Ideal))) ⟨m, fun _ => 0, g⟩ (fun r => (∀ c : Dev Cert.Ln1FwdRefIdeal.nD,
      r.2.mem ((c.tc : Thread Cert.Ln1FwdRefIdeal.nD Cert.Ln1FwdRefIdeal.τ).loc Cert.Ln1FwdRefIdeal.main_arg0) = m ((c.tc : Thread Cert.Ln1FwdRefIdeal.nD Cert.Ln1FwdRefIdeal.τ).loc Cert.Ln1FwdRefIdeal.main_arg0)
      ∧ r.2.mem ((c.tc : Thread Cert.Ln1FwdRefIdeal.nD Cert.Ln1FwdRefIdeal.τ).loc Cert.Ln1FwdRefIdeal.main_arg1) = m ((c.tc : Thread Cert.Ln1FwdRefIdeal.nD Cert.Ln1FwdRefIdeal.τ).loc Cert.Ln1FwdRefIdeal.main_arg1)
      ∧ r.2.mem ((c.tc : Thread Cert.Ln1FwdRefIdeal.nD Cert.Ln1FwdRefIdeal.τ).loc Cert.Ln1FwdRefIdeal.main_arg2) = m ((c.tc : Thread Cert.Ln1FwdRefIdeal.nD Cert.Ln1FwdRefIdeal.τ).loc Cert.Ln1FwdRefIdeal.main_arg2)
      ∧ r.2.mem ((c.tc : Thread Cert.Ln1FwdRefIdeal.nD Cert.Ln1FwdRefIdeal.τ).loc Cert.Ln1FwdRefIdeal.main_arg3) = m ((c.tc : Thread Cert.Ln1FwdRefIdeal.nD Cert.Ln1FwdRefIdeal.τ).loc Cert.Ln1FwdRefIdeal.main_arg3)
      ∧ r.2.mem ((c.tc : Thread Cert.Ln1FwdRefIdeal.nD Cert.Ln1FwdRefIdeal.τ).loc Cert.Ln1FwdRefIdeal.main_arg4) = m ((c.tc : Thread Cert.Ln1FwdRefIdeal.nD Cert.Ln1FwdRefIdeal.τ).loc Cert.Ln1FwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_DnPreFwd [hDnPreFwd : Cert.DnPreFwd.Facts] : Prop :=
  ∀ (m : (ℓ : Loc Cert.DnPreFwd.nD Cert.DnPreFwd.τ Cert.DnPreFwd.sig) → Buf (Elt Bits) ℓ) (g : Dev Cert.DnPreFwd.nD → PrngReg), Pre_DnPreFwd m →
    θ_run (Cert.DnPreFwd.defs (F := Bits)) (onTc (τ := Cert.DnPreFwd.τ) (Cert.DnPreFwd.main (F := Bits))) ⟨m, fun _ => 0, g⟩ (fun r => (∀ c : Dev Cert.DnPreFwd.nD,
      r.2.mem ((c.tc : Thread Cert.DnPreFwd.nD Cert.DnPreFwd.τ).loc Cert.DnPreFwd.main_arg0) = m ((c.tc : Thread Cert.DnPreFwd.nD Cert.DnPreFwd.τ).loc Cert.DnPreFwd.main_arg0)
      ∧ r.2.mem ((c.tc : Thread Cert.DnPreFwd.nD Cert.DnPreFwd.τ).loc Cert.DnPreFwd.main_arg1) = m ((c.tc : Thread Cert.DnPreFwd.nD Cert.DnPreFwd.τ).loc Cert.DnPreFwd.main_arg1))
      ∧ r.2.sem = fun _ => 0)

def quiescent_DnPreFwdIdeal [hDnPreFwdIdeal : Cert.DnPreFwdIdeal.Facts] : Prop :=
  ∀ (m : (ℓ : Loc Cert.DnPreFwdIdeal.nD Cert.DnPreFwdIdeal.τ Cert.DnPreFwdIdeal.sig) → Buf (Elt Ideal) ℓ) (g : Dev Cert.DnPreFwdIdeal.nD → PrngReg), Pre_DnPreFwdIdeal m →
    θ_run (Cert.DnPreFwdIdeal.defs (F := Ideal)) (onTc (τ := Cert.DnPreFwdIdeal.τ) (Cert.DnPreFwdIdeal.main (F := Ideal))) ⟨m, fun _ => 0, g⟩ (fun r => (∀ c : Dev Cert.DnPreFwdIdeal.nD,
      r.2.mem ((c.tc : Thread Cert.DnPreFwdIdeal.nD Cert.DnPreFwdIdeal.τ).loc Cert.DnPreFwdIdeal.main_arg0) = m ((c.tc : Thread Cert.DnPreFwdIdeal.nD Cert.DnPreFwdIdeal.τ).loc Cert.DnPreFwdIdeal.main_arg0)
      ∧ r.2.mem ((c.tc : Thread Cert.DnPreFwdIdeal.nD Cert.DnPreFwdIdeal.τ).loc Cert.DnPreFwdIdeal.main_arg1) = m ((c.tc : Thread Cert.DnPreFwdIdeal.nD Cert.DnPreFwdIdeal.τ).loc Cert.DnPreFwdIdeal.main_arg1))
      ∧ r.2.sem = fun _ => 0)

def quiescent_DnPreFwdRefIdeal [hDnPreFwdRefIdeal : Cert.DnPreFwdRefIdeal.Facts] : Prop :=
  ∀ (m : (ℓ : Loc Cert.DnPreFwdRefIdeal.nD Cert.DnPreFwdRefIdeal.τ Cert.DnPreFwdRefIdeal.sig) → Buf (Elt Ideal) ℓ) (g : Dev Cert.DnPreFwdRefIdeal.nD → PrngReg), Pre_DnPreFwdRefIdeal m →
    θ_run (Cert.DnPreFwdRefIdeal.defs (F := Ideal)) (onTc (τ := Cert.DnPreFwdRefIdeal.τ) (Cert.DnPreFwdRefIdeal.main (F := Ideal))) ⟨m, fun _ => 0, g⟩ (fun r => (∀ c : Dev Cert.DnPreFwdRefIdeal.nD,
      r.2.mem ((c.tc : Thread Cert.DnPreFwdRefIdeal.nD Cert.DnPreFwdRefIdeal.τ).loc Cert.DnPreFwdRefIdeal.main_arg0) = m ((c.tc : Thread Cert.DnPreFwdRefIdeal.nD Cert.DnPreFwdRefIdeal.τ).loc Cert.DnPreFwdRefIdeal.main_arg0)
      ∧ r.2.mem ((c.tc : Thread Cert.DnPreFwdRefIdeal.nD Cert.DnPreFwdRefIdeal.τ).loc Cert.DnPreFwdRefIdeal.main_arg1) = m ((c.tc : Thread Cert.DnPreFwdRefIdeal.nD Cert.DnPreFwdRefIdeal.τ).loc Cert.DnPreFwdRefIdeal.main_arg1))
      ∧ r.2.sem = fun _ => 0)

def quiescent_WInPadded [hWInPadded : Cert.WInPadded.Facts] : Prop :=
  ∀ (m : (ℓ : Loc Cert.WInPadded.nD Cert.WInPadded.τ Cert.WInPadded.sig) → Buf (Elt Bits) ℓ) (g : Dev Cert.WInPadded.nD → PrngReg), Pre_WInPadded m →
    θ_run (Cert.WInPadded.defs (F := Bits)) (onTc (τ := Cert.WInPadded.τ) (Cert.WInPadded.main (F := Bits))) ⟨m, fun _ => 0, g⟩ (fun r => (∀ c : Dev Cert.WInPadded.nD,
      r.2.mem ((c.tc : Thread Cert.WInPadded.nD Cert.WInPadded.τ).loc Cert.WInPadded.main_arg0) = m ((c.tc : Thread Cert.WInPadded.nD Cert.WInPadded.τ).loc Cert.WInPadded.main_arg0))
      ∧ r.2.sem = fun _ => 0)

def quiescent_WInPaddedIdeal [hWInPaddedIdeal : Cert.WInPaddedIdeal.Facts] : Prop :=
  ∀ (m : (ℓ : Loc Cert.WInPaddedIdeal.nD Cert.WInPaddedIdeal.τ Cert.WInPaddedIdeal.sig) → Buf (Elt Ideal) ℓ) (g : Dev Cert.WInPaddedIdeal.nD → PrngReg), Pre_WInPaddedIdeal m →
    θ_run (Cert.WInPaddedIdeal.defs (F := Ideal)) (onTc (τ := Cert.WInPaddedIdeal.τ) (Cert.WInPaddedIdeal.main (F := Ideal))) ⟨m, fun _ => 0, g⟩ (fun r => (∀ c : Dev Cert.WInPaddedIdeal.nD,
      r.2.mem ((c.tc : Thread Cert.WInPaddedIdeal.nD Cert.WInPaddedIdeal.τ).loc Cert.WInPaddedIdeal.main_arg0) = m ((c.tc : Thread Cert.WInPaddedIdeal.nD Cert.WInPaddedIdeal.τ).loc Cert.WInPaddedIdeal.main_arg0))
      ∧ r.2.sem = fun _ => 0)

def quiescent_WInPaddedRefIdeal [hWInPaddedRefIdeal : Cert.WInPaddedRefIdeal.Facts] : Prop :=
  ∀ (m : (ℓ : Loc Cert.WInPaddedRefIdeal.nD Cert.WInPaddedRefIdeal.τ Cert.WInPaddedRefIdeal.sig) → Buf (Elt Ideal) ℓ) (g : Dev Cert.WInPaddedRefIdeal.nD → PrngReg), Pre_WInPaddedRefIdeal m →
    θ_run (Cert.WInPaddedRefIdeal.defs (F := Ideal)) (onTc (τ := Cert.WInPaddedRefIdeal.τ) (Cert.WInPaddedRefIdeal.main (F := Ideal))) ⟨m, fun _ => 0, g⟩ (fun r => (∀ c : Dev Cert.WInPaddedRefIdeal.nD,
      r.2.mem ((c.tc : Thread Cert.WInPaddedRefIdeal.nD Cert.WInPaddedRefIdeal.τ).loc Cert.WInPaddedRefIdeal.main_arg0) = m ((c.tc : Thread Cert.WInPaddedRefIdeal.nD Cert.WInPaddedRefIdeal.τ).loc Cert.WInPaddedRefIdeal.main_arg0))
      ∧ r.2.sem = fun _ => 0)

def quiescent_WInChips [hWInChips : Cert.WInChips.Facts] : Prop :=
  ∀ (m : (ℓ : Loc Cert.WInChips.nD Cert.WInChips.τ Cert.WInChips.sig) → Buf (Elt Bits) ℓ) (g : Dev Cert.WInChips.nD → PrngReg), Pre_WInChips m →
    θ_run (Cert.WInChips.defs (F := Bits)) (onTc (τ := Cert.WInChips.τ) (Cert.WInChips.main (F := Bits))) ⟨m, fun _ => 0, g⟩ (fun r => (∀ c : Dev Cert.WInChips.nD,
      r.2.mem ((c.tc : Thread Cert.WInChips.nD Cert.WInChips.τ).loc Cert.WInChips.main_arg0) = m ((c.tc : Thread Cert.WInChips.nD Cert.WInChips.τ).loc Cert.WInChips.main_arg0))
      ∧ r.2.sem = fun _ => 0)

def quiescent_WInChipsIdeal [hWInChipsIdeal : Cert.WInChipsIdeal.Facts] : Prop :=
  ∀ (m : (ℓ : Loc Cert.WInChipsIdeal.nD Cert.WInChipsIdeal.τ Cert.WInChipsIdeal.sig) → Buf (Elt Ideal) ℓ) (g : Dev Cert.WInChipsIdeal.nD → PrngReg), Pre_WInChipsIdeal m →
    θ_run (Cert.WInChipsIdeal.defs (F := Ideal)) (onTc (τ := Cert.WInChipsIdeal.τ) (Cert.WInChipsIdeal.main (F := Ideal))) ⟨m, fun _ => 0, g⟩ (fun r => (∀ c : Dev Cert.WInChipsIdeal.nD,
      r.2.mem ((c.tc : Thread Cert.WInChipsIdeal.nD Cert.WInChipsIdeal.τ).loc Cert.WInChipsIdeal.main_arg0) = m ((c.tc : Thread Cert.WInChipsIdeal.nD Cert.WInChipsIdeal.τ).loc Cert.WInChipsIdeal.main_arg0))
      ∧ r.2.sem = fun _ => 0)

def quiescent_WInChipsRefIdeal [hWInChipsRefIdeal : Cert.WInChipsRefIdeal.Facts] : Prop :=
  ∀ (m : (ℓ : Loc Cert.WInChipsRefIdeal.nD Cert.WInChipsRefIdeal.τ Cert.WInChipsRefIdeal.sig) → Buf (Elt Ideal) ℓ) (g : Dev Cert.WInChipsRefIdeal.nD → PrngReg), Pre_WInChipsRefIdeal m →
    θ_run (Cert.WInChipsRefIdeal.defs (F := Ideal)) (onTc (τ := Cert.WInChipsRefIdeal.τ) (Cert.WInChipsRefIdeal.main (F := Ideal))) ⟨m, fun _ => 0, g⟩ (fun r => (∀ c : Dev Cert.WInChipsRefIdeal.nD,
      r.2.mem ((c.tc : Thread Cert.WInChipsRefIdeal.nD Cert.WInChipsRefIdeal.τ).loc Cert.WInChipsRefIdeal.main_arg0) = m ((c.tc : Thread Cert.WInChipsRefIdeal.nD Cert.WInChipsRefIdeal.τ).loc Cert.WInChipsRefIdeal.main_arg0))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamWO [hAdamWO : Cert.AdamWO.Facts] : Prop :=
  ∀ (m : (ℓ : Loc Cert.AdamWO.nD Cert.AdamWO.τ Cert.AdamWO.sig) → Buf (Elt Bits) ℓ) (g : Dev Cert.AdamWO.nD → PrngReg), Pre_AdamWO m →
    θ_run (Cert.AdamWO.defs (F := Bits)) (onTc (τ := Cert.AdamWO.τ) (Cert.AdamWO.main (F := Bits))) ⟨m, fun _ => 0, g⟩ (fun r => (∀ c : Dev Cert.AdamWO.nD,
      r.2.mem ((c.tc : Thread Cert.AdamWO.nD Cert.AdamWO.τ).loc Cert.AdamWO.main_arg0) = m ((c.tc : Thread Cert.AdamWO.nD Cert.AdamWO.τ).loc Cert.AdamWO.main_arg0)
      ∧ r.2.mem ((c.tc : Thread Cert.AdamWO.nD Cert.AdamWO.τ).loc Cert.AdamWO.main_arg1) = m ((c.tc : Thread Cert.AdamWO.nD Cert.AdamWO.τ).loc Cert.AdamWO.main_arg1)
      ∧ r.2.mem ((c.tc : Thread Cert.AdamWO.nD Cert.AdamWO.τ).loc Cert.AdamWO.main_arg2) = m ((c.tc : Thread Cert.AdamWO.nD Cert.AdamWO.τ).loc Cert.AdamWO.main_arg2)
      ∧ r.2.mem ((c.tc : Thread Cert.AdamWO.nD Cert.AdamWO.τ).loc Cert.AdamWO.main_arg3) = m ((c.tc : Thread Cert.AdamWO.nD Cert.AdamWO.τ).loc Cert.AdamWO.main_arg3))
      ∧ r.2.sem = fun _ => 0)

def quiescent_AdamWOIdeal [hAdamWOIdeal : Cert.AdamWOIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg), Pre_AdamWOIdeal m →
    θ_run (Cert.AdamWOIdeal.defs (F := Ideal)) (onTc (τ := Cert.AdamWOIdeal.τ) (Cert.AdamWOIdeal.main (F := Ideal))) ⟨m, fun _ => 0, g⟩ (fun r => (∀ c : Dev Cert.AdamWOIdeal.nD,
      r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
      ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
      ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
      ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ r.2.sem = fun _ => 0)

def quiescent_AdamWORefIdeal [hAdamWORefIdeal : Cert.AdamWORefIdeal.Facts] : Prop :=
  ∀ (m : (ℓ : Loc Cert.AdamWORefIdeal.nD Cert.AdamWORefIdeal.τ Cert.AdamWORefIdeal.sig) → Buf (Elt Ideal) ℓ) (g : Dev Cert.AdamWORefIdeal.nD → PrngReg), Pre_AdamWORefIdeal m →
    θ_run (Cert.AdamWORefIdeal.defs (F := Ideal)) (onTc (τ := Cert.AdamWORefIdeal.τ) (Cert.AdamWORefIdeal.main (F := Ideal))) ⟨m, fun _ => 0, g⟩ (fun r => (∀ c : Dev Cert.AdamWORefIdeal.nD,
      r.2.mem ((c.tc : Thread Cert.AdamWORefIdeal.nD Cert.AdamWORefIdeal.τ).loc Cert.AdamWORefIdeal.main_arg0) = m ((c.tc : Thread Cert.AdamWORefIdeal.nD Cert.AdamWORefIdeal.τ).loc Cert.AdamWORefIdeal.main_arg0)
      ∧ r.2.mem ((c.tc : Thread Cert.AdamWORefIdeal.nD Cert.AdamWORefIdeal.τ).loc Cert.AdamWORefIdeal.main_arg1) = m ((c.tc : Thread Cert.AdamWORefIdeal.nD Cert.AdamWORefIdeal.τ).loc Cert.AdamWORefIdeal.main_arg1)
      ∧ r.2.mem ((c.tc : Thread Cert.AdamWORefIdeal.nD Cert.AdamWORefIdeal.τ).loc Cert.AdamWORefIdeal.main_arg2) = m ((c.tc : Thread Cert.AdamWORefIdeal.nD Cert.AdamWORefIdeal.τ).loc Cert.AdamWORefIdeal.main_arg2)
      ∧ r.2.mem ((c.tc : Thread Cert.AdamWORefIdeal.nD Cert.AdamWORefIdeal.τ).loc Cert.AdamWORefIdeal.main_arg3) = m ((c.tc : Thread Cert.AdamWORefIdeal.nD Cert.AdamWORefIdeal.τ).loc Cert.AdamWORefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamSmallA [hAdamSmallA : Cert.AdamSmallA.Facts] : Prop :=
  ∀ (m : (ℓ : Loc Cert.AdamSmallA.nD Cert.AdamSmallA.τ Cert.AdamSmallA.sig) → Buf (Elt Bits) ℓ) (g : Dev Cert.AdamSmallA.nD → PrngReg), Pre_AdamSmallA m →
    θ_run (Cert.AdamSmallA.defs (F := Bits)) (onTc (τ := Cert.AdamSmallA.τ) (Cert.AdamSmallA.main (F := Bits))) ⟨m, fun _ => 0, g⟩ (fun r => (∀ c : Dev Cert.AdamSmallA.nD,
      r.2.mem ((c.tc : Thread Cert.AdamSmallA.nD Cert.AdamSmallA.τ).loc Cert.AdamSmallA.main_arg0) = m ((c.tc : Thread Cert.AdamSmallA.nD Cert.AdamSmallA.τ).loc Cert.AdamSmallA.main_arg0)
      ∧ r.2.mem ((c.tc : Thread Cert.AdamSmallA.nD Cert.AdamSmallA.τ).loc Cert.AdamSmallA.main_arg1) = m ((c.tc : Thread Cert.AdamSmallA.nD Cert.AdamSmallA.τ).loc Cert.AdamSmallA.main_arg1)
      ∧ r.2.mem ((c.tc : Thread Cert.AdamSmallA.nD Cert.AdamSmallA.τ).loc Cert.AdamSmallA.main_arg2) = m ((c.tc : Thread Cert.AdamSmallA.nD Cert.AdamSmallA.τ).loc Cert.AdamSmallA.main_arg2)
      ∧ r.2.mem ((c.tc : Thread Cert.AdamSmallA.nD Cert.AdamSmallA.τ).loc Cert.AdamSmallA.main_arg3) = m ((c.tc : Thread Cert.AdamSmallA.nD Cert.AdamSmallA.τ).loc Cert.AdamSmallA.main_arg3)
      ∧ r.2.mem ((c.tc : Thread Cert.AdamSmallA.nD Cert.AdamSmallA.τ).loc Cert.AdamSmallA.main_arg4) = m ((c.tc : Thread Cert.AdamSmallA.nD Cert.AdamSmallA.τ).loc Cert.AdamSmallA.main_arg4)
      ∧ r.2.mem ((c.tc : Thread Cert.AdamSmallA.nD Cert.AdamSmallA.τ).loc Cert.AdamSmallA.main_arg5) = m ((c.tc : Thread Cert.AdamSmallA.nD Cert.AdamSmallA.τ).loc Cert.AdamSmallA.main_arg5)
      ∧ r.2.mem ((c.tc : Thread Cert.AdamSmallA.nD Cert.AdamSmallA.τ).loc Cert.AdamSmallA.main_arg6) = m ((c.tc : Thread Cert.AdamSmallA.nD Cert.AdamSmallA.τ).loc Cert.AdamSmallA.main_arg6)
      ∧ r.2.mem ((c.tc : Thread Cert.AdamSmallA.nD Cert.AdamSmallA.τ).loc Cert.AdamSmallA.main_arg7) = m ((c.tc : Thread Cert.AdamSmallA.nD Cert.AdamSmallA.τ).loc Cert.AdamSmallA.main_arg7)
      ∧ r.2.mem ((c.tc : Thread Cert.AdamSmallA.nD Cert.AdamSmallA.τ).loc Cert.AdamSmallA.main_arg8) = m ((c.tc : Thread Cert.AdamSmallA.nD Cert.AdamSmallA.τ).loc Cert.AdamSmallA.main_arg8)
      ∧ r.2.mem ((c.tc : Thread Cert.AdamSmallA.nD Cert.AdamSmallA.τ).loc Cert.AdamSmallA.main_arg9) = m ((c.tc : Thread Cert.AdamSmallA.nD Cert.AdamSmallA.τ).loc Cert.AdamSmallA.main_arg9)
      ∧ r.2.mem ((c.tc : Thread Cert.AdamSmallA.nD Cert.AdamSmallA.τ).loc Cert.AdamSmallA.main_arg10) = m ((c.tc : Thread Cert.AdamSmallA.nD Cert.AdamSmallA.τ).loc Cert.AdamSmallA.main_arg10)
      ∧ r.2.mem ((c.tc : Thread Cert.AdamSmallA.nD Cert.AdamSmallA.τ).loc Cert.AdamSmallA.main_arg11) = m ((c.tc : Thread Cert.AdamSmallA.nD Cert.AdamSmallA.τ).loc Cert.AdamSmallA.main_arg11)
      ∧ r.2.mem ((c.tc : Thread Cert.AdamSmallA.nD Cert.AdamSmallA.τ).loc Cert.AdamSmallA.main_arg12) = m ((c.tc : Thread Cert.AdamSmallA.nD Cert.AdamSmallA.τ).loc Cert.AdamSmallA.main_arg12)
      ∧ r.2.mem ((c.tc : Thread Cert.AdamSmallA.nD Cert.AdamSmallA.τ).loc Cert.AdamSmallA.main_arg13) = m ((c.tc : Thread Cert.AdamSmallA.nD Cert.AdamSmallA.τ).loc Cert.AdamSmallA.main_arg13)
      ∧ r.2.mem ((c.tc : Thread Cert.AdamSmallA.nD Cert.AdamSmallA.τ).loc Cert.AdamSmallA.main_arg14) = m ((c.tc : Thread Cert.AdamSmallA.nD Cert.AdamSmallA.τ).loc Cert.AdamSmallA.main_arg14)
      ∧ r.2.mem ((c.tc : Thread Cert.AdamSmallA.nD Cert.AdamSmallA.τ).loc Cert.AdamSmallA.main_arg15) = m ((c.tc : Thread Cert.AdamSmallA.nD Cert.AdamSmallA.τ).loc Cert.AdamSmallA.main_arg15))
      ∧ r.2.sem = fun _ => 0)

def quiescent_AdamSmallAIdeal [hAdamSmallAIdeal : Cert.AdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg), Pre_AdamSmallAIdeal m →
    θ_run (Cert.AdamSmallAIdeal.defs (F := Ideal)) (onTc (τ := Cert.AdamSmallAIdeal.τ) (Cert.AdamSmallAIdeal.main (F := Ideal))) ⟨m, fun _ => 0, g⟩ (fun r => (∀ c : Dev Cert.AdamSmallAIdeal.nD,
      r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
      ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
      ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
      ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
      ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
      ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
      ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
      ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
      ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
      ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
      ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
      ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11)
      ∧ r.2.mem ((c.tc : Thread Cert.AdamSmallAIdeal.nD Cert.AdamSmallAIdeal.τ).loc Cert.AdamSmallAIdeal.main_arg12) = m ((c.tc : Thread Cert.AdamSmallAIdeal.nD Cert.AdamSmallAIdeal.τ).loc Cert.AdamSmallAIdeal.main_arg12)
      ∧ r.2.mem ((c.tc : Thread Cert.AdamSmallAIdeal.nD Cert.AdamSmallAIdeal.τ).loc Cert.AdamSmallAIdeal.main_arg13) = m ((c.tc : Thread Cert.AdamSmallAIdeal.nD Cert.AdamSmallAIdeal.τ).loc Cert.AdamSmallAIdeal.main_arg13)
      ∧ r.2.mem ((c.tc : Thread Cert.AdamSmallAIdeal.nD Cert.AdamSmallAIdeal.τ).loc Cert.AdamSmallAIdeal.main_arg14) = m ((c.tc : Thread Cert.AdamSmallAIdeal.nD Cert.AdamSmallAIdeal.τ).loc Cert.AdamSmallAIdeal.main_arg14)
      ∧ r.2.mem ((c.tc : Thread Cert.AdamSmallAIdeal.nD Cert.AdamSmallAIdeal.τ).loc Cert.AdamSmallAIdeal.main_arg15) = m ((c.tc : Thread Cert.AdamSmallAIdeal.nD Cert.AdamSmallAIdeal.τ).loc Cert.AdamSmallAIdeal.main_arg15))
      ∧ r.2.sem = fun _ => 0)

def quiescent_AdamSmallARefIdeal [hAdamSmallARefIdeal : Cert.AdamSmallARefIdeal.Facts] : Prop :=
  ∀ (m : (ℓ : Loc Cert.AdamSmallARefIdeal.nD Cert.AdamSmallARefIdeal.τ Cert.AdamSmallARefIdeal.sig) → Buf (Elt Ideal) ℓ) (g : Dev Cert.AdamSmallARefIdeal.nD → PrngReg), Pre_AdamSmallARefIdeal m →
    θ_run (Cert.AdamSmallARefIdeal.defs (F := Ideal)) (onTc (τ := Cert.AdamSmallARefIdeal.τ) (Cert.AdamSmallARefIdeal.main (F := Ideal))) ⟨m, fun _ => 0, g⟩ (fun r => (∀ c : Dev Cert.AdamSmallARefIdeal.nD,
      r.2.mem ((c.tc : Thread Cert.AdamSmallARefIdeal.nD Cert.AdamSmallARefIdeal.τ).loc Cert.AdamSmallARefIdeal.main_arg0) = m ((c.tc : Thread Cert.AdamSmallARefIdeal.nD Cert.AdamSmallARefIdeal.τ).loc Cert.AdamSmallARefIdeal.main_arg0)
      ∧ r.2.mem ((c.tc : Thread Cert.AdamSmallARefIdeal.nD Cert.AdamSmallARefIdeal.τ).loc Cert.AdamSmallARefIdeal.main_arg1) = m ((c.tc : Thread Cert.AdamSmallARefIdeal.nD Cert.AdamSmallARefIdeal.τ).loc Cert.AdamSmallARefIdeal.main_arg1)
      ∧ r.2.mem ((c.tc : Thread Cert.AdamSmallARefIdeal.nD Cert.AdamSmallARefIdeal.τ).loc Cert.AdamSmallARefIdeal.main_arg2) = m ((c.tc : Thread Cert.AdamSmallARefIdeal.nD Cert.AdamSmallARefIdeal.τ).loc Cert.AdamSmallARefIdeal.main_arg2)
      ∧ r.2.mem ((c.tc : Thread Cert.AdamSmallARefIdeal.nD Cert.AdamSmallARefIdeal.τ).loc Cert.AdamSmallARefIdeal.main_arg3) = m ((c.tc : Thread Cert.AdamSmallARefIdeal.nD Cert.AdamSmallARefIdeal.τ).loc Cert.AdamSmallARefIdeal.main_arg3)
      ∧ r.2.mem ((c.tc : Thread Cert.AdamSmallARefIdeal.nD Cert.AdamSmallARefIdeal.τ).loc Cert.AdamSmallARefIdeal.main_arg4) = m ((c.tc : Thread Cert.AdamSmallARefIdeal.nD Cert.AdamSmallARefIdeal.τ).loc Cert.AdamSmallARefIdeal.main_arg4)
      ∧ r.2.mem ((c.tc : Thread Cert.AdamSmallARefIdeal.nD Cert.AdamSmallARefIdeal.τ).loc Cert.AdamSmallARefIdeal.main_arg5) = m ((c.tc : Thread Cert.AdamSmallARefIdeal.nD Cert.AdamSmallARefIdeal.τ).loc Cert.AdamSmallARefIdeal.main_arg5)
      ∧ r.2.mem ((c.tc : Thread Cert.AdamSmallARefIdeal.nD Cert.AdamSmallARefIdeal.τ).loc Cert.AdamSmallARefIdeal.main_arg6) = m ((c.tc : Thread Cert.AdamSmallARefIdeal.nD Cert.AdamSmallARefIdeal.τ).loc Cert.AdamSmallARefIdeal.main_arg6)
      ∧ r.2.mem ((c.tc : Thread Cert.AdamSmallARefIdeal.nD Cert.AdamSmallARefIdeal.τ).loc Cert.AdamSmallARefIdeal.main_arg7) = m ((c.tc : Thread Cert.AdamSmallARefIdeal.nD Cert.AdamSmallARefIdeal.τ).loc Cert.AdamSmallARefIdeal.main_arg7)
      ∧ r.2.mem ((c.tc : Thread Cert.AdamSmallARefIdeal.nD Cert.AdamSmallARefIdeal.τ).loc Cert.AdamSmallARefIdeal.main_arg8) = m ((c.tc : Thread Cert.AdamSmallARefIdeal.nD Cert.AdamSmallARefIdeal.τ).loc Cert.AdamSmallARefIdeal.main_arg8)
      ∧ r.2.mem ((c.tc : Thread Cert.AdamSmallARefIdeal.nD Cert.AdamSmallARefIdeal.τ).loc Cert.AdamSmallARefIdeal.main_arg9) = m ((c.tc : Thread Cert.AdamSmallARefIdeal.nD Cert.AdamSmallARefIdeal.τ).loc Cert.AdamSmallARefIdeal.main_arg9)
      ∧ r.2.mem ((c.tc : Thread Cert.AdamSmallARefIdeal.nD Cert.AdamSmallARefIdeal.τ).loc Cert.AdamSmallARefIdeal.main_arg10) = m ((c.tc : Thread Cert.AdamSmallARefIdeal.nD Cert.AdamSmallARefIdeal.τ).loc Cert.AdamSmallARefIdeal.main_arg10)
      ∧ r.2.mem ((c.tc : Thread Cert.AdamSmallARefIdeal.nD Cert.AdamSmallARefIdeal.τ).loc Cert.AdamSmallARefIdeal.main_arg11) = m ((c.tc : Thread Cert.AdamSmallARefIdeal.nD Cert.AdamSmallARefIdeal.τ).loc Cert.AdamSmallARefIdeal.main_arg11)
      ∧ r.2.mem ((c.tc : Thread Cert.AdamSmallARefIdeal.nD Cert.AdamSmallARefIdeal.τ).loc Cert.AdamSmallARefIdeal.main_arg12) = m ((c.tc : Thread Cert.AdamSmallARefIdeal.nD Cert.AdamSmallARefIdeal.τ).loc Cert.AdamSmallARefIdeal.main_arg12)
      ∧ r.2.mem ((c.tc : Thread Cert.AdamSmallARefIdeal.nD Cert.AdamSmallARefIdeal.τ).loc Cert.AdamSmallARefIdeal.main_arg13) = m ((c.tc : Thread Cert.AdamSmallARefIdeal.nD Cert.AdamSmallARefIdeal.τ).loc Cert.AdamSmallARefIdeal.main_arg13)
      ∧ r.2.mem ((c.tc : Thread Cert.AdamSmallARefIdeal.nD Cert.AdamSmallARefIdeal.τ).loc Cert.AdamSmallARefIdeal.main_arg14) = m ((c.tc : Thread Cert.AdamSmallARefIdeal.nD Cert.AdamSmallARefIdeal.τ).loc Cert.AdamSmallARefIdeal.main_arg14)
      ∧ r.2.mem ((c.tc : Thread Cert.AdamSmallARefIdeal.nD Cert.AdamSmallARefIdeal.τ).loc Cert.AdamSmallARefIdeal.main_arg15) = m ((c.tc : Thread Cert.AdamSmallARefIdeal.nD Cert.AdamSmallARefIdeal.τ).loc Cert.AdamSmallARefIdeal.main_arg15))
      ∧ r.2.sem = fun _ => 0)

def quiescent_AdamSmallB [hAdamSmallB : Cert.AdamSmallB.Facts] : Prop :=
  ∀ (m : (ℓ : Loc Cert.AdamSmallB.nD Cert.AdamSmallB.τ Cert.AdamSmallB.sig) → Buf (Elt Bits) ℓ) (g : Dev Cert.AdamSmallB.nD → PrngReg), Pre_AdamSmallB m →
    θ_run (Cert.AdamSmallB.defs (F := Bits)) (onTc (τ := Cert.AdamSmallB.τ) (Cert.AdamSmallB.main (F := Bits))) ⟨m, fun _ => 0, g⟩ (fun r => (∀ c : Dev Cert.AdamSmallB.nD,
      r.2.mem ((c.tc : Thread Cert.AdamSmallB.nD Cert.AdamSmallB.τ).loc Cert.AdamSmallB.main_arg0) = m ((c.tc : Thread Cert.AdamSmallB.nD Cert.AdamSmallB.τ).loc Cert.AdamSmallB.main_arg0)
      ∧ r.2.mem ((c.tc : Thread Cert.AdamSmallB.nD Cert.AdamSmallB.τ).loc Cert.AdamSmallB.main_arg1) = m ((c.tc : Thread Cert.AdamSmallB.nD Cert.AdamSmallB.τ).loc Cert.AdamSmallB.main_arg1)
      ∧ r.2.mem ((c.tc : Thread Cert.AdamSmallB.nD Cert.AdamSmallB.τ).loc Cert.AdamSmallB.main_arg2) = m ((c.tc : Thread Cert.AdamSmallB.nD Cert.AdamSmallB.τ).loc Cert.AdamSmallB.main_arg2)
      ∧ r.2.mem ((c.tc : Thread Cert.AdamSmallB.nD Cert.AdamSmallB.τ).loc Cert.AdamSmallB.main_arg3) = m ((c.tc : Thread Cert.AdamSmallB.nD Cert.AdamSmallB.τ).loc Cert.AdamSmallB.main_arg3)
      ∧ r.2.mem ((c.tc : Thread Cert.AdamSmallB.nD Cert.AdamSmallB.τ).loc Cert.AdamSmallB.main_arg4) = m ((c.tc : Thread Cert.AdamSmallB.nD Cert.AdamSmallB.τ).loc Cert.AdamSmallB.main_arg4)
      ∧ r.2.mem ((c.tc : Thread Cert.AdamSmallB.nD Cert.AdamSmallB.τ).loc Cert.AdamSmallB.main_arg5) = m ((c.tc : Thread Cert.AdamSmallB.nD Cert.AdamSmallB.τ).loc Cert.AdamSmallB.main_arg5)
      ∧ r.2.mem ((c.tc : Thread Cert.AdamSmallB.nD Cert.AdamSmallB.τ).loc Cert.AdamSmallB.main_arg6) = m ((c.tc : Thread Cert.AdamSmallB.nD Cert.AdamSmallB.τ).loc Cert.AdamSmallB.main_arg6)
      ∧ r.2.mem ((c.tc : Thread Cert.AdamSmallB.nD Cert.AdamSmallB.τ).loc Cert.AdamSmallB.main_arg7) = m ((c.tc : Thread Cert.AdamSmallB.nD Cert.AdamSmallB.τ).loc Cert.AdamSmallB.main_arg7)
      ∧ r.2.mem ((c.tc : Thread Cert.AdamSmallB.nD Cert.AdamSmallB.τ).loc Cert.AdamSmallB.main_arg8) = m ((c.tc : Thread Cert.AdamSmallB.nD Cert.AdamSmallB.τ).loc Cert.AdamSmallB.main_arg8)
      ∧ r.2.mem ((c.tc : Thread Cert.AdamSmallB.nD Cert.AdamSmallB.τ).loc Cert.AdamSmallB.main_arg9) = m ((c.tc : Thread Cert.AdamSmallB.nD Cert.AdamSmallB.τ).loc Cert.AdamSmallB.main_arg9)
      ∧ r.2.mem ((c.tc : Thread Cert.AdamSmallB.nD Cert.AdamSmallB.τ).loc Cert.AdamSmallB.main_arg10) = m ((c.tc : Thread Cert.AdamSmallB.nD Cert.AdamSmallB.τ).loc Cert.AdamSmallB.main_arg10)
      ∧ r.2.mem ((c.tc : Thread Cert.AdamSmallB.nD Cert.AdamSmallB.τ).loc Cert.AdamSmallB.main_arg11) = m ((c.tc : Thread Cert.AdamSmallB.nD Cert.AdamSmallB.τ).loc Cert.AdamSmallB.main_arg11)
      ∧ r.2.mem ((c.tc : Thread Cert.AdamSmallB.nD Cert.AdamSmallB.τ).loc Cert.AdamSmallB.main_arg12) = m ((c.tc : Thread Cert.AdamSmallB.nD Cert.AdamSmallB.τ).loc Cert.AdamSmallB.main_arg12)
      ∧ r.2.mem ((c.tc : Thread Cert.AdamSmallB.nD Cert.AdamSmallB.τ).loc Cert.AdamSmallB.main_arg13) = m ((c.tc : Thread Cert.AdamSmallB.nD Cert.AdamSmallB.τ).loc Cert.AdamSmallB.main_arg13)
      ∧ r.2.mem ((c.tc : Thread Cert.AdamSmallB.nD Cert.AdamSmallB.τ).loc Cert.AdamSmallB.main_arg14) = m ((c.tc : Thread Cert.AdamSmallB.nD Cert.AdamSmallB.τ).loc Cert.AdamSmallB.main_arg14)
      ∧ r.2.mem ((c.tc : Thread Cert.AdamSmallB.nD Cert.AdamSmallB.τ).loc Cert.AdamSmallB.main_arg15) = m ((c.tc : Thread Cert.AdamSmallB.nD Cert.AdamSmallB.τ).loc Cert.AdamSmallB.main_arg15))
      ∧ r.2.sem = fun _ => 0)

def quiescent_AdamSmallBIdeal [hAdamSmallBIdeal : Cert.AdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg), Pre_AdamSmallBIdeal m →
    θ_run (Cert.AdamSmallBIdeal.defs (F := Ideal)) (onTc (τ := Cert.AdamSmallBIdeal.τ) (Cert.AdamSmallBIdeal.main (F := Ideal))) ⟨m, fun _ => 0, g⟩ (fun r => (∀ c : Dev Cert.AdamSmallBIdeal.nD,
      r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
      ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
      ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
      ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
      ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
      ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
      ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
      ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
      ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
      ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
      ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
      ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11)
      ∧ r.2.mem ((c.tc : Thread Cert.AdamSmallBIdeal.nD Cert.AdamSmallBIdeal.τ).loc Cert.AdamSmallBIdeal.main_arg12) = m ((c.tc : Thread Cert.AdamSmallBIdeal.nD Cert.AdamSmallBIdeal.τ).loc Cert.AdamSmallBIdeal.main_arg12)
      ∧ r.2.mem ((c.tc : Thread Cert.AdamSmallBIdeal.nD Cert.AdamSmallBIdeal.τ).loc Cert.AdamSmallBIdeal.main_arg13) = m ((c.tc : Thread Cert.AdamSmallBIdeal.nD Cert.AdamSmallBIdeal.τ).loc Cert.AdamSmallBIdeal.main_arg13)
      ∧ r.2.mem ((c.tc : Thread Cert.AdamSmallBIdeal.nD Cert.AdamSmallBIdeal.τ).loc Cert.AdamSmallBIdeal.main_arg14) = m ((c.tc : Thread Cert.AdamSmallBIdeal.nD Cert.AdamSmallBIdeal.τ).loc Cert.AdamSmallBIdeal.main_arg14)
      ∧ r.2.mem ((c.tc : Thread Cert.AdamSmallBIdeal.nD Cert.AdamSmallBIdeal.τ).loc Cert.AdamSmallBIdeal.main_arg15) = m ((c.tc : Thread Cert.AdamSmallBIdeal.nD Cert.AdamSmallBIdeal.τ).loc Cert.AdamSmallBIdeal.main_arg15))
      ∧ r.2.sem = fun _ => 0)

def quiescent_AdamSmallBRefIdeal [hAdamSmallBRefIdeal : Cert.AdamSmallBRefIdeal.Facts] : Prop :=
  ∀ (m : (ℓ : Loc Cert.AdamSmallBRefIdeal.nD Cert.AdamSmallBRefIdeal.τ Cert.AdamSmallBRefIdeal.sig) → Buf (Elt Ideal) ℓ) (g : Dev Cert.AdamSmallBRefIdeal.nD → PrngReg), Pre_AdamSmallBRefIdeal m →
    θ_run (Cert.AdamSmallBRefIdeal.defs (F := Ideal)) (onTc (τ := Cert.AdamSmallBRefIdeal.τ) (Cert.AdamSmallBRefIdeal.main (F := Ideal))) ⟨m, fun _ => 0, g⟩ (fun r => (∀ c : Dev Cert.AdamSmallBRefIdeal.nD,
      r.2.mem ((c.tc : Thread Cert.AdamSmallBRefIdeal.nD Cert.AdamSmallBRefIdeal.τ).loc Cert.AdamSmallBRefIdeal.main_arg0) = m ((c.tc : Thread Cert.AdamSmallBRefIdeal.nD Cert.AdamSmallBRefIdeal.τ).loc Cert.AdamSmallBRefIdeal.main_arg0)
      ∧ r.2.mem ((c.tc : Thread Cert.AdamSmallBRefIdeal.nD Cert.AdamSmallBRefIdeal.τ).loc Cert.AdamSmallBRefIdeal.main_arg1) = m ((c.tc : Thread Cert.AdamSmallBRefIdeal.nD Cert.AdamSmallBRefIdeal.τ).loc Cert.AdamSmallBRefIdeal.main_arg1)
      ∧ r.2.mem ((c.tc : Thread Cert.AdamSmallBRefIdeal.nD Cert.AdamSmallBRefIdeal.τ).loc Cert.AdamSmallBRefIdeal.main_arg2) = m ((c.tc : Thread Cert.AdamSmallBRefIdeal.nD Cert.AdamSmallBRefIdeal.τ).loc Cert.AdamSmallBRefIdeal.main_arg2)
      ∧ r.2.mem ((c.tc : Thread Cert.AdamSmallBRefIdeal.nD Cert.AdamSmallBRefIdeal.τ).loc Cert.AdamSmallBRefIdeal.main_arg3) = m ((c.tc : Thread Cert.AdamSmallBRefIdeal.nD Cert.AdamSmallBRefIdeal.τ).loc Cert.AdamSmallBRefIdeal.main_arg3)
      ∧ r.2.mem ((c.tc : Thread Cert.AdamSmallBRefIdeal.nD Cert.AdamSmallBRefIdeal.τ).loc Cert.AdamSmallBRefIdeal.main_arg4) = m ((c.tc : Thread Cert.AdamSmallBRefIdeal.nD Cert.AdamSmallBRefIdeal.τ).loc Cert.AdamSmallBRefIdeal.main_arg4)
      ∧ r.2.mem ((c.tc : Thread Cert.AdamSmallBRefIdeal.nD Cert.AdamSmallBRefIdeal.τ).loc Cert.AdamSmallBRefIdeal.main_arg5) = m ((c.tc : Thread Cert.AdamSmallBRefIdeal.nD Cert.AdamSmallBRefIdeal.τ).loc Cert.AdamSmallBRefIdeal.main_arg5)
      ∧ r.2.mem ((c.tc : Thread Cert.AdamSmallBRefIdeal.nD Cert.AdamSmallBRefIdeal.τ).loc Cert.AdamSmallBRefIdeal.main_arg6) = m ((c.tc : Thread Cert.AdamSmallBRefIdeal.nD Cert.AdamSmallBRefIdeal.τ).loc Cert.AdamSmallBRefIdeal.main_arg6)
      ∧ r.2.mem ((c.tc : Thread Cert.AdamSmallBRefIdeal.nD Cert.AdamSmallBRefIdeal.τ).loc Cert.AdamSmallBRefIdeal.main_arg7) = m ((c.tc : Thread Cert.AdamSmallBRefIdeal.nD Cert.AdamSmallBRefIdeal.τ).loc Cert.AdamSmallBRefIdeal.main_arg7)
      ∧ r.2.mem ((c.tc : Thread Cert.AdamSmallBRefIdeal.nD Cert.AdamSmallBRefIdeal.τ).loc Cert.AdamSmallBRefIdeal.main_arg8) = m ((c.tc : Thread Cert.AdamSmallBRefIdeal.nD Cert.AdamSmallBRefIdeal.τ).loc Cert.AdamSmallBRefIdeal.main_arg8)
      ∧ r.2.mem ((c.tc : Thread Cert.AdamSmallBRefIdeal.nD Cert.AdamSmallBRefIdeal.τ).loc Cert.AdamSmallBRefIdeal.main_arg9) = m ((c.tc : Thread Cert.AdamSmallBRefIdeal.nD Cert.AdamSmallBRefIdeal.τ).loc Cert.AdamSmallBRefIdeal.main_arg9)
      ∧ r.2.mem ((c.tc : Thread Cert.AdamSmallBRefIdeal.nD Cert.AdamSmallBRefIdeal.τ).loc Cert.AdamSmallBRefIdeal.main_arg10) = m ((c.tc : Thread Cert.AdamSmallBRefIdeal.nD Cert.AdamSmallBRefIdeal.τ).loc Cert.AdamSmallBRefIdeal.main_arg10)
      ∧ r.2.mem ((c.tc : Thread Cert.AdamSmallBRefIdeal.nD Cert.AdamSmallBRefIdeal.τ).loc Cert.AdamSmallBRefIdeal.main_arg11) = m ((c.tc : Thread Cert.AdamSmallBRefIdeal.nD Cert.AdamSmallBRefIdeal.τ).loc Cert.AdamSmallBRefIdeal.main_arg11)
      ∧ r.2.mem ((c.tc : Thread Cert.AdamSmallBRefIdeal.nD Cert.AdamSmallBRefIdeal.τ).loc Cert.AdamSmallBRefIdeal.main_arg12) = m ((c.tc : Thread Cert.AdamSmallBRefIdeal.nD Cert.AdamSmallBRefIdeal.τ).loc Cert.AdamSmallBRefIdeal.main_arg12)
      ∧ r.2.mem ((c.tc : Thread Cert.AdamSmallBRefIdeal.nD Cert.AdamSmallBRefIdeal.τ).loc Cert.AdamSmallBRefIdeal.main_arg13) = m ((c.tc : Thread Cert.AdamSmallBRefIdeal.nD Cert.AdamSmallBRefIdeal.τ).loc Cert.AdamSmallBRefIdeal.main_arg13)
      ∧ r.2.mem ((c.tc : Thread Cert.AdamSmallBRefIdeal.nD Cert.AdamSmallBRefIdeal.τ).loc Cert.AdamSmallBRefIdeal.main_arg14) = m ((c.tc : Thread Cert.AdamSmallBRefIdeal.nD Cert.AdamSmallBRefIdeal.τ).loc Cert.AdamSmallBRefIdeal.main_arg14)
      ∧ r.2.mem ((c.tc : Thread Cert.AdamSmallBRefIdeal.nD Cert.AdamSmallBRefIdeal.τ).loc Cert.AdamSmallBRefIdeal.main_arg15) = m ((c.tc : Thread Cert.AdamSmallBRefIdeal.nD Cert.AdamSmallBRefIdeal.τ).loc Cert.AdamSmallBRefIdeal.main_arg15))
      ∧ r.2.sem = fun _ => 0)

def quiescent_AdamSmallC [hAdamSmallC : Cert.AdamSmallC.Facts] : Prop :=
  ∀ (m : (ℓ : Loc Cert.AdamSmallC.nD Cert.AdamSmallC.τ Cert.AdamSmallC.sig) → Buf (Elt Bits) ℓ) (g : Dev Cert.AdamSmallC.nD → PrngReg), Pre_AdamSmallC m →
    θ_run (Cert.AdamSmallC.defs (F := Bits)) (onTc (τ := Cert.AdamSmallC.τ) (Cert.AdamSmallC.main (F := Bits))) ⟨m, fun _ => 0, g⟩ (fun r => (∀ c : Dev Cert.AdamSmallC.nD,
      r.2.mem ((c.tc : Thread Cert.AdamSmallC.nD Cert.AdamSmallC.τ).loc Cert.AdamSmallC.main_arg0) = m ((c.tc : Thread Cert.AdamSmallC.nD Cert.AdamSmallC.τ).loc Cert.AdamSmallC.main_arg0)
      ∧ r.2.mem ((c.tc : Thread Cert.AdamSmallC.nD Cert.AdamSmallC.τ).loc Cert.AdamSmallC.main_arg1) = m ((c.tc : Thread Cert.AdamSmallC.nD Cert.AdamSmallC.τ).loc Cert.AdamSmallC.main_arg1)
      ∧ r.2.mem ((c.tc : Thread Cert.AdamSmallC.nD Cert.AdamSmallC.τ).loc Cert.AdamSmallC.main_arg2) = m ((c.tc : Thread Cert.AdamSmallC.nD Cert.AdamSmallC.τ).loc Cert.AdamSmallC.main_arg2)
      ∧ r.2.mem ((c.tc : Thread Cert.AdamSmallC.nD Cert.AdamSmallC.τ).loc Cert.AdamSmallC.main_arg3) = m ((c.tc : Thread Cert.AdamSmallC.nD Cert.AdamSmallC.τ).loc Cert.AdamSmallC.main_arg3)
      ∧ r.2.mem ((c.tc : Thread Cert.AdamSmallC.nD Cert.AdamSmallC.τ).loc Cert.AdamSmallC.main_arg4) = m ((c.tc : Thread Cert.AdamSmallC.nD Cert.AdamSmallC.τ).loc Cert.AdamSmallC.main_arg4)
      ∧ r.2.mem ((c.tc : Thread Cert.AdamSmallC.nD Cert.AdamSmallC.τ).loc Cert.AdamSmallC.main_arg5) = m ((c.tc : Thread Cert.AdamSmallC.nD Cert.AdamSmallC.τ).loc Cert.AdamSmallC.main_arg5)
      ∧ r.2.mem ((c.tc : Thread Cert.AdamSmallC.nD Cert.AdamSmallC.τ).loc Cert.AdamSmallC.main_arg6) = m ((c.tc : Thread Cert.AdamSmallC.nD Cert.AdamSmallC.τ).loc Cert.AdamSmallC.main_arg6)
      ∧ r.2.mem ((c.tc : Thread Cert.AdamSmallC.nD Cert.AdamSmallC.τ).loc Cert.AdamSmallC.main_arg7) = m ((c.tc : Thread Cert.AdamSmallC.nD Cert.AdamSmallC.τ).loc Cert.AdamSmallC.main_arg7)
      ∧ r.2.mem ((c.tc : Thread Cert.AdamSmallC.nD Cert.AdamSmallC.τ).loc Cert.AdamSmallC.main_arg8) = m ((c.tc : Thread Cert.AdamSmallC.nD Cert.AdamSmallC.τ).loc Cert.AdamSmallC.main_arg8)
      ∧ r.2.mem ((c.tc : Thread Cert.AdamSmallC.nD Cert.AdamSmallC.τ).loc Cert.AdamSmallC.main_arg9) = m ((c.tc : Thread Cert.AdamSmallC.nD Cert.AdamSmallC.τ).loc Cert.AdamSmallC.main_arg9)
      ∧ r.2.mem ((c.tc : Thread Cert.AdamSmallC.nD Cert.AdamSmallC.τ).loc Cert.AdamSmallC.main_arg10) = m ((c.tc : Thread Cert.AdamSmallC.nD Cert.AdamSmallC.τ).loc Cert.AdamSmallC.main_arg10)
      ∧ r.2.mem ((c.tc : Thread Cert.AdamSmallC.nD Cert.AdamSmallC.τ).loc Cert.AdamSmallC.main_arg11) = m ((c.tc : Thread Cert.AdamSmallC.nD Cert.AdamSmallC.τ).loc Cert.AdamSmallC.main_arg11)
      ∧ r.2.mem ((c.tc : Thread Cert.AdamSmallC.nD Cert.AdamSmallC.τ).loc Cert.AdamSmallC.main_arg12) = m ((c.tc : Thread Cert.AdamSmallC.nD Cert.AdamSmallC.τ).loc Cert.AdamSmallC.main_arg12)
      ∧ r.2.mem ((c.tc : Thread Cert.AdamSmallC.nD Cert.AdamSmallC.τ).loc Cert.AdamSmallC.main_arg13) = m ((c.tc : Thread Cert.AdamSmallC.nD Cert.AdamSmallC.τ).loc Cert.AdamSmallC.main_arg13)
      ∧ r.2.mem ((c.tc : Thread Cert.AdamSmallC.nD Cert.AdamSmallC.τ).loc Cert.AdamSmallC.main_arg14) = m ((c.tc : Thread Cert.AdamSmallC.nD Cert.AdamSmallC.τ).loc Cert.AdamSmallC.main_arg14)
      ∧ r.2.mem ((c.tc : Thread Cert.AdamSmallC.nD Cert.AdamSmallC.τ).loc Cert.AdamSmallC.main_arg15) = m ((c.tc : Thread Cert.AdamSmallC.nD Cert.AdamSmallC.τ).loc Cert.AdamSmallC.main_arg15))
      ∧ r.2.sem = fun _ => 0)

def quiescent_AdamSmallCIdeal [hAdamSmallCIdeal : Cert.AdamSmallCIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg), Pre_AdamSmallCIdeal m →
    θ_run (Cert.AdamSmallCIdeal.defs (F := Ideal)) (onTc (τ := Cert.AdamSmallCIdeal.τ) (Cert.AdamSmallCIdeal.main (F := Ideal))) ⟨m, fun _ => 0, g⟩ (fun r => (∀ c : Dev Cert.AdamSmallCIdeal.nD,
      r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
      ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
      ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
      ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
      ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
      ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
      ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
      ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
      ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
      ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
      ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
      ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11)
      ∧ r.2.mem ((c.tc : Thread Cert.AdamSmallCIdeal.nD Cert.AdamSmallCIdeal.τ).loc Cert.AdamSmallCIdeal.main_arg12) = m ((c.tc : Thread Cert.AdamSmallCIdeal.nD Cert.AdamSmallCIdeal.τ).loc Cert.AdamSmallCIdeal.main_arg12)
      ∧ r.2.mem ((c.tc : Thread Cert.AdamSmallCIdeal.nD Cert.AdamSmallCIdeal.τ).loc Cert.AdamSmallCIdeal.main_arg13) = m ((c.tc : Thread Cert.AdamSmallCIdeal.nD Cert.AdamSmallCIdeal.τ).loc Cert.AdamSmallCIdeal.main_arg13)
      ∧ r.2.mem ((c.tc : Thread Cert.AdamSmallCIdeal.nD Cert.AdamSmallCIdeal.τ).loc Cert.AdamSmallCIdeal.main_arg14) = m ((c.tc : Thread Cert.AdamSmallCIdeal.nD Cert.AdamSmallCIdeal.τ).loc Cert.AdamSmallCIdeal.main_arg14)
      ∧ r.2.mem ((c.tc : Thread Cert.AdamSmallCIdeal.nD Cert.AdamSmallCIdeal.τ).loc Cert.AdamSmallCIdeal.main_arg15) = m ((c.tc : Thread Cert.AdamSmallCIdeal.nD Cert.AdamSmallCIdeal.τ).loc Cert.AdamSmallCIdeal.main_arg15))
      ∧ r.2.sem = fun _ => 0)

def quiescent_AdamSmallCRefIdeal [hAdamSmallCRefIdeal : Cert.AdamSmallCRefIdeal.Facts] : Prop :=
  ∀ (m : (ℓ : Loc Cert.AdamSmallCRefIdeal.nD Cert.AdamSmallCRefIdeal.τ Cert.AdamSmallCRefIdeal.sig) → Buf (Elt Ideal) ℓ) (g : Dev Cert.AdamSmallCRefIdeal.nD → PrngReg), Pre_AdamSmallCRefIdeal m →
    θ_run (Cert.AdamSmallCRefIdeal.defs (F := Ideal)) (onTc (τ := Cert.AdamSmallCRefIdeal.τ) (Cert.AdamSmallCRefIdeal.main (F := Ideal))) ⟨m, fun _ => 0, g⟩ (fun r => (∀ c : Dev Cert.AdamSmallCRefIdeal.nD,
      r.2.mem ((c.tc : Thread Cert.AdamSmallCRefIdeal.nD Cert.AdamSmallCRefIdeal.τ).loc Cert.AdamSmallCRefIdeal.main_arg0) = m ((c.tc : Thread Cert.AdamSmallCRefIdeal.nD Cert.AdamSmallCRefIdeal.τ).loc Cert.AdamSmallCRefIdeal.main_arg0)
      ∧ r.2.mem ((c.tc : Thread Cert.AdamSmallCRefIdeal.nD Cert.AdamSmallCRefIdeal.τ).loc Cert.AdamSmallCRefIdeal.main_arg1) = m ((c.tc : Thread Cert.AdamSmallCRefIdeal.nD Cert.AdamSmallCRefIdeal.τ).loc Cert.AdamSmallCRefIdeal.main_arg1)
      ∧ r.2.mem ((c.tc : Thread Cert.AdamSmallCRefIdeal.nD Cert.AdamSmallCRefIdeal.τ).loc Cert.AdamSmallCRefIdeal.main_arg2) = m ((c.tc : Thread Cert.AdamSmallCRefIdeal.nD Cert.AdamSmallCRefIdeal.τ).loc Cert.AdamSmallCRefIdeal.main_arg2)
      ∧ r.2.mem ((c.tc : Thread Cert.AdamSmallCRefIdeal.nD Cert.AdamSmallCRefIdeal.τ).loc Cert.AdamSmallCRefIdeal.main_arg3) = m ((c.tc : Thread Cert.AdamSmallCRefIdeal.nD Cert.AdamSmallCRefIdeal.τ).loc Cert.AdamSmallCRefIdeal.main_arg3)
      ∧ r.2.mem ((c.tc : Thread Cert.AdamSmallCRefIdeal.nD Cert.AdamSmallCRefIdeal.τ).loc Cert.AdamSmallCRefIdeal.main_arg4) = m ((c.tc : Thread Cert.AdamSmallCRefIdeal.nD Cert.AdamSmallCRefIdeal.τ).loc Cert.AdamSmallCRefIdeal.main_arg4)
      ∧ r.2.mem ((c.tc : Thread Cert.AdamSmallCRefIdeal.nD Cert.AdamSmallCRefIdeal.τ).loc Cert.AdamSmallCRefIdeal.main_arg5) = m ((c.tc : Thread Cert.AdamSmallCRefIdeal.nD Cert.AdamSmallCRefIdeal.τ).loc Cert.AdamSmallCRefIdeal.main_arg5)
      ∧ r.2.mem ((c.tc : Thread Cert.AdamSmallCRefIdeal.nD Cert.AdamSmallCRefIdeal.τ).loc Cert.AdamSmallCRefIdeal.main_arg6) = m ((c.tc : Thread Cert.AdamSmallCRefIdeal.nD Cert.AdamSmallCRefIdeal.τ).loc Cert.AdamSmallCRefIdeal.main_arg6)
      ∧ r.2.mem ((c.tc : Thread Cert.AdamSmallCRefIdeal.nD Cert.AdamSmallCRefIdeal.τ).loc Cert.AdamSmallCRefIdeal.main_arg7) = m ((c.tc : Thread Cert.AdamSmallCRefIdeal.nD Cert.AdamSmallCRefIdeal.τ).loc Cert.AdamSmallCRefIdeal.main_arg7)
      ∧ r.2.mem ((c.tc : Thread Cert.AdamSmallCRefIdeal.nD Cert.AdamSmallCRefIdeal.τ).loc Cert.AdamSmallCRefIdeal.main_arg8) = m ((c.tc : Thread Cert.AdamSmallCRefIdeal.nD Cert.AdamSmallCRefIdeal.τ).loc Cert.AdamSmallCRefIdeal.main_arg8)
      ∧ r.2.mem ((c.tc : Thread Cert.AdamSmallCRefIdeal.nD Cert.AdamSmallCRefIdeal.τ).loc Cert.AdamSmallCRefIdeal.main_arg9) = m ((c.tc : Thread Cert.AdamSmallCRefIdeal.nD Cert.AdamSmallCRefIdeal.τ).loc Cert.AdamSmallCRefIdeal.main_arg9)
      ∧ r.2.mem ((c.tc : Thread Cert.AdamSmallCRefIdeal.nD Cert.AdamSmallCRefIdeal.τ).loc Cert.AdamSmallCRefIdeal.main_arg10) = m ((c.tc : Thread Cert.AdamSmallCRefIdeal.nD Cert.AdamSmallCRefIdeal.τ).loc Cert.AdamSmallCRefIdeal.main_arg10)
      ∧ r.2.mem ((c.tc : Thread Cert.AdamSmallCRefIdeal.nD Cert.AdamSmallCRefIdeal.τ).loc Cert.AdamSmallCRefIdeal.main_arg11) = m ((c.tc : Thread Cert.AdamSmallCRefIdeal.nD Cert.AdamSmallCRefIdeal.τ).loc Cert.AdamSmallCRefIdeal.main_arg11)
      ∧ r.2.mem ((c.tc : Thread Cert.AdamSmallCRefIdeal.nD Cert.AdamSmallCRefIdeal.τ).loc Cert.AdamSmallCRefIdeal.main_arg12) = m ((c.tc : Thread Cert.AdamSmallCRefIdeal.nD Cert.AdamSmallCRefIdeal.τ).loc Cert.AdamSmallCRefIdeal.main_arg12)
      ∧ r.2.mem ((c.tc : Thread Cert.AdamSmallCRefIdeal.nD Cert.AdamSmallCRefIdeal.τ).loc Cert.AdamSmallCRefIdeal.main_arg13) = m ((c.tc : Thread Cert.AdamSmallCRefIdeal.nD Cert.AdamSmallCRefIdeal.τ).loc Cert.AdamSmallCRefIdeal.main_arg13)
      ∧ r.2.mem ((c.tc : Thread Cert.AdamSmallCRefIdeal.nD Cert.AdamSmallCRefIdeal.τ).loc Cert.AdamSmallCRefIdeal.main_arg14) = m ((c.tc : Thread Cert.AdamSmallCRefIdeal.nD Cert.AdamSmallCRefIdeal.τ).loc Cert.AdamSmallCRefIdeal.main_arg14)
      ∧ r.2.mem ((c.tc : Thread Cert.AdamSmallCRefIdeal.nD Cert.AdamSmallCRefIdeal.τ).loc Cert.AdamSmallCRefIdeal.main_arg15) = m ((c.tc : Thread Cert.AdamSmallCRefIdeal.nD Cert.AdamSmallCRefIdeal.τ).loc Cert.AdamSmallCRefIdeal.main_arg15))
      ∧ r.2.sem = fun _ => 0)

def quiescent_AdamSmallD [hAdamSmallD : Cert.AdamSmallD.Facts] : Prop :=
  ∀ (m : (ℓ : Loc Cert.AdamSmallD.nD Cert.AdamSmallD.τ Cert.AdamSmallD.sig) → Buf (Elt Bits) ℓ) (g : Dev Cert.AdamSmallD.nD → PrngReg), Pre_AdamSmallD m →
    θ_run (Cert.AdamSmallD.defs (F := Bits)) (onTc (τ := Cert.AdamSmallD.τ) (Cert.AdamSmallD.main (F := Bits))) ⟨m, fun _ => 0, g⟩ (fun r => (∀ c : Dev Cert.AdamSmallD.nD,
      r.2.mem ((c.tc : Thread Cert.AdamSmallD.nD Cert.AdamSmallD.τ).loc Cert.AdamSmallD.main_arg0) = m ((c.tc : Thread Cert.AdamSmallD.nD Cert.AdamSmallD.τ).loc Cert.AdamSmallD.main_arg0)
      ∧ r.2.mem ((c.tc : Thread Cert.AdamSmallD.nD Cert.AdamSmallD.τ).loc Cert.AdamSmallD.main_arg1) = m ((c.tc : Thread Cert.AdamSmallD.nD Cert.AdamSmallD.τ).loc Cert.AdamSmallD.main_arg1)
      ∧ r.2.mem ((c.tc : Thread Cert.AdamSmallD.nD Cert.AdamSmallD.τ).loc Cert.AdamSmallD.main_arg2) = m ((c.tc : Thread Cert.AdamSmallD.nD Cert.AdamSmallD.τ).loc Cert.AdamSmallD.main_arg2)
      ∧ r.2.mem ((c.tc : Thread Cert.AdamSmallD.nD Cert.AdamSmallD.τ).loc Cert.AdamSmallD.main_arg3) = m ((c.tc : Thread Cert.AdamSmallD.nD Cert.AdamSmallD.τ).loc Cert.AdamSmallD.main_arg3)
      ∧ r.2.mem ((c.tc : Thread Cert.AdamSmallD.nD Cert.AdamSmallD.τ).loc Cert.AdamSmallD.main_arg4) = m ((c.tc : Thread Cert.AdamSmallD.nD Cert.AdamSmallD.τ).loc Cert.AdamSmallD.main_arg4)
      ∧ r.2.mem ((c.tc : Thread Cert.AdamSmallD.nD Cert.AdamSmallD.τ).loc Cert.AdamSmallD.main_arg5) = m ((c.tc : Thread Cert.AdamSmallD.nD Cert.AdamSmallD.τ).loc Cert.AdamSmallD.main_arg5)
      ∧ r.2.mem ((c.tc : Thread Cert.AdamSmallD.nD Cert.AdamSmallD.τ).loc Cert.AdamSmallD.main_arg6) = m ((c.tc : Thread Cert.AdamSmallD.nD Cert.AdamSmallD.τ).loc Cert.AdamSmallD.main_arg6)
      ∧ r.2.mem ((c.tc : Thread Cert.AdamSmallD.nD Cert.AdamSmallD.τ).loc Cert.AdamSmallD.main_arg7) = m ((c.tc : Thread Cert.AdamSmallD.nD Cert.AdamSmallD.τ).loc Cert.AdamSmallD.main_arg7)
      ∧ r.2.mem ((c.tc : Thread Cert.AdamSmallD.nD Cert.AdamSmallD.τ).loc Cert.AdamSmallD.main_arg8) = m ((c.tc : Thread Cert.AdamSmallD.nD Cert.AdamSmallD.τ).loc Cert.AdamSmallD.main_arg8)
      ∧ r.2.mem ((c.tc : Thread Cert.AdamSmallD.nD Cert.AdamSmallD.τ).loc Cert.AdamSmallD.main_arg9) = m ((c.tc : Thread Cert.AdamSmallD.nD Cert.AdamSmallD.τ).loc Cert.AdamSmallD.main_arg9)
      ∧ r.2.mem ((c.tc : Thread Cert.AdamSmallD.nD Cert.AdamSmallD.τ).loc Cert.AdamSmallD.main_arg10) = m ((c.tc : Thread Cert.AdamSmallD.nD Cert.AdamSmallD.τ).loc Cert.AdamSmallD.main_arg10)
      ∧ r.2.mem ((c.tc : Thread Cert.AdamSmallD.nD Cert.AdamSmallD.τ).loc Cert.AdamSmallD.main_arg11) = m ((c.tc : Thread Cert.AdamSmallD.nD Cert.AdamSmallD.τ).loc Cert.AdamSmallD.main_arg11)
      ∧ r.2.mem ((c.tc : Thread Cert.AdamSmallD.nD Cert.AdamSmallD.τ).loc Cert.AdamSmallD.main_arg12) = m ((c.tc : Thread Cert.AdamSmallD.nD Cert.AdamSmallD.τ).loc Cert.AdamSmallD.main_arg12)
      ∧ r.2.mem ((c.tc : Thread Cert.AdamSmallD.nD Cert.AdamSmallD.τ).loc Cert.AdamSmallD.main_arg13) = m ((c.tc : Thread Cert.AdamSmallD.nD Cert.AdamSmallD.τ).loc Cert.AdamSmallD.main_arg13)
      ∧ r.2.mem ((c.tc : Thread Cert.AdamSmallD.nD Cert.AdamSmallD.τ).loc Cert.AdamSmallD.main_arg14) = m ((c.tc : Thread Cert.AdamSmallD.nD Cert.AdamSmallD.τ).loc Cert.AdamSmallD.main_arg14)
      ∧ r.2.mem ((c.tc : Thread Cert.AdamSmallD.nD Cert.AdamSmallD.τ).loc Cert.AdamSmallD.main_arg15) = m ((c.tc : Thread Cert.AdamSmallD.nD Cert.AdamSmallD.τ).loc Cert.AdamSmallD.main_arg15))
      ∧ r.2.sem = fun _ => 0)

def quiescent_AdamSmallDIdeal [hAdamSmallDIdeal : Cert.AdamSmallDIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg), Pre_AdamSmallDIdeal m →
    θ_run (Cert.AdamSmallDIdeal.defs (F := Ideal)) (onTc (τ := Cert.AdamSmallDIdeal.τ) (Cert.AdamSmallDIdeal.main (F := Ideal))) ⟨m, fun _ => 0, g⟩ (fun r => (∀ c : Dev Cert.AdamSmallDIdeal.nD,
      r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
      ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
      ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
      ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
      ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
      ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
      ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
      ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
      ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
      ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
      ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
      ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11)
      ∧ r.2.mem ((c.tc : Thread Cert.AdamSmallDIdeal.nD Cert.AdamSmallDIdeal.τ).loc Cert.AdamSmallDIdeal.main_arg12) = m ((c.tc : Thread Cert.AdamSmallDIdeal.nD Cert.AdamSmallDIdeal.τ).loc Cert.AdamSmallDIdeal.main_arg12)
      ∧ r.2.mem ((c.tc : Thread Cert.AdamSmallDIdeal.nD Cert.AdamSmallDIdeal.τ).loc Cert.AdamSmallDIdeal.main_arg13) = m ((c.tc : Thread Cert.AdamSmallDIdeal.nD Cert.AdamSmallDIdeal.τ).loc Cert.AdamSmallDIdeal.main_arg13)
      ∧ r.2.mem ((c.tc : Thread Cert.AdamSmallDIdeal.nD Cert.AdamSmallDIdeal.τ).loc Cert.AdamSmallDIdeal.main_arg14) = m ((c.tc : Thread Cert.AdamSmallDIdeal.nD Cert.AdamSmallDIdeal.τ).loc Cert.AdamSmallDIdeal.main_arg14)
      ∧ r.2.mem ((c.tc : Thread Cert.AdamSmallDIdeal.nD Cert.AdamSmallDIdeal.τ).loc Cert.AdamSmallDIdeal.main_arg15) = m ((c.tc : Thread Cert.AdamSmallDIdeal.nD Cert.AdamSmallDIdeal.τ).loc Cert.AdamSmallDIdeal.main_arg15))
      ∧ r.2.sem = fun _ => 0)

def quiescent_AdamSmallDRefIdeal [hAdamSmallDRefIdeal : Cert.AdamSmallDRefIdeal.Facts] : Prop :=
  ∀ (m : (ℓ : Loc Cert.AdamSmallDRefIdeal.nD Cert.AdamSmallDRefIdeal.τ Cert.AdamSmallDRefIdeal.sig) → Buf (Elt Ideal) ℓ) (g : Dev Cert.AdamSmallDRefIdeal.nD → PrngReg), Pre_AdamSmallDRefIdeal m →
    θ_run (Cert.AdamSmallDRefIdeal.defs (F := Ideal)) (onTc (τ := Cert.AdamSmallDRefIdeal.τ) (Cert.AdamSmallDRefIdeal.main (F := Ideal))) ⟨m, fun _ => 0, g⟩ (fun r => (∀ c : Dev Cert.AdamSmallDRefIdeal.nD,
      r.2.mem ((c.tc : Thread Cert.AdamSmallDRefIdeal.nD Cert.AdamSmallDRefIdeal.τ).loc Cert.AdamSmallDRefIdeal.main_arg0) = m ((c.tc : Thread Cert.AdamSmallDRefIdeal.nD Cert.AdamSmallDRefIdeal.τ).loc Cert.AdamSmallDRefIdeal.main_arg0)
      ∧ r.2.mem ((c.tc : Thread Cert.AdamSmallDRefIdeal.nD Cert.AdamSmallDRefIdeal.τ).loc Cert.AdamSmallDRefIdeal.main_arg1) = m ((c.tc : Thread Cert.AdamSmallDRefIdeal.nD Cert.AdamSmallDRefIdeal.τ).loc Cert.AdamSmallDRefIdeal.main_arg1)
      ∧ r.2.mem ((c.tc : Thread Cert.AdamSmallDRefIdeal.nD Cert.AdamSmallDRefIdeal.τ).loc Cert.AdamSmallDRefIdeal.main_arg2) = m ((c.tc : Thread Cert.AdamSmallDRefIdeal.nD Cert.AdamSmallDRefIdeal.τ).loc Cert.AdamSmallDRefIdeal.main_arg2)
      ∧ r.2.mem ((c.tc : Thread Cert.AdamSmallDRefIdeal.nD Cert.AdamSmallDRefIdeal.τ).loc Cert.AdamSmallDRefIdeal.main_arg3) = m ((c.tc : Thread Cert.AdamSmallDRefIdeal.nD Cert.AdamSmallDRefIdeal.τ).loc Cert.AdamSmallDRefIdeal.main_arg3)
      ∧ r.2.mem ((c.tc : Thread Cert.AdamSmallDRefIdeal.nD Cert.AdamSmallDRefIdeal.τ).loc Cert.AdamSmallDRefIdeal.main_arg4) = m ((c.tc : Thread Cert.AdamSmallDRefIdeal.nD Cert.AdamSmallDRefIdeal.τ).loc Cert.AdamSmallDRefIdeal.main_arg4)
      ∧ r.2.mem ((c.tc : Thread Cert.AdamSmallDRefIdeal.nD Cert.AdamSmallDRefIdeal.τ).loc Cert.AdamSmallDRefIdeal.main_arg5) = m ((c.tc : Thread Cert.AdamSmallDRefIdeal.nD Cert.AdamSmallDRefIdeal.τ).loc Cert.AdamSmallDRefIdeal.main_arg5)
      ∧ r.2.mem ((c.tc : Thread Cert.AdamSmallDRefIdeal.nD Cert.AdamSmallDRefIdeal.τ).loc Cert.AdamSmallDRefIdeal.main_arg6) = m ((c.tc : Thread Cert.AdamSmallDRefIdeal.nD Cert.AdamSmallDRefIdeal.τ).loc Cert.AdamSmallDRefIdeal.main_arg6)
      ∧ r.2.mem ((c.tc : Thread Cert.AdamSmallDRefIdeal.nD Cert.AdamSmallDRefIdeal.τ).loc Cert.AdamSmallDRefIdeal.main_arg7) = m ((c.tc : Thread Cert.AdamSmallDRefIdeal.nD Cert.AdamSmallDRefIdeal.τ).loc Cert.AdamSmallDRefIdeal.main_arg7)
      ∧ r.2.mem ((c.tc : Thread Cert.AdamSmallDRefIdeal.nD Cert.AdamSmallDRefIdeal.τ).loc Cert.AdamSmallDRefIdeal.main_arg8) = m ((c.tc : Thread Cert.AdamSmallDRefIdeal.nD Cert.AdamSmallDRefIdeal.τ).loc Cert.AdamSmallDRefIdeal.main_arg8)
      ∧ r.2.mem ((c.tc : Thread Cert.AdamSmallDRefIdeal.nD Cert.AdamSmallDRefIdeal.τ).loc Cert.AdamSmallDRefIdeal.main_arg9) = m ((c.tc : Thread Cert.AdamSmallDRefIdeal.nD Cert.AdamSmallDRefIdeal.τ).loc Cert.AdamSmallDRefIdeal.main_arg9)
      ∧ r.2.mem ((c.tc : Thread Cert.AdamSmallDRefIdeal.nD Cert.AdamSmallDRefIdeal.τ).loc Cert.AdamSmallDRefIdeal.main_arg10) = m ((c.tc : Thread Cert.AdamSmallDRefIdeal.nD Cert.AdamSmallDRefIdeal.τ).loc Cert.AdamSmallDRefIdeal.main_arg10)
      ∧ r.2.mem ((c.tc : Thread Cert.AdamSmallDRefIdeal.nD Cert.AdamSmallDRefIdeal.τ).loc Cert.AdamSmallDRefIdeal.main_arg11) = m ((c.tc : Thread Cert.AdamSmallDRefIdeal.nD Cert.AdamSmallDRefIdeal.τ).loc Cert.AdamSmallDRefIdeal.main_arg11)
      ∧ r.2.mem ((c.tc : Thread Cert.AdamSmallDRefIdeal.nD Cert.AdamSmallDRefIdeal.τ).loc Cert.AdamSmallDRefIdeal.main_arg12) = m ((c.tc : Thread Cert.AdamSmallDRefIdeal.nD Cert.AdamSmallDRefIdeal.τ).loc Cert.AdamSmallDRefIdeal.main_arg12)
      ∧ r.2.mem ((c.tc : Thread Cert.AdamSmallDRefIdeal.nD Cert.AdamSmallDRefIdeal.τ).loc Cert.AdamSmallDRefIdeal.main_arg13) = m ((c.tc : Thread Cert.AdamSmallDRefIdeal.nD Cert.AdamSmallDRefIdeal.τ).loc Cert.AdamSmallDRefIdeal.main_arg13)
      ∧ r.2.mem ((c.tc : Thread Cert.AdamSmallDRefIdeal.nD Cert.AdamSmallDRefIdeal.τ).loc Cert.AdamSmallDRefIdeal.main_arg14) = m ((c.tc : Thread Cert.AdamSmallDRefIdeal.nD Cert.AdamSmallDRefIdeal.τ).loc Cert.AdamSmallDRefIdeal.main_arg14)
      ∧ r.2.mem ((c.tc : Thread Cert.AdamSmallDRefIdeal.nD Cert.AdamSmallDRefIdeal.τ).loc Cert.AdamSmallDRefIdeal.main_arg15) = m ((c.tc : Thread Cert.AdamSmallDRefIdeal.nD Cert.AdamSmallDRefIdeal.τ).loc Cert.AdamSmallDRefIdeal.main_arg15))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_value_finite [hFfnBwdIdeal : Cert.FfnBwdIdeal.Facts] [hPre_value_finite : Cert.Pre_value_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_value_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_FfnBwdRefIdeal_pre_value_finite [hFfnBwdRefIdeal : Cert.FfnBwdRefIdeal.Facts] [hPre_value_finite : Cert.Pre_value_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_value_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_DnPreBwd [hDnPreBwd : Cert.DnPreBwd.Facts] : Prop :=
  ∀ (m : (ℓ : Loc Cert.DnPreBwd.nD Cert.DnPreBwd.τ Cert.DnPreBwd.sig) → Buf (Elt Bits) ℓ) (g : Dev Cert.DnPreBwd.nD → PrngReg), Pre_DnPreBwd m →
    θ_run (Cert.DnPreBwd.defs (F := Bits)) (onTc (τ := Cert.DnPreBwd.τ) (Cert.DnPreBwd.main (F := Bits))) ⟨m, fun _ => 0, g⟩ (fun r => (∀ c : Dev Cert.DnPreBwd.nD,
      r.2.mem ((c.tc : Thread Cert.DnPreBwd.nD Cert.DnPreBwd.τ).loc Cert.DnPreBwd.main_arg0) = m ((c.tc : Thread Cert.DnPreBwd.nD Cert.DnPreBwd.τ).loc Cert.DnPreBwd.main_arg0)
      ∧ r.2.mem ((c.tc : Thread Cert.DnPreBwd.nD Cert.DnPreBwd.τ).loc Cert.DnPreBwd.main_arg1) = m ((c.tc : Thread Cert.DnPreBwd.nD Cert.DnPreBwd.τ).loc Cert.DnPreBwd.main_arg1)
      ∧ r.2.mem ((c.tc : Thread Cert.DnPreBwd.nD Cert.DnPreBwd.τ).loc Cert.DnPreBwd.main_arg2) = m ((c.tc : Thread Cert.DnPreBwd.nD Cert.DnPreBwd.τ).loc Cert.DnPreBwd.main_arg2)
      ∧ r.2.mem ((c.tc : Thread Cert.DnPreBwd.nD Cert.DnPreBwd.τ).loc Cert.DnPreBwd.main_arg3) = m ((c.tc : Thread Cert.DnPreBwd.nD Cert.DnPreBwd.τ).loc Cert.DnPreBwd.main_arg3))
      ∧ r.2.sem = fun _ => 0)

def quiescent_DnPreBwdIdeal [hDnPreBwdIdeal : Cert.DnPreBwdIdeal.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg), Pre_DnPreBwdIdeal m →
    θ_run (Cert.DnPreBwdIdeal.defs (F := Ideal)) (onTc (τ := Cert.DnPreBwdIdeal.τ) (Cert.DnPreBwdIdeal.main (F := Ideal))) ⟨m, fun _ => 0, g⟩ (fun r => (∀ c : Dev Cert.DnPreBwdIdeal.nD,
      r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
      ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
      ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
      ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3))
      ∧ r.2.sem = fun _ => 0)

def quiescent_DnPreBwdIdeal_pre_given_finite [hDnPreBwdIdeal : Cert.DnPreBwdIdeal.Facts] [hPre_given_finite : Cert.Pre_given_finite.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg), Pre_DnPreBwdIdeal_given_finite m →
    θ_run (Cert.DnPreBwdIdeal.defs (F := Ideal)) (onTc (τ := Cert.DnPreBwdIdeal.τ) (Cert.DnPreBwdIdeal.main (F := Ideal))) ⟨m, fun _ => 0, g⟩ (fun r => (∀ c : Dev Cert.DnPreBwdIdeal.nD,
      r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
      ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
      ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
      ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3))
      ∧ r.2.sem = fun _ => 0)

def quiescent_DnPreBwdRefIdeal [hDnPreBwdRefIdeal : Cert.DnPreBwdRefIdeal.Facts] : Prop :=
  ∀ (m : (ℓ : Loc Cert.DnPreBwdRefIdeal.nD Cert.DnPreBwdRefIdeal.τ Cert.DnPreBwdRefIdeal.sig) → Buf (Elt Ideal) ℓ) (g : Dev Cert.DnPreBwdRefIdeal.nD → PrngReg), Pre_DnPreBwdRefIdeal m →
    θ_run (Cert.DnPreBwdRefIdeal.defs (F := Ideal)) (onTc (τ := Cert.DnPreBwdRefIdeal.τ) (Cert.DnPreBwdRefIdeal.main (F := Ideal))) ⟨m, fun _ => 0, g⟩ (fun r => (∀ c : Dev Cert.DnPreBwdRefIdeal.nD,
      r.2.mem ((c.tc : Thread Cert.DnPreBwdRefIdeal.nD Cert.DnPreBwdRefIdeal.τ).loc Cert.DnPreBwdRefIdeal.main_arg0) = m ((c.tc : Thread Cert.DnPreBwdRefIdeal.nD Cert.DnPreBwdRefIdeal.τ).loc Cert.DnPreBwdRefIdeal.main_arg0)
      ∧ r.2.mem ((c.tc : Thread Cert.DnPreBwdRefIdeal.nD Cert.DnPreBwdRefIdeal.τ).loc Cert.DnPreBwdRefIdeal.main_arg1) = m ((c.tc : Thread Cert.DnPreBwdRefIdeal.nD Cert.DnPreBwdRefIdeal.τ).loc Cert.DnPreBwdRefIdeal.main_arg1)
      ∧ r.2.mem ((c.tc : Thread Cert.DnPreBwdRefIdeal.nD Cert.DnPreBwdRefIdeal.τ).loc Cert.DnPreBwdRefIdeal.main_arg2) = m ((c.tc : Thread Cert.DnPreBwdRefIdeal.nD Cert.DnPreBwdRefIdeal.τ).loc Cert.DnPreBwdRefIdeal.main_arg2)
      ∧ r.2.mem ((c.tc : Thread Cert.DnPreBwdRefIdeal.nD Cert.DnPreBwdRefIdeal.τ).loc Cert.DnPreBwdRefIdeal.main_arg3) = m ((c.tc : Thread Cert.DnPreBwdRefIdeal.nD Cert.DnPreBwdRefIdeal.τ).loc Cert.DnPreBwdRefIdeal.main_arg3))
      ∧ r.2.sem = fun _ => 0)

def quiescent_DnPreBwdRefIdeal_pre_given_finite [hDnPreBwdRefIdeal : Cert.DnPreBwdRefIdeal.Facts] [hPre_given_finite : Cert.Pre_given_finite.Facts] : Prop :=
  ∀ (m : (ℓ : Loc Cert.DnPreBwdRefIdeal.nD Cert.DnPreBwdRefIdeal.τ Cert.DnPreBwdRefIdeal.sig) → Buf (Elt Ideal) ℓ) (g : Dev Cert.DnPreBwdRefIdeal.nD → PrngReg), Pre_DnPreBwdRefIdeal_given_finite m →
    θ_run (Cert.DnPreBwdRefIdeal.defs (F := Ideal)) (onTc (τ := Cert.DnPreBwdRefIdeal.τ) (Cert.DnPreBwdRefIdeal.main (F := Ideal))) ⟨m, fun _ => 0, g⟩ (fun r => (∀ c : Dev Cert.DnPreBwdRefIdeal.nD,
      r.2.mem ((c.tc : Thread Cert.DnPreBwdRefIdeal.nD Cert.DnPreBwdRefIdeal.τ).loc Cert.DnPreBwdRefIdeal.main_arg0) = m ((c.tc : Thread Cert.DnPreBwdRefIdeal.nD Cert.DnPreBwdRefIdeal.τ).loc Cert.DnPreBwdRefIdeal.main_arg0)
      ∧ r.2.mem ((c.tc : Thread Cert.DnPreBwdRefIdeal.nD Cert.DnPreBwdRefIdeal.τ).loc Cert.DnPreBwdRefIdeal.main_arg1) = m ((c.tc : Thread Cert.DnPreBwdRefIdeal.nD Cert.DnPreBwdRefIdeal.τ).loc Cert.DnPreBwdRefIdeal.main_arg1)
      ∧ r.2.mem ((c.tc : Thread Cert.DnPreBwdRefIdeal.nD Cert.DnPreBwdRefIdeal.τ).loc Cert.DnPreBwdRefIdeal.main_arg2) = m ((c.tc : Thread Cert.DnPreBwdRefIdeal.nD Cert.DnPreBwdRefIdeal.τ).loc Cert.DnPreBwdRefIdeal.main_arg2)
      ∧ r.2.mem ((c.tc : Thread Cert.DnPreBwdRefIdeal.nD Cert.DnPreBwdRefIdeal.τ).loc Cert.DnPreBwdRefIdeal.main_arg3) = m ((c.tc : Thread Cert.DnPreBwdRefIdeal.nD Cert.DnPreBwdRefIdeal.τ).loc Cert.DnPreBwdRefIdeal.main_arg3))
      ∧ r.2.sem = fun _ => 0)

def quiescent_PairAddWUp [hPairAddWUp : Cert.PairAddWUp.Facts] [hPre_a_core_w_up : Cert.Pre_a_core_w_up.Facts] : Prop :=
  ∀ (m : (ℓ : Loc Cert.PairAddWUp.nD Cert.PairAddWUp.τ Cert.PairAddWUp.sig) → Buf (Elt Bits) ℓ) (g : Dev Cert.PairAddWUp.nD → PrngReg), Pre_PairAddWUp m →
    θ_run (Cert.PairAddWUp.defs (F := Bits)) (onTc (τ := Cert.PairAddWUp.τ) (Cert.PairAddWUp.main (F := Bits))) ⟨m, fun _ => 0, g⟩ (fun r => (∀ c : Dev Cert.PairAddWUp.nD,
      r.2.mem ((c.tc : Thread Cert.PairAddWUp.nD Cert.PairAddWUp.τ).loc Cert.PairAddWUp.main_arg0) = m ((c.tc : Thread Cert.PairAddWUp.nD Cert.PairAddWUp.τ).loc Cert.PairAddWUp.main_arg0)
      ∧ r.2.mem ((c.tc : Thread Cert.PairAddWUp.nD Cert.PairAddWUp.τ).loc Cert.PairAddWUp.main_arg1) = m ((c.tc : Thread Cert.PairAddWUp.nD Cert.PairAddWUp.τ).loc Cert.PairAddWUp.main_arg1)
      ∧ r.2.mem ((c.tc : Thread Cert.PairAddWUp.nD Cert.PairAddWUp.τ).loc Cert.PairAddWUp.main_arg2) = m ((c.tc : Thread Cert.PairAddWUp.nD Cert.PairAddWUp.τ).loc Cert.PairAddWUp.main_arg2))
      ∧ r.2.sem = fun _ => 0)

def quiescent_PairAddWUpIdeal [hPairAddWUpIdeal : Cert.PairAddWUpIdeal.Facts] [hPre_a_core_w_up : Cert.Pre_a_core_w_up.Facts] : Prop :=
  ∀ (m : (ℓ : Loc Cert.PairAddWUpIdeal.nD Cert.PairAddWUpIdeal.τ Cert.PairAddWUpIdeal.sig) → Buf (Elt Ideal) ℓ) (g : Dev Cert.PairAddWUpIdeal.nD → PrngReg), Pre_PairAddWUpIdeal m →
    θ_run (Cert.PairAddWUpIdeal.defs (F := Ideal)) (onTc (τ := Cert.PairAddWUpIdeal.τ) (Cert.PairAddWUpIdeal.main (F := Ideal))) ⟨m, fun _ => 0, g⟩ (fun r => (∀ c : Dev Cert.PairAddWUpIdeal.nD,
      r.2.mem ((c.tc : Thread Cert.PairAddWUpIdeal.nD Cert.PairAddWUpIdeal.τ).loc Cert.PairAddWUpIdeal.main_arg0) = m ((c.tc : Thread Cert.PairAddWUpIdeal.nD Cert.PairAddWUpIdeal.τ).loc Cert.PairAddWUpIdeal.main_arg0)
      ∧ r.2.mem ((c.tc : Thread Cert.PairAddWUpIdeal.nD Cert.PairAddWUpIdeal.τ).loc Cert.PairAddWUpIdeal.main_arg1) = m ((c.tc : Thread Cert.PairAddWUpIdeal.nD Cert.PairAddWUpIdeal.τ).loc Cert.PairAddWUpIdeal.main_arg1)
      ∧ r.2.mem ((c.tc : Thread Cert.PairAddWUpIdeal.nD Cert.PairAddWUpIdeal.τ).loc Cert.PairAddWUpIdeal.main_arg2) = m ((c.tc : Thread Cert.PairAddWUpIdeal.nD Cert.PairAddWUpIdeal.τ).loc Cert.PairAddWUpIdeal.main_arg2))
      ∧ r.2.sem = fun _ => 0)

def quiescent_PairAddWUpRefIdeal [hPairAddWUpRefIdeal : Cert.PairAddWUpRefIdeal.Facts] : Prop :=
  ∀ (m : (ℓ : Loc Cert.PairAddWUpRefIdeal.nD Cert.PairAddWUpRefIdeal.τ Cert.PairAddWUpRefIdeal.sig) → Buf (Elt Ideal) ℓ) (g : Dev Cert.PairAddWUpRefIdeal.nD → PrngReg), Pre_PairAddWUpRefIdeal m →
    θ_run (Cert.PairAddWUpRefIdeal.defs (F := Ideal)) (onTc (τ := Cert.PairAddWUpRefIdeal.τ) (Cert.PairAddWUpRefIdeal.main (F := Ideal))) ⟨m, fun _ => 0, g⟩ (fun r => (∀ c : Dev Cert.PairAddWUpRefIdeal.nD,
      r.2.mem ((c.tc : Thread Cert.PairAddWUpRefIdeal.nD Cert.PairAddWUpRefIdeal.τ).loc Cert.PairAddWUpRefIdeal.main_arg0) = m ((c.tc : Thread Cert.PairAddWUpRefIdeal.nD Cert.PairAddWUpRefIdeal.τ).loc Cert.PairAddWUpRefIdeal.main_arg0)
      ∧ r.2.mem ((c.tc : Thread Cert.PairAddWUpRefIdeal.nD Cert.PairAddWUpRefIdeal.τ).loc Cert.PairAddWUpRefIdeal.main_arg1) = m ((c.tc : Thread Cert.PairAddWUpRefIdeal.nD Cert.PairAddWUpRefIdeal.τ).loc Cert.PairAddWUpRefIdeal.main_arg1)
      ∧ r.2.mem ((c.tc : Thread Cert.PairAddWUpRefIdeal.nD Cert.PairAddWUpRefIdeal.τ).loc Cert.PairAddWUpRefIdeal.main_arg2) = m ((c.tc : Thread Cert.PairAddWUpRefIdeal.nD Cert.PairAddWUpRefIdeal.τ).loc Cert.PairAddWUpRefIdeal.main_arg2))
      ∧ r.2.sem = fun _ => 0)

def quiescent_PairAddWUpRefIdeal_pre_a_core_w_up [hPairAddWUpRefIdeal : Cert.PairAddWUpRefIdeal.Facts] [hPre_a_core_w_up : Cert.Pre_a_core_w_up.Facts] : Prop :=
  ∀ (m : (ℓ : Loc Cert.PairAddWUpRefIdeal.nD Cert.PairAddWUpRefIdeal.τ Cert.PairAddWUpRefIdeal.sig) → Buf (Elt Ideal) ℓ) (g : Dev Cert.PairAddWUpRefIdeal.nD → PrngReg), Pre_PairAddWUpRefIdeal_a_core_w_up m →
    θ_run (Cert.PairAddWUpRefIdeal.defs (F := Ideal)) (onTc (τ := Cert.PairAddWUpRefIdeal.τ) (Cert.PairAddWUpRefIdeal.main (F := Ideal))) ⟨m, fun _ => 0, g⟩ (fun r => (∀ c : Dev Cert.PairAddWUpRefIdeal.nD,
      r.2.mem ((c.tc : Thread Cert.PairAddWUpRefIdeal.nD Cert.PairAddWUpRefIdeal.τ).loc Cert.PairAddWUpRefIdeal.main_arg0) = m ((c.tc : Thread Cert.PairAddWUpRefIdeal.nD Cert.PairAddWUpRefIdeal.τ).loc Cert.PairAddWUpRefIdeal.main_arg0)
      ∧ r.2.mem ((c.tc : Thread Cert.PairAddWUpRefIdeal.nD Cert.PairAddWUpRefIdeal.τ).loc Cert.PairAddWUpRefIdeal.main_arg1) = m ((c.tc : Thread Cert.PairAddWUpRefIdeal.nD Cert.PairAddWUpRefIdeal.τ).loc Cert.PairAddWUpRefIdeal.main_arg1)
      ∧ r.2.mem ((c.tc : Thread Cert.PairAddWUpRefIdeal.nD Cert.PairAddWUpRefIdeal.τ).loc Cert.PairAddWUpRefIdeal.main_arg2) = m ((c.tc : Thread Cert.PairAddWUpRefIdeal.nD Cert.PairAddWUpRefIdeal.τ).loc Cert.PairAddWUpRefIdeal.main_arg2))
      ∧ r.2.sem = fun _ => 0)

def quiescent_PairAddWDown [hPairAddWDown : Cert.PairAddWDown.Facts] [hPre_a_core_w_down : Cert.Pre_a_core_w_down.Facts] : Prop :=
  ∀ (m : (ℓ : Loc Cert.PairAddWDown.nD Cert.PairAddWDown.τ Cert.PairAddWDown.sig) → Buf (Elt Bits) ℓ) (g : Dev Cert.PairAddWDown.nD → PrngReg), Pre_PairAddWDown m →
    θ_run (Cert.PairAddWDown.defs (F := Bits)) (onTc (τ := Cert.PairAddWDown.τ) (Cert.PairAddWDown.main (F := Bits))) ⟨m, fun _ => 0, g⟩ (fun r => (∀ c : Dev Cert.PairAddWDown.nD,
      r.2.mem ((c.tc : Thread Cert.PairAddWDown.nD Cert.PairAddWDown.τ).loc Cert.PairAddWDown.main_arg0) = m ((c.tc : Thread Cert.PairAddWDown.nD Cert.PairAddWDown.τ).loc Cert.PairAddWDown.main_arg0)
      ∧ r.2.mem ((c.tc : Thread Cert.PairAddWDown.nD Cert.PairAddWDown.τ).loc Cert.PairAddWDown.main_arg1) = m ((c.tc : Thread Cert.PairAddWDown.nD Cert.PairAddWDown.τ).loc Cert.PairAddWDown.main_arg1)
      ∧ r.2.mem ((c.tc : Thread Cert.PairAddWDown.nD Cert.PairAddWDown.τ).loc Cert.PairAddWDown.main_arg2) = m ((c.tc : Thread Cert.PairAddWDown.nD Cert.PairAddWDown.τ).loc Cert.PairAddWDown.main_arg2))
      ∧ r.2.sem = fun _ => 0)

def quiescent_PairAddWDownIdeal [hPairAddWDownIdeal : Cert.PairAddWDownIdeal.Facts] [hPre_a_core_w_down : Cert.Pre_a_core_w_down.Facts] : Prop :=
  ∀ (m : (ℓ : Loc Cert.PairAddWDownIdeal.nD Cert.PairAddWDownIdeal.τ Cert.PairAddWDownIdeal.sig) → Buf (Elt Ideal) ℓ) (g : Dev Cert.PairAddWDownIdeal.nD → PrngReg), Pre_PairAddWDownIdeal m →
    θ_run (Cert.PairAddWDownIdeal.defs (F := Ideal)) (onTc (τ := Cert.PairAddWDownIdeal.τ) (Cert.PairAddWDownIdeal.main (F := Ideal))) ⟨m, fun _ => 0, g⟩ (fun r => (∀ c : Dev Cert.PairAddWDownIdeal.nD,
      r.2.mem ((c.tc : Thread Cert.PairAddWDownIdeal.nD Cert.PairAddWDownIdeal.τ).loc Cert.PairAddWDownIdeal.main_arg0) = m ((c.tc : Thread Cert.PairAddWDownIdeal.nD Cert.PairAddWDownIdeal.τ).loc Cert.PairAddWDownIdeal.main_arg0)
      ∧ r.2.mem ((c.tc : Thread Cert.PairAddWDownIdeal.nD Cert.PairAddWDownIdeal.τ).loc Cert.PairAddWDownIdeal.main_arg1) = m ((c.tc : Thread Cert.PairAddWDownIdeal.nD Cert.PairAddWDownIdeal.τ).loc Cert.PairAddWDownIdeal.main_arg1)
      ∧ r.2.mem ((c.tc : Thread Cert.PairAddWDownIdeal.nD Cert.PairAddWDownIdeal.τ).loc Cert.PairAddWDownIdeal.main_arg2) = m ((c.tc : Thread Cert.PairAddWDownIdeal.nD Cert.PairAddWDownIdeal.τ).loc Cert.PairAddWDownIdeal.main_arg2))
      ∧ r.2.sem = fun _ => 0)

def quiescent_PairAddWDownRefIdeal [hPairAddWDownRefIdeal : Cert.PairAddWDownRefIdeal.Facts] : Prop :=
  ∀ (m : (ℓ : Loc Cert.PairAddWDownRefIdeal.nD Cert.PairAddWDownRefIdeal.τ Cert.PairAddWDownRefIdeal.sig) → Buf (Elt Ideal) ℓ) (g : Dev Cert.PairAddWDownRefIdeal.nD → PrngReg), Pre_PairAddWDownRefIdeal m →
    θ_run (Cert.PairAddWDownRefIdeal.defs (F := Ideal)) (onTc (τ := Cert.PairAddWDownRefIdeal.τ) (Cert.PairAddWDownRefIdeal.main (F := Ideal))) ⟨m, fun _ => 0, g⟩ (fun r => (∀ c : Dev Cert.PairAddWDownRefIdeal.nD,
      r.2.mem ((c.tc : Thread Cert.PairAddWDownRefIdeal.nD Cert.PairAddWDownRefIdeal.τ).loc Cert.PairAddWDownRefIdeal.main_arg0) = m ((c.tc : Thread Cert.PairAddWDownRefIdeal.nD Cert.PairAddWDownRefIdeal.τ).loc Cert.PairAddWDownRefIdeal.main_arg0)
      ∧ r.2.mem ((c.tc : Thread Cert.PairAddWDownRefIdeal.nD Cert.PairAddWDownRefIdeal.τ).loc Cert.PairAddWDownRefIdeal.main_arg1) = m ((c.tc : Thread Cert.PairAddWDownRefIdeal.nD Cert.PairAddWDownRefIdeal.τ).loc Cert.PairAddWDownRefIdeal.main_arg1)
      ∧ r.2.mem ((c.tc : Thread Cert.PairAddWDownRefIdeal.nD Cert.PairAddWDownRefIdeal.τ).loc Cert.PairAddWDownRefIdeal.main_arg2) = m ((c.tc : Thread Cert.PairAddWDownRefIdeal.nD Cert.PairAddWDownRefIdeal.τ).loc Cert.PairAddWDownRefIdeal.main_arg2))
      ∧ r.2.sem = fun _ => 0)

def quiescent_PairAddWDownRefIdeal_pre_a_core_w_down [hPairAddWDownRefIdeal : Cert.PairAddWDownRefIdeal.Facts] [hPre_a_core_w_down : Cert.Pre_a_core_w_down.Facts] : Prop :=
  ∀ (m : (ℓ : Loc Cert.PairAddWDownRefIdeal.nD Cert.PairAddWDownRefIdeal.τ Cert.PairAddWDownRefIdeal.sig) → Buf (Elt Ideal) ℓ) (g : Dev Cert.PairAddWDownRefIdeal.nD → PrngReg), Pre_PairAddWDownRefIdeal_a_core_w_down m →
    θ_run (Cert.PairAddWDownRefIdeal.defs (F := Ideal)) (onTc (τ := Cert.PairAddWDownRefIdeal.τ) (Cert.PairAddWDownRefIdeal.main (F := Ideal))) ⟨m, fun _ => 0, g⟩ (fun r => (∀ c : Dev Cert.PairAddWDownRefIdeal.nD,
      r.2.mem ((c.tc : Thread Cert.PairAddWDownRefIdeal.nD Cert.PairAddWDownRefIdeal.τ).loc Cert.PairAddWDownRefIdeal.main_arg0) = m ((c.tc : Thread Cert.PairAddWDownRefIdeal.nD Cert.PairAddWDownRefIdeal.τ).loc Cert.PairAddWDownRefIdeal.main_arg0)
      ∧ r.2.mem ((c.tc : Thread Cert.PairAddWDownRefIdeal.nD Cert.PairAddWDownRefIdeal.τ).loc Cert.PairAddWDownRefIdeal.main_arg1) = m ((c.tc : Thread Cert.PairAddWDownRefIdeal.nD Cert.PairAddWDownRefIdeal.τ).loc Cert.PairAddWDownRefIdeal.main_arg1)
      ∧ r.2.mem ((c.tc : Thread Cert.PairAddWDownRefIdeal.nD Cert.PairAddWDownRefIdeal.τ).loc Cert.PairAddWDownRefIdeal.main_arg2) = m ((c.tc : Thread Cert.PairAddWDownRefIdeal.nD Cert.PairAddWDownRefIdeal.τ).loc Cert.PairAddWDownRefIdeal.main_arg2))
      ∧ r.2.sem = fun _ => 0)

def quiescent_PairAddWO [hPairAddWO : Cert.PairAddWO.Facts] [hPre_a_core_w_o : Cert.Pre_a_core_w_o.Facts] : Prop :=
  ∀ (m : (ℓ : Loc Cert.PairAddWO.nD Cert.PairAddWO.τ Cert.PairAddWO.sig) → Buf (Elt Bits) ℓ) (g : Dev Cert.PairAddWO.nD → PrngReg), Pre_PairAddWO m →
    θ_run (Cert.PairAddWO.defs (F := Bits)) (onTc (τ := Cert.PairAddWO.τ) (Cert.PairAddWO.main (F := Bits))) ⟨m, fun _ => 0, g⟩ (fun r => (∀ c : Dev Cert.PairAddWO.nD,
      r.2.mem ((c.tc : Thread Cert.PairAddWO.nD Cert.PairAddWO.τ).loc Cert.PairAddWO.main_arg0) = m ((c.tc : Thread Cert.PairAddWO.nD Cert.PairAddWO.τ).loc Cert.PairAddWO.main_arg0)
      ∧ r.2.mem ((c.tc : Thread Cert.PairAddWO.nD Cert.PairAddWO.τ).loc Cert.PairAddWO.main_arg1) = m ((c.tc : Thread Cert.PairAddWO.nD Cert.PairAddWO.τ).loc Cert.PairAddWO.main_arg1)
      ∧ r.2.mem ((c.tc : Thread Cert.PairAddWO.nD Cert.PairAddWO.τ).loc Cert.PairAddWO.main_arg2) = m ((c.tc : Thread Cert.PairAddWO.nD Cert.PairAddWO.τ).loc Cert.PairAddWO.main_arg2))
      ∧ r.2.sem = fun _ => 0)

def quiescent_PairAddWOIdeal [hPairAddWOIdeal : Cert.PairAddWOIdeal.Facts] [hPre_a_core_w_o : Cert.Pre_a_core_w_o.Facts] : Prop :=
  ∀ (m : (ℓ : Loc Cert.PairAddWOIdeal.nD Cert.PairAddWOIdeal.τ Cert.PairAddWOIdeal.sig) → Buf (Elt Ideal) ℓ) (g : Dev Cert.PairAddWOIdeal.nD → PrngReg), Pre_PairAddWOIdeal m →
    θ_run (Cert.PairAddWOIdeal.defs (F := Ideal)) (onTc (τ := Cert.PairAddWOIdeal.τ) (Cert.PairAddWOIdeal.main (F := Ideal))) ⟨m, fun _ => 0, g⟩ (fun r => (∀ c : Dev Cert.PairAddWOIdeal.nD,
      r.2.mem ((c.tc : Thread Cert.PairAddWOIdeal.nD Cert.PairAddWOIdeal.τ).loc Cert.PairAddWOIdeal.main_arg0) = m ((c.tc : Thread Cert.PairAddWOIdeal.nD Cert.PairAddWOIdeal.τ).loc Cert.PairAddWOIdeal.main_arg0)
      ∧ r.2.mem ((c.tc : Thread Cert.PairAddWOIdeal.nD Cert.PairAddWOIdeal.τ).loc Cert.PairAddWOIdeal.main_arg1) = m ((c.tc : Thread Cert.PairAddWOIdeal.nD Cert.PairAddWOIdeal.τ).loc Cert.PairAddWOIdeal.main_arg1)
      ∧ r.2.mem ((c.tc : Thread Cert.PairAddWOIdeal.nD Cert.PairAddWOIdeal.τ).loc Cert.PairAddWOIdeal.main_arg2) = m ((c.tc : Thread Cert.PairAddWOIdeal.nD Cert.PairAddWOIdeal.τ).loc Cert.PairAddWOIdeal.main_arg2))
      ∧ r.2.sem = fun _ => 0)

def quiescent_PairAddWORefIdeal [hPairAddWORefIdeal : Cert.PairAddWORefIdeal.Facts] : Prop :=
  ∀ (m : (ℓ : Loc Cert.PairAddWORefIdeal.nD Cert.PairAddWORefIdeal.τ Cert.PairAddWORefIdeal.sig) → Buf (Elt Ideal) ℓ) (g : Dev Cert.PairAddWORefIdeal.nD → PrngReg), Pre_PairAddWORefIdeal m →
    θ_run (Cert.PairAddWORefIdeal.defs (F := Ideal)) (onTc (τ := Cert.PairAddWORefIdeal.τ) (Cert.PairAddWORefIdeal.main (F := Ideal))) ⟨m, fun _ => 0, g⟩ (fun r => (∀ c : Dev Cert.PairAddWORefIdeal.nD,
      r.2.mem ((c.tc : Thread Cert.PairAddWORefIdeal.nD Cert.PairAddWORefIdeal.τ).loc Cert.PairAddWORefIdeal.main_arg0) = m ((c.tc : Thread Cert.PairAddWORefIdeal.nD Cert.PairAddWORefIdeal.τ).loc Cert.PairAddWORefIdeal.main_arg0)
      ∧ r.2.mem ((c.tc : Thread Cert.PairAddWORefIdeal.nD Cert.PairAddWORefIdeal.τ).loc Cert.PairAddWORefIdeal.main_arg1) = m ((c.tc : Thread Cert.PairAddWORefIdeal.nD Cert.PairAddWORefIdeal.τ).loc Cert.PairAddWORefIdeal.main_arg1)
      ∧ r.2.mem ((c.tc : Thread Cert.PairAddWORefIdeal.nD Cert.PairAddWORefIdeal.τ).loc Cert.PairAddWORefIdeal.main_arg2) = m ((c.tc : Thread Cert.PairAddWORefIdeal.nD Cert.PairAddWORefIdeal.τ).loc Cert.PairAddWORefIdeal.main_arg2))
      ∧ r.2.sem = fun _ => 0)

def quiescent_PairAddWORefIdeal_pre_a_core_w_o [hPairAddWORefIdeal : Cert.PairAddWORefIdeal.Facts] [hPre_a_core_w_o : Cert.Pre_a_core_w_o.Facts] : Prop :=
  ∀ (m : (ℓ : Loc Cert.PairAddWORefIdeal.nD Cert.PairAddWORefIdeal.τ Cert.PairAddWORefIdeal.sig) → Buf (Elt Ideal) ℓ) (g : Dev Cert.PairAddWORefIdeal.nD → PrngReg), Pre_PairAddWORefIdeal_a_core_w_o m →
    θ_run (Cert.PairAddWORefIdeal.defs (F := Ideal)) (onTc (τ := Cert.PairAddWORefIdeal.τ) (Cert.PairAddWORefIdeal.main (F := Ideal))) ⟨m, fun _ => 0, g⟩ (fun r => (∀ c : Dev Cert.PairAddWORefIdeal.nD,
      r.2.mem ((c.tc : Thread Cert.PairAddWORefIdeal.nD Cert.PairAddWORefIdeal.τ).loc Cert.PairAddWORefIdeal.main_arg0) = m ((c.tc : Thread Cert.PairAddWORefIdeal.nD Cert.PairAddWORefIdeal.τ).loc Cert.PairAddWORefIdeal.main_arg0)
      ∧ r.2.mem ((c.tc : Thread Cert.PairAddWORefIdeal.nD Cert.PairAddWORefIdeal.τ).loc Cert.PairAddWORefIdeal.main_arg1) = m ((c.tc : Thread Cert.PairAddWORefIdeal.nD Cert.PairAddWORefIdeal.τ).loc Cert.PairAddWORefIdeal.main_arg1)
      ∧ r.2.mem ((c.tc : Thread Cert.PairAddWORefIdeal.nD Cert.PairAddWORefIdeal.τ).loc Cert.PairAddWORefIdeal.main_arg2) = m ((c.tc : Thread Cert.PairAddWORefIdeal.nD Cert.PairAddWORefIdeal.τ).loc Cert.PairAddWORefIdeal.main_arg2))
      ∧ r.2.sem = fun _ => 0)

def quiescent_PairAddWIn [hPairAddWIn : Cert.PairAddWIn.Facts] [hPre_a_core_w_in : Cert.Pre_a_core_w_in.Facts] : Prop :=
  ∀ (m : (ℓ : Loc Cert.PairAddWIn.nD Cert.PairAddWIn.τ Cert.PairAddWIn.sig) → Buf (Elt Bits) ℓ) (g : Dev Cert.PairAddWIn.nD → PrngReg), Pre_PairAddWIn m →
    θ_run (Cert.PairAddWIn.defs (F := Bits)) (onTc (τ := Cert.PairAddWIn.τ) (Cert.PairAddWIn.main (F := Bits))) ⟨m, fun _ => 0, g⟩ (fun r => (∀ c : Dev Cert.PairAddWIn.nD,
      r.2.mem ((c.tc : Thread Cert.PairAddWIn.nD Cert.PairAddWIn.τ).loc Cert.PairAddWIn.main_arg0) = m ((c.tc : Thread Cert.PairAddWIn.nD Cert.PairAddWIn.τ).loc Cert.PairAddWIn.main_arg0)
      ∧ r.2.mem ((c.tc : Thread Cert.PairAddWIn.nD Cert.PairAddWIn.τ).loc Cert.PairAddWIn.main_arg1) = m ((c.tc : Thread Cert.PairAddWIn.nD Cert.PairAddWIn.τ).loc Cert.PairAddWIn.main_arg1)
      ∧ r.2.mem ((c.tc : Thread Cert.PairAddWIn.nD Cert.PairAddWIn.τ).loc Cert.PairAddWIn.main_arg2) = m ((c.tc : Thread Cert.PairAddWIn.nD Cert.PairAddWIn.τ).loc Cert.PairAddWIn.main_arg2))
      ∧ r.2.sem = fun _ => 0)

def quiescent_PairAddWInIdeal [hPairAddWInIdeal : Cert.PairAddWInIdeal.Facts] [hPre_a_core_w_in : Cert.Pre_a_core_w_in.Facts] : Prop :=
  ∀ (m : (ℓ : Loc Cert.PairAddWInIdeal.nD Cert.PairAddWInIdeal.τ Cert.PairAddWInIdeal.sig) → Buf (Elt Ideal) ℓ) (g : Dev Cert.PairAddWInIdeal.nD → PrngReg), Pre_PairAddWInIdeal m →
    θ_run (Cert.PairAddWInIdeal.defs (F := Ideal)) (onTc (τ := Cert.PairAddWInIdeal.τ) (Cert.PairAddWInIdeal.main (F := Ideal))) ⟨m, fun _ => 0, g⟩ (fun r => (∀ c : Dev Cert.PairAddWInIdeal.nD,
      r.2.mem ((c.tc : Thread Cert.PairAddWInIdeal.nD Cert.PairAddWInIdeal.τ).loc Cert.PairAddWInIdeal.main_arg0) = m ((c.tc : Thread Cert.PairAddWInIdeal.nD Cert.PairAddWInIdeal.τ).loc Cert.PairAddWInIdeal.main_arg0)
      ∧ r.2.mem ((c.tc : Thread Cert.PairAddWInIdeal.nD Cert.PairAddWInIdeal.τ).loc Cert.PairAddWInIdeal.main_arg1) = m ((c.tc : Thread Cert.PairAddWInIdeal.nD Cert.PairAddWInIdeal.τ).loc Cert.PairAddWInIdeal.main_arg1)
      ∧ r.2.mem ((c.tc : Thread Cert.PairAddWInIdeal.nD Cert.PairAddWInIdeal.τ).loc Cert.PairAddWInIdeal.main_arg2) = m ((c.tc : Thread Cert.PairAddWInIdeal.nD Cert.PairAddWInIdeal.τ).loc Cert.PairAddWInIdeal.main_arg2))
      ∧ r.2.sem = fun _ => 0)

def quiescent_PairAddWInRefIdeal [hPairAddWInRefIdeal : Cert.PairAddWInRefIdeal.Facts] : Prop :=
  ∀ (m : (ℓ : Loc Cert.PairAddWInRefIdeal.nD Cert.PairAddWInRefIdeal.τ Cert.PairAddWInRefIdeal.sig) → Buf (Elt Ideal) ℓ) (g : Dev Cert.PairAddWInRefIdeal.nD → PrngReg), Pre_PairAddWInRefIdeal m →
    θ_run (Cert.PairAddWInRefIdeal.defs (F := Ideal)) (onTc (τ := Cert.PairAddWInRefIdeal.τ) (Cert.PairAddWInRefIdeal.main (F := Ideal))) ⟨m, fun _ => 0, g⟩ (fun r => (∀ c : Dev Cert.PairAddWInRefIdeal.nD,
      r.2.mem ((c.tc : Thread Cert.PairAddWInRefIdeal.nD Cert.PairAddWInRefIdeal.τ).loc Cert.PairAddWInRefIdeal.main_arg0) = m ((c.tc : Thread Cert.PairAddWInRefIdeal.nD Cert.PairAddWInRefIdeal.τ).loc Cert.PairAddWInRefIdeal.main_arg0)
      ∧ r.2.mem ((c.tc : Thread Cert.PairAddWInRefIdeal.nD Cert.PairAddWInRefIdeal.τ).loc Cert.PairAddWInRefIdeal.main_arg1) = m ((c.tc : Thread Cert.PairAddWInRefIdeal.nD Cert.PairAddWInRefIdeal.τ).loc Cert.PairAddWInRefIdeal.main_arg1)
      ∧ r.2.mem ((c.tc : Thread Cert.PairAddWInRefIdeal.nD Cert.PairAddWInRefIdeal.τ).loc Cert.PairAddWInRefIdeal.main_arg2) = m ((c.tc : Thread Cert.PairAddWInRefIdeal.nD Cert.PairAddWInRefIdeal.τ).loc Cert.PairAddWInRefIdeal.main_arg2))
      ∧ r.2.sem = fun _ => 0)

def quiescent_PairAddWInRefIdeal_pre_a_core_w_in [hPairAddWInRefIdeal : Cert.PairAddWInRefIdeal.Facts] [hPre_a_core_w_in : Cert.Pre_a_core_w_in.Facts] : Prop :=
  ∀ (m : (ℓ : Loc Cert.PairAddWInRefIdeal.nD Cert.PairAddWInRefIdeal.τ Cert.PairAddWInRefIdeal.sig) → Buf (Elt Ideal) ℓ) (g : Dev Cert.PairAddWInRefIdeal.nD → PrngReg), Pre_PairAddWInRefIdeal_a_core_w_in m →
    θ_run (Cert.PairAddWInRefIdeal.defs (F := Ideal)) (onTc (τ := Cert.PairAddWInRefIdeal.τ) (Cert.PairAddWInRefIdeal.main (F := Ideal))) ⟨m, fun _ => 0, g⟩ (fun r => (∀ c : Dev Cert.PairAddWInRefIdeal.nD,
      r.2.mem ((c.tc : Thread Cert.PairAddWInRefIdeal.nD Cert.PairAddWInRefIdeal.τ).loc Cert.PairAddWInRefIdeal.main_arg0) = m ((c.tc : Thread Cert.PairAddWInRefIdeal.nD Cert.PairAddWInRefIdeal.τ).loc Cert.PairAddWInRefIdeal.main_arg0)
      ∧ r.2.mem ((c.tc : Thread Cert.PairAddWInRefIdeal.nD Cert.PairAddWInRefIdeal.τ).loc Cert.PairAddWInRefIdeal.main_arg1) = m ((c.tc : Thread Cert.PairAddWInRefIdeal.nD Cert.PairAddWInRefIdeal.τ).loc Cert.PairAddWInRefIdeal.main_arg1)
      ∧ r.2.mem ((c.tc : Thread Cert.PairAddWInRefIdeal.nD Cert.PairAddWInRefIdeal.τ).loc Cert.PairAddWInRefIdeal.main_arg2) = m ((c.tc : Thread Cert.PairAddWInRefIdeal.nD Cert.PairAddWInRefIdeal.τ).loc Cert.PairAddWInRefIdeal.main_arg2))
      ∧ r.2.sem = fun _ => 0)

def quiescent_PlaceOwnWUp [hPlaceOwnWUp : Cert.PlaceOwnWUp.Facts] [hPre_a_chip_w_up : Cert.Pre_a_chip_w_up.Facts] : Prop :=
  ∀ (m : (ℓ : Loc Cert.PlaceOwnWUp.nD Cert.PlaceOwnWUp.τ Cert.PlaceOwnWUp.sig) → Buf (Elt Bits) ℓ) (g : Dev Cert.PlaceOwnWUp.nD → PrngReg), Pre_PlaceOwnWUp m →
    θ_run (Cert.PlaceOwnWUp.defs (F := Bits)) (onTc (τ := Cert.PlaceOwnWUp.τ) (Cert.PlaceOwnWUp.main (F := Bits))) ⟨m, fun _ => 0, g⟩ (fun r => (∀ c : Dev Cert.PlaceOwnWUp.nD,
      r.2.mem ((c.tc : Thread Cert.PlaceOwnWUp.nD Cert.PlaceOwnWUp.τ).loc Cert.PlaceOwnWUp.main_arg0) = m ((c.tc : Thread Cert.PlaceOwnWUp.nD Cert.PlaceOwnWUp.τ).loc Cert.PlaceOwnWUp.main_arg0)
      ∧ r.2.mem ((c.tc : Thread Cert.PlaceOwnWUp.nD Cert.PlaceOwnWUp.τ).loc Cert.PlaceOwnWUp.main_arg1) = m ((c.tc : Thread Cert.PlaceOwnWUp.nD Cert.PlaceOwnWUp.τ).loc Cert.PlaceOwnWUp.main_arg1)
      ∧ r.2.mem ((c.tc : Thread Cert.PlaceOwnWUp.nD Cert.PlaceOwnWUp.τ).loc Cert.PlaceOwnWUp.main_arg2) = m ((c.tc : Thread Cert.PlaceOwnWUp.nD Cert.PlaceOwnWUp.τ).loc Cert.PlaceOwnWUp.main_arg2))
      ∧ r.2.sem = fun _ => 0)

def quiescent_PlaceOwnWUpIdeal [hPlaceOwnWUpIdeal : Cert.PlaceOwnWUpIdeal.Facts] [hPre_a_chip_w_up : Cert.Pre_a_chip_w_up.Facts] : Prop :=
  ∀ (m : (ℓ : Loc Cert.PlaceOwnWUpIdeal.nD Cert.PlaceOwnWUpIdeal.τ Cert.PlaceOwnWUpIdeal.sig) → Buf (Elt Ideal) ℓ) (g : Dev Cert.PlaceOwnWUpIdeal.nD → PrngReg), Pre_PlaceOwnWUpIdeal m →
    θ_run (Cert.PlaceOwnWUpIdeal.defs (F := Ideal)) (onTc (τ := Cert.PlaceOwnWUpIdeal.τ) (Cert.PlaceOwnWUpIdeal.main (F := Ideal))) ⟨m, fun _ => 0, g⟩ (fun r => (∀ c : Dev Cert.PlaceOwnWUpIdeal.nD,
      r.2.mem ((c.tc : Thread Cert.PlaceOwnWUpIdeal.nD Cert.PlaceOwnWUpIdeal.τ).loc Cert.PlaceOwnWUpIdeal.main_arg0) = m ((c.tc : Thread Cert.PlaceOwnWUpIdeal.nD Cert.PlaceOwnWUpIdeal.τ).loc Cert.PlaceOwnWUpIdeal.main_arg0)
      ∧ r.2.mem ((c.tc : Thread Cert.PlaceOwnWUpIdeal.nD Cert.PlaceOwnWUpIdeal.τ).loc Cert.PlaceOwnWUpIdeal.main_arg1) = m ((c.tc : Thread Cert.PlaceOwnWUpIdeal.nD Cert.PlaceOwnWUpIdeal.τ).loc Cert.PlaceOwnWUpIdeal.main_arg1)
      ∧ r.2.mem ((c.tc : Thread Cert.PlaceOwnWUpIdeal.nD Cert.PlaceOwnWUpIdeal.τ).loc Cert.PlaceOwnWUpIdeal.main_arg2) = m ((c.tc : Thread Cert.PlaceOwnWUpIdeal.nD Cert.PlaceOwnWUpIdeal.τ).loc Cert.PlaceOwnWUpIdeal.main_arg2))
      ∧ r.2.sem = fun _ => 0)

def quiescent_PlaceOwnWUpRefIdeal [hPlaceOwnWUpRefIdeal : Cert.PlaceOwnWUpRefIdeal.Facts] : Prop :=
  ∀ (m : (ℓ : Loc Cert.PlaceOwnWUpRefIdeal.nD Cert.PlaceOwnWUpRefIdeal.τ Cert.PlaceOwnWUpRefIdeal.sig) → Buf (Elt Ideal) ℓ) (g : Dev Cert.PlaceOwnWUpRefIdeal.nD → PrngReg), Pre_PlaceOwnWUpRefIdeal m →
    θ_run (Cert.PlaceOwnWUpRefIdeal.defs (F := Ideal)) (onTc (τ := Cert.PlaceOwnWUpRefIdeal.τ) (Cert.PlaceOwnWUpRefIdeal.main (F := Ideal))) ⟨m, fun _ => 0, g⟩ (fun r => (∀ c : Dev Cert.PlaceOwnWUpRefIdeal.nD,
      r.2.mem ((c.tc : Thread Cert.PlaceOwnWUpRefIdeal.nD Cert.PlaceOwnWUpRefIdeal.τ).loc Cert.PlaceOwnWUpRefIdeal.main_arg0) = m ((c.tc : Thread Cert.PlaceOwnWUpRefIdeal.nD Cert.PlaceOwnWUpRefIdeal.τ).loc Cert.PlaceOwnWUpRefIdeal.main_arg0)
      ∧ r.2.mem ((c.tc : Thread Cert.PlaceOwnWUpRefIdeal.nD Cert.PlaceOwnWUpRefIdeal.τ).loc Cert.PlaceOwnWUpRefIdeal.main_arg1) = m ((c.tc : Thread Cert.PlaceOwnWUpRefIdeal.nD Cert.PlaceOwnWUpRefIdeal.τ).loc Cert.PlaceOwnWUpRefIdeal.main_arg1)
      ∧ r.2.mem ((c.tc : Thread Cert.PlaceOwnWUpRefIdeal.nD Cert.PlaceOwnWUpRefIdeal.τ).loc Cert.PlaceOwnWUpRefIdeal.main_arg2) = m ((c.tc : Thread Cert.PlaceOwnWUpRefIdeal.nD Cert.PlaceOwnWUpRefIdeal.τ).loc Cert.PlaceOwnWUpRefIdeal.main_arg2))
      ∧ r.2.sem = fun _ => 0)

def quiescent_PlaceOwnWUpRefIdeal_pre_a_chip_w_up [hPlaceOwnWUpRefIdeal : Cert.PlaceOwnWUpRefIdeal.Facts] [hPre_a_chip_w_up : Cert.Pre_a_chip_w_up.Facts] : Prop :=
  ∀ (m : (ℓ : Loc Cert.PlaceOwnWUpRefIdeal.nD Cert.PlaceOwnWUpRefIdeal.τ Cert.PlaceOwnWUpRefIdeal.sig) → Buf (Elt Ideal) ℓ) (g : Dev Cert.PlaceOwnWUpRefIdeal.nD → PrngReg), Pre_PlaceOwnWUpRefIdeal_a_chip_w_up m →
    θ_run (Cert.PlaceOwnWUpRefIdeal.defs (F := Ideal)) (onTc (τ := Cert.PlaceOwnWUpRefIdeal.τ) (Cert.PlaceOwnWUpRefIdeal.main (F := Ideal))) ⟨m, fun _ => 0, g⟩ (fun r => (∀ c : Dev Cert.PlaceOwnWUpRefIdeal.nD,
      r.2.mem ((c.tc : Thread Cert.PlaceOwnWUpRefIdeal.nD Cert.PlaceOwnWUpRefIdeal.τ).loc Cert.PlaceOwnWUpRefIdeal.main_arg0) = m ((c.tc : Thread Cert.PlaceOwnWUpRefIdeal.nD Cert.PlaceOwnWUpRefIdeal.τ).loc Cert.PlaceOwnWUpRefIdeal.main_arg0)
      ∧ r.2.mem ((c.tc : Thread Cert.PlaceOwnWUpRefIdeal.nD Cert.PlaceOwnWUpRefIdeal.τ).loc Cert.PlaceOwnWUpRefIdeal.main_arg1) = m ((c.tc : Thread Cert.PlaceOwnWUpRefIdeal.nD Cert.PlaceOwnWUpRefIdeal.τ).loc Cert.PlaceOwnWUpRefIdeal.main_arg1)
      ∧ r.2.mem ((c.tc : Thread Cert.PlaceOwnWUpRefIdeal.nD Cert.PlaceOwnWUpRefIdeal.τ).loc Cert.PlaceOwnWUpRefIdeal.main_arg2) = m ((c.tc : Thread Cert.PlaceOwnWUpRefIdeal.nD Cert.PlaceOwnWUpRefIdeal.τ).loc Cert.PlaceOwnWUpRefIdeal.main_arg2))
      ∧ r.2.sem = fun _ => 0)

def quiescent_PlaceOwnWDown [hPlaceOwnWDown : Cert.PlaceOwnWDown.Facts] [hPre_a_chip_w_down : Cert.Pre_a_chip_w_down.Facts] : Prop :=
  ∀ (m : (ℓ : Loc Cert.PlaceOwnWDown.nD Cert.PlaceOwnWDown.τ Cert.PlaceOwnWDown.sig) → Buf (Elt Bits) ℓ) (g : Dev Cert.PlaceOwnWDown.nD → PrngReg), Pre_PlaceOwnWDown m →
    θ_run (Cert.PlaceOwnWDown.defs (F := Bits)) (onTc (τ := Cert.PlaceOwnWDown.τ) (Cert.PlaceOwnWDown.main (F := Bits))) ⟨m, fun _ => 0, g⟩ (fun r => (∀ c : Dev Cert.PlaceOwnWDown.nD,
      r.2.mem ((c.tc : Thread Cert.PlaceOwnWDown.nD Cert.PlaceOwnWDown.τ).loc Cert.PlaceOwnWDown.main_arg0) = m ((c.tc : Thread Cert.PlaceOwnWDown.nD Cert.PlaceOwnWDown.τ).loc Cert.PlaceOwnWDown.main_arg0)
      ∧ r.2.mem ((c.tc : Thread Cert.PlaceOwnWDown.nD Cert.PlaceOwnWDown.τ).loc Cert.PlaceOwnWDown.main_arg1) = m ((c.tc : Thread Cert.PlaceOwnWDown.nD Cert.PlaceOwnWDown.τ).loc Cert.PlaceOwnWDown.main_arg1)
      ∧ r.2.mem ((c.tc : Thread Cert.PlaceOwnWDown.nD Cert.PlaceOwnWDown.τ).loc Cert.PlaceOwnWDown.main_arg2) = m ((c.tc : Thread Cert.PlaceOwnWDown.nD Cert.PlaceOwnWDown.τ).loc Cert.PlaceOwnWDown.main_arg2))
      ∧ r.2.sem = fun _ => 0)

def quiescent_PlaceOwnWDownIdeal [hPlaceOwnWDownIdeal : Cert.PlaceOwnWDownIdeal.Facts] [hPre_a_chip_w_down : Cert.Pre_a_chip_w_down.Facts] : Prop :=
  ∀ (m : (ℓ : Loc Cert.PlaceOwnWDownIdeal.nD Cert.PlaceOwnWDownIdeal.τ Cert.PlaceOwnWDownIdeal.sig) → Buf (Elt Ideal) ℓ) (g : Dev Cert.PlaceOwnWDownIdeal.nD → PrngReg), Pre_PlaceOwnWDownIdeal m →
    θ_run (Cert.PlaceOwnWDownIdeal.defs (F := Ideal)) (onTc (τ := Cert.PlaceOwnWDownIdeal.τ) (Cert.PlaceOwnWDownIdeal.main (F := Ideal))) ⟨m, fun _ => 0, g⟩ (fun r => (∀ c : Dev Cert.PlaceOwnWDownIdeal.nD,
      r.2.mem ((c.tc : Thread Cert.PlaceOwnWDownIdeal.nD Cert.PlaceOwnWDownIdeal.τ).loc Cert.PlaceOwnWDownIdeal.main_arg0) = m ((c.tc : Thread Cert.PlaceOwnWDownIdeal.nD Cert.PlaceOwnWDownIdeal.τ).loc Cert.PlaceOwnWDownIdeal.main_arg0)
      ∧ r.2.mem ((c.tc : Thread Cert.PlaceOwnWDownIdeal.nD Cert.PlaceOwnWDownIdeal.τ).loc Cert.PlaceOwnWDownIdeal.main_arg1) = m ((c.tc : Thread Cert.PlaceOwnWDownIdeal.nD Cert.PlaceOwnWDownIdeal.τ).loc Cert.PlaceOwnWDownIdeal.main_arg1)
      ∧ r.2.mem ((c.tc : Thread Cert.PlaceOwnWDownIdeal.nD Cert.PlaceOwnWDownIdeal.τ).loc Cert.PlaceOwnWDownIdeal.main_arg2) = m ((c.tc : Thread Cert.PlaceOwnWDownIdeal.nD Cert.PlaceOwnWDownIdeal.τ).loc Cert.PlaceOwnWDownIdeal.main_arg2))
      ∧ r.2.sem = fun _ => 0)

def quiescent_PlaceOwnWDownRefIdeal [hPlaceOwnWDownRefIdeal : Cert.PlaceOwnWDownRefIdeal.Facts] : Prop :=
  ∀ (m : (ℓ : Loc Cert.PlaceOwnWDownRefIdeal.nD Cert.PlaceOwnWDownRefIdeal.τ Cert.PlaceOwnWDownRefIdeal.sig) → Buf (Elt Ideal) ℓ) (g : Dev Cert.PlaceOwnWDownRefIdeal.nD → PrngReg), Pre_PlaceOwnWDownRefIdeal m →
    θ_run (Cert.PlaceOwnWDownRefIdeal.defs (F := Ideal)) (onTc (τ := Cert.PlaceOwnWDownRefIdeal.τ) (Cert.PlaceOwnWDownRefIdeal.main (F := Ideal))) ⟨m, fun _ => 0, g⟩ (fun r => (∀ c : Dev Cert.PlaceOwnWDownRefIdeal.nD,
      r.2.mem ((c.tc : Thread Cert.PlaceOwnWDownRefIdeal.nD Cert.PlaceOwnWDownRefIdeal.τ).loc Cert.PlaceOwnWDownRefIdeal.main_arg0) = m ((c.tc : Thread Cert.PlaceOwnWDownRefIdeal.nD Cert.PlaceOwnWDownRefIdeal.τ).loc Cert.PlaceOwnWDownRefIdeal.main_arg0)
      ∧ r.2.mem ((c.tc : Thread Cert.PlaceOwnWDownRefIdeal.nD Cert.PlaceOwnWDownRefIdeal.τ).loc Cert.PlaceOwnWDownRefIdeal.main_arg1) = m ((c.tc : Thread Cert.PlaceOwnWDownRefIdeal.nD Cert.PlaceOwnWDownRefIdeal.τ).loc Cert.PlaceOwnWDownRefIdeal.main_arg1)
      ∧ r.2.mem ((c.tc : Thread Cert.PlaceOwnWDownRefIdeal.nD Cert.PlaceOwnWDownRefIdeal.τ).loc Cert.PlaceOwnWDownRefIdeal.main_arg2) = m ((c.tc : Thread Cert.PlaceOwnWDownRefIdeal.nD Cert.PlaceOwnWDownRefIdeal.τ).loc Cert.PlaceOwnWDownRefIdeal.main_arg2))
      ∧ r.2.sem = fun _ => 0)

def quiescent_PlaceOwnWDownRefIdeal_pre_a_chip_w_down [hPlaceOwnWDownRefIdeal : Cert.PlaceOwnWDownRefIdeal.Facts] [hPre_a_chip_w_down : Cert.Pre_a_chip_w_down.Facts] : Prop :=
  ∀ (m : (ℓ : Loc Cert.PlaceOwnWDownRefIdeal.nD Cert.PlaceOwnWDownRefIdeal.τ Cert.PlaceOwnWDownRefIdeal.sig) → Buf (Elt Ideal) ℓ) (g : Dev Cert.PlaceOwnWDownRefIdeal.nD → PrngReg), Pre_PlaceOwnWDownRefIdeal_a_chip_w_down m →
    θ_run (Cert.PlaceOwnWDownRefIdeal.defs (F := Ideal)) (onTc (τ := Cert.PlaceOwnWDownRefIdeal.τ) (Cert.PlaceOwnWDownRefIdeal.main (F := Ideal))) ⟨m, fun _ => 0, g⟩ (fun r => (∀ c : Dev Cert.PlaceOwnWDownRefIdeal.nD,
      r.2.mem ((c.tc : Thread Cert.PlaceOwnWDownRefIdeal.nD Cert.PlaceOwnWDownRefIdeal.τ).loc Cert.PlaceOwnWDownRefIdeal.main_arg0) = m ((c.tc : Thread Cert.PlaceOwnWDownRefIdeal.nD Cert.PlaceOwnWDownRefIdeal.τ).loc Cert.PlaceOwnWDownRefIdeal.main_arg0)
      ∧ r.2.mem ((c.tc : Thread Cert.PlaceOwnWDownRefIdeal.nD Cert.PlaceOwnWDownRefIdeal.τ).loc Cert.PlaceOwnWDownRefIdeal.main_arg1) = m ((c.tc : Thread Cert.PlaceOwnWDownRefIdeal.nD Cert.PlaceOwnWDownRefIdeal.τ).loc Cert.PlaceOwnWDownRefIdeal.main_arg1)
      ∧ r.2.mem ((c.tc : Thread Cert.PlaceOwnWDownRefIdeal.nD Cert.PlaceOwnWDownRefIdeal.τ).loc Cert.PlaceOwnWDownRefIdeal.main_arg2) = m ((c.tc : Thread Cert.PlaceOwnWDownRefIdeal.nD Cert.PlaceOwnWDownRefIdeal.τ).loc Cert.PlaceOwnWDownRefIdeal.main_arg2))
      ∧ r.2.sem = fun _ => 0)

def quiescent_PlaceOwnWO [hPlaceOwnWO : Cert.PlaceOwnWO.Facts] [hPre_a_chip_w_o : Cert.Pre_a_chip_w_o.Facts] : Prop :=
  ∀ (m : (ℓ : Loc Cert.PlaceOwnWO.nD Cert.PlaceOwnWO.τ Cert.PlaceOwnWO.sig) → Buf (Elt Bits) ℓ) (g : Dev Cert.PlaceOwnWO.nD → PrngReg), Pre_PlaceOwnWO m →
    θ_run (Cert.PlaceOwnWO.defs (F := Bits)) (onTc (τ := Cert.PlaceOwnWO.τ) (Cert.PlaceOwnWO.main (F := Bits))) ⟨m, fun _ => 0, g⟩ (fun r => (∀ c : Dev Cert.PlaceOwnWO.nD,
      r.2.mem ((c.tc : Thread Cert.PlaceOwnWO.nD Cert.PlaceOwnWO.τ).loc Cert.PlaceOwnWO.main_arg0) = m ((c.tc : Thread Cert.PlaceOwnWO.nD Cert.PlaceOwnWO.τ).loc Cert.PlaceOwnWO.main_arg0)
      ∧ r.2.mem ((c.tc : Thread Cert.PlaceOwnWO.nD Cert.PlaceOwnWO.τ).loc Cert.PlaceOwnWO.main_arg1) = m ((c.tc : Thread Cert.PlaceOwnWO.nD Cert.PlaceOwnWO.τ).loc Cert.PlaceOwnWO.main_arg1)
      ∧ r.2.mem ((c.tc : Thread Cert.PlaceOwnWO.nD Cert.PlaceOwnWO.τ).loc Cert.PlaceOwnWO.main_arg2) = m ((c.tc : Thread Cert.PlaceOwnWO.nD Cert.PlaceOwnWO.τ).loc Cert.PlaceOwnWO.main_arg2))
      ∧ r.2.sem = fun _ => 0)

def quiescent_PlaceOwnWOIdeal [hPlaceOwnWOIdeal : Cert.PlaceOwnWOIdeal.Facts] [hPre_a_chip_w_o : Cert.Pre_a_chip_w_o.Facts] : Prop :=
  ∀ (m : (ℓ : Loc Cert.PlaceOwnWOIdeal.nD Cert.PlaceOwnWOIdeal.τ Cert.PlaceOwnWOIdeal.sig) → Buf (Elt Ideal) ℓ) (g : Dev Cert.PlaceOwnWOIdeal.nD → PrngReg), Pre_PlaceOwnWOIdeal m →
    θ_run (Cert.PlaceOwnWOIdeal.defs (F := Ideal)) (onTc (τ := Cert.PlaceOwnWOIdeal.τ) (Cert.PlaceOwnWOIdeal.main (F := Ideal))) ⟨m, fun _ => 0, g⟩ (fun r => (∀ c : Dev Cert.PlaceOwnWOIdeal.nD,
      r.2.mem ((c.tc : Thread Cert.PlaceOwnWOIdeal.nD Cert.PlaceOwnWOIdeal.τ).loc Cert.PlaceOwnWOIdeal.main_arg0) = m ((c.tc : Thread Cert.PlaceOwnWOIdeal.nD Cert.PlaceOwnWOIdeal.τ).loc Cert.PlaceOwnWOIdeal.main_arg0)
      ∧ r.2.mem ((c.tc : Thread Cert.PlaceOwnWOIdeal.nD Cert.PlaceOwnWOIdeal.τ).loc Cert.PlaceOwnWOIdeal.main_arg1) = m ((c.tc : Thread Cert.PlaceOwnWOIdeal.nD Cert.PlaceOwnWOIdeal.τ).loc Cert.PlaceOwnWOIdeal.main_arg1)
      ∧ r.2.mem ((c.tc : Thread Cert.PlaceOwnWOIdeal.nD Cert.PlaceOwnWOIdeal.τ).loc Cert.PlaceOwnWOIdeal.main_arg2) = m ((c.tc : Thread Cert.PlaceOwnWOIdeal.nD Cert.PlaceOwnWOIdeal.τ).loc Cert.PlaceOwnWOIdeal.main_arg2))
      ∧ r.2.sem = fun _ => 0)

def quiescent_PlaceOwnWORefIdeal [hPlaceOwnWORefIdeal : Cert.PlaceOwnWORefIdeal.Facts] : Prop :=
  ∀ (m : (ℓ : Loc Cert.PlaceOwnWORefIdeal.nD Cert.PlaceOwnWORefIdeal.τ Cert.PlaceOwnWORefIdeal.sig) → Buf (Elt Ideal) ℓ) (g : Dev Cert.PlaceOwnWORefIdeal.nD → PrngReg), Pre_PlaceOwnWORefIdeal m →
    θ_run (Cert.PlaceOwnWORefIdeal.defs (F := Ideal)) (onTc (τ := Cert.PlaceOwnWORefIdeal.τ) (Cert.PlaceOwnWORefIdeal.main (F := Ideal))) ⟨m, fun _ => 0, g⟩ (fun r => (∀ c : Dev Cert.PlaceOwnWORefIdeal.nD,
      r.2.mem ((c.tc : Thread Cert.PlaceOwnWORefIdeal.nD Cert.PlaceOwnWORefIdeal.τ).loc Cert.PlaceOwnWORefIdeal.main_arg0) = m ((c.tc : Thread Cert.PlaceOwnWORefIdeal.nD Cert.PlaceOwnWORefIdeal.τ).loc Cert.PlaceOwnWORefIdeal.main_arg0)
      ∧ r.2.mem ((c.tc : Thread Cert.PlaceOwnWORefIdeal.nD Cert.PlaceOwnWORefIdeal.τ).loc Cert.PlaceOwnWORefIdeal.main_arg1) = m ((c.tc : Thread Cert.PlaceOwnWORefIdeal.nD Cert.PlaceOwnWORefIdeal.τ).loc Cert.PlaceOwnWORefIdeal.main_arg1)
      ∧ r.2.mem ((c.tc : Thread Cert.PlaceOwnWORefIdeal.nD Cert.PlaceOwnWORefIdeal.τ).loc Cert.PlaceOwnWORefIdeal.main_arg2) = m ((c.tc : Thread Cert.PlaceOwnWORefIdeal.nD Cert.PlaceOwnWORefIdeal.τ).loc Cert.PlaceOwnWORefIdeal.main_arg2))
      ∧ r.2.sem = fun _ => 0)

def quiescent_PlaceOwnWORefIdeal_pre_a_chip_w_o [hPlaceOwnWORefIdeal : Cert.PlaceOwnWORefIdeal.Facts] [hPre_a_chip_w_o : Cert.Pre_a_chip_w_o.Facts] : Prop :=
  ∀ (m : (ℓ : Loc Cert.PlaceOwnWORefIdeal.nD Cert.PlaceOwnWORefIdeal.τ Cert.PlaceOwnWORefIdeal.sig) → Buf (Elt Ideal) ℓ) (g : Dev Cert.PlaceOwnWORefIdeal.nD → PrngReg), Pre_PlaceOwnWORefIdeal_a_chip_w_o m →
    θ_run (Cert.PlaceOwnWORefIdeal.defs (F := Ideal)) (onTc (τ := Cert.PlaceOwnWORefIdeal.τ) (Cert.PlaceOwnWORefIdeal.main (F := Ideal))) ⟨m, fun _ => 0, g⟩ (fun r => (∀ c : Dev Cert.PlaceOwnWORefIdeal.nD,
      r.2.mem ((c.tc : Thread Cert.PlaceOwnWORefIdeal.nD Cert.PlaceOwnWORefIdeal.τ).loc Cert.PlaceOwnWORefIdeal.main_arg0) = m ((c.tc : Thread Cert.PlaceOwnWORefIdeal.nD Cert.PlaceOwnWORefIdeal.τ).loc Cert.PlaceOwnWORefIdeal.main_arg0)
      ∧ r.2.mem ((c.tc : Thread Cert.PlaceOwnWORefIdeal.nD Cert.PlaceOwnWORefIdeal.τ).loc Cert.PlaceOwnWORefIdeal.main_arg1) = m ((c.tc : Thread Cert.PlaceOwnWORefIdeal.nD Cert.PlaceOwnWORefIdeal.τ).loc Cert.PlaceOwnWORefIdeal.main_arg1)
      ∧ r.2.mem ((c.tc : Thread Cert.PlaceOwnWORefIdeal.nD Cert.PlaceOwnWORefIdeal.τ).loc Cert.PlaceOwnWORefIdeal.main_arg2) = m ((c.tc : Thread Cert.PlaceOwnWORefIdeal.nD Cert.PlaceOwnWORefIdeal.τ).loc Cert.PlaceOwnWORefIdeal.main_arg2))
      ∧ r.2.sem = fun _ => 0)

def quiescent_PlaceOwnWIn [hPlaceOwnWIn : Cert.PlaceOwnWIn.Facts] [hPre_a_chip_w_in : Cert.Pre_a_chip_w_in.Facts] : Prop :=
  ∀ (m : (ℓ : Loc Cert.PlaceOwnWIn.nD Cert.PlaceOwnWIn.τ Cert.PlaceOwnWIn.sig) → Buf (Elt Bits) ℓ) (g : Dev Cert.PlaceOwnWIn.nD → PrngReg), Pre_PlaceOwnWIn m →
    θ_run (Cert.PlaceOwnWIn.defs (F := Bits)) (onTc (τ := Cert.PlaceOwnWIn.τ) (Cert.PlaceOwnWIn.main (F := Bits))) ⟨m, fun _ => 0, g⟩ (fun r => (∀ c : Dev Cert.PlaceOwnWIn.nD,
      r.2.mem ((c.tc : Thread Cert.PlaceOwnWIn.nD Cert.PlaceOwnWIn.τ).loc Cert.PlaceOwnWIn.main_arg0) = m ((c.tc : Thread Cert.PlaceOwnWIn.nD Cert.PlaceOwnWIn.τ).loc Cert.PlaceOwnWIn.main_arg0)
      ∧ r.2.mem ((c.tc : Thread Cert.PlaceOwnWIn.nD Cert.PlaceOwnWIn.τ).loc Cert.PlaceOwnWIn.main_arg1) = m ((c.tc : Thread Cert.PlaceOwnWIn.nD Cert.PlaceOwnWIn.τ).loc Cert.PlaceOwnWIn.main_arg1)
      ∧ r.2.mem ((c.tc : Thread Cert.PlaceOwnWIn.nD Cert.PlaceOwnWIn.τ).loc Cert.PlaceOwnWIn.main_arg2) = m ((c.tc : Thread Cert.PlaceOwnWIn.nD Cert.PlaceOwnWIn.τ).loc Cert.PlaceOwnWIn.main_arg2))
      ∧ r.2.sem = fun _ => 0)

def quiescent_PlaceOwnWInIdeal [hPlaceOwnWInIdeal : Cert.PlaceOwnWInIdeal.Facts] [hPre_a_chip_w_in : Cert.Pre_a_chip_w_in.Facts] : Prop :=
  ∀ (m : (ℓ : Loc Cert.PlaceOwnWInIdeal.nD Cert.PlaceOwnWInIdeal.τ Cert.PlaceOwnWInIdeal.sig) → Buf (Elt Ideal) ℓ) (g : Dev Cert.PlaceOwnWInIdeal.nD → PrngReg), Pre_PlaceOwnWInIdeal m →
    θ_run (Cert.PlaceOwnWInIdeal.defs (F := Ideal)) (onTc (τ := Cert.PlaceOwnWInIdeal.τ) (Cert.PlaceOwnWInIdeal.main (F := Ideal))) ⟨m, fun _ => 0, g⟩ (fun r => (∀ c : Dev Cert.PlaceOwnWInIdeal.nD,
      r.2.mem ((c.tc : Thread Cert.PlaceOwnWInIdeal.nD Cert.PlaceOwnWInIdeal.τ).loc Cert.PlaceOwnWInIdeal.main_arg0) = m ((c.tc : Thread Cert.PlaceOwnWInIdeal.nD Cert.PlaceOwnWInIdeal.τ).loc Cert.PlaceOwnWInIdeal.main_arg0)
      ∧ r.2.mem ((c.tc : Thread Cert.PlaceOwnWInIdeal.nD Cert.PlaceOwnWInIdeal.τ).loc Cert.PlaceOwnWInIdeal.main_arg1) = m ((c.tc : Thread Cert.PlaceOwnWInIdeal.nD Cert.PlaceOwnWInIdeal.τ).loc Cert.PlaceOwnWInIdeal.main_arg1)
      ∧ r.2.mem ((c.tc : Thread Cert.PlaceOwnWInIdeal.nD Cert.PlaceOwnWInIdeal.τ).loc Cert.PlaceOwnWInIdeal.main_arg2) = m ((c.tc : Thread Cert.PlaceOwnWInIdeal.nD Cert.PlaceOwnWInIdeal.τ).loc Cert.PlaceOwnWInIdeal.main_arg2))
      ∧ r.2.sem = fun _ => 0)

def quiescent_PlaceOwnWInRefIdeal [hPlaceOwnWInRefIdeal : Cert.PlaceOwnWInRefIdeal.Facts] : Prop :=
  ∀ (m : (ℓ : Loc Cert.PlaceOwnWInRefIdeal.nD Cert.PlaceOwnWInRefIdeal.τ Cert.PlaceOwnWInRefIdeal.sig) → Buf (Elt Ideal) ℓ) (g : Dev Cert.PlaceOwnWInRefIdeal.nD → PrngReg), Pre_PlaceOwnWInRefIdeal m →
    θ_run (Cert.PlaceOwnWInRefIdeal.defs (F := Ideal)) (onTc (τ := Cert.PlaceOwnWInRefIdeal.τ) (Cert.PlaceOwnWInRefIdeal.main (F := Ideal))) ⟨m, fun _ => 0, g⟩ (fun r => (∀ c : Dev Cert.PlaceOwnWInRefIdeal.nD,
      r.2.mem ((c.tc : Thread Cert.PlaceOwnWInRefIdeal.nD Cert.PlaceOwnWInRefIdeal.τ).loc Cert.PlaceOwnWInRefIdeal.main_arg0) = m ((c.tc : Thread Cert.PlaceOwnWInRefIdeal.nD Cert.PlaceOwnWInRefIdeal.τ).loc Cert.PlaceOwnWInRefIdeal.main_arg0)
      ∧ r.2.mem ((c.tc : Thread Cert.PlaceOwnWInRefIdeal.nD Cert.PlaceOwnWInRefIdeal.τ).loc Cert.PlaceOwnWInRefIdeal.main_arg1) = m ((c.tc : Thread Cert.PlaceOwnWInRefIdeal.nD Cert.PlaceOwnWInRefIdeal.τ).loc Cert.PlaceOwnWInRefIdeal.main_arg1)
      ∧ r.2.mem ((c.tc : Thread Cert.PlaceOwnWInRefIdeal.nD Cert.PlaceOwnWInRefIdeal.τ).loc Cert.PlaceOwnWInRefIdeal.main_arg2) = m ((c.tc : Thread Cert.PlaceOwnWInRefIdeal.nD Cert.PlaceOwnWInRefIdeal.τ).loc Cert.PlaceOwnWInRefIdeal.main_arg2))
      ∧ r.2.sem = fun _ => 0)

def quiescent_PlaceOwnWInRefIdeal_pre_a_chip_w_in [hPlaceOwnWInRefIdeal : Cert.PlaceOwnWInRefIdeal.Facts] [hPre_a_chip_w_in : Cert.Pre_a_chip_w_in.Facts] : Prop :=
  ∀ (m : (ℓ : Loc Cert.PlaceOwnWInRefIdeal.nD Cert.PlaceOwnWInRefIdeal.τ Cert.PlaceOwnWInRefIdeal.sig) → Buf (Elt Ideal) ℓ) (g : Dev Cert.PlaceOwnWInRefIdeal.nD → PrngReg), Pre_PlaceOwnWInRefIdeal_a_chip_w_in m →
    θ_run (Cert.PlaceOwnWInRefIdeal.defs (F := Ideal)) (onTc (τ := Cert.PlaceOwnWInRefIdeal.τ) (Cert.PlaceOwnWInRefIdeal.main (F := Ideal))) ⟨m, fun _ => 0, g⟩ (fun r => (∀ c : Dev Cert.PlaceOwnWInRefIdeal.nD,
      r.2.mem ((c.tc : Thread Cert.PlaceOwnWInRefIdeal.nD Cert.PlaceOwnWInRefIdeal.τ).loc Cert.PlaceOwnWInRefIdeal.main_arg0) = m ((c.tc : Thread Cert.PlaceOwnWInRefIdeal.nD Cert.PlaceOwnWInRefIdeal.τ).loc Cert.PlaceOwnWInRefIdeal.main_arg0)
      ∧ r.2.mem ((c.tc : Thread Cert.PlaceOwnWInRefIdeal.nD Cert.PlaceOwnWInRefIdeal.τ).loc Cert.PlaceOwnWInRefIdeal.main_arg1) = m ((c.tc : Thread Cert.PlaceOwnWInRefIdeal.nD Cert.PlaceOwnWInRefIdeal.τ).loc Cert.PlaceOwnWInRefIdeal.main_arg1)
      ∧ r.2.mem ((c.tc : Thread Cert.PlaceOwnWInRefIdeal.nD Cert.PlaceOwnWInRefIdeal.τ).loc Cert.PlaceOwnWInRefIdeal.main_arg2) = m ((c.tc : Thread Cert.PlaceOwnWInRefIdeal.nD Cert.PlaceOwnWInRefIdeal.τ).loc Cert.PlaceOwnWInRefIdeal.main_arg2))
      ∧ r.2.sem = fun _ => 0)

def quiescent_ChipAddWUp [hChipAddWUp : Cert.ChipAddWUp.Facts] [hPre_a_place_w_up : Cert.Pre_a_place_w_up.Facts] : Prop :=
  ∀ (m : (ℓ : Loc Cert.ChipAddWUp.nD Cert.ChipAddWUp.τ Cert.ChipAddWUp.sig) → Buf (Elt Bits) ℓ) (g : Dev Cert.ChipAddWUp.nD → PrngReg), Pre_ChipAddWUp m →
    θ_run (Cert.ChipAddWUp.defs (F := Bits)) (onTc (τ := Cert.ChipAddWUp.τ) (Cert.ChipAddWUp.main (F := Bits))) ⟨m, fun _ => 0, g⟩ (fun r => (∀ c : Dev Cert.ChipAddWUp.nD,
      r.2.mem ((c.tc : Thread Cert.ChipAddWUp.nD Cert.ChipAddWUp.τ).loc Cert.ChipAddWUp.main_arg0) = m ((c.tc : Thread Cert.ChipAddWUp.nD Cert.ChipAddWUp.τ).loc Cert.ChipAddWUp.main_arg0)
      ∧ r.2.mem ((c.tc : Thread Cert.ChipAddWUp.nD Cert.ChipAddWUp.τ).loc Cert.ChipAddWUp.main_arg1) = m ((c.tc : Thread Cert.ChipAddWUp.nD Cert.ChipAddWUp.τ).loc Cert.ChipAddWUp.main_arg1)
      ∧ r.2.mem ((c.tc : Thread Cert.ChipAddWUp.nD Cert.ChipAddWUp.τ).loc Cert.ChipAddWUp.main_arg2) = m ((c.tc : Thread Cert.ChipAddWUp.nD Cert.ChipAddWUp.τ).loc Cert.ChipAddWUp.main_arg2)
      ∧ r.2.mem ((c.tc : Thread Cert.ChipAddWUp.nD Cert.ChipAddWUp.τ).loc Cert.ChipAddWUp.main_arg3) = m ((c.tc : Thread Cert.ChipAddWUp.nD Cert.ChipAddWUp.τ).loc Cert.ChipAddWUp.main_arg3))
      ∧ r.2.sem = fun _ => 0)

def quiescent_ChipAddWUpIdeal [hChipAddWUpIdeal : Cert.ChipAddWUpIdeal.Facts] [hPre_a_place_w_up : Cert.Pre_a_place_w_up.Facts] : Prop :=
  ∀ (m : (ℓ : Loc Cert.ChipAddWUpIdeal.nD Cert.ChipAddWUpIdeal.τ Cert.ChipAddWUpIdeal.sig) → Buf (Elt Ideal) ℓ) (g : Dev Cert.ChipAddWUpIdeal.nD → PrngReg), Pre_ChipAddWUpIdeal m →
    θ_run (Cert.ChipAddWUpIdeal.defs (F := Ideal)) (onTc (τ := Cert.ChipAddWUpIdeal.τ) (Cert.ChipAddWUpIdeal.main (F := Ideal))) ⟨m, fun _ => 0, g⟩ (fun r => (∀ c : Dev Cert.ChipAddWUpIdeal.nD,
      r.2.mem ((c.tc : Thread Cert.ChipAddWUpIdeal.nD Cert.ChipAddWUpIdeal.τ).loc Cert.ChipAddWUpIdeal.main_arg0) = m ((c.tc : Thread Cert.ChipAddWUpIdeal.nD Cert.ChipAddWUpIdeal.τ).loc Cert.ChipAddWUpIdeal.main_arg0)
      ∧ r.2.mem ((c.tc : Thread Cert.ChipAddWUpIdeal.nD Cert.ChipAddWUpIdeal.τ).loc Cert.ChipAddWUpIdeal.main_arg1) = m ((c.tc : Thread Cert.ChipAddWUpIdeal.nD Cert.ChipAddWUpIdeal.τ).loc Cert.ChipAddWUpIdeal.main_arg1)
      ∧ r.2.mem ((c.tc : Thread Cert.ChipAddWUpIdeal.nD Cert.ChipAddWUpIdeal.τ).loc Cert.ChipAddWUpIdeal.main_arg2) = m ((c.tc : Thread Cert.ChipAddWUpIdeal.nD Cert.ChipAddWUpIdeal.τ).loc Cert.ChipAddWUpIdeal.main_arg2)
      ∧ r.2.mem ((c.tc : Thread Cert.ChipAddWUpIdeal.nD Cert.ChipAddWUpIdeal.τ).loc Cert.ChipAddWUpIdeal.main_arg3) = m ((c.tc : Thread Cert.ChipAddWUpIdeal.nD Cert.ChipAddWUpIdeal.τ).loc Cert.ChipAddWUpIdeal.main_arg3))
      ∧ r.2.sem = fun _ => 0)

def quiescent_ChipAddWUpRefIdeal [hChipAddWUpRefIdeal : Cert.ChipAddWUpRefIdeal.Facts] : Prop :=
  ∀ (m : (ℓ : Loc Cert.ChipAddWUpRefIdeal.nD Cert.ChipAddWUpRefIdeal.τ Cert.ChipAddWUpRefIdeal.sig) → Buf (Elt Ideal) ℓ) (g : Dev Cert.ChipAddWUpRefIdeal.nD → PrngReg), Pre_ChipAddWUpRefIdeal m →
    θ_run (Cert.ChipAddWUpRefIdeal.defs (F := Ideal)) (onTc (τ := Cert.ChipAddWUpRefIdeal.τ) (Cert.ChipAddWUpRefIdeal.main (F := Ideal))) ⟨m, fun _ => 0, g⟩ (fun r => (∀ c : Dev Cert.ChipAddWUpRefIdeal.nD,
      r.2.mem ((c.tc : Thread Cert.ChipAddWUpRefIdeal.nD Cert.ChipAddWUpRefIdeal.τ).loc Cert.ChipAddWUpRefIdeal.main_arg0) = m ((c.tc : Thread Cert.ChipAddWUpRefIdeal.nD Cert.ChipAddWUpRefIdeal.τ).loc Cert.ChipAddWUpRefIdeal.main_arg0)
      ∧ r.2.mem ((c.tc : Thread Cert.ChipAddWUpRefIdeal.nD Cert.ChipAddWUpRefIdeal.τ).loc Cert.ChipAddWUpRefIdeal.main_arg1) = m ((c.tc : Thread Cert.ChipAddWUpRefIdeal.nD Cert.ChipAddWUpRefIdeal.τ).loc Cert.ChipAddWUpRefIdeal.main_arg1)
      ∧ r.2.mem ((c.tc : Thread Cert.ChipAddWUpRefIdeal.nD Cert.ChipAddWUpRefIdeal.τ).loc Cert.ChipAddWUpRefIdeal.main_arg2) = m ((c.tc : Thread Cert.ChipAddWUpRefIdeal.nD Cert.ChipAddWUpRefIdeal.τ).loc Cert.ChipAddWUpRefIdeal.main_arg2)
      ∧ r.2.mem ((c.tc : Thread Cert.ChipAddWUpRefIdeal.nD Cert.ChipAddWUpRefIdeal.τ).loc Cert.ChipAddWUpRefIdeal.main_arg3) = m ((c.tc : Thread Cert.ChipAddWUpRefIdeal.nD Cert.ChipAddWUpRefIdeal.τ).loc Cert.ChipAddWUpRefIdeal.main_arg3))
      ∧ r.2.sem = fun _ => 0)

def quiescent_ChipAddWUpRefIdeal_pre_a_place_w_up [hChipAddWUpRefIdeal : Cert.ChipAddWUpRefIdeal.Facts] [hPre_a_place_w_up : Cert.Pre_a_place_w_up.Facts] : Prop :=
  ∀ (m : (ℓ : Loc Cert.ChipAddWUpRefIdeal.nD Cert.ChipAddWUpRefIdeal.τ Cert.ChipAddWUpRefIdeal.sig) → Buf (Elt Ideal) ℓ) (g : Dev Cert.ChipAddWUpRefIdeal.nD → PrngReg), Pre_ChipAddWUpRefIdeal_a_place_w_up m →
    θ_run (Cert.ChipAddWUpRefIdeal.defs (F := Ideal)) (onTc (τ := Cert.ChipAddWUpRefIdeal.τ) (Cert.ChipAddWUpRefIdeal.main (F := Ideal))) ⟨m, fun _ => 0, g⟩ (fun r => (∀ c : Dev Cert.ChipAddWUpRefIdeal.nD,
      r.2.mem ((c.tc : Thread Cert.ChipAddWUpRefIdeal.nD Cert.ChipAddWUpRefIdeal.τ).loc Cert.ChipAddWUpRefIdeal.main_arg0) = m ((c.tc : Thread Cert.ChipAddWUpRefIdeal.nD Cert.ChipAddWUpRefIdeal.τ).loc Cert.ChipAddWUpRefIdeal.main_arg0)
      ∧ r.2.mem ((c.tc : Thread Cert.ChipAddWUpRefIdeal.nD Cert.ChipAddWUpRefIdeal.τ).loc Cert.ChipAddWUpRefIdeal.main_arg1) = m ((c.tc : Thread Cert.ChipAddWUpRefIdeal.nD Cert.ChipAddWUpRefIdeal.τ).loc Cert.ChipAddWUpRefIdeal.main_arg1)
      ∧ r.2.mem ((c.tc : Thread Cert.ChipAddWUpRefIdeal.nD Cert.ChipAddWUpRefIdeal.τ).loc Cert.ChipAddWUpRefIdeal.main_arg2) = m ((c.tc : Thread Cert.ChipAddWUpRefIdeal.nD Cert.ChipAddWUpRefIdeal.τ).loc Cert.ChipAddWUpRefIdeal.main_arg2)
      ∧ r.2.mem ((c.tc : Thread Cert.ChipAddWUpRefIdeal.nD Cert.ChipAddWUpRefIdeal.τ).loc Cert.ChipAddWUpRefIdeal.main_arg3) = m ((c.tc : Thread Cert.ChipAddWUpRefIdeal.nD Cert.ChipAddWUpRefIdeal.τ).loc Cert.ChipAddWUpRefIdeal.main_arg3))
      ∧ r.2.sem = fun _ => 0)

def quiescent_ChipAddWDown [hChipAddWDown : Cert.ChipAddWDown.Facts] [hPre_a_place_w_down : Cert.Pre_a_place_w_down.Facts] : Prop :=
  ∀ (m : (ℓ : Loc Cert.ChipAddWDown.nD Cert.ChipAddWDown.τ Cert.ChipAddWDown.sig) → Buf (Elt Bits) ℓ) (g : Dev Cert.ChipAddWDown.nD → PrngReg), Pre_ChipAddWDown m →
    θ_run (Cert.ChipAddWDown.defs (F := Bits)) (onTc (τ := Cert.ChipAddWDown.τ) (Cert.ChipAddWDown.main (F := Bits))) ⟨m, fun _ => 0, g⟩ (fun r => (∀ c : Dev Cert.ChipAddWDown.nD,
      r.2.mem ((c.tc : Thread Cert.ChipAddWDown.nD Cert.ChipAddWDown.τ).loc Cert.ChipAddWDown.main_arg0) = m ((c.tc : Thread Cert.ChipAddWDown.nD Cert.ChipAddWDown.τ).loc Cert.ChipAddWDown.main_arg0)
      ∧ r.2.mem ((c.tc : Thread Cert.ChipAddWDown.nD Cert.ChipAddWDown.τ).loc Cert.ChipAddWDown.main_arg1) = m ((c.tc : Thread Cert.ChipAddWDown.nD Cert.ChipAddWDown.τ).loc Cert.ChipAddWDown.main_arg1)
      ∧ r.2.mem ((c.tc : Thread Cert.ChipAddWDown.nD Cert.ChipAddWDown.τ).loc Cert.ChipAddWDown.main_arg2) = m ((c.tc : Thread Cert.ChipAddWDown.nD Cert.ChipAddWDown.τ).loc Cert.ChipAddWDown.main_arg2)
      ∧ r.2.mem ((c.tc : Thread Cert.ChipAddWDown.nD Cert.ChipAddWDown.τ).loc Cert.ChipAddWDown.main_arg3) = m ((c.tc : Thread Cert.ChipAddWDown.nD Cert.ChipAddWDown.τ).loc Cert.ChipAddWDown.main_arg3))
      ∧ r.2.sem = fun _ => 0)

def quiescent_ChipAddWDownIdeal [hChipAddWDownIdeal : Cert.ChipAddWDownIdeal.Facts] [hPre_a_place_w_down : Cert.Pre_a_place_w_down.Facts] : Prop :=
  ∀ (m : (ℓ : Loc Cert.ChipAddWDownIdeal.nD Cert.ChipAddWDownIdeal.τ Cert.ChipAddWDownIdeal.sig) → Buf (Elt Ideal) ℓ) (g : Dev Cert.ChipAddWDownIdeal.nD → PrngReg), Pre_ChipAddWDownIdeal m →
    θ_run (Cert.ChipAddWDownIdeal.defs (F := Ideal)) (onTc (τ := Cert.ChipAddWDownIdeal.τ) (Cert.ChipAddWDownIdeal.main (F := Ideal))) ⟨m, fun _ => 0, g⟩ (fun r => (∀ c : Dev Cert.ChipAddWDownIdeal.nD,
      r.2.mem ((c.tc : Thread Cert.ChipAddWDownIdeal.nD Cert.ChipAddWDownIdeal.τ).loc Cert.ChipAddWDownIdeal.main_arg0) = m ((c.tc : Thread Cert.ChipAddWDownIdeal.nD Cert.ChipAddWDownIdeal.τ).loc Cert.ChipAddWDownIdeal.main_arg0)
      ∧ r.2.mem ((c.tc : Thread Cert.ChipAddWDownIdeal.nD Cert.ChipAddWDownIdeal.τ).loc Cert.ChipAddWDownIdeal.main_arg1) = m ((c.tc : Thread Cert.ChipAddWDownIdeal.nD Cert.ChipAddWDownIdeal.τ).loc Cert.ChipAddWDownIdeal.main_arg1)
      ∧ r.2.mem ((c.tc : Thread Cert.ChipAddWDownIdeal.nD Cert.ChipAddWDownIdeal.τ).loc Cert.ChipAddWDownIdeal.main_arg2) = m ((c.tc : Thread Cert.ChipAddWDownIdeal.nD Cert.ChipAddWDownIdeal.τ).loc Cert.ChipAddWDownIdeal.main_arg2)
      ∧ r.2.mem ((c.tc : Thread Cert.ChipAddWDownIdeal.nD Cert.ChipAddWDownIdeal.τ).loc Cert.ChipAddWDownIdeal.main_arg3) = m ((c.tc : Thread Cert.ChipAddWDownIdeal.nD Cert.ChipAddWDownIdeal.τ).loc Cert.ChipAddWDownIdeal.main_arg3))
      ∧ r.2.sem = fun _ => 0)

def quiescent_ChipAddWDownRefIdeal [hChipAddWDownRefIdeal : Cert.ChipAddWDownRefIdeal.Facts] : Prop :=
  ∀ (m : (ℓ : Loc Cert.ChipAddWDownRefIdeal.nD Cert.ChipAddWDownRefIdeal.τ Cert.ChipAddWDownRefIdeal.sig) → Buf (Elt Ideal) ℓ) (g : Dev Cert.ChipAddWDownRefIdeal.nD → PrngReg), Pre_ChipAddWDownRefIdeal m →
    θ_run (Cert.ChipAddWDownRefIdeal.defs (F := Ideal)) (onTc (τ := Cert.ChipAddWDownRefIdeal.τ) (Cert.ChipAddWDownRefIdeal.main (F := Ideal))) ⟨m, fun _ => 0, g⟩ (fun r => (∀ c : Dev Cert.ChipAddWDownRefIdeal.nD,
      r.2.mem ((c.tc : Thread Cert.ChipAddWDownRefIdeal.nD Cert.ChipAddWDownRefIdeal.τ).loc Cert.ChipAddWDownRefIdeal.main_arg0) = m ((c.tc : Thread Cert.ChipAddWDownRefIdeal.nD Cert.ChipAddWDownRefIdeal.τ).loc Cert.ChipAddWDownRefIdeal.main_arg0)
      ∧ r.2.mem ((c.tc : Thread Cert.ChipAddWDownRefIdeal.nD Cert.ChipAddWDownRefIdeal.τ).loc Cert.ChipAddWDownRefIdeal.main_arg1) = m ((c.tc : Thread Cert.ChipAddWDownRefIdeal.nD Cert.ChipAddWDownRefIdeal.τ).loc Cert.ChipAddWDownRefIdeal.main_arg1)
      ∧ r.2.mem ((c.tc : Thread Cert.ChipAddWDownRefIdeal.nD Cert.ChipAddWDownRefIdeal.τ).loc Cert.ChipAddWDownRefIdeal.main_arg2) = m ((c.tc : Thread Cert.ChipAddWDownRefIdeal.nD Cert.ChipAddWDownRefIdeal.τ).loc Cert.ChipAddWDownRefIdeal.main_arg2)
      ∧ r.2.mem ((c.tc : Thread Cert.ChipAddWDownRefIdeal.nD Cert.ChipAddWDownRefIdeal.τ).loc Cert.ChipAddWDownRefIdeal.main_arg3) = m ((c.tc : Thread Cert.ChipAddWDownRefIdeal.nD Cert.ChipAddWDownRefIdeal.τ).loc Cert.ChipAddWDownRefIdeal.main_arg3))
      ∧ r.2.sem = fun _ => 0)

def quiescent_ChipAddWDownRefIdeal_pre_a_place_w_down [hChipAddWDownRefIdeal : Cert.ChipAddWDownRefIdeal.Facts] [hPre_a_place_w_down : Cert.Pre_a_place_w_down.Facts] : Prop :=
  ∀ (m : (ℓ : Loc Cert.ChipAddWDownRefIdeal.nD Cert.ChipAddWDownRefIdeal.τ Cert.ChipAddWDownRefIdeal.sig) → Buf (Elt Ideal) ℓ) (g : Dev Cert.ChipAddWDownRefIdeal.nD → PrngReg), Pre_ChipAddWDownRefIdeal_a_place_w_down m →
    θ_run (Cert.ChipAddWDownRefIdeal.defs (F := Ideal)) (onTc (τ := Cert.ChipAddWDownRefIdeal.τ) (Cert.ChipAddWDownRefIdeal.main (F := Ideal))) ⟨m, fun _ => 0, g⟩ (fun r => (∀ c : Dev Cert.ChipAddWDownRefIdeal.nD,
      r.2.mem ((c.tc : Thread Cert.ChipAddWDownRefIdeal.nD Cert.ChipAddWDownRefIdeal.τ).loc Cert.ChipAddWDownRefIdeal.main_arg0) = m ((c.tc : Thread Cert.ChipAddWDownRefIdeal.nD Cert.ChipAddWDownRefIdeal.τ).loc Cert.ChipAddWDownRefIdeal.main_arg0)
      ∧ r.2.mem ((c.tc : Thread Cert.ChipAddWDownRefIdeal.nD Cert.ChipAddWDownRefIdeal.τ).loc Cert.ChipAddWDownRefIdeal.main_arg1) = m ((c.tc : Thread Cert.ChipAddWDownRefIdeal.nD Cert.ChipAddWDownRefIdeal.τ).loc Cert.ChipAddWDownRefIdeal.main_arg1)
      ∧ r.2.mem ((c.tc : Thread Cert.ChipAddWDownRefIdeal.nD Cert.ChipAddWDownRefIdeal.τ).loc Cert.ChipAddWDownRefIdeal.main_arg2) = m ((c.tc : Thread Cert.ChipAddWDownRefIdeal.nD Cert.ChipAddWDownRefIdeal.τ).loc Cert.ChipAddWDownRefIdeal.main_arg2)
      ∧ r.2.mem ((c.tc : Thread Cert.ChipAddWDownRefIdeal.nD Cert.ChipAddWDownRefIdeal.τ).loc Cert.ChipAddWDownRefIdeal.main_arg3) = m ((c.tc : Thread Cert.ChipAddWDownRefIdeal.nD Cert.ChipAddWDownRefIdeal.τ).loc Cert.ChipAddWDownRefIdeal.main_arg3))
      ∧ r.2.sem = fun _ => 0)

def quiescent_ChipAddWO [hChipAddWO : Cert.ChipAddWO.Facts] [hPre_a_place_w_o : Cert.Pre_a_place_w_o.Facts] : Prop :=
  ∀ (m : (ℓ : Loc Cert.ChipAddWO.nD Cert.ChipAddWO.τ Cert.ChipAddWO.sig) → Buf (Elt Bits) ℓ) (g : Dev Cert.ChipAddWO.nD → PrngReg), Pre_ChipAddWO m →
    θ_run (Cert.ChipAddWO.defs (F := Bits)) (onTc (τ := Cert.ChipAddWO.τ) (Cert.ChipAddWO.main (F := Bits))) ⟨m, fun _ => 0, g⟩ (fun r => (∀ c : Dev Cert.ChipAddWO.nD,
      r.2.mem ((c.tc : Thread Cert.ChipAddWO.nD Cert.ChipAddWO.τ).loc Cert.ChipAddWO.main_arg0) = m ((c.tc : Thread Cert.ChipAddWO.nD Cert.ChipAddWO.τ).loc Cert.ChipAddWO.main_arg0)
      ∧ r.2.mem ((c.tc : Thread Cert.ChipAddWO.nD Cert.ChipAddWO.τ).loc Cert.ChipAddWO.main_arg1) = m ((c.tc : Thread Cert.ChipAddWO.nD Cert.ChipAddWO.τ).loc Cert.ChipAddWO.main_arg1)
      ∧ r.2.mem ((c.tc : Thread Cert.ChipAddWO.nD Cert.ChipAddWO.τ).loc Cert.ChipAddWO.main_arg2) = m ((c.tc : Thread Cert.ChipAddWO.nD Cert.ChipAddWO.τ).loc Cert.ChipAddWO.main_arg2)
      ∧ r.2.mem ((c.tc : Thread Cert.ChipAddWO.nD Cert.ChipAddWO.τ).loc Cert.ChipAddWO.main_arg3) = m ((c.tc : Thread Cert.ChipAddWO.nD Cert.ChipAddWO.τ).loc Cert.ChipAddWO.main_arg3))
      ∧ r.2.sem = fun _ => 0)

def quiescent_ChipAddWOIdeal [hChipAddWOIdeal : Cert.ChipAddWOIdeal.Facts] [hPre_a_place_w_o : Cert.Pre_a_place_w_o.Facts] : Prop :=
  ∀ (m : (ℓ : Loc Cert.ChipAddWOIdeal.nD Cert.ChipAddWOIdeal.τ Cert.ChipAddWOIdeal.sig) → Buf (Elt Ideal) ℓ) (g : Dev Cert.ChipAddWOIdeal.nD → PrngReg), Pre_ChipAddWOIdeal m →
    θ_run (Cert.ChipAddWOIdeal.defs (F := Ideal)) (onTc (τ := Cert.ChipAddWOIdeal.τ) (Cert.ChipAddWOIdeal.main (F := Ideal))) ⟨m, fun _ => 0, g⟩ (fun r => (∀ c : Dev Cert.ChipAddWOIdeal.nD,
      r.2.mem ((c.tc : Thread Cert.ChipAddWOIdeal.nD Cert.ChipAddWOIdeal.τ).loc Cert.ChipAddWOIdeal.main_arg0) = m ((c.tc : Thread Cert.ChipAddWOIdeal.nD Cert.ChipAddWOIdeal.τ).loc Cert.ChipAddWOIdeal.main_arg0)
      ∧ r.2.mem ((c.tc : Thread Cert.ChipAddWOIdeal.nD Cert.ChipAddWOIdeal.τ).loc Cert.ChipAddWOIdeal.main_arg1) = m ((c.tc : Thread Cert.ChipAddWOIdeal.nD Cert.ChipAddWOIdeal.τ).loc Cert.ChipAddWOIdeal.main_arg1)
      ∧ r.2.mem ((c.tc : Thread Cert.ChipAddWOIdeal.nD Cert.ChipAddWOIdeal.τ).loc Cert.ChipAddWOIdeal.main_arg2) = m ((c.tc : Thread Cert.ChipAddWOIdeal.nD Cert.ChipAddWOIdeal.τ).loc Cert.ChipAddWOIdeal.main_arg2)
      ∧ r.2.mem ((c.tc : Thread Cert.ChipAddWOIdeal.nD Cert.ChipAddWOIdeal.τ).loc Cert.ChipAddWOIdeal.main_arg3) = m ((c.tc : Thread Cert.ChipAddWOIdeal.nD Cert.ChipAddWOIdeal.τ).loc Cert.ChipAddWOIdeal.main_arg3))
      ∧ r.2.sem = fun _ => 0)

def quiescent_ChipAddWORefIdeal [hChipAddWORefIdeal : Cert.ChipAddWORefIdeal.Facts] : Prop :=
  ∀ (m : (ℓ : Loc Cert.ChipAddWORefIdeal.nD Cert.ChipAddWORefIdeal.τ Cert.ChipAddWORefIdeal.sig) → Buf (Elt Ideal) ℓ) (g : Dev Cert.ChipAddWORefIdeal.nD → PrngReg), Pre_ChipAddWORefIdeal m →
    θ_run (Cert.ChipAddWORefIdeal.defs (F := Ideal)) (onTc (τ := Cert.ChipAddWORefIdeal.τ) (Cert.ChipAddWORefIdeal.main (F := Ideal))) ⟨m, fun _ => 0, g⟩ (fun r => (∀ c : Dev Cert.ChipAddWORefIdeal.nD,
      r.2.mem ((c.tc : Thread Cert.ChipAddWORefIdeal.nD Cert.ChipAddWORefIdeal.τ).loc Cert.ChipAddWORefIdeal.main_arg0) = m ((c.tc : Thread Cert.ChipAddWORefIdeal.nD Cert.ChipAddWORefIdeal.τ).loc Cert.ChipAddWORefIdeal.main_arg0)
      ∧ r.2.mem ((c.tc : Thread Cert.ChipAddWORefIdeal.nD Cert.ChipAddWORefIdeal.τ).loc Cert.ChipAddWORefIdeal.main_arg1) = m ((c.tc : Thread Cert.ChipAddWORefIdeal.nD Cert.ChipAddWORefIdeal.τ).loc Cert.ChipAddWORefIdeal.main_arg1)
      ∧ r.2.mem ((c.tc : Thread Cert.ChipAddWORefIdeal.nD Cert.ChipAddWORefIdeal.τ).loc Cert.ChipAddWORefIdeal.main_arg2) = m ((c.tc : Thread Cert.ChipAddWORefIdeal.nD Cert.ChipAddWORefIdeal.τ).loc Cert.ChipAddWORefIdeal.main_arg2)
      ∧ r.2.mem ((c.tc : Thread Cert.ChipAddWORefIdeal.nD Cert.ChipAddWORefIdeal.τ).loc Cert.ChipAddWORefIdeal.main_arg3) = m ((c.tc : Thread Cert.ChipAddWORefIdeal.nD Cert.ChipAddWORefIdeal.τ).loc Cert.ChipAddWORefIdeal.main_arg3))
      ∧ r.2.sem = fun _ => 0)

def quiescent_ChipAddWORefIdeal_pre_a_place_w_o [hChipAddWORefIdeal : Cert.ChipAddWORefIdeal.Facts] [hPre_a_place_w_o : Cert.Pre_a_place_w_o.Facts] : Prop :=
  ∀ (m : (ℓ : Loc Cert.ChipAddWORefIdeal.nD Cert.ChipAddWORefIdeal.τ Cert.ChipAddWORefIdeal.sig) → Buf (Elt Ideal) ℓ) (g : Dev Cert.ChipAddWORefIdeal.nD → PrngReg), Pre_ChipAddWORefIdeal_a_place_w_o m →
    θ_run (Cert.ChipAddWORefIdeal.defs (F := Ideal)) (onTc (τ := Cert.ChipAddWORefIdeal.τ) (Cert.ChipAddWORefIdeal.main (F := Ideal))) ⟨m, fun _ => 0, g⟩ (fun r => (∀ c : Dev Cert.ChipAddWORefIdeal.nD,
      r.2.mem ((c.tc : Thread Cert.ChipAddWORefIdeal.nD Cert.ChipAddWORefIdeal.τ).loc Cert.ChipAddWORefIdeal.main_arg0) = m ((c.tc : Thread Cert.ChipAddWORefIdeal.nD Cert.ChipAddWORefIdeal.τ).loc Cert.ChipAddWORefIdeal.main_arg0)
      ∧ r.2.mem ((c.tc : Thread Cert.ChipAddWORefIdeal.nD Cert.ChipAddWORefIdeal.τ).loc Cert.ChipAddWORefIdeal.main_arg1) = m ((c.tc : Thread Cert.ChipAddWORefIdeal.nD Cert.ChipAddWORefIdeal.τ).loc Cert.ChipAddWORefIdeal.main_arg1)
      ∧ r.2.mem ((c.tc : Thread Cert.ChipAddWORefIdeal.nD Cert.ChipAddWORefIdeal.τ).loc Cert.ChipAddWORefIdeal.main_arg2) = m ((c.tc : Thread Cert.ChipAddWORefIdeal.nD Cert.ChipAddWORefIdeal.τ).loc Cert.ChipAddWORefIdeal.main_arg2)
      ∧ r.2.mem ((c.tc : Thread Cert.ChipAddWORefIdeal.nD Cert.ChipAddWORefIdeal.τ).loc Cert.ChipAddWORefIdeal.main_arg3) = m ((c.tc : Thread Cert.ChipAddWORefIdeal.nD Cert.ChipAddWORefIdeal.τ).loc Cert.ChipAddWORefIdeal.main_arg3))
      ∧ r.2.sem = fun _ => 0)

def quiescent_ChipAddWIn [hChipAddWIn : Cert.ChipAddWIn.Facts] [hPre_a_place_w_in : Cert.Pre_a_place_w_in.Facts] : Prop :=
  ∀ (m : (ℓ : Loc Cert.ChipAddWIn.nD Cert.ChipAddWIn.τ Cert.ChipAddWIn.sig) → Buf (Elt Bits) ℓ) (g : Dev Cert.ChipAddWIn.nD → PrngReg), Pre_ChipAddWIn m →
    θ_run (Cert.ChipAddWIn.defs (F := Bits)) (onTc (τ := Cert.ChipAddWIn.τ) (Cert.ChipAddWIn.main (F := Bits))) ⟨m, fun _ => 0, g⟩ (fun r => (∀ c : Dev Cert.ChipAddWIn.nD,
      r.2.mem ((c.tc : Thread Cert.ChipAddWIn.nD Cert.ChipAddWIn.τ).loc Cert.ChipAddWIn.main_arg0) = m ((c.tc : Thread Cert.ChipAddWIn.nD Cert.ChipAddWIn.τ).loc Cert.ChipAddWIn.main_arg0)
      ∧ r.2.mem ((c.tc : Thread Cert.ChipAddWIn.nD Cert.ChipAddWIn.τ).loc Cert.ChipAddWIn.main_arg1) = m ((c.tc : Thread Cert.ChipAddWIn.nD Cert.ChipAddWIn.τ).loc Cert.ChipAddWIn.main_arg1)
      ∧ r.2.mem ((c.tc : Thread Cert.ChipAddWIn.nD Cert.ChipAddWIn.τ).loc Cert.ChipAddWIn.main_arg2) = m ((c.tc : Thread Cert.ChipAddWIn.nD Cert.ChipAddWIn.τ).loc Cert.ChipAddWIn.main_arg2)
      ∧ r.2.mem ((c.tc : Thread Cert.ChipAddWIn.nD Cert.ChipAddWIn.τ).loc Cert.ChipAddWIn.main_arg3) = m ((c.tc : Thread Cert.ChipAddWIn.nD Cert.ChipAddWIn.τ).loc Cert.ChipAddWIn.main_arg3))
      ∧ r.2.sem = fun _ => 0)

def quiescent_ChipAddWInIdeal [hChipAddWInIdeal : Cert.ChipAddWInIdeal.Facts] [hPre_a_place_w_in : Cert.Pre_a_place_w_in.Facts] : Prop :=
  ∀ (m : (ℓ : Loc Cert.ChipAddWInIdeal.nD Cert.ChipAddWInIdeal.τ Cert.ChipAddWInIdeal.sig) → Buf (Elt Ideal) ℓ) (g : Dev Cert.ChipAddWInIdeal.nD → PrngReg), Pre_ChipAddWInIdeal m →
    θ_run (Cert.ChipAddWInIdeal.defs (F := Ideal)) (onTc (τ := Cert.ChipAddWInIdeal.τ) (Cert.ChipAddWInIdeal.main (F := Ideal))) ⟨m, fun _ => 0, g⟩ (fun r => (∀ c : Dev Cert.ChipAddWInIdeal.nD,
      r.2.mem ((c.tc : Thread Cert.ChipAddWInIdeal.nD Cert.ChipAddWInIdeal.τ).loc Cert.ChipAddWInIdeal.main_arg0) = m ((c.tc : Thread Cert.ChipAddWInIdeal.nD Cert.ChipAddWInIdeal.τ).loc Cert.ChipAddWInIdeal.main_arg0)
      ∧ r.2.mem ((c.tc : Thread Cert.ChipAddWInIdeal.nD Cert.ChipAddWInIdeal.τ).loc Cert.ChipAddWInIdeal.main_arg1) = m ((c.tc : Thread Cert.ChipAddWInIdeal.nD Cert.ChipAddWInIdeal.τ).loc Cert.ChipAddWInIdeal.main_arg1)
      ∧ r.2.mem ((c.tc : Thread Cert.ChipAddWInIdeal.nD Cert.ChipAddWInIdeal.τ).loc Cert.ChipAddWInIdeal.main_arg2) = m ((c.tc : Thread Cert.ChipAddWInIdeal.nD Cert.ChipAddWInIdeal.τ).loc Cert.ChipAddWInIdeal.main_arg2)
      ∧ r.2.mem ((c.tc : Thread Cert.ChipAddWInIdeal.nD Cert.ChipAddWInIdeal.τ).loc Cert.ChipAddWInIdeal.main_arg3) = m ((c.tc : Thread Cert.ChipAddWInIdeal.nD Cert.ChipAddWInIdeal.τ).loc Cert.ChipAddWInIdeal.main_arg3))
      ∧ r.2.sem = fun _ => 0)

def quiescent_ChipAddWInRefIdeal [hChipAddWInRefIdeal : Cert.ChipAddWInRefIdeal.Facts] : Prop :=
  ∀ (m : (ℓ : Loc Cert.ChipAddWInRefIdeal.nD Cert.ChipAddWInRefIdeal.τ Cert.ChipAddWInRefIdeal.sig) → Buf (Elt Ideal) ℓ) (g : Dev Cert.ChipAddWInRefIdeal.nD → PrngReg), Pre_ChipAddWInRefIdeal m →
    θ_run (Cert.ChipAddWInRefIdeal.defs (F := Ideal)) (onTc (τ := Cert.ChipAddWInRefIdeal.τ) (Cert.ChipAddWInRefIdeal.main (F := Ideal))) ⟨m, fun _ => 0, g⟩ (fun r => (∀ c : Dev Cert.ChipAddWInRefIdeal.nD,
      r.2.mem ((c.tc : Thread Cert.ChipAddWInRefIdeal.nD Cert.ChipAddWInRefIdeal.τ).loc Cert.ChipAddWInRefIdeal.main_arg0) = m ((c.tc : Thread Cert.ChipAddWInRefIdeal.nD Cert.ChipAddWInRefIdeal.τ).loc Cert.ChipAddWInRefIdeal.main_arg0)
      ∧ r.2.mem ((c.tc : Thread Cert.ChipAddWInRefIdeal.nD Cert.ChipAddWInRefIdeal.τ).loc Cert.ChipAddWInRefIdeal.main_arg1) = m ((c.tc : Thread Cert.ChipAddWInRefIdeal.nD Cert.ChipAddWInRefIdeal.τ).loc Cert.ChipAddWInRefIdeal.main_arg1)
      ∧ r.2.mem ((c.tc : Thread Cert.ChipAddWInRefIdeal.nD Cert.ChipAddWInRefIdeal.τ).loc Cert.ChipAddWInRefIdeal.main_arg2) = m ((c.tc : Thread Cert.ChipAddWInRefIdeal.nD Cert.ChipAddWInRefIdeal.τ).loc Cert.ChipAddWInRefIdeal.main_arg2)
      ∧ r.2.mem ((c.tc : Thread Cert.ChipAddWInRefIdeal.nD Cert.ChipAddWInRefIdeal.τ).loc Cert.ChipAddWInRefIdeal.main_arg3) = m ((c.tc : Thread Cert.ChipAddWInRefIdeal.nD Cert.ChipAddWInRefIdeal.τ).loc Cert.ChipAddWInRefIdeal.main_arg3))
      ∧ r.2.sem = fun _ => 0)

def quiescent_ChipAddWInRefIdeal_pre_a_place_w_in [hChipAddWInRefIdeal : Cert.ChipAddWInRefIdeal.Facts] [hPre_a_place_w_in : Cert.Pre_a_place_w_in.Facts] : Prop :=
  ∀ (m : (ℓ : Loc Cert.ChipAddWInRefIdeal.nD Cert.ChipAddWInRefIdeal.τ Cert.ChipAddWInRefIdeal.sig) → Buf (Elt Ideal) ℓ) (g : Dev Cert.ChipAddWInRefIdeal.nD → PrngReg), Pre_ChipAddWInRefIdeal_a_place_w_in m →
    θ_run (Cert.ChipAddWInRefIdeal.defs (F := Ideal)) (onTc (τ := Cert.ChipAddWInRefIdeal.τ) (Cert.ChipAddWInRefIdeal.main (F := Ideal))) ⟨m, fun _ => 0, g⟩ (fun r => (∀ c : Dev Cert.ChipAddWInRefIdeal.nD,
      r.2.mem ((c.tc : Thread Cert.ChipAddWInRefIdeal.nD Cert.ChipAddWInRefIdeal.τ).loc Cert.ChipAddWInRefIdeal.main_arg0) = m ((c.tc : Thread Cert.ChipAddWInRefIdeal.nD Cert.ChipAddWInRefIdeal.τ).loc Cert.ChipAddWInRefIdeal.main_arg0)
      ∧ r.2.mem ((c.tc : Thread Cert.ChipAddWInRefIdeal.nD Cert.ChipAddWInRefIdeal.τ).loc Cert.ChipAddWInRefIdeal.main_arg1) = m ((c.tc : Thread Cert.ChipAddWInRefIdeal.nD Cert.ChipAddWInRefIdeal.τ).loc Cert.ChipAddWInRefIdeal.main_arg1)
      ∧ r.2.mem ((c.tc : Thread Cert.ChipAddWInRefIdeal.nD Cert.ChipAddWInRefIdeal.τ).loc Cert.ChipAddWInRefIdeal.main_arg2) = m ((c.tc : Thread Cert.ChipAddWInRefIdeal.nD Cert.ChipAddWInRefIdeal.τ).loc Cert.ChipAddWInRefIdeal.main_arg2)
      ∧ r.2.mem ((c.tc : Thread Cert.ChipAddWInRefIdeal.nD Cert.ChipAddWInRefIdeal.τ).loc Cert.ChipAddWInRefIdeal.main_arg3) = m ((c.tc : Thread Cert.ChipAddWInRefIdeal.nD Cert.ChipAddWInRefIdeal.τ).loc Cert.ChipAddWInRefIdeal.main_arg3))
      ∧ r.2.sem = fun _ => 0)

def preserves_MmGDown_MmGDownIdeal : Prop :=
  True

def algebraic_MmGDownIdeal_MmGDownRefIdeal [hMmGDownIdeal : Cert.MmGDownIdeal.Facts] [hMmGDownRefIdeal : Cert.MmGDownRefIdeal.Facts] : Prop :=
  ∀ (m : (ℓ : Loc Cert.MmGDownIdeal.nD Cert.MmGDownIdeal.τ Cert.MmGDownIdeal.sig) → Buf (Elt Ideal) ℓ) (g : Dev Cert.MmGDownIdeal.nD → PrngReg)
    (m' : (ℓ : Loc Cert.MmGDownRefIdeal.nD Cert.MmGDownRefIdeal.τ Cert.MmGDownRefIdeal.sig) → Buf (Elt Ideal) ℓ) (g' : Dev Cert.MmGDownRefIdeal.nD → PrngReg), Pre_MmGDownIdeal m →
    (∀ c : Dev Cert.MmGDownIdeal.nD,
      m' ((c.tc : Thread Cert.MmGDownRefIdeal.nD Cert.MmGDownRefIdeal.τ).loc Cert.MmGDownRefIdeal.main_arg0) = m ((c.tc : Thread Cert.MmGDownIdeal.nD Cert.MmGDownIdeal.τ).loc Cert.MmGDownIdeal.main_arg0)
      ∧ m' ((c.tc : Thread Cert.MmGDownRefIdeal.nD Cert.MmGDownRefIdeal.τ).loc Cert.MmGDownRefIdeal.main_arg1) = m ((c.tc : Thread Cert.MmGDownIdeal.nD Cert.MmGDownIdeal.τ).loc Cert.MmGDownIdeal.main_arg1)) →
    ∃ (v0 : (c : Dev Cert.MmGDownIdeal.nD) → Buf (Elt Ideal) ((c.tc : Thread Cert.MmGDownIdeal.nD Cert.MmGDownIdeal.τ).loc Cert.MmGDownIdeal.main_v0)),
      θ_run (Cert.MmGDownIdeal.defs (F := Ideal)) (onTc (τ := Cert.MmGDownIdeal.τ) (Cert.MmGDownIdeal.main (F := Ideal))) ⟨m, fun _ => 0, g⟩ (fun r => ∀ c : Dev Cert.MmGDownIdeal.nD,
          r.2.mem ((c.tc : Thread Cert.MmGDownIdeal.nD Cert.MmGDownIdeal.τ).loc Cert.MmGDownIdeal.main_v0) = v0 c
          ∧ r.2.mem ((c.tc : Thread Cert.MmGDownIdeal.nD Cert.MmGDownIdeal.τ).loc Cert.MmGDownIdeal.main_arg0) = m ((c.tc : Thread Cert.MmGDownIdeal.nD Cert.MmGDownIdeal.τ).loc Cert.MmGDownIdeal.main_arg0)
          ∧ r.2.mem ((c.tc : Thread Cert.MmGDownIdeal.nD Cert.MmGDownIdeal.τ).loc Cert.MmGDownIdeal.main_arg1) = m ((c.tc : Thread Cert.MmGDownIdeal.nD Cert.MmGDownIdeal.τ).loc Cert.MmGDownIdeal.main_arg1))
      ∧ θ_run (Cert.MmGDownRefIdeal.defs (F := Ideal)) (onTc (τ := Cert.MmGDownRefIdeal.τ) (Cert.MmGDownRefIdeal.main (F := Ideal))) ⟨m', fun _ => 0, g'⟩ (fun r => ∀ c : Dev Cert.MmGDownRefIdeal.nD,
          r.2.mem ((c.tc : Thread Cert.MmGDownRefIdeal.nD Cert.MmGDownRefIdeal.τ).loc Cert.MmGDownRefIdeal.main_v3) = v0 c
          ∧ r.2.mem ((c.tc : Thread Cert.MmGDownRefIdeal.nD Cert.MmGDownRefIdeal.τ).loc Cert.MmGDownRefIdeal.main_arg0) = m' ((c.tc : Thread Cert.MmGDownRefIdeal.nD Cert.MmGDownRefIdeal.τ).loc Cert.MmGDownRefIdeal.main_arg0)
          ∧ r.2.mem ((c.tc : Thread Cert.MmGDownRefIdeal.nD Cert.MmGDownRefIdeal.τ).loc Cert.MmGDownRefIdeal.main_arg1) = m' ((c.tc : Thread Cert.MmGDownRefIdeal.nD Cert.MmGDownRefIdeal.τ).loc Cert.MmGDownRefIdeal.main_arg1))

def preserves_MmDAct_MmDActIdeal : Prop :=
  True

def algebraic_MmDActIdeal_MmDActRefIdeal [hMmDActIdeal : Cert.MmDActIdeal.Facts] [hMmDActRefIdeal : Cert.MmDActRefIdeal.Facts] : Prop :=
  ∀ (m : (ℓ : Loc Cert.MmDActIdeal.nD Cert.MmDActIdeal.τ Cert.MmDActIdeal.sig) → Buf (Elt Ideal) ℓ) (g : Dev Cert.MmDActIdeal.nD → PrngReg)
    (m' : (ℓ : Loc Cert.MmDActRefIdeal.nD Cert.MmDActRefIdeal.τ Cert.MmDActRefIdeal.sig) → Buf (Elt Ideal) ℓ) (g' : Dev Cert.MmDActRefIdeal.nD → PrngReg), Pre_MmDActIdeal m →
    (∀ c : Dev Cert.MmDActIdeal.nD,
      m' ((c.tc : Thread Cert.MmDActRefIdeal.nD Cert.MmDActRefIdeal.τ).loc Cert.MmDActRefIdeal.main_arg0) = m ((c.tc : Thread Cert.MmDActIdeal.nD Cert.MmDActIdeal.τ).loc Cert.MmDActIdeal.main_arg0)
      ∧ m' ((c.tc : Thread Cert.MmDActRefIdeal.nD Cert.MmDActRefIdeal.τ).loc Cert.MmDActRefIdeal.main_arg1) = m ((c.tc : Thread Cert.MmDActIdeal.nD Cert.MmDActIdeal.τ).loc Cert.MmDActIdeal.main_arg1)) →
    ∃ (v0 : (c : Dev Cert.MmDActIdeal.nD) → Buf (Elt Ideal) ((c.tc : Thread Cert.MmDActIdeal.nD Cert.MmDActIdeal.τ).loc Cert.MmDActIdeal.main_v0)),
      θ_run (Cert.MmDActIdeal.defs (F := Ideal)) (onTc (τ := Cert.MmDActIdeal.τ) (Cert.MmDActIdeal.main (F := Ideal))) ⟨m, fun _ => 0, g⟩ (fun r => ∀ c : Dev Cert.MmDActIdeal.nD,
          r.2.mem ((c.tc : Thread Cert.MmDActIdeal.nD Cert.MmDActIdeal.τ).loc Cert.MmDActIdeal.main_v0) = v0 c
          ∧ r.2.mem ((c.tc : Thread Cert.MmDActIdeal.nD Cert.MmDActIdeal.τ).loc Cert.MmDActIdeal.main_arg0) = m ((c.tc : Thread Cert.MmDActIdeal.nD Cert.MmDActIdeal.τ).loc Cert.MmDActIdeal.main_arg0)
          ∧ r.2.mem ((c.tc : Thread Cert.MmDActIdeal.nD Cert.MmDActIdeal.τ).loc Cert.MmDActIdeal.main_arg1) = m ((c.tc : Thread Cert.MmDActIdeal.nD Cert.MmDActIdeal.τ).loc Cert.MmDActIdeal.main_arg1))
      ∧ θ_run (Cert.MmDActRefIdeal.defs (F := Ideal)) (onTc (τ := Cert.MmDActRefIdeal.τ) (Cert.MmDActRefIdeal.main (F := Ideal))) ⟨m', fun _ => 0, g'⟩ (fun r => ∀ c : Dev Cert.MmDActRefIdeal.nD,
          r.2.mem ((c.tc : Thread Cert.MmDActRefIdeal.nD Cert.MmDActRefIdeal.τ).loc Cert.MmDActRefIdeal.main_v2) = v0 c
          ∧ r.2.mem ((c.tc : Thread Cert.MmDActRefIdeal.nD Cert.MmDActRefIdeal.τ).loc Cert.MmDActRefIdeal.main_arg0) = m' ((c.tc : Thread Cert.MmDActRefIdeal.nD Cert.MmDActRefIdeal.τ).loc Cert.MmDActRefIdeal.main_arg0)
          ∧ r.2.mem ((c.tc : Thread Cert.MmDActRefIdeal.nD Cert.MmDActRefIdeal.τ).loc Cert.MmDActRefIdeal.main_arg1) = m' ((c.tc : Thread Cert.MmDActRefIdeal.nD Cert.MmDActRefIdeal.τ).loc Cert.MmDActRefIdeal.main_arg1))

def preserves_MmGUp_MmGUpIdeal : Prop :=
  True

def algebraic_MmGUpIdeal_MmGUpRefIdeal [hMmGUpIdeal : Cert.MmGUpIdeal.Facts] [hMmGUpRefIdeal : Cert.MmGUpRefIdeal.Facts] : Prop :=
  ∀ (m : (ℓ : Loc Cert.MmGUpIdeal.nD Cert.MmGUpIdeal.τ Cert.MmGUpIdeal.sig) → Buf (Elt Ideal) ℓ) (g : Dev Cert.MmGUpIdeal.nD → PrngReg)
    (m' : (ℓ : Loc Cert.MmGUpRefIdeal.nD Cert.MmGUpRefIdeal.τ Cert.MmGUpRefIdeal.sig) → Buf (Elt Ideal) ℓ) (g' : Dev Cert.MmGUpRefIdeal.nD → PrngReg), Pre_MmGUpIdeal m →
    (∀ c : Dev Cert.MmGUpIdeal.nD,
      m' ((c.tc : Thread Cert.MmGUpRefIdeal.nD Cert.MmGUpRefIdeal.τ).loc Cert.MmGUpRefIdeal.main_arg0) = m ((c.tc : Thread Cert.MmGUpIdeal.nD Cert.MmGUpIdeal.τ).loc Cert.MmGUpIdeal.main_arg0)
      ∧ m' ((c.tc : Thread Cert.MmGUpRefIdeal.nD Cert.MmGUpRefIdeal.τ).loc Cert.MmGUpRefIdeal.main_arg1) = m ((c.tc : Thread Cert.MmGUpIdeal.nD Cert.MmGUpIdeal.τ).loc Cert.MmGUpIdeal.main_arg1)) →
    ∃ (v0 : (c : Dev Cert.MmGUpIdeal.nD) → Buf (Elt Ideal) ((c.tc : Thread Cert.MmGUpIdeal.nD Cert.MmGUpIdeal.τ).loc Cert.MmGUpIdeal.main_v0)),
      θ_run (Cert.MmGUpIdeal.defs (F := Ideal)) (onTc (τ := Cert.MmGUpIdeal.τ) (Cert.MmGUpIdeal.main (F := Ideal))) ⟨m, fun _ => 0, g⟩ (fun r => ∀ c : Dev Cert.MmGUpIdeal.nD,
          r.2.mem ((c.tc : Thread Cert.MmGUpIdeal.nD Cert.MmGUpIdeal.τ).loc Cert.MmGUpIdeal.main_v0) = v0 c
          ∧ r.2.mem ((c.tc : Thread Cert.MmGUpIdeal.nD Cert.MmGUpIdeal.τ).loc Cert.MmGUpIdeal.main_arg0) = m ((c.tc : Thread Cert.MmGUpIdeal.nD Cert.MmGUpIdeal.τ).loc Cert.MmGUpIdeal.main_arg0)
          ∧ r.2.mem ((c.tc : Thread Cert.MmGUpIdeal.nD Cert.MmGUpIdeal.τ).loc Cert.MmGUpIdeal.main_arg1) = m ((c.tc : Thread Cert.MmGUpIdeal.nD Cert.MmGUpIdeal.τ).loc Cert.MmGUpIdeal.main_arg1))
      ∧ θ_run (Cert.MmGUpRefIdeal.defs (F := Ideal)) (onTc (τ := Cert.MmGUpRefIdeal.τ) (Cert.MmGUpRefIdeal.main (F := Ideal))) ⟨m', fun _ => 0, g'⟩ (fun r => ∀ c : Dev Cert.MmGUpRefIdeal.nD,
          r.2.mem ((c.tc : Thread Cert.MmGUpRefIdeal.nD Cert.MmGUpRefIdeal.τ).loc Cert.MmGUpRefIdeal.main_v7) = v0 c
          ∧ r.2.mem ((c.tc : Thread Cert.MmGUpRefIdeal.nD Cert.MmGUpRefIdeal.τ).loc Cert.MmGUpRefIdeal.main_arg0) = m' ((c.tc : Thread Cert.MmGUpRefIdeal.nD Cert.MmGUpRefIdeal.τ).loc Cert.MmGUpRefIdeal.main_arg0)
          ∧ r.2.mem ((c.tc : Thread Cert.MmGUpRefIdeal.nD Cert.MmGUpRefIdeal.τ).loc Cert.MmGUpRefIdeal.main_arg1) = m' ((c.tc : Thread Cert.MmGUpRefIdeal.nD Cert.MmGUpRefIdeal.τ).loc Cert.MmGUpRefIdeal.main_arg1))

def preserves_MmDH2_MmDH2Ideal : Prop :=
  True

def algebraic_MmDH2Ideal_MmDH2RefIdeal [hMmDH2Ideal : Cert.MmDH2Ideal.Facts] [hMmDH2RefIdeal : Cert.MmDH2RefIdeal.Facts] : Prop :=
  ∀ (m : (ℓ : Loc Cert.MmDH2Ideal.nD Cert.MmDH2Ideal.τ Cert.MmDH2Ideal.sig) → Buf (Elt Ideal) ℓ) (g : Dev Cert.MmDH2Ideal.nD → PrngReg)
    (m' : (ℓ : Loc Cert.MmDH2RefIdeal.nD Cert.MmDH2RefIdeal.τ Cert.MmDH2RefIdeal.sig) → Buf (Elt Ideal) ℓ) (g' : Dev Cert.MmDH2RefIdeal.nD → PrngReg), Pre_MmDH2Ideal m →
    (∀ c : Dev Cert.MmDH2Ideal.nD,
      m' ((c.tc : Thread Cert.MmDH2RefIdeal.nD Cert.MmDH2RefIdeal.τ).loc Cert.MmDH2RefIdeal.main_arg0) = m ((c.tc : Thread Cert.MmDH2Ideal.nD Cert.MmDH2Ideal.τ).loc Cert.MmDH2Ideal.main_arg0)
      ∧ m' ((c.tc : Thread Cert.MmDH2RefIdeal.nD Cert.MmDH2RefIdeal.τ).loc Cert.MmDH2RefIdeal.main_arg1) = m ((c.tc : Thread Cert.MmDH2Ideal.nD Cert.MmDH2Ideal.τ).loc Cert.MmDH2Ideal.main_arg1)) →
    ∃ (v0 : (c : Dev Cert.MmDH2Ideal.nD) → Buf (Elt Ideal) ((c.tc : Thread Cert.MmDH2Ideal.nD Cert.MmDH2Ideal.τ).loc Cert.MmDH2Ideal.main_v0)),
      θ_run (Cert.MmDH2Ideal.defs (F := Ideal)) (onTc (τ := Cert.MmDH2Ideal.τ) (Cert.MmDH2Ideal.main (F := Ideal))) ⟨m, fun _ => 0, g⟩ (fun r => ∀ c : Dev Cert.MmDH2Ideal.nD,
          r.2.mem ((c.tc : Thread Cert.MmDH2Ideal.nD Cert.MmDH2Ideal.τ).loc Cert.MmDH2Ideal.main_v0) = v0 c
          ∧ r.2.mem ((c.tc : Thread Cert.MmDH2Ideal.nD Cert.MmDH2Ideal.τ).loc Cert.MmDH2Ideal.main_arg0) = m ((c.tc : Thread Cert.MmDH2Ideal.nD Cert.MmDH2Ideal.τ).loc Cert.MmDH2Ideal.main_arg0)
          ∧ r.2.mem ((c.tc : Thread Cert.MmDH2Ideal.nD Cert.MmDH2Ideal.τ).loc Cert.MmDH2Ideal.main_arg1) = m ((c.tc : Thread Cert.MmDH2Ideal.nD Cert.MmDH2Ideal.τ).loc Cert.MmDH2Ideal.main_arg1))
      ∧ θ_run (Cert.MmDH2RefIdeal.defs (F := Ideal)) (onTc (τ := Cert.MmDH2RefIdeal.τ) (Cert.MmDH2RefIdeal.main (F := Ideal))) ⟨m', fun _ => 0, g'⟩ (fun r => ∀ c : Dev Cert.MmDH2RefIdeal.nD,
          r.2.mem ((c.tc : Thread Cert.MmDH2RefIdeal.nD Cert.MmDH2RefIdeal.τ).loc Cert.MmDH2RefIdeal.main_v6) = v0 c
          ∧ r.2.mem ((c.tc : Thread Cert.MmDH2RefIdeal.nD Cert.MmDH2RefIdeal.τ).loc Cert.MmDH2RefIdeal.main_arg0) = m' ((c.tc : Thread Cert.MmDH2RefIdeal.nD Cert.MmDH2RefIdeal.τ).loc Cert.MmDH2RefIdeal.main_arg0)
          ∧ r.2.mem ((c.tc : Thread Cert.MmDH2RefIdeal.nD Cert.MmDH2RefIdeal.τ).loc Cert.MmDH2RefIdeal.main_arg1) = m' ((c.tc : Thread Cert.MmDH2RefIdeal.nD Cert.MmDH2RefIdeal.τ).loc Cert.MmDH2RefIdeal.main_arg1))

def preserves_MmGWo_MmGWoIdeal : Prop :=
  True

def algebraic_MmGWoIdeal_MmGWoRefIdeal [hMmGWoIdeal : Cert.MmGWoIdeal.Facts] [hMmGWoRefIdeal : Cert.MmGWoRefIdeal.Facts] : Prop :=
  ∀ (m : (ℓ : Loc Cert.MmGWoIdeal.nD Cert.MmGWoIdeal.τ Cert.MmGWoIdeal.sig) → Buf (Elt Ideal) ℓ) (g : Dev Cert.MmGWoIdeal.nD → PrngReg)
    (m' : (ℓ : Loc Cert.MmGWoRefIdeal.nD Cert.MmGWoRefIdeal.τ Cert.MmGWoRefIdeal.sig) → Buf (Elt Ideal) ℓ) (g' : Dev Cert.MmGWoRefIdeal.nD → PrngReg), Pre_MmGWoIdeal m →
    (∀ c : Dev Cert.MmGWoIdeal.nD,
      m' ((c.tc : Thread Cert.MmGWoRefIdeal.nD Cert.MmGWoRefIdeal.τ).loc Cert.MmGWoRefIdeal.main_arg0) = m ((c.tc : Thread Cert.MmGWoIdeal.nD Cert.MmGWoIdeal.τ).loc Cert.MmGWoIdeal.main_arg0)
      ∧ m' ((c.tc : Thread Cert.MmGWoRefIdeal.nD Cert.MmGWoRefIdeal.τ).loc Cert.MmGWoRefIdeal.main_arg1) = m ((c.tc : Thread Cert.MmGWoIdeal.nD Cert.MmGWoIdeal.τ).loc Cert.MmGWoIdeal.main_arg1)) →
    ∃ (v0 : (c : Dev Cert.MmGWoIdeal.nD) → Buf (Elt Ideal) ((c.tc : Thread Cert.MmGWoIdeal.nD Cert.MmGWoIdeal.τ).loc Cert.MmGWoIdeal.main_v0)),
      θ_run (Cert.MmGWoIdeal.defs (F := Ideal)) (onTc (τ := Cert.MmGWoIdeal.τ) (Cert.MmGWoIdeal.main (F := Ideal))) ⟨m, fun _ => 0, g⟩ (fun r => ∀ c : Dev Cert.MmGWoIdeal.nD,
          r.2.mem ((c.tc : Thread Cert.MmGWoIdeal.nD Cert.MmGWoIdeal.τ).loc Cert.MmGWoIdeal.main_v0) = v0 c
          ∧ r.2.mem ((c.tc : Thread Cert.MmGWoIdeal.nD Cert.MmGWoIdeal.τ).loc Cert.MmGWoIdeal.main_arg0) = m ((c.tc : Thread Cert.MmGWoIdeal.nD Cert.MmGWoIdeal.τ).loc Cert.MmGWoIdeal.main_arg0)
          ∧ r.2.mem ((c.tc : Thread Cert.MmGWoIdeal.nD Cert.MmGWoIdeal.τ).loc Cert.MmGWoIdeal.main_arg1) = m ((c.tc : Thread Cert.MmGWoIdeal.nD Cert.MmGWoIdeal.τ).loc Cert.MmGWoIdeal.main_arg1))
      ∧ θ_run (Cert.MmGWoRefIdeal.defs (F := Ideal)) (onTc (τ := Cert.MmGWoRefIdeal.τ) (Cert.MmGWoRefIdeal.main (F := Ideal))) ⟨m', fun _ => 0, g'⟩ (fun r => ∀ c : Dev Cert.MmGWoRefIdeal.nD,
          r.2.mem ((c.tc : Thread Cert.MmGWoRefIdeal.nD Cert.MmGWoRefIdeal.τ).loc Cert.MmGWoRefIdeal.main_v3) = v0 c
          ∧ r.2.mem ((c.tc : Thread Cert.MmGWoRefIdeal.nD Cert.MmGWoRefIdeal.τ).loc Cert.MmGWoRefIdeal.main_arg0) = m' ((c.tc : Thread Cert.MmGWoRefIdeal.nD Cert.MmGWoRefIdeal.τ).loc Cert.MmGWoRefIdeal.main_arg0)
          ∧ r.2.mem ((c.tc : Thread Cert.MmGWoRefIdeal.nD Cert.MmGWoRefIdeal.τ).loc Cert.MmGWoRefIdeal.main_arg1) = m' ((c.tc : Thread Cert.MmGWoRefIdeal.nD Cert.MmGWoRefIdeal.τ).loc Cert.MmGWoRefIdeal.main_arg1))

def preserves_MmDO_MmDOIdeal : Prop :=
  True

def algebraic_MmDOIdeal_MmDORefIdeal [hMmDOIdeal : Cert.MmDOIdeal.Facts] [hMmDORefIdeal : Cert.MmDORefIdeal.Facts] : Prop :=
  ∀ (m : (ℓ : Loc Cert.MmDOIdeal.nD Cert.MmDOIdeal.τ Cert.MmDOIdeal.sig) → Buf (Elt Ideal) ℓ) (g : Dev Cert.MmDOIdeal.nD → PrngReg)
    (m' : (ℓ : Loc Cert.MmDORefIdeal.nD Cert.MmDORefIdeal.τ Cert.MmDORefIdeal.sig) → Buf (Elt Ideal) ℓ) (g' : Dev Cert.MmDORefIdeal.nD → PrngReg), Pre_MmDOIdeal m →
    (∀ c : Dev Cert.MmDOIdeal.nD,
      m' ((c.tc : Thread Cert.MmDORefIdeal.nD Cert.MmDORefIdeal.τ).loc Cert.MmDORefIdeal.main_arg0) = m ((c.tc : Thread Cert.MmDOIdeal.nD Cert.MmDOIdeal.τ).loc Cert.MmDOIdeal.main_arg0)
      ∧ m' ((c.tc : Thread Cert.MmDORefIdeal.nD Cert.MmDORefIdeal.τ).loc Cert.MmDORefIdeal.main_arg1) = m ((c.tc : Thread Cert.MmDOIdeal.nD Cert.MmDOIdeal.τ).loc Cert.MmDOIdeal.main_arg1)) →
    ∃ (v0 : (c : Dev Cert.MmDOIdeal.nD) → Buf (Elt Ideal) ((c.tc : Thread Cert.MmDOIdeal.nD Cert.MmDOIdeal.τ).loc Cert.MmDOIdeal.main_v0)),
      θ_run (Cert.MmDOIdeal.defs (F := Ideal)) (onTc (τ := Cert.MmDOIdeal.τ) (Cert.MmDOIdeal.main (F := Ideal))) ⟨m, fun _ => 0, g⟩ (fun r => ∀ c : Dev Cert.MmDOIdeal.nD,
          r.2.mem ((c.tc : Thread Cert.MmDOIdeal.nD Cert.MmDOIdeal.τ).loc Cert.MmDOIdeal.main_v0) = v0 c
          ∧ r.2.mem ((c.tc : Thread Cert.MmDOIdeal.nD Cert.MmDOIdeal.τ).loc Cert.MmDOIdeal.main_arg0) = m ((c.tc : Thread Cert.MmDOIdeal.nD Cert.MmDOIdeal.τ).loc Cert.MmDOIdeal.main_arg0)
          ∧ r.2.mem ((c.tc : Thread Cert.MmDOIdeal.nD Cert.MmDOIdeal.τ).loc Cert.MmDOIdeal.main_arg1) = m ((c.tc : Thread Cert.MmDOIdeal.nD Cert.MmDOIdeal.τ).loc Cert.MmDOIdeal.main_arg1))
      ∧ θ_run (Cert.MmDORefIdeal.defs (F := Ideal)) (onTc (τ := Cert.MmDORefIdeal.τ) (Cert.MmDORefIdeal.main (F := Ideal))) ⟨m', fun _ => 0, g'⟩ (fun r => ∀ c : Dev Cert.MmDORefIdeal.nD,
          r.2.mem ((c.tc : Thread Cert.MmDORefIdeal.nD Cert.MmDORefIdeal.τ).loc Cert.MmDORefIdeal.main_v2) = v0 c
          ∧ r.2.mem ((c.tc : Thread Cert.MmDORefIdeal.nD Cert.MmDORefIdeal.τ).loc Cert.MmDORefIdeal.main_arg0) = m' ((c.tc : Thread Cert.MmDORefIdeal.nD Cert.MmDORefIdeal.τ).loc Cert.MmDORefIdeal.main_arg0)
          ∧ r.2.mem ((c.tc : Thread Cert.MmDORefIdeal.nD Cert.MmDORefIdeal.τ).loc Cert.MmDORefIdeal.main_arg1) = m' ((c.tc : Thread Cert.MmDORefIdeal.nD Cert.MmDORefIdeal.τ).loc Cert.MmDORefIdeal.main_arg1))

def preserves_MmGWin_MmGWinIdeal : Prop :=
  True

def algebraic_MmGWinIdeal_MmGWinRefIdeal [hMmGWinIdeal : Cert.MmGWinIdeal.Facts] [hMmGWinRefIdeal : Cert.MmGWinRefIdeal.Facts] : Prop :=
  ∀ (m : (ℓ : Loc Cert.MmGWinIdeal.nD Cert.MmGWinIdeal.τ Cert.MmGWinIdeal.sig) → Buf (Elt Ideal) ℓ) (g : Dev Cert.MmGWinIdeal.nD → PrngReg)
    (m' : (ℓ : Loc Cert.MmGWinRefIdeal.nD Cert.MmGWinRefIdeal.τ Cert.MmGWinRefIdeal.sig) → Buf (Elt Ideal) ℓ) (g' : Dev Cert.MmGWinRefIdeal.nD → PrngReg), Pre_MmGWinIdeal m →
    (∀ c : Dev Cert.MmGWinIdeal.nD,
      m' ((c.tc : Thread Cert.MmGWinRefIdeal.nD Cert.MmGWinRefIdeal.τ).loc Cert.MmGWinRefIdeal.main_arg0) = m ((c.tc : Thread Cert.MmGWinIdeal.nD Cert.MmGWinIdeal.τ).loc Cert.MmGWinIdeal.main_arg0)
      ∧ m' ((c.tc : Thread Cert.MmGWinRefIdeal.nD Cert.MmGWinRefIdeal.τ).loc Cert.MmGWinRefIdeal.main_arg1) = m ((c.tc : Thread Cert.MmGWinIdeal.nD Cert.MmGWinIdeal.τ).loc Cert.MmGWinIdeal.main_arg1)) →
    ∃ (v0 : (c : Dev Cert.MmGWinIdeal.nD) → Buf (Elt Ideal) ((c.tc : Thread Cert.MmGWinIdeal.nD Cert.MmGWinIdeal.τ).loc Cert.MmGWinIdeal.main_v0)),
      θ_run (Cert.MmGWinIdeal.defs (F := Ideal)) (onTc (τ := Cert.MmGWinIdeal.τ) (Cert.MmGWinIdeal.main (F := Ideal))) ⟨m, fun _ => 0, g⟩ (fun r => ∀ c : Dev Cert.MmGWinIdeal.nD,
          r.2.mem ((c.tc : Thread Cert.MmGWinIdeal.nD Cert.MmGWinIdeal.τ).loc Cert.MmGWinIdeal.main_v0) = v0 c
          ∧ r.2.mem ((c.tc : Thread Cert.MmGWinIdeal.nD Cert.MmGWinIdeal.τ).loc Cert.MmGWinIdeal.main_arg0) = m ((c.tc : Thread Cert.MmGWinIdeal.nD Cert.MmGWinIdeal.τ).loc Cert.MmGWinIdeal.main_arg0)
          ∧ r.2.mem ((c.tc : Thread Cert.MmGWinIdeal.nD Cert.MmGWinIdeal.τ).loc Cert.MmGWinIdeal.main_arg1) = m ((c.tc : Thread Cert.MmGWinIdeal.nD Cert.MmGWinIdeal.τ).loc Cert.MmGWinIdeal.main_arg1))
      ∧ θ_run (Cert.MmGWinRefIdeal.defs (F := Ideal)) (onTc (τ := Cert.MmGWinRefIdeal.τ) (Cert.MmGWinRefIdeal.main (F := Ideal))) ⟨m', fun _ => 0, g'⟩ (fun r => ∀ c : Dev Cert.MmGWinRefIdeal.nD,
          r.2.mem ((c.tc : Thread Cert.MmGWinRefIdeal.nD Cert.MmGWinRefIdeal.τ).loc Cert.MmGWinRefIdeal.main_v3) = v0 c
          ∧ r.2.mem ((c.tc : Thread Cert.MmGWinRefIdeal.nD Cert.MmGWinRefIdeal.τ).loc Cert.MmGWinRefIdeal.main_arg0) = m' ((c.tc : Thread Cert.MmGWinRefIdeal.nD Cert.MmGWinRefIdeal.τ).loc Cert.MmGWinRefIdeal.main_arg0)
          ∧ r.2.mem ((c.tc : Thread Cert.MmGWinRefIdeal.nD Cert.MmGWinRefIdeal.τ).loc Cert.MmGWinRefIdeal.main_arg1) = m' ((c.tc : Thread Cert.MmGWinRefIdeal.nD Cert.MmGWinRefIdeal.τ).loc Cert.MmGWinRefIdeal.main_arg1))

def preserves_MmDH1_MmDH1Ideal : Prop :=
  True

def algebraic_MmDH1Ideal_MmDH1RefIdeal [hMmDH1Ideal : Cert.MmDH1Ideal.Facts] [hMmDH1RefIdeal : Cert.MmDH1RefIdeal.Facts] : Prop :=
  ∀ (m : (ℓ : Loc Cert.MmDH1Ideal.nD Cert.MmDH1Ideal.τ Cert.MmDH1Ideal.sig) → Buf (Elt Ideal) ℓ) (g : Dev Cert.MmDH1Ideal.nD → PrngReg)
    (m' : (ℓ : Loc Cert.MmDH1RefIdeal.nD Cert.MmDH1RefIdeal.τ Cert.MmDH1RefIdeal.sig) → Buf (Elt Ideal) ℓ) (g' : Dev Cert.MmDH1RefIdeal.nD → PrngReg), Pre_MmDH1Ideal m →
    (∀ c : Dev Cert.MmDH1Ideal.nD,
      m' ((c.tc : Thread Cert.MmDH1RefIdeal.nD Cert.MmDH1RefIdeal.τ).loc Cert.MmDH1RefIdeal.main_arg0) = m ((c.tc : Thread Cert.MmDH1Ideal.nD Cert.MmDH1Ideal.τ).loc Cert.MmDH1Ideal.main_arg0)
      ∧ m' ((c.tc : Thread Cert.MmDH1RefIdeal.nD Cert.MmDH1RefIdeal.τ).loc Cert.MmDH1RefIdeal.main_arg1) = m ((c.tc : Thread Cert.MmDH1Ideal.nD Cert.MmDH1Ideal.τ).loc Cert.MmDH1Ideal.main_arg1)) →
    ∃ (v0 : (c : Dev Cert.MmDH1Ideal.nD) → Buf (Elt Ideal) ((c.tc : Thread Cert.MmDH1Ideal.nD Cert.MmDH1Ideal.τ).loc Cert.MmDH1Ideal.main_v0)),
      θ_run (Cert.MmDH1Ideal.defs (F := Ideal)) (onTc (τ := Cert.MmDH1Ideal.τ) (Cert.MmDH1Ideal.main (F := Ideal))) ⟨m, fun _ => 0, g⟩ (fun r => ∀ c : Dev Cert.MmDH1Ideal.nD,
          r.2.mem ((c.tc : Thread Cert.MmDH1Ideal.nD Cert.MmDH1Ideal.τ).loc Cert.MmDH1Ideal.main_v0) = v0 c
          ∧ r.2.mem ((c.tc : Thread Cert.MmDH1Ideal.nD Cert.MmDH1Ideal.τ).loc Cert.MmDH1Ideal.main_arg0) = m ((c.tc : Thread Cert.MmDH1Ideal.nD Cert.MmDH1Ideal.τ).loc Cert.MmDH1Ideal.main_arg0)
          ∧ r.2.mem ((c.tc : Thread Cert.MmDH1Ideal.nD Cert.MmDH1Ideal.τ).loc Cert.MmDH1Ideal.main_arg1) = m ((c.tc : Thread Cert.MmDH1Ideal.nD Cert.MmDH1Ideal.τ).loc Cert.MmDH1Ideal.main_arg1))
      ∧ θ_run (Cert.MmDH1RefIdeal.defs (F := Ideal)) (onTc (τ := Cert.MmDH1RefIdeal.τ) (Cert.MmDH1RefIdeal.main (F := Ideal))) ⟨m', fun _ => 0, g'⟩ (fun r => ∀ c : Dev Cert.MmDH1RefIdeal.nD,
          r.2.mem ((c.tc : Thread Cert.MmDH1RefIdeal.nD Cert.MmDH1RefIdeal.τ).loc Cert.MmDH1RefIdeal.main_v2) = v0 c
          ∧ r.2.mem ((c.tc : Thread Cert.MmDH1RefIdeal.nD Cert.MmDH1RefIdeal.τ).loc Cert.MmDH1RefIdeal.main_arg0) = m' ((c.tc : Thread Cert.MmDH1RefIdeal.nD Cert.MmDH1RefIdeal.τ).loc Cert.MmDH1RefIdeal.main_arg0)
          ∧ r.2.mem ((c.tc : Thread Cert.MmDH1RefIdeal.nD Cert.MmDH1RefIdeal.τ).loc Cert.MmDH1RefIdeal.main_arg1) = m' ((c.tc : Thread Cert.MmDH1RefIdeal.nD Cert.MmDH1RefIdeal.τ).loc Cert.MmDH1RefIdeal.main_arg1))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v0)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v0) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v2) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_MmWo_MmWoIdeal : Prop :=
  True

def algebraic_MmWoIdeal_MmWoRefIdeal [hMmWoIdeal : Cert.MmWoIdeal.Facts] [hMmWoRefIdeal : Cert.MmWoRefIdeal.Facts] : Prop :=
  ∀ (m : (ℓ : Loc Cert.MmWoIdeal.nD Cert.MmWoIdeal.τ Cert.MmWoIdeal.sig) → Buf (Elt Ideal) ℓ) (g : Dev Cert.MmWoIdeal.nD → PrngReg)
    (m' : (ℓ : Loc Cert.MmWoRefIdeal.nD Cert.MmWoRefIdeal.τ Cert.MmWoRefIdeal.sig) → Buf (Elt Ideal) ℓ) (g' : Dev Cert.MmWoRefIdeal.nD → PrngReg), Pre_MmWoIdeal m →
    (∀ c : Dev Cert.MmWoIdeal.nD,
      m' ((c.tc : Thread Cert.MmWoRefIdeal.nD Cert.MmWoRefIdeal.τ).loc Cert.MmWoRefIdeal.main_arg0) = m ((c.tc : Thread Cert.MmWoIdeal.nD Cert.MmWoIdeal.τ).loc Cert.MmWoIdeal.main_arg0)
      ∧ m' ((c.tc : Thread Cert.MmWoRefIdeal.nD Cert.MmWoRefIdeal.τ).loc Cert.MmWoRefIdeal.main_arg1) = m ((c.tc : Thread Cert.MmWoIdeal.nD Cert.MmWoIdeal.τ).loc Cert.MmWoIdeal.main_arg1)) →
    ∃ (v0 : (c : Dev Cert.MmWoIdeal.nD) → Buf (Elt Ideal) ((c.tc : Thread Cert.MmWoIdeal.nD Cert.MmWoIdeal.τ).loc Cert.MmWoIdeal.main_v0)),
      θ_run (Cert.MmWoIdeal.defs (F := Ideal)) (onTc (τ := Cert.MmWoIdeal.τ) (Cert.MmWoIdeal.main (F := Ideal))) ⟨m, fun _ => 0, g⟩ (fun r => ∀ c : Dev Cert.MmWoIdeal.nD,
          r.2.mem ((c.tc : Thread Cert.MmWoIdeal.nD Cert.MmWoIdeal.τ).loc Cert.MmWoIdeal.main_v0) = v0 c
          ∧ r.2.mem ((c.tc : Thread Cert.MmWoIdeal.nD Cert.MmWoIdeal.τ).loc Cert.MmWoIdeal.main_arg0) = m ((c.tc : Thread Cert.MmWoIdeal.nD Cert.MmWoIdeal.τ).loc Cert.MmWoIdeal.main_arg0)
          ∧ r.2.mem ((c.tc : Thread Cert.MmWoIdeal.nD Cert.MmWoIdeal.τ).loc Cert.MmWoIdeal.main_arg1) = m ((c.tc : Thread Cert.MmWoIdeal.nD Cert.MmWoIdeal.τ).loc Cert.MmWoIdeal.main_arg1))
      ∧ θ_run (Cert.MmWoRefIdeal.defs (F := Ideal)) (onTc (τ := Cert.MmWoRefIdeal.τ) (Cert.MmWoRefIdeal.main (F := Ideal))) ⟨m', fun _ => 0, g'⟩ (fun r => ∀ c : Dev Cert.MmWoRefIdeal.nD,
          r.2.mem ((c.tc : Thread Cert.MmWoRefIdeal.nD Cert.MmWoRefIdeal.τ).loc Cert.MmWoRefIdeal.main_v2) = v0 c
          ∧ r.2.mem ((c.tc : Thread Cert.MmWoRefIdeal.nD Cert.MmWoRefIdeal.τ).loc Cert.MmWoRefIdeal.main_arg0) = m' ((c.tc : Thread Cert.MmWoRefIdeal.nD Cert.MmWoRefIdeal.τ).loc Cert.MmWoRefIdeal.main_arg0)
          ∧ r.2.mem ((c.tc : Thread Cert.MmWoRefIdeal.nD Cert.MmWoRefIdeal.τ).loc Cert.MmWoRefIdeal.main_arg1) = m' ((c.tc : Thread Cert.MmWoRefIdeal.nD Cert.MmWoRefIdeal.τ).loc Cert.MmWoRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v4) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v2) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_MmGAda_MmGAdaIdeal : Prop :=
  True

def algebraic_MmGAdaIdeal_MmGAdaRefIdeal [hMmGAdaIdeal : Cert.MmGAdaIdeal.Facts] [hMmGAdaRefIdeal : Cert.MmGAdaRefIdeal.Facts] : Prop :=
  ∀ (m : (ℓ : Loc Cert.MmGAdaIdeal.nD Cert.MmGAdaIdeal.τ Cert.MmGAdaIdeal.sig) → Buf (Elt Ideal) ℓ) (g : Dev Cert.MmGAdaIdeal.nD → PrngReg)
    (m' : (ℓ : Loc Cert.MmGAdaRefIdeal.nD Cert.MmGAdaRefIdeal.τ Cert.MmGAdaRefIdeal.sig) → Buf (Elt Ideal) ℓ) (g' : Dev Cert.MmGAdaRefIdeal.nD → PrngReg), Pre_MmGAdaIdeal m →
    (∀ c : Dev Cert.MmGAdaIdeal.nD,
      m' ((c.tc : Thread Cert.MmGAdaRefIdeal.nD Cert.MmGAdaRefIdeal.τ).loc Cert.MmGAdaRefIdeal.main_arg0) = m ((c.tc : Thread Cert.MmGAdaIdeal.nD Cert.MmGAdaIdeal.τ).loc Cert.MmGAdaIdeal.main_arg0)
      ∧ m' ((c.tc : Thread Cert.MmGAdaRefIdeal.nD Cert.MmGAdaRefIdeal.τ).loc Cert.MmGAdaRefIdeal.main_arg1) = m ((c.tc : Thread Cert.MmGAdaIdeal.nD Cert.MmGAdaIdeal.τ).loc Cert.MmGAdaIdeal.main_arg1)) →
    ∃ (v0 : (c : Dev Cert.MmGAdaIdeal.nD) → Buf (Elt Ideal) ((c.tc : Thread Cert.MmGAdaIdeal.nD Cert.MmGAdaIdeal.τ).loc Cert.MmGAdaIdeal.main_v0)),
      θ_run (Cert.MmGAdaIdeal.defs (F := Ideal)) (onTc (τ := Cert.MmGAdaIdeal.τ) (Cert.MmGAdaIdeal.main (F := Ideal))) ⟨m, fun _ => 0, g⟩ (fun r => ∀ c : Dev Cert.MmGAdaIdeal.nD,
          r.2.mem ((c.tc : Thread Cert.MmGAdaIdeal.nD Cert.MmGAdaIdeal.τ).loc Cert.MmGAdaIdeal.main_v0) = v0 c
          ∧ r.2.mem ((c.tc : Thread Cert.MmGAdaIdeal.nD Cert.MmGAdaIdeal.τ).loc Cert.MmGAdaIdeal.main_arg0) = m ((c.tc : Thread Cert.MmGAdaIdeal.nD Cert.MmGAdaIdeal.τ).loc Cert.MmGAdaIdeal.main_arg0)
          ∧ r.2.mem ((c.tc : Thread Cert.MmGAdaIdeal.nD Cert.MmGAdaIdeal.τ).loc Cert.MmGAdaIdeal.main_arg1) = m ((c.tc : Thread Cert.MmGAdaIdeal.nD Cert.MmGAdaIdeal.τ).loc Cert.MmGAdaIdeal.main_arg1))
      ∧ θ_run (Cert.MmGAdaRefIdeal.defs (F := Ideal)) (onTc (τ := Cert.MmGAdaRefIdeal.τ) (Cert.MmGAdaRefIdeal.main (F := Ideal))) ⟨m', fun _ => 0, g'⟩ (fun r => ∀ c : Dev Cert.MmGAdaRefIdeal.nD,
          r.2.mem ((c.tc : Thread Cert.MmGAdaRefIdeal.nD Cert.MmGAdaRefIdeal.τ).loc Cert.MmGAdaRefIdeal.main_v1) = v0 c
          ∧ r.2.mem ((c.tc : Thread Cert.MmGAdaRefIdeal.nD Cert.MmGAdaRefIdeal.τ).loc Cert.MmGAdaRefIdeal.main_arg0) = m' ((c.tc : Thread Cert.MmGAdaRefIdeal.nD Cert.MmGAdaRefIdeal.τ).loc Cert.MmGAdaRefIdeal.main_arg0)
          ∧ r.2.mem ((c.tc : Thread Cert.MmGAdaRefIdeal.nD Cert.MmGAdaRefIdeal.τ).loc Cert.MmGAdaRefIdeal.main_arg1) = m' ((c.tc : Thread Cert.MmGAdaRefIdeal.nD Cert.MmGAdaRefIdeal.τ).loc Cert.MmGAdaRefIdeal.main_arg1))

def preserves_ColSum_ColSumIdeal : Prop :=
  True

def algebraic_ColSumIdeal_ColSumRefIdeal [hColSumIdeal : Cert.ColSumIdeal.Facts] [hColSumRefIdeal : Cert.ColSumRefIdeal.Facts] : Prop :=
  ∀ (m : (ℓ : Loc Cert.ColSumIdeal.nD Cert.ColSumIdeal.τ Cert.ColSumIdeal.sig) → Buf (Elt Ideal) ℓ) (g : Dev Cert.ColSumIdeal.nD → PrngReg)
    (m' : (ℓ : Loc Cert.ColSumRefIdeal.nD Cert.ColSumRefIdeal.τ Cert.ColSumRefIdeal.sig) → Buf (Elt Ideal) ℓ) (g' : Dev Cert.ColSumRefIdeal.nD → PrngReg), Pre_ColSumIdeal m →
    (∀ c : Dev Cert.ColSumIdeal.nD,
      m' ((c.tc : Thread Cert.ColSumRefIdeal.nD Cert.ColSumRefIdeal.τ).loc Cert.ColSumRefIdeal.main_arg0) = m ((c.tc : Thread Cert.ColSumIdeal.nD Cert.ColSumIdeal.τ).loc Cert.ColSumIdeal.main_arg0)) →
    ∃ (v0 : (c : Dev Cert.ColSumIdeal.nD) → Buf (Elt Ideal) ((c.tc : Thread Cert.ColSumIdeal.nD Cert.ColSumIdeal.τ).loc Cert.ColSumIdeal.main_v0)),
      θ_run (Cert.ColSumIdeal.defs (F := Ideal)) (onTc (τ := Cert.ColSumIdeal.τ) (Cert.ColSumIdeal.main (F := Ideal))) ⟨m, fun _ => 0, g⟩ (fun r => ∀ c : Dev Cert.ColSumIdeal.nD,
          r.2.mem ((c.tc : Thread Cert.ColSumIdeal.nD Cert.ColSumIdeal.τ).loc Cert.ColSumIdeal.main_v0) = v0 c
          ∧ r.2.mem ((c.tc : Thread Cert.ColSumIdeal.nD Cert.ColSumIdeal.τ).loc Cert.ColSumIdeal.main_arg0) = m ((c.tc : Thread Cert.ColSumIdeal.nD Cert.ColSumIdeal.τ).loc Cert.ColSumIdeal.main_arg0))
      ∧ θ_run (Cert.ColSumRefIdeal.defs (F := Ideal)) (onTc (τ := Cert.ColSumRefIdeal.τ) (Cert.ColSumRefIdeal.main (F := Ideal))) ⟨m', fun _ => 0, g'⟩ (fun r => ∀ c : Dev Cert.ColSumRefIdeal.nD,
          r.2.mem ((c.tc : Thread Cert.ColSumRefIdeal.nD Cert.ColSumRefIdeal.τ).loc Cert.ColSumRefIdeal.main_v3) = v0 c
          ∧ r.2.mem ((c.tc : Thread Cert.ColSumRefIdeal.nD Cert.ColSumRefIdeal.τ).loc Cert.ColSumRefIdeal.main_arg0) = m' ((c.tc : Thread Cert.ColSumRefIdeal.nD Cert.ColSumRefIdeal.τ).loc Cert.ColSumRefIdeal.main_arg0))

def preserves_Ln0Bwd_Ln0BwdIdeal : Prop :=
  True

def algebraic_Ln0BwdIdeal_Ln0BwdRefIdeal [hLn0BwdIdeal : Cert.Ln0BwdIdeal.Facts] [hLn0BwdRefIdeal : Cert.Ln0BwdRefIdeal.Facts] : Prop :=
  ∀ (m : (ℓ : Loc Cert.Ln0BwdIdeal.nD Cert.Ln0BwdIdeal.τ Cert.Ln0BwdIdeal.sig) → Buf (Elt Ideal) ℓ) (g : Dev Cert.Ln0BwdIdeal.nD → PrngReg)
    (m' : (ℓ : Loc Cert.Ln0BwdRefIdeal.nD Cert.Ln0BwdRefIdeal.τ Cert.Ln0BwdRefIdeal.sig) → Buf (Elt Ideal) ℓ) (g' : Dev Cert.Ln0BwdRefIdeal.nD → PrngReg), Pre_Ln0BwdIdeal m →
    (∀ c : Dev Cert.Ln0BwdIdeal.nD,
      m' ((c.tc : Thread Cert.Ln0BwdRefIdeal.nD Cert.Ln0BwdRefIdeal.τ).loc Cert.Ln0BwdRefIdeal.main_arg0) = m ((c.tc : Thread Cert.Ln0BwdIdeal.nD Cert.Ln0BwdIdeal.τ).loc Cert.Ln0BwdIdeal.main_arg0)
      ∧ m' ((c.tc : Thread Cert.Ln0BwdRefIdeal.nD Cert.Ln0BwdRefIdeal.τ).loc Cert.Ln0BwdRefIdeal.main_arg1) = m ((c.tc : Thread Cert.Ln0BwdIdeal.nD Cert.Ln0BwdIdeal.τ).loc Cert.Ln0BwdIdeal.main_arg1)
      ∧ m' ((c.tc : Thread Cert.Ln0BwdRefIdeal.nD Cert.Ln0BwdRefIdeal.τ).loc Cert.Ln0BwdRefIdeal.main_arg2) = m ((c.tc : Thread Cert.Ln0BwdIdeal.nD Cert.Ln0BwdIdeal.τ).loc Cert.Ln0BwdIdeal.main_arg2)
      ∧ m' ((c.tc : Thread Cert.Ln0BwdRefIdeal.nD Cert.Ln0BwdRefIdeal.τ).loc Cert.Ln0BwdRefIdeal.main_arg3) = m ((c.tc : Thread Cert.Ln0BwdIdeal.nD Cert.Ln0BwdIdeal.τ).loc Cert.Ln0BwdIdeal.main_arg3)
      ∧ m' ((c.tc : Thread Cert.Ln0BwdRefIdeal.nD Cert.Ln0BwdRefIdeal.τ).loc Cert.Ln0BwdRefIdeal.main_arg4) = m ((c.tc : Thread Cert.Ln0BwdIdeal.nD Cert.Ln0BwdIdeal.τ).loc Cert.Ln0BwdIdeal.main_arg4)
      ∧ m' ((c.tc : Thread Cert.Ln0BwdRefIdeal.nD Cert.Ln0BwdRefIdeal.τ).loc Cert.Ln0BwdRefIdeal.main_arg5) = m ((c.tc : Thread Cert.Ln0BwdIdeal.nD Cert.Ln0BwdIdeal.τ).loc Cert.Ln0BwdIdeal.main_arg5)) →
    ∃ (v0 : (c : Dev Cert.Ln0BwdIdeal.nD) → Buf (Elt Ideal) ((c.tc : Thread Cert.Ln0BwdIdeal.nD Cert.Ln0BwdIdeal.τ).loc Cert.Ln0BwdIdeal.main_v0_0)),
      θ_run (Cert.Ln0BwdIdeal.defs (F := Ideal)) (onTc (τ := Cert.Ln0BwdIdeal.τ) (Cert.Ln0BwdIdeal.main (F := Ideal))) ⟨m, fun _ => 0, g⟩ (fun r => ∀ c : Dev Cert.Ln0BwdIdeal.nD,
          r.2.mem ((c.tc : Thread Cert.Ln0BwdIdeal.nD Cert.Ln0BwdIdeal.τ).loc Cert.Ln0BwdIdeal.main_v0_0) = v0 c
          ∧ r.2.mem ((c.tc : Thread Cert.Ln0BwdIdeal.nD Cert.Ln0BwdIdeal.τ).loc Cert.Ln0BwdIdeal.main_arg0) = m ((c.tc : Thread Cert.Ln0BwdIdeal.nD Cert.Ln0BwdIdeal.τ).loc Cert.Ln0BwdIdeal.main_arg0)
          ∧ r.2.mem ((c.tc : Thread Cert.Ln0BwdIdeal.nD Cert.Ln0BwdIdeal.τ).loc Cert.Ln0BwdIdeal.main_arg1) = m ((c.tc : Thread Cert.Ln0BwdIdeal.nD Cert.Ln0BwdIdeal.τ).loc Cert.Ln0BwdIdeal.main_arg1)
          ∧ r.2.mem ((c.tc : Thread Cert.Ln0BwdIdeal.nD Cert.Ln0BwdIdeal.τ).loc Cert.Ln0BwdIdeal.main_arg2) = m ((c.tc : Thread Cert.Ln0BwdIdeal.nD Cert.Ln0BwdIdeal.τ).loc Cert.Ln0BwdIdeal.main_arg2)
          ∧ r.2.mem ((c.tc : Thread Cert.Ln0BwdIdeal.nD Cert.Ln0BwdIdeal.τ).loc Cert.Ln0BwdIdeal.main_arg3) = m ((c.tc : Thread Cert.Ln0BwdIdeal.nD Cert.Ln0BwdIdeal.τ).loc Cert.Ln0BwdIdeal.main_arg3)
          ∧ r.2.mem ((c.tc : Thread Cert.Ln0BwdIdeal.nD Cert.Ln0BwdIdeal.τ).loc Cert.Ln0BwdIdeal.main_arg4) = m ((c.tc : Thread Cert.Ln0BwdIdeal.nD Cert.Ln0BwdIdeal.τ).loc Cert.Ln0BwdIdeal.main_arg4)
          ∧ r.2.mem ((c.tc : Thread Cert.Ln0BwdIdeal.nD Cert.Ln0BwdIdeal.τ).loc Cert.Ln0BwdIdeal.main_arg5) = m ((c.tc : Thread Cert.Ln0BwdIdeal.nD Cert.Ln0BwdIdeal.τ).loc Cert.Ln0BwdIdeal.main_arg5))
      ∧ θ_run (Cert.Ln0BwdRefIdeal.defs (F := Ideal)) (onTc (τ := Cert.Ln0BwdRefIdeal.τ) (Cert.Ln0BwdRefIdeal.main (F := Ideal))) ⟨m', fun _ => 0, g'⟩ (fun r => ∀ c : Dev Cert.Ln0BwdRefIdeal.nD,
          r.2.mem ((c.tc : Thread Cert.Ln0BwdRefIdeal.nD Cert.Ln0BwdRefIdeal.τ).loc Cert.Ln0BwdRefIdeal.main_v82) = v0 c
          ∧ r.2.mem ((c.tc : Thread Cert.Ln0BwdRefIdeal.nD Cert.Ln0BwdRefIdeal.τ).loc Cert.Ln0BwdRefIdeal.main_arg0) = m' ((c.tc : Thread Cert.Ln0BwdRefIdeal.nD Cert.Ln0BwdRefIdeal.τ).loc Cert.Ln0BwdRefIdeal.main_arg0)
          ∧ r.2.mem ((c.tc : Thread Cert.Ln0BwdRefIdeal.nD Cert.Ln0BwdRefIdeal.τ).loc Cert.Ln0BwdRefIdeal.main_arg1) = m' ((c.tc : Thread Cert.Ln0BwdRefIdeal.nD Cert.Ln0BwdRefIdeal.τ).loc Cert.Ln0BwdRefIdeal.main_arg1)
          ∧ r.2.mem ((c.tc : Thread Cert.Ln0BwdRefIdeal.nD Cert.Ln0BwdRefIdeal.τ).loc Cert.Ln0BwdRefIdeal.main_arg2) = m' ((c.tc : Thread Cert.Ln0BwdRefIdeal.nD Cert.Ln0BwdRefIdeal.τ).loc Cert.Ln0BwdRefIdeal.main_arg2)
          ∧ r.2.mem ((c.tc : Thread Cert.Ln0BwdRefIdeal.nD Cert.Ln0BwdRefIdeal.τ).loc Cert.Ln0BwdRefIdeal.main_arg3) = m' ((c.tc : Thread Cert.Ln0BwdRefIdeal.nD Cert.Ln0BwdRefIdeal.τ).loc Cert.Ln0BwdRefIdeal.main_arg3)
          ∧ r.2.mem ((c.tc : Thread Cert.Ln0BwdRefIdeal.nD Cert.Ln0BwdRefIdeal.τ).loc Cert.Ln0BwdRefIdeal.main_arg4) = m' ((c.tc : Thread Cert.Ln0BwdRefIdeal.nD Cert.Ln0BwdRefIdeal.τ).loc Cert.Ln0BwdRefIdeal.main_arg4)
          ∧ r.2.mem ((c.tc : Thread Cert.Ln0BwdRefIdeal.nD Cert.Ln0BwdRefIdeal.τ).loc Cert.Ln0BwdRefIdeal.main_arg5) = m' ((c.tc : Thread Cert.Ln0BwdRefIdeal.nD Cert.Ln0BwdRefIdeal.τ).loc Cert.Ln0BwdRefIdeal.main_arg5))

def preserves_Ln1Bwd_Ln1BwdIdeal : Prop :=
  True

def algebraic_Ln1BwdIdeal_Ln1BwdRefIdeal [hLn1BwdIdeal : Cert.Ln1BwdIdeal.Facts] [hLn1BwdRefIdeal : Cert.Ln1BwdRefIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg)
    (m' : (ℓ : Loc Cert.Ln1BwdRefIdeal.nD Cert.Ln1BwdRefIdeal.τ Cert.Ln1BwdRefIdeal.sig) → Buf (Elt Ideal) ℓ) (g' : Dev Cert.Ln1BwdRefIdeal.nD → PrngReg), Pre_Ln1BwdIdeal m →
    (∀ c : Dev Cert.Ln1BwdIdeal.nD,
      m' ((c.tc : Thread Cert.Ln1BwdRefIdeal.nD Cert.Ln1BwdRefIdeal.τ).loc Cert.Ln1BwdRefIdeal.main_arg0) = m ((c.tc : Thread Cert.Ln1BwdIdeal.nD Cert.Ln1BwdIdeal.τ).loc Cert.Ln1BwdIdeal.main_arg0)
      ∧ m' ((c.tc : Thread Cert.Ln1BwdRefIdeal.nD Cert.Ln1BwdRefIdeal.τ).loc Cert.Ln1BwdRefIdeal.main_arg1) = m ((c.tc : Thread Cert.Ln1BwdIdeal.nD Cert.Ln1BwdIdeal.τ).loc Cert.Ln1BwdIdeal.main_arg1)
      ∧ m' ((c.tc : Thread Cert.Ln1BwdRefIdeal.nD Cert.Ln1BwdRefIdeal.τ).loc Cert.Ln1BwdRefIdeal.main_arg2) = m ((c.tc : Thread Cert.Ln1BwdIdeal.nD Cert.Ln1BwdIdeal.τ).loc Cert.Ln1BwdIdeal.main_arg2)
      ∧ m' ((c.tc : Thread Cert.Ln1BwdRefIdeal.nD Cert.Ln1BwdRefIdeal.τ).loc Cert.Ln1BwdRefIdeal.main_arg3) = m ((c.tc : Thread Cert.Ln1BwdIdeal.nD Cert.Ln1BwdIdeal.τ).loc Cert.Ln1BwdIdeal.main_arg3)
      ∧ m' ((c.tc : Thread Cert.Ln1BwdRefIdeal.nD Cert.Ln1BwdRefIdeal.τ).loc Cert.Ln1BwdRefIdeal.main_arg4) = m ((c.tc : Thread Cert.Ln1BwdIdeal.nD Cert.Ln1BwdIdeal.τ).loc Cert.Ln1BwdIdeal.main_arg4)
      ∧ m' ((c.tc : Thread Cert.Ln1BwdRefIdeal.nD Cert.Ln1BwdRefIdeal.τ).loc Cert.Ln1BwdRefIdeal.main_arg5) = m ((c.tc : Thread Cert.Ln1BwdIdeal.nD Cert.Ln1BwdIdeal.τ).loc Cert.Ln1BwdIdeal.main_arg5)
      ∧ m' ((c.tc : Thread Cert.Ln1BwdRefIdeal.nD Cert.Ln1BwdRefIdeal.τ).loc Cert.Ln1BwdRefIdeal.main_arg6) = m ((c.tc : Thread Cert.Ln1BwdIdeal.nD Cert.Ln1BwdIdeal.τ).loc Cert.Ln1BwdIdeal.main_arg6)) →
    ∃ (v0 : (c : Dev Cert.Ln1BwdIdeal.nD) → Buf (Elt Ideal) ((c.tc : Thread Cert.Ln1BwdIdeal.nD Cert.Ln1BwdIdeal.τ).loc Cert.Ln1BwdIdeal.main_v0_0)) (v1 : (c : Dev Cert.Ln1BwdIdeal.nD) → Buf (Elt Ideal) ((c.tc : Thread Cert.Ln1BwdIdeal.nD Cert.Ln1BwdIdeal.τ).loc Cert.Ln1BwdIdeal.main_v0_1)),
      θ_run (Cert.Ln1BwdIdeal.defs (F := Ideal)) (onTc (τ := Cert.Ln1BwdIdeal.τ) (Cert.Ln1BwdIdeal.main (F := Ideal))) ⟨m, fun _ => 0, g⟩ (fun r => ∀ c : Dev Cert.Ln1BwdIdeal.nD,
          r.2.mem ((c.tc : Thread Cert.Ln1BwdIdeal.nD Cert.Ln1BwdIdeal.τ).loc Cert.Ln1BwdIdeal.main_v0_0) = v0 c
          ∧ r.2.mem ((c.tc : Thread Cert.Ln1BwdIdeal.nD Cert.Ln1BwdIdeal.τ).loc Cert.Ln1BwdIdeal.main_v0_1) = v1 c
          ∧ r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
          ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
          ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
          ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
          ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
          ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
          ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6))
      ∧ θ_run (Cert.Ln1BwdRefIdeal.defs (F := Ideal)) (onTc (τ := Cert.Ln1BwdRefIdeal.τ) (Cert.Ln1BwdRefIdeal.main (F := Ideal))) ⟨m', fun _ => 0, g'⟩ (fun r => ∀ c : Dev Cert.Ln1BwdRefIdeal.nD,
          r.2.mem ((c.tc : Thread Cert.Ln1BwdRefIdeal.nD Cert.Ln1BwdRefIdeal.τ).loc Cert.Ln1BwdRefIdeal.main_v100) = v0 c
          ∧ r.2.mem ((c.tc : Thread Cert.Ln1BwdRefIdeal.nD Cert.Ln1BwdRefIdeal.τ).loc Cert.Ln1BwdRefIdeal.main_v102) = v1 c
          ∧ r.2.mem ((c.tc : Thread Cert.Ln1BwdRefIdeal.nD Cert.Ln1BwdRefIdeal.τ).loc Cert.Ln1BwdRefIdeal.main_arg0) = m' ((c.tc : Thread Cert.Ln1BwdRefIdeal.nD Cert.Ln1BwdRefIdeal.τ).loc Cert.Ln1BwdRefIdeal.main_arg0)
          ∧ r.2.mem ((c.tc : Thread Cert.Ln1BwdRefIdeal.nD Cert.Ln1BwdRefIdeal.τ).loc Cert.Ln1BwdRefIdeal.main_arg1) = m' ((c.tc : Thread Cert.Ln1BwdRefIdeal.nD Cert.Ln1BwdRefIdeal.τ).loc Cert.Ln1BwdRefIdeal.main_arg1)
          ∧ r.2.mem ((c.tc : Thread Cert.Ln1BwdRefIdeal.nD Cert.Ln1BwdRefIdeal.τ).loc Cert.Ln1BwdRefIdeal.main_arg2) = m' ((c.tc : Thread Cert.Ln1BwdRefIdeal.nD Cert.Ln1BwdRefIdeal.τ).loc Cert.Ln1BwdRefIdeal.main_arg2)
          ∧ r.2.mem ((c.tc : Thread Cert.Ln1BwdRefIdeal.nD Cert.Ln1BwdRefIdeal.τ).loc Cert.Ln1BwdRefIdeal.main_arg3) = m' ((c.tc : Thread Cert.Ln1BwdRefIdeal.nD Cert.Ln1BwdRefIdeal.τ).loc Cert.Ln1BwdRefIdeal.main_arg3)
          ∧ r.2.mem ((c.tc : Thread Cert.Ln1BwdRefIdeal.nD Cert.Ln1BwdRefIdeal.τ).loc Cert.Ln1BwdRefIdeal.main_arg4) = m' ((c.tc : Thread Cert.Ln1BwdRefIdeal.nD Cert.Ln1BwdRefIdeal.τ).loc Cert.Ln1BwdRefIdeal.main_arg4)
          ∧ r.2.mem ((c.tc : Thread Cert.Ln1BwdRefIdeal.nD Cert.Ln1BwdRefIdeal.τ).loc Cert.Ln1BwdRefIdeal.main_arg5) = m' ((c.tc : Thread Cert.Ln1BwdRefIdeal.nD Cert.Ln1BwdRefIdeal.τ).loc Cert.Ln1BwdRefIdeal.main_arg5)
          ∧ r.2.mem ((c.tc : Thread Cert.Ln1BwdRefIdeal.nD Cert.Ln1BwdRefIdeal.τ).loc Cert.Ln1BwdRefIdeal.main_arg6) = m' ((c.tc : Thread Cert.Ln1BwdRefIdeal.nD Cert.Ln1BwdRefIdeal.τ).loc Cert.Ln1BwdRefIdeal.main_arg6))

def preserves_Ln2LossBwd_Ln2LossBwdIdeal : Prop :=
  True

def algebraic_Ln2LossBwdIdeal_Ln2LossBwdRefIdeal [hLn2LossBwdIdeal : Cert.Ln2LossBwdIdeal.Facts] [hLn2LossBwdRefIdeal : Cert.Ln2LossBwdRefIdeal.Facts] : Prop :=
  ∀ (m : (ℓ : Loc Cert.Ln2LossBwdIdeal.nD Cert.Ln2LossBwdIdeal.τ Cert.Ln2LossBwdIdeal.sig) → Buf (Elt Ideal) ℓ) (g : Dev Cert.Ln2LossBwdIdeal.nD → PrngReg)
    (m' : (ℓ : Loc Cert.Ln2LossBwdRefIdeal.nD Cert.Ln2LossBwdRefIdeal.τ Cert.Ln2LossBwdRefIdeal.sig) → Buf (Elt Ideal) ℓ) (g' : Dev Cert.Ln2LossBwdRefIdeal.nD → PrngReg), Pre_Ln2LossBwdIdeal m →
    (∀ c : Dev Cert.Ln2LossBwdIdeal.nD,
      m' ((c.tc : Thread Cert.Ln2LossBwdRefIdeal.nD Cert.Ln2LossBwdRefIdeal.τ).loc Cert.Ln2LossBwdRefIdeal.main_arg0) = m ((c.tc : Thread Cert.Ln2LossBwdIdeal.nD Cert.Ln2LossBwdIdeal.τ).loc Cert.Ln2LossBwdIdeal.main_arg0)
      ∧ m' ((c.tc : Thread Cert.Ln2LossBwdRefIdeal.nD Cert.Ln2LossBwdRefIdeal.τ).loc Cert.Ln2LossBwdRefIdeal.main_arg1) = m ((c.tc : Thread Cert.Ln2LossBwdIdeal.nD Cert.Ln2LossBwdIdeal.τ).loc Cert.Ln2LossBwdIdeal.main_arg1)
      ∧ m' ((c.tc : Thread Cert.Ln2LossBwdRefIdeal.nD Cert.Ln2LossBwdRefIdeal.τ).loc Cert.Ln2LossBwdRefIdeal.main_arg2) = m ((c.tc : Thread Cert.Ln2LossBwdIdeal.nD Cert.Ln2LossBwdIdeal.τ).loc Cert.Ln2LossBwdIdeal.main_arg2)
      ∧ m' ((c.tc : Thread Cert.Ln2LossBwdRefIdeal.nD Cert.Ln2LossBwdRefIdeal.τ).loc Cert.Ln2LossBwdRefIdeal.main_arg3) = m ((c.tc : Thread Cert.Ln2LossBwdIdeal.nD Cert.Ln2LossBwdIdeal.τ).loc Cert.Ln2LossBwdIdeal.main_arg3)
      ∧ m' ((c.tc : Thread Cert.Ln2LossBwdRefIdeal.nD Cert.Ln2LossBwdRefIdeal.τ).loc Cert.Ln2LossBwdRefIdeal.main_arg4) = m ((c.tc : Thread Cert.Ln2LossBwdIdeal.nD Cert.Ln2LossBwdIdeal.τ).loc Cert.Ln2LossBwdIdeal.main_arg4)
      ∧ m' ((c.tc : Thread Cert.Ln2LossBwdRefIdeal.nD Cert.Ln2LossBwdRefIdeal.τ).loc Cert.Ln2LossBwdRefIdeal.main_arg5) = m ((c.tc : Thread Cert.Ln2LossBwdIdeal.nD Cert.Ln2LossBwdIdeal.τ).loc Cert.Ln2LossBwdIdeal.main_arg5)) →
    ∃ (v0 : (c : Dev Cert.Ln2LossBwdIdeal.nD) → Buf (Elt Ideal) ((c.tc : Thread Cert.Ln2LossBwdIdeal.nD Cert.Ln2LossBwdIdeal.τ).loc Cert.Ln2LossBwdIdeal.main_v0_1)) (v1 : (c : Dev Cert.Ln2LossBwdIdeal.nD) → Buf (Elt Ideal) ((c.tc : Thread Cert.Ln2LossBwdIdeal.nD Cert.Ln2LossBwdIdeal.τ).loc Cert.Ln2LossBwdIdeal.main_v0_2)),
      θ_run (Cert.Ln2LossBwdIdeal.defs (F := Ideal)) (onTc (τ := Cert.Ln2LossBwdIdeal.τ) (Cert.Ln2LossBwdIdeal.main (F := Ideal))) ⟨m, fun _ => 0, g⟩ (fun r => ∀ c : Dev Cert.Ln2LossBwdIdeal.nD,
          r.2.mem ((c.tc : Thread Cert.Ln2LossBwdIdeal.nD Cert.Ln2LossBwdIdeal.τ).loc Cert.Ln2LossBwdIdeal.main_v0_1) = v0 c
          ∧ r.2.mem ((c.tc : Thread Cert.Ln2LossBwdIdeal.nD Cert.Ln2LossBwdIdeal.τ).loc Cert.Ln2LossBwdIdeal.main_v0_2) = v1 c
          ∧ r.2.mem ((c.tc : Thread Cert.Ln2LossBwdIdeal.nD Cert.Ln2LossBwdIdeal.τ).loc Cert.Ln2LossBwdIdeal.main_arg0) = m ((c.tc : Thread Cert.Ln2LossBwdIdeal.nD Cert.Ln2LossBwdIdeal.τ).loc Cert.Ln2LossBwdIdeal.main_arg0)
          ∧ r.2.mem ((c.tc : Thread Cert.Ln2LossBwdIdeal.nD Cert.Ln2LossBwdIdeal.τ).loc Cert.Ln2LossBwdIdeal.main_arg1) = m ((c.tc : Thread Cert.Ln2LossBwdIdeal.nD Cert.Ln2LossBwdIdeal.τ).loc Cert.Ln2LossBwdIdeal.main_arg1)
          ∧ r.2.mem ((c.tc : Thread Cert.Ln2LossBwdIdeal.nD Cert.Ln2LossBwdIdeal.τ).loc Cert.Ln2LossBwdIdeal.main_arg2) = m ((c.tc : Thread Cert.Ln2LossBwdIdeal.nD Cert.Ln2LossBwdIdeal.τ).loc Cert.Ln2LossBwdIdeal.main_arg2)
          ∧ r.2.mem ((c.tc : Thread Cert.Ln2LossBwdIdeal.nD Cert.Ln2LossBwdIdeal.τ).loc Cert.Ln2LossBwdIdeal.main_arg3) = m ((c.tc : Thread Cert.Ln2LossBwdIdeal.nD Cert.Ln2LossBwdIdeal.τ).loc Cert.Ln2LossBwdIdeal.main_arg3)
          ∧ r.2.mem ((c.tc : Thread Cert.Ln2LossBwdIdeal.nD Cert.Ln2LossBwdIdeal.τ).loc Cert.Ln2LossBwdIdeal.main_arg4) = m ((c.tc : Thread Cert.Ln2LossBwdIdeal.nD Cert.Ln2LossBwdIdeal.τ).loc Cert.Ln2LossBwdIdeal.main_arg4)
          ∧ r.2.mem ((c.tc : Thread Cert.Ln2LossBwdIdeal.nD Cert.Ln2LossBwdIdeal.τ).loc Cert.Ln2LossBwdIdeal.main_arg5) = m ((c.tc : Thread Cert.Ln2LossBwdIdeal.nD Cert.Ln2LossBwdIdeal.τ).loc Cert.Ln2LossBwdIdeal.main_arg5))
      ∧ θ_run (Cert.Ln2LossBwdRefIdeal.defs (F := Ideal)) (onTc (τ := Cert.Ln2LossBwdRefIdeal.τ) (Cert.Ln2LossBwdRefIdeal.main (F := Ideal))) ⟨m', fun _ => 0, g'⟩ (fun r => ∀ c : Dev Cert.Ln2LossBwdRefIdeal.nD,
          r.2.mem ((c.tc : Thread Cert.Ln2LossBwdRefIdeal.nD Cert.Ln2LossBwdRefIdeal.τ).loc Cert.Ln2LossBwdRefIdeal.main_v81) = v0 c
          ∧ r.2.mem ((c.tc : Thread Cert.Ln2LossBwdRefIdeal.nD Cert.Ln2LossBwdRefIdeal.τ).loc Cert.Ln2LossBwdRefIdeal.main_v83) = v1 c
          ∧ r.2.mem ((c.tc : Thread Cert.Ln2LossBwdRefIdeal.nD Cert.Ln2LossBwdRefIdeal.τ).loc Cert.Ln2LossBwdRefIdeal.main_arg0) = m' ((c.tc : Thread Cert.Ln2LossBwdRefIdeal.nD Cert.Ln2LossBwdRefIdeal.τ).loc Cert.Ln2LossBwdRefIdeal.main_arg0)
          ∧ r.2.mem ((c.tc : Thread Cert.Ln2LossBwdRefIdeal.nD Cert.Ln2LossBwdRefIdeal.τ).loc Cert.Ln2LossBwdRefIdeal.main_arg1) = m' ((c.tc : Thread Cert.Ln2LossBwdRefIdeal.nD Cert.Ln2LossBwdRefIdeal.τ).loc Cert.Ln2LossBwdRefIdeal.main_arg1)
          ∧ r.2.mem ((c.tc : Thread Cert.Ln2LossBwdRefIdeal.nD Cert.Ln2LossBwdRefIdeal.τ).loc Cert.Ln2LossBwdRefIdeal.main_arg2) = m' ((c.tc : Thread Cert.Ln2LossBwdRefIdeal.nD Cert.Ln2LossBwdRefIdeal.τ).loc Cert.Ln2LossBwdRefIdeal.main_arg2)
          ∧ r.2.mem ((c.tc : Thread Cert.Ln2LossBwdRefIdeal.nD Cert.Ln2LossBwdRefIdeal.τ).loc Cert.Ln2LossBwdRefIdeal.main_arg3) = m' ((c.tc : Thread Cert.Ln2LossBwdRefIdeal.nD Cert.Ln2LossBwdRefIdeal.τ).loc Cert.Ln2LossBwdRefIdeal.main_arg3)
          ∧ r.2.mem ((c.tc : Thread Cert.Ln2LossBwdRefIdeal.nD Cert.Ln2LossBwdRefIdeal.τ).loc Cert.Ln2LossBwdRefIdeal.main_arg4) = m' ((c.tc : Thread Cert.Ln2LossBwdRefIdeal.nD Cert.Ln2LossBwdRefIdeal.τ).loc Cert.Ln2LossBwdRefIdeal.main_arg4)
          ∧ r.2.mem ((c.tc : Thread Cert.Ln2LossBwdRefIdeal.nD Cert.Ln2LossBwdRefIdeal.τ).loc Cert.Ln2LossBwdRefIdeal.main_arg5) = m' ((c.tc : Thread Cert.Ln2LossBwdRefIdeal.nD Cert.Ln2LossBwdRefIdeal.τ).loc Cert.Ln2LossBwdRefIdeal.main_arg5))

def preserves_Ln0Fwd_Ln0FwdIdeal : Prop :=
  True

def algebraic_Ln0FwdIdeal_Ln0FwdRefIdeal [hLn0FwdIdeal : Cert.Ln0FwdIdeal.Facts] [hLn0FwdRefIdeal : Cert.Ln0FwdRefIdeal.Facts] : Prop :=
  ∀ (m : (ℓ : Loc Cert.Ln0FwdIdeal.nD Cert.Ln0FwdIdeal.τ Cert.Ln0FwdIdeal.sig) → Buf (Elt Ideal) ℓ) (g : Dev Cert.Ln0FwdIdeal.nD → PrngReg)
    (m' : (ℓ : Loc Cert.Ln0FwdRefIdeal.nD Cert.Ln0FwdRefIdeal.τ Cert.Ln0FwdRefIdeal.sig) → Buf (Elt Ideal) ℓ) (g' : Dev Cert.Ln0FwdRefIdeal.nD → PrngReg), Pre_Ln0FwdIdeal m →
    (∀ c : Dev Cert.Ln0FwdIdeal.nD,
      m' ((c.tc : Thread Cert.Ln0FwdRefIdeal.nD Cert.Ln0FwdRefIdeal.τ).loc Cert.Ln0FwdRefIdeal.main_arg0) = m ((c.tc : Thread Cert.Ln0FwdIdeal.nD Cert.Ln0FwdIdeal.τ).loc Cert.Ln0FwdIdeal.main_arg0)
      ∧ m' ((c.tc : Thread Cert.Ln0FwdRefIdeal.nD Cert.Ln0FwdRefIdeal.τ).loc Cert.Ln0FwdRefIdeal.main_arg1) = m ((c.tc : Thread Cert.Ln0FwdIdeal.nD Cert.Ln0FwdIdeal.τ).loc Cert.Ln0FwdIdeal.main_arg1)
      ∧ m' ((c.tc : Thread Cert.Ln0FwdRefIdeal.nD Cert.Ln0FwdRefIdeal.τ).loc Cert.Ln0FwdRefIdeal.main_arg2) = m ((c.tc : Thread Cert.Ln0FwdIdeal.nD Cert.Ln0FwdIdeal.τ).loc Cert.Ln0FwdIdeal.main_arg2)
      ∧ m' ((c.tc : Thread Cert.Ln0FwdRefIdeal.nD Cert.Ln0FwdRefIdeal.τ).loc Cert.Ln0FwdRefIdeal.main_arg3) = m ((c.tc : Thread Cert.Ln0FwdIdeal.nD Cert.Ln0FwdIdeal.τ).loc Cert.Ln0FwdIdeal.main_arg3)) →
    ∃ (v0 : (c : Dev Cert.Ln0FwdIdeal.nD) → Buf (Elt Ideal) ((c.tc : Thread Cert.Ln0FwdIdeal.nD Cert.Ln0FwdIdeal.τ).loc Cert.Ln0FwdIdeal.main_v0_0)) (v1 : (c : Dev Cert.Ln0FwdIdeal.nD) → Buf (Elt Ideal) ((c.tc : Thread Cert.Ln0FwdIdeal.nD Cert.Ln0FwdIdeal.τ).loc Cert.Ln0FwdIdeal.main_v0_1)),
      θ_run (Cert.Ln0FwdIdeal.defs (F := Ideal)) (onTc (τ := Cert.Ln0FwdIdeal.τ) (Cert.Ln0FwdIdeal.main (F := Ideal))) ⟨m, fun _ => 0, g⟩ (fun r => ∀ c : Dev Cert.Ln0FwdIdeal.nD,
          r.2.mem ((c.tc : Thread Cert.Ln0FwdIdeal.nD Cert.Ln0FwdIdeal.τ).loc Cert.Ln0FwdIdeal.main_v0_0) = v0 c
          ∧ r.2.mem ((c.tc : Thread Cert.Ln0FwdIdeal.nD Cert.Ln0FwdIdeal.τ).loc Cert.Ln0FwdIdeal.main_v0_1) = v1 c
          ∧ r.2.mem ((c.tc : Thread Cert.Ln0FwdIdeal.nD Cert.Ln0FwdIdeal.τ).loc Cert.Ln0FwdIdeal.main_arg0) = m ((c.tc : Thread Cert.Ln0FwdIdeal.nD Cert.Ln0FwdIdeal.τ).loc Cert.Ln0FwdIdeal.main_arg0)
          ∧ r.2.mem ((c.tc : Thread Cert.Ln0FwdIdeal.nD Cert.Ln0FwdIdeal.τ).loc Cert.Ln0FwdIdeal.main_arg1) = m ((c.tc : Thread Cert.Ln0FwdIdeal.nD Cert.Ln0FwdIdeal.τ).loc Cert.Ln0FwdIdeal.main_arg1)
          ∧ r.2.mem ((c.tc : Thread Cert.Ln0FwdIdeal.nD Cert.Ln0FwdIdeal.τ).loc Cert.Ln0FwdIdeal.main_arg2) = m ((c.tc : Thread Cert.Ln0FwdIdeal.nD Cert.Ln0FwdIdeal.τ).loc Cert.Ln0FwdIdeal.main_arg2)
          ∧ r.2.mem ((c.tc : Thread Cert.Ln0FwdIdeal.nD Cert.Ln0FwdIdeal.τ).loc Cert.Ln0FwdIdeal.main_arg3) = m ((c.tc : Thread Cert.Ln0FwdIdeal.nD Cert.Ln0FwdIdeal.τ).loc Cert.Ln0FwdIdeal.main_arg3))
      ∧ θ_run (Cert.Ln0FwdRefIdeal.defs (F := Ideal)) (onTc (τ := Cert.Ln0FwdRefIdeal.τ) (Cert.Ln0FwdRefIdeal.main (F := Ideal))) ⟨m', fun _ => 0, g'⟩ (fun r => ∀ c : Dev Cert.Ln0FwdRefIdeal.nD,
          r.2.mem ((c.tc : Thread Cert.Ln0FwdRefIdeal.nD Cert.Ln0FwdRefIdeal.τ).loc Cert.Ln0FwdRefIdeal.main_v33) = v0 c
          ∧ r.2.mem ((c.tc : Thread Cert.Ln0FwdRefIdeal.nD Cert.Ln0FwdRefIdeal.τ).loc Cert.Ln0FwdRefIdeal.main_v35) = v1 c
          ∧ r.2.mem ((c.tc : Thread Cert.Ln0FwdRefIdeal.nD Cert.Ln0FwdRefIdeal.τ).loc Cert.Ln0FwdRefIdeal.main_arg0) = m' ((c.tc : Thread Cert.Ln0FwdRefIdeal.nD Cert.Ln0FwdRefIdeal.τ).loc Cert.Ln0FwdRefIdeal.main_arg0)
          ∧ r.2.mem ((c.tc : Thread Cert.Ln0FwdRefIdeal.nD Cert.Ln0FwdRefIdeal.τ).loc Cert.Ln0FwdRefIdeal.main_arg1) = m' ((c.tc : Thread Cert.Ln0FwdRefIdeal.nD Cert.Ln0FwdRefIdeal.τ).loc Cert.Ln0FwdRefIdeal.main_arg1)
          ∧ r.2.mem ((c.tc : Thread Cert.Ln0FwdRefIdeal.nD Cert.Ln0FwdRefIdeal.τ).loc Cert.Ln0FwdRefIdeal.main_arg2) = m' ((c.tc : Thread Cert.Ln0FwdRefIdeal.nD Cert.Ln0FwdRefIdeal.τ).loc Cert.Ln0FwdRefIdeal.main_arg2)
          ∧ r.2.mem ((c.tc : Thread Cert.Ln0FwdRefIdeal.nD Cert.Ln0FwdRefIdeal.τ).loc Cert.Ln0FwdRefIdeal.main_arg3) = m' ((c.tc : Thread Cert.Ln0FwdRefIdeal.nD Cert.Ln0FwdRefIdeal.τ).loc Cert.Ln0FwdRefIdeal.main_arg3))

def preserves_Ln1Fwd_Ln1FwdIdeal : Prop :=
  True

def algebraic_Ln1FwdIdeal_Ln1FwdRefIdeal [hLn1FwdIdeal : Cert.Ln1FwdIdeal.Facts] [hLn1FwdRefIdeal : Cert.Ln1FwdRefIdeal.Facts] : Prop :=
  ∀ (m : (ℓ : Loc Cert.Ln1FwdIdeal.nD Cert.Ln1FwdIdeal.τ Cert.Ln1FwdIdeal.sig) → Buf (Elt Ideal) ℓ) (g : Dev Cert.Ln1FwdIdeal.nD → PrngReg)
    (m' : (ℓ : Loc Cert.Ln1FwdRefIdeal.nD Cert.Ln1FwdRefIdeal.τ Cert.Ln1FwdRefIdeal.sig) → Buf (Elt Ideal) ℓ) (g' : Dev Cert.Ln1FwdRefIdeal.nD → PrngReg), Pre_Ln1FwdIdeal m →
    (∀ c : Dev Cert.Ln1FwdIdeal.nD,
      m' ((c.tc : Thread Cert.Ln1FwdRefIdeal.nD Cert.Ln1FwdRefIdeal.τ).loc Cert.Ln1FwdRefIdeal.main_arg0) = m ((c.tc : Thread Cert.Ln1FwdIdeal.nD Cert.Ln1FwdIdeal.τ).loc Cert.Ln1FwdIdeal.main_arg0)
      ∧ m' ((c.tc : Thread Cert.Ln1FwdRefIdeal.nD Cert.Ln1FwdRefIdeal.τ).loc Cert.Ln1FwdRefIdeal.main_arg1) = m ((c.tc : Thread Cert.Ln1FwdIdeal.nD Cert.Ln1FwdIdeal.τ).loc Cert.Ln1FwdIdeal.main_arg1)
      ∧ m' ((c.tc : Thread Cert.Ln1FwdRefIdeal.nD Cert.Ln1FwdRefIdeal.τ).loc Cert.Ln1FwdRefIdeal.main_arg2) = m ((c.tc : Thread Cert.Ln1FwdIdeal.nD Cert.Ln1FwdIdeal.τ).loc Cert.Ln1FwdIdeal.main_arg2)
      ∧ m' ((c.tc : Thread Cert.Ln1FwdRefIdeal.nD Cert.Ln1FwdRefIdeal.τ).loc Cert.Ln1FwdRefIdeal.main_arg3) = m ((c.tc : Thread Cert.Ln1FwdIdeal.nD Cert.Ln1FwdIdeal.τ).loc Cert.Ln1FwdIdeal.main_arg3)
      ∧ m' ((c.tc : Thread Cert.Ln1FwdRefIdeal.nD Cert.Ln1FwdRefIdeal.τ).loc Cert.Ln1FwdRefIdeal.main_arg4) = m ((c.tc : Thread Cert.Ln1FwdIdeal.nD Cert.Ln1FwdIdeal.τ).loc Cert.Ln1FwdIdeal.main_arg4)) →
    ∃ (v0 : (c : Dev Cert.Ln1FwdIdeal.nD) → Buf (Elt Ideal) ((c.tc : Thread Cert.Ln1FwdIdeal.nD Cert.Ln1FwdIdeal.τ).loc Cert.Ln1FwdIdeal.main_v0_0)) (v1 : (c : Dev Cert.Ln1FwdIdeal.nD) → Buf (Elt Ideal) ((c.tc : Thread Cert.Ln1FwdIdeal.nD Cert.Ln1FwdIdeal.τ).loc Cert.Ln1FwdIdeal.main_v0_1)),
      θ_run (Cert.Ln1FwdIdeal.defs (F := Ideal)) (onTc (τ := Cert.Ln1FwdIdeal.τ) (Cert.Ln1FwdIdeal.main (F := Ideal))) ⟨m, fun _ => 0, g⟩ (fun r => ∀ c : Dev Cert.Ln1FwdIdeal.nD,
          r.2.mem ((c.tc : Thread Cert.Ln1FwdIdeal.nD Cert.Ln1FwdIdeal.τ).loc Cert.Ln1FwdIdeal.main_v0_0) = v0 c
          ∧ r.2.mem ((c.tc : Thread Cert.Ln1FwdIdeal.nD Cert.Ln1FwdIdeal.τ).loc Cert.Ln1FwdIdeal.main_v0_1) = v1 c
          ∧ r.2.mem ((c.tc : Thread Cert.Ln1FwdIdeal.nD Cert.Ln1FwdIdeal.τ).loc Cert.Ln1FwdIdeal.main_arg0) = m ((c.tc : Thread Cert.Ln1FwdIdeal.nD Cert.Ln1FwdIdeal.τ).loc Cert.Ln1FwdIdeal.main_arg0)
          ∧ r.2.mem ((c.tc : Thread Cert.Ln1FwdIdeal.nD Cert.Ln1FwdIdeal.τ).loc Cert.Ln1FwdIdeal.main_arg1) = m ((c.tc : Thread Cert.Ln1FwdIdeal.nD Cert.Ln1FwdIdeal.τ).loc Cert.Ln1FwdIdeal.main_arg1)
          ∧ r.2.mem ((c.tc : Thread Cert.Ln1FwdIdeal.nD Cert.Ln1FwdIdeal.τ).loc Cert.Ln1FwdIdeal.main_arg2) = m ((c.tc : Thread Cert.Ln1FwdIdeal.nD Cert.Ln1FwdIdeal.τ).loc Cert.Ln1FwdIdeal.main_arg2)
          ∧ r.2.mem ((c.tc : Thread Cert.Ln1FwdIdeal.nD Cert.Ln1FwdIdeal.τ).loc Cert.Ln1FwdIdeal.main_arg3) = m ((c.tc : Thread Cert.Ln1FwdIdeal.nD Cert.Ln1FwdIdeal.τ).loc Cert.Ln1FwdIdeal.main_arg3)
          ∧ r.2.mem ((c.tc : Thread Cert.Ln1FwdIdeal.nD Cert.Ln1FwdIdeal.τ).loc Cert.Ln1FwdIdeal.main_arg4) = m ((c.tc : Thread Cert.Ln1FwdIdeal.nD Cert.Ln1FwdIdeal.τ).loc Cert.Ln1FwdIdeal.main_arg4))
      ∧ θ_run (Cert.Ln1FwdRefIdeal.defs (F := Ideal)) (onTc (τ := Cert.Ln1FwdRefIdeal.τ) (Cert.Ln1FwdRefIdeal.main (F := Ideal))) ⟨m', fun _ => 0, g'⟩ (fun r => ∀ c : Dev Cert.Ln1FwdRefIdeal.nD,
          r.2.mem ((c.tc : Thread Cert.Ln1FwdRefIdeal.nD Cert.Ln1FwdRefIdeal.τ).loc Cert.Ln1FwdRefIdeal.main_v42) = v0 c
          ∧ r.2.mem ((c.tc : Thread Cert.Ln1FwdRefIdeal.nD Cert.Ln1FwdRefIdeal.τ).loc Cert.Ln1FwdRefIdeal.main_v44) = v1 c
          ∧ r.2.mem ((c.tc : Thread Cert.Ln1FwdRefIdeal.nD Cert.Ln1FwdRefIdeal.τ).loc Cert.Ln1FwdRefIdeal.main_arg0) = m' ((c.tc : Thread Cert.Ln1FwdRefIdeal.nD Cert.Ln1FwdRefIdeal.τ).loc Cert.Ln1FwdRefIdeal.main_arg0)
          ∧ r.2.mem ((c.tc : Thread Cert.Ln1FwdRefIdeal.nD Cert.Ln1FwdRefIdeal.τ).loc Cert.Ln1FwdRefIdeal.main_arg1) = m' ((c.tc : Thread Cert.Ln1FwdRefIdeal.nD Cert.Ln1FwdRefIdeal.τ).loc Cert.Ln1FwdRefIdeal.main_arg1)
          ∧ r.2.mem ((c.tc : Thread Cert.Ln1FwdRefIdeal.nD Cert.Ln1FwdRefIdeal.τ).loc Cert.Ln1FwdRefIdeal.main_arg2) = m' ((c.tc : Thread Cert.Ln1FwdRefIdeal.nD Cert.Ln1FwdRefIdeal.τ).loc Cert.Ln1FwdRefIdeal.main_arg2)
          ∧ r.2.mem ((c.tc : Thread Cert.Ln1FwdRefIdeal.nD Cert.Ln1FwdRefIdeal.τ).loc Cert.Ln1FwdRefIdeal.main_arg3) = m' ((c.tc : Thread Cert.Ln1FwdRefIdeal.nD Cert.Ln1FwdRefIdeal.τ).loc Cert.Ln1FwdRefIdeal.main_arg3)
          ∧ r.2.mem ((c.tc : Thread Cert.Ln1FwdRefIdeal.nD Cert.Ln1FwdRefIdeal.τ).loc Cert.Ln1FwdRefIdeal.main_arg4) = m' ((c.tc : Thread Cert.Ln1FwdRefIdeal.nD Cert.Ln1FwdRefIdeal.τ).loc Cert.Ln1FwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v34) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_DnPreFwd_DnPreFwdIdeal : Prop :=
  True

def algebraic_DnPreFwdIdeal_DnPreFwdRefIdeal [hDnPreFwdIdeal : Cert.DnPreFwdIdeal.Facts] [hDnPreFwdRefIdeal : Cert.DnPreFwdRefIdeal.Facts] : Prop :=
  ∀ (m : (ℓ : Loc Cert.DnPreFwdIdeal.nD Cert.DnPreFwdIdeal.τ Cert.DnPreFwdIdeal.sig) → Buf (Elt Ideal) ℓ) (g : Dev Cert.DnPreFwdIdeal.nD → PrngReg)
    (m' : (ℓ : Loc Cert.DnPreFwdRefIdeal.nD Cert.DnPreFwdRefIdeal.τ Cert.DnPreFwdRefIdeal.sig) → Buf (Elt Ideal) ℓ) (g' : Dev Cert.DnPreFwdRefIdeal.nD → PrngReg), Pre_DnPreFwdIdeal m →
    (∀ c : Dev Cert.DnPreFwdIdeal.nD,
      m' ((c.tc : Thread Cert.DnPreFwdRefIdeal.nD Cert.DnPreFwdRefIdeal.τ).loc Cert.DnPreFwdRefIdeal.main_arg0) = m ((c.tc : Thread Cert.DnPreFwdIdeal.nD Cert.DnPreFwdIdeal.τ).loc Cert.DnPreFwdIdeal.main_arg0)
      ∧ m' ((c.tc : Thread Cert.DnPreFwdRefIdeal.nD Cert.DnPreFwdRefIdeal.τ).loc Cert.DnPreFwdRefIdeal.main_arg1) = m ((c.tc : Thread Cert.DnPreFwdIdeal.nD Cert.DnPreFwdIdeal.τ).loc Cert.DnPreFwdIdeal.main_arg1)) →
    ∃ (v0 : (c : Dev Cert.DnPreFwdIdeal.nD) → Buf (Elt Ideal) ((c.tc : Thread Cert.DnPreFwdIdeal.nD Cert.DnPreFwdIdeal.τ).loc Cert.DnPreFwdIdeal.main_v0)),
      θ_run (Cert.DnPreFwdIdeal.defs (F := Ideal)) (onTc (τ := Cert.DnPreFwdIdeal.τ) (Cert.DnPreFwdIdeal.main (F := Ideal))) ⟨m, fun _ => 0, g⟩ (fun r => ∀ c : Dev Cert.DnPreFwdIdeal.nD,
          r.2.mem ((c.tc : Thread Cert.DnPreFwdIdeal.nD Cert.DnPreFwdIdeal.τ).loc Cert.DnPreFwdIdeal.main_v0) = v0 c
          ∧ r.2.mem ((c.tc : Thread Cert.DnPreFwdIdeal.nD Cert.DnPreFwdIdeal.τ).loc Cert.DnPreFwdIdeal.main_arg0) = m ((c.tc : Thread Cert.DnPreFwdIdeal.nD Cert.DnPreFwdIdeal.τ).loc Cert.DnPreFwdIdeal.main_arg0)
          ∧ r.2.mem ((c.tc : Thread Cert.DnPreFwdIdeal.nD Cert.DnPreFwdIdeal.τ).loc Cert.DnPreFwdIdeal.main_arg1) = m ((c.tc : Thread Cert.DnPreFwdIdeal.nD Cert.DnPreFwdIdeal.τ).loc Cert.DnPreFwdIdeal.main_arg1))
      ∧ θ_run (Cert.DnPreFwdRefIdeal.defs (F := Ideal)) (onTc (τ := Cert.DnPreFwdRefIdeal.τ) (Cert.DnPreFwdRefIdeal.main (F := Ideal))) ⟨m', fun _ => 0, g'⟩ (fun r => ∀ c : Dev Cert.DnPreFwdRefIdeal.nD,
          r.2.mem ((c.tc : Thread Cert.DnPreFwdRefIdeal.nD Cert.DnPreFwdRefIdeal.τ).loc Cert.DnPreFwdRefIdeal.main_v36) = v0 c
          ∧ r.2.mem ((c.tc : Thread Cert.DnPreFwdRefIdeal.nD Cert.DnPreFwdRefIdeal.τ).loc Cert.DnPreFwdRefIdeal.main_arg0) = m' ((c.tc : Thread Cert.DnPreFwdRefIdeal.nD Cert.DnPreFwdRefIdeal.τ).loc Cert.DnPreFwdRefIdeal.main_arg0)
          ∧ r.2.mem ((c.tc : Thread Cert.DnPreFwdRefIdeal.nD Cert.DnPreFwdRefIdeal.τ).loc Cert.DnPreFwdRefIdeal.main_arg1) = m' ((c.tc : Thread Cert.DnPreFwdRefIdeal.nD Cert.DnPreFwdRefIdeal.τ).loc Cert.DnPreFwdRefIdeal.main_arg1))

def preserves_WInPadded_WInPaddedIdeal : Prop :=
  True

def algebraic_WInPaddedIdeal_WInPaddedRefIdeal [hWInPaddedIdeal : Cert.WInPaddedIdeal.Facts] [hWInPaddedRefIdeal : Cert.WInPaddedRefIdeal.Facts] : Prop :=
  ∀ (m : (ℓ : Loc Cert.WInPaddedIdeal.nD Cert.WInPaddedIdeal.τ Cert.WInPaddedIdeal.sig) → Buf (Elt Ideal) ℓ) (g : Dev Cert.WInPaddedIdeal.nD → PrngReg)
    (m' : (ℓ : Loc Cert.WInPaddedRefIdeal.nD Cert.WInPaddedRefIdeal.τ Cert.WInPaddedRefIdeal.sig) → Buf (Elt Ideal) ℓ) (g' : Dev Cert.WInPaddedRefIdeal.nD → PrngReg), Pre_WInPaddedIdeal m →
    (∀ c : Dev Cert.WInPaddedIdeal.nD,
      m' ((c.tc : Thread Cert.WInPaddedRefIdeal.nD Cert.WInPaddedRefIdeal.τ).loc Cert.WInPaddedRefIdeal.main_arg0) = m ((c.tc : Thread Cert.WInPaddedIdeal.nD Cert.WInPaddedIdeal.τ).loc Cert.WInPaddedIdeal.main_arg0)) →
    ∃ (v0 : (c : Dev Cert.WInPaddedIdeal.nD) → Buf (Elt Ideal) ((c.tc : Thread Cert.WInPaddedIdeal.nD Cert.WInPaddedIdeal.τ).loc Cert.WInPaddedIdeal.main_v0)),
      θ_run (Cert.WInPaddedIdeal.defs (F := Ideal)) (onTc (τ := Cert.WInPaddedIdeal.τ) (Cert.WInPaddedIdeal.main (F := Ideal))) ⟨m, fun _ => 0, g⟩ (fun r => ∀ c : Dev Cert.WInPaddedIdeal.nD,
          r.2.mem ((c.tc : Thread Cert.WInPaddedIdeal.nD Cert.WInPaddedIdeal.τ).loc Cert.WInPaddedIdeal.main_v0) = v0 c
          ∧ r.2.mem ((c.tc : Thread Cert.WInPaddedIdeal.nD Cert.WInPaddedIdeal.τ).loc Cert.WInPaddedIdeal.main_arg0) = m ((c.tc : Thread Cert.WInPaddedIdeal.nD Cert.WInPaddedIdeal.τ).loc Cert.WInPaddedIdeal.main_arg0))
      ∧ θ_run (Cert.WInPaddedRefIdeal.defs (F := Ideal)) (onTc (τ := Cert.WInPaddedRefIdeal.τ) (Cert.WInPaddedRefIdeal.main (F := Ideal))) ⟨m', fun _ => 0, g'⟩ (fun r => ∀ c : Dev Cert.WInPaddedRefIdeal.nD,
          r.2.mem ((c.tc : Thread Cert.WInPaddedRefIdeal.nD Cert.WInPaddedRefIdeal.τ).loc Cert.WInPaddedRefIdeal.main_v10) = v0 c
          ∧ r.2.mem ((c.tc : Thread Cert.WInPaddedRefIdeal.nD Cert.WInPaddedRefIdeal.τ).loc Cert.WInPaddedRefIdeal.main_arg0) = m' ((c.tc : Thread Cert.WInPaddedRefIdeal.nD Cert.WInPaddedRefIdeal.τ).loc Cert.WInPaddedRefIdeal.main_arg0))

def preserves_WInChips_WInChipsIdeal : Prop :=
  True

def algebraic_WInChipsIdeal_WInChipsRefIdeal [hWInChipsIdeal : Cert.WInChipsIdeal.Facts] [hWInChipsRefIdeal : Cert.WInChipsRefIdeal.Facts] : Prop :=
  ∀ (m : (ℓ : Loc Cert.WInChipsIdeal.nD Cert.WInChipsIdeal.τ Cert.WInChipsIdeal.sig) → Buf (Elt Ideal) ℓ) (g : Dev Cert.WInChipsIdeal.nD → PrngReg)
    (m' : (ℓ : Loc Cert.WInChipsRefIdeal.nD Cert.WInChipsRefIdeal.τ Cert.WInChipsRefIdeal.sig) → Buf (Elt Ideal) ℓ) (g' : Dev Cert.WInChipsRefIdeal.nD → PrngReg), Pre_WInChipsIdeal m →
    (∀ c : Dev Cert.WInChipsIdeal.nD,
      m' ((c.tc : Thread Cert.WInChipsRefIdeal.nD Cert.WInChipsRefIdeal.τ).loc Cert.WInChipsRefIdeal.main_arg0) = m ((c.tc : Thread Cert.WInChipsIdeal.nD Cert.WInChipsIdeal.τ).loc Cert.WInChipsIdeal.main_arg0)) →
    ∃ (v0 : (c : Dev Cert.WInChipsIdeal.nD) → Buf (Elt Ideal) ((c.tc : Thread Cert.WInChipsIdeal.nD Cert.WInChipsIdeal.τ).loc Cert.WInChipsIdeal.main_v0)),
      θ_run (Cert.WInChipsIdeal.defs (F := Ideal)) (onTc (τ := Cert.WInChipsIdeal.τ) (Cert.WInChipsIdeal.main (F := Ideal))) ⟨m, fun _ => 0, g⟩ (fun r => ∀ c : Dev Cert.WInChipsIdeal.nD,
          r.2.mem ((c.tc : Thread Cert.WInChipsIdeal.nD Cert.WInChipsIdeal.τ).loc Cert.WInChipsIdeal.main_v0) = v0 c
          ∧ r.2.mem ((c.tc : Thread Cert.WInChipsIdeal.nD Cert.WInChipsIdeal.τ).loc Cert.WInChipsIdeal.main_arg0) = m ((c.tc : Thread Cert.WInChipsIdeal.nD Cert.WInChipsIdeal.τ).loc Cert.WInChipsIdeal.main_arg0))
      ∧ θ_run (Cert.WInChipsRefIdeal.defs (F := Ideal)) (onTc (τ := Cert.WInChipsRefIdeal.τ) (Cert.WInChipsRefIdeal.main (F := Ideal))) ⟨m', fun _ => 0, g'⟩ (fun r => ∀ c : Dev Cert.WInChipsRefIdeal.nD,
          r.2.mem ((c.tc : Thread Cert.WInChipsRefIdeal.nD Cert.WInChipsRefIdeal.τ).loc Cert.WInChipsRefIdeal.main_v8) = v0 c
          ∧ r.2.mem ((c.tc : Thread Cert.WInChipsRefIdeal.nD Cert.WInChipsRefIdeal.τ).loc Cert.WInChipsRefIdeal.main_arg0) = m' ((c.tc : Thread Cert.WInChipsRefIdeal.nD Cert.WInChipsRefIdeal.τ).loc Cert.WInChipsRefIdeal.main_arg0))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamWO_AdamWOIdeal : Prop :=
  True

def algebraic_AdamWOIdeal_AdamWORefIdeal [hAdamWOIdeal : Cert.AdamWOIdeal.Facts] [hAdamWORefIdeal : Cert.AdamWORefIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg)
    (m' : (ℓ : Loc Cert.AdamWORefIdeal.nD Cert.AdamWORefIdeal.τ Cert.AdamWORefIdeal.sig) → Buf (Elt Ideal) ℓ) (g' : Dev Cert.AdamWORefIdeal.nD → PrngReg), Pre_AdamWOIdeal m →
    (∀ c : Dev Cert.AdamWOIdeal.nD,
      m' ((c.tc : Thread Cert.AdamWORefIdeal.nD Cert.AdamWORefIdeal.τ).loc Cert.AdamWORefIdeal.main_arg0) = m ((c.tc : Thread Cert.AdamWOIdeal.nD Cert.AdamWOIdeal.τ).loc Cert.AdamWOIdeal.main_arg0)
      ∧ m' ((c.tc : Thread Cert.AdamWORefIdeal.nD Cert.AdamWORefIdeal.τ).loc Cert.AdamWORefIdeal.main_arg1) = m ((c.tc : Thread Cert.AdamWOIdeal.nD Cert.AdamWOIdeal.τ).loc Cert.AdamWOIdeal.main_arg1)
      ∧ m' ((c.tc : Thread Cert.AdamWORefIdeal.nD Cert.AdamWORefIdeal.τ).loc Cert.AdamWORefIdeal.main_arg2) = m ((c.tc : Thread Cert.AdamWOIdeal.nD Cert.AdamWOIdeal.τ).loc Cert.AdamWOIdeal.main_arg2)
      ∧ m' ((c.tc : Thread Cert.AdamWORefIdeal.nD Cert.AdamWORefIdeal.τ).loc Cert.AdamWORefIdeal.main_arg3) = m ((c.tc : Thread Cert.AdamWOIdeal.nD Cert.AdamWOIdeal.τ).loc Cert.AdamWOIdeal.main_arg3)) →
    ∃ (v0 : (c : Dev Cert.AdamWOIdeal.nD) → Buf (Elt Ideal) ((c.tc : Thread Cert.AdamWOIdeal.nD Cert.AdamWOIdeal.τ).loc Cert.AdamWOIdeal.main_v0_0)) (v1 : (c : Dev Cert.AdamWOIdeal.nD) → Buf (Elt Ideal) ((c.tc : Thread Cert.AdamWOIdeal.nD Cert.AdamWOIdeal.τ).loc Cert.AdamWOIdeal.main_v0_1)) (v2 : (c : Dev Cert.AdamWOIdeal.nD) → Buf (Elt Ideal) ((c.tc : Thread Cert.AdamWOIdeal.nD Cert.AdamWOIdeal.τ).loc Cert.AdamWOIdeal.main_v0_2)),
      θ_run (Cert.AdamWOIdeal.defs (F := Ideal)) (onTc (τ := Cert.AdamWOIdeal.τ) (Cert.AdamWOIdeal.main (F := Ideal))) ⟨m, fun _ => 0, g⟩ (fun r => ∀ c : Dev Cert.AdamWOIdeal.nD,
          r.2.mem ((c.tc : Thread Cert.AdamWOIdeal.nD Cert.AdamWOIdeal.τ).loc Cert.AdamWOIdeal.main_v0_0) = v0 c
          ∧ r.2.mem ((c.tc : Thread Cert.AdamWOIdeal.nD Cert.AdamWOIdeal.τ).loc Cert.AdamWOIdeal.main_v0_1) = v1 c
          ∧ r.2.mem ((c.tc : Thread Cert.AdamWOIdeal.nD Cert.AdamWOIdeal.τ).loc Cert.AdamWOIdeal.main_v0_2) = v2 c
          ∧ r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
          ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
          ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
          ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ θ_run (Cert.AdamWORefIdeal.defs (F := Ideal)) (onTc (τ := Cert.AdamWORefIdeal.τ) (Cert.AdamWORefIdeal.main (F := Ideal))) ⟨m', fun _ => 0, g'⟩ (fun r => ∀ c : Dev Cert.AdamWORefIdeal.nD,
          r.2.mem ((c.tc : Thread Cert.AdamWORefIdeal.nD Cert.AdamWORefIdeal.τ).loc Cert.AdamWORefIdeal.main_v23) = v0 c
          ∧ r.2.mem ((c.tc : Thread Cert.AdamWORefIdeal.nD Cert.AdamWORefIdeal.τ).loc Cert.AdamWORefIdeal.main_v4) = v1 c
          ∧ r.2.mem ((c.tc : Thread Cert.AdamWORefIdeal.nD Cert.AdamWORefIdeal.τ).loc Cert.AdamWORefIdeal.main_v10) = v2 c
          ∧ r.2.mem ((c.tc : Thread Cert.AdamWORefIdeal.nD Cert.AdamWORefIdeal.τ).loc Cert.AdamWORefIdeal.main_arg0) = m' ((c.tc : Thread Cert.AdamWORefIdeal.nD Cert.AdamWORefIdeal.τ).loc Cert.AdamWORefIdeal.main_arg0)
          ∧ r.2.mem ((c.tc : Thread Cert.AdamWORefIdeal.nD Cert.AdamWORefIdeal.τ).loc Cert.AdamWORefIdeal.main_arg1) = m' ((c.tc : Thread Cert.AdamWORefIdeal.nD Cert.AdamWORefIdeal.τ).loc Cert.AdamWORefIdeal.main_arg1)
          ∧ r.2.mem ((c.tc : Thread Cert.AdamWORefIdeal.nD Cert.AdamWORefIdeal.τ).loc Cert.AdamWORefIdeal.main_arg2) = m' ((c.tc : Thread Cert.AdamWORefIdeal.nD Cert.AdamWORefIdeal.τ).loc Cert.AdamWORefIdeal.main_arg2)
          ∧ r.2.mem ((c.tc : Thread Cert.AdamWORefIdeal.nD Cert.AdamWORefIdeal.τ).loc Cert.AdamWORefIdeal.main_arg3) = m' ((c.tc : Thread Cert.AdamWORefIdeal.nD Cert.AdamWORefIdeal.τ).loc Cert.AdamWORefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamWin_AdamWinIdeal : Prop :=
  True

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v0_0)) (v1 : (c : Dev Cert.AdamWinIdeal.nD) → Buf (Elt Ideal) ((c.tc : Thread Cert.AdamWinIdeal.nD Cert.AdamWinIdeal.τ).loc Cert.AdamWinIdeal.main_v0_1)) (v2 : (c : Dev Cert.AdamWinIdeal.nD) → Buf (Elt Ideal) ((c.tc : Thread Cert.AdamWinIdeal.nD Cert.AdamWinIdeal.τ).loc Cert.AdamWinIdeal.main_v0_2)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v0_0) = v0 c
          ∧ r.2.mem ((c.tc : Thread Cert.AdamWinIdeal.nD Cert.AdamWinIdeal.τ).loc Cert.AdamWinIdeal.main_v0_1) = v1 c
          ∧ r.2.mem ((c.tc : Thread Cert.AdamWinIdeal.nD Cert.AdamWinIdeal.τ).loc Cert.AdamWinIdeal.main_v0_2) = v2 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v23) = v0 c
          ∧ r.2.mem ((c.tc : Thread Cert.AdamWinRefIdeal.nD Cert.AdamWinRefIdeal.τ).loc Cert.AdamWinRefIdeal.main_v4) = v1 c
          ∧ r.2.mem ((c.tc : Thread Cert.AdamWinRefIdeal.nD Cert.AdamWinRefIdeal.τ).loc Cert.AdamWinRefIdeal.main_v10) = v2 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamSmallA_AdamSmallAIdeal : Prop :=
  True

def algebraic_AdamSmallAIdeal_AdamSmallARefIdeal [hAdamSmallAIdeal : Cert.AdamSmallAIdeal.Facts] [hAdamSmallARefIdeal : Cert.AdamSmallARefIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg)
    (m' : (ℓ : Loc Cert.AdamSmallARefIdeal.nD Cert.AdamSmallARefIdeal.τ Cert.AdamSmallARefIdeal.sig) → Buf (Elt Ideal) ℓ) (g' : Dev Cert.AdamSmallARefIdeal.nD → PrngReg), Pre_AdamSmallAIdeal m →
    (∀ c : Dev Cert.AdamSmallAIdeal.nD,
      m' ((c.tc : Thread Cert.AdamSmallARefIdeal.nD Cert.AdamSmallARefIdeal.τ).loc Cert.AdamSmallARefIdeal.main_arg0) = m ((c.tc : Thread Cert.AdamSmallAIdeal.nD Cert.AdamSmallAIdeal.τ).loc Cert.AdamSmallAIdeal.main_arg0)
      ∧ m' ((c.tc : Thread Cert.AdamSmallARefIdeal.nD Cert.AdamSmallARefIdeal.τ).loc Cert.AdamSmallARefIdeal.main_arg1) = m ((c.tc : Thread Cert.AdamSmallAIdeal.nD Cert.AdamSmallAIdeal.τ).loc Cert.AdamSmallAIdeal.main_arg1)
      ∧ m' ((c.tc : Thread Cert.AdamSmallARefIdeal.nD Cert.AdamSmallARefIdeal.τ).loc Cert.AdamSmallARefIdeal.main_arg2) = m ((c.tc : Thread Cert.AdamSmallAIdeal.nD Cert.AdamSmallAIdeal.τ).loc Cert.AdamSmallAIdeal.main_arg2)
      ∧ m' ((c.tc : Thread Cert.AdamSmallARefIdeal.nD Cert.AdamSmallARefIdeal.τ).loc Cert.AdamSmallARefIdeal.main_arg3) = m ((c.tc : Thread Cert.AdamSmallAIdeal.nD Cert.AdamSmallAIdeal.τ).loc Cert.AdamSmallAIdeal.main_arg3)
      ∧ m' ((c.tc : Thread Cert.AdamSmallARefIdeal.nD Cert.AdamSmallARefIdeal.τ).loc Cert.AdamSmallARefIdeal.main_arg4) = m ((c.tc : Thread Cert.AdamSmallAIdeal.nD Cert.AdamSmallAIdeal.τ).loc Cert.AdamSmallAIdeal.main_arg4)
      ∧ m' ((c.tc : Thread Cert.AdamSmallARefIdeal.nD Cert.AdamSmallARefIdeal.τ).loc Cert.AdamSmallARefIdeal.main_arg5) = m ((c.tc : Thread Cert.AdamSmallAIdeal.nD Cert.AdamSmallAIdeal.τ).loc Cert.AdamSmallAIdeal.main_arg5)
      ∧ m' ((c.tc : Thread Cert.AdamSmallARefIdeal.nD Cert.AdamSmallARefIdeal.τ).loc Cert.AdamSmallARefIdeal.main_arg6) = m ((c.tc : Thread Cert.AdamSmallAIdeal.nD Cert.AdamSmallAIdeal.τ).loc Cert.AdamSmallAIdeal.main_arg6)
      ∧ m' ((c.tc : Thread Cert.AdamSmallARefIdeal.nD Cert.AdamSmallARefIdeal.τ).loc Cert.AdamSmallARefIdeal.main_arg7) = m ((c.tc : Thread Cert.AdamSmallAIdeal.nD Cert.AdamSmallAIdeal.τ).loc Cert.AdamSmallAIdeal.main_arg7)
      ∧ m' ((c.tc : Thread Cert.AdamSmallARefIdeal.nD Cert.AdamSmallARefIdeal.τ).loc Cert.AdamSmallARefIdeal.main_arg8) = m ((c.tc : Thread Cert.AdamSmallAIdeal.nD Cert.AdamSmallAIdeal.τ).loc Cert.AdamSmallAIdeal.main_arg8)
      ∧ m' ((c.tc : Thread Cert.AdamSmallARefIdeal.nD Cert.AdamSmallARefIdeal.τ).loc Cert.AdamSmallARefIdeal.main_arg9) = m ((c.tc : Thread Cert.AdamSmallAIdeal.nD Cert.AdamSmallAIdeal.τ).loc Cert.AdamSmallAIdeal.main_arg9)
      ∧ m' ((c.tc : Thread Cert.AdamSmallARefIdeal.nD Cert.AdamSmallARefIdeal.τ).loc Cert.AdamSmallARefIdeal.main_arg10) = m ((c.tc : Thread Cert.AdamSmallAIdeal.nD Cert.AdamSmallAIdeal.τ).loc Cert.AdamSmallAIdeal.main_arg10)
      ∧ m' ((c.tc : Thread Cert.AdamSmallARefIdeal.nD Cert.AdamSmallARefIdeal.τ).loc Cert.AdamSmallARefIdeal.main_arg11) = m ((c.tc : Thread Cert.AdamSmallAIdeal.nD Cert.AdamSmallAIdeal.τ).loc Cert.AdamSmallAIdeal.main_arg11)
      ∧ m' ((c.tc : Thread Cert.AdamSmallARefIdeal.nD Cert.AdamSmallARefIdeal.τ).loc Cert.AdamSmallARefIdeal.main_arg12) = m ((c.tc : Thread Cert.AdamSmallAIdeal.nD Cert.AdamSmallAIdeal.τ).loc Cert.AdamSmallAIdeal.main_arg12)
      ∧ m' ((c.tc : Thread Cert.AdamSmallARefIdeal.nD Cert.AdamSmallARefIdeal.τ).loc Cert.AdamSmallARefIdeal.main_arg13) = m ((c.tc : Thread Cert.AdamSmallAIdeal.nD Cert.AdamSmallAIdeal.τ).loc Cert.AdamSmallAIdeal.main_arg13)
      ∧ m' ((c.tc : Thread Cert.AdamSmallARefIdeal.nD Cert.AdamSmallARefIdeal.τ).loc Cert.AdamSmallARefIdeal.main_arg14) = m ((c.tc : Thread Cert.AdamSmallAIdeal.nD Cert.AdamSmallAIdeal.τ).loc Cert.AdamSmallAIdeal.main_arg14)
      ∧ m' ((c.tc : Thread Cert.AdamSmallARefIdeal.nD Cert.AdamSmallARefIdeal.τ).loc Cert.AdamSmallARefIdeal.main_arg15) = m ((c.tc : Thread Cert.AdamSmallAIdeal.nD Cert.AdamSmallAIdeal.τ).loc Cert.AdamSmallAIdeal.main_arg15)) →
    ∃ (v0 : (c : Dev Cert.AdamSmallAIdeal.nD) → Buf (Elt Ideal) ((c.tc : Thread Cert.AdamSmallAIdeal.nD Cert.AdamSmallAIdeal.τ).loc Cert.AdamSmallAIdeal.main_v0_0)) (v1 : (c : Dev Cert.AdamSmallAIdeal.nD) → Buf (Elt Ideal) ((c.tc : Thread Cert.AdamSmallAIdeal.nD Cert.AdamSmallAIdeal.τ).loc Cert.AdamSmallAIdeal.main_v0_1)) (v2 : (c : Dev Cert.AdamSmallAIdeal.nD) → Buf (Elt Ideal) ((c.tc : Thread Cert.AdamSmallAIdeal.nD Cert.AdamSmallAIdeal.τ).loc Cert.AdamSmallAIdeal.main_v0_2)) (v3 : (c : Dev Cert.AdamSmallAIdeal.nD) → Buf (Elt Ideal) ((c.tc : Thread Cert.AdamSmallAIdeal.nD Cert.AdamSmallAIdeal.τ).loc Cert.AdamSmallAIdeal.main_v0_3)) (v4 : (c : Dev Cert.AdamSmallAIdeal.nD) → Buf (Elt Ideal) ((c.tc : Thread Cert.AdamSmallAIdeal.nD Cert.AdamSmallAIdeal.τ).loc Cert.AdamSmallAIdeal.main_v0_4)) (v5 : (c : Dev Cert.AdamSmallAIdeal.nD) → Buf (Elt Ideal) ((c.tc : Thread Cert.AdamSmallAIdeal.nD Cert.AdamSmallAIdeal.τ).loc Cert.AdamSmallAIdeal.main_v0_5)) (v6 : (c : Dev Cert.AdamSmallAIdeal.nD) → Buf (Elt Ideal) ((c.tc : Thread Cert.AdamSmallAIdeal.nD Cert.AdamSmallAIdeal.τ).loc Cert.AdamSmallAIdeal.main_v0_6)) (v7 : (c : Dev Cert.AdamSmallAIdeal.nD) → Buf (Elt Ideal) ((c.tc : Thread Cert.AdamSmallAIdeal.nD Cert.AdamSmallAIdeal.τ).loc Cert.AdamSmallAIdeal.main_v0_7)) (v8 : (c : Dev Cert.AdamSmallAIdeal.nD) → Buf (Elt Ideal) ((c.tc : Thread Cert.AdamSmallAIdeal.nD Cert.AdamSmallAIdeal.τ).loc Cert.AdamSmallAIdeal.main_v0_8)) (v9 : (c : Dev Cert.AdamSmallAIdeal.nD) → Buf (Elt Ideal) ((c.tc : Thread Cert.AdamSmallAIdeal.nD Cert.AdamSmallAIdeal.τ).loc Cert.AdamSmallAIdeal.main_v0_9)) (v10 : (c : Dev Cert.AdamSmallAIdeal.nD) → Buf (Elt Ideal) ((c.tc : Thread Cert.AdamSmallAIdeal.nD Cert.AdamSmallAIdeal.τ).loc Cert.AdamSmallAIdeal.main_v0_10)) (v11 : (c : Dev Cert.AdamSmallAIdeal.nD) → Buf (Elt Ideal) ((c.tc : Thread Cert.AdamSmallAIdeal.nD Cert.AdamSmallAIdeal.τ).loc Cert.AdamSmallAIdeal.main_v0_11)),
      θ_run (Cert.AdamSmallAIdeal.defs (F := Ideal)) (onTc (τ := Cert.AdamSmallAIdeal.τ) (Cert.AdamSmallAIdeal.main (F := Ideal))) ⟨m, fun _ => 0, g⟩ (fun r => ∀ c : Dev Cert.AdamSmallAIdeal.nD,
          r.2.mem ((c.tc : Thread Cert.AdamSmallAIdeal.nD Cert.AdamSmallAIdeal.τ).loc Cert.AdamSmallAIdeal.main_v0_0) = v0 c
          ∧ r.2.mem ((c.tc : Thread Cert.AdamSmallAIdeal.nD Cert.AdamSmallAIdeal.τ).loc Cert.AdamSmallAIdeal.main_v0_1) = v1 c
          ∧ r.2.mem ((c.tc : Thread Cert.AdamSmallAIdeal.nD Cert.AdamSmallAIdeal.τ).loc Cert.AdamSmallAIdeal.main_v0_2) = v2 c
          ∧ r.2.mem ((c.tc : Thread Cert.AdamSmallAIdeal.nD Cert.AdamSmallAIdeal.τ).loc Cert.AdamSmallAIdeal.main_v0_3) = v3 c
          ∧ r.2.mem ((c.tc : Thread Cert.AdamSmallAIdeal.nD Cert.AdamSmallAIdeal.τ).loc Cert.AdamSmallAIdeal.main_v0_4) = v4 c
          ∧ r.2.mem ((c.tc : Thread Cert.AdamSmallAIdeal.nD Cert.AdamSmallAIdeal.τ).loc Cert.AdamSmallAIdeal.main_v0_5) = v5 c
          ∧ r.2.mem ((c.tc : Thread Cert.AdamSmallAIdeal.nD Cert.AdamSmallAIdeal.τ).loc Cert.AdamSmallAIdeal.main_v0_6) = v6 c
          ∧ r.2.mem ((c.tc : Thread Cert.AdamSmallAIdeal.nD Cert.AdamSmallAIdeal.τ).loc Cert.AdamSmallAIdeal.main_v0_7) = v7 c
          ∧ r.2.mem ((c.tc : Thread Cert.AdamSmallAIdeal.nD Cert.AdamSmallAIdeal.τ).loc Cert.AdamSmallAIdeal.main_v0_8) = v8 c
          ∧ r.2.mem ((c.tc : Thread Cert.AdamSmallAIdeal.nD Cert.AdamSmallAIdeal.τ).loc Cert.AdamSmallAIdeal.main_v0_9) = v9 c
          ∧ r.2.mem ((c.tc : Thread Cert.AdamSmallAIdeal.nD Cert.AdamSmallAIdeal.τ).loc Cert.AdamSmallAIdeal.main_v0_10) = v10 c
          ∧ r.2.mem ((c.tc : Thread Cert.AdamSmallAIdeal.nD Cert.AdamSmallAIdeal.τ).loc Cert.AdamSmallAIdeal.main_v0_11) = v11 c
          ∧ r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
          ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
          ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
          ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
          ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
          ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
          ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
          ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
          ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
          ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
          ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
          ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11)
          ∧ r.2.mem ((c.tc : Thread Cert.AdamSmallAIdeal.nD Cert.AdamSmallAIdeal.τ).loc Cert.AdamSmallAIdeal.main_arg12) = m ((c.tc : Thread Cert.AdamSmallAIdeal.nD Cert.AdamSmallAIdeal.τ).loc Cert.AdamSmallAIdeal.main_arg12)
          ∧ r.2.mem ((c.tc : Thread Cert.AdamSmallAIdeal.nD Cert.AdamSmallAIdeal.τ).loc Cert.AdamSmallAIdeal.main_arg13) = m ((c.tc : Thread Cert.AdamSmallAIdeal.nD Cert.AdamSmallAIdeal.τ).loc Cert.AdamSmallAIdeal.main_arg13)
          ∧ r.2.mem ((c.tc : Thread Cert.AdamSmallAIdeal.nD Cert.AdamSmallAIdeal.τ).loc Cert.AdamSmallAIdeal.main_arg14) = m ((c.tc : Thread Cert.AdamSmallAIdeal.nD Cert.AdamSmallAIdeal.τ).loc Cert.AdamSmallAIdeal.main_arg14)
          ∧ r.2.mem ((c.tc : Thread Cert.AdamSmallAIdeal.nD Cert.AdamSmallAIdeal.τ).loc Cert.AdamSmallAIdeal.main_arg15) = m ((c.tc : Thread Cert.AdamSmallAIdeal.nD Cert.AdamSmallAIdeal.τ).loc Cert.AdamSmallAIdeal.main_arg15))
      ∧ θ_run (Cert.AdamSmallARefIdeal.defs (F := Ideal)) (onTc (τ := Cert.AdamSmallARefIdeal.τ) (Cert.AdamSmallARefIdeal.main (F := Ideal))) ⟨m', fun _ => 0, g'⟩ (fun r => ∀ c : Dev Cert.AdamSmallARefIdeal.nD,
          r.2.mem ((c.tc : Thread Cert.AdamSmallARefIdeal.nD Cert.AdamSmallARefIdeal.τ).loc Cert.AdamSmallARefIdeal.main_v23) = v0 c
          ∧ r.2.mem ((c.tc : Thread Cert.AdamSmallARefIdeal.nD Cert.AdamSmallARefIdeal.τ).loc Cert.AdamSmallARefIdeal.main_v47) = v1 c
          ∧ r.2.mem ((c.tc : Thread Cert.AdamSmallARefIdeal.nD Cert.AdamSmallARefIdeal.τ).loc Cert.AdamSmallARefIdeal.main_v71) = v2 c
          ∧ r.2.mem ((c.tc : Thread Cert.AdamSmallARefIdeal.nD Cert.AdamSmallARefIdeal.τ).loc Cert.AdamSmallARefIdeal.main_v95) = v3 c
          ∧ r.2.mem ((c.tc : Thread Cert.AdamSmallARefIdeal.nD Cert.AdamSmallARefIdeal.τ).loc Cert.AdamSmallARefIdeal.main_v4) = v4 c
          ∧ r.2.mem ((c.tc : Thread Cert.AdamSmallARefIdeal.nD Cert.AdamSmallARefIdeal.τ).loc Cert.AdamSmallARefIdeal.main_v28) = v5 c
          ∧ r.2.mem ((c.tc : Thread Cert.AdamSmallARefIdeal.nD Cert.AdamSmallARefIdeal.τ).loc Cert.AdamSmallARefIdeal.main_v52) = v6 c
          ∧ r.2.mem ((c.tc : Thread Cert.AdamSmallARefIdeal.nD Cert.AdamSmallARefIdeal.τ).loc Cert.AdamSmallARefIdeal.main_v76) = v7 c
          ∧ r.2.mem ((c.tc : Thread Cert.AdamSmallARefIdeal.nD Cert.AdamSmallARefIdeal.τ).loc Cert.AdamSmallARefIdeal.main_v10) = v8 c
          ∧ r.2.mem ((c.tc : Thread Cert.AdamSmallARefIdeal.nD Cert.AdamSmallARefIdeal.τ).loc Cert.AdamSmallARefIdeal.main_v34) = v9 c
          ∧ r.2.mem ((c.tc : Thread Cert.AdamSmallARefIdeal.nD Cert.AdamSmallARefIdeal.τ).loc Cert.AdamSmallARefIdeal.main_v58) = v10 c
          ∧ r.2.mem ((c.tc : Thread Cert.AdamSmallARefIdeal.nD Cert.AdamSmallARefIdeal.τ).loc Cert.AdamSmallARefIdeal.main_v82) = v11 c
          ∧ r.2.mem ((c.tc : Thread Cert.AdamSmallARefIdeal.nD Cert.AdamSmallARefIdeal.τ).loc Cert.AdamSmallARefIdeal.main_arg0) = m' ((c.tc : Thread Cert.AdamSmallARefIdeal.nD Cert.AdamSmallARefIdeal.τ).loc Cert.AdamSmallARefIdeal.main_arg0)
          ∧ r.2.mem ((c.tc : Thread Cert.AdamSmallARefIdeal.nD Cert.AdamSmallARefIdeal.τ).loc Cert.AdamSmallARefIdeal.main_arg1) = m' ((c.tc : Thread Cert.AdamSmallARefIdeal.nD Cert.AdamSmallARefIdeal.τ).loc Cert.AdamSmallARefIdeal.main_arg1)
          ∧ r.2.mem ((c.tc : Thread Cert.AdamSmallARefIdeal.nD Cert.AdamSmallARefIdeal.τ).loc Cert.AdamSmallARefIdeal.main_arg2) = m' ((c.tc : Thread Cert.AdamSmallARefIdeal.nD Cert.AdamSmallARefIdeal.τ).loc Cert.AdamSmallARefIdeal.main_arg2)
          ∧ r.2.mem ((c.tc : Thread Cert.AdamSmallARefIdeal.nD Cert.AdamSmallARefIdeal.τ).loc Cert.AdamSmallARefIdeal.main_arg3) = m' ((c.tc : Thread Cert.AdamSmallARefIdeal.nD Cert.AdamSmallARefIdeal.τ).loc Cert.AdamSmallARefIdeal.main_arg3)
          ∧ r.2.mem ((c.tc : Thread Cert.AdamSmallARefIdeal.nD Cert.AdamSmallARefIdeal.τ).loc Cert.AdamSmallARefIdeal.main_arg4) = m' ((c.tc : Thread Cert.AdamSmallARefIdeal.nD Cert.AdamSmallARefIdeal.τ).loc Cert.AdamSmallARefIdeal.main_arg4)
          ∧ r.2.mem ((c.tc : Thread Cert.AdamSmallARefIdeal.nD Cert.AdamSmallARefIdeal.τ).loc Cert.AdamSmallARefIdeal.main_arg5) = m' ((c.tc : Thread Cert.AdamSmallARefIdeal.nD Cert.AdamSmallARefIdeal.τ).loc Cert.AdamSmallARefIdeal.main_arg5)
          ∧ r.2.mem ((c.tc : Thread Cert.AdamSmallARefIdeal.nD Cert.AdamSmallARefIdeal.τ).loc Cert.AdamSmallARefIdeal.main_arg6) = m' ((c.tc : Thread Cert.AdamSmallARefIdeal.nD Cert.AdamSmallARefIdeal.τ).loc Cert.AdamSmallARefIdeal.main_arg6)
          ∧ r.2.mem ((c.tc : Thread Cert.AdamSmallARefIdeal.nD Cert.AdamSmallARefIdeal.τ).loc Cert.AdamSmallARefIdeal.main_arg7) = m' ((c.tc : Thread Cert.AdamSmallARefIdeal.nD Cert.AdamSmallARefIdeal.τ).loc Cert.AdamSmallARefIdeal.main_arg7)
          ∧ r.2.mem ((c.tc : Thread Cert.AdamSmallARefIdeal.nD Cert.AdamSmallARefIdeal.τ).loc Cert.AdamSmallARefIdeal.main_arg8) = m' ((c.tc : Thread Cert.AdamSmallARefIdeal.nD Cert.AdamSmallARefIdeal.τ).loc Cert.AdamSmallARefIdeal.main_arg8)
          ∧ r.2.mem ((c.tc : Thread Cert.AdamSmallARefIdeal.nD Cert.AdamSmallARefIdeal.τ).loc Cert.AdamSmallARefIdeal.main_arg9) = m' ((c.tc : Thread Cert.AdamSmallARefIdeal.nD Cert.AdamSmallARefIdeal.τ).loc Cert.AdamSmallARefIdeal.main_arg9)
          ∧ r.2.mem ((c.tc : Thread Cert.AdamSmallARefIdeal.nD Cert.AdamSmallARefIdeal.τ).loc Cert.AdamSmallARefIdeal.main_arg10) = m' ((c.tc : Thread Cert.AdamSmallARefIdeal.nD Cert.AdamSmallARefIdeal.τ).loc Cert.AdamSmallARefIdeal.main_arg10)
          ∧ r.2.mem ((c.tc : Thread Cert.AdamSmallARefIdeal.nD Cert.AdamSmallARefIdeal.τ).loc Cert.AdamSmallARefIdeal.main_arg11) = m' ((c.tc : Thread Cert.AdamSmallARefIdeal.nD Cert.AdamSmallARefIdeal.τ).loc Cert.AdamSmallARefIdeal.main_arg11)
          ∧ r.2.mem ((c.tc : Thread Cert.AdamSmallARefIdeal.nD Cert.AdamSmallARefIdeal.τ).loc Cert.AdamSmallARefIdeal.main_arg12) = m' ((c.tc : Thread Cert.AdamSmallARefIdeal.nD Cert.AdamSmallARefIdeal.τ).loc Cert.AdamSmallARefIdeal.main_arg12)
          ∧ r.2.mem ((c.tc : Thread Cert.AdamSmallARefIdeal.nD Cert.AdamSmallARefIdeal.τ).loc Cert.AdamSmallARefIdeal.main_arg13) = m' ((c.tc : Thread Cert.AdamSmallARefIdeal.nD Cert.AdamSmallARefIdeal.τ).loc Cert.AdamSmallARefIdeal.main_arg13)
          ∧ r.2.mem ((c.tc : Thread Cert.AdamSmallARefIdeal.nD Cert.AdamSmallARefIdeal.τ).loc Cert.AdamSmallARefIdeal.main_arg14) = m' ((c.tc : Thread Cert.AdamSmallARefIdeal.nD Cert.AdamSmallARefIdeal.τ).loc Cert.AdamSmallARefIdeal.main_arg14)
          ∧ r.2.mem ((c.tc : Thread Cert.AdamSmallARefIdeal.nD Cert.AdamSmallARefIdeal.τ).loc Cert.AdamSmallARefIdeal.main_arg15) = m' ((c.tc : Thread Cert.AdamSmallARefIdeal.nD Cert.AdamSmallARefIdeal.τ).loc Cert.AdamSmallARefIdeal.main_arg15))

def preserves_AdamSmallB_AdamSmallBIdeal : Prop :=
  True

def algebraic_AdamSmallBIdeal_AdamSmallBRefIdeal [hAdamSmallBIdeal : Cert.AdamSmallBIdeal.Facts] [hAdamSmallBRefIdeal : Cert.AdamSmallBRefIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg)
    (m' : (ℓ : Loc Cert.AdamSmallBRefIdeal.nD Cert.AdamSmallBRefIdeal.τ Cert.AdamSmallBRefIdeal.sig) → Buf (Elt Ideal) ℓ) (g' : Dev Cert.AdamSmallBRefIdeal.nD → PrngReg), Pre_AdamSmallBIdeal m →
    (∀ c : Dev Cert.AdamSmallBIdeal.nD,
      m' ((c.tc : Thread Cert.AdamSmallBRefIdeal.nD Cert.AdamSmallBRefIdeal.τ).loc Cert.AdamSmallBRefIdeal.main_arg0) = m ((c.tc : Thread Cert.AdamSmallBIdeal.nD Cert.AdamSmallBIdeal.τ).loc Cert.AdamSmallBIdeal.main_arg0)
      ∧ m' ((c.tc : Thread Cert.AdamSmallBRefIdeal.nD Cert.AdamSmallBRefIdeal.τ).loc Cert.AdamSmallBRefIdeal.main_arg1) = m ((c.tc : Thread Cert.AdamSmallBIdeal.nD Cert.AdamSmallBIdeal.τ).loc Cert.AdamSmallBIdeal.main_arg1)
      ∧ m' ((c.tc : Thread Cert.AdamSmallBRefIdeal.nD Cert.AdamSmallBRefIdeal.τ).loc Cert.AdamSmallBRefIdeal.main_arg2) = m ((c.tc : Thread Cert.AdamSmallBIdeal.nD Cert.AdamSmallBIdeal.τ).loc Cert.AdamSmallBIdeal.main_arg2)
      ∧ m' ((c.tc : Thread Cert.AdamSmallBRefIdeal.nD Cert.AdamSmallBRefIdeal.τ).loc Cert.AdamSmallBRefIdeal.main_arg3) = m ((c.tc : Thread Cert.AdamSmallBIdeal.nD Cert.AdamSmallBIdeal.τ).loc Cert.AdamSmallBIdeal.main_arg3)
      ∧ m' ((c.tc : Thread Cert.AdamSmallBRefIdeal.nD Cert.AdamSmallBRefIdeal.τ).loc Cert.AdamSmallBRefIdeal.main_arg4) = m ((c.tc : Thread Cert.AdamSmallBIdeal.nD Cert.AdamSmallBIdeal.τ).loc Cert.AdamSmallBIdeal.main_arg4)
      ∧ m' ((c.tc : Thread Cert.AdamSmallBRefIdeal.nD Cert.AdamSmallBRefIdeal.τ).loc Cert.AdamSmallBRefIdeal.main_arg5) = m ((c.tc : Thread Cert.AdamSmallBIdeal.nD Cert.AdamSmallBIdeal.τ).loc Cert.AdamSmallBIdeal.main_arg5)
      ∧ m' ((c.tc : Thread Cert.AdamSmallBRefIdeal.nD Cert.AdamSmallBRefIdeal.τ).loc Cert.AdamSmallBRefIdeal.main_arg6) = m ((c.tc : Thread Cert.AdamSmallBIdeal.nD Cert.AdamSmallBIdeal.τ).loc Cert.AdamSmallBIdeal.main_arg6)
      ∧ m' ((c.tc : Thread Cert.AdamSmallBRefIdeal.nD Cert.AdamSmallBRefIdeal.τ).loc Cert.AdamSmallBRefIdeal.main_arg7) = m ((c.tc : Thread Cert.AdamSmallBIdeal.nD Cert.AdamSmallBIdeal.τ).loc Cert.AdamSmallBIdeal.main_arg7)
      ∧ m' ((c.tc : Thread Cert.AdamSmallBRefIdeal.nD Cert.AdamSmallBRefIdeal.τ).loc Cert.AdamSmallBRefIdeal.main_arg8) = m ((c.tc : Thread Cert.AdamSmallBIdeal.nD Cert.AdamSmallBIdeal.τ).loc Cert.AdamSmallBIdeal.main_arg8)
      ∧ m' ((c.tc : Thread Cert.AdamSmallBRefIdeal.nD Cert.AdamSmallBRefIdeal.τ).loc Cert.AdamSmallBRefIdeal.main_arg9) = m ((c.tc : Thread Cert.AdamSmallBIdeal.nD Cert.AdamSmallBIdeal.τ).loc Cert.AdamSmallBIdeal.main_arg9)
      ∧ m' ((c.tc : Thread Cert.AdamSmallBRefIdeal.nD Cert.AdamSmallBRefIdeal.τ).loc Cert.AdamSmallBRefIdeal.main_arg10) = m ((c.tc : Thread Cert.AdamSmallBIdeal.nD Cert.AdamSmallBIdeal.τ).loc Cert.AdamSmallBIdeal.main_arg10)
      ∧ m' ((c.tc : Thread Cert.AdamSmallBRefIdeal.nD Cert.AdamSmallBRefIdeal.τ).loc Cert.AdamSmallBRefIdeal.main_arg11) = m ((c.tc : Thread Cert.AdamSmallBIdeal.nD Cert.AdamSmallBIdeal.τ).loc Cert.AdamSmallBIdeal.main_arg11)
      ∧ m' ((c.tc : Thread Cert.AdamSmallBRefIdeal.nD Cert.AdamSmallBRefIdeal.τ).loc Cert.AdamSmallBRefIdeal.main_arg12) = m ((c.tc : Thread Cert.AdamSmallBIdeal.nD Cert.AdamSmallBIdeal.τ).loc Cert.AdamSmallBIdeal.main_arg12)
      ∧ m' ((c.tc : Thread Cert.AdamSmallBRefIdeal.nD Cert.AdamSmallBRefIdeal.τ).loc Cert.AdamSmallBRefIdeal.main_arg13) = m ((c.tc : Thread Cert.AdamSmallBIdeal.nD Cert.AdamSmallBIdeal.τ).loc Cert.AdamSmallBIdeal.main_arg13)
      ∧ m' ((c.tc : Thread Cert.AdamSmallBRefIdeal.nD Cert.AdamSmallBRefIdeal.τ).loc Cert.AdamSmallBRefIdeal.main_arg14) = m ((c.tc : Thread Cert.AdamSmallBIdeal.nD Cert.AdamSmallBIdeal.τ).loc Cert.AdamSmallBIdeal.main_arg14)
      ∧ m' ((c.tc : Thread Cert.AdamSmallBRefIdeal.nD Cert.AdamSmallBRefIdeal.τ).loc Cert.AdamSmallBRefIdeal.main_arg15) = m ((c.tc : Thread Cert.AdamSmallBIdeal.nD Cert.AdamSmallBIdeal.τ).loc Cert.AdamSmallBIdeal.main_arg15)) →
    ∃ (v0 : (c : Dev Cert.AdamSmallBIdeal.nD) → Buf (Elt Ideal) ((c.tc : Thread Cert.AdamSmallBIdeal.nD Cert.AdamSmallBIdeal.τ).loc Cert.AdamSmallBIdeal.main_v0_0)) (v1 : (c : Dev Cert.AdamSmallBIdeal.nD) → Buf (Elt Ideal) ((c.tc : Thread Cert.AdamSmallBIdeal.nD Cert.AdamSmallBIdeal.τ).loc Cert.AdamSmallBIdeal.main_v0_1)) (v2 : (c : Dev Cert.AdamSmallBIdeal.nD) → Buf (Elt Ideal) ((c.tc : Thread Cert.AdamSmallBIdeal.nD Cert.AdamSmallBIdeal.τ).loc Cert.AdamSmallBIdeal.main_v0_2)) (v3 : (c : Dev Cert.AdamSmallBIdeal.nD) → Buf (Elt Ideal) ((c.tc : Thread Cert.AdamSmallBIdeal.nD Cert.AdamSmallBIdeal.τ).loc Cert.AdamSmallBIdeal.main_v0_3)) (v4 : (c : Dev Cert.AdamSmallBIdeal.nD) → Buf (Elt Ideal) ((c.tc : Thread Cert.AdamSmallBIdeal.nD Cert.AdamSmallBIdeal.τ).loc Cert.AdamSmallBIdeal.main_v0_4)) (v5 : (c : Dev Cert.AdamSmallBIdeal.nD) → Buf (Elt Ideal) ((c.tc : Thread Cert.AdamSmallBIdeal.nD Cert.AdamSmallBIdeal.τ).loc Cert.AdamSmallBIdeal.main_v0_5)) (v6 : (c : Dev Cert.AdamSmallBIdeal.nD) → Buf (Elt Ideal) ((c.tc : Thread Cert.AdamSmallBIdeal.nD Cert.AdamSmallBIdeal.τ).loc Cert.AdamSmallBIdeal.main_v0_6)) (v7 : (c : Dev Cert.AdamSmallBIdeal.nD) → Buf (Elt Ideal) ((c.tc : Thread Cert.AdamSmallBIdeal.nD Cert.AdamSmallBIdeal.τ).loc Cert.AdamSmallBIdeal.main_v0_7)) (v8 : (c : Dev Cert.AdamSmallBIdeal.nD) → Buf (Elt Ideal) ((c.tc : Thread Cert.AdamSmallBIdeal.nD Cert.AdamSmallBIdeal.τ).loc Cert.AdamSmallBIdeal.main_v0_8)) (v9 : (c : Dev Cert.AdamSmallBIdeal.nD) → Buf (Elt Ideal) ((c.tc : Thread Cert.AdamSmallBIdeal.nD Cert.AdamSmallBIdeal.τ).loc Cert.AdamSmallBIdeal.main_v0_9)) (v10 : (c : Dev Cert.AdamSmallBIdeal.nD) → Buf (Elt Ideal) ((c.tc : Thread Cert.AdamSmallBIdeal.nD Cert.AdamSmallBIdeal.τ).loc Cert.AdamSmallBIdeal.main_v0_10)) (v11 : (c : Dev Cert.AdamSmallBIdeal.nD) → Buf (Elt Ideal) ((c.tc : Thread Cert.AdamSmallBIdeal.nD Cert.AdamSmallBIdeal.τ).loc Cert.AdamSmallBIdeal.main_v0_11)),
      θ_run (Cert.AdamSmallBIdeal.defs (F := Ideal)) (onTc (τ := Cert.AdamSmallBIdeal.τ) (Cert.AdamSmallBIdeal.main (F := Ideal))) ⟨m, fun _ => 0, g⟩ (fun r => ∀ c : Dev Cert.AdamSmallBIdeal.nD,
          r.2.mem ((c.tc : Thread Cert.AdamSmallBIdeal.nD Cert.AdamSmallBIdeal.τ).loc Cert.AdamSmallBIdeal.main_v0_0) = v0 c
          ∧ r.2.mem ((c.tc : Thread Cert.AdamSmallBIdeal.nD Cert.AdamSmallBIdeal.τ).loc Cert.AdamSmallBIdeal.main_v0_1) = v1 c
          ∧ r.2.mem ((c.tc : Thread Cert.AdamSmallBIdeal.nD Cert.AdamSmallBIdeal.τ).loc Cert.AdamSmallBIdeal.main_v0_2) = v2 c
          ∧ r.2.mem ((c.tc : Thread Cert.AdamSmallBIdeal.nD Cert.AdamSmallBIdeal.τ).loc Cert.AdamSmallBIdeal.main_v0_3) = v3 c
          ∧ r.2.mem ((c.tc : Thread Cert.AdamSmallBIdeal.nD Cert.AdamSmallBIdeal.τ).loc Cert.AdamSmallBIdeal.main_v0_4) = v4 c
          ∧ r.2.mem ((c.tc : Thread Cert.AdamSmallBIdeal.nD Cert.AdamSmallBIdeal.τ).loc Cert.AdamSmallBIdeal.main_v0_5) = v5 c
          ∧ r.2.mem ((c.tc : Thread Cert.AdamSmallBIdeal.nD Cert.AdamSmallBIdeal.τ).loc Cert.AdamSmallBIdeal.main_v0_6) = v6 c
          ∧ r.2.mem ((c.tc : Thread Cert.AdamSmallBIdeal.nD Cert.AdamSmallBIdeal.τ).loc Cert.AdamSmallBIdeal.main_v0_7) = v7 c
          ∧ r.2.mem ((c.tc : Thread Cert.AdamSmallBIdeal.nD Cert.AdamSmallBIdeal.τ).loc Cert.AdamSmallBIdeal.main_v0_8) = v8 c
          ∧ r.2.mem ((c.tc : Thread Cert.AdamSmallBIdeal.nD Cert.AdamSmallBIdeal.τ).loc Cert.AdamSmallBIdeal.main_v0_9) = v9 c
          ∧ r.2.mem ((c.tc : Thread Cert.AdamSmallBIdeal.nD Cert.AdamSmallBIdeal.τ).loc Cert.AdamSmallBIdeal.main_v0_10) = v10 c
          ∧ r.2.mem ((c.tc : Thread Cert.AdamSmallBIdeal.nD Cert.AdamSmallBIdeal.τ).loc Cert.AdamSmallBIdeal.main_v0_11) = v11 c
          ∧ r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
          ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
          ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
          ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
          ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
          ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
          ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
          ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
          ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
          ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
          ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
          ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11)
          ∧ r.2.mem ((c.tc : Thread Cert.AdamSmallBIdeal.nD Cert.AdamSmallBIdeal.τ).loc Cert.AdamSmallBIdeal.main_arg12) = m ((c.tc : Thread Cert.AdamSmallBIdeal.nD Cert.AdamSmallBIdeal.τ).loc Cert.AdamSmallBIdeal.main_arg12)
          ∧ r.2.mem ((c.tc : Thread Cert.AdamSmallBIdeal.nD Cert.AdamSmallBIdeal.τ).loc Cert.AdamSmallBIdeal.main_arg13) = m ((c.tc : Thread Cert.AdamSmallBIdeal.nD Cert.AdamSmallBIdeal.τ).loc Cert.AdamSmallBIdeal.main_arg13)
          ∧ r.2.mem ((c.tc : Thread Cert.AdamSmallBIdeal.nD Cert.AdamSmallBIdeal.τ).loc Cert.AdamSmallBIdeal.main_arg14) = m ((c.tc : Thread Cert.AdamSmallBIdeal.nD Cert.AdamSmallBIdeal.τ).loc Cert.AdamSmallBIdeal.main_arg14)
          ∧ r.2.mem ((c.tc : Thread Cert.AdamSmallBIdeal.nD Cert.AdamSmallBIdeal.τ).loc Cert.AdamSmallBIdeal.main_arg15) = m ((c.tc : Thread Cert.AdamSmallBIdeal.nD Cert.AdamSmallBIdeal.τ).loc Cert.AdamSmallBIdeal.main_arg15))
      ∧ θ_run (Cert.AdamSmallBRefIdeal.defs (F := Ideal)) (onTc (τ := Cert.AdamSmallBRefIdeal.τ) (Cert.AdamSmallBRefIdeal.main (F := Ideal))) ⟨m', fun _ => 0, g'⟩ (fun r => ∀ c : Dev Cert.AdamSmallBRefIdeal.nD,
          r.2.mem ((c.tc : Thread Cert.AdamSmallBRefIdeal.nD Cert.AdamSmallBRefIdeal.τ).loc Cert.AdamSmallBRefIdeal.main_v23) = v0 c
          ∧ r.2.mem ((c.tc : Thread Cert.AdamSmallBRefIdeal.nD Cert.AdamSmallBRefIdeal.τ).loc Cert.AdamSmallBRefIdeal.main_v47) = v1 c
          ∧ r.2.mem ((c.tc : Thread Cert.AdamSmallBRefIdeal.nD Cert.AdamSmallBRefIdeal.τ).loc Cert.AdamSmallBRefIdeal.main_v71) = v2 c
          ∧ r.2.mem ((c.tc : Thread Cert.AdamSmallBRefIdeal.nD Cert.AdamSmallBRefIdeal.τ).loc Cert.AdamSmallBRefIdeal.main_v95) = v3 c
          ∧ r.2.mem ((c.tc : Thread Cert.AdamSmallBRefIdeal.nD Cert.AdamSmallBRefIdeal.τ).loc Cert.AdamSmallBRefIdeal.main_v4) = v4 c
          ∧ r.2.mem ((c.tc : Thread Cert.AdamSmallBRefIdeal.nD Cert.AdamSmallBRefIdeal.τ).loc Cert.AdamSmallBRefIdeal.main_v28) = v5 c
          ∧ r.2.mem ((c.tc : Thread Cert.AdamSmallBRefIdeal.nD Cert.AdamSmallBRefIdeal.τ).loc Cert.AdamSmallBRefIdeal.main_v52) = v6 c
          ∧ r.2.mem ((c.tc : Thread Cert.AdamSmallBRefIdeal.nD Cert.AdamSmallBRefIdeal.τ).loc Cert.AdamSmallBRefIdeal.main_v76) = v7 c
          ∧ r.2.mem ((c.tc : Thread Cert.AdamSmallBRefIdeal.nD Cert.AdamSmallBRefIdeal.τ).loc Cert.AdamSmallBRefIdeal.main_v10) = v8 c
          ∧ r.2.mem ((c.tc : Thread Cert.AdamSmallBRefIdeal.nD Cert.AdamSmallBRefIdeal.τ).loc Cert.AdamSmallBRefIdeal.main_v34) = v9 c
          ∧ r.2.mem ((c.tc : Thread Cert.AdamSmallBRefIdeal.nD Cert.AdamSmallBRefIdeal.τ).loc Cert.AdamSmallBRefIdeal.main_v58) = v10 c
          ∧ r.2.mem ((c.tc : Thread Cert.AdamSmallBRefIdeal.nD Cert.AdamSmallBRefIdeal.τ).loc Cert.AdamSmallBRefIdeal.main_v82) = v11 c
          ∧ r.2.mem ((c.tc : Thread Cert.AdamSmallBRefIdeal.nD Cert.AdamSmallBRefIdeal.τ).loc Cert.AdamSmallBRefIdeal.main_arg0) = m' ((c.tc : Thread Cert.AdamSmallBRefIdeal.nD Cert.AdamSmallBRefIdeal.τ).loc Cert.AdamSmallBRefIdeal.main_arg0)
          ∧ r.2.mem ((c.tc : Thread Cert.AdamSmallBRefIdeal.nD Cert.AdamSmallBRefIdeal.τ).loc Cert.AdamSmallBRefIdeal.main_arg1) = m' ((c.tc : Thread Cert.AdamSmallBRefIdeal.nD Cert.AdamSmallBRefIdeal.τ).loc Cert.AdamSmallBRefIdeal.main_arg1)
          ∧ r.2.mem ((c.tc : Thread Cert.AdamSmallBRefIdeal.nD Cert.AdamSmallBRefIdeal.τ).loc Cert.AdamSmallBRefIdeal.main_arg2) = m' ((c.tc : Thread Cert.AdamSmallBRefIdeal.nD Cert.AdamSmallBRefIdeal.τ).loc Cert.AdamSmallBRefIdeal.main_arg2)
          ∧ r.2.mem ((c.tc : Thread Cert.AdamSmallBRefIdeal.nD Cert.AdamSmallBRefIdeal.τ).loc Cert.AdamSmallBRefIdeal.main_arg3) = m' ((c.tc : Thread Cert.AdamSmallBRefIdeal.nD Cert.AdamSmallBRefIdeal.τ).loc Cert.AdamSmallBRefIdeal.main_arg3)
          ∧ r.2.mem ((c.tc : Thread Cert.AdamSmallBRefIdeal.nD Cert.AdamSmallBRefIdeal.τ).loc Cert.AdamSmallBRefIdeal.main_arg4) = m' ((c.tc : Thread Cert.AdamSmallBRefIdeal.nD Cert.AdamSmallBRefIdeal.τ).loc Cert.AdamSmallBRefIdeal.main_arg4)
          ∧ r.2.mem ((c.tc : Thread Cert.AdamSmallBRefIdeal.nD Cert.AdamSmallBRefIdeal.τ).loc Cert.AdamSmallBRefIdeal.main_arg5) = m' ((c.tc : Thread Cert.AdamSmallBRefIdeal.nD Cert.AdamSmallBRefIdeal.τ).loc Cert.AdamSmallBRefIdeal.main_arg5)
          ∧ r.2.mem ((c.tc : Thread Cert.AdamSmallBRefIdeal.nD Cert.AdamSmallBRefIdeal.τ).loc Cert.AdamSmallBRefIdeal.main_arg6) = m' ((c.tc : Thread Cert.AdamSmallBRefIdeal.nD Cert.AdamSmallBRefIdeal.τ).loc Cert.AdamSmallBRefIdeal.main_arg6)
          ∧ r.2.mem ((c.tc : Thread Cert.AdamSmallBRefIdeal.nD Cert.AdamSmallBRefIdeal.τ).loc Cert.AdamSmallBRefIdeal.main_arg7) = m' ((c.tc : Thread Cert.AdamSmallBRefIdeal.nD Cert.AdamSmallBRefIdeal.τ).loc Cert.AdamSmallBRefIdeal.main_arg7)
          ∧ r.2.mem ((c.tc : Thread Cert.AdamSmallBRefIdeal.nD Cert.AdamSmallBRefIdeal.τ).loc Cert.AdamSmallBRefIdeal.main_arg8) = m' ((c.tc : Thread Cert.AdamSmallBRefIdeal.nD Cert.AdamSmallBRefIdeal.τ).loc Cert.AdamSmallBRefIdeal.main_arg8)
          ∧ r.2.mem ((c.tc : Thread Cert.AdamSmallBRefIdeal.nD Cert.AdamSmallBRefIdeal.τ).loc Cert.AdamSmallBRefIdeal.main_arg9) = m' ((c.tc : Thread Cert.AdamSmallBRefIdeal.nD Cert.AdamSmallBRefIdeal.τ).loc Cert.AdamSmallBRefIdeal.main_arg9)
          ∧ r.2.mem ((c.tc : Thread Cert.AdamSmallBRefIdeal.nD Cert.AdamSmallBRefIdeal.τ).loc Cert.AdamSmallBRefIdeal.main_arg10) = m' ((c.tc : Thread Cert.AdamSmallBRefIdeal.nD Cert.AdamSmallBRefIdeal.τ).loc Cert.AdamSmallBRefIdeal.main_arg10)
          ∧ r.2.mem ((c.tc : Thread Cert.AdamSmallBRefIdeal.nD Cert.AdamSmallBRefIdeal.τ).loc Cert.AdamSmallBRefIdeal.main_arg11) = m' ((c.tc : Thread Cert.AdamSmallBRefIdeal.nD Cert.AdamSmallBRefIdeal.τ).loc Cert.AdamSmallBRefIdeal.main_arg11)
          ∧ r.2.mem ((c.tc : Thread Cert.AdamSmallBRefIdeal.nD Cert.AdamSmallBRefIdeal.τ).loc Cert.AdamSmallBRefIdeal.main_arg12) = m' ((c.tc : Thread Cert.AdamSmallBRefIdeal.nD Cert.AdamSmallBRefIdeal.τ).loc Cert.AdamSmallBRefIdeal.main_arg12)
          ∧ r.2.mem ((c.tc : Thread Cert.AdamSmallBRefIdeal.nD Cert.AdamSmallBRefIdeal.τ).loc Cert.AdamSmallBRefIdeal.main_arg13) = m' ((c.tc : Thread Cert.AdamSmallBRefIdeal.nD Cert.AdamSmallBRefIdeal.τ).loc Cert.AdamSmallBRefIdeal.main_arg13)
          ∧ r.2.mem ((c.tc : Thread Cert.AdamSmallBRefIdeal.nD Cert.AdamSmallBRefIdeal.τ).loc Cert.AdamSmallBRefIdeal.main_arg14) = m' ((c.tc : Thread Cert.AdamSmallBRefIdeal.nD Cert.AdamSmallBRefIdeal.τ).loc Cert.AdamSmallBRefIdeal.main_arg14)
          ∧ r.2.mem ((c.tc : Thread Cert.AdamSmallBRefIdeal.nD Cert.AdamSmallBRefIdeal.τ).loc Cert.AdamSmallBRefIdeal.main_arg15) = m' ((c.tc : Thread Cert.AdamSmallBRefIdeal.nD Cert.AdamSmallBRefIdeal.τ).loc Cert.AdamSmallBRefIdeal.main_arg15))

def preserves_AdamSmallC_AdamSmallCIdeal : Prop :=
  True

def algebraic_AdamSmallCIdeal_AdamSmallCRefIdeal [hAdamSmallCIdeal : Cert.AdamSmallCIdeal.Facts] [hAdamSmallCRefIdeal : Cert.AdamSmallCRefIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg)
    (m' : (ℓ : Loc Cert.AdamSmallCRefIdeal.nD Cert.AdamSmallCRefIdeal.τ Cert.AdamSmallCRefIdeal.sig) → Buf (Elt Ideal) ℓ) (g' : Dev Cert.AdamSmallCRefIdeal.nD → PrngReg), Pre_AdamSmallCIdeal m →
    (∀ c : Dev Cert.AdamSmallCIdeal.nD,
      m' ((c.tc : Thread Cert.AdamSmallCRefIdeal.nD Cert.AdamSmallCRefIdeal.τ).loc Cert.AdamSmallCRefIdeal.main_arg0) = m ((c.tc : Thread Cert.AdamSmallCIdeal.nD Cert.AdamSmallCIdeal.τ).loc Cert.AdamSmallCIdeal.main_arg0)
      ∧ m' ((c.tc : Thread Cert.AdamSmallCRefIdeal.nD Cert.AdamSmallCRefIdeal.τ).loc Cert.AdamSmallCRefIdeal.main_arg1) = m ((c.tc : Thread Cert.AdamSmallCIdeal.nD Cert.AdamSmallCIdeal.τ).loc Cert.AdamSmallCIdeal.main_arg1)
      ∧ m' ((c.tc : Thread Cert.AdamSmallCRefIdeal.nD Cert.AdamSmallCRefIdeal.τ).loc Cert.AdamSmallCRefIdeal.main_arg2) = m ((c.tc : Thread Cert.AdamSmallCIdeal.nD Cert.AdamSmallCIdeal.τ).loc Cert.AdamSmallCIdeal.main_arg2)
      ∧ m' ((c.tc : Thread Cert.AdamSmallCRefIdeal.nD Cert.AdamSmallCRefIdeal.τ).loc Cert.AdamSmallCRefIdeal.main_arg3) = m ((c.tc : Thread Cert.AdamSmallCIdeal.nD Cert.AdamSmallCIdeal.τ).loc Cert.AdamSmallCIdeal.main_arg3)
      ∧ m' ((c.tc : Thread Cert.AdamSmallCRefIdeal.nD Cert.AdamSmallCRefIdeal.τ).loc Cert.AdamSmallCRefIdeal.main_arg4) = m ((c.tc : Thread Cert.AdamSmallCIdeal.nD Cert.AdamSmallCIdeal.τ).loc Cert.AdamSmallCIdeal.main_arg4)
      ∧ m' ((c.tc : Thread Cert.AdamSmallCRefIdeal.nD Cert.AdamSmallCRefIdeal.τ).loc Cert.AdamSmallCRefIdeal.main_arg5) = m ((c.tc : Thread Cert.AdamSmallCIdeal.nD Cert.AdamSmallCIdeal.τ).loc Cert.AdamSmallCIdeal.main_arg5)
      ∧ m' ((c.tc : Thread Cert.AdamSmallCRefIdeal.nD Cert.AdamSmallCRefIdeal.τ).loc Cert.AdamSmallCRefIdeal.main_arg6) = m ((c.tc : Thread Cert.AdamSmallCIdeal.nD Cert.AdamSmallCIdeal.τ).loc Cert.AdamSmallCIdeal.main_arg6)
      ∧ m' ((c.tc : Thread Cert.AdamSmallCRefIdeal.nD Cert.AdamSmallCRefIdeal.τ).loc Cert.AdamSmallCRefIdeal.main_arg7) = m ((c.tc : Thread Cert.AdamSmallCIdeal.nD Cert.AdamSmallCIdeal.τ).loc Cert.AdamSmallCIdeal.main_arg7)
      ∧ m' ((c.tc : Thread Cert.AdamSmallCRefIdeal.nD Cert.AdamSmallCRefIdeal.τ).loc Cert.AdamSmallCRefIdeal.main_arg8) = m ((c.tc : Thread Cert.AdamSmallCIdeal.nD Cert.AdamSmallCIdeal.τ).loc Cert.AdamSmallCIdeal.main_arg8)
      ∧ m' ((c.tc : Thread Cert.AdamSmallCRefIdeal.nD Cert.AdamSmallCRefIdeal.τ).loc Cert.AdamSmallCRefIdeal.main_arg9) = m ((c.tc : Thread Cert.AdamSmallCIdeal.nD Cert.AdamSmallCIdeal.τ).loc Cert.AdamSmallCIdeal.main_arg9)
      ∧ m' ((c.tc : Thread Cert.AdamSmallCRefIdeal.nD Cert.AdamSmallCRefIdeal.τ).loc Cert.AdamSmallCRefIdeal.main_arg10) = m ((c.tc : Thread Cert.AdamSmallCIdeal.nD Cert.AdamSmallCIdeal.τ).loc Cert.AdamSmallCIdeal.main_arg10)
      ∧ m' ((c.tc : Thread Cert.AdamSmallCRefIdeal.nD Cert.AdamSmallCRefIdeal.τ).loc Cert.AdamSmallCRefIdeal.main_arg11) = m ((c.tc : Thread Cert.AdamSmallCIdeal.nD Cert.AdamSmallCIdeal.τ).loc Cert.AdamSmallCIdeal.main_arg11)
      ∧ m' ((c.tc : Thread Cert.AdamSmallCRefIdeal.nD Cert.AdamSmallCRefIdeal.τ).loc Cert.AdamSmallCRefIdeal.main_arg12) = m ((c.tc : Thread Cert.AdamSmallCIdeal.nD Cert.AdamSmallCIdeal.τ).loc Cert.AdamSmallCIdeal.main_arg12)
      ∧ m' ((c.tc : Thread Cert.AdamSmallCRefIdeal.nD Cert.AdamSmallCRefIdeal.τ).loc Cert.AdamSmallCRefIdeal.main_arg13) = m ((c.tc : Thread Cert.AdamSmallCIdeal.nD Cert.AdamSmallCIdeal.τ).loc Cert.AdamSmallCIdeal.main_arg13)
      ∧ m' ((c.tc : Thread Cert.AdamSmallCRefIdeal.nD Cert.AdamSmallCRefIdeal.τ).loc Cert.AdamSmallCRefIdeal.main_arg14) = m ((c.tc : Thread Cert.AdamSmallCIdeal.nD Cert.AdamSmallCIdeal.τ).loc Cert.AdamSmallCIdeal.main_arg14)
      ∧ m' ((c.tc : Thread Cert.AdamSmallCRefIdeal.nD Cert.AdamSmallCRefIdeal.τ).loc Cert.AdamSmallCRefIdeal.main_arg15) = m ((c.tc : Thread Cert.AdamSmallCIdeal.nD Cert.AdamSmallCIdeal.τ).loc Cert.AdamSmallCIdeal.main_arg15)) →
    ∃ (v0 : (c : Dev Cert.AdamSmallCIdeal.nD) → Buf (Elt Ideal) ((c.tc : Thread Cert.AdamSmallCIdeal.nD Cert.AdamSmallCIdeal.τ).loc Cert.AdamSmallCIdeal.main_v0_0)) (v1 : (c : Dev Cert.AdamSmallCIdeal.nD) → Buf (Elt Ideal) ((c.tc : Thread Cert.AdamSmallCIdeal.nD Cert.AdamSmallCIdeal.τ).loc Cert.AdamSmallCIdeal.main_v0_1)) (v2 : (c : Dev Cert.AdamSmallCIdeal.nD) → Buf (Elt Ideal) ((c.tc : Thread Cert.AdamSmallCIdeal.nD Cert.AdamSmallCIdeal.τ).loc Cert.AdamSmallCIdeal.main_v0_2)) (v3 : (c : Dev Cert.AdamSmallCIdeal.nD) → Buf (Elt Ideal) ((c.tc : Thread Cert.AdamSmallCIdeal.nD Cert.AdamSmallCIdeal.τ).loc Cert.AdamSmallCIdeal.main_v0_3)) (v4 : (c : Dev Cert.AdamSmallCIdeal.nD) → Buf (Elt Ideal) ((c.tc : Thread Cert.AdamSmallCIdeal.nD Cert.AdamSmallCIdeal.τ).loc Cert.AdamSmallCIdeal.main_v0_4)) (v5 : (c : Dev Cert.AdamSmallCIdeal.nD) → Buf (Elt Ideal) ((c.tc : Thread Cert.AdamSmallCIdeal.nD Cert.AdamSmallCIdeal.τ).loc Cert.AdamSmallCIdeal.main_v0_5)) (v6 : (c : Dev Cert.AdamSmallCIdeal.nD) → Buf (Elt Ideal) ((c.tc : Thread Cert.AdamSmallCIdeal.nD Cert.AdamSmallCIdeal.τ).loc Cert.AdamSmallCIdeal.main_v0_6)) (v7 : (c : Dev Cert.AdamSmallCIdeal.nD) → Buf (Elt Ideal) ((c.tc : Thread Cert.AdamSmallCIdeal.nD Cert.AdamSmallCIdeal.τ).loc Cert.AdamSmallCIdeal.main_v0_7)) (v8 : (c : Dev Cert.AdamSmallCIdeal.nD) → Buf (Elt Ideal) ((c.tc : Thread Cert.AdamSmallCIdeal.nD Cert.AdamSmallCIdeal.τ).loc Cert.AdamSmallCIdeal.main_v0_8)) (v9 : (c : Dev Cert.AdamSmallCIdeal.nD) → Buf (Elt Ideal) ((c.tc : Thread Cert.AdamSmallCIdeal.nD Cert.AdamSmallCIdeal.τ).loc Cert.AdamSmallCIdeal.main_v0_9)) (v10 : (c : Dev Cert.AdamSmallCIdeal.nD) → Buf (Elt Ideal) ((c.tc : Thread Cert.AdamSmallCIdeal.nD Cert.AdamSmallCIdeal.τ).loc Cert.AdamSmallCIdeal.main_v0_10)) (v11 : (c : Dev Cert.AdamSmallCIdeal.nD) → Buf (Elt Ideal) ((c.tc : Thread Cert.AdamSmallCIdeal.nD Cert.AdamSmallCIdeal.τ).loc Cert.AdamSmallCIdeal.main_v0_11)),
      θ_run (Cert.AdamSmallCIdeal.defs (F := Ideal)) (onTc (τ := Cert.AdamSmallCIdeal.τ) (Cert.AdamSmallCIdeal.main (F := Ideal))) ⟨m, fun _ => 0, g⟩ (fun r => ∀ c : Dev Cert.AdamSmallCIdeal.nD,
          r.2.mem ((c.tc : Thread Cert.AdamSmallCIdeal.nD Cert.AdamSmallCIdeal.τ).loc Cert.AdamSmallCIdeal.main_v0_0) = v0 c
          ∧ r.2.mem ((c.tc : Thread Cert.AdamSmallCIdeal.nD Cert.AdamSmallCIdeal.τ).loc Cert.AdamSmallCIdeal.main_v0_1) = v1 c
          ∧ r.2.mem ((c.tc : Thread Cert.AdamSmallCIdeal.nD Cert.AdamSmallCIdeal.τ).loc Cert.AdamSmallCIdeal.main_v0_2) = v2 c
          ∧ r.2.mem ((c.tc : Thread Cert.AdamSmallCIdeal.nD Cert.AdamSmallCIdeal.τ).loc Cert.AdamSmallCIdeal.main_v0_3) = v3 c
          ∧ r.2.mem ((c.tc : Thread Cert.AdamSmallCIdeal.nD Cert.AdamSmallCIdeal.τ).loc Cert.AdamSmallCIdeal.main_v0_4) = v4 c
          ∧ r.2.mem ((c.tc : Thread Cert.AdamSmallCIdeal.nD Cert.AdamSmallCIdeal.τ).loc Cert.AdamSmallCIdeal.main_v0_5) = v5 c
          ∧ r.2.mem ((c.tc : Thread Cert.AdamSmallCIdeal.nD Cert.AdamSmallCIdeal.τ).loc Cert.AdamSmallCIdeal.main_v0_6) = v6 c
          ∧ r.2.mem ((c.tc : Thread Cert.AdamSmallCIdeal.nD Cert.AdamSmallCIdeal.τ).loc Cert.AdamSmallCIdeal.main_v0_7) = v7 c
          ∧ r.2.mem ((c.tc : Thread Cert.AdamSmallCIdeal.nD Cert.AdamSmallCIdeal.τ).loc Cert.AdamSmallCIdeal.main_v0_8) = v8 c
          ∧ r.2.mem ((c.tc : Thread Cert.AdamSmallCIdeal.nD Cert.AdamSmallCIdeal.τ).loc Cert.AdamSmallCIdeal.main_v0_9) = v9 c
          ∧ r.2.mem ((c.tc : Thread Cert.AdamSmallCIdeal.nD Cert.AdamSmallCIdeal.τ).loc Cert.AdamSmallCIdeal.main_v0_10) = v10 c
          ∧ r.2.mem ((c.tc : Thread Cert.AdamSmallCIdeal.nD Cert.AdamSmallCIdeal.τ).loc Cert.AdamSmallCIdeal.main_v0_11) = v11 c
          ∧ r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
          ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
          ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
          ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
          ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
          ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
          ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
          ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
          ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
          ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
          ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
          ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11)
          ∧ r.2.mem ((c.tc : Thread Cert.AdamSmallCIdeal.nD Cert.AdamSmallCIdeal.τ).loc Cert.AdamSmallCIdeal.main_arg12) = m ((c.tc : Thread Cert.AdamSmallCIdeal.nD Cert.AdamSmallCIdeal.τ).loc Cert.AdamSmallCIdeal.main_arg12)
          ∧ r.2.mem ((c.tc : Thread Cert.AdamSmallCIdeal.nD Cert.AdamSmallCIdeal.τ).loc Cert.AdamSmallCIdeal.main_arg13) = m ((c.tc : Thread Cert.AdamSmallCIdeal.nD Cert.AdamSmallCIdeal.τ).loc Cert.AdamSmallCIdeal.main_arg13)
          ∧ r.2.mem ((c.tc : Thread Cert.AdamSmallCIdeal.nD Cert.AdamSmallCIdeal.τ).loc Cert.AdamSmallCIdeal.main_arg14) = m ((c.tc : Thread Cert.AdamSmallCIdeal.nD Cert.AdamSmallCIdeal.τ).loc Cert.AdamSmallCIdeal.main_arg14)
          ∧ r.2.mem ((c.tc : Thread Cert.AdamSmallCIdeal.nD Cert.AdamSmallCIdeal.τ).loc Cert.AdamSmallCIdeal.main_arg15) = m ((c.tc : Thread Cert.AdamSmallCIdeal.nD Cert.AdamSmallCIdeal.τ).loc Cert.AdamSmallCIdeal.main_arg15))
      ∧ θ_run (Cert.AdamSmallCRefIdeal.defs (F := Ideal)) (onTc (τ := Cert.AdamSmallCRefIdeal.τ) (Cert.AdamSmallCRefIdeal.main (F := Ideal))) ⟨m', fun _ => 0, g'⟩ (fun r => ∀ c : Dev Cert.AdamSmallCRefIdeal.nD,
          r.2.mem ((c.tc : Thread Cert.AdamSmallCRefIdeal.nD Cert.AdamSmallCRefIdeal.τ).loc Cert.AdamSmallCRefIdeal.main_v23) = v0 c
          ∧ r.2.mem ((c.tc : Thread Cert.AdamSmallCRefIdeal.nD Cert.AdamSmallCRefIdeal.τ).loc Cert.AdamSmallCRefIdeal.main_v47) = v1 c
          ∧ r.2.mem ((c.tc : Thread Cert.AdamSmallCRefIdeal.nD Cert.AdamSmallCRefIdeal.τ).loc Cert.AdamSmallCRefIdeal.main_v71) = v2 c
          ∧ r.2.mem ((c.tc : Thread Cert.AdamSmallCRefIdeal.nD Cert.AdamSmallCRefIdeal.τ).loc Cert.AdamSmallCRefIdeal.main_v95) = v3 c
          ∧ r.2.mem ((c.tc : Thread Cert.AdamSmallCRefIdeal.nD Cert.AdamSmallCRefIdeal.τ).loc Cert.AdamSmallCRefIdeal.main_v4) = v4 c
          ∧ r.2.mem ((c.tc : Thread Cert.AdamSmallCRefIdeal.nD Cert.AdamSmallCRefIdeal.τ).loc Cert.AdamSmallCRefIdeal.main_v28) = v5 c
          ∧ r.2.mem ((c.tc : Thread Cert.AdamSmallCRefIdeal.nD Cert.AdamSmallCRefIdeal.τ).loc Cert.AdamSmallCRefIdeal.main_v52) = v6 c
          ∧ r.2.mem ((c.tc : Thread Cert.AdamSmallCRefIdeal.nD Cert.AdamSmallCRefIdeal.τ).loc Cert.AdamSmallCRefIdeal.main_v76) = v7 c
          ∧ r.2.mem ((c.tc : Thread Cert.AdamSmallCRefIdeal.nD Cert.AdamSmallCRefIdeal.τ).loc Cert.AdamSmallCRefIdeal.main_v10) = v8 c
          ∧ r.2.mem ((c.tc : Thread Cert.AdamSmallCRefIdeal.nD Cert.AdamSmallCRefIdeal.τ).loc Cert.AdamSmallCRefIdeal.main_v34) = v9 c
          ∧ r.2.mem ((c.tc : Thread Cert.AdamSmallCRefIdeal.nD Cert.AdamSmallCRefIdeal.τ).loc Cert.AdamSmallCRefIdeal.main_v58) = v10 c
          ∧ r.2.mem ((c.tc : Thread Cert.AdamSmallCRefIdeal.nD Cert.AdamSmallCRefIdeal.τ).loc Cert.AdamSmallCRefIdeal.main_v82) = v11 c
          ∧ r.2.mem ((c.tc : Thread Cert.AdamSmallCRefIdeal.nD Cert.AdamSmallCRefIdeal.τ).loc Cert.AdamSmallCRefIdeal.main_arg0) = m' ((c.tc : Thread Cert.AdamSmallCRefIdeal.nD Cert.AdamSmallCRefIdeal.τ).loc Cert.AdamSmallCRefIdeal.main_arg0)
          ∧ r.2.mem ((c.tc : Thread Cert.AdamSmallCRefIdeal.nD Cert.AdamSmallCRefIdeal.τ).loc Cert.AdamSmallCRefIdeal.main_arg1) = m' ((c.tc : Thread Cert.AdamSmallCRefIdeal.nD Cert.AdamSmallCRefIdeal.τ).loc Cert.AdamSmallCRefIdeal.main_arg1)
          ∧ r.2.mem ((c.tc : Thread Cert.AdamSmallCRefIdeal.nD Cert.AdamSmallCRefIdeal.τ).loc Cert.AdamSmallCRefIdeal.main_arg2) = m' ((c.tc : Thread Cert.AdamSmallCRefIdeal.nD Cert.AdamSmallCRefIdeal.τ).loc Cert.AdamSmallCRefIdeal.main_arg2)
          ∧ r.2.mem ((c.tc : Thread Cert.AdamSmallCRefIdeal.nD Cert.AdamSmallCRefIdeal.τ).loc Cert.AdamSmallCRefIdeal.main_arg3) = m' ((c.tc : Thread Cert.AdamSmallCRefIdeal.nD Cert.AdamSmallCRefIdeal.τ).loc Cert.AdamSmallCRefIdeal.main_arg3)
          ∧ r.2.mem ((c.tc : Thread Cert.AdamSmallCRefIdeal.nD Cert.AdamSmallCRefIdeal.τ).loc Cert.AdamSmallCRefIdeal.main_arg4) = m' ((c.tc : Thread Cert.AdamSmallCRefIdeal.nD Cert.AdamSmallCRefIdeal.τ).loc Cert.AdamSmallCRefIdeal.main_arg4)
          ∧ r.2.mem ((c.tc : Thread Cert.AdamSmallCRefIdeal.nD Cert.AdamSmallCRefIdeal.τ).loc Cert.AdamSmallCRefIdeal.main_arg5) = m' ((c.tc : Thread Cert.AdamSmallCRefIdeal.nD Cert.AdamSmallCRefIdeal.τ).loc Cert.AdamSmallCRefIdeal.main_arg5)
          ∧ r.2.mem ((c.tc : Thread Cert.AdamSmallCRefIdeal.nD Cert.AdamSmallCRefIdeal.τ).loc Cert.AdamSmallCRefIdeal.main_arg6) = m' ((c.tc : Thread Cert.AdamSmallCRefIdeal.nD Cert.AdamSmallCRefIdeal.τ).loc Cert.AdamSmallCRefIdeal.main_arg6)
          ∧ r.2.mem ((c.tc : Thread Cert.AdamSmallCRefIdeal.nD Cert.AdamSmallCRefIdeal.τ).loc Cert.AdamSmallCRefIdeal.main_arg7) = m' ((c.tc : Thread Cert.AdamSmallCRefIdeal.nD Cert.AdamSmallCRefIdeal.τ).loc Cert.AdamSmallCRefIdeal.main_arg7)
          ∧ r.2.mem ((c.tc : Thread Cert.AdamSmallCRefIdeal.nD Cert.AdamSmallCRefIdeal.τ).loc Cert.AdamSmallCRefIdeal.main_arg8) = m' ((c.tc : Thread Cert.AdamSmallCRefIdeal.nD Cert.AdamSmallCRefIdeal.τ).loc Cert.AdamSmallCRefIdeal.main_arg8)
          ∧ r.2.mem ((c.tc : Thread Cert.AdamSmallCRefIdeal.nD Cert.AdamSmallCRefIdeal.τ).loc Cert.AdamSmallCRefIdeal.main_arg9) = m' ((c.tc : Thread Cert.AdamSmallCRefIdeal.nD Cert.AdamSmallCRefIdeal.τ).loc Cert.AdamSmallCRefIdeal.main_arg9)
          ∧ r.2.mem ((c.tc : Thread Cert.AdamSmallCRefIdeal.nD Cert.AdamSmallCRefIdeal.τ).loc Cert.AdamSmallCRefIdeal.main_arg10) = m' ((c.tc : Thread Cert.AdamSmallCRefIdeal.nD Cert.AdamSmallCRefIdeal.τ).loc Cert.AdamSmallCRefIdeal.main_arg10)
          ∧ r.2.mem ((c.tc : Thread Cert.AdamSmallCRefIdeal.nD Cert.AdamSmallCRefIdeal.τ).loc Cert.AdamSmallCRefIdeal.main_arg11) = m' ((c.tc : Thread Cert.AdamSmallCRefIdeal.nD Cert.AdamSmallCRefIdeal.τ).loc Cert.AdamSmallCRefIdeal.main_arg11)
          ∧ r.2.mem ((c.tc : Thread Cert.AdamSmallCRefIdeal.nD Cert.AdamSmallCRefIdeal.τ).loc Cert.AdamSmallCRefIdeal.main_arg12) = m' ((c.tc : Thread Cert.AdamSmallCRefIdeal.nD Cert.AdamSmallCRefIdeal.τ).loc Cert.AdamSmallCRefIdeal.main_arg12)
          ∧ r.2.mem ((c.tc : Thread Cert.AdamSmallCRefIdeal.nD Cert.AdamSmallCRefIdeal.τ).loc Cert.AdamSmallCRefIdeal.main_arg13) = m' ((c.tc : Thread Cert.AdamSmallCRefIdeal.nD Cert.AdamSmallCRefIdeal.τ).loc Cert.AdamSmallCRefIdeal.main_arg13)
          ∧ r.2.mem ((c.tc : Thread Cert.AdamSmallCRefIdeal.nD Cert.AdamSmallCRefIdeal.τ).loc Cert.AdamSmallCRefIdeal.main_arg14) = m' ((c.tc : Thread Cert.AdamSmallCRefIdeal.nD Cert.AdamSmallCRefIdeal.τ).loc Cert.AdamSmallCRefIdeal.main_arg14)
          ∧ r.2.mem ((c.tc : Thread Cert.AdamSmallCRefIdeal.nD Cert.AdamSmallCRefIdeal.τ).loc Cert.AdamSmallCRefIdeal.main_arg15) = m' ((c.tc : Thread Cert.AdamSmallCRefIdeal.nD Cert.AdamSmallCRefIdeal.τ).loc Cert.AdamSmallCRefIdeal.main_arg15))

def preserves_AdamSmallD_AdamSmallDIdeal : Prop :=
  True

def algebraic_AdamSmallDIdeal_AdamSmallDRefIdeal [hAdamSmallDIdeal : Cert.AdamSmallDIdeal.Facts] [hAdamSmallDRefIdeal : Cert.AdamSmallDRefIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg)
    (m' : (ℓ : Loc Cert.AdamSmallDRefIdeal.nD Cert.AdamSmallDRefIdeal.τ Cert.AdamSmallDRefIdeal.sig) → Buf (Elt Ideal) ℓ) (g' : Dev Cert.AdamSmallDRefIdeal.nD → PrngReg), Pre_AdamSmallDIdeal m →
    (∀ c : Dev Cert.AdamSmallDIdeal.nD,
      m' ((c.tc : Thread Cert.AdamSmallDRefIdeal.nD Cert.AdamSmallDRefIdeal.τ).loc Cert.AdamSmallDRefIdeal.main_arg0) = m ((c.tc : Thread Cert.AdamSmallDIdeal.nD Cert.AdamSmallDIdeal.τ).loc Cert.AdamSmallDIdeal.main_arg0)
      ∧ m' ((c.tc : Thread Cert.AdamSmallDRefIdeal.nD Cert.AdamSmallDRefIdeal.τ).loc Cert.AdamSmallDRefIdeal.main_arg1) = m ((c.tc : Thread Cert.AdamSmallDIdeal.nD Cert.AdamSmallDIdeal.τ).loc Cert.AdamSmallDIdeal.main_arg1)
      ∧ m' ((c.tc : Thread Cert.AdamSmallDRefIdeal.nD Cert.AdamSmallDRefIdeal.τ).loc Cert.AdamSmallDRefIdeal.main_arg2) = m ((c.tc : Thread Cert.AdamSmallDIdeal.nD Cert.AdamSmallDIdeal.τ).loc Cert.AdamSmallDIdeal.main_arg2)
      ∧ m' ((c.tc : Thread Cert.AdamSmallDRefIdeal.nD Cert.AdamSmallDRefIdeal.τ).loc Cert.AdamSmallDRefIdeal.main_arg3) = m ((c.tc : Thread Cert.AdamSmallDIdeal.nD Cert.AdamSmallDIdeal.τ).loc Cert.AdamSmallDIdeal.main_arg3)
      ∧ m' ((c.tc : Thread Cert.AdamSmallDRefIdeal.nD Cert.AdamSmallDRefIdeal.τ).loc Cert.AdamSmallDRefIdeal.main_arg4) = m ((c.tc : Thread Cert.AdamSmallDIdeal.nD Cert.AdamSmallDIdeal.τ).loc Cert.AdamSmallDIdeal.main_arg4)
      ∧ m' ((c.tc : Thread Cert.AdamSmallDRefIdeal.nD Cert.AdamSmallDRefIdeal.τ).loc Cert.AdamSmallDRefIdeal.main_arg5) = m ((c.tc : Thread Cert.AdamSmallDIdeal.nD Cert.AdamSmallDIdeal.τ).loc Cert.AdamSmallDIdeal.main_arg5)
      ∧ m' ((c.tc : Thread Cert.AdamSmallDRefIdeal.nD Cert.AdamSmallDRefIdeal.τ).loc Cert.AdamSmallDRefIdeal.main_arg6) = m ((c.tc : Thread Cert.AdamSmallDIdeal.nD Cert.AdamSmallDIdeal.τ).loc Cert.AdamSmallDIdeal.main_arg6)
      ∧ m' ((c.tc : Thread Cert.AdamSmallDRefIdeal.nD Cert.AdamSmallDRefIdeal.τ).loc Cert.AdamSmallDRefIdeal.main_arg7) = m ((c.tc : Thread Cert.AdamSmallDIdeal.nD Cert.AdamSmallDIdeal.τ).loc Cert.AdamSmallDIdeal.main_arg7)
      ∧ m' ((c.tc : Thread Cert.AdamSmallDRefIdeal.nD Cert.AdamSmallDRefIdeal.τ).loc Cert.AdamSmallDRefIdeal.main_arg8) = m ((c.tc : Thread Cert.AdamSmallDIdeal.nD Cert.AdamSmallDIdeal.τ).loc Cert.AdamSmallDIdeal.main_arg8)
      ∧ m' ((c.tc : Thread Cert.AdamSmallDRefIdeal.nD Cert.AdamSmallDRefIdeal.τ).loc Cert.AdamSmallDRefIdeal.main_arg9) = m ((c.tc : Thread Cert.AdamSmallDIdeal.nD Cert.AdamSmallDIdeal.τ).loc Cert.AdamSmallDIdeal.main_arg9)
      ∧ m' ((c.tc : Thread Cert.AdamSmallDRefIdeal.nD Cert.AdamSmallDRefIdeal.τ).loc Cert.AdamSmallDRefIdeal.main_arg10) = m ((c.tc : Thread Cert.AdamSmallDIdeal.nD Cert.AdamSmallDIdeal.τ).loc Cert.AdamSmallDIdeal.main_arg10)
      ∧ m' ((c.tc : Thread Cert.AdamSmallDRefIdeal.nD Cert.AdamSmallDRefIdeal.τ).loc Cert.AdamSmallDRefIdeal.main_arg11) = m ((c.tc : Thread Cert.AdamSmallDIdeal.nD Cert.AdamSmallDIdeal.τ).loc Cert.AdamSmallDIdeal.main_arg11)
      ∧ m' ((c.tc : Thread Cert.AdamSmallDRefIdeal.nD Cert.AdamSmallDRefIdeal.τ).loc Cert.AdamSmallDRefIdeal.main_arg12) = m ((c.tc : Thread Cert.AdamSmallDIdeal.nD Cert.AdamSmallDIdeal.τ).loc Cert.AdamSmallDIdeal.main_arg12)
      ∧ m' ((c.tc : Thread Cert.AdamSmallDRefIdeal.nD Cert.AdamSmallDRefIdeal.τ).loc Cert.AdamSmallDRefIdeal.main_arg13) = m ((c.tc : Thread Cert.AdamSmallDIdeal.nD Cert.AdamSmallDIdeal.τ).loc Cert.AdamSmallDIdeal.main_arg13)
      ∧ m' ((c.tc : Thread Cert.AdamSmallDRefIdeal.nD Cert.AdamSmallDRefIdeal.τ).loc Cert.AdamSmallDRefIdeal.main_arg14) = m ((c.tc : Thread Cert.AdamSmallDIdeal.nD Cert.AdamSmallDIdeal.τ).loc Cert.AdamSmallDIdeal.main_arg14)
      ∧ m' ((c.tc : Thread Cert.AdamSmallDRefIdeal.nD Cert.AdamSmallDRefIdeal.τ).loc Cert.AdamSmallDRefIdeal.main_arg15) = m ((c.tc : Thread Cert.AdamSmallDIdeal.nD Cert.AdamSmallDIdeal.τ).loc Cert.AdamSmallDIdeal.main_arg15)) →
    ∃ (v0 : (c : Dev Cert.AdamSmallDIdeal.nD) → Buf (Elt Ideal) ((c.tc : Thread Cert.AdamSmallDIdeal.nD Cert.AdamSmallDIdeal.τ).loc Cert.AdamSmallDIdeal.main_v0_0)) (v1 : (c : Dev Cert.AdamSmallDIdeal.nD) → Buf (Elt Ideal) ((c.tc : Thread Cert.AdamSmallDIdeal.nD Cert.AdamSmallDIdeal.τ).loc Cert.AdamSmallDIdeal.main_v0_1)) (v2 : (c : Dev Cert.AdamSmallDIdeal.nD) → Buf (Elt Ideal) ((c.tc : Thread Cert.AdamSmallDIdeal.nD Cert.AdamSmallDIdeal.τ).loc Cert.AdamSmallDIdeal.main_v0_2)) (v3 : (c : Dev Cert.AdamSmallDIdeal.nD) → Buf (Elt Ideal) ((c.tc : Thread Cert.AdamSmallDIdeal.nD Cert.AdamSmallDIdeal.τ).loc Cert.AdamSmallDIdeal.main_v0_3)) (v4 : (c : Dev Cert.AdamSmallDIdeal.nD) → Buf (Elt Ideal) ((c.tc : Thread Cert.AdamSmallDIdeal.nD Cert.AdamSmallDIdeal.τ).loc Cert.AdamSmallDIdeal.main_v0_4)) (v5 : (c : Dev Cert.AdamSmallDIdeal.nD) → Buf (Elt Ideal) ((c.tc : Thread Cert.AdamSmallDIdeal.nD Cert.AdamSmallDIdeal.τ).loc Cert.AdamSmallDIdeal.main_v0_5)) (v6 : (c : Dev Cert.AdamSmallDIdeal.nD) → Buf (Elt Ideal) ((c.tc : Thread Cert.AdamSmallDIdeal.nD Cert.AdamSmallDIdeal.τ).loc Cert.AdamSmallDIdeal.main_v0_6)) (v7 : (c : Dev Cert.AdamSmallDIdeal.nD) → Buf (Elt Ideal) ((c.tc : Thread Cert.AdamSmallDIdeal.nD Cert.AdamSmallDIdeal.τ).loc Cert.AdamSmallDIdeal.main_v0_7)) (v8 : (c : Dev Cert.AdamSmallDIdeal.nD) → Buf (Elt Ideal) ((c.tc : Thread Cert.AdamSmallDIdeal.nD Cert.AdamSmallDIdeal.τ).loc Cert.AdamSmallDIdeal.main_v0_8)) (v9 : (c : Dev Cert.AdamSmallDIdeal.nD) → Buf (Elt Ideal) ((c.tc : Thread Cert.AdamSmallDIdeal.nD Cert.AdamSmallDIdeal.τ).loc Cert.AdamSmallDIdeal.main_v0_9)) (v10 : (c : Dev Cert.AdamSmallDIdeal.nD) → Buf (Elt Ideal) ((c.tc : Thread Cert.AdamSmallDIdeal.nD Cert.AdamSmallDIdeal.τ).loc Cert.AdamSmallDIdeal.main_v0_10)) (v11 : (c : Dev Cert.AdamSmallDIdeal.nD) → Buf (Elt Ideal) ((c.tc : Thread Cert.AdamSmallDIdeal.nD Cert.AdamSmallDIdeal.τ).loc Cert.AdamSmallDIdeal.main_v0_11)),
      θ_run (Cert.AdamSmallDIdeal.defs (F := Ideal)) (onTc (τ := Cert.AdamSmallDIdeal.τ) (Cert.AdamSmallDIdeal.main (F := Ideal))) ⟨m, fun _ => 0, g⟩ (fun r => ∀ c : Dev Cert.AdamSmallDIdeal.nD,
          r.2.mem ((c.tc : Thread Cert.AdamSmallDIdeal.nD Cert.AdamSmallDIdeal.τ).loc Cert.AdamSmallDIdeal.main_v0_0) = v0 c
          ∧ r.2.mem ((c.tc : Thread Cert.AdamSmallDIdeal.nD Cert.AdamSmallDIdeal.τ).loc Cert.AdamSmallDIdeal.main_v0_1) = v1 c
          ∧ r.2.mem ((c.tc : Thread Cert.AdamSmallDIdeal.nD Cert.AdamSmallDIdeal.τ).loc Cert.AdamSmallDIdeal.main_v0_2) = v2 c
          ∧ r.2.mem ((c.tc : Thread Cert.AdamSmallDIdeal.nD Cert.AdamSmallDIdeal.τ).loc Cert.AdamSmallDIdeal.main_v0_3) = v3 c
          ∧ r.2.mem ((c.tc : Thread Cert.AdamSmallDIdeal.nD Cert.AdamSmallDIdeal.τ).loc Cert.AdamSmallDIdeal.main_v0_4) = v4 c
          ∧ r.2.mem ((c.tc : Thread Cert.AdamSmallDIdeal.nD Cert.AdamSmallDIdeal.τ).loc Cert.AdamSmallDIdeal.main_v0_5) = v5 c
          ∧ r.2.mem ((c.tc : Thread Cert.AdamSmallDIdeal.nD Cert.AdamSmallDIdeal.τ).loc Cert.AdamSmallDIdeal.main_v0_6) = v6 c
          ∧ r.2.mem ((c.tc : Thread Cert.AdamSmallDIdeal.nD Cert.AdamSmallDIdeal.τ).loc Cert.AdamSmallDIdeal.main_v0_7) = v7 c
          ∧ r.2.mem ((c.tc : Thread Cert.AdamSmallDIdeal.nD Cert.AdamSmallDIdeal.τ).loc Cert.AdamSmallDIdeal.main_v0_8) = v8 c
          ∧ r.2.mem ((c.tc : Thread Cert.AdamSmallDIdeal.nD Cert.AdamSmallDIdeal.τ).loc Cert.AdamSmallDIdeal.main_v0_9) = v9 c
          ∧ r.2.mem ((c.tc : Thread Cert.AdamSmallDIdeal.nD Cert.AdamSmallDIdeal.τ).loc Cert.AdamSmallDIdeal.main_v0_10) = v10 c
          ∧ r.2.mem ((c.tc : Thread Cert.AdamSmallDIdeal.nD Cert.AdamSmallDIdeal.τ).loc Cert.AdamSmallDIdeal.main_v0_11) = v11 c
          ∧ r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
          ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
          ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
          ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
          ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
          ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
          ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
          ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
          ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
          ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
          ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
          ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11)
          ∧ r.2.mem ((c.tc : Thread Cert.AdamSmallDIdeal.nD Cert.AdamSmallDIdeal.τ).loc Cert.AdamSmallDIdeal.main_arg12) = m ((c.tc : Thread Cert.AdamSmallDIdeal.nD Cert.AdamSmallDIdeal.τ).loc Cert.AdamSmallDIdeal.main_arg12)
          ∧ r.2.mem ((c.tc : Thread Cert.AdamSmallDIdeal.nD Cert.AdamSmallDIdeal.τ).loc Cert.AdamSmallDIdeal.main_arg13) = m ((c.tc : Thread Cert.AdamSmallDIdeal.nD Cert.AdamSmallDIdeal.τ).loc Cert.AdamSmallDIdeal.main_arg13)
          ∧ r.2.mem ((c.tc : Thread Cert.AdamSmallDIdeal.nD Cert.AdamSmallDIdeal.τ).loc Cert.AdamSmallDIdeal.main_arg14) = m ((c.tc : Thread Cert.AdamSmallDIdeal.nD Cert.AdamSmallDIdeal.τ).loc Cert.AdamSmallDIdeal.main_arg14)
          ∧ r.2.mem ((c.tc : Thread Cert.AdamSmallDIdeal.nD Cert.AdamSmallDIdeal.τ).loc Cert.AdamSmallDIdeal.main_arg15) = m ((c.tc : Thread Cert.AdamSmallDIdeal.nD Cert.AdamSmallDIdeal.τ).loc Cert.AdamSmallDIdeal.main_arg15))
      ∧ θ_run (Cert.AdamSmallDRefIdeal.defs (F := Ideal)) (onTc (τ := Cert.AdamSmallDRefIdeal.τ) (Cert.AdamSmallDRefIdeal.main (F := Ideal))) ⟨m', fun _ => 0, g'⟩ (fun r => ∀ c : Dev Cert.AdamSmallDRefIdeal.nD,
          r.2.mem ((c.tc : Thread Cert.AdamSmallDRefIdeal.nD Cert.AdamSmallDRefIdeal.τ).loc Cert.AdamSmallDRefIdeal.main_v23) = v0 c
          ∧ r.2.mem ((c.tc : Thread Cert.AdamSmallDRefIdeal.nD Cert.AdamSmallDRefIdeal.τ).loc Cert.AdamSmallDRefIdeal.main_v47) = v1 c
          ∧ r.2.mem ((c.tc : Thread Cert.AdamSmallDRefIdeal.nD Cert.AdamSmallDRefIdeal.τ).loc Cert.AdamSmallDRefIdeal.main_v71) = v2 c
          ∧ r.2.mem ((c.tc : Thread Cert.AdamSmallDRefIdeal.nD Cert.AdamSmallDRefIdeal.τ).loc Cert.AdamSmallDRefIdeal.main_v95) = v3 c
          ∧ r.2.mem ((c.tc : Thread Cert.AdamSmallDRefIdeal.nD Cert.AdamSmallDRefIdeal.τ).loc Cert.AdamSmallDRefIdeal.main_v4) = v4 c
          ∧ r.2.mem ((c.tc : Thread Cert.AdamSmallDRefIdeal.nD Cert.AdamSmallDRefIdeal.τ).loc Cert.AdamSmallDRefIdeal.main_v28) = v5 c
          ∧ r.2.mem ((c.tc : Thread Cert.AdamSmallDRefIdeal.nD Cert.AdamSmallDRefIdeal.τ).loc Cert.AdamSmallDRefIdeal.main_v52) = v6 c
          ∧ r.2.mem ((c.tc : Thread Cert.AdamSmallDRefIdeal.nD Cert.AdamSmallDRefIdeal.τ).loc Cert.AdamSmallDRefIdeal.main_v76) = v7 c
          ∧ r.2.mem ((c.tc : Thread Cert.AdamSmallDRefIdeal.nD Cert.AdamSmallDRefIdeal.τ).loc Cert.AdamSmallDRefIdeal.main_v10) = v8 c
          ∧ r.2.mem ((c.tc : Thread Cert.AdamSmallDRefIdeal.nD Cert.AdamSmallDRefIdeal.τ).loc Cert.AdamSmallDRefIdeal.main_v34) = v9 c
          ∧ r.2.mem ((c.tc : Thread Cert.AdamSmallDRefIdeal.nD Cert.AdamSmallDRefIdeal.τ).loc Cert.AdamSmallDRefIdeal.main_v58) = v10 c
          ∧ r.2.mem ((c.tc : Thread Cert.AdamSmallDRefIdeal.nD Cert.AdamSmallDRefIdeal.τ).loc Cert.AdamSmallDRefIdeal.main_v82) = v11 c
          ∧ r.2.mem ((c.tc : Thread Cert.AdamSmallDRefIdeal.nD Cert.AdamSmallDRefIdeal.τ).loc Cert.AdamSmallDRefIdeal.main_arg0) = m' ((c.tc : Thread Cert.AdamSmallDRefIdeal.nD Cert.AdamSmallDRefIdeal.τ).loc Cert.AdamSmallDRefIdeal.main_arg0)
          ∧ r.2.mem ((c.tc : Thread Cert.AdamSmallDRefIdeal.nD Cert.AdamSmallDRefIdeal.τ).loc Cert.AdamSmallDRefIdeal.main_arg1) = m' ((c.tc : Thread Cert.AdamSmallDRefIdeal.nD Cert.AdamSmallDRefIdeal.τ).loc Cert.AdamSmallDRefIdeal.main_arg1)
          ∧ r.2.mem ((c.tc : Thread Cert.AdamSmallDRefIdeal.nD Cert.AdamSmallDRefIdeal.τ).loc Cert.AdamSmallDRefIdeal.main_arg2) = m' ((c.tc : Thread Cert.AdamSmallDRefIdeal.nD Cert.AdamSmallDRefIdeal.τ).loc Cert.AdamSmallDRefIdeal.main_arg2)
          ∧ r.2.mem ((c.tc : Thread Cert.AdamSmallDRefIdeal.nD Cert.AdamSmallDRefIdeal.τ).loc Cert.AdamSmallDRefIdeal.main_arg3) = m' ((c.tc : Thread Cert.AdamSmallDRefIdeal.nD Cert.AdamSmallDRefIdeal.τ).loc Cert.AdamSmallDRefIdeal.main_arg3)
          ∧ r.2.mem ((c.tc : Thread Cert.AdamSmallDRefIdeal.nD Cert.AdamSmallDRefIdeal.τ).loc Cert.AdamSmallDRefIdeal.main_arg4) = m' ((c.tc : Thread Cert.AdamSmallDRefIdeal.nD Cert.AdamSmallDRefIdeal.τ).loc Cert.AdamSmallDRefIdeal.main_arg4)
          ∧ r.2.mem ((c.tc : Thread Cert.AdamSmallDRefIdeal.nD Cert.AdamSmallDRefIdeal.τ).loc Cert.AdamSmallDRefIdeal.main_arg5) = m' ((c.tc : Thread Cert.AdamSmallDRefIdeal.nD Cert.AdamSmallDRefIdeal.τ).loc Cert.AdamSmallDRefIdeal.main_arg5)
          ∧ r.2.mem ((c.tc : Thread Cert.AdamSmallDRefIdeal.nD Cert.AdamSmallDRefIdeal.τ).loc Cert.AdamSmallDRefIdeal.main_arg6) = m' ((c.tc : Thread Cert.AdamSmallDRefIdeal.nD Cert.AdamSmallDRefIdeal.τ).loc Cert.AdamSmallDRefIdeal.main_arg6)
          ∧ r.2.mem ((c.tc : Thread Cert.AdamSmallDRefIdeal.nD Cert.AdamSmallDRefIdeal.τ).loc Cert.AdamSmallDRefIdeal.main_arg7) = m' ((c.tc : Thread Cert.AdamSmallDRefIdeal.nD Cert.AdamSmallDRefIdeal.τ).loc Cert.AdamSmallDRefIdeal.main_arg7)
          ∧ r.2.mem ((c.tc : Thread Cert.AdamSmallDRefIdeal.nD Cert.AdamSmallDRefIdeal.τ).loc Cert.AdamSmallDRefIdeal.main_arg8) = m' ((c.tc : Thread Cert.AdamSmallDRefIdeal.nD Cert.AdamSmallDRefIdeal.τ).loc Cert.AdamSmallDRefIdeal.main_arg8)
          ∧ r.2.mem ((c.tc : Thread Cert.AdamSmallDRefIdeal.nD Cert.AdamSmallDRefIdeal.τ).loc Cert.AdamSmallDRefIdeal.main_arg9) = m' ((c.tc : Thread Cert.AdamSmallDRefIdeal.nD Cert.AdamSmallDRefIdeal.τ).loc Cert.AdamSmallDRefIdeal.main_arg9)
          ∧ r.2.mem ((c.tc : Thread Cert.AdamSmallDRefIdeal.nD Cert.AdamSmallDRefIdeal.τ).loc Cert.AdamSmallDRefIdeal.main_arg10) = m' ((c.tc : Thread Cert.AdamSmallDRefIdeal.nD Cert.AdamSmallDRefIdeal.τ).loc Cert.AdamSmallDRefIdeal.main_arg10)
          ∧ r.2.mem ((c.tc : Thread Cert.AdamSmallDRefIdeal.nD Cert.AdamSmallDRefIdeal.τ).loc Cert.AdamSmallDRefIdeal.main_arg11) = m' ((c.tc : Thread Cert.AdamSmallDRefIdeal.nD Cert.AdamSmallDRefIdeal.τ).loc Cert.AdamSmallDRefIdeal.main_arg11)
          ∧ r.2.mem ((c.tc : Thread Cert.AdamSmallDRefIdeal.nD Cert.AdamSmallDRefIdeal.τ).loc Cert.AdamSmallDRefIdeal.main_arg12) = m' ((c.tc : Thread Cert.AdamSmallDRefIdeal.nD Cert.AdamSmallDRefIdeal.τ).loc Cert.AdamSmallDRefIdeal.main_arg12)
          ∧ r.2.mem ((c.tc : Thread Cert.AdamSmallDRefIdeal.nD Cert.AdamSmallDRefIdeal.τ).loc Cert.AdamSmallDRefIdeal.main_arg13) = m' ((c.tc : Thread Cert.AdamSmallDRefIdeal.nD Cert.AdamSmallDRefIdeal.τ).loc Cert.AdamSmallDRefIdeal.main_arg13)
          ∧ r.2.mem ((c.tc : Thread Cert.AdamSmallDRefIdeal.nD Cert.AdamSmallDRefIdeal.τ).loc Cert.AdamSmallDRefIdeal.main_arg14) = m' ((c.tc : Thread Cert.AdamSmallDRefIdeal.nD Cert.AdamSmallDRefIdeal.τ).loc Cert.AdamSmallDRefIdeal.main_arg14)
          ∧ r.2.mem ((c.tc : Thread Cert.AdamSmallDRefIdeal.nD Cert.AdamSmallDRefIdeal.τ).loc Cert.AdamSmallDRefIdeal.main_arg15) = m' ((c.tc : Thread Cert.AdamSmallDRefIdeal.nD Cert.AdamSmallDRefIdeal.τ).loc Cert.AdamSmallDRefIdeal.main_arg15))

def preserves_FfnBwd_FfnBwdIdeal : Prop :=
  True

def algebraic_FfnBwdIdeal_FfnBwdRefIdeal_pre_value_finite [hFfnBwdIdeal : Cert.FfnBwdIdeal.Facts] [hFfnBwdRefIdeal : Cert.FfnBwdRefIdeal.Facts] [hPre_value_finite : Cert.Pre_value_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_value_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v79) = v0 c
          ∧ r.2.mem ((c.tc : Thread Cert.FfnBwdRefIdeal.nD Cert.FfnBwdRefIdeal.τ).loc Cert.FfnBwdRefIdeal.main_v81) = v1 c
          ∧ r.2.mem ((c.tc : Thread Cert.FfnBwdRefIdeal.nD Cert.FfnBwdRefIdeal.τ).loc Cert.FfnBwdRefIdeal.main_v84) = v2 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3))

def preserves_DnPreBwd_DnPreBwdIdeal : Prop :=
  True

def algebraic_DnPreBwdIdeal_DnPreBwdRefIdeal_pre_given_finite [hDnPreBwdIdeal : Cert.DnPreBwdIdeal.Facts] [hDnPreBwdRefIdeal : Cert.DnPreBwdRefIdeal.Facts] [hPre_given_finite : Cert.Pre_given_finite.Facts] : Prop :=
  ∀ (m : (ℓ : Loc Cert.DnPreBwdIdeal.nD Cert.DnPreBwdIdeal.τ Cert.DnPreBwdIdeal.sig) → Buf (Elt Ideal) ℓ) (g : Dev Cert.DnPreBwdIdeal.nD → PrngReg)
    (m' : (ℓ : Loc Cert.DnPreBwdRefIdeal.nD Cert.DnPreBwdRefIdeal.τ Cert.DnPreBwdRefIdeal.sig) → Buf (Elt Ideal) ℓ) (g' : Dev Cert.DnPreBwdRefIdeal.nD → PrngReg), Pre_DnPreBwdIdeal_given_finite m →
    (∀ c : Dev Cert.DnPreBwdIdeal.nD,
      m' ((c.tc : Thread Cert.DnPreBwdRefIdeal.nD Cert.DnPreBwdRefIdeal.τ).loc Cert.DnPreBwdRefIdeal.main_arg0) = m ((c.tc : Thread Cert.DnPreBwdIdeal.nD Cert.DnPreBwdIdeal.τ).loc Cert.DnPreBwdIdeal.main_arg0)
      ∧ m' ((c.tc : Thread Cert.DnPreBwdRefIdeal.nD Cert.DnPreBwdRefIdeal.τ).loc Cert.DnPreBwdRefIdeal.main_arg1) = m ((c.tc : Thread Cert.DnPreBwdIdeal.nD Cert.DnPreBwdIdeal.τ).loc Cert.DnPreBwdIdeal.main_arg1)
      ∧ m' ((c.tc : Thread Cert.DnPreBwdRefIdeal.nD Cert.DnPreBwdRefIdeal.τ).loc Cert.DnPreBwdRefIdeal.main_arg2) = m ((c.tc : Thread Cert.DnPreBwdIdeal.nD Cert.DnPreBwdIdeal.τ).loc Cert.DnPreBwdIdeal.main_arg2)
      ∧ m' ((c.tc : Thread Cert.DnPreBwdRefIdeal.nD Cert.DnPreBwdRefIdeal.τ).loc Cert.DnPreBwdRefIdeal.main_arg3) = m ((c.tc : Thread Cert.DnPreBwdIdeal.nD Cert.DnPreBwdIdeal.τ).loc Cert.DnPreBwdIdeal.main_arg3)) →
    ∃ (v0 : (c : Dev Cert.DnPreBwdIdeal.nD) → Buf (Elt Ideal) ((c.tc : Thread Cert.DnPreBwdIdeal.nD Cert.DnPreBwdIdeal.τ).loc Cert.DnPreBwdIdeal.main_v0_0)) (v1 : (c : Dev Cert.DnPreBwdIdeal.nD) → Buf (Elt Ideal) ((c.tc : Thread Cert.DnPreBwdIdeal.nD Cert.DnPreBwdIdeal.τ).loc Cert.DnPreBwdIdeal.main_v0_1)),
      θ_run (Cert.DnPreBwdIdeal.defs (F := Ideal)) (onTc (τ := Cert.DnPreBwdIdeal.τ) (Cert.DnPreBwdIdeal.main (F := Ideal))) ⟨m, fun _ => 0, g⟩ (fun r => ∀ c : Dev Cert.DnPreBwdIdeal.nD,
          r.2.mem ((c.tc : Thread Cert.DnPreBwdIdeal.nD Cert.DnPreBwdIdeal.τ).loc Cert.DnPreBwdIdeal.main_v0_0) = v0 c
          ∧ r.2.mem ((c.tc : Thread Cert.DnPreBwdIdeal.nD Cert.DnPreBwdIdeal.τ).loc Cert.DnPreBwdIdeal.main_v0_1) = v1 c
          ∧ r.2.mem ((c.tc : Thread Cert.DnPreBwdIdeal.nD Cert.DnPreBwdIdeal.τ).loc Cert.DnPreBwdIdeal.main_arg0) = m ((c.tc : Thread Cert.DnPreBwdIdeal.nD Cert.DnPreBwdIdeal.τ).loc Cert.DnPreBwdIdeal.main_arg0)
          ∧ r.2.mem ((c.tc : Thread Cert.DnPreBwdIdeal.nD Cert.DnPreBwdIdeal.τ).loc Cert.DnPreBwdIdeal.main_arg1) = m ((c.tc : Thread Cert.DnPreBwdIdeal.nD Cert.DnPreBwdIdeal.τ).loc Cert.DnPreBwdIdeal.main_arg1)
          ∧ r.2.mem ((c.tc : Thread Cert.DnPreBwdIdeal.nD Cert.DnPreBwdIdeal.τ).loc Cert.DnPreBwdIdeal.main_arg2) = m ((c.tc : Thread Cert.DnPreBwdIdeal.nD Cert.DnPreBwdIdeal.τ).loc Cert.DnPreBwdIdeal.main_arg2)
          ∧ r.2.mem ((c.tc : Thread Cert.DnPreBwdIdeal.nD Cert.DnPreBwdIdeal.τ).loc Cert.DnPreBwdIdeal.main_arg3) = m ((c.tc : Thread Cert.DnPreBwdIdeal.nD Cert.DnPreBwdIdeal.τ).loc Cert.DnPreBwdIdeal.main_arg3))
      ∧ θ_run (Cert.DnPreBwdRefIdeal.defs (F := Ideal)) (onTc (τ := Cert.DnPreBwdRefIdeal.τ) (Cert.DnPreBwdRefIdeal.main (F := Ideal))) ⟨m', fun _ => 0, g'⟩ (fun r => ∀ c : Dev Cert.DnPreBwdRefIdeal.nD,
          r.2.mem ((c.tc : Thread Cert.DnPreBwdRefIdeal.nD Cert.DnPreBwdRefIdeal.τ).loc Cert.DnPreBwdRefIdeal.main_v95) = v0 c
          ∧ r.2.mem ((c.tc : Thread Cert.DnPreBwdRefIdeal.nD Cert.DnPreBwdRefIdeal.τ).loc Cert.DnPreBwdRefIdeal.main_v81) = v1 c
          ∧ r.2.mem ((c.tc : Thread Cert.DnPreBwdRefIdeal.nD Cert.DnPreBwdRefIdeal.τ).loc Cert.DnPreBwdRefIdeal.main_arg0) = m' ((c.tc : Thread Cert.DnPreBwdRefIdeal.nD Cert.DnPreBwdRefIdeal.τ).loc Cert.DnPreBwdRefIdeal.main_arg0)
          ∧ r.2.mem ((c.tc : Thread Cert.DnPreBwdRefIdeal.nD Cert.DnPreBwdRefIdeal.τ).loc Cert.DnPreBwdRefIdeal.main_arg1) = m' ((c.tc : Thread Cert.DnPreBwdRefIdeal.nD Cert.DnPreBwdRefIdeal.τ).loc Cert.DnPreBwdRefIdeal.main_arg1)
          ∧ r.2.mem ((c.tc : Thread Cert.DnPreBwdRefIdeal.nD Cert.DnPreBwdRefIdeal.τ).loc Cert.DnPreBwdRefIdeal.main_arg2) = m' ((c.tc : Thread Cert.DnPreBwdRefIdeal.nD Cert.DnPreBwdRefIdeal.τ).loc Cert.DnPreBwdRefIdeal.main_arg2)
          ∧ r.2.mem ((c.tc : Thread Cert.DnPreBwdRefIdeal.nD Cert.DnPreBwdRefIdeal.τ).loc Cert.DnPreBwdRefIdeal.main_arg3) = m' ((c.tc : Thread Cert.DnPreBwdRefIdeal.nD Cert.DnPreBwdRefIdeal.τ).loc Cert.DnPreBwdRefIdeal.main_arg3))

def preserves_PairAddWUp_PairAddWUpIdeal : Prop :=
  True

def algebraic_PairAddWUpIdeal_PairAddWUpRefIdeal [hPairAddWUpIdeal : Cert.PairAddWUpIdeal.Facts] [hPairAddWUpRefIdeal : Cert.PairAddWUpRefIdeal.Facts] [hPre_a_core_w_up : Cert.Pre_a_core_w_up.Facts] : Prop :=
  ∀ (m : (ℓ : Loc Cert.PairAddWUpIdeal.nD Cert.PairAddWUpIdeal.τ Cert.PairAddWUpIdeal.sig) → Buf (Elt Ideal) ℓ) (g : Dev Cert.PairAddWUpIdeal.nD → PrngReg)
    (m' : (ℓ : Loc Cert.PairAddWUpRefIdeal.nD Cert.PairAddWUpRefIdeal.τ Cert.PairAddWUpRefIdeal.sig) → Buf (Elt Ideal) ℓ) (g' : Dev Cert.PairAddWUpRefIdeal.nD → PrngReg), Pre_PairAddWUpIdeal m →
    (∀ c : Dev Cert.PairAddWUpIdeal.nD,
      m' ((c.tc : Thread Cert.PairAddWUpRefIdeal.nD Cert.PairAddWUpRefIdeal.τ).loc Cert.PairAddWUpRefIdeal.main_arg0) = m ((c.tc : Thread Cert.PairAddWUpIdeal.nD Cert.PairAddWUpIdeal.τ).loc Cert.PairAddWUpIdeal.main_arg0)
      ∧ m' ((c.tc : Thread Cert.PairAddWUpRefIdeal.nD Cert.PairAddWUpRefIdeal.τ).loc Cert.PairAddWUpRefIdeal.main_arg1) = m ((c.tc : Thread Cert.PairAddWUpIdeal.nD Cert.PairAddWUpIdeal.τ).loc Cert.PairAddWUpIdeal.main_arg1)
      ∧ m' ((c.tc : Thread Cert.PairAddWUpRefIdeal.nD Cert.PairAddWUpRefIdeal.τ).loc Cert.PairAddWUpRefIdeal.main_arg2) = m ((c.tc : Thread Cert.PairAddWUpIdeal.nD Cert.PairAddWUpIdeal.τ).loc Cert.PairAddWUpIdeal.main_arg2)) →
    ∃ (v0 : (c : Dev Cert.PairAddWUpIdeal.nD) → Buf (Elt Ideal) ((c.tc : Thread Cert.PairAddWUpIdeal.nD Cert.PairAddWUpIdeal.τ).loc Cert.PairAddWUpIdeal.main_v1)),
      θ_run (Cert.PairAddWUpIdeal.defs (F := Ideal)) (onTc (τ := Cert.PairAddWUpIdeal.τ) (Cert.PairAddWUpIdeal.main (F := Ideal))) ⟨m, fun _ => 0, g⟩ (fun r => ∀ c : Dev Cert.PairAddWUpIdeal.nD,
          r.2.mem ((c.tc : Thread Cert.PairAddWUpIdeal.nD Cert.PairAddWUpIdeal.τ).loc Cert.PairAddWUpIdeal.main_v1) = v0 c
          ∧ r.2.mem ((c.tc : Thread Cert.PairAddWUpIdeal.nD Cert.PairAddWUpIdeal.τ).loc Cert.PairAddWUpIdeal.main_arg0) = m ((c.tc : Thread Cert.PairAddWUpIdeal.nD Cert.PairAddWUpIdeal.τ).loc Cert.PairAddWUpIdeal.main_arg0)
          ∧ r.2.mem ((c.tc : Thread Cert.PairAddWUpIdeal.nD Cert.PairAddWUpIdeal.τ).loc Cert.PairAddWUpIdeal.main_arg1) = m ((c.tc : Thread Cert.PairAddWUpIdeal.nD Cert.PairAddWUpIdeal.τ).loc Cert.PairAddWUpIdeal.main_arg1)
          ∧ r.2.mem ((c.tc : Thread Cert.PairAddWUpIdeal.nD Cert.PairAddWUpIdeal.τ).loc Cert.PairAddWUpIdeal.main_arg2) = m ((c.tc : Thread Cert.PairAddWUpIdeal.nD Cert.PairAddWUpIdeal.τ).loc Cert.PairAddWUpIdeal.main_arg2))
      ∧ θ_run (Cert.PairAddWUpRefIdeal.defs (F := Ideal)) (onTc (τ := Cert.PairAddWUpRefIdeal.τ) (Cert.PairAddWUpRefIdeal.main (F := Ideal))) ⟨m', fun _ => 0, g'⟩ (fun r => ∀ c : Dev Cert.PairAddWUpRefIdeal.nD,
          r.2.mem ((c.tc : Thread Cert.PairAddWUpRefIdeal.nD Cert.PairAddWUpRefIdeal.τ).loc Cert.PairAddWUpRefIdeal.main_v7) = v0 c
          ∧ r.2.mem ((c.tc : Thread Cert.PairAddWUpRefIdeal.nD Cert.PairAddWUpRefIdeal.τ).loc Cert.PairAddWUpRefIdeal.main_arg0) = m' ((c.tc : Thread Cert.PairAddWUpRefIdeal.nD Cert.PairAddWUpRefIdeal.τ).loc Cert.PairAddWUpRefIdeal.main_arg0)
          ∧ r.2.mem ((c.tc : Thread Cert.PairAddWUpRefIdeal.nD Cert.PairAddWUpRefIdeal.τ).loc Cert.PairAddWUpRefIdeal.main_arg1) = m' ((c.tc : Thread Cert.PairAddWUpRefIdeal.nD Cert.PairAddWUpRefIdeal.τ).loc Cert.PairAddWUpRefIdeal.main_arg1)
          ∧ r.2.mem ((c.tc : Thread Cert.PairAddWUpRefIdeal.nD Cert.PairAddWUpRefIdeal.τ).loc Cert.PairAddWUpRefIdeal.main_arg2) = m' ((c.tc : Thread Cert.PairAddWUpRefIdeal.nD Cert.PairAddWUpRefIdeal.τ).loc Cert.PairAddWUpRefIdeal.main_arg2))

def preserves_PairAddWDown_PairAddWDownIdeal : Prop :=
  True

def algebraic_PairAddWDownIdeal_PairAddWDownRefIdeal [hPairAddWDownIdeal : Cert.PairAddWDownIdeal.Facts] [hPairAddWDownRefIdeal : Cert.PairAddWDownRefIdeal.Facts] [hPre_a_core_w_down : Cert.Pre_a_core_w_down.Facts] : Prop :=
  ∀ (m : (ℓ : Loc Cert.PairAddWDownIdeal.nD Cert.PairAddWDownIdeal.τ Cert.PairAddWDownIdeal.sig) → Buf (Elt Ideal) ℓ) (g : Dev Cert.PairAddWDownIdeal.nD → PrngReg)
    (m' : (ℓ : Loc Cert.PairAddWDownRefIdeal.nD Cert.PairAddWDownRefIdeal.τ Cert.PairAddWDownRefIdeal.sig) → Buf (Elt Ideal) ℓ) (g' : Dev Cert.PairAddWDownRefIdeal.nD → PrngReg), Pre_PairAddWDownIdeal m →
    (∀ c : Dev Cert.PairAddWDownIdeal.nD,
      m' ((c.tc : Thread Cert.PairAddWDownRefIdeal.nD Cert.PairAddWDownRefIdeal.τ).loc Cert.PairAddWDownRefIdeal.main_arg0) = m ((c.tc : Thread Cert.PairAddWDownIdeal.nD Cert.PairAddWDownIdeal.τ).loc Cert.PairAddWDownIdeal.main_arg0)
      ∧ m' ((c.tc : Thread Cert.PairAddWDownRefIdeal.nD Cert.PairAddWDownRefIdeal.τ).loc Cert.PairAddWDownRefIdeal.main_arg1) = m ((c.tc : Thread Cert.PairAddWDownIdeal.nD Cert.PairAddWDownIdeal.τ).loc Cert.PairAddWDownIdeal.main_arg1)
      ∧ m' ((c.tc : Thread Cert.PairAddWDownRefIdeal.nD Cert.PairAddWDownRefIdeal.τ).loc Cert.PairAddWDownRefIdeal.main_arg2) = m ((c.tc : Thread Cert.PairAddWDownIdeal.nD Cert.PairAddWDownIdeal.τ).loc Cert.PairAddWDownIdeal.main_arg2)) →
    ∃ (v0 : (c : Dev Cert.PairAddWDownIdeal.nD) → Buf (Elt Ideal) ((c.tc : Thread Cert.PairAddWDownIdeal.nD Cert.PairAddWDownIdeal.τ).loc Cert.PairAddWDownIdeal.main_v1)),
      θ_run (Cert.PairAddWDownIdeal.defs (F := Ideal)) (onTc (τ := Cert.PairAddWDownIdeal.τ) (Cert.PairAddWDownIdeal.main (F := Ideal))) ⟨m, fun _ => 0, g⟩ (fun r => ∀ c : Dev Cert.PairAddWDownIdeal.nD,
          r.2.mem ((c.tc : Thread Cert.PairAddWDownIdeal.nD Cert.PairAddWDownIdeal.τ).loc Cert.PairAddWDownIdeal.main_v1) = v0 c
          ∧ r.2.mem ((c.tc : Thread Cert.PairAddWDownIdeal.nD Cert.PairAddWDownIdeal.τ).loc Cert.PairAddWDownIdeal.main_arg0) = m ((c.tc : Thread Cert.PairAddWDownIdeal.nD Cert.PairAddWDownIdeal.τ).loc Cert.PairAddWDownIdeal.main_arg0)
          ∧ r.2.mem ((c.tc : Thread Cert.PairAddWDownIdeal.nD Cert.PairAddWDownIdeal.τ).loc Cert.PairAddWDownIdeal.main_arg1) = m ((c.tc : Thread Cert.PairAddWDownIdeal.nD Cert.PairAddWDownIdeal.τ).loc Cert.PairAddWDownIdeal.main_arg1)
          ∧ r.2.mem ((c.tc : Thread Cert.PairAddWDownIdeal.nD Cert.PairAddWDownIdeal.τ).loc Cert.PairAddWDownIdeal.main_arg2) = m ((c.tc : Thread Cert.PairAddWDownIdeal.nD Cert.PairAddWDownIdeal.τ).loc Cert.PairAddWDownIdeal.main_arg2))
      ∧ θ_run (Cert.PairAddWDownRefIdeal.defs (F := Ideal)) (onTc (τ := Cert.PairAddWDownRefIdeal.τ) (Cert.PairAddWDownRefIdeal.main (F := Ideal))) ⟨m', fun _ => 0, g'⟩ (fun r => ∀ c : Dev Cert.PairAddWDownRefIdeal.nD,
          r.2.mem ((c.tc : Thread Cert.PairAddWDownRefIdeal.nD Cert.PairAddWDownRefIdeal.τ).loc Cert.PairAddWDownRefIdeal.main_v7) = v0 c
          ∧ r.2.mem ((c.tc : Thread Cert.PairAddWDownRefIdeal.nD Cert.PairAddWDownRefIdeal.τ).loc Cert.PairAddWDownRefIdeal.main_arg0) = m' ((c.tc : Thread Cert.PairAddWDownRefIdeal.nD Cert.PairAddWDownRefIdeal.τ).loc Cert.PairAddWDownRefIdeal.main_arg0)
          ∧ r.2.mem ((c.tc : Thread Cert.PairAddWDownRefIdeal.nD Cert.PairAddWDownRefIdeal.τ).loc Cert.PairAddWDownRefIdeal.main_arg1) = m' ((c.tc : Thread Cert.PairAddWDownRefIdeal.nD Cert.PairAddWDownRefIdeal.τ).loc Cert.PairAddWDownRefIdeal.main_arg1)
          ∧ r.2.mem ((c.tc : Thread Cert.PairAddWDownRefIdeal.nD Cert.PairAddWDownRefIdeal.τ).loc Cert.PairAddWDownRefIdeal.main_arg2) = m' ((c.tc : Thread Cert.PairAddWDownRefIdeal.nD Cert.PairAddWDownRefIdeal.τ).loc Cert.PairAddWDownRefIdeal.main_arg2))

def preserves_PairAddWO_PairAddWOIdeal : Prop :=
  True

def algebraic_PairAddWOIdeal_PairAddWORefIdeal [hPairAddWOIdeal : Cert.PairAddWOIdeal.Facts] [hPairAddWORefIdeal : Cert.PairAddWORefIdeal.Facts] [hPre_a_core_w_o : Cert.Pre_a_core_w_o.Facts] : Prop :=
  ∀ (m : (ℓ : Loc Cert.PairAddWOIdeal.nD Cert.PairAddWOIdeal.τ Cert.PairAddWOIdeal.sig) → Buf (Elt Ideal) ℓ) (g : Dev Cert.PairAddWOIdeal.nD → PrngReg)
    (m' : (ℓ : Loc Cert.PairAddWORefIdeal.nD Cert.PairAddWORefIdeal.τ Cert.PairAddWORefIdeal.sig) → Buf (Elt Ideal) ℓ) (g' : Dev Cert.PairAddWORefIdeal.nD → PrngReg), Pre_PairAddWOIdeal m →
    (∀ c : Dev Cert.PairAddWOIdeal.nD,
      m' ((c.tc : Thread Cert.PairAddWORefIdeal.nD Cert.PairAddWORefIdeal.τ).loc Cert.PairAddWORefIdeal.main_arg0) = m ((c.tc : Thread Cert.PairAddWOIdeal.nD Cert.PairAddWOIdeal.τ).loc Cert.PairAddWOIdeal.main_arg0)
      ∧ m' ((c.tc : Thread Cert.PairAddWORefIdeal.nD Cert.PairAddWORefIdeal.τ).loc Cert.PairAddWORefIdeal.main_arg1) = m ((c.tc : Thread Cert.PairAddWOIdeal.nD Cert.PairAddWOIdeal.τ).loc Cert.PairAddWOIdeal.main_arg1)
      ∧ m' ((c.tc : Thread Cert.PairAddWORefIdeal.nD Cert.PairAddWORefIdeal.τ).loc Cert.PairAddWORefIdeal.main_arg2) = m ((c.tc : Thread Cert.PairAddWOIdeal.nD Cert.PairAddWOIdeal.τ).loc Cert.PairAddWOIdeal.main_arg2)) →
    ∃ (v0 : (c : Dev Cert.PairAddWOIdeal.nD) → Buf (Elt Ideal) ((c.tc : Thread Cert.PairAddWOIdeal.nD Cert.PairAddWOIdeal.τ).loc Cert.PairAddWOIdeal.main_v1)),
      θ_run (Cert.PairAddWOIdeal.defs (F := Ideal)) (onTc (τ := Cert.PairAddWOIdeal.τ) (Cert.PairAddWOIdeal.main (F := Ideal))) ⟨m, fun _ => 0, g⟩ (fun r => ∀ c : Dev Cert.PairAddWOIdeal.nD,
          r.2.mem ((c.tc : Thread Cert.PairAddWOIdeal.nD Cert.PairAddWOIdeal.τ).loc Cert.PairAddWOIdeal.main_v1) = v0 c
          ∧ r.2.mem ((c.tc : Thread Cert.PairAddWOIdeal.nD Cert.PairAddWOIdeal.τ).loc Cert.PairAddWOIdeal.main_arg0) = m ((c.tc : Thread Cert.PairAddWOIdeal.nD Cert.PairAddWOIdeal.τ).loc Cert.PairAddWOIdeal.main_arg0)
          ∧ r.2.mem ((c.tc : Thread Cert.PairAddWOIdeal.nD Cert.PairAddWOIdeal.τ).loc Cert.PairAddWOIdeal.main_arg1) = m ((c.tc : Thread Cert.PairAddWOIdeal.nD Cert.PairAddWOIdeal.τ).loc Cert.PairAddWOIdeal.main_arg1)
          ∧ r.2.mem ((c.tc : Thread Cert.PairAddWOIdeal.nD Cert.PairAddWOIdeal.τ).loc Cert.PairAddWOIdeal.main_arg2) = m ((c.tc : Thread Cert.PairAddWOIdeal.nD Cert.PairAddWOIdeal.τ).loc Cert.PairAddWOIdeal.main_arg2))
      ∧ θ_run (Cert.PairAddWORefIdeal.defs (F := Ideal)) (onTc (τ := Cert.PairAddWORefIdeal.τ) (Cert.PairAddWORefIdeal.main (F := Ideal))) ⟨m', fun _ => 0, g'⟩ (fun r => ∀ c : Dev Cert.PairAddWORefIdeal.nD,
          r.2.mem ((c.tc : Thread Cert.PairAddWORefIdeal.nD Cert.PairAddWORefIdeal.τ).loc Cert.PairAddWORefIdeal.main_v7) = v0 c
          ∧ r.2.mem ((c.tc : Thread Cert.PairAddWORefIdeal.nD Cert.PairAddWORefIdeal.τ).loc Cert.PairAddWORefIdeal.main_arg0) = m' ((c.tc : Thread Cert.PairAddWORefIdeal.nD Cert.PairAddWORefIdeal.τ).loc Cert.PairAddWORefIdeal.main_arg0)
          ∧ r.2.mem ((c.tc : Thread Cert.PairAddWORefIdeal.nD Cert.PairAddWORefIdeal.τ).loc Cert.PairAddWORefIdeal.main_arg1) = m' ((c.tc : Thread Cert.PairAddWORefIdeal.nD Cert.PairAddWORefIdeal.τ).loc Cert.PairAddWORefIdeal.main_arg1)
          ∧ r.2.mem ((c.tc : Thread Cert.PairAddWORefIdeal.nD Cert.PairAddWORefIdeal.τ).loc Cert.PairAddWORefIdeal.main_arg2) = m' ((c.tc : Thread Cert.PairAddWORefIdeal.nD Cert.PairAddWORefIdeal.τ).loc Cert.PairAddWORefIdeal.main_arg2))

def preserves_PairAddWIn_PairAddWInIdeal : Prop :=
  True

def algebraic_PairAddWInIdeal_PairAddWInRefIdeal [hPairAddWInIdeal : Cert.PairAddWInIdeal.Facts] [hPairAddWInRefIdeal : Cert.PairAddWInRefIdeal.Facts] [hPre_a_core_w_in : Cert.Pre_a_core_w_in.Facts] : Prop :=
  ∀ (m : (ℓ : Loc Cert.PairAddWInIdeal.nD Cert.PairAddWInIdeal.τ Cert.PairAddWInIdeal.sig) → Buf (Elt Ideal) ℓ) (g : Dev Cert.PairAddWInIdeal.nD → PrngReg)
    (m' : (ℓ : Loc Cert.PairAddWInRefIdeal.nD Cert.PairAddWInRefIdeal.τ Cert.PairAddWInRefIdeal.sig) → Buf (Elt Ideal) ℓ) (g' : Dev Cert.PairAddWInRefIdeal.nD → PrngReg), Pre_PairAddWInIdeal m →
    (∀ c : Dev Cert.PairAddWInIdeal.nD,
      m' ((c.tc : Thread Cert.PairAddWInRefIdeal.nD Cert.PairAddWInRefIdeal.τ).loc Cert.PairAddWInRefIdeal.main_arg0) = m ((c.tc : Thread Cert.PairAddWInIdeal.nD Cert.PairAddWInIdeal.τ).loc Cert.PairAddWInIdeal.main_arg0)
      ∧ m' ((c.tc : Thread Cert.PairAddWInRefIdeal.nD Cert.PairAddWInRefIdeal.τ).loc Cert.PairAddWInRefIdeal.main_arg1) = m ((c.tc : Thread Cert.PairAddWInIdeal.nD Cert.PairAddWInIdeal.τ).loc Cert.PairAddWInIdeal.main_arg1)
      ∧ m' ((c.tc : Thread Cert.PairAddWInRefIdeal.nD Cert.PairAddWInRefIdeal.τ).loc Cert.PairAddWInRefIdeal.main_arg2) = m ((c.tc : Thread Cert.PairAddWInIdeal.nD Cert.PairAddWInIdeal.τ).loc Cert.PairAddWInIdeal.main_arg2)) →
    ∃ (v0 : (c : Dev Cert.PairAddWInIdeal.nD) → Buf (Elt Ideal) ((c.tc : Thread Cert.PairAddWInIdeal.nD Cert.PairAddWInIdeal.τ).loc Cert.PairAddWInIdeal.main_v1)),
      θ_run (Cert.PairAddWInIdeal.defs (F := Ideal)) (onTc (τ := Cert.PairAddWInIdeal.τ) (Cert.PairAddWInIdeal.main (F := Ideal))) ⟨m, fun _ => 0, g⟩ (fun r => ∀ c : Dev Cert.PairAddWInIdeal.nD,
          r.2.mem ((c.tc : Thread Cert.PairAddWInIdeal.nD Cert.PairAddWInIdeal.τ).loc Cert.PairAddWInIdeal.main_v1) = v0 c
          ∧ r.2.mem ((c.tc : Thread Cert.PairAddWInIdeal.nD Cert.PairAddWInIdeal.τ).loc Cert.PairAddWInIdeal.main_arg0) = m ((c.tc : Thread Cert.PairAddWInIdeal.nD Cert.PairAddWInIdeal.τ).loc Cert.PairAddWInIdeal.main_arg0)
          ∧ r.2.mem ((c.tc : Thread Cert.PairAddWInIdeal.nD Cert.PairAddWInIdeal.τ).loc Cert.PairAddWInIdeal.main_arg1) = m ((c.tc : Thread Cert.PairAddWInIdeal.nD Cert.PairAddWInIdeal.τ).loc Cert.PairAddWInIdeal.main_arg1)
          ∧ r.2.mem ((c.tc : Thread Cert.PairAddWInIdeal.nD Cert.PairAddWInIdeal.τ).loc Cert.PairAddWInIdeal.main_arg2) = m ((c.tc : Thread Cert.PairAddWInIdeal.nD Cert.PairAddWInIdeal.τ).loc Cert.PairAddWInIdeal.main_arg2))
      ∧ θ_run (Cert.PairAddWInRefIdeal.defs (F := Ideal)) (onTc (τ := Cert.PairAddWInRefIdeal.τ) (Cert.PairAddWInRefIdeal.main (F := Ideal))) ⟨m', fun _ => 0, g'⟩ (fun r => ∀ c : Dev Cert.PairAddWInRefIdeal.nD,
          r.2.mem ((c.tc : Thread Cert.PairAddWInRefIdeal.nD Cert.PairAddWInRefIdeal.τ).loc Cert.PairAddWInRefIdeal.main_v7) = v0 c
          ∧ r.2.mem ((c.tc : Thread Cert.PairAddWInRefIdeal.nD Cert.PairAddWInRefIdeal.τ).loc Cert.PairAddWInRefIdeal.main_arg0) = m' ((c.tc : Thread Cert.PairAddWInRefIdeal.nD Cert.PairAddWInRefIdeal.τ).loc Cert.PairAddWInRefIdeal.main_arg0)
          ∧ r.2.mem ((c.tc : Thread Cert.PairAddWInRefIdeal.nD Cert.PairAddWInRefIdeal.τ).loc Cert.PairAddWInRefIdeal.main_arg1) = m' ((c.tc : Thread Cert.PairAddWInRefIdeal.nD Cert.PairAddWInRefIdeal.τ).loc Cert.PairAddWInRefIdeal.main_arg1)
          ∧ r.2.mem ((c.tc : Thread Cert.PairAddWInRefIdeal.nD Cert.PairAddWInRefIdeal.τ).loc Cert.PairAddWInRefIdeal.main_arg2) = m' ((c.tc : Thread Cert.PairAddWInRefIdeal.nD Cert.PairAddWInRefIdeal.τ).loc Cert.PairAddWInRefIdeal.main_arg2))

def preserves_PlaceOwnWUp_PlaceOwnWUpIdeal : Prop :=
  True

def algebraic_PlaceOwnWUpIdeal_PlaceOwnWUpRefIdeal [hPlaceOwnWUpIdeal : Cert.PlaceOwnWUpIdeal.Facts] [hPlaceOwnWUpRefIdeal : Cert.PlaceOwnWUpRefIdeal.Facts] [hPre_a_chip_w_up : Cert.Pre_a_chip_w_up.Facts] : Prop :=
  ∀ (m : (ℓ : Loc Cert.PlaceOwnWUpIdeal.nD Cert.PlaceOwnWUpIdeal.τ Cert.PlaceOwnWUpIdeal.sig) → Buf (Elt Ideal) ℓ) (g : Dev Cert.PlaceOwnWUpIdeal.nD → PrngReg)
    (m' : (ℓ : Loc Cert.PlaceOwnWUpRefIdeal.nD Cert.PlaceOwnWUpRefIdeal.τ Cert.PlaceOwnWUpRefIdeal.sig) → Buf (Elt Ideal) ℓ) (g' : Dev Cert.PlaceOwnWUpRefIdeal.nD → PrngReg), Pre_PlaceOwnWUpIdeal m →
    (∀ c : Dev Cert.PlaceOwnWUpIdeal.nD,
      m' ((c.tc : Thread Cert.PlaceOwnWUpRefIdeal.nD Cert.PlaceOwnWUpRefIdeal.τ).loc Cert.PlaceOwnWUpRefIdeal.main_arg0) = m ((c.tc : Thread Cert.PlaceOwnWUpIdeal.nD Cert.PlaceOwnWUpIdeal.τ).loc Cert.PlaceOwnWUpIdeal.main_arg0)
      ∧ m' ((c.tc : Thread Cert.PlaceOwnWUpRefIdeal.nD Cert.PlaceOwnWUpRefIdeal.τ).loc Cert.PlaceOwnWUpRefIdeal.main_arg1) = m ((c.tc : Thread Cert.PlaceOwnWUpIdeal.nD Cert.PlaceOwnWUpIdeal.τ).loc Cert.PlaceOwnWUpIdeal.main_arg1)
      ∧ m' ((c.tc : Thread Cert.PlaceOwnWUpRefIdeal.nD Cert.PlaceOwnWUpRefIdeal.τ).loc Cert.PlaceOwnWUpRefIdeal.main_arg2) = m ((c.tc : Thread Cert.PlaceOwnWUpIdeal.nD Cert.PlaceOwnWUpIdeal.τ).loc Cert.PlaceOwnWUpIdeal.main_arg2)) →
    ∃ (v0 : (c : Dev Cert.PlaceOwnWUpIdeal.nD) → Buf (Elt Ideal) ((c.tc : Thread Cert.PlaceOwnWUpIdeal.nD Cert.PlaceOwnWUpIdeal.τ).loc Cert.PlaceOwnWUpIdeal.main_v1)),
      θ_run (Cert.PlaceOwnWUpIdeal.defs (F := Ideal)) (onTc (τ := Cert.PlaceOwnWUpIdeal.τ) (Cert.PlaceOwnWUpIdeal.main (F := Ideal))) ⟨m, fun _ => 0, g⟩ (fun r => ∀ c : Dev Cert.PlaceOwnWUpIdeal.nD,
          r.2.mem ((c.tc : Thread Cert.PlaceOwnWUpIdeal.nD Cert.PlaceOwnWUpIdeal.τ).loc Cert.PlaceOwnWUpIdeal.main_v1) = v0 c
          ∧ r.2.mem ((c.tc : Thread Cert.PlaceOwnWUpIdeal.nD Cert.PlaceOwnWUpIdeal.τ).loc Cert.PlaceOwnWUpIdeal.main_arg0) = m ((c.tc : Thread Cert.PlaceOwnWUpIdeal.nD Cert.PlaceOwnWUpIdeal.τ).loc Cert.PlaceOwnWUpIdeal.main_arg0)
          ∧ r.2.mem ((c.tc : Thread Cert.PlaceOwnWUpIdeal.nD Cert.PlaceOwnWUpIdeal.τ).loc Cert.PlaceOwnWUpIdeal.main_arg1) = m ((c.tc : Thread Cert.PlaceOwnWUpIdeal.nD Cert.PlaceOwnWUpIdeal.τ).loc Cert.PlaceOwnWUpIdeal.main_arg1)
          ∧ r.2.mem ((c.tc : Thread Cert.PlaceOwnWUpIdeal.nD Cert.PlaceOwnWUpIdeal.τ).loc Cert.PlaceOwnWUpIdeal.main_arg2) = m ((c.tc : Thread Cert.PlaceOwnWUpIdeal.nD Cert.PlaceOwnWUpIdeal.τ).loc Cert.PlaceOwnWUpIdeal.main_arg2))
      ∧ θ_run (Cert.PlaceOwnWUpRefIdeal.defs (F := Ideal)) (onTc (τ := Cert.PlaceOwnWUpRefIdeal.τ) (Cert.PlaceOwnWUpRefIdeal.main (F := Ideal))) ⟨m', fun _ => 0, g'⟩ (fun r => ∀ c : Dev Cert.PlaceOwnWUpRefIdeal.nD,
          r.2.mem ((c.tc : Thread Cert.PlaceOwnWUpRefIdeal.nD Cert.PlaceOwnWUpRefIdeal.τ).loc Cert.PlaceOwnWUpRefIdeal.main_v4) = v0 c
          ∧ r.2.mem ((c.tc : Thread Cert.PlaceOwnWUpRefIdeal.nD Cert.PlaceOwnWUpRefIdeal.τ).loc Cert.PlaceOwnWUpRefIdeal.main_arg0) = m' ((c.tc : Thread Cert.PlaceOwnWUpRefIdeal.nD Cert.PlaceOwnWUpRefIdeal.τ).loc Cert.PlaceOwnWUpRefIdeal.main_arg0)
          ∧ r.2.mem ((c.tc : Thread Cert.PlaceOwnWUpRefIdeal.nD Cert.PlaceOwnWUpRefIdeal.τ).loc Cert.PlaceOwnWUpRefIdeal.main_arg1) = m' ((c.tc : Thread Cert.PlaceOwnWUpRefIdeal.nD Cert.PlaceOwnWUpRefIdeal.τ).loc Cert.PlaceOwnWUpRefIdeal.main_arg1)
          ∧ r.2.mem ((c.tc : Thread Cert.PlaceOwnWUpRefIdeal.nD Cert.PlaceOwnWUpRefIdeal.τ).loc Cert.PlaceOwnWUpRefIdeal.main_arg2) = m' ((c.tc : Thread Cert.PlaceOwnWUpRefIdeal.nD Cert.PlaceOwnWUpRefIdeal.τ).loc Cert.PlaceOwnWUpRefIdeal.main_arg2))

def preserves_PlaceOwnWDown_PlaceOwnWDownIdeal : Prop :=
  True

def algebraic_PlaceOwnWDownIdeal_PlaceOwnWDownRefIdeal [hPlaceOwnWDownIdeal : Cert.PlaceOwnWDownIdeal.Facts] [hPlaceOwnWDownRefIdeal : Cert.PlaceOwnWDownRefIdeal.Facts] [hPre_a_chip_w_down : Cert.Pre_a_chip_w_down.Facts] : Prop :=
  ∀ (m : (ℓ : Loc Cert.PlaceOwnWDownIdeal.nD Cert.PlaceOwnWDownIdeal.τ Cert.PlaceOwnWDownIdeal.sig) → Buf (Elt Ideal) ℓ) (g : Dev Cert.PlaceOwnWDownIdeal.nD → PrngReg)
    (m' : (ℓ : Loc Cert.PlaceOwnWDownRefIdeal.nD Cert.PlaceOwnWDownRefIdeal.τ Cert.PlaceOwnWDownRefIdeal.sig) → Buf (Elt Ideal) ℓ) (g' : Dev Cert.PlaceOwnWDownRefIdeal.nD → PrngReg), Pre_PlaceOwnWDownIdeal m →
    (∀ c : Dev Cert.PlaceOwnWDownIdeal.nD,
      m' ((c.tc : Thread Cert.PlaceOwnWDownRefIdeal.nD Cert.PlaceOwnWDownRefIdeal.τ).loc Cert.PlaceOwnWDownRefIdeal.main_arg0) = m ((c.tc : Thread Cert.PlaceOwnWDownIdeal.nD Cert.PlaceOwnWDownIdeal.τ).loc Cert.PlaceOwnWDownIdeal.main_arg0)
      ∧ m' ((c.tc : Thread Cert.PlaceOwnWDownRefIdeal.nD Cert.PlaceOwnWDownRefIdeal.τ).loc Cert.PlaceOwnWDownRefIdeal.main_arg1) = m ((c.tc : Thread Cert.PlaceOwnWDownIdeal.nD Cert.PlaceOwnWDownIdeal.τ).loc Cert.PlaceOwnWDownIdeal.main_arg1)
      ∧ m' ((c.tc : Thread Cert.PlaceOwnWDownRefIdeal.nD Cert.PlaceOwnWDownRefIdeal.τ).loc Cert.PlaceOwnWDownRefIdeal.main_arg2) = m ((c.tc : Thread Cert.PlaceOwnWDownIdeal.nD Cert.PlaceOwnWDownIdeal.τ).loc Cert.PlaceOwnWDownIdeal.main_arg2)) →
    ∃ (v0 : (c : Dev Cert.PlaceOwnWDownIdeal.nD) → Buf (Elt Ideal) ((c.tc : Thread Cert.PlaceOwnWDownIdeal.nD Cert.PlaceOwnWDownIdeal.τ).loc Cert.PlaceOwnWDownIdeal.main_v1)),
      θ_run (Cert.PlaceOwnWDownIdeal.defs (F := Ideal)) (onTc (τ := Cert.PlaceOwnWDownIdeal.τ) (Cert.PlaceOwnWDownIdeal.main (F := Ideal))) ⟨m, fun _ => 0, g⟩ (fun r => ∀ c : Dev Cert.PlaceOwnWDownIdeal.nD,
          r.2.mem ((c.tc : Thread Cert.PlaceOwnWDownIdeal.nD Cert.PlaceOwnWDownIdeal.τ).loc Cert.PlaceOwnWDownIdeal.main_v1) = v0 c
          ∧ r.2.mem ((c.tc : Thread Cert.PlaceOwnWDownIdeal.nD Cert.PlaceOwnWDownIdeal.τ).loc Cert.PlaceOwnWDownIdeal.main_arg0) = m ((c.tc : Thread Cert.PlaceOwnWDownIdeal.nD Cert.PlaceOwnWDownIdeal.τ).loc Cert.PlaceOwnWDownIdeal.main_arg0)
          ∧ r.2.mem ((c.tc : Thread Cert.PlaceOwnWDownIdeal.nD Cert.PlaceOwnWDownIdeal.τ).loc Cert.PlaceOwnWDownIdeal.main_arg1) = m ((c.tc : Thread Cert.PlaceOwnWDownIdeal.nD Cert.PlaceOwnWDownIdeal.τ).loc Cert.PlaceOwnWDownIdeal.main_arg1)
          ∧ r.2.mem ((c.tc : Thread Cert.PlaceOwnWDownIdeal.nD Cert.PlaceOwnWDownIdeal.τ).loc Cert.PlaceOwnWDownIdeal.main_arg2) = m ((c.tc : Thread Cert.PlaceOwnWDownIdeal.nD Cert.PlaceOwnWDownIdeal.τ).loc Cert.PlaceOwnWDownIdeal.main_arg2))
      ∧ θ_run (Cert.PlaceOwnWDownRefIdeal.defs (F := Ideal)) (onTc (τ := Cert.PlaceOwnWDownRefIdeal.τ) (Cert.PlaceOwnWDownRefIdeal.main (F := Ideal))) ⟨m', fun _ => 0, g'⟩ (fun r => ∀ c : Dev Cert.PlaceOwnWDownRefIdeal.nD,
          r.2.mem ((c.tc : Thread Cert.PlaceOwnWDownRefIdeal.nD Cert.PlaceOwnWDownRefIdeal.τ).loc Cert.PlaceOwnWDownRefIdeal.main_v4) = v0 c
          ∧ r.2.mem ((c.tc : Thread Cert.PlaceOwnWDownRefIdeal.nD Cert.PlaceOwnWDownRefIdeal.τ).loc Cert.PlaceOwnWDownRefIdeal.main_arg0) = m' ((c.tc : Thread Cert.PlaceOwnWDownRefIdeal.nD Cert.PlaceOwnWDownRefIdeal.τ).loc Cert.PlaceOwnWDownRefIdeal.main_arg0)
          ∧ r.2.mem ((c.tc : Thread Cert.PlaceOwnWDownRefIdeal.nD Cert.PlaceOwnWDownRefIdeal.τ).loc Cert.PlaceOwnWDownRefIdeal.main_arg1) = m' ((c.tc : Thread Cert.PlaceOwnWDownRefIdeal.nD Cert.PlaceOwnWDownRefIdeal.τ).loc Cert.PlaceOwnWDownRefIdeal.main_arg1)
          ∧ r.2.mem ((c.tc : Thread Cert.PlaceOwnWDownRefIdeal.nD Cert.PlaceOwnWDownRefIdeal.τ).loc Cert.PlaceOwnWDownRefIdeal.main_arg2) = m' ((c.tc : Thread Cert.PlaceOwnWDownRefIdeal.nD Cert.PlaceOwnWDownRefIdeal.τ).loc Cert.PlaceOwnWDownRefIdeal.main_arg2))

def preserves_PlaceOwnWO_PlaceOwnWOIdeal : Prop :=
  True

def algebraic_PlaceOwnWOIdeal_PlaceOwnWORefIdeal [hPlaceOwnWOIdeal : Cert.PlaceOwnWOIdeal.Facts] [hPlaceOwnWORefIdeal : Cert.PlaceOwnWORefIdeal.Facts] [hPre_a_chip_w_o : Cert.Pre_a_chip_w_o.Facts] : Prop :=
  ∀ (m : (ℓ : Loc Cert.PlaceOwnWOIdeal.nD Cert.PlaceOwnWOIdeal.τ Cert.PlaceOwnWOIdeal.sig) → Buf (Elt Ideal) ℓ) (g : Dev Cert.PlaceOwnWOIdeal.nD → PrngReg)
    (m' : (ℓ : Loc Cert.PlaceOwnWORefIdeal.nD Cert.PlaceOwnWORefIdeal.τ Cert.PlaceOwnWORefIdeal.sig) → Buf (Elt Ideal) ℓ) (g' : Dev Cert.PlaceOwnWORefIdeal.nD → PrngReg), Pre_PlaceOwnWOIdeal m →
    (∀ c : Dev Cert.PlaceOwnWOIdeal.nD,
      m' ((c.tc : Thread Cert.PlaceOwnWORefIdeal.nD Cert.PlaceOwnWORefIdeal.τ).loc Cert.PlaceOwnWORefIdeal.main_arg0) = m ((c.tc : Thread Cert.PlaceOwnWOIdeal.nD Cert.PlaceOwnWOIdeal.τ).loc Cert.PlaceOwnWOIdeal.main_arg0)
      ∧ m' ((c.tc : Thread Cert.PlaceOwnWORefIdeal.nD Cert.PlaceOwnWORefIdeal.τ).loc Cert.PlaceOwnWORefIdeal.main_arg1) = m ((c.tc : Thread Cert.PlaceOwnWOIdeal.nD Cert.PlaceOwnWOIdeal.τ).loc Cert.PlaceOwnWOIdeal.main_arg1)
      ∧ m' ((c.tc : Thread Cert.PlaceOwnWORefIdeal.nD Cert.PlaceOwnWORefIdeal.τ).loc Cert.PlaceOwnWORefIdeal.main_arg2) = m ((c.tc : Thread Cert.PlaceOwnWOIdeal.nD Cert.PlaceOwnWOIdeal.τ).loc Cert.PlaceOwnWOIdeal.main_arg2)) →
    ∃ (v0 : (c : Dev Cert.PlaceOwnWOIdeal.nD) → Buf (Elt Ideal) ((c.tc : Thread Cert.PlaceOwnWOIdeal.nD Cert.PlaceOwnWOIdeal.τ).loc Cert.PlaceOwnWOIdeal.main_v1)),
      θ_run (Cert.PlaceOwnWOIdeal.defs (F := Ideal)) (onTc (τ := Cert.PlaceOwnWOIdeal.τ) (Cert.PlaceOwnWOIdeal.main (F := Ideal))) ⟨m, fun _ => 0, g⟩ (fun r => ∀ c : Dev Cert.PlaceOwnWOIdeal.nD,
          r.2.mem ((c.tc : Thread Cert.PlaceOwnWOIdeal.nD Cert.PlaceOwnWOIdeal.τ).loc Cert.PlaceOwnWOIdeal.main_v1) = v0 c
          ∧ r.2.mem ((c.tc : Thread Cert.PlaceOwnWOIdeal.nD Cert.PlaceOwnWOIdeal.τ).loc Cert.PlaceOwnWOIdeal.main_arg0) = m ((c.tc : Thread Cert.PlaceOwnWOIdeal.nD Cert.PlaceOwnWOIdeal.τ).loc Cert.PlaceOwnWOIdeal.main_arg0)
          ∧ r.2.mem ((c.tc : Thread Cert.PlaceOwnWOIdeal.nD Cert.PlaceOwnWOIdeal.τ).loc Cert.PlaceOwnWOIdeal.main_arg1) = m ((c.tc : Thread Cert.PlaceOwnWOIdeal.nD Cert.PlaceOwnWOIdeal.τ).loc Cert.PlaceOwnWOIdeal.main_arg1)
          ∧ r.2.mem ((c.tc : Thread Cert.PlaceOwnWOIdeal.nD Cert.PlaceOwnWOIdeal.τ).loc Cert.PlaceOwnWOIdeal.main_arg2) = m ((c.tc : Thread Cert.PlaceOwnWOIdeal.nD Cert.PlaceOwnWOIdeal.τ).loc Cert.PlaceOwnWOIdeal.main_arg2))
      ∧ θ_run (Cert.PlaceOwnWORefIdeal.defs (F := Ideal)) (onTc (τ := Cert.PlaceOwnWORefIdeal.τ) (Cert.PlaceOwnWORefIdeal.main (F := Ideal))) ⟨m', fun _ => 0, g'⟩ (fun r => ∀ c : Dev Cert.PlaceOwnWORefIdeal.nD,
          r.2.mem ((c.tc : Thread Cert.PlaceOwnWORefIdeal.nD Cert.PlaceOwnWORefIdeal.τ).loc Cert.PlaceOwnWORefIdeal.main_v4) = v0 c
          ∧ r.2.mem ((c.tc : Thread Cert.PlaceOwnWORefIdeal.nD Cert.PlaceOwnWORefIdeal.τ).loc Cert.PlaceOwnWORefIdeal.main_arg0) = m' ((c.tc : Thread Cert.PlaceOwnWORefIdeal.nD Cert.PlaceOwnWORefIdeal.τ).loc Cert.PlaceOwnWORefIdeal.main_arg0)
          ∧ r.2.mem ((c.tc : Thread Cert.PlaceOwnWORefIdeal.nD Cert.PlaceOwnWORefIdeal.τ).loc Cert.PlaceOwnWORefIdeal.main_arg1) = m' ((c.tc : Thread Cert.PlaceOwnWORefIdeal.nD Cert.PlaceOwnWORefIdeal.τ).loc Cert.PlaceOwnWORefIdeal.main_arg1)
          ∧ r.2.mem ((c.tc : Thread Cert.PlaceOwnWORefIdeal.nD Cert.PlaceOwnWORefIdeal.τ).loc Cert.PlaceOwnWORefIdeal.main_arg2) = m' ((c.tc : Thread Cert.PlaceOwnWORefIdeal.nD Cert.PlaceOwnWORefIdeal.τ).loc Cert.PlaceOwnWORefIdeal.main_arg2))

def preserves_PlaceOwnWIn_PlaceOwnWInIdeal : Prop :=
  True

def algebraic_PlaceOwnWInIdeal_PlaceOwnWInRefIdeal [hPlaceOwnWInIdeal : Cert.PlaceOwnWInIdeal.Facts] [hPlaceOwnWInRefIdeal : Cert.PlaceOwnWInRefIdeal.Facts] [hPre_a_chip_w_in : Cert.Pre_a_chip_w_in.Facts] : Prop :=
  ∀ (m : (ℓ : Loc Cert.PlaceOwnWInIdeal.nD Cert.PlaceOwnWInIdeal.τ Cert.PlaceOwnWInIdeal.sig) → Buf (Elt Ideal) ℓ) (g : Dev Cert.PlaceOwnWInIdeal.nD → PrngReg)
    (m' : (ℓ : Loc Cert.PlaceOwnWInRefIdeal.nD Cert.PlaceOwnWInRefIdeal.τ Cert.PlaceOwnWInRefIdeal.sig) → Buf (Elt Ideal) ℓ) (g' : Dev Cert.PlaceOwnWInRefIdeal.nD → PrngReg), Pre_PlaceOwnWInIdeal m →
    (∀ c : Dev Cert.PlaceOwnWInIdeal.nD,
      m' ((c.tc : Thread Cert.PlaceOwnWInRefIdeal.nD Cert.PlaceOwnWInRefIdeal.τ).loc Cert.PlaceOwnWInRefIdeal.main_arg0) = m ((c.tc : Thread Cert.PlaceOwnWInIdeal.nD Cert.PlaceOwnWInIdeal.τ).loc Cert.PlaceOwnWInIdeal.main_arg0)
      ∧ m' ((c.tc : Thread Cert.PlaceOwnWInRefIdeal.nD Cert.PlaceOwnWInRefIdeal.τ).loc Cert.PlaceOwnWInRefIdeal.main_arg1) = m ((c.tc : Thread Cert.PlaceOwnWInIdeal.nD Cert.PlaceOwnWInIdeal.τ).loc Cert.PlaceOwnWInIdeal.main_arg1)
      ∧ m' ((c.tc : Thread Cert.PlaceOwnWInRefIdeal.nD Cert.PlaceOwnWInRefIdeal.τ).loc Cert.PlaceOwnWInRefIdeal.main_arg2) = m ((c.tc : Thread Cert.PlaceOwnWInIdeal.nD Cert.PlaceOwnWInIdeal.τ).loc Cert.PlaceOwnWInIdeal.main_arg2)) →
    ∃ (v0 : (c : Dev Cert.PlaceOwnWInIdeal.nD) → Buf (Elt Ideal) ((c.tc : Thread Cert.PlaceOwnWInIdeal.nD Cert.PlaceOwnWInIdeal.τ).loc Cert.PlaceOwnWInIdeal.main_v1)),
      θ_run (Cert.PlaceOwnWInIdeal.defs (F := Ideal)) (onTc (τ := Cert.PlaceOwnWInIdeal.τ) (Cert.PlaceOwnWInIdeal.main (F := Ideal))) ⟨m, fun _ => 0, g⟩ (fun r => ∀ c : Dev Cert.PlaceOwnWInIdeal.nD,
          r.2.mem ((c.tc : Thread Cert.PlaceOwnWInIdeal.nD Cert.PlaceOwnWInIdeal.τ).loc Cert.PlaceOwnWInIdeal.main_v1) = v0 c
          ∧ r.2.mem ((c.tc : Thread Cert.PlaceOwnWInIdeal.nD Cert.PlaceOwnWInIdeal.τ).loc Cert.PlaceOwnWInIdeal.main_arg0) = m ((c.tc : Thread Cert.PlaceOwnWInIdeal.nD Cert.PlaceOwnWInIdeal.τ).loc Cert.PlaceOwnWInIdeal.main_arg0)
          ∧ r.2.mem ((c.tc : Thread Cert.PlaceOwnWInIdeal.nD Cert.PlaceOwnWInIdeal.τ).loc Cert.PlaceOwnWInIdeal.main_arg1) = m ((c.tc : Thread Cert.PlaceOwnWInIdeal.nD Cert.PlaceOwnWInIdeal.τ).loc Cert.PlaceOwnWInIdeal.main_arg1)
          ∧ r.2.mem ((c.tc : Thread Cert.PlaceOwnWInIdeal.nD Cert.PlaceOwnWInIdeal.τ).loc Cert.PlaceOwnWInIdeal.main_arg2) = m ((c.tc : Thread Cert.PlaceOwnWInIdeal.nD Cert.PlaceOwnWInIdeal.τ).loc Cert.PlaceOwnWInIdeal.main_arg2))
      ∧ θ_run (Cert.PlaceOwnWInRefIdeal.defs (F := Ideal)) (onTc (τ := Cert.PlaceOwnWInRefIdeal.τ) (Cert.PlaceOwnWInRefIdeal.main (F := Ideal))) ⟨m', fun _ => 0, g'⟩ (fun r => ∀ c : Dev Cert.PlaceOwnWInRefIdeal.nD,
          r.2.mem ((c.tc : Thread Cert.PlaceOwnWInRefIdeal.nD Cert.PlaceOwnWInRefIdeal.τ).loc Cert.PlaceOwnWInRefIdeal.main_v4) = v0 c
          ∧ r.2.mem ((c.tc : Thread Cert.PlaceOwnWInRefIdeal.nD Cert.PlaceOwnWInRefIdeal.τ).loc Cert.PlaceOwnWInRefIdeal.main_arg0) = m' ((c.tc : Thread Cert.PlaceOwnWInRefIdeal.nD Cert.PlaceOwnWInRefIdeal.τ).loc Cert.PlaceOwnWInRefIdeal.main_arg0)
          ∧ r.2.mem ((c.tc : Thread Cert.PlaceOwnWInRefIdeal.nD Cert.PlaceOwnWInRefIdeal.τ).loc Cert.PlaceOwnWInRefIdeal.main_arg1) = m' ((c.tc : Thread Cert.PlaceOwnWInRefIdeal.nD Cert.PlaceOwnWInRefIdeal.τ).loc Cert.PlaceOwnWInRefIdeal.main_arg1)
          ∧ r.2.mem ((c.tc : Thread Cert.PlaceOwnWInRefIdeal.nD Cert.PlaceOwnWInRefIdeal.τ).loc Cert.PlaceOwnWInRefIdeal.main_arg2) = m' ((c.tc : Thread Cert.PlaceOwnWInRefIdeal.nD Cert.PlaceOwnWInRefIdeal.τ).loc Cert.PlaceOwnWInRefIdeal.main_arg2))

def preserves_ChipAddWUp_ChipAddWUpIdeal : Prop :=
  True

def algebraic_ChipAddWUpIdeal_ChipAddWUpRefIdeal [hChipAddWUpIdeal : Cert.ChipAddWUpIdeal.Facts] [hChipAddWUpRefIdeal : Cert.ChipAddWUpRefIdeal.Facts] [hPre_a_place_w_up : Cert.Pre_a_place_w_up.Facts] : Prop :=
  ∀ (m : (ℓ : Loc Cert.ChipAddWUpIdeal.nD Cert.ChipAddWUpIdeal.τ Cert.ChipAddWUpIdeal.sig) → Buf (Elt Ideal) ℓ) (g : Dev Cert.ChipAddWUpIdeal.nD → PrngReg)
    (m' : (ℓ : Loc Cert.ChipAddWUpRefIdeal.nD Cert.ChipAddWUpRefIdeal.τ Cert.ChipAddWUpRefIdeal.sig) → Buf (Elt Ideal) ℓ) (g' : Dev Cert.ChipAddWUpRefIdeal.nD → PrngReg), Pre_ChipAddWUpIdeal m →
    (∀ c : Dev Cert.ChipAddWUpIdeal.nD,
      m' ((c.tc : Thread Cert.ChipAddWUpRefIdeal.nD Cert.ChipAddWUpRefIdeal.τ).loc Cert.ChipAddWUpRefIdeal.main_arg0) = m ((c.tc : Thread Cert.ChipAddWUpIdeal.nD Cert.ChipAddWUpIdeal.τ).loc Cert.ChipAddWUpIdeal.main_arg0)
      ∧ m' ((c.tc : Thread Cert.ChipAddWUpRefIdeal.nD Cert.ChipAddWUpRefIdeal.τ).loc Cert.ChipAddWUpRefIdeal.main_arg1) = m ((c.tc : Thread Cert.ChipAddWUpIdeal.nD Cert.ChipAddWUpIdeal.τ).loc Cert.ChipAddWUpIdeal.main_arg1)
      ∧ m' ((c.tc : Thread Cert.ChipAddWUpRefIdeal.nD Cert.ChipAddWUpRefIdeal.τ).loc Cert.ChipAddWUpRefIdeal.main_arg2) = m ((c.tc : Thread Cert.ChipAddWUpIdeal.nD Cert.ChipAddWUpIdeal.τ).loc Cert.ChipAddWUpIdeal.main_arg2)
      ∧ m' ((c.tc : Thread Cert.ChipAddWUpRefIdeal.nD Cert.ChipAddWUpRefIdeal.τ).loc Cert.ChipAddWUpRefIdeal.main_arg3) = m ((c.tc : Thread Cert.ChipAddWUpIdeal.nD Cert.ChipAddWUpIdeal.τ).loc Cert.ChipAddWUpIdeal.main_arg3)) →
    ∃ (v0 : (c : Dev Cert.ChipAddWUpIdeal.nD) → Buf (Elt Ideal) ((c.tc : Thread Cert.ChipAddWUpIdeal.nD Cert.ChipAddWUpIdeal.τ).loc Cert.ChipAddWUpIdeal.main_v9)),
      θ_run (Cert.ChipAddWUpIdeal.defs (F := Ideal)) (onTc (τ := Cert.ChipAddWUpIdeal.τ) (Cert.ChipAddWUpIdeal.main (F := Ideal))) ⟨m, fun _ => 0, g⟩ (fun r => ∀ c : Dev Cert.ChipAddWUpIdeal.nD,
          r.2.mem ((c.tc : Thread Cert.ChipAddWUpIdeal.nD Cert.ChipAddWUpIdeal.τ).loc Cert.ChipAddWUpIdeal.main_v9) = v0 c
          ∧ r.2.mem ((c.tc : Thread Cert.ChipAddWUpIdeal.nD Cert.ChipAddWUpIdeal.τ).loc Cert.ChipAddWUpIdeal.main_arg0) = m ((c.tc : Thread Cert.ChipAddWUpIdeal.nD Cert.ChipAddWUpIdeal.τ).loc Cert.ChipAddWUpIdeal.main_arg0)
          ∧ r.2.mem ((c.tc : Thread Cert.ChipAddWUpIdeal.nD Cert.ChipAddWUpIdeal.τ).loc Cert.ChipAddWUpIdeal.main_arg1) = m ((c.tc : Thread Cert.ChipAddWUpIdeal.nD Cert.ChipAddWUpIdeal.τ).loc Cert.ChipAddWUpIdeal.main_arg1)
          ∧ r.2.mem ((c.tc : Thread Cert.ChipAddWUpIdeal.nD Cert.ChipAddWUpIdeal.τ).loc Cert.ChipAddWUpIdeal.main_arg2) = m ((c.tc : Thread Cert.ChipAddWUpIdeal.nD Cert.ChipAddWUpIdeal.τ).loc Cert.ChipAddWUpIdeal.main_arg2)
          ∧ r.2.mem ((c.tc : Thread Cert.ChipAddWUpIdeal.nD Cert.ChipAddWUpIdeal.τ).loc Cert.ChipAddWUpIdeal.main_arg3) = m ((c.tc : Thread Cert.ChipAddWUpIdeal.nD Cert.ChipAddWUpIdeal.τ).loc Cert.ChipAddWUpIdeal.main_arg3))
      ∧ θ_run (Cert.ChipAddWUpRefIdeal.defs (F := Ideal)) (onTc (τ := Cert.ChipAddWUpRefIdeal.τ) (Cert.ChipAddWUpRefIdeal.main (F := Ideal))) ⟨m', fun _ => 0, g'⟩ (fun r => ∀ c : Dev Cert.ChipAddWUpRefIdeal.nD,
          r.2.mem ((c.tc : Thread Cert.ChipAddWUpRefIdeal.nD Cert.ChipAddWUpRefIdeal.τ).loc Cert.ChipAddWUpRefIdeal.main_v26) = v0 c
          ∧ r.2.mem ((c.tc : Thread Cert.ChipAddWUpRefIdeal.nD Cert.ChipAddWUpRefIdeal.τ).loc Cert.ChipAddWUpRefIdeal.main_arg0) = m' ((c.tc : Thread Cert.ChipAddWUpRefIdeal.nD Cert.ChipAddWUpRefIdeal.τ).loc Cert.ChipAddWUpRefIdeal.main_arg0)
          ∧ r.2.mem ((c.tc : Thread Cert.ChipAddWUpRefIdeal.nD Cert.ChipAddWUpRefIdeal.τ).loc Cert.ChipAddWUpRefIdeal.main_arg1) = m' ((c.tc : Thread Cert.ChipAddWUpRefIdeal.nD Cert.ChipAddWUpRefIdeal.τ).loc Cert.ChipAddWUpRefIdeal.main_arg1)
          ∧ r.2.mem ((c.tc : Thread Cert.ChipAddWUpRefIdeal.nD Cert.ChipAddWUpRefIdeal.τ).loc Cert.ChipAddWUpRefIdeal.main_arg2) = m' ((c.tc : Thread Cert.ChipAddWUpRefIdeal.nD Cert.ChipAddWUpRefIdeal.τ).loc Cert.ChipAddWUpRefIdeal.main_arg2)
          ∧ r.2.mem ((c.tc : Thread Cert.ChipAddWUpRefIdeal.nD Cert.ChipAddWUpRefIdeal.τ).loc Cert.ChipAddWUpRefIdeal.main_arg3) = m' ((c.tc : Thread Cert.ChipAddWUpRefIdeal.nD Cert.ChipAddWUpRefIdeal.τ).loc Cert.ChipAddWUpRefIdeal.main_arg3))

def preserves_ChipAddWDown_ChipAddWDownIdeal : Prop :=
  True

def algebraic_ChipAddWDownIdeal_ChipAddWDownRefIdeal [hChipAddWDownIdeal : Cert.ChipAddWDownIdeal.Facts] [hChipAddWDownRefIdeal : Cert.ChipAddWDownRefIdeal.Facts] [hPre_a_place_w_down : Cert.Pre_a_place_w_down.Facts] : Prop :=
  ∀ (m : (ℓ : Loc Cert.ChipAddWDownIdeal.nD Cert.ChipAddWDownIdeal.τ Cert.ChipAddWDownIdeal.sig) → Buf (Elt Ideal) ℓ) (g : Dev Cert.ChipAddWDownIdeal.nD → PrngReg)
    (m' : (ℓ : Loc Cert.ChipAddWDownRefIdeal.nD Cert.ChipAddWDownRefIdeal.τ Cert.ChipAddWDownRefIdeal.sig) → Buf (Elt Ideal) ℓ) (g' : Dev Cert.ChipAddWDownRefIdeal.nD → PrngReg), Pre_ChipAddWDownIdeal m →
    (∀ c : Dev Cert.ChipAddWDownIdeal.nD,
      m' ((c.tc : Thread Cert.ChipAddWDownRefIdeal.nD Cert.ChipAddWDownRefIdeal.τ).loc Cert.ChipAddWDownRefIdeal.main_arg0) = m ((c.tc : Thread Cert.ChipAddWDownIdeal.nD Cert.ChipAddWDownIdeal.τ).loc Cert.ChipAddWDownIdeal.main_arg0)
      ∧ m' ((c.tc : Thread Cert.ChipAddWDownRefIdeal.nD Cert.ChipAddWDownRefIdeal.τ).loc Cert.ChipAddWDownRefIdeal.main_arg1) = m ((c.tc : Thread Cert.ChipAddWDownIdeal.nD Cert.ChipAddWDownIdeal.τ).loc Cert.ChipAddWDownIdeal.main_arg1)
      ∧ m' ((c.tc : Thread Cert.ChipAddWDownRefIdeal.nD Cert.ChipAddWDownRefIdeal.τ).loc Cert.ChipAddWDownRefIdeal.main_arg2) = m ((c.tc : Thread Cert.ChipAddWDownIdeal.nD Cert.ChipAddWDownIdeal.τ).loc Cert.ChipAddWDownIdeal.main_arg2)
      ∧ m' ((c.tc : Thread Cert.ChipAddWDownRefIdeal.nD Cert.ChipAddWDownRefIdeal.τ).loc Cert.ChipAddWDownRefIdeal.main_arg3) = m ((c.tc : Thread Cert.ChipAddWDownIdeal.nD Cert.ChipAddWDownIdeal.τ).loc Cert.ChipAddWDownIdeal.main_arg3)) →
    ∃ (v0 : (c : Dev Cert.ChipAddWDownIdeal.nD) → Buf (Elt Ideal) ((c.tc : Thread Cert.ChipAddWDownIdeal.nD Cert.ChipAddWDownIdeal.τ).loc Cert.ChipAddWDownIdeal.main_v9)),
      θ_run (Cert.ChipAddWDownIdeal.defs (F := Ideal)) (onTc (τ := Cert.ChipAddWDownIdeal.τ) (Cert.ChipAddWDownIdeal.main (F := Ideal))) ⟨m, fun _ => 0, g⟩ (fun r => ∀ c : Dev Cert.ChipAddWDownIdeal.nD,
          r.2.mem ((c.tc : Thread Cert.ChipAddWDownIdeal.nD Cert.ChipAddWDownIdeal.τ).loc Cert.ChipAddWDownIdeal.main_v9) = v0 c
          ∧ r.2.mem ((c.tc : Thread Cert.ChipAddWDownIdeal.nD Cert.ChipAddWDownIdeal.τ).loc Cert.ChipAddWDownIdeal.main_arg0) = m ((c.tc : Thread Cert.ChipAddWDownIdeal.nD Cert.ChipAddWDownIdeal.τ).loc Cert.ChipAddWDownIdeal.main_arg0)
          ∧ r.2.mem ((c.tc : Thread Cert.ChipAddWDownIdeal.nD Cert.ChipAddWDownIdeal.τ).loc Cert.ChipAddWDownIdeal.main_arg1) = m ((c.tc : Thread Cert.ChipAddWDownIdeal.nD Cert.ChipAddWDownIdeal.τ).loc Cert.ChipAddWDownIdeal.main_arg1)
          ∧ r.2.mem ((c.tc : Thread Cert.ChipAddWDownIdeal.nD Cert.ChipAddWDownIdeal.τ).loc Cert.ChipAddWDownIdeal.main_arg2) = m ((c.tc : Thread Cert.ChipAddWDownIdeal.nD Cert.ChipAddWDownIdeal.τ).loc Cert.ChipAddWDownIdeal.main_arg2)
          ∧ r.2.mem ((c.tc : Thread Cert.ChipAddWDownIdeal.nD Cert.ChipAddWDownIdeal.τ).loc Cert.ChipAddWDownIdeal.main_arg3) = m ((c.tc : Thread Cert.ChipAddWDownIdeal.nD Cert.ChipAddWDownIdeal.τ).loc Cert.ChipAddWDownIdeal.main_arg3))
      ∧ θ_run (Cert.ChipAddWDownRefIdeal.defs (F := Ideal)) (onTc (τ := Cert.ChipAddWDownRefIdeal.τ) (Cert.ChipAddWDownRefIdeal.main (F := Ideal))) ⟨m', fun _ => 0, g'⟩ (fun r => ∀ c : Dev Cert.ChipAddWDownRefIdeal.nD,
          r.2.mem ((c.tc : Thread Cert.ChipAddWDownRefIdeal.nD Cert.ChipAddWDownRefIdeal.τ).loc Cert.ChipAddWDownRefIdeal.main_v26) = v0 c
          ∧ r.2.mem ((c.tc : Thread Cert.ChipAddWDownRefIdeal.nD Cert.ChipAddWDownRefIdeal.τ).loc Cert.ChipAddWDownRefIdeal.main_arg0) = m' ((c.tc : Thread Cert.ChipAddWDownRefIdeal.nD Cert.ChipAddWDownRefIdeal.τ).loc Cert.ChipAddWDownRefIdeal.main_arg0)
          ∧ r.2.mem ((c.tc : Thread Cert.ChipAddWDownRefIdeal.nD Cert.ChipAddWDownRefIdeal.τ).loc Cert.ChipAddWDownRefIdeal.main_arg1) = m' ((c.tc : Thread Cert.ChipAddWDownRefIdeal.nD Cert.ChipAddWDownRefIdeal.τ).loc Cert.ChipAddWDownRefIdeal.main_arg1)
          ∧ r.2.mem ((c.tc : Thread Cert.ChipAddWDownRefIdeal.nD Cert.ChipAddWDownRefIdeal.τ).loc Cert.ChipAddWDownRefIdeal.main_arg2) = m' ((c.tc : Thread Cert.ChipAddWDownRefIdeal.nD Cert.ChipAddWDownRefIdeal.τ).loc Cert.ChipAddWDownRefIdeal.main_arg2)
          ∧ r.2.mem ((c.tc : Thread Cert.ChipAddWDownRefIdeal.nD Cert.ChipAddWDownRefIdeal.τ).loc Cert.ChipAddWDownRefIdeal.main_arg3) = m' ((c.tc : Thread Cert.ChipAddWDownRefIdeal.nD Cert.ChipAddWDownRefIdeal.τ).loc Cert.ChipAddWDownRefIdeal.main_arg3))

def preserves_ChipAddWO_ChipAddWOIdeal : Prop :=
  True

def algebraic_ChipAddWOIdeal_ChipAddWORefIdeal [hChipAddWOIdeal : Cert.ChipAddWOIdeal.Facts] [hChipAddWORefIdeal : Cert.ChipAddWORefIdeal.Facts] [hPre_a_place_w_o : Cert.Pre_a_place_w_o.Facts] : Prop :=
  ∀ (m : (ℓ : Loc Cert.ChipAddWOIdeal.nD Cert.ChipAddWOIdeal.τ Cert.ChipAddWOIdeal.sig) → Buf (Elt Ideal) ℓ) (g : Dev Cert.ChipAddWOIdeal.nD → PrngReg)
    (m' : (ℓ : Loc Cert.ChipAddWORefIdeal.nD Cert.ChipAddWORefIdeal.τ Cert.ChipAddWORefIdeal.sig) → Buf (Elt Ideal) ℓ) (g' : Dev Cert.ChipAddWORefIdeal.nD → PrngReg), Pre_ChipAddWOIdeal m →
    (∀ c : Dev Cert.ChipAddWOIdeal.nD,
      m' ((c.tc : Thread Cert.ChipAddWORefIdeal.nD Cert.ChipAddWORefIdeal.τ).loc Cert.ChipAddWORefIdeal.main_arg0) = m ((c.tc : Thread Cert.ChipAddWOIdeal.nD Cert.ChipAddWOIdeal.τ).loc Cert.ChipAddWOIdeal.main_arg0)
      ∧ m' ((c.tc : Thread Cert.ChipAddWORefIdeal.nD Cert.ChipAddWORefIdeal.τ).loc Cert.ChipAddWORefIdeal.main_arg1) = m ((c.tc : Thread Cert.ChipAddWOIdeal.nD Cert.ChipAddWOIdeal.τ).loc Cert.ChipAddWOIdeal.main_arg1)
      ∧ m' ((c.tc : Thread Cert.ChipAddWORefIdeal.nD Cert.ChipAddWORefIdeal.τ).loc Cert.ChipAddWORefIdeal.main_arg2) = m ((c.tc : Thread Cert.ChipAddWOIdeal.nD Cert.ChipAddWOIdeal.τ).loc Cert.ChipAddWOIdeal.main_arg2)
      ∧ m' ((c.tc : Thread Cert.ChipAddWORefIdeal.nD Cert.ChipAddWORefIdeal.τ).loc Cert.ChipAddWORefIdeal.main_arg3) = m ((c.tc : Thread Cert.ChipAddWOIdeal.nD Cert.ChipAddWOIdeal.τ).loc Cert.ChipAddWOIdeal.main_arg3)) →
    ∃ (v0 : (c : Dev Cert.ChipAddWOIdeal.nD) → Buf (Elt Ideal) ((c.tc : Thread Cert.ChipAddWOIdeal.nD Cert.ChipAddWOIdeal.τ).loc Cert.ChipAddWOIdeal.main_v9)),
      θ_run (Cert.ChipAddWOIdeal.defs (F := Ideal)) (onTc (τ := Cert.ChipAddWOIdeal.τ) (Cert.ChipAddWOIdeal.main (F := Ideal))) ⟨m, fun _ => 0, g⟩ (fun r => ∀ c : Dev Cert.ChipAddWOIdeal.nD,
          r.2.mem ((c.tc : Thread Cert.ChipAddWOIdeal.nD Cert.ChipAddWOIdeal.τ).loc Cert.ChipAddWOIdeal.main_v9) = v0 c
          ∧ r.2.mem ((c.tc : Thread Cert.ChipAddWOIdeal.nD Cert.ChipAddWOIdeal.τ).loc Cert.ChipAddWOIdeal.main_arg0) = m ((c.tc : Thread Cert.ChipAddWOIdeal.nD Cert.ChipAddWOIdeal.τ).loc Cert.ChipAddWOIdeal.main_arg0)
          ∧ r.2.mem ((c.tc : Thread Cert.ChipAddWOIdeal.nD Cert.ChipAddWOIdeal.τ).loc Cert.ChipAddWOIdeal.main_arg1) = m ((c.tc : Thread Cert.ChipAddWOIdeal.nD Cert.ChipAddWOIdeal.τ).loc Cert.ChipAddWOIdeal.main_arg1)
          ∧ r.2.mem ((c.tc : Thread Cert.ChipAddWOIdeal.nD Cert.ChipAddWOIdeal.τ).loc Cert.ChipAddWOIdeal.main_arg2) = m ((c.tc : Thread Cert.ChipAddWOIdeal.nD Cert.ChipAddWOIdeal.τ).loc Cert.ChipAddWOIdeal.main_arg2)
          ∧ r.2.mem ((c.tc : Thread Cert.ChipAddWOIdeal.nD Cert.ChipAddWOIdeal.τ).loc Cert.ChipAddWOIdeal.main_arg3) = m ((c.tc : Thread Cert.ChipAddWOIdeal.nD Cert.ChipAddWOIdeal.τ).loc Cert.ChipAddWOIdeal.main_arg3))
      ∧ θ_run (Cert.ChipAddWORefIdeal.defs (F := Ideal)) (onTc (τ := Cert.ChipAddWORefIdeal.τ) (Cert.ChipAddWORefIdeal.main (F := Ideal))) ⟨m', fun _ => 0, g'⟩ (fun r => ∀ c : Dev Cert.ChipAddWORefIdeal.nD,
          r.2.mem ((c.tc : Thread Cert.ChipAddWORefIdeal.nD Cert.ChipAddWORefIdeal.τ).loc Cert.ChipAddWORefIdeal.main_v26) = v0 c
          ∧ r.2.mem ((c.tc : Thread Cert.ChipAddWORefIdeal.nD Cert.ChipAddWORefIdeal.τ).loc Cert.ChipAddWORefIdeal.main_arg0) = m' ((c.tc : Thread Cert.ChipAddWORefIdeal.nD Cert.ChipAddWORefIdeal.τ).loc Cert.ChipAddWORefIdeal.main_arg0)
          ∧ r.2.mem ((c.tc : Thread Cert.ChipAddWORefIdeal.nD Cert.ChipAddWORefIdeal.τ).loc Cert.ChipAddWORefIdeal.main_arg1) = m' ((c.tc : Thread Cert.ChipAddWORefIdeal.nD Cert.ChipAddWORefIdeal.τ).loc Cert.ChipAddWORefIdeal.main_arg1)
          ∧ r.2.mem ((c.tc : Thread Cert.ChipAddWORefIdeal.nD Cert.ChipAddWORefIdeal.τ).loc Cert.ChipAddWORefIdeal.main_arg2) = m' ((c.tc : Thread Cert.ChipAddWORefIdeal.nD Cert.ChipAddWORefIdeal.τ).loc Cert.ChipAddWORefIdeal.main_arg2)
          ∧ r.2.mem ((c.tc : Thread Cert.ChipAddWORefIdeal.nD Cert.ChipAddWORefIdeal.τ).loc Cert.ChipAddWORefIdeal.main_arg3) = m' ((c.tc : Thread Cert.ChipAddWORefIdeal.nD Cert.ChipAddWORefIdeal.τ).loc Cert.ChipAddWORefIdeal.main_arg3))

def preserves_ChipAddWIn_ChipAddWInIdeal : Prop :=
  True

def algebraic_ChipAddWInIdeal_ChipAddWInRefIdeal [hChipAddWInIdeal : Cert.ChipAddWInIdeal.Facts] [hChipAddWInRefIdeal : Cert.ChipAddWInRefIdeal.Facts] [hPre_a_place_w_in : Cert.Pre_a_place_w_in.Facts] : Prop :=
  ∀ (m : (ℓ : Loc Cert.ChipAddWInIdeal.nD Cert.ChipAddWInIdeal.τ Cert.ChipAddWInIdeal.sig) → Buf (Elt Ideal) ℓ) (g : Dev Cert.ChipAddWInIdeal.nD → PrngReg)
    (m' : (ℓ : Loc Cert.ChipAddWInRefIdeal.nD Cert.ChipAddWInRefIdeal.τ Cert.ChipAddWInRefIdeal.sig) → Buf (Elt Ideal) ℓ) (g' : Dev Cert.ChipAddWInRefIdeal.nD → PrngReg), Pre_ChipAddWInIdeal m →
    (∀ c : Dev Cert.ChipAddWInIdeal.nD,
      m' ((c.tc : Thread Cert.ChipAddWInRefIdeal.nD Cert.ChipAddWInRefIdeal.τ).loc Cert.ChipAddWInRefIdeal.main_arg0) = m ((c.tc : Thread Cert.ChipAddWInIdeal.nD Cert.ChipAddWInIdeal.τ).loc Cert.ChipAddWInIdeal.main_arg0)
      ∧ m' ((c.tc : Thread Cert.ChipAddWInRefIdeal.nD Cert.ChipAddWInRefIdeal.τ).loc Cert.ChipAddWInRefIdeal.main_arg1) = m ((c.tc : Thread Cert.ChipAddWInIdeal.nD Cert.ChipAddWInIdeal.τ).loc Cert.ChipAddWInIdeal.main_arg1)
      ∧ m' ((c.tc : Thread Cert.ChipAddWInRefIdeal.nD Cert.ChipAddWInRefIdeal.τ).loc Cert.ChipAddWInRefIdeal.main_arg2) = m ((c.tc : Thread Cert.ChipAddWInIdeal.nD Cert.ChipAddWInIdeal.τ).loc Cert.ChipAddWInIdeal.main_arg2)
      ∧ m' ((c.tc : Thread Cert.ChipAddWInRefIdeal.nD Cert.ChipAddWInRefIdeal.τ).loc Cert.ChipAddWInRefIdeal.main_arg3) = m ((c.tc : Thread Cert.ChipAddWInIdeal.nD Cert.ChipAddWInIdeal.τ).loc Cert.ChipAddWInIdeal.main_arg3)) →
    ∃ (v0 : (c : Dev Cert.ChipAddWInIdeal.nD) → Buf (Elt Ideal) ((c.tc : Thread Cert.ChipAddWInIdeal.nD Cert.ChipAddWInIdeal.τ).loc Cert.ChipAddWInIdeal.main_v9)),
      θ_run (Cert.ChipAddWInIdeal.defs (F := Ideal)) (onTc (τ := Cert.ChipAddWInIdeal.τ) (Cert.ChipAddWInIdeal.main (F := Ideal))) ⟨m, fun _ => 0, g⟩ (fun r => ∀ c : Dev Cert.ChipAddWInIdeal.nD,
          r.2.mem ((c.tc : Thread Cert.ChipAddWInIdeal.nD Cert.ChipAddWInIdeal.τ).loc Cert.ChipAddWInIdeal.main_v9) = v0 c
          ∧ r.2.mem ((c.tc : Thread Cert.ChipAddWInIdeal.nD Cert.ChipAddWInIdeal.τ).loc Cert.ChipAddWInIdeal.main_arg0) = m ((c.tc : Thread Cert.ChipAddWInIdeal.nD Cert.ChipAddWInIdeal.τ).loc Cert.ChipAddWInIdeal.main_arg0)
          ∧ r.2.mem ((c.tc : Thread Cert.ChipAddWInIdeal.nD Cert.ChipAddWInIdeal.τ).loc Cert.ChipAddWInIdeal.main_arg1) = m ((c.tc : Thread Cert.ChipAddWInIdeal.nD Cert.ChipAddWInIdeal.τ).loc Cert.ChipAddWInIdeal.main_arg1)
          ∧ r.2.mem ((c.tc : Thread Cert.ChipAddWInIdeal.nD Cert.ChipAddWInIdeal.τ).loc Cert.ChipAddWInIdeal.main_arg2) = m ((c.tc : Thread Cert.ChipAddWInIdeal.nD Cert.ChipAddWInIdeal.τ).loc Cert.ChipAddWInIdeal.main_arg2)
          ∧ r.2.mem ((c.tc : Thread Cert.ChipAddWInIdeal.nD Cert.ChipAddWInIdeal.τ).loc Cert.ChipAddWInIdeal.main_arg3) = m ((c.tc : Thread Cert.ChipAddWInIdeal.nD Cert.ChipAddWInIdeal.τ).loc Cert.ChipAddWInIdeal.main_arg3))
      ∧ θ_run (Cert.ChipAddWInRefIdeal.defs (F := Ideal)) (onTc (τ := Cert.ChipAddWInRefIdeal.τ) (Cert.ChipAddWInRefIdeal.main (F := Ideal))) ⟨m', fun _ => 0, g'⟩ (fun r => ∀ c : Dev Cert.ChipAddWInRefIdeal.nD,
          r.2.mem ((c.tc : Thread Cert.ChipAddWInRefIdeal.nD Cert.ChipAddWInRefIdeal.τ).loc Cert.ChipAddWInRefIdeal.main_v26) = v0 c
          ∧ r.2.mem ((c.tc : Thread Cert.ChipAddWInRefIdeal.nD Cert.ChipAddWInRefIdeal.τ).loc Cert.ChipAddWInRefIdeal.main_arg0) = m' ((c.tc : Thread Cert.ChipAddWInRefIdeal.nD Cert.ChipAddWInRefIdeal.τ).loc Cert.ChipAddWInRefIdeal.main_arg0)
          ∧ r.2.mem ((c.tc : Thread Cert.ChipAddWInRefIdeal.nD Cert.ChipAddWInRefIdeal.τ).loc Cert.ChipAddWInRefIdeal.main_arg1) = m' ((c.tc : Thread Cert.ChipAddWInRefIdeal.nD Cert.ChipAddWInRefIdeal.τ).loc Cert.ChipAddWInRefIdeal.main_arg1)
          ∧ r.2.mem ((c.tc : Thread Cert.ChipAddWInRefIdeal.nD Cert.ChipAddWInRefIdeal.τ).loc Cert.ChipAddWInRefIdeal.main_arg2) = m' ((c.tc : Thread Cert.ChipAddWInRefIdeal.nD Cert.ChipAddWInRefIdeal.τ).loc Cert.ChipAddWInRefIdeal.main_arg2)
          ∧ r.2.mem ((c.tc : Thread Cert.ChipAddWInRefIdeal.nD Cert.ChipAddWInRefIdeal.τ).loc Cert.ChipAddWInRefIdeal.main_arg3) = m' ((c.tc : Thread Cert.ChipAddWInRefIdeal.nD Cert.ChipAddWInRefIdeal.τ).loc Cert.ChipAddWInRefIdeal.main_arg3))

def Claim : Prop :=
  ∃ (hMmGDown : Cert.MmGDown.Facts) (hMmGDownIdeal : Cert.MmGDownIdeal.Facts) (hMmGDownRefIdeal : Cert.MmGDownRefIdeal.Facts) (hMmDAct : Cert.MmDAct.Facts) (hMmDActIdeal : Cert.MmDActIdeal.Facts) (hMmDActRefIdeal : Cert.MmDActRefIdeal.Facts) (hMmGUp : Cert.MmGUp.Facts) (hMmGUpIdeal : Cert.MmGUpIdeal.Facts) (hMmGUpRefIdeal : Cert.MmGUpRefIdeal.Facts) (hMmDH2 : Cert.MmDH2.Facts) (hMmDH2Ideal : Cert.MmDH2Ideal.Facts) (hMmDH2RefIdeal : Cert.MmDH2RefIdeal.Facts) (hMmGWo : Cert.MmGWo.Facts) (hMmGWoIdeal : Cert.MmGWoIdeal.Facts) (hMmGWoRefIdeal : Cert.MmGWoRefIdeal.Facts) (hMmDO : Cert.MmDO.Facts) (hMmDOIdeal : Cert.MmDOIdeal.Facts) (hMmDORefIdeal : Cert.MmDORefIdeal.Facts) (hMmGWin : Cert.MmGWin.Facts) (hMmGWinIdeal : Cert.MmGWinIdeal.Facts) (hMmGWinRefIdeal : Cert.MmGWinRefIdeal.Facts) (hMmDH1 : Cert.MmDH1.Facts) (hMmDH1Ideal : Cert.MmDH1Ideal.Facts) (hMmDH1RefIdeal : Cert.MmDH1RefIdeal.Facts) (hMmProj : Cert.MmProj.Facts) (hMmProjIdeal : Cert.MmProjIdeal.Facts) (hMmProjRefIdeal : Cert.MmProjRefIdeal.Facts) (hMmWo : Cert.MmWo.Facts) (hMmWoIdeal : Cert.MmWoIdeal.Facts) (hMmWoRefIdeal : Cert.MmWoRefIdeal.Facts) (hMmUp : Cert.MmUp.Facts) (hMmUpIdeal : Cert.MmUpIdeal.Facts) (hMmUpRefIdeal : Cert.MmUpRefIdeal.Facts) (hMmDown : Cert.MmDown.Facts) (hMmDownIdeal : Cert.MmDownIdeal.Facts) (hMmDownRefIdeal : Cert.MmDownRefIdeal.Facts) (hMmGAda : Cert.MmGAda.Facts) (hMmGAdaIdeal : Cert.MmGAdaIdeal.Facts) (hMmGAdaRefIdeal : Cert.MmGAdaRefIdeal.Facts) (hColSum : Cert.ColSum.Facts) (hColSumIdeal : Cert.ColSumIdeal.Facts) (hColSumRefIdeal : Cert.ColSumRefIdeal.Facts) (hLn0Bwd : Cert.Ln0Bwd.Facts) (hLn0BwdIdeal : Cert.Ln0BwdIdeal.Facts) (hLn0BwdRefIdeal : Cert.Ln0BwdRefIdeal.Facts) (hLn1Bwd : Cert.Ln1Bwd.Facts) (hLn1BwdIdeal : Cert.Ln1BwdIdeal.Facts) (hLn1BwdRefIdeal : Cert.Ln1BwdRefIdeal.Facts) (hLn2LossBwd : Cert.Ln2LossBwd.Facts) (hLn2LossBwdIdeal : Cert.Ln2LossBwdIdeal.Facts) (hLn2LossBwdRefIdeal : Cert.Ln2LossBwdRefIdeal.Facts) (hLn0Fwd : Cert.Ln0Fwd.Facts) (hLn0FwdIdeal : Cert.Ln0FwdIdeal.Facts) (hLn0FwdRefIdeal : Cert.Ln0FwdRefIdeal.Facts) (hLn1Fwd : Cert.Ln1Fwd.Facts) (hLn1FwdIdeal : Cert.Ln1FwdIdeal.Facts) (hLn1FwdRefIdeal : Cert.Ln1FwdRefIdeal.Facts) (hFfnFwd : Cert.FfnFwd.Facts) (hFfnFwdIdeal : Cert.FfnFwdIdeal.Facts) (hFfnFwdRefIdeal : Cert.FfnFwdRefIdeal.Facts) (hDnPreFwd : Cert.DnPreFwd.Facts) (hDnPreFwdIdeal : Cert.DnPreFwdIdeal.Facts) (hDnPreFwdRefIdeal : Cert.DnPreFwdRefIdeal.Facts) (hWInPadded : Cert.WInPadded.Facts) (hWInPaddedIdeal : Cert.WInPaddedIdeal.Facts) (hWInPaddedRefIdeal : Cert.WInPaddedRefIdeal.Facts) (hWInChips : Cert.WInChips.Facts) (hWInChipsIdeal : Cert.WInChipsIdeal.Facts) (hWInChipsRefIdeal : Cert.WInChipsRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamWO : Cert.AdamWO.Facts) (hAdamWOIdeal : Cert.AdamWOIdeal.Facts) (hAdamWORefIdeal : Cert.AdamWORefIdeal.Facts) (hAdamAda : Cert.AdamAda.Facts) (hAdamAdaIdeal : Cert.AdamAdaIdeal.Facts) (hAdamAdaRefIdeal : Cert.AdamAdaRefIdeal.Facts) (hAdamWin : Cert.AdamWin.Facts) (hAdamWinIdeal : Cert.AdamWinIdeal.Facts) (hAdamWinRefIdeal : Cert.AdamWinRefIdeal.Facts) (hAdamSmallA : Cert.AdamSmallA.Facts) (hAdamSmallAIdeal : Cert.AdamSmallAIdeal.Facts) (hAdamSmallARefIdeal : Cert.AdamSmallARefIdeal.Facts) (hAdamSmallB : Cert.AdamSmallB.Facts) (hAdamSmallBIdeal : Cert.AdamSmallBIdeal.Facts) (hAdamSmallBRefIdeal : Cert.AdamSmallBRefIdeal.Facts) (hAdamSmallC : Cert.AdamSmallC.Facts) (hAdamSmallCIdeal : Cert.AdamSmallCIdeal.Facts) (hAdamSmallCRefIdeal : Cert.AdamSmallCRefIdeal.Facts) (hAdamSmallD : Cert.AdamSmallD.Facts) (hAdamSmallDIdeal : Cert.AdamSmallDIdeal.Facts) (hAdamSmallDRefIdeal : Cert.AdamSmallDRefIdeal.Facts) (hFfnBwd : Cert.FfnBwd.Facts) (hFfnBwdIdeal : Cert.FfnBwdIdeal.Facts) (hFfnBwdRefIdeal : Cert.FfnBwdRefIdeal.Facts) (hDnPreBwd : Cert.DnPreBwd.Facts) (hDnPreBwdIdeal : Cert.DnPreBwdIdeal.Facts) (hDnPreBwdRefIdeal : Cert.DnPreBwdRefIdeal.Facts) (hPairAddWUp : Cert.PairAddWUp.Facts) (hPairAddWUpIdeal : Cert.PairAddWUpIdeal.Facts) (hPairAddWUpRefIdeal : Cert.PairAddWUpRefIdeal.Facts) (hPairAddWDown : Cert.PairAddWDown.Facts) (hPairAddWDownIdeal : Cert.PairAddWDownIdeal.Facts) (hPairAddWDownRefIdeal : Cert.PairAddWDownRefIdeal.Facts) (hPairAddWO : Cert.PairAddWO.Facts) (hPairAddWOIdeal : Cert.PairAddWOIdeal.Facts) (hPairAddWORefIdeal : Cert.PairAddWORefIdeal.Facts) (hPairAddWIn : Cert.PairAddWIn.Facts) (hPairAddWInIdeal : Cert.PairAddWInIdeal.Facts) (hPairAddWInRefIdeal : Cert.PairAddWInRefIdeal.Facts) (hPlaceOwnWUp : Cert.PlaceOwnWUp.Facts) (hPlaceOwnWUpIdeal : Cert.PlaceOwnWUpIdeal.Facts) (hPlaceOwnWUpRefIdeal : Cert.PlaceOwnWUpRefIdeal.Facts) (hPlaceOwnWDown : Cert.PlaceOwnWDown.Facts) (hPlaceOwnWDownIdeal : Cert.PlaceOwnWDownIdeal.Facts) (hPlaceOwnWDownRefIdeal : Cert.PlaceOwnWDownRefIdeal.Facts) (hPlaceOwnWO : Cert.PlaceOwnWO.Facts) (hPlaceOwnWOIdeal : Cert.PlaceOwnWOIdeal.Facts) (hPlaceOwnWORefIdeal : Cert.PlaceOwnWORefIdeal.Facts) (hPlaceOwnWIn : Cert.PlaceOwnWIn.Facts) (hPlaceOwnWInIdeal : Cert.PlaceOwnWInIdeal.Facts) (hPlaceOwnWInRefIdeal : Cert.PlaceOwnWInRefIdeal.Facts) (hChipAddWUp : Cert.ChipAddWUp.Facts) (hChipAddWUpIdeal : Cert.ChipAddWUpIdeal.Facts) (hChipAddWUpRefIdeal : Cert.ChipAddWUpRefIdeal.Facts) (hChipAddWDown : Cert.ChipAddWDown.Facts) (hChipAddWDownIdeal : Cert.ChipAddWDownIdeal.Facts) (hChipAddWDownRefIdeal : Cert.ChipAddWDownRefIdeal.Facts) (hChipAddWO : Cert.ChipAddWO.Facts) (hChipAddWOIdeal : Cert.ChipAddWOIdeal.Facts) (hChipAddWORefIdeal : Cert.ChipAddWORefIdeal.Facts) (hChipAddWIn : Cert.ChipAddWIn.Facts) (hChipAddWInIdeal : Cert.ChipAddWInIdeal.Facts) (hChipAddWInRefIdeal : Cert.ChipAddWInRefIdeal.Facts) (hPre_value_finite : Cert.Pre_value_finite.Facts) (hPre_given_finite : Cert.Pre_given_finite.Facts) (hPre_a_core_w_up : Cert.Pre_a_core_w_up.Facts) (hPre_a_core_w_down : Cert.Pre_a_core_w_down.Facts) (hPre_a_core_w_o : Cert.Pre_a_core_w_o.Facts) (hPre_a_core_w_in : Cert.Pre_a_core_w_in.Facts) (hPre_a_chip_w_up : Cert.Pre_a_chip_w_up.Facts) (hPre_a_chip_w_down : Cert.Pre_a_chip_w_down.Facts) (hPre_a_chip_w_o : Cert.Pre_a_chip_w_o.Facts) (hPre_a_chip_w_in : Cert.Pre_a_chip_w_in.Facts) (hPre_a_place_w_up : Cert.Pre_a_place_w_up.Facts) (hPre_a_place_w_down : Cert.Pre_a_place_w_down.Facts) (hPre_a_place_w_o : Cert.Pre_a_place_w_o.Facts) (hPre_a_place_w_in : Cert.Pre_a_place_w_in.Facts),
    quiescent_MmGDown (hMmGDown := hMmGDown)
    ∧ quiescent_MmGDownIdeal (hMmGDownIdeal := hMmGDownIdeal)
    ∧ quiescent_MmGDownRefIdeal (hMmGDownRefIdeal := hMmGDownRefIdeal)
    ∧ quiescent_MmDAct (hMmDAct := hMmDAct)
    ∧ quiescent_MmDActIdeal (hMmDActIdeal := hMmDActIdeal)
    ∧ quiescent_MmDActRefIdeal (hMmDActRefIdeal := hMmDActRefIdeal)
    ∧ quiescent_MmGUp (hMmGUp := hMmGUp)
    ∧ quiescent_MmGUpIdeal (hMmGUpIdeal := hMmGUpIdeal)
    ∧ quiescent_MmGUpRefIdeal (hMmGUpRefIdeal := hMmGUpRefIdeal)
    ∧ quiescent_MmDH2 (hMmDH2 := hMmDH2)
    ∧ quiescent_MmDH2Ideal (hMmDH2Ideal := hMmDH2Ideal)
    ∧ quiescent_MmDH2RefIdeal (hMmDH2RefIdeal := hMmDH2RefIdeal)
    ∧ quiescent_MmGWo (hMmGWo := hMmGWo)
    ∧ quiescent_MmGWoIdeal (hMmGWoIdeal := hMmGWoIdeal)
    ∧ quiescent_MmGWoRefIdeal (hMmGWoRefIdeal := hMmGWoRefIdeal)
    ∧ quiescent_MmDO (hMmDO := hMmDO)
    ∧ quiescent_MmDOIdeal (hMmDOIdeal := hMmDOIdeal)
    ∧ quiescent_MmDORefIdeal (hMmDORefIdeal := hMmDORefIdeal)
    ∧ quiescent_MmGWin (hMmGWin := hMmGWin)
    ∧ quiescent_MmGWinIdeal (hMmGWinIdeal := hMmGWinIdeal)
    ∧ quiescent_MmGWinRefIdeal (hMmGWinRefIdeal := hMmGWinRefIdeal)
    ∧ quiescent_MmDH1 (hMmDH1 := hMmDH1)
    ∧ quiescent_MmDH1Ideal (hMmDH1Ideal := hMmDH1Ideal)
    ∧ quiescent_MmDH1RefIdeal (hMmDH1RefIdeal := hMmDH1RefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_MmWo (hMmWo := hMmWo)
    ∧ quiescent_MmWoIdeal (hMmWoIdeal := hMmWoIdeal)
    ∧ quiescent_MmWoRefIdeal (hMmWoRefIdeal := hMmWoRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmGAda (hMmGAda := hMmGAda)
    ∧ quiescent_MmGAdaIdeal (hMmGAdaIdeal := hMmGAdaIdeal)
    ∧ quiescent_MmGAdaRefIdeal (hMmGAdaRefIdeal := hMmGAdaRefIdeal)
    ∧ quiescent_ColSum (hColSum := hColSum)
    ∧ quiescent_ColSumIdeal (hColSumIdeal := hColSumIdeal)
    ∧ quiescent_ColSumRefIdeal (hColSumRefIdeal := hColSumRefIdeal)
    ∧ quiescent_Ln0Bwd (hLn0Bwd := hLn0Bwd)
    ∧ quiescent_Ln0BwdIdeal (hLn0BwdIdeal := hLn0BwdIdeal)
    ∧ quiescent_Ln0BwdRefIdeal (hLn0BwdRefIdeal := hLn0BwdRefIdeal)
    ∧ quiescent_Ln1Bwd (hLn1Bwd := hLn1Bwd)
    ∧ quiescent_Ln1BwdIdeal (hLn1BwdIdeal := hLn1BwdIdeal)
    ∧ quiescent_Ln1BwdRefIdeal (hLn1BwdRefIdeal := hLn1BwdRefIdeal)
    ∧ quiescent_Ln2LossBwd (hLn2LossBwd := hLn2LossBwd)
    ∧ quiescent_Ln2LossBwdIdeal (hLn2LossBwdIdeal := hLn2LossBwdIdeal)
    ∧ quiescent_Ln2LossBwdRefIdeal (hLn2LossBwdRefIdeal := hLn2LossBwdRefIdeal)
    ∧ quiescent_Ln0Fwd (hLn0Fwd := hLn0Fwd)
    ∧ quiescent_Ln0FwdIdeal (hLn0FwdIdeal := hLn0FwdIdeal)
    ∧ quiescent_Ln0FwdRefIdeal (hLn0FwdRefIdeal := hLn0FwdRefIdeal)
    ∧ quiescent_Ln1Fwd (hLn1Fwd := hLn1Fwd)
    ∧ quiescent_Ln1FwdIdeal (hLn1FwdIdeal := hLn1FwdIdeal)
    ∧ quiescent_Ln1FwdRefIdeal (hLn1FwdRefIdeal := hLn1FwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DnPreFwd (hDnPreFwd := hDnPreFwd)
    ∧ quiescent_DnPreFwdIdeal (hDnPreFwdIdeal := hDnPreFwdIdeal)
    ∧ quiescent_DnPreFwdRefIdeal (hDnPreFwdRefIdeal := hDnPreFwdRefIdeal)
    ∧ quiescent_WInPadded (hWInPadded := hWInPadded)
    ∧ quiescent_WInPaddedIdeal (hWInPaddedIdeal := hWInPaddedIdeal)
    ∧ quiescent_WInPaddedRefIdeal (hWInPaddedRefIdeal := hWInPaddedRefIdeal)
    ∧ quiescent_WInChips (hWInChips := hWInChips)
    ∧ quiescent_WInChipsIdeal (hWInChipsIdeal := hWInChipsIdeal)
    ∧ quiescent_WInChipsRefIdeal (hWInChipsRefIdeal := hWInChipsRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamWO (hAdamWO := hAdamWO)
    ∧ quiescent_AdamWOIdeal (hAdamWOIdeal := hAdamWOIdeal)
    ∧ quiescent_AdamWORefIdeal (hAdamWORefIdeal := hAdamWORefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamSmallA (hAdamSmallA := hAdamSmallA)
    ∧ quiescent_AdamSmallAIdeal (hAdamSmallAIdeal := hAdamSmallAIdeal)
    ∧ quiescent_AdamSmallARefIdeal (hAdamSmallARefIdeal := hAdamSmallARefIdeal)
    ∧ quiescent_AdamSmallB (hAdamSmallB := hAdamSmallB)
    ∧ quiescent_AdamSmallBIdeal (hAdamSmallBIdeal := hAdamSmallBIdeal)
    ∧ quiescent_AdamSmallBRefIdeal (hAdamSmallBRefIdeal := hAdamSmallBRefIdeal)
    ∧ quiescent_AdamSmallC (hAdamSmallC := hAdamSmallC)
    ∧ quiescent_AdamSmallCIdeal (hAdamSmallCIdeal := hAdamSmallCIdeal)
    ∧ quiescent_AdamSmallCRefIdeal (hAdamSmallCRefIdeal := hAdamSmallCRefIdeal)
    ∧ quiescent_AdamSmallD (hAdamSmallD := hAdamSmallD)
    ∧ quiescent_AdamSmallDIdeal (hAdamSmallDIdeal := hAdamSmallDIdeal)
    ∧ quiescent_AdamSmallDRefIdeal (hAdamSmallDRefIdeal := hAdamSmallDRefIdeal)
    ∧ quiescent_FfnBwd (hFfnBwd := hFfnBwd)
    ∧ quiescent_FfnBwdIdeal (hFfnBwdIdeal := hFfnBwdIdeal)
    ∧ quiescent_FfnBwdIdeal_pre_value_finite (hFfnBwdIdeal := hFfnBwdIdeal) (hPre_value_finite := hPre_value_finite)
    ∧ quiescent_FfnBwdRefIdeal (hFfnBwdRefIdeal := hFfnBwdRefIdeal)
    ∧ quiescent_FfnBwdRefIdeal_pre_value_finite (hFfnBwdRefIdeal := hFfnBwdRefIdeal) (hPre_value_finite := hPre_value_finite)
    ∧ quiescent_DnPreBwd (hDnPreBwd := hDnPreBwd)
    ∧ quiescent_DnPreBwdIdeal (hDnPreBwdIdeal := hDnPreBwdIdeal)
    ∧ quiescent_DnPreBwdIdeal_pre_given_finite (hDnPreBwdIdeal := hDnPreBwdIdeal) (hPre_given_finite := hPre_given_finite)
    ∧ quiescent_DnPreBwdRefIdeal (hDnPreBwdRefIdeal := hDnPreBwdRefIdeal)
    ∧ quiescent_DnPreBwdRefIdeal_pre_given_finite (hDnPreBwdRefIdeal := hDnPreBwdRefIdeal) (hPre_given_finite := hPre_given_finite)
    ∧ quiescent_PairAddWUp (hPairAddWUp := hPairAddWUp) (hPre_a_core_w_up := hPre_a_core_w_up)
    ∧ quiescent_PairAddWUpIdeal (hPairAddWUpIdeal := hPairAddWUpIdeal) (hPre_a_core_w_up := hPre_a_core_w_up)
    ∧ quiescent_PairAddWUpRefIdeal (hPairAddWUpRefIdeal := hPairAddWUpRefIdeal)
    ∧ quiescent_PairAddWUpRefIdeal_pre_a_core_w_up (hPairAddWUpRefIdeal := hPairAddWUpRefIdeal) (hPre_a_core_w_up := hPre_a_core_w_up)
    ∧ quiescent_PairAddWDown (hPairAddWDown := hPairAddWDown) (hPre_a_core_w_down := hPre_a_core_w_down)
    ∧ quiescent_PairAddWDownIdeal (hPairAddWDownIdeal := hPairAddWDownIdeal) (hPre_a_core_w_down := hPre_a_core_w_down)
    ∧ quiescent_PairAddWDownRefIdeal (hPairAddWDownRefIdeal := hPairAddWDownRefIdeal)
    ∧ quiescent_PairAddWDownRefIdeal_pre_a_core_w_down (hPairAddWDownRefIdeal := hPairAddWDownRefIdeal) (hPre_a_core_w_down := hPre_a_core_w_down)
    ∧ quiescent_PairAddWO (hPairAddWO := hPairAddWO) (hPre_a_core_w_o := hPre_a_core_w_o)
    ∧ quiescent_PairAddWOIdeal (hPairAddWOIdeal := hPairAddWOIdeal) (hPre_a_core_w_o := hPre_a_core_w_o)
    ∧ quiescent_PairAddWORefIdeal (hPairAddWORefIdeal := hPairAddWORefIdeal)
    ∧ quiescent_PairAddWORefIdeal_pre_a_core_w_o (hPairAddWORefIdeal := hPairAddWORefIdeal) (hPre_a_core_w_o := hPre_a_core_w_o)
    ∧ quiescent_PairAddWIn (hPairAddWIn := hPairAddWIn) (hPre_a_core_w_in := hPre_a_core_w_in)
    ∧ quiescent_PairAddWInIdeal (hPairAddWInIdeal := hPairAddWInIdeal) (hPre_a_core_w_in := hPre_a_core_w_in)
    ∧ quiescent_PairAddWInRefIdeal (hPairAddWInRefIdeal := hPairAddWInRefIdeal)
    ∧ quiescent_PairAddWInRefIdeal_pre_a_core_w_in (hPairAddWInRefIdeal := hPairAddWInRefIdeal) (hPre_a_core_w_in := hPre_a_core_w_in)
    ∧ quiescent_PlaceOwnWUp (hPlaceOwnWUp := hPlaceOwnWUp) (hPre_a_chip_w_up := hPre_a_chip_w_up)
    ∧ quiescent_PlaceOwnWUpIdeal (hPlaceOwnWUpIdeal := hPlaceOwnWUpIdeal) (hPre_a_chip_w_up := hPre_a_chip_w_up)
    ∧ quiescent_PlaceOwnWUpRefIdeal (hPlaceOwnWUpRefIdeal := hPlaceOwnWUpRefIdeal)
    ∧ quiescent_PlaceOwnWUpRefIdeal_pre_a_chip_w_up (hPlaceOwnWUpRefIdeal := hPlaceOwnWUpRefIdeal) (hPre_a_chip_w_up := hPre_a_chip_w_up)
    ∧ quiescent_PlaceOwnWDown (hPlaceOwnWDown := hPlaceOwnWDown) (hPre_a_chip_w_down := hPre_a_chip_w_down)
    ∧ quiescent_PlaceOwnWDownIdeal (hPlaceOwnWDownIdeal := hPlaceOwnWDownIdeal) (hPre_a_chip_w_down := hPre_a_chip_w_down)
    ∧ quiescent_PlaceOwnWDownRefIdeal (hPlaceOwnWDownRefIdeal := hPlaceOwnWDownRefIdeal)
    ∧ quiescent_PlaceOwnWDownRefIdeal_pre_a_chip_w_down (hPlaceOwnWDownRefIdeal := hPlaceOwnWDownRefIdeal) (hPre_a_chip_w_down := hPre_a_chip_w_down)
    ∧ quiescent_PlaceOwnWO (hPlaceOwnWO := hPlaceOwnWO) (hPre_a_chip_w_o := hPre_a_chip_w_o)
    ∧ quiescent_PlaceOwnWOIdeal (hPlaceOwnWOIdeal := hPlaceOwnWOIdeal) (hPre_a_chip_w_o := hPre_a_chip_w_o)
    ∧ quiescent_PlaceOwnWORefIdeal (hPlaceOwnWORefIdeal := hPlaceOwnWORefIdeal)
    ∧ quiescent_PlaceOwnWORefIdeal_pre_a_chip_w_o (hPlaceOwnWORefIdeal := hPlaceOwnWORefIdeal) (hPre_a_chip_w_o := hPre_a_chip_w_o)
    ∧ quiescent_PlaceOwnWIn (hPlaceOwnWIn := hPlaceOwnWIn) (hPre_a_chip_w_in := hPre_a_chip_w_in)
    ∧ quiescent_PlaceOwnWInIdeal (hPlaceOwnWInIdeal := hPlaceOwnWInIdeal) (hPre_a_chip_w_in := hPre_a_chip_w_in)
    ∧ quiescent_PlaceOwnWInRefIdeal (hPlaceOwnWInRefIdeal := hPlaceOwnWInRefIdeal)
    ∧ quiescent_PlaceOwnWInRefIdeal_pre_a_chip_w_in (hPlaceOwnWInRefIdeal := hPlaceOwnWInRefIdeal) (hPre_a_chip_w_in := hPre_a_chip_w_in)
    ∧ quiescent_ChipAddWUp (hChipAddWUp := hChipAddWUp) (hPre_a_place_w_up := hPre_a_place_w_up)
    ∧ quiescent_ChipAddWUpIdeal (hChipAddWUpIdeal := hChipAddWUpIdeal) (hPre_a_place_w_up := hPre_a_place_w_up)
    ∧ quiescent_ChipAddWUpRefIdeal (hChipAddWUpRefIdeal := hChipAddWUpRefIdeal)
    ∧ quiescent_ChipAddWUpRefIdeal_pre_a_place_w_up (hChipAddWUpRefIdeal := hChipAddWUpRefIdeal) (hPre_a_place_w_up := hPre_a_place_w_up)
    ∧ quiescent_ChipAddWDown (hChipAddWDown := hChipAddWDown) (hPre_a_place_w_down := hPre_a_place_w_down)
    ∧ quiescent_ChipAddWDownIdeal (hChipAddWDownIdeal := hChipAddWDownIdeal) (hPre_a_place_w_down := hPre_a_place_w_down)
    ∧ quiescent_ChipAddWDownRefIdeal (hChipAddWDownRefIdeal := hChipAddWDownRefIdeal)
    ∧ quiescent_ChipAddWDownRefIdeal_pre_a_place_w_down (hChipAddWDownRefIdeal := hChipAddWDownRefIdeal) (hPre_a_place_w_down := hPre_a_place_w_down)
    ∧ quiescent_ChipAddWO (hChipAddWO := hChipAddWO) (hPre_a_place_w_o := hPre_a_place_w_o)
    ∧ quiescent_ChipAddWOIdeal (hChipAddWOIdeal := hChipAddWOIdeal) (hPre_a_place_w_o := hPre_a_place_w_o)
    ∧ quiescent_ChipAddWORefIdeal (hChipAddWORefIdeal := hChipAddWORefIdeal)
    ∧ quiescent_ChipAddWORefIdeal_pre_a_place_w_o (hChipAddWORefIdeal := hChipAddWORefIdeal) (hPre_a_place_w_o := hPre_a_place_w_o)
    ∧ quiescent_ChipAddWIn (hChipAddWIn := hChipAddWIn) (hPre_a_place_w_in := hPre_a_place_w_in)
    ∧ quiescent_ChipAddWInIdeal (hChipAddWInIdeal := hChipAddWInIdeal) (hPre_a_place_w_in := hPre_a_place_w_in)
    ∧ quiescent_ChipAddWInRefIdeal (hChipAddWInRefIdeal := hChipAddWInRefIdeal)
    ∧ quiescent_ChipAddWInRefIdeal_pre_a_place_w_in (hChipAddWInRefIdeal := hChipAddWInRefIdeal) (hPre_a_place_w_in := hPre_a_place_w_in)
    ∧ preserves_MmGDown_MmGDownIdeal
    ∧ algebraic_MmGDownIdeal_MmGDownRefIdeal (hMmGDownIdeal := hMmGDownIdeal) (hMmGDownRefIdeal := hMmGDownRefIdeal)
    ∧ preserves_MmDAct_MmDActIdeal
    ∧ algebraic_MmDActIdeal_MmDActRefIdeal (hMmDActIdeal := hMmDActIdeal) (hMmDActRefIdeal := hMmDActRefIdeal)
    ∧ preserves_MmGUp_MmGUpIdeal
    ∧ algebraic_MmGUpIdeal_MmGUpRefIdeal (hMmGUpIdeal := hMmGUpIdeal) (hMmGUpRefIdeal := hMmGUpRefIdeal)
    ∧ preserves_MmDH2_MmDH2Ideal
    ∧ algebraic_MmDH2Ideal_MmDH2RefIdeal (hMmDH2Ideal := hMmDH2Ideal) (hMmDH2RefIdeal := hMmDH2RefIdeal)
    ∧ preserves_MmGWo_MmGWoIdeal
    ∧ algebraic_MmGWoIdeal_MmGWoRefIdeal (hMmGWoIdeal := hMmGWoIdeal) (hMmGWoRefIdeal := hMmGWoRefIdeal)
    ∧ preserves_MmDO_MmDOIdeal
    ∧ algebraic_MmDOIdeal_MmDORefIdeal (hMmDOIdeal := hMmDOIdeal) (hMmDORefIdeal := hMmDORefIdeal)
    ∧ preserves_MmGWin_MmGWinIdeal
    ∧ algebraic_MmGWinIdeal_MmGWinRefIdeal (hMmGWinIdeal := hMmGWinIdeal) (hMmGWinRefIdeal := hMmGWinRefIdeal)
    ∧ preserves_MmDH1_MmDH1Ideal
    ∧ algebraic_MmDH1Ideal_MmDH1RefIdeal (hMmDH1Ideal := hMmDH1Ideal) (hMmDH1RefIdeal := hMmDH1RefIdeal)
    ∧ preserves_MmProj_MmProjIdeal
    ∧ algebraic_MmProjIdeal_MmProjRefIdeal (hMmProjIdeal := hMmProjIdeal) (hMmProjRefIdeal := hMmProjRefIdeal)
    ∧ preserves_MmWo_MmWoIdeal
    ∧ algebraic_MmWoIdeal_MmWoRefIdeal (hMmWoIdeal := hMmWoIdeal) (hMmWoRefIdeal := hMmWoRefIdeal)
    ∧ preserves_MmUp_MmUpIdeal
    ∧ algebraic_MmUpIdeal_MmUpRefIdeal (hMmUpIdeal := hMmUpIdeal) (hMmUpRefIdeal := hMmUpRefIdeal)
    ∧ preserves_MmDown_MmDownIdeal
    ∧ algebraic_MmDownIdeal_MmDownRefIdeal (hMmDownIdeal := hMmDownIdeal) (hMmDownRefIdeal := hMmDownRefIdeal)
    ∧ preserves_MmGAda_MmGAdaIdeal
    ∧ algebraic_MmGAdaIdeal_MmGAdaRefIdeal (hMmGAdaIdeal := hMmGAdaIdeal) (hMmGAdaRefIdeal := hMmGAdaRefIdeal)
    ∧ preserves_ColSum_ColSumIdeal
    ∧ algebraic_ColSumIdeal_ColSumRefIdeal (hColSumIdeal := hColSumIdeal) (hColSumRefIdeal := hColSumRefIdeal)
    ∧ preserves_Ln0Bwd_Ln0BwdIdeal
    ∧ algebraic_Ln0BwdIdeal_Ln0BwdRefIdeal (hLn0BwdIdeal := hLn0BwdIdeal) (hLn0BwdRefIdeal := hLn0BwdRefIdeal)
    ∧ preserves_Ln1Bwd_Ln1BwdIdeal
    ∧ algebraic_Ln1BwdIdeal_Ln1BwdRefIdeal (hLn1BwdIdeal := hLn1BwdIdeal) (hLn1BwdRefIdeal := hLn1BwdRefIdeal)
    ∧ preserves_Ln2LossBwd_Ln2LossBwdIdeal
    ∧ algebraic_Ln2LossBwdIdeal_Ln2LossBwdRefIdeal (hLn2LossBwdIdeal := hLn2LossBwdIdeal) (hLn2LossBwdRefIdeal := hLn2LossBwdRefIdeal)
    ∧ preserves_Ln0Fwd_Ln0FwdIdeal
    ∧ algebraic_Ln0FwdIdeal_Ln0FwdRefIdeal (hLn0FwdIdeal := hLn0FwdIdeal) (hLn0FwdRefIdeal := hLn0FwdRefIdeal)
    ∧ preserves_Ln1Fwd_Ln1FwdIdeal
    ∧ algebraic_Ln1FwdIdeal_Ln1FwdRefIdeal (hLn1FwdIdeal := hLn1FwdIdeal) (hLn1FwdRefIdeal := hLn1FwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DnPreFwd_DnPreFwdIdeal
    ∧ algebraic_DnPreFwdIdeal_DnPreFwdRefIdeal (hDnPreFwdIdeal := hDnPreFwdIdeal) (hDnPreFwdRefIdeal := hDnPreFwdRefIdeal)
    ∧ preserves_WInPadded_WInPaddedIdeal
    ∧ algebraic_WInPaddedIdeal_WInPaddedRefIdeal (hWInPaddedIdeal := hWInPaddedIdeal) (hWInPaddedRefIdeal := hWInPaddedRefIdeal)
    ∧ preserves_WInChips_WInChipsIdeal
    ∧ algebraic_WInChipsIdeal_WInChipsRefIdeal (hWInChipsIdeal := hWInChipsIdeal) (hWInChipsRefIdeal := hWInChipsRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamWO_AdamWOIdeal
    ∧ algebraic_AdamWOIdeal_AdamWORefIdeal (hAdamWOIdeal := hAdamWOIdeal) (hAdamWORefIdeal := hAdamWORefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamWin_AdamWinIdeal
    ∧ algebraic_AdamWinIdeal_AdamWinRefIdeal (hAdamWinIdeal := hAdamWinIdeal) (hAdamWinRefIdeal := hAdamWinRefIdeal)
    ∧ preserves_AdamSmallA_AdamSmallAIdeal
    ∧ algebraic_AdamSmallAIdeal_AdamSmallARefIdeal (hAdamSmallAIdeal := hAdamSmallAIdeal) (hAdamSmallARefIdeal := hAdamSmallARefIdeal)
    ∧ preserves_AdamSmallB_AdamSmallBIdeal
    ∧ algebraic_AdamSmallBIdeal_AdamSmallBRefIdeal (hAdamSmallBIdeal := hAdamSmallBIdeal) (hAdamSmallBRefIdeal := hAdamSmallBRefIdeal)
    ∧ preserves_AdamSmallC_AdamSmallCIdeal
    ∧ algebraic_AdamSmallCIdeal_AdamSmallCRefIdeal (hAdamSmallCIdeal := hAdamSmallCIdeal) (hAdamSmallCRefIdeal := hAdamSmallCRefIdeal)
    ∧ preserves_AdamSmallD_AdamSmallDIdeal
    ∧ algebraic_AdamSmallDIdeal_AdamSmallDRefIdeal (hAdamSmallDIdeal := hAdamSmallDIdeal) (hAdamSmallDRefIdeal := hAdamSmallDRefIdeal)
    ∧ preserves_FfnBwd_FfnBwdIdeal
    ∧ algebraic_FfnBwdIdeal_FfnBwdRefIdeal_pre_value_finite (hFfnBwdIdeal := hFfnBwdIdeal) (hFfnBwdRefIdeal := hFfnBwdRefIdeal) (hPre_value_finite := hPre_value_finite)
    ∧ preserves_DnPreBwd_DnPreBwdIdeal
    ∧ algebraic_DnPreBwdIdeal_DnPreBwdRefIdeal_pre_given_finite (hDnPreBwdIdeal := hDnPreBwdIdeal) (hDnPreBwdRefIdeal := hDnPreBwdRefIdeal) (hPre_given_finite := hPre_given_finite)
    ∧ preserves_PairAddWUp_PairAddWUpIdeal
    ∧ algebraic_PairAddWUpIdeal_PairAddWUpRefIdeal (hPairAddWUpIdeal := hPairAddWUpIdeal) (hPairAddWUpRefIdeal := hPairAddWUpRefIdeal) (hPre_a_core_w_up := hPre_a_core_w_up)
    ∧ preserves_PairAddWDown_PairAddWDownIdeal
    ∧ algebraic_PairAddWDownIdeal_PairAddWDownRefIdeal (hPairAddWDownIdeal := hPairAddWDownIdeal) (hPairAddWDownRefIdeal := hPairAddWDownRefIdeal) (hPre_a_core_w_down := hPre_a_core_w_down)
    ∧ preserves_PairAddWO_PairAddWOIdeal
    ∧ algebraic_PairAddWOIdeal_PairAddWORefIdeal (hPairAddWOIdeal := hPairAddWOIdeal) (hPairAddWORefIdeal := hPairAddWORefIdeal) (hPre_a_core_w_o := hPre_a_core_w_o)
    ∧ preserves_PairAddWIn_PairAddWInIdeal
    ∧ algebraic_PairAddWInIdeal_PairAddWInRefIdeal (hPairAddWInIdeal := hPairAddWInIdeal) (hPairAddWInRefIdeal := hPairAddWInRefIdeal) (hPre_a_core_w_in := hPre_a_core_w_in)
    ∧ preserves_PlaceOwnWUp_PlaceOwnWUpIdeal
    ∧ algebraic_PlaceOwnWUpIdeal_PlaceOwnWUpRefIdeal (hPlaceOwnWUpIdeal := hPlaceOwnWUpIdeal) (hPlaceOwnWUpRefIdeal := hPlaceOwnWUpRefIdeal) (hPre_a_chip_w_up := hPre_a_chip_w_up)
    ∧ preserves_PlaceOwnWDown_PlaceOwnWDownIdeal
    ∧ algebraic_PlaceOwnWDownIdeal_PlaceOwnWDownRefIdeal (hPlaceOwnWDownIdeal := hPlaceOwnWDownIdeal) (hPlaceOwnWDownRefIdeal := hPlaceOwnWDownRefIdeal) (hPre_a_chip_w_down := hPre_a_chip_w_down)
    ∧ preserves_PlaceOwnWO_PlaceOwnWOIdeal
    ∧ algebraic_PlaceOwnWOIdeal_PlaceOwnWORefIdeal (hPlaceOwnWOIdeal := hPlaceOwnWOIdeal) (hPlaceOwnWORefIdeal := hPlaceOwnWORefIdeal) (hPre_a_chip_w_o := hPre_a_chip_w_o)
    ∧ preserves_PlaceOwnWIn_PlaceOwnWInIdeal
    ∧ algebraic_PlaceOwnWInIdeal_PlaceOwnWInRefIdeal (hPlaceOwnWInIdeal := hPlaceOwnWInIdeal) (hPlaceOwnWInRefIdeal := hPlaceOwnWInRefIdeal) (hPre_a_chip_w_in := hPre_a_chip_w_in)
    ∧ preserves_ChipAddWUp_ChipAddWUpIdeal
    ∧ algebraic_ChipAddWUpIdeal_ChipAddWUpRefIdeal (hChipAddWUpIdeal := hChipAddWUpIdeal) (hChipAddWUpRefIdeal := hChipAddWUpRefIdeal) (hPre_a_place_w_up := hPre_a_place_w_up)
    ∧ preserves_ChipAddWDown_ChipAddWDownIdeal
    ∧ algebraic_ChipAddWDownIdeal_ChipAddWDownRefIdeal (hChipAddWDownIdeal := hChipAddWDownIdeal) (hChipAddWDownRefIdeal := hChipAddWDownRefIdeal) (hPre_a_place_w_down := hPre_a_place_w_down)
    ∧ preserves_ChipAddWO_ChipAddWOIdeal
    ∧ algebraic_ChipAddWOIdeal_ChipAddWORefIdeal (hChipAddWOIdeal := hChipAddWOIdeal) (hChipAddWORefIdeal := hChipAddWORefIdeal) (hPre_a_place_w_o := hPre_a_place_w_o)
    ∧ preserves_ChipAddWIn_ChipAddWInIdeal
    ∧ algebraic_ChipAddWInIdeal_ChipAddWInRefIdeal (hChipAddWInIdeal := hChipAddWInIdeal) (hChipAddWInRefIdeal := hChipAddWInRefIdeal) (hPre_a_place_w_in := hPre_a_place_w_in)
-- ==== Pre_a_chip_w_down.lean ====
abbrev S_ : Shape := ⟨0, ![]⟩
abbrev S4x2x352x1024 : Shape := ⟨4, ![4, 2, 352, 1024]⟩
abbrev S2x352x1024 : Shape := ⟨3, ![2, 352, 1024]⟩

class Facts : Prop where

variable [Facts]

def fn {F : FTy → Type} [FloatOps F] (main_arg0 : IVec S_ 32) (main_arg1 : FVec F S4x2x352x1024 .bf16) (main_arg2 : FVec F S2x352x1024 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_a_chip_w_in.lean ====
abbrev S_ : Shape := ⟨0, ![]⟩
abbrev S4x2x512x902 : Shape := ⟨4, ![4, 2, 512, 902]⟩
abbrev S2x512x902 : Shape := ⟨3, ![2, 512, 902]⟩

class Facts : Prop where

variable [Facts]

def fn {F : FTy → Type} [FloatOps F] (main_arg0 : IVec S_ 32) (main_arg1 : FVec F S4x2x512x902 .bf16) (main_arg2 : FVec F S2x512x902 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_a_chip_w_o.lean ====
abbrev S_ : Shape := ⟨0, ![]⟩
abbrev S4x2x128x1024 : Shape := ⟨4, ![4, 2, 128, 1024]⟩
abbrev S2x128x1024 : Shape := ⟨3, ![2, 128, 1024]⟩

class Facts : Prop where

variable [Facts]

def fn {F : FTy → Type} [FloatOps F] (main_arg0 : IVec S_ 32) (main_arg1 : FVec F S4x2x128x1024 .bf16) (main_arg2 : FVec F S2x128x1024 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_a_chip_w_up.lean ====
abbrev S_ : Shape := ⟨0, ![]⟩
abbrev S4x2x512x1408 : Shape := ⟨4, ![4, 2, 512, 1408]⟩
abbrev S2x512x1408 : Shape := ⟨3, ![2, 512, 1408]⟩

class Facts : Prop where

variable [Facts]

def fn {F : FTy → Type} [FloatOps F] (main_arg0 : IVec S_ 32) (main_arg1 : FVec F S4x2x512x1408 .bf16) (main_arg2 : FVec F S2x512x1408 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_a_core_w_down.lean ====
abbrev S_ : Shape := ⟨0, ![]⟩
abbrev S4x2x352x1024 : Shape := ⟨4, ![4, 2, 352, 1024]⟩
abbrev S4x352x1024 : Shape := ⟨3, ![4, 352, 1024]⟩

class Facts : Prop where

variable [Facts]

def fn {F : FTy → Type} [FloatOps F] (main_arg0 : IVec S_ 32) (main_arg1 : FVec F S4x2x352x1024 .f32) (main_arg2 : FVec F S4x352x1024 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_a_core_w_in.lean ====
abbrev S_ : Shape := ⟨0, ![]⟩
abbrev S4x2x512x902 : Shape := ⟨4, ![4, 2, 512, 902]⟩
abbrev S4x512x902 : Shape := ⟨3, ![4, 512, 902]⟩

class Facts : Prop where

variable [Facts]

def fn {F : FTy → Type} [FloatOps F] (main_arg0 : IVec S_ 32) (main_arg1 : FVec F S4x2x512x902 .f32) (main_arg2 : FVec F S4x512x902 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_a_core_w_o.lean ====
abbrev S_ : Shape := ⟨0, ![]⟩
abbrev S4x2x128x1024 : Shape := ⟨4, ![4, 2, 128, 1024]⟩
abbrev S4x128x1024 : Shape := ⟨3, ![4, 128, 1024]⟩

class Facts : Prop where

variable [Facts]

def fn {F : FTy → Type} [FloatOps F] (main_arg0 : IVec S_ 32) (main_arg1 : FVec F S4x2x128x1024 .f32) (main_arg2 : FVec F S4x128x1024 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_a_core_w_up.lean ====
abbrev S_ : Shape := ⟨0, ![]⟩
abbrev S4x2x512x1408 : Shape := ⟨4, ![4, 2, 512, 1408]⟩
abbrev S4x512x1408 : Shape := ⟨3, ![4, 512, 1408]⟩

class Facts : Prop where

variable [Facts]

def fn {F : FTy → Type} [FloatOps F] (main_arg0 : IVec S_ 32) (main_arg1 : FVec F S4x2x512x1408 .f32) (main_arg2 : FVec F S4x512x1408 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_a_place_w_down.lean ====
abbrev S_ : Shape := ⟨0, ![]⟩
abbrev S4x352x1024 : Shape := ⟨3, ![4, 352, 1024]⟩
abbrev S3x352x1024 : Shape := ⟨3, ![3, 352, 1024]⟩

class Facts : Prop where

variable [Facts]

def fn {F : FTy → Type} [FloatOps F] (main_arg0 : IVec S_ 32) (main_arg1 : IVec S_ 32) (main_arg2 : FVec F S4x352x1024 .bf16) (main_arg3 : FVec F S3x352x1024 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  let main_c_1 : IVec S_ 32 := constantI S_ 32 0#32
  let main_v3 : IVec S_ 1 := cmpi .sge main_arg1 main_c_1
  let main_v4 : IVec S_ 1 := andi main_v2 main_v3
  let main_c_2 : IVec S_ 32 := constantI S_ 32 2#32
  let main_v5 : IVec S_ 1 := cmpi .slt main_arg1 main_c_2
  let main_v6 : IVec S_ 1 := andi main_v4 main_v5
  main_v6
-- ==== Pre_a_place_w_in.lean ====
abbrev S_ : Shape := ⟨0, ![]⟩
abbrev S4x512x902 : Shape := ⟨3, ![4, 512, 902]⟩
abbrev S3x512x902 : Shape := ⟨3, ![3, 512, 902]⟩

class Facts : Prop where

variable [Facts]

def fn {F : FTy → Type} [FloatOps F] (main_arg0 : IVec S_ 32) (main_arg1 : IVec S_ 32) (main_arg2 : FVec F S4x512x902 .bf16) (main_arg3 : FVec F S3x512x902 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  let main_c_1 : IVec S_ 32 := constantI S_ 32 0#32
  let main_v3 : IVec S_ 1 := cmpi .sge main_arg1 main_c_1
  let main_v4 : IVec S_ 1 := andi main_v2 main_v3
  let main_c_2 : IVec S_ 32 := constantI S_ 32 2#32
  let main_v5 : IVec S_ 1 := cmpi .slt main_arg1 main_c_2
  let main_v6 : IVec S_ 1 := andi main_v4 main_v5
  main_v6
-- ==== Pre_a_place_w_o.lean ====
abbrev S_ : Shape := ⟨0, ![]⟩
abbrev S4x128x1024 : Shape := ⟨3, ![4, 128, 1024]⟩
abbrev S3x128x1024 : Shape := ⟨3, ![3, 128, 1024]⟩

class Facts : Prop where

variable [Facts]

def fn {F : FTy → Type} [FloatOps F] (main_arg0 : IVec S_ 32) (main_arg1 : IVec S_ 32) (main_arg2 : FVec F S4x128x1024 .bf16) (main_arg3 : FVec F S3x128x1024 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  let main_c_1 : IVec S_ 32 := constantI S_ 32 0#32
  let main_v3 : IVec S_ 1 := cmpi .sge main_arg1 main_c_1
  let main_v4 : IVec S_ 1 := andi main_v2 main_v3
  let main_c_2 : IVec S_ 32 := constantI S_ 32 2#32
  let main_v5 : IVec S_ 1 := cmpi .slt main_arg1 main_c_2
  let main_v6 : IVec S_ 1 := andi main_v4 main_v5
  main_v6
-- ==== Pre_a_place_w_up.lean ====
abbrev S_ : Shape := ⟨0, ![]⟩
abbrev S4x512x1408 : Shape := ⟨3, ![4, 512, 1408]⟩
abbrev S3x512x1408 : Shape := ⟨3, ![3, 512, 1408]⟩

class Facts : Prop where

variable [Facts]

def fn {F : FTy → Type} [FloatOps F] (main_arg0 : IVec S_ 32) (main_arg1 : IVec S_ 32) (main_arg2 : FVec F S4x512x1408 .bf16) (main_arg3 : FVec F S3x512x1408 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  let main_c_1 : IVec S_ 32 := constantI S_ 32 0#32
  let main_v3 : IVec S_ 1 := cmpi .sge main_arg1 main_c_1
  let main_v4 : IVec S_ 1 := andi main_v2 main_v3
  let main_c_2 : IVec S_ 32 := constantI S_ 32 2#32
  let main_v5 : IVec S_ 1 := cmpi .slt main_arg1 main_c_2
  let main_v6 : IVec S_ 1 := andi main_v4 main_v5
  main_v6
-- ==== Pre_given_finite.lean ====
abbrev S4096x3840 : Shape := ⟨2, ![4096, 3840]⟩
abbrev S4x1536 : Shape := ⟨2, ![4, 1536]⟩
abbrev S4096x1536 : Shape := ⟨2, ![4096, 1536]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x3840 .f32) (main_arg1 : FVec F S4x1536 .f32) (main_arg2 : FVec F S4096x1536 .f32) (main_arg3 : FVec F S4096x3840 .bf16) : IVec S4096x1536 1 :=
  let main_v0 : FVec F S4096x1536 .f32 := Host.absf main_arg2
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Pre_value_finite.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S1x2816 : Shape := ⟨2, ![1, 2816]⟩
abbrev S_ : Shape := ⟨0, ![]⟩

class Facts : Prop where
  slices_S3x5632_S1x2816_0_2816 : S3x5632.Slices ![0, 2816] S1x2816
  bcast_S_S1x2816 : S_.BroadcastsInDim S1x2816 (![] : Fin 0 → Fin S1x2816.rank)
  slices_S3x5632_S1x2816_1_2816 : S3x5632.Slices ![1, 2816] S1x2816
  slices_S3x5632_S1x2816_2_2816 : S3x5632.Slices ![2, 2816] S1x2816
  slices_S4096x5632_S4096x2816_0_2816 : S4096x5632.Slices ![0, 2816] S4096x2816
  bcast_S_S4096x2816 : S_.BroadcastsInDim S4096x2816 (![] : Fin 0 → Fin S4096x2816.rank)
  slices_S1x5632_S1x2816_0_2816 : S1x5632.Slices ![0, 2816] S1x2816
  bcast_S1x2816_S4096x2816_0_1 : S1x2816.BroadcastsInDim S4096x2816 (![0, 1] : Fin 2 → Fin S4096x2816.rank)

variable [Facts]

def fn_part1 {F : FTy → Type} [FloatOps F] (main_arg2 : FVec F S1x5632 .f32) (main_v13 : IVec S1x2816 1) (main_v17 : IVec S4096x2816 1) (main_v18 : FVec F S4096x2816 .f32) (main_cst_3 : FVec F S_ .f32) : IVec S4096x2816 1 :=
  let main_v19 : FVec F S4096x2816 .f32 := broadcastInDim S4096x2816 ![] bcast_S_S4096x2816 main_cst_3
  let main_v20 : IVec S4096x2816 1 := cmpf .olt main_v18 main_v19
  let main_v21 : IVec S4096x2816 1 := andi main_v17 main_v20
  let main_v22 : FVec F S1x2816 .f32 := (extractStridedSlice S1x2816 ![0, 2816] · slices_S1x5632_S1x2816_0_2816) main_arg2
  let main_v23 : FVec F S1x2816 .f32 := Host.absf main_v22
  let main_cst_4 : FVec F S_ .f32 := constant S_ .f32 0x7F800000#32
  let main_v24 : FVec F S1x2816 .f32 := broadcastInDim S1x2816 ![] bcast_S_S1x2816 main_cst_4
  let main_v25 : IVec S1x2816 1 := cmpf .olt main_v23 main_v24
  let main_v26 : IVec S1x2816 1 := andi main_v13 main_v25
  let main_v27 : IVec S4096x2816 1 := broadcastInDim S4096x2816 ![0, 1] bcast_S1x2816_S4096x2816_0_1 main_v26
  let main_v28 : IVec S4096x2816 1 := andi main_v21 main_v27
  main_v28

def fn {F : FTy → Type} [FloatOps F] (main_arg0 : FVec F S4096x5632 .f32) (main_arg1 : FVec F S3x5632 .f32) (main_arg2 : FVec F S1x5632 .f32) (main_arg3 : FVec F S4096x2816 .f32) : IVec S4096x2816 1 :=
  let main_v0 : FVec F S1x2816 .f32 := (extractStridedSlice S1x2816 ![0, 2816] · slices_S3x5632_S1x2816_0_2816) main_arg1
  let main_v1 : FVec F S1x2816 .f32 := Host.absf main_v0
  let main_cst : FVec F S_ .f32 := constant S_ .f32 0x7F800000#32
  let main_v2 : FVec F S1x2816 .f32 := broadcastInDim S1x2816 ![] bcast_S_S1x2816 main_cst
  let main_v3 : IVec S1x2816 1 := cmpf .olt main_v1 main_v2
  let main_v4 : FVec F S1x2816 .f32 := (extractStridedSlice S1x2816 ![1, 2816] · slices_S3x5632_S1x2816_1_2816) main_arg1
  let main_v5 : FVec F S1x2816 .f32 := Host.absf main_v4
  let main_cst_0 : FVec F S_ .f32 := constant S_ .f32 0x7F800000#32
  let main_v6 : FVec F S1x2816 .f32 := broadcastInDim S1x2816 ![] bcast_S_S1x2816 main_cst_0
  let main_v7 : IVec S1x2816 1 := cmpf .olt main_v5 main_v6
  let main_v8 : IVec S1x2816 1 := andi main_v3 main_v7
  let main_v9 : FVec F S1x2816 .f32 := (extractStridedSlice S1x2816 ![2, 2816] · slices_S3x5632_S1x2816_2_2816) main_arg1
  let main_v10 : FVec F S1x2816 .f32 := Host.absf main_v9
  let main_cst_1 : FVec F S_ .f32 := constant S_ .f32 0x7F800000#32
  let main_v11 : FVec F S1x2816 .f32 := broadcastInDim S1x2816 ![] bcast_S_S1x2816 main_cst_1
  let main_v12 : IVec S1x2816 1 := cmpf .olt main_v10 main_v11
  let main_v13 : IVec S1x2816 1 := andi main_v8 main_v12
  let main_v14 : FVec F S4096x2816 .f32 := (extractStridedSlice S4096x2816 ![0, 2816] · slices_S4096x5632_S4096x2816_0_2816) main_arg0
  let main_v15 : FVec F S4096x2816 .f32 := Host.absf main_v14
  let main_cst_2 : FVec F S_ .f32 := constant S_ .f32 0x7F800000#32
  let main_v16 : FVec F S4096x2816 .f32 := broadcastInDim S4096x2816 ![] bcast_S_S4096x2816 main_cst_2
  let main_v17 : IVec S4096x2816 1 := cmpf .olt main_v15 main_v16
  let main_v18 : FVec F S4096x2816 .f32 := Host.absf main_arg3
  let main_cst_3 : FVec F S_ .f32 := constant S_ .f32 0x7F800000#32
  fn_part1 (F := F) main_arg2 main_v13 main_v17 main_v18 main_cst_3
-- ==== MmGDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGDownIdeal.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGDownRefIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDActIdeal.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDActRefIdeal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmGUp.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGUpIdeal.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGUpRefIdeal.lean ====
abbrev S4096x1024 : Shape := ⟨2, ![4096, 1024]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S5632x1024 : Shape := ⟨2, ![5632, 1024]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x2x2816, .bf16⟩
  | .hbm, ⟨3, _⟩ => ⟨S4096x5632, .bf16⟩
  | .hbm, ⟨4, _⟩ => ⟨S4096x1024, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S1024x4x1408, .f32⟩
  | .hbm, ⟨9, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MmDH2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDH2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDH2RefIdeal.lean ====
abbrev S2x4096x2816 : Shape := ⟨3, ![2, 4096, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x2x2816 : Shape := ⟨3, ![4096, 2, 2816]⟩
abbrev S4096x5632 : Shape := ⟨2, ![4096, 5632]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S4096x2x2816, .bf16⟩
  | .hbm, ⟨5, _⟩ => ⟨S4096x5632, .bf16⟩
  | .hbm, ⟨6, _⟩ => ⟨S1024x5632, .f32⟩
  | .hbm, ⟨7, _⟩ => ⟨S4096x5632, .f32⟩
  | .hbm, ⟨8, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MmGWo.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmGWoIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmGWoRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDO.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDOIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDORefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmGWin.lean ====
abbrev S4096x1024 : Shape := ⟨2, ![4096, 1024]⟩
abbrev S4096x3840 : Shape := ⟨2, ![4096, 3840]⟩
abbrev S1024x3840 : Shape := ⟨2, ![1024, 3840]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3840, .bf16⟩
  | .hbm, ⟨2, _⟩ => ⟨S1024x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGWinIdeal.lean ====
abbrev S4096x1024 : Shape := ⟨2, ![4096, 1024]⟩
abbrev S4096x3840 : Shape := ⟨2, ![4096, 3840]⟩
abbrev S1024x3840 : Shape := ⟨2, ![1024, 3840]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3840, .bf16⟩
  | .hbm, ⟨2, _⟩ => ⟨S1024x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGWinRefIdeal.lean ====
abbrev S4096x1024 : Shape := ⟨2, ![4096, 1024]⟩
abbrev S4096x3840 : Shape := ⟨2, ![4096, 3840]⟩
abbrev S3840x1024 : Shape := ⟨2, ![3840, 1024]⟩
abbrev S1024x3840 : Shape := ⟨2, ![1024, 3840]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3840, .bf16⟩
  | .hbm, ⟨2, _⟩ => ⟨S4096x1024, .f32⟩
  | .hbm, ⟨3, _⟩ => ⟨S4096x3840, .f32⟩
  | .hbm, ⟨4, _⟩ => ⟨S3840x1024, .f32⟩
  | .hbm, ⟨5, _⟩ => ⟨S1024x3840, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDH1.lean ====
abbrev S4096x3840 : Shape := ⟨2, ![4096, 3840]⟩
abbrev S1024x3840 : Shape := ⟨2, ![1024, 3840]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3840, .bf16⟩
  | .hbm, ⟨1, _⟩ => ⟨S1024x3840, .bf16⟩
  | .hbm, ⟨2, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDH1Ideal.lean ====
abbrev S4096x3840 : Shape := ⟨2, ![4096, 3840]⟩
abbrev S1024x3840 : Shape := ⟨2, ![1024, 3840]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3840, .bf16⟩
  | .hbm, ⟨1, _⟩ => ⟨S1024x3840, .bf16⟩
  | .hbm, ⟨2, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDH1RefIdeal.lean ====
abbrev S4096x3840 : Shape := ⟨2, ![4096, 3840]⟩
abbrev S1024x3840 : Shape := ⟨2, ![1024, 3840]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S1024x3840, .bf16⟩
  | .hbm, ⟨2, _⟩ => ⟨S1024x3840, .f32⟩
  | .hbm, ⟨3, _⟩ => ⟨S4096x3840, .f32⟩
  | .hbm, ⟨4, _⟩ => ⟨S4096x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmProj.lean ====
abbrev S4096x1024 : Shape := ⟨2, ![4096, 1024]⟩
abbrev S1024x3840 : Shape := ⟨2, ![1024, 3840]⟩
abbrev S4096x3840 : Shape := ⟨2, ![4096, 3840]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjIdeal.lean ====
abbrev S4096x1024 : Shape := ⟨2, ![4096, 1024]⟩
abbrev S1024x3840 : Shape := ⟨2, ![1024, 3840]⟩
abbrev S4096x3840 : Shape := ⟨2, ![4096, 3840]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjRefIdeal.lean ====
abbrev S4096x1024 : Shape := ⟨2, ![4096, 1024]⟩
abbrev S1024x3840 : Shape := ⟨2, ![1024, 3840]⟩
abbrev S4096x3840 : Shape := ⟨2, ![4096, 3840]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x1024, .f32⟩
  | .hbm, ⟨3, _⟩ => ⟨S1024x3840, .f32⟩
  | .hbm, ⟨4, _⟩ => ⟨S4096x3840, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmWo.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmWoIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmWoRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmUp.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpIdeal.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownIdeal.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmGAda.lean ====
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x1536, .f32⟩
  | .local _ .vmem, ⟨2, _⟩ => ⟨S1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmGAdaIdeal.lean ====
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x1536, .f32⟩
  | .local _ .vmem, ⟨2, _⟩ => ⟨S1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmGAdaRefIdeal.lean ====
abbrev S16x1024 : Shape := ⟨2, ![16, 1024]⟩
abbrev S16x1536 : Shape := ⟨2, ![16, 1536]⟩
abbrev S1536x1024 : Shape := ⟨2, ![1536, 1024]⟩
abbrev S1024x1536 : Shape := ⟨2, ![1024, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1536x1024, .f32⟩
  | .hbm, ⟨3, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ColSum.lean ====
abbrev S16x6144 : Shape := ⟨2, ![16, 6144]⟩
abbrev S1x6144 : Shape := ⟨2, ![1, 6144]⟩
abbrev S6144 : Shape := ⟨1, ![6144]⟩

abbrev nBuf : Space → Nat
  | .hbm => 2
  | .vmem => 2
  | .smem => 0
  | _ => 0

abbrev bufTy : (tb : Table) → Fin (tcTables nBuf tb) → BufTy
  | .hbm, ⟨0, _⟩ => ⟨S16x6144, .f32⟩
  | .hbm, ⟨1, _⟩ => ⟨S1x6144, .f32⟩
  | .local _ .vmem, ⟨0, _⟩ => ⟨S16x6144, .f32⟩
  | .local _ .vmem, ⟨1, _⟩ => ⟨S1x6144, .f32⟩
  | _, _ => ⟨S16x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ColSumRefIdeal.lean ====
abbrev S16x6144 : Shape := ⟨2, ![16, 6144]⟩
abbrev S_ : Shape := ⟨0, ![]⟩
abbrev S1x6144 : Shape := ⟨2, ![1, 6144]⟩
abbrev S6144 : Shape := ⟨1, ![6144]⟩

abbrev nBuf : Space → Nat
  | .hbm => 7
  | .vmem => 0
  | .smem => 0
  | _ => 0

abbrev bufTy : (tb : Table) → Fin (tcTables nBuf tb) → BufTy
  | .hbm, ⟨0, _⟩ => ⟨S16x6144, .f32⟩
  | .hbm, ⟨1, _⟩ => ⟨S_, .f32⟩
  | .hbm, ⟨2, _⟩ => ⟨S1x6144, .f32⟩
  | .hbm, ⟨3, _⟩ => ⟨S16x6144, .f32⟩
  | .hbm, ⟨4, _⟩ => ⟨S_, .f32⟩
  | .hbm, ⟨5, _⟩ => ⟨S6144, .f32⟩
  | .hbm, ⟨6, _⟩ => ⟨S1x6144, .f32⟩
  | _, _ => ⟨S16x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ln0Bwd.lean ====
abbrev S4096x1024 : Shape := ⟨2, ![4096, 1024]⟩
abbrev S1x1024 : Shape := ⟨2, ![1, 1024]⟩
abbrev S2x6x1024 : Shape := ⟨3, ![2, 6, 1024]⟩
abbrev S2x2x1024 : Shape := ⟨3, ![2, 2, 1024]⟩
abbrev S512x1024 : Shape := ⟨2, ![512, 1024]⟩
abbrev S1x6x1024 : Shape := ⟨3, ![1, 6, 1024]⟩
abbrev S1x2x1024 : Shape := ⟨3, ![1, 2, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S2x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x6x1024, .f32⟩
  | .local _ .vmem, ⟨5, _⟩ => ⟨S1x6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x2x1024, .f32⟩
  | .local _ .vmem, ⟨15, _⟩ => ⟨S1x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let arg1 : BitVec 32 := BitVec.ofNat 32 (i 1).val
  let c0_i32_30 : BitVec 32 := 0#32
  let v76 : BitVec 1 := Scalar.cmpi .eq arg1 c0_i32_30
  let v77 : BitVec 1 := Scalar.andi v75 v76
  let v78 : BitVec 32 := Scalar.extui v77
  let c0_i32_31 : BitVec 32 := 0#32
  let v79 : BitVec 1 := Scalar.cmpi .ne v78 c0_i32_31
  v79

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let arg1 : BitVec 32 := BitVec.ofNat 32 (i 1).val
  let c0_i32_30 : BitVec 32 := 0#32
  let v76 : BitVec 1 := Scalar.cmpi .eq arg1 c0_i32_30
  let v77 : BitVec 1 := Scalar.andi v75 v76
  let v_true : BitVec 1 := 1#1
  let v80 : BitVec 1 := Scalar.xori v77 v_true
  let v81 : BitVec 32 := Scalar.extui v80
  let c0_i32_32 : BitVec 32 := 0#32
  let v82 : BitVec 1 := Scalar.cmpi .ne v81 c0_i32_32
  v82

def k0_cond3 (i : grid0.Coords) : BitVec 1 :=
  let arg0 : BitVec 32 := BitVec.ofNat 32 (i 0).val
  let c0_i32_33 : BitVec 32 := 0#32
  let v83 : BitVec 1 := Scalar.cmpi .eq arg0 c0_i32_33
  let arg1 : BitVec 32 := BitVec.ofNat 32 (i 1).val
  let c0_i32_34 : BitVec 32 := 0#32
  let v84 : BitVec 1 := Scalar.cmpi .eq arg1 c0_i32_34
  let v85 : BitVec 1 := Scalar.andi v83 v84
  let v86 : BitVec 32 := Scalar.extui v85
  let c0_i32_35 : BitVec 32 := 0#32
  let v87 : BitVec 1 := Scalar.cmpi .ne v86 c0_i32_35
  v87

def k0_cond4 (i : grid0.Coords) : BitVec 1 :=
  let arg0 : BitVec 32 := BitVec.ofNat 32 (i 0).val
  let c0_i32_33 : BitVec 32 := 0#32
  let v83 : BitVec 1 := Scalar.cmpi .eq arg0 c0_i32_33
  let arg1 : BitVec 32 := BitVec.ofNat 32 (i 1).val
  let c0_i32_34 : BitVec 32 := 0#32
  let v84 : BitVec 1 := Scalar.cmpi .eq arg1 c0_i32_34
  let v85 : BitVec 1 := Scalar.andi v83 v84
  let true_36 : BitVec 1 := 1#1
  let v88 : BitVec 1 := Scalar.xori v85 true_36
  let v89 : BitVec 32 := Scalar.extui v88
  let c0_i32_37 : BitVec 32 := 0#32
  let v90 : BitVec 1 := Scalar.cmpi .ne v89 c0_i32_37
  v90

def k0_cond5 (i : grid0.Coords) : BitVec 1 :=
  let arg1 : BitVec 32 := BitVec.ofNat 32 (i 1).val
  let c0_i32_38 : BitVec 32 := 0#32
  let v91 : BitVec 1 := Scalar.cmpi .eq arg1 c0_i32_38
  let v92 : BitVec 32 := Scalar.extui v91
  let c0_i32_39 : BitVec 32 := 0#32
  let v93 : BitVec 1 := Scalar.cmpi .ne v92 c0_i32_39
  v93

def k0_cond6 (i : grid0.Coords) : BitVec 1 :=
  let arg1 : BitVec 32 := BitVec.ofNat 32 (i 1).val
  let c0_i32_38 : BitVec 32 := 0#32
  let v91 : BitVec 1 := Scalar.cmpi .eq arg1 c0_i32_38
  let true_40 : BitVec 1 := 1#1
  let v94 : BitVec 1 := Scalar.xori v91 true_40
  let v95 : BitVec 32 := Scalar.extui v94
  let c0_i32_41 : BitVec 32 := 0#32
  let v96 : BitVec 1 := Scalar.cmpi .ne v95 c0_i32_41
  v96

def k0_cond7 (i : grid0.Coords) : BitVec 1 :=
  let arg1 : BitVec 32 := BitVec.ofNat 32 (i 1).val
  let c0_i32_38 : BitVec 32 := 0#32
  let v91 : BitVec 1 := Scalar.cmpi .eq arg1 c0_i32_38
  let v97 : BitVec 32 := Scalar.extui v91
  let c0_i32_42 : BitVec 32 := 0#32
  let v98 : BitVec 1 := Scalar.cmpi .ne v97 c0_i32_42
  v98

def k0_cond8 (i : grid0.Coords) : BitVec 1 :=
  let arg1 : BitVec 32 := BitVec.ofNat 32 (i 1).val
  let c0_i32_38 : BitVec 32 := 0#32
  let v91 : BitVec 1 := Scalar.cmpi .eq arg1 c0_i32_38
  let true_43 : BitVec 1 := 1#1
  let v99 : BitVec 1 := Scalar.xori v91 true_43
  let v100 : BitVec 32 := Scalar.extui v99
  let c0_i32_44 : BitVec 32 := 0#32
  let v101 : BitVec 1 := Scalar.cmpi .ne v100 c0_i32_44
  v101

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Ln0BwdIdeal.lean ====
abbrev S4096x1024 : Shape := ⟨2, ![4096, 1024]⟩
abbrev S1x1024 : Shape := ⟨2, ![1, 1024]⟩
abbrev S2x6x1024 : Shape := ⟨3, ![2, 6, 1024]⟩
abbrev S2x2x1024 : Shape := ⟨3, ![2, 2, 1024]⟩
abbrev S512x1024 : Shape := ⟨2, ![512, 1024]⟩
abbrev S1x6x1024 : Shape := ⟨3, ![1, 6, 1024]⟩
abbrev S1x2x1024 : Shape := ⟨3, ![1, 2, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S2x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x6x1024, .f32⟩
  | .local _ .vmem, ⟨5, _⟩ => ⟨S1x6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x2x1024, .f32⟩
  | .local _ .vmem, ⟨15, _⟩ => ⟨S1x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let arg1 : BitVec 32 := BitVec.ofNat 32 (i 1).val
  let c0_i32_30 : BitVec 32 := 0#32
  let v76 : BitVec 1 := Scalar.cmpi .eq arg1 c0_i32_30
  let v77 : BitVec 1 := Scalar.andi v75 v76
  let v78 : BitVec 32 := Scalar.extui v77
  let c0_i32_31 : BitVec 32 := 0#32
  let v79 : BitVec 1 := Scalar.cmpi .ne v78 c0_i32_31
  v79

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let arg1 : BitVec 32 := BitVec.ofNat 32 (i 1).val
  let c0_i32_30 : BitVec 32 := 0#32
  let v76 : BitVec 1 := Scalar.cmpi .eq arg1 c0_i32_30
  let v77 : BitVec 1 := Scalar.andi v75 v76
  let v_true : BitVec 1 := 1#1
  let v80 : BitVec 1 := Scalar.xori v77 v_true
  let v81 : BitVec 32 := Scalar.extui v80
  let c0_i32_32 : BitVec 32 := 0#32
  let v82 : BitVec 1 := Scalar.cmpi .ne v81 c0_i32_32
  v82

def k0_cond3 (i : grid0.Coords) : BitVec 1 :=
  let arg0 : BitVec 32 := BitVec.ofNat 32 (i 0).val
  let c0_i32_33 : BitVec 32 := 0#32
  let v83 : BitVec 1 := Scalar.cmpi .eq arg0 c0_i32_33
  let arg1 : BitVec 32 := BitVec.ofNat 32 (i 1).val
  let c0_i32_34 : BitVec 32 := 0#32
  let v84 : BitVec 1 := Scalar.cmpi .eq arg1 c0_i32_34
  let v85 : BitVec 1 := Scalar.andi v83 v84
  let v86 : BitVec 32 := Scalar.extui v85
  let c0_i32_35 : BitVec 32 := 0#32
  let v87 : BitVec 1 := Scalar.cmpi .ne v86 c0_i32_35
  v87

def k0_cond4 (i : grid0.Coords) : BitVec 1 :=
  let arg0 : BitVec 32 := BitVec.ofNat 32 (i 0).val
  let c0_i32_33 : BitVec 32 := 0#32
  let v83 : BitVec 1 := Scalar.cmpi .eq arg0 c0_i32_33
  let arg1 : BitVec 32 := BitVec.ofNat 32 (i 1).val
  let c0_i32_34 : BitVec 32 := 0#32
  let v84 : BitVec 1 := Scalar.cmpi .eq arg1 c0_i32_34
  let v85 : BitVec 1 := Scalar.andi v83 v84
  let true_36 : BitVec 1 := 1#1
  let v88 : BitVec 1 := Scalar.xori v85 true_36
  let v89 : BitVec 32 := Scalar.extui v88
  let c0_i32_37 : BitVec 32 := 0#32
  let v90 : BitVec 1 := Scalar.cmpi .ne v89 c0_i32_37
  v90

def k0_cond5 (i : grid0.Coords) : BitVec 1 :=
  let arg1 : BitVec 32 := BitVec.ofNat 32 (i 1).val
  let c0_i32_38 : BitVec 32 := 0#32
  let v91 : BitVec 1 := Scalar.cmpi .eq arg1 c0_i32_38
  let v92 : BitVec 32 := Scalar.extui v91
  let c0_i32_39 : BitVec 32 := 0#32
  let v93 : BitVec 1 := Scalar.cmpi .ne v92 c0_i32_39
  v93

def k0_cond6 (i : grid0.Coords) : BitVec 1 :=
  let arg1 : BitVec 32 := BitVec.ofNat 32 (i 1).val
  let c0_i32_38 : BitVec 32 := 0#32
  let v91 : BitVec 1 := Scalar.cmpi .eq arg1 c0_i32_38
  let true_40 : BitVec 1 := 1#1
  let v94 : BitVec 1 := Scalar.xori v91 true_40
  let v95 : BitVec 32 := Scalar.extui v94
  let c0_i32_41 : BitVec 32 := 0#32
  let v96 : BitVec 1 := Scalar.cmpi .ne v95 c0_i32_41
  v96

def k0_cond7 (i : grid0.Coords) : BitVec 1 :=
  let arg1 : BitVec 32 := BitVec.ofNat 32 (i 1).val
  let c0_i32_38 : BitVec 32 := 0#32
  let v91 : BitVec 1 := Scalar.cmpi .eq arg1 c0_i32_38
  let v97 : BitVec 32 := Scalar.extui v91
  let c0_i32_42 : BitVec 32 := 0#32
  let v98 : BitVec 1 := Scalar.cmpi .ne v97 c0_i32_42
  v98

def k0_cond8 (i : grid0.Coords) : BitVec 1 :=
  let arg1 : BitVec 32 := BitVec.ofNat 32 (i 1).val
  let c0_i32_38 : BitVec 32 := 0#32
  let v91 : BitVec 1 := Scalar.cmpi .eq arg1 c0_i32_38
  let true_43 : BitVec 1 := 1#1
  let v99 : BitVec 1 := Scalar.xori v91 true_43
  let v100 : BitVec 32 := Scalar.extui v99
  let c0_i32_44 : BitVec 32 := 0#32
  let v101 : BitVec 1 := Scalar.cmpi .ne v100 c0_i32_44
  v101

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Ln0BwdRefIdeal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x1024 : Shape := ⟨2, ![2, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S4096x1024, .f32⟩
  | .hbm, ⟨5, _⟩ => ⟨S4096x1024, .f32⟩
  | .hbm, ⟨6, _⟩ => ⟨S2x2048x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x1x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x1024, .f32⟩
  | .hbm, ⟨56, _⟩ => ⟨S2x1x1024, .f32⟩
  | .hbm, ⟨57, _⟩ => ⟨S_, .f32⟩
  | .hbm, ⟨58, _⟩ => ⟨S2x6x1024, .f32⟩
  | .hbm, ⟨59, _⟩ => ⟨S2x2048x1024, .f32⟩
  | .hbm, ⟨60, _⟩ => ⟨S_, .f32⟩
  | .hbm, ⟨61, _⟩ => ⟨S2x1024, .f32⟩
  | .hbm, ⟨62, _⟩ => ⟨S2x1x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S2x6x1024, .f32⟩
  | .hbm, ⟨68, _⟩ => ⟨S2x6x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S_, .f32⟩
  | .hbm, ⟨73, _⟩ => ⟨S1024, .f32⟩
  | .hbm, ⟨74, _⟩ => ⟨S2x2048x1024, .f32⟩
  | .hbm, ⟨75, _⟩ => ⟨S_, .f32⟩
  | .hbm, ⟨76, _⟩ => ⟨S1024, .f32⟩
  | .hbm, ⟨77, _⟩ => ⟨S1x1x1024, .f32⟩
  | .hbm, ⟨78, _⟩ => ⟨S2x2048x1024, .f32⟩
  | .hbm, ⟨79, _⟩ => ⟨S2x2048x1024, .f32⟩
  | .hbm, ⟨80, _⟩ => ⟨S_, .f32⟩
  | .hbm, ⟨81, _⟩ => ⟨S1024, .f32⟩
  | .hbm, ⟨82, _⟩ => ⟨S2x2048x1024, .f32⟩
  | .hbm, ⟨83, _⟩ => ⟨S_, .f32⟩
  | .hbm, ⟨84, _⟩ => ⟨S2x2048, .f32⟩
  | .hbm, ⟨85, _⟩ => ⟨S2x2048x1, .f32⟩
  | .hbm, ⟨86, _⟩ => ⟨S2x2048x1024, .f32⟩
  | .hbm, ⟨87, _⟩ => ⟨S2x2048x1024, .f32⟩
  | .hbm, ⟨88, _⟩ => ⟨S2x2048x1, .f32⟩
  | .hbm, ⟨89, _⟩ => ⟨S_, .f32⟩
  | .hbm, ⟨90, _⟩ => ⟨S2x2048x1, .f32⟩
  | .hbm, ⟨91, _⟩ => ⟨S2x2048x1, .f32⟩
  | .hbm, ⟨92, _⟩ => ⟨S_, .f32⟩
  | .hbm, ⟨93, _⟩ => ⟨S2x2048, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S2x2048, .f32⟩
  | .hbm, ⟨100, _⟩ => ⟨S2x2048x1, .f32⟩
  | .hbm, ⟨101, _⟩ => ⟨S_, .f32⟩
  | .hbm, ⟨102, _⟩ => ⟨S2x2048x1, .f32⟩
  | .hbm, ⟨103, _⟩ => ⟨S2x2048x1, .f32⟩
  | .hbm, ⟨104, _⟩ => ⟨S_, .f32⟩
  | .hbm, ⟨105, _⟩ => ⟨S2x2048, .f32⟩
  | .hbm, ⟨106, _⟩ => ⟨S2x2048x1024, .f32⟩
  | .hbm, ⟨107, _⟩ => ⟨S2x2048x1024, .f32⟩
  | .hbm, ⟨108, _⟩ => ⟨S1x1024, .f32⟩
  | .hbm, ⟨109, _⟩ => ⟨S1x1024, .f32⟩
  | .hbm, ⟨110, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_18 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_cst_20 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== Ln1Bwd.lean ====
abbrev S4096x1024 : Shape := ⟨2, ![4096, 1024]⟩
abbrev S1x1024 : Shape := ⟨2, ![1, 1024]⟩
abbrev S2x6x1024 : Shape := ⟨3, ![2, 6, 1024]⟩
abbrev S2x3x1024 : Shape := ⟨3, ![2, 3, 1024]⟩
abbrev S512x1024 : Shape := ⟨2, ![512, 1024]⟩
abbrev S1x6x1024 : Shape := ⟨3, ![1, 6, 1024]⟩
abbrev S1x3x1024 : Shape := ⟨3, ![1, 3, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S2x3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x3x1024, .f32⟩
  | .local _ .vmem, ⟨19, _⟩ => ⟨S1x3x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let arg1 : BitVec 32 := BitVec.ofNat 32 (i 1).val
  let c0_i32_40 : BitVec 32 := 0#32
  let v95 : BitVec 1 := Scalar.cmpi .eq arg1 c0_i32_40
  let v96 : BitVec 1 := Scalar.andi v94 v95
  let v97 : BitVec 32 := Scalar.extui v96
  let c0_i32_41 : BitVec 32 := 0#32
  let v98 : BitVec 1 := Scalar.cmpi .ne v97 c0_i32_41
  v98

def k0_cond2 (i : grid0.Coords) : BitVec 1 :=
  let arg0 : BitVec 32 := BitVec.ofNat 32 (i 0).val
  let c0_i32 : BitVec 32 := 0#32
  let v94 : BitVec 1 := Scalar.cmpi .eq arg0 c0_i32
  let arg1 : BitVec 32 := BitVec.ofNat 32 (i 1).val
  let c0_i32_40 : BitVec 32 := 0#32
  let v95 : BitVec 1 := Scalar.cmpi .eq arg1 c0_i32_40
  let v96 : BitVec 1 := Scalar.andi v94 v95
  let v_true : BitVec 1 := 1#1
  let v99 : BitVec 1 := Scalar.xori v96 v_true
  let v100 : BitVec 32 := Scalar.extui v99
  let c0_i32_42 : BitVec 32 := 0#32
  let v101 : BitVec 1 := Scalar.cmpi .ne v100 c0_i32_42
  v101

def k0_cond3 (i : grid0.Coords) : BitVec 1 :=
  let arg0 : BitVec 32 := BitVec.ofNat 32 (i 0).val
  let c0_i32_43 : BitVec 32 := 0#32
  let v102 : BitVec 1 := Scalar.cmpi .eq arg0 c0_i32_43
  let arg1 : BitVec 32 := BitVec.ofNat 32 (i 1).val
  let c0_i32_44 : BitVec 32 := 0#32
  let v103 : BitVec 1 := Scalar.cmpi .eq arg1 c0_i32_44
  let v104 : BitVec 1 := Scalar.andi v102 v103
  let v105 : BitVec 32 := Scalar.extui v104
  let c0_i32_45 : BitVec 32 := 0#32
  let v106 : BitVec 1 := Scalar.cmpi .ne v105 c0_i32_45
  v106

def k0_cond4 (i : grid0.Coords) : BitVec 1 :=
  let arg0 : BitVec 32 := BitVec.ofNat 32 (i 0).val
  let c0_i32_43 : BitVec 32 := 0#32
  let v102 : BitVec 1 := Scalar.cmpi .eq arg0 c0_i32_43
  let arg1 : BitVec 32 := BitVec.ofNat 32 (i 1).val
  let c0_i32_44 : BitVec 32 := 0#32
  let v103 : BitVec 1 := Scalar.cmpi .eq arg1 c0_i32_44
  let v104 : BitVec 1 := Scalar.andi v102 v103
  let true_46 : BitVec 1 := 1#1
  let v107 : BitVec 1 := Scalar.xori v104 true_46
  let v108 : BitVec 32 := Scalar.extui v107
  let c0_i32_47 : BitVec 32 := 0#32
  let v109 : BitVec 1 := Scalar.cmpi .ne v108 c0_i32_47
  v109

def k0_cond5 (i : grid0.Coords) : BitVec 1 :=
  let arg1 : BitVec 32 := BitVec.ofNat 32 (i 1).val
  let c0_i32_48 : BitVec 32 := 0#32
  let v110 : BitVec 1 := Scalar.cmpi .eq arg1 c0_i32_48
  let v111 : BitVec 32 := Scalar.extui v110
  let c0_i32_49 : BitVec 32 := 0#32
  let v112 : BitVec 1 := Scalar.cmpi .ne v111 c0_i32_49
  v112

def k0_cond6 (i : grid0.Coords) : BitVec 1 :=
  let arg1 : BitVec 32 := BitVec.ofNat 32 (i 1).val
  let c0_i32_48 : BitVec 32 := 0#32
  let v110 : BitVec 1 := Scalar.cmpi .eq arg1 c0_i32_48
  let true_50 : BitVec 1 := 1#1
  let v113 : BitVec 1 := Scalar.xori v110 true_50
  let v114 : BitVec 32 := Scalar.extui v113
  let c0_i32_51 : BitVec 32 := 0#32
  let v115 : BitVec 1 := Scalar.cmpi .ne v114 c0_i32_51
  v115

def k0_cond7 (i : grid0.Coords) : BitVec 1 :=
  let arg1 : BitVec 32 := BitVec.ofNat 32 (i 1).val
  let c0_i32_48 : BitVec 32 := 0#32
  let v110 : BitVec 1 := Scalar.cmpi .eq arg1 c0_i32_48
  let v116 : BitVec 32 := Scalar.extui v110
  let c0_i32_52 : BitVec 32 := 0#32
  let v117 : BitVec 1 := Scalar.cmpi .ne v116 c0_i32_52
  v117

def k0_cond8 (i : grid0.Coords) : BitVec 1 :=
  let arg1 : BitVec 32 := BitVec.ofNat 32 (i 1).val
  let c0_i32_48 : BitVec 32 := 0#32
  let v110 : BitVec 1 := Scalar.cmpi .eq arg1 c0_i32_48
  let true_53 : BitVec 1 := 1#1
  let v118 : BitVec 1 := Scalar.xori v110 true_53
  let v119 : BitVec 32 := Scalar.extui v118
  let c0_i32_54 : BitVec 32 := 0#32
  let v120 : BitVec 1 := Scalar.cmpi .ne v119 c0_i32_54
  v120

def k0_cond9 (i : grid0.Coords) : BitVec 1 :=
  let arg1 : BitVec 32 := BitVec.ofNat 32 (i 1).val
  let c0_i32_48 : BitVec 32 := 0#32
  let v110 : BitVec 1 := Scalar.cmpi .eq arg1 c0_i32_48
  let v121 : BitVec 32 := Scalar.extui v110
  let c0_i32_55 : BitVec 32 := 0#32
  let v122 : BitVec 1 := Scalar.cmpi .ne v121 c0_i32_55
  v122

def k0_cond10 (i : grid0.Coords) : BitVec 1 :=
  let arg1 : BitVec 32 := BitVec.ofNat 32 (i 1).val
  let c0_i32_48 : BitVec 32 := 0#32
  let v110 : BitVec 1 := Scalar.cmpi .eq arg1 c0_i32_48
  let true_56 : BitVec 1 := 1#1
  let v123 : BitVec 1 := Scalar.xori v110 true_56
  let v124 : BitVec 32 := Scalar.extui v123
  let c0_i32_57 : BitVec 32 := 0#32
  let v125 : BitVec 1 := Scalar.cmpi .ne v124 c0_i32_57
  v125

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Ln1BwdIdeal.lean ====
abbrev S4096x1024 : Shape := ⟨2, ![4096, 1024]⟩
abbrev S1x1024 : Shape := ⟨2, ![1, 1024]⟩
abbrev S2x6x1024 : Shape := ⟨3, ![2, 6, 1024]⟩
abbrev S2x3x1024 : Shape := ⟨3, ![2, 3, 1024]⟩
abbrev S512x1024 : Shape := ⟨2, ![512, 1024]⟩
abbrev S1x6x1024 : Shape := ⟨3, ![1, 6, 1024]⟩
abbrev S1x3x1024 : Shape := ⟨3, ![1, 3, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S2x3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x3x1024, .f32⟩
  | .local _ .vmem, ⟨19, _⟩ => ⟨S1x3x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let arg1 : BitVec 32 := BitVec.ofNat 32 (i 1).val
  let c0_i32_40 : BitVec 32 := 0#32
  let v95 : BitVec 1 := Scalar.cmpi .eq arg1 c0_i32_40
  let v96 : BitVec 1 := Scalar.andi v94 v95
  let v97 : BitVec 32 := Scalar.extui v96
  let c0_i32_41 : BitVec 32 := 0#32
  let v98 : BitVec 1 := Scalar.cmpi .ne v97 c0_i32_41
  v98

def k0_cond2 (i : grid0.Coords) : BitVec 1 :=
  let arg0 : BitVec 32 := BitVec.ofNat 32 (i 0).val
  let c0_i32 : BitVec 32 := 0#32
  let v94 : BitVec 1 := Scalar.cmpi .eq arg0 c0_i32
  let arg1 : BitVec 32 := BitVec.ofNat 32 (i 1).val
  let c0_i32_40 : BitVec 32 := 0#32
  let v95 : BitVec 1 := Scalar.cmpi .eq arg1 c0_i32_40
  let v96 : BitVec 1 := Scalar.andi v94 v95
  let v_true : BitVec 1 := 1#1
  let v99 : BitVec 1 := Scalar.xori v96 v_true
  let v100 : BitVec 32 := Scalar.extui v99
  let c0_i32_42 : BitVec 32 := 0#32
  let v101 : BitVec 1 := Scalar.cmpi .ne v100 c0_i32_42
  v101

def k0_cond3 (i : grid0.Coords) : BitVec 1 :=
  let arg0 : BitVec 32 := BitVec.ofNat 32 (i 0).val
  let c0_i32_43 : BitVec 32 := 0#32
  let v102 : BitVec 1 := Scalar.cmpi .eq arg0 c0_i32_43
  let arg1 : BitVec 32 := BitVec.ofNat 32 (i 1).val
  let c0_i32_44 : BitVec 32 := 0#32
  let v103 : BitVec 1 := Scalar.cmpi .eq arg1 c0_i32_44
  let v104 : BitVec 1 := Scalar.andi v102 v103
  let v105 : BitVec 32 := Scalar.extui v104
  let c0_i32_45 : BitVec 32 := 0#32
  let v106 : BitVec 1 := Scalar.cmpi .ne v105 c0_i32_45
  v106

def k0_cond4 (i : grid0.Coords) : BitVec 1 :=
  let arg0 : BitVec 32 := BitVec.ofNat 32 (i 0).val
  let c0_i32_43 : BitVec 32 := 0#32
  let v102 : BitVec 1 := Scalar.cmpi .eq arg0 c0_i32_43
  let arg1 : BitVec 32 := BitVec.ofNat 32 (i 1).val
  let c0_i32_44 : BitVec 32 := 0#32
  let v103 : BitVec 1 := Scalar.cmpi .eq arg1 c0_i32_44
  let v104 : BitVec 1 := Scalar.andi v102 v103
  let true_46 : BitVec 1 := 1#1
  let v107 : BitVec 1 := Scalar.xori v104 true_46
  let v108 : BitVec 32 := Scalar.extui v107
  let c0_i32_47 : BitVec 32 := 0#32
  let v109 : BitVec 1 := Scalar.cmpi .ne v108 c0_i32_47
  v109

def k0_cond5 (i : grid0.Coords) : BitVec 1 :=
  let arg1 : BitVec 32 := BitVec.ofNat 32 (i 1).val
  let c0_i32_48 : BitVec 32 := 0#32
  let v110 : BitVec 1 := Scalar.cmpi .eq arg1 c0_i32_48
  let v111 : BitVec 32 := Scalar.extui v110
  let c0_i32_49 : BitVec 32 := 0#32
  let v112 : BitVec 1 := Scalar.cmpi .ne v111 c0_i32_49
  v112

def k0_cond6 (i : grid0.Coords) : BitVec 1 :=
  let arg1 : BitVec 32 := BitVec.ofNat 32 (i 1).val
  let c0_i32_48 : BitVec 32 := 0#32
  let v110 : BitVec 1 := Scalar.cmpi .eq arg1 c0_i32_48
  let true_50 : BitVec 1 := 1#1
  let v113 : BitVec 1 := Scalar.xori v110 true_50
  let v114 : BitVec 32 := Scalar.extui v113
  let c0_i32_51 : BitVec 32 := 0#32
  let v115 : BitVec 1 := Scalar.cmpi .ne v114 c0_i32_51
  v115

def k0_cond7 (i : grid0.Coords) : BitVec 1 :=
  let arg1 : BitVec 32 := BitVec.ofNat 32 (i 1).val
  let c0_i32_48 : BitVec 32 := 0#32
  let v110 : BitVec 1 := Scalar.cmpi .eq arg1 c0_i32_48
  let v116 : BitVec 32 := Scalar.extui v110
  let c0_i32_52 : BitVec 32 := 0#32
  let v117 : BitVec 1 := Scalar.cmpi .ne v116 c0_i32_52
  v117

def k0_cond8 (i : grid0.Coords) : BitVec 1 :=
  let arg1 : BitVec 32 := BitVec.ofNat 32 (i 1).val
  let c0_i32_48 : BitVec 32 := 0#32
  let v110 : BitVec 1 := Scalar.cmpi .eq arg1 c0_i32_48
  let true_53 : BitVec 1 := 1#1
  let v118 : BitVec 1 := Scalar.xori v110 true_53
  let v119 : BitVec 32 := Scalar.extui v118
  let c0_i32_54 : BitVec 32 := 0#32
  let v120 : BitVec 1 := Scalar.cmpi .ne v119 c0_i32_54
  v120

def k0_cond9 (i : grid0.Coords) : BitVec 1 :=
  let arg1 : BitVec 32 := BitVec.ofNat 32 (i 1).val
  let c0_i32_48 : BitVec 32 := 0#32
  let v110 : BitVec 1 := Scalar.cmpi .eq arg1 c0_i32_48
  let v121 : BitVec 32 := Scalar.extui v110
  let c0_i32_55 : BitVec 32 := 0#32
  let v122 : BitVec 1 := Scalar.cmpi .ne v121 c0_i32_55
  v122

def k0_cond10 (i : grid0.Coords) : BitVec 1 :=
  let arg1 : BitVec 32 := BitVec.ofNat 32 (i 1).val
  let c0_i32_48 : BitVec 32 := 0#32
  let v110 : BitVec 1 := Scalar.cmpi .eq arg1 c0_i32_48
  let true_56 : BitVec 1 := 1#1
  let v123 : BitVec 1 := Scalar.xori v110 true_56
  let v124 : BitVec 32 := Scalar.extui v123
  let c0_i32_57 : BitVec 32 := 0#32
  let v125 : BitVec 1 := Scalar.cmpi .ne v124 c0_i32_57
  v125

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Ln1BwdRefIdeal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S_ : Shape := ⟨0, ![]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S2x6x1024, .f32⟩
  | 5 => ⟨S4096x1024, .f32⟩
  | 6 => ⟨S4096x1024, .f32⟩
  | 7 => ⟨S2x2048x1024, .f32⟩
  | 8 => ⟨S2x2048x1024, .f32⟩
  | 9 => ⟨S_, .f32⟩
  | 10 => ⟨S2x2048x1024, .f32⟩
  | 11 => ⟨S2x2048x1024, .f32⟩
  | 12 => ⟨S2x1x1024, .f32⟩
  | 13 => ⟨S_, .f32⟩
  | 14 => ⟨S2x1x1024, .f32⟩
  | 15 => ⟨S2x1x1024, .f32⟩
  | 16 => ⟨S2x2048x1024, .f32⟩
  | 17 => ⟨S2x2048x1024, .f32⟩
  | 18 => ⟨S2x2048x1024, .f32⟩
  | 19 => ⟨S1024, .f32⟩
  | 20 => ⟨S1024, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S2x2048x1024, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1, .f32⟩
  | 43 => ⟨S2x2048x1, .f32⟩
  | 44 => ⟨S_, .f32⟩
  | 45 => ⟨S2x2048x1, .f32⟩
  | 46 => ⟨S2x2048x1, .f32⟩
  | 47 => ⟨S2x2048x1024, .f32⟩
  | 48 => ⟨S2x2048x1024, .f32⟩
  | 49 => ⟨S1x1x1024, .f32⟩
  | 50 => ⟨S2x2048x1024, .f32⟩
  | 51 => ⟨S2x2048x1024, .f32⟩
  | 52 => ⟨S1x1x1024, .f32⟩
  | 53 => ⟨S2x2048x1024, .f32⟩
  | 54 => ⟨S2x2048x1024, .f32⟩
  | 55 => ⟨S2x1x1024, .f32⟩
  | 56 => ⟨S_, .f32⟩
  | 57 => ⟨S2x1x1024, .f32⟩
  | 58 => ⟨S2x1x1024, .f32⟩
  | 59 => ⟨S2x2048x1024, .f32⟩
  | 60 => ⟨S2x2048x1024, .f32⟩
  | 61 => ⟨S2x1x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x1024, .f32⟩
  | 68 => ⟨S2x1x1024, .f32⟩
  | 69 => ⟨S_, .f32⟩
  | 70 => ⟨S2x6x1024, .f32⟩
  | 71 => ⟨S2x2048x1024, .f32⟩
  | 72 => ⟨S_, .f32⟩
  | 73 => ⟨S2x1024, .f32⟩
  | 74 => ⟨S2x1x1024, .f32⟩
  | 75 => ⟨S2x2048x1024, .f32⟩
  | 76 => ⟨S2x2048x1024, .f32⟩
  | 77 => ⟨S2x2048x1024, .f32⟩
  | 78 => ⟨S_, .f32⟩
  | 79 => ⟨S2x6x1024, .f32⟩
  | 80 => ⟨S2x6x1024, .f32⟩
  | 81 => ⟨S_, .f32⟩
  | 82 => ⟨S1024, .f32⟩
  | 83 => ⟨S1x1x1024, .f32⟩
  | 84 => ⟨S_, .f32⟩
  | 85 => ⟨S1024, .f32⟩
  | 86 => ⟨S2x2048x1024, .f32⟩
  | 87 => ⟨S_, .f32⟩
  | 88 => ⟨S1024, .f32⟩
  | 89 => ⟨S1x1x1024, .f32⟩
  | 90 => ⟨S2x2048x1024, .f32⟩
  | 91 => ⟨S2x2048x1024, .f32⟩
  | 92 => ⟨S_, .f32⟩
  | 93 => ⟨S1024, .f32⟩
  | 94 => ⟨S2x2048x1024, .f32⟩
  | 95 => ⟨S_, .f32⟩
  | 96 => ⟨S2x2048, .f32⟩
  | 97 => ⟨S2x2048x1, .f32⟩
  | 98 => ⟨S2x2048x1024, .f32⟩
  | 99 => ⟨S2x2048x1024, .f32⟩
  | 100 => ⟨S2x2048x1, .f32⟩
  | 101 => ⟨S_, .f32⟩
  | 102 => ⟨S2x2048x1, .f32⟩
  | 103 => ⟨S2x2048x1, .f32⟩
  | 104 => ⟨S_, .f32⟩
  | 105 => ⟨S2x2048, .f32⟩
  | 106 => ⟨S2x2048x1024, .f32⟩
  | 107 => ⟨S2x2048x1024, .f32⟩
  | 108 => ⟨S2x2048x1024, .f32⟩
  | 109 => ⟨S2x2048x1024, .f32⟩
  | 110 => ⟨S_, .f32⟩
  | 111 => ⟨S2x2048, .f32⟩
  | 112 => ⟨S2x2048x1, .f32⟩
  | 113 => ⟨S_, .f32⟩
  | 114 => ⟨S2x2048x1, .f32⟩
  | 115 => ⟨S2x2048x1, .f32⟩
  | 116 => ⟨S_, .f32⟩
  | 117 => ⟨S2x2048, .f32⟩
  | 118 => ⟨S2x2048x1024, .f32⟩
  | 119 => ⟨S2x2048x1024, .f32⟩
  | 120 => ⟨S1x1024, .f32⟩
  | 121 => ⟨S1x1024, .f32⟩
  | 122 => ⟨S2x2048x1024, .f32⟩
  | 123 => ⟨S2x2048x1024, .f32⟩
  | 124 => ⟨S2x2048x1024, .f32⟩
  | 125 => ⟨S_, .f32⟩
  | 126 => ⟨S2x1024, .f32⟩
  | 127 => ⟨S2x1x1024, .f32⟩
  | _ => ⟨S4096x1024, .f32⟩

abbrev hbmTy0_1 (i : Nat) : BufTy := match i % 128 with
  | 0 => ⟨S_, .f32⟩
  | 1 => ⟨S2x6x1024, .f32⟩
  | 2 => ⟨S2x6x1024, .f32⟩
  | 3 => ⟨S_, .f32⟩
  | 4 => ⟨S2x2048x1024, .f32⟩
  | 5 => ⟨S2x2048x1024, .f32⟩
  | 6 => ⟨S4096x1024, .f32⟩
  | 7 => ⟨S4096x1024, .f32⟩
  | 8 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_cst_21 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_23 : Ref sig .tc := ⟨.hbm, 125, rfl⟩
abbrev main_v94 : Ref sig .tc := ⟨.hbm, 126, rfl⟩
abbrev main_v95 : Ref sig .tc := ⟨.hbm, 127, rfl⟩
abbrev main_cst_24 : Ref sig .tc := ⟨.hbm, 128, rfl⟩
abbrev main_v96 : Ref sig .tc := ⟨.hbm, 129, rfl⟩
abbrev main_v97 : Ref sig .tc := ⟨.hbm, 130, rfl⟩
abbrev main_cst_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== Ln2LossBwd.lean ====
abbrev S4096x1024 : Shape := ⟨2, ![4096, 1024]⟩
abbrev S1x1024 : Shape := ⟨2, ![1, 1024]⟩
abbrev S2x6x1024 : Shape := ⟨3, ![2, 6, 1024]⟩
abbrev S1x128 : Shape := ⟨2, ![1, 128]⟩
abbrev S2x1x1024 : Shape := ⟨3, ![2, 1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_40 : BitVec 32 := 0#32
  let v106 : BitVec 1 := Scalar.cmpi .eq arg1 c0_i32_40
  let v107 : BitVec 1 := Scalar.andi v105 v106
  let v108 : BitVec 32 := Scalar.extui v107
  let c0_i32_41 : BitVec 32 := 0#32
  let v109 : BitVec 1 := Scalar.cmpi .ne v108 c0_i32_41
  v109

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_40 : BitVec 32 := 0#32
  let v106 : BitVec 1 := Scalar.cmpi .eq arg1 c0_i32_40
  let v107 : BitVec 1 := Scalar.andi v105 v106
  let v_true : BitVec 1 := 1#1
  let v110 : BitVec 1 := Scalar.xori v107 v_true
  let v111 : BitVec 32 := Scalar.extui v110
  let c0_i32_42 : BitVec 32 := 0#32
  let v112 : BitVec 1 := Scalar.cmpi .ne v111 c0_i32_42
  v112

def k0_cond3 (i : grid0.Coords) : BitVec 1 :=
  let arg0 : BitVec 32 := BitVec.ofNat 32 (i 0).val
  let c0_i32_43 : BitVec 32 := 0#32
  let v113 : BitVec 1 := Scalar.cmpi .eq arg0 c0_i32_43
  let arg1 : BitVec 32 := BitVec.ofNat 32 (i 1).val
  let c0_i32_44 : BitVec 32 := 0#32
  let v114 : BitVec 1 := Scalar.cmpi .eq arg1 c0_i32_44
  let v115 : BitVec 1 := Scalar.andi v113 v114
  let v116 : BitVec 32 := Scalar.extui v115
  let c0_i32_45 : BitVec 32 := 0#32
  let v117 : BitVec 1 := Scalar.cmpi .ne v116 c0_i32_45
  v117

def k0_cond4 (i : grid0.Coords) : BitVec 1 :=
  let arg0 : BitVec 32 := BitVec.ofNat 32 (i 0).val
  let c0_i32_43 : BitVec 32 := 0#32
  let v113 : BitVec 1 := Scalar.cmpi .eq arg0 c0_i32_43
  let arg1 : BitVec 32 := BitVec.ofNat 32 (i 1).val
  let c0_i32_44 : BitVec 32 := 0#32
  let v114 : BitVec 1 := Scalar.cmpi .eq arg1 c0_i32_44
  let v115 : BitVec 1 := Scalar.andi v113 v114
  let true_46 : BitVec 1 := 1#1
  let v118 : BitVec 1 := Scalar.xori v115 true_46
  let v119 : BitVec 32 := Scalar.extui v118
  let c0_i32_47 : BitVec 32 := 0#32
  let v120 : BitVec 1 := Scalar.cmpi .ne v119 c0_i32_47
  v120

def k0_cond5 (i : grid0.Coords) : BitVec 1 :=
  let arg0 : BitVec 32 := BitVec.ofNat 32 (i 0).val
  let c0_i32_48 : BitVec 32 := 0#32
  let v121 : BitVec 1 := Scalar.cmpi .eq arg0 c0_i32_48
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let v124 : BitVec 32 := Scalar.extui v123
  let c0_i32_50 : BitVec 32 := 0#32
  let v125 : BitVec 1 := Scalar.cmpi .ne v124 c0_i32_50
  v125

def k0_cond6 (i : grid0.Coords) : BitVec 1 :=
  let arg0 : BitVec 32 := BitVec.ofNat 32 (i 0).val
  let c0_i32_48 : BitVec 32 := 0#32
  let v121 : BitVec 1 := Scalar.cmpi .eq arg0 c0_i32_48
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let true_51 : BitVec 1 := 1#1
  let v126 : BitVec 1 := Scalar.xori v123 true_51
  let v127 : BitVec 32 := Scalar.extui v126
  let c0_i32_52 : BitVec 32 := 0#32
  let v128 : BitVec 1 := Scalar.cmpi .ne v127 c0_i32_52
  v128

def k0_cond7 (i : grid0.Coords) : BitVec 1 :=
  let arg1 : BitVec 32 := BitVec.ofNat 32 (i 1).val
  let c0_i32_53 : BitVec 32 := 0#32
  let v129 : BitVec 1 := Scalar.cmpi .eq arg1 c0_i32_53
  let v130 : BitVec 32 := Scalar.extui v129
  let c0_i32_54 : BitVec 32 := 0#32
  let v131 : BitVec 1 := Scalar.cmpi .ne v130 c0_i32_54
  v131

def k0_cond8 (i : grid0.Coords) : BitVec 1 :=
  let arg1 : BitVec 32 := BitVec.ofNat 32 (i 1).val
  let c0_i32_53 : BitVec 32 := 0#32
  let v129 : BitVec 1 := Scalar.cmpi .eq arg1 c0_i32_53
  let true_55 : BitVec 1 := 1#1
  let v132 : BitVec 1 := Scalar.xori v129 true_55
  let v133 : BitVec 32 := Scalar.extui v132
  let c0_i32_56 : BitVec 32 := 0#32
  let v134 : BitVec 1 := Scalar.cmpi .ne v133 c0_i32_56
  v134

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Ln2LossBwdIdeal.lean ====
abbrev S4096x1024 : Shape := ⟨2, ![4096, 1024]⟩
abbrev S1x1024 : Shape := ⟨2, ![1, 1024]⟩
abbrev S2x6x1024 : Shape := ⟨3, ![2, 6, 1024]⟩
abbrev S1x128 : Shape := ⟨2, ![1, 128]⟩
abbrev S2x1x1024 : Shape := ⟨3, ![2, 1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_40 : BitVec 32 := 0#32
  let v106 : BitVec 1 := Scalar.cmpi .eq arg1 c0_i32_40
  let v107 : BitVec 1 := Scalar.andi v105 v106
  let v108 : BitVec 32 := Scalar.extui v107
  let c0_i32_41 : BitVec 32 := 0#32
  let v109 : BitVec 1 := Scalar.cmpi .ne v108 c0_i32_41
  v109

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_40 : BitVec 32 := 0#32
  let v106 : BitVec 1 := Scalar.cmpi .eq arg1 c0_i32_40
  let v107 : BitVec 1 := Scalar.andi v105 v106
  let v_true : BitVec 1 := 1#1
  let v110 : BitVec 1 := Scalar.xori v107 v_true
  let v111 : BitVec 32 := Scalar.extui v110
  let c0_i32_42 : BitVec 32 := 0#32
  let v112 : BitVec 1 := Scalar.cmpi .ne v111 c0_i32_42
  v112

def k0_cond3 (i : grid0.Coords) : BitVec 1 :=
  let arg0 : BitVec 32 := BitVec.ofNat 32 (i 0).val
  let c0_i32_43 : BitVec 32 := 0#32
  let v113 : BitVec 1 := Scalar.cmpi .eq arg0 c0_i32_43
  let arg1 : BitVec 32 := BitVec.ofNat 32 (i 1).val
  let c0_i32_44 : BitVec 32 := 0#32
  let v114 : BitVec 1 := Scalar.cmpi .eq arg1 c0_i32_44
  let v115 : BitVec 1 := Scalar.andi v113 v114
  let v116 : BitVec 32 := Scalar.extui v115
  let c0_i32_45 : BitVec 32 := 0#32
  let v117 : BitVec 1 := Scalar.cmpi .ne v116 c0_i32_45
  v117

def k0_cond4 (i : grid0.Coords) : BitVec 1 :=
  let arg0 : BitVec 32 := BitVec.ofNat 32 (i 0).val
  let c0_i32_43 : BitVec 32 := 0#32
  let v113 : BitVec 1 := Scalar.cmpi .eq arg0 c0_i32_43
  let arg1 : BitVec 32 := BitVec.ofNat 32 (i 1).val
  let c0_i32_44 : BitVec 32 := 0#32
  let v114 : BitVec 1 := Scalar.cmpi .eq arg1 c0_i32_44
  let v115 : BitVec 1 := Scalar.andi v113 v114
  let true_46 : BitVec 1 := 1#1
  let v118 : BitVec 1 := Scalar.xori v115 true_46
  let v119 : BitVec 32 := Scalar.extui v118
  let c0_i32_47 : BitVec 32 := 0#32
  let v120 : BitVec 1 := Scalar.cmpi .ne v119 c0_i32_47
  v120

def k0_cond5 (i : grid0.Coords) : BitVec 1 :=
  let arg0 : BitVec 32 := BitVec.ofNat 32 (i 0).val
  let c0_i32_48 : BitVec 32 := 0#32
  let v121 : BitVec 1 := Scalar.cmpi .eq arg0 c0_i32_48
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let v124 : BitVec 32 := Scalar.extui v123
  let c0_i32_50 : BitVec 32 := 0#32
  let v125 : BitVec 1 := Scalar.cmpi .ne v124 c0_i32_50
  v125

def k0_cond6 (i : grid0.Coords) : BitVec 1 :=
  let arg0 : BitVec 32 := BitVec.ofNat 32 (i 0).val
  let c0_i32_48 : BitVec 32 := 0#32
  let v121 : BitVec 1 := Scalar.cmpi .eq arg0 c0_i32_48
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let true_51 : BitVec 1 := 1#1
  let v126 : BitVec 1 := Scalar.xori v123 true_51
  let v127 : BitVec 32 := Scalar.extui v126
  let c0_i32_52 : BitVec 32 := 0#32
  let v128 : BitVec 1 := Scalar.cmpi .ne v127 c0_i32_52
  v128

def k0_cond7 (i : grid0.Coords) : BitVec 1 :=
  let arg1 : BitVec 32 := BitVec.ofNat 32 (i 1).val
  let c0_i32_53 : BitVec 32 := 0#32
  let v129 : BitVec 1 := Scalar.cmpi .eq arg1 c0_i32_53
  let v130 : BitVec 32 := Scalar.extui v129
  let c0_i32_54 : BitVec 32 := 0#32
  let v131 : BitVec 1 := Scalar.cmpi .ne v130 c0_i32_54
  v131

def k0_cond8 (i : grid0.Coords) : BitVec 1 :=
  let arg1 : BitVec 32 := BitVec.ofNat 32 (i 1).val
  let c0_i32_53 : BitVec 32 := 0#32
  let v129 : BitVec 1 := Scalar.cmpi .eq arg1 c0_i32_53
  let true_55 : BitVec 1 := 1#1
  let v132 : BitVec 1 := Scalar.xori v129 true_55
  let v133 : BitVec 32 := Scalar.extui v132
  let c0_i32_56 : BitVec 32 := 0#32
  let v134 : BitVec 1 := Scalar.cmpi .ne v133 c0_i32_56
  v134

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Ln2LossBwdRefIdeal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S_ : Shape := ⟨0, ![]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S_, .f32⟩
  | .hbm, ⟨63, _⟩ => ⟨S2x2048, .f32⟩
  | .hbm, ⟨64, _⟩ => ⟨S2x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2x2048, .f32⟩
  | .hbm, ⟨73, _⟩ => ⟨S_, .f32⟩
  | .hbm, ⟨74, _⟩ => ⟨S2x2048, .f32⟩
  | .hbm, ⟨75, _⟩ => ⟨S2x2048, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S2x2048, .f32⟩
  | .hbm, ⟨83, _⟩ => ⟨S2x2048x1, .f32⟩
  | .hbm, ⟨84, _⟩ => ⟨S2x2048x1024, .f32⟩
  | .hbm, ⟨85, _⟩ => ⟨S2x2048x1024, .f32⟩
  | .hbm, ⟨86, _⟩ => ⟨S2x2048x1, .f32⟩
  | .hbm, ⟨87, _⟩ => ⟨S_, .f32⟩
  | .hbm, ⟨88, _⟩ => ⟨S2x2048x1, .f32⟩
  | .hbm, ⟨89, _⟩ => ⟨S2x2048x1, .f32⟩
  | .hbm, ⟨90, _⟩ => ⟨S_, .f32⟩
  | .hbm, ⟨91, _⟩ => ⟨S2x2048, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S_, .f32⟩
  | .hbm, ⟨97, _⟩ => ⟨S2x2048, .f32⟩
  | .hbm, ⟨98, _⟩ => ⟨S2x2048x1, .f32⟩
  | .hbm, ⟨99, _⟩ => ⟨S_, .f32⟩
  | .hbm, ⟨100, _⟩ => ⟨S2x2048x1, .f32⟩
  | .hbm, ⟨101, _⟩ => ⟨S2x2048x1, .f32⟩
  | .hbm, ⟨102, _⟩ => ⟨S_, .f32⟩
  | .hbm, ⟨103, _⟩ => ⟨S2x2048, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S_, .f32⟩
  | .hbm, ⟨109, _⟩ => ⟨S2x2048x1024, .f32⟩
  | .hbm, ⟨110, _⟩ => ⟨S2x2048x1024, .f32⟩
  | .hbm, ⟨111, _⟩ => ⟨S4096x1024, .f32⟩
  | .hbm, ⟨112, _⟩ => ⟨S4096x1024, .f32⟩
  | .hbm, ⟨113, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_cst_13 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_cst_21 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Ln0Fwd.lean ====
abbrev S4096x1024 : Shape := ⟨2, ![4096, 1024]⟩
abbrev S1x1024 : Shape := ⟨2, ![1, 1024]⟩
abbrev S2x6x1024 : Shape := ⟨3, ![2, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x6x1024, .f32⟩
  | .local _ .vmem, ⟨5, _⟩ => ⟨S1x6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ln0FwdIdeal.lean ====
abbrev S4096x1024 : Shape := ⟨2, ![4096, 1024]⟩
abbrev S1x1024 : Shape := ⟨2, ![1, 1024]⟩
abbrev S2x6x1024 : Shape := ⟨3, ![2, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x6x1024, .f32⟩
  | .local _ .vmem, ⟨5, _⟩ => ⟨S1x6x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ln0FwdRefIdeal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2x6x1024, .f32⟩
  | .hbm, ⟨4, _⟩ => ⟨S2x2048x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x2048x1024, .f32⟩
  | .hbm, ⟨39, _⟩ => ⟨S2x2048x1024, .f32⟩
  | .hbm, ⟨40, _⟩ => ⟨S2x1x1024, .f32⟩
  | .hbm, ⟨41, _⟩ => ⟨S2x2048x1024, .f32⟩
  | .hbm, ⟨42, _⟩ => ⟨S2x2048x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Ln1Fwd.lean ====
abbrev S4096x1024 : Shape := ⟨2, ![4096, 1024]⟩
abbrev S1x1024 : Shape := ⟨2, ![1, 1024]⟩
abbrev S2x6x1024 : Shape := ⟨3, ![2, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ln1FwdIdeal.lean ====
abbrev S4096x1024 : Shape := ⟨2, ![4096, 1024]⟩
abbrev S1x1024 : Shape := ⟨2, ![1, 1024]⟩
abbrev S2x6x1024 : Shape := ⟨3, ![2, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ln1FwdRefIdeal.lean ====
abbrev S4096x1024 : Shape := ⟨2, ![4096, 1024]⟩
abbrev S1x1024 : Shape := ⟨2, ![1, 1024]⟩
abbrev S2x6x1024 : Shape := ⟨3, ![2, 6, 1024]⟩
abbrev S2x2048x1024 : Shape := ⟨3, ![2, 2048, 1024]⟩
abbrev S_ : Shape := ⟨0, ![]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S2x1x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x1x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== FfnFwd.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdRefIdeal.lean ====
abbrev S4096x5632 : Shape := ⟨2, ![4096, 5632]⟩
abbrev S3x5632 : Shape := ⟨2, ![3, 5632]⟩
abbrev S1x5632 : Shape := ⟨2, ![1, 5632]⟩
abbrev S5632 : Shape := ⟨1, ![5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S5632, .f32⟩
  | .hbm, ⟨4, _⟩ => ⟨S2x2048x5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S1x5632, .f32⟩
  | .hbm, ⟨9, _⟩ => ⟨S5632, .f32⟩
  | .hbm, ⟨10, _⟩ => ⟨S2x2048x5632, .f32⟩
  | .hbm, ⟨11, _⟩ => ⟨S1x1x5632, .f32⟩
  | .hbm, ⟨12, _⟩ => ⟨S2x2048x5632, .f32⟩
  | .hbm, ⟨13, _⟩ => ⟨S2x2048x5632, .f32⟩
  | .hbm, ⟨14, _⟩ => ⟨S_, .f32⟩
  | .hbm, ⟨15, _⟩ => ⟨S2x2048x5632, .f32⟩
  | .hbm, ⟨16, _⟩ => ⟨S2x2048x5632, .f32⟩
  | .hbm, ⟨17, _⟩ => ⟨S1x5632, .f32⟩
  | .hbm, ⟨18, _⟩ => ⟨S5632, .f32⟩
  | .hbm, ⟨19, _⟩ => ⟨S2x2048x5632, .f32⟩
  | .hbm, ⟨20, _⟩ => ⟨S1x1x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S1x5632, .f32⟩
  | .hbm, ⟨25, _⟩ => ⟨S5632, .f32⟩
  | .hbm, ⟨26, _⟩ => ⟨S2x2048x5632, .f32⟩
  | .hbm, ⟨27, _⟩ => ⟨S1x1x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S1x1x5632, .f32⟩
  | .hbm, ⟨32, _⟩ => ⟨S2x2048x5632, .f32⟩
  | .hbm, ⟨33, _⟩ => ⟨S2x2048x5632, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S4096x2816, .f32⟩
  | .hbm, ⟨47, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== DnPreFwd.lean ====
abbrev S4096x3840 : Shape := ⟨2, ![4096, 3840]⟩
abbrev S4x1536 : Shape := ⟨2, ![4, 1536]⟩
abbrev S4096x1536 : Shape := ⟨2, ![4096, 1536]⟩
abbrev S2048x128 : Shape := ⟨2, ![2048, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x3840, .f32⟩
  | .hbm, ⟨1, _⟩ => ⟨S4x1536, .f32⟩
  | .hbm, ⟨2, _⟩ => ⟨S4096x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnPreFwdIdeal.lean ====
abbrev S4096x3840 : Shape := ⟨2, ![4096, 3840]⟩
abbrev S4x1536 : Shape := ⟨2, ![4, 1536]⟩
abbrev S4096x1536 : Shape := ⟨2, ![4096, 1536]⟩
abbrev S2048x128 : Shape := ⟨2, ![2048, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x3840, .f32⟩
  | .hbm, ⟨1, _⟩ => ⟨S4x1536, .f32⟩
  | .hbm, ⟨2, _⟩ => ⟨S4096x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnPreFwdRefIdeal.lean ====
abbrev S4096x3840 : Shape := ⟨2, ![4096, 3840]⟩
abbrev S4x1536 : Shape := ⟨2, ![4, 1536]⟩
abbrev S4096x256 : Shape := ⟨2, ![4096, 256]⟩
abbrev S4096x1280 : Shape := ⟨2, ![4096, 1280]⟩
abbrev S4096x1536 : Shape := ⟨2, ![4096, 1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 49
  | .vmem => 0
  | .smem => 0
  | _ => 0

abbrev bufTy : (tb : Table) → Fin (tcTables nBuf tb) → BufTy
  | .hbm, ⟨0, _⟩ => ⟨S4096x3840, .f32⟩
  | .hbm, ⟨1, _⟩ => ⟨S4x1536, .f32⟩
  | .hbm, ⟨2, _⟩ => ⟨S4096x256, .f32⟩
  | .hbm, ⟨3, _⟩ => ⟨S4096x1280, .f32⟩
  | .hbm, ⟨4, _⟩ => ⟨S4096x1536, .f32⟩
  | .hbm, ⟨5, _⟩ => ⟨S2x2048x1536, .f32⟩
  | .hbm, ⟨6, _⟩ => ⟨S_, .f32⟩
  | .hbm, ⟨7, _⟩ => ⟨S2x3x1536, .f32⟩
  | .hbm, ⟨8, _⟩ => ⟨S2x2051x1536, .f32⟩
  | .hbm, ⟨9, _⟩ => ⟨S1x1536, .f32⟩
  | .hbm, ⟨10, _⟩ => ⟨S1536, .f32⟩
  | .hbm, ⟨11, _⟩ => ⟨S2x2048x1536, .f32⟩
  | .hbm, ⟨12, _⟩ => ⟨S1x1x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S1x1536, .f32⟩
  | .hbm, ⟨19, _⟩ => ⟨S1536, .f32⟩
  | .hbm, ⟨20, _⟩ => ⟨S2x2048x1536, .f32⟩
  | .hbm, ⟨21, _⟩ => ⟨S1x1x1536, .f32⟩
  | .hbm, ⟨22, _⟩ => ⟨S2x2048x1536, .f32⟩
  | .hbm, ⟨23, _⟩ => ⟨S2x2048x1536, .f32⟩
  | .hbm, ⟨24, _⟩ => ⟨S2x2048x1536, .f32⟩
  | .hbm, ⟨25, _⟩ => ⟨S1x1536, .f32⟩
  | .hbm, ⟨26, _⟩ => ⟨S1536, .f32⟩
  | .hbm, ⟨27, _⟩ => ⟨S2x2048x1536, .f32⟩
  | .hbm, ⟨28, _⟩ => ⟨S1x1x1536, .f32⟩
  | .hbm, ⟨29, _⟩ => ⟨S2x2048x1536, .f32⟩
  | .hbm, ⟨30, _⟩ => ⟨S2x2048x1536, .f32⟩
  | .hbm, ⟨31, _⟩ => ⟨S2x2048x1536, .f32⟩
  | .hbm, ⟨32, _⟩ => ⟨S1x1536, .f32⟩
  | .hbm, ⟨33, _⟩ => ⟨S1536, .f32⟩
  | .hbm, ⟨34, _⟩ => ⟨S2x2048x1536, .f32⟩
  | .hbm, ⟨35, _⟩ => ⟨S1x1x1536, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S2x2048x1536, .f32⟩
  | .hbm, ⟨40, _⟩ => ⟨S2x2048x1536, .f32⟩
  | .hbm, ⟨41, _⟩ => ⟨S_, .f32⟩
  | .hbm, ⟨42, _⟩ => ⟨S2x2048x1536, .f32⟩
  | .hbm, ⟨43, _⟩ => ⟨S2x2048x1536, .f32⟩
  | .hbm, ⟨44, _⟩ => ⟨S_, .f32⟩
  | .hbm, ⟨45, _⟩ => ⟨S2x2048x1536, .f32⟩
  | .hbm, ⟨46, _⟩ => ⟨S2x2048x1536, .f32⟩
  | .hbm, ⟨47, _⟩ => ⟨S2x2048x1536, .f32⟩
  | .hbm, ⟨48, _⟩ => ⟨S4096x1536, .f32⟩
  | _, _ => ⟨S4096x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== WInPadded.lean ====
abbrev S4x1024x902 : Shape := ⟨3, ![4, 1024, 902]⟩
abbrev S1024x3840 : Shape := ⟨2, ![1024, 3840]⟩
abbrev S4x256x902 : Shape := ⟨3, ![4, 256, 902]⟩
abbrev S256x3840 : Shape := ⟨2, ![256, 3840]⟩
abbrev S1x256x256 : Shape := ⟨3, ![1, 256, 256]⟩
abbrev S256x256 : Shape := ⟨2, ![256, 256]⟩
abbrev S1x256x646 : Shape := ⟨3, ![1, 256, 646]⟩
abbrev S256x646 : Shape := ⟨2, ![256, 646]⟩
abbrev S1x256x634 : Shape := ⟨3, ![1, 256, 634]⟩
abbrev S256x634 : Shape := ⟨2, ![256, 634]⟩
abbrev S1x256x268 : Shape := ⟨3, ![1, 256, 268]⟩
abbrev S256x268 : Shape := ⟨2, ![256, 268]⟩
abbrev S1x256x244 : Shape := ⟨3, ![1, 256, 244]⟩
abbrev S256x244 : Shape := ⟨2, ![256, 244]⟩
abbrev S1x256x8 : Shape := ⟨3, ![1, 256, 8]⟩
abbrev S256x8 : Shape := ⟨2, ![256, 8]⟩
abbrev S1x256x650 : Shape := ⟨3, ![1, 256, 650]⟩
abbrev S256x650 : Shape := ⟨2, ![256, 650]⟩
abbrev S1x256x886 : Shape := ⟨3, ![1, 256, 886]⟩
abbrev S256x886 : Shape := ⟨2, ![256, 886]⟩
abbrev S1x256x16 : Shape := ⟨3, ![1, 256, 16]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x902, .bf16⟩
  | .hbm, ⟨1, _⟩ => ⟨S1024x3840, .bf16⟩
  | .local _ .vmem, ⟨0, _⟩ => ⟨S4x256x902, .bf16⟩
  | .local _ .vmem, ⟨1, _⟩ => ⟨S4x256x902, .bf16⟩
  | .local _ .vmem, ⟨2, _⟩ => ⟨S256x3840, .bf16⟩
  | .local _ .vmem, ⟨3, _⟩ => ⟨S256x3840, .bf16⟩
  | _, _ => ⟨S4x1024x902, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x902 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInPaddedRefIdeal.lean ====
abbrev S4x1024x902 : Shape := ⟨3, ![4, 1024, 902]⟩
abbrev S1024x4x902 : Shape := ⟨3, ![1024, 4, 902]⟩
abbrev S1024x3608 : Shape := ⟨2, ![1024, 3608]⟩
abbrev S_ : Shape := ⟨0, ![]⟩
abbrev S1024x240 : Shape := ⟨2, ![1024, 240]⟩
abbrev S1024x1536 : Shape := ⟨2, ![1024, 1536]⟩
abbrev S1024x8 : Shape := ⟨2, ![1024, 8]⟩
abbrev S1024x16 : Shape := ⟨2, ![1024, 16]⟩
abbrev S1024x232 : Shape := ⟨2, ![1024, 232]⟩
abbrev S1024x256 : Shape := ⟨2, ![1024, 256]⟩
abbrev S1024x512 : Shape := ⟨2, ![1024, 512]⟩
abbrev S1024x1280 : Shape := ⟨2, ![1024, 1280]⟩
abbrev S1024x3840 : Shape := ⟨2, ![1024, 3840]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x902, .bf16⟩
  | .hbm, ⟨1, _⟩ => ⟨S1024x4x902, .bf16⟩
  | .hbm, ⟨2, _⟩ => ⟨S1024x3608, .bf16⟩
  | .hbm, ⟨3, _⟩ => ⟨S_, .bf16⟩
  | .hbm, ⟨4, _⟩ => ⟨S1024x240, .bf16⟩
  | .hbm, ⟨5, _⟩ => ⟨S1024x1536, .bf16⟩
  | .hbm, ⟨6, _⟩ => ⟨S1024x8, .bf16⟩
  | .hbm, ⟨7, _⟩ => ⟨S1024x16, .bf16⟩
  | .hbm, ⟨8, _⟩ => ⟨S1024x232, .bf16⟩
  | .hbm, ⟨9, _⟩ => ⟨S1024x256, .bf16⟩
  | .hbm, ⟨10, _⟩ => ⟨S1024x512, .bf16⟩
  | .hbm, ⟨11, _⟩ => ⟨S1024x1280, .bf16⟩
  | .hbm, ⟨12, _⟩ => ⟨S1024x3840, .bf16⟩
  | _, _ => ⟨S4x1024x902, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== WInChips.lean ====
abbrev S1024x3840 : Shape := ⟨2, ![1024, 3840]⟩
abbrev S4x1024x902 : Shape := ⟨3, ![4, 1024, 902]⟩
abbrev S256x3840 : Shape := ⟨2, ![256, 3840]⟩
abbrev S4x256x902 : Shape := ⟨3, ![4, 256, 902]⟩
abbrev S256x256 : Shape := ⟨2, ![256, 256]⟩
abbrev S1x256x256 : Shape := ⟨3, ![1, 256, 256]⟩
abbrev S256x646 : Shape := ⟨2, ![256, 646]⟩
abbrev S1x256x646 : Shape := ⟨3, ![1, 256, 646]⟩
abbrev S256x634 : Shape := ⟨2, ![256, 634]⟩
abbrev S1x256x634 : Shape := ⟨3, ![1, 256, 634]⟩
abbrev S256x268 : Shape := ⟨2, ![256, 268]⟩
abbrev S1x256x268 : Shape := ⟨3, ![1, 256, 268]⟩
abbrev S256x244 : Shape := ⟨2, ![256, 244]⟩
abbrev S1x256x244 : Shape := ⟨3, ![1, 256, 244]⟩
abbrev S256x8 : Shape := ⟨2, ![256, 8]⟩
abbrev S1x256x8 : Shape := ⟨3, ![1, 256, 8]⟩
abbrev S256x650 : Shape := ⟨2, ![256, 650]⟩
abbrev S1x256x650 : Shape := ⟨3, ![1, 256, 650]⟩
abbrev S256x886 : Shape := ⟨2, ![256, 886]⟩
abbrev S1x256x886 : Shape := ⟨3, ![1, 256, 886]⟩
abbrev S256x16 : Shape := ⟨2, ![256, 16]⟩
abbrev S1x256x16 : Shape := ⟨3, ![1, 256, 16]⟩

abbrev nBuf : Space → Nat
  | .hbm => 2
  | .vmem => 4
  | .smem => 0
  | _ => 0

abbrev bufTy : (tb : Table) → Fin (tcTables nBuf tb) → BufTy
  | .hbm, ⟨0, _⟩ => ⟨S1024x3840, .f32⟩
  | .hbm, ⟨1, _⟩ => ⟨S4x1024x902, .f32⟩
  | .local _ .vmem, ⟨0, _⟩ => ⟨S256x3840, .f32⟩
  | .local _ .vmem, ⟨1, _⟩ => ⟨S256x3840, .f32⟩
  | .local _ .vmem, ⟨2, _⟩ => ⟨S4x256x902, .f32⟩
  | .local _ .vmem, ⟨3, _⟩ => ⟨S4x256x902, .f32⟩
  | _, _ => ⟨S1024x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x902 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInChipsIdeal.lean ====
abbrev S1024x3840 : Shape := ⟨2, ![1024, 3840]⟩
abbrev S4x1024x902 : Shape := ⟨3, ![4, 1024, 902]⟩
abbrev S256x3840 : Shape := ⟨2, ![256, 3840]⟩
abbrev S4x256x902 : Shape := ⟨3, ![4, 256, 902]⟩
abbrev S256x256 : Shape := ⟨2, ![256, 256]⟩
abbrev S1x256x256 : Shape := ⟨3, ![1, 256, 256]⟩
abbrev S256x646 : Shape := ⟨2, ![256, 646]⟩
abbrev S1x256x646 : Shape := ⟨3, ![1, 256, 646]⟩
abbrev S256x634 : Shape := ⟨2, ![256, 634]⟩
abbrev S1x256x634 : Shape := ⟨3, ![1, 256, 634]⟩
abbrev S256x268 : Shape := ⟨2, ![256, 268]⟩
abbrev S1x256x268 : Shape := ⟨3, ![1, 256, 268]⟩
abbrev S256x244 : Shape := ⟨2, ![256, 244]⟩
abbrev S1x256x244 : Shape := ⟨3, ![1, 256, 244]⟩
abbrev S256x8 : Shape := ⟨2, ![256, 8]⟩
abbrev S1x256x8 : Shape := ⟨3, ![1, 256, 8]⟩
abbrev S256x650 : Shape := ⟨2, ![256, 650]⟩
abbrev S1x256x650 : Shape := ⟨3, ![1, 256, 650]⟩
abbrev S256x886 : Shape := ⟨2, ![256, 886]⟩
abbrev S1x256x886 : Shape := ⟨3, ![1, 256, 886]⟩
abbrev S256x16 : Shape := ⟨2, ![256, 16]⟩
abbrev S1x256x16 : Shape := ⟨3, ![1, 256, 16]⟩

abbrev nBuf : Space → Nat
  | .hbm => 2
  | .vmem => 4
  | .smem => 0
  | _ => 0

abbrev bufTy : (tb : Table) → Fin (tcTables nBuf tb) → BufTy
  | .hbm, ⟨0, _⟩ => ⟨S1024x3840, .f32⟩
  | .hbm, ⟨1, _⟩ => ⟨S4x1024x902, .f32⟩
  | .local _ .vmem, ⟨0, _⟩ => ⟨S256x3840, .f32⟩
  | .local _ .vmem, ⟨1, _⟩ => ⟨S256x3840, .f32⟩
  | .local _ .vmem, ⟨2, _⟩ => ⟨S4x256x902, .f32⟩
  | .local _ .vmem, ⟨3, _⟩ => ⟨S4x256x902, .f32⟩
  | _, _ => ⟨S1024x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x902 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInChipsRefIdeal.lean ====
abbrev S1024x3840 : Shape := ⟨2, ![1024, 3840]⟩
abbrev S1024x256 : Shape := ⟨2, ![1024, 256]⟩
abbrev S1024x1280 : Shape := ⟨2, ![1024, 1280]⟩
abbrev S1024x512 : Shape := ⟨2, ![1024, 512]⟩
abbrev S1024x8 : Shape := ⟨2, ![1024, 8]⟩
abbrev S1024x1536 : Shape := ⟨2, ![1024, 1536]⟩
abbrev S1024x16 : Shape := ⟨2, ![1024, 16]⟩
abbrev S1024x3608 : Shape := ⟨2, ![1024, 3608]⟩
abbrev S1024x4x902 : Shape := ⟨3, ![1024, 4, 902]⟩
abbrev S4x1024x902 : Shape := ⟨3, ![4, 1024, 902]⟩

abbrev nBuf : Space → Nat
  | .hbm => 10
  | .vmem => 0
  | .smem => 0
  | _ => 0

abbrev bufTy : (tb : Table) → Fin (tcTables nBuf tb) → BufTy
  | .hbm, ⟨0, _⟩ => ⟨S1024x3840, .f32⟩
  | .hbm, ⟨1, _⟩ => ⟨S1024x256, .f32⟩
  | .hbm, ⟨2, _⟩ => ⟨S1024x1280, .f32⟩
  | .hbm, ⟨3, _⟩ => ⟨S1024x512, .f32⟩
  | .hbm, ⟨4, _⟩ => ⟨S1024x8, .f32⟩
  | .hbm, ⟨5, _⟩ => ⟨S1024x1536, .f32⟩
  | .hbm, ⟨6, _⟩ => ⟨S1024x16, .f32⟩
  | .hbm, ⟨7, _⟩ => ⟨S1024x3608, .f32⟩
  | .hbm, ⟨8, _⟩ => ⟨S1024x4x902, .f32⟩
  | .hbm, ⟨9, _⟩ => ⟨S4x1024x902, .f32⟩
  | _, _ => ⟨S1024x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWO.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWORefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWin.lean ====
abbrev S902x1024 : Shape := ⟨2, ![902, 1024]⟩
abbrev S902x256 : Shape := ⟨2, ![902, 256]⟩

abbrev nBuf : Space → Nat
  | .hbm => 7
  | .vmem => 14
  | .smem => 0
  | _ => 0

abbrev bufTy : (tb : Table) → Fin (tcTables nBuf tb) → BufTy
  | .hbm, ⟨0, _⟩ => ⟨S902x1024, .f32⟩
  | .hbm, ⟨1, _⟩ => ⟨S902x1024, .f32⟩
  | .hbm, ⟨2, _⟩ => ⟨S902x1024, .f32⟩
  | .hbm, ⟨3, _⟩ => ⟨S902x1024, .f32⟩
  | .hbm, ⟨4, _⟩ => ⟨S902x1024, .f32⟩
  | .hbm, ⟨5, _⟩ => ⟨S902x1024, .f32⟩
  | .hbm, ⟨6, _⟩ => ⟨S902x1024, .f32⟩
  | .local _ .vmem, ⟨0, _⟩ => ⟨S902x256, .f32⟩
  | .local _ .vmem, ⟨1, _⟩ => ⟨S902x256, .f32⟩
  | .local _ .vmem, ⟨2, _⟩ => ⟨S902x256, .f32⟩
  | .local _ .vmem, ⟨3, _⟩ => ⟨S902x256, .f32⟩
  | .local _ .vmem, ⟨4, _⟩ => ⟨S902x256, .f32⟩
  | .local _ .vmem, ⟨5, _⟩ => ⟨S902x256, .f32⟩
  | .local _ .vmem, ⟨6, _⟩ => ⟨S902x256, .f32⟩
  | .local _ .vmem, ⟨7, _⟩ => ⟨S902x256, .f32⟩
  | .local _ .vmem, ⟨8, _⟩ => ⟨S902x256, .f32⟩
  | .local _ .vmem, ⟨9, _⟩ => ⟨S902x256, .f32⟩
  | .local _ .vmem, ⟨10, _⟩ => ⟨S902x256, .f32⟩
  | .local _ .vmem, ⟨11, _⟩ => ⟨S902x256, .f32⟩
  | .local _ .vmem, ⟨12, _⟩ => ⟨S902x256, .f32⟩
  | .local _ .vmem, ⟨13, _⟩ => ⟨S902x256, .f32⟩
  | _, _ => ⟨S902x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S902x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S902x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S902x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S902x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S902x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S902x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S902x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinRefIdeal.lean ====
abbrev S902x1024 : Shape := ⟨2, ![902, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S902x1024, .f32⟩
  | .hbm, ⟨1, _⟩ => ⟨S902x1024, .f32⟩
  | .hbm, ⟨2, _⟩ => ⟨S902x1024, .f32⟩
  | .hbm, ⟨3, _⟩ => ⟨S902x1024, .f32⟩
  | .hbm, ⟨4, _⟩ => ⟨S_, .f32⟩
  | .hbm, ⟨5, _⟩ => ⟨S902x1024, .f32⟩
  | .hbm, ⟨6, _⟩ => ⟨S902x1024, .f32⟩
  | .hbm, ⟨7, _⟩ => ⟨S_, .f32⟩
  | .hbm, ⟨8, _⟩ => ⟨S902x1024, .f32⟩
  | .hbm, ⟨9, _⟩ => ⟨S902x1024, .f32⟩
  | .hbm, ⟨10, _⟩ => ⟨S902x1024, .f32⟩
  | .hbm, ⟨11, _⟩ => ⟨S_, .f32⟩
  | .hbm, ⟨12, _⟩ => ⟨S902x1024, .f32⟩
  | .hbm, ⟨13, _⟩ => ⟨S902x1024, .f32⟩
  | .hbm, ⟨14, _⟩ => ⟨S902x1024, .f32⟩
  | .hbm, ⟨15, _⟩ => ⟨S_, .f32⟩
  | .hbm, ⟨16, _⟩ => ⟨S902x1024, .f32⟩
  | .hbm, ⟨17, _⟩ => ⟨S902x1024, .f32⟩
  | .hbm, ⟨18, _⟩ => ⟨S902x1024, .f32⟩
  | .hbm, ⟨19, _⟩ => ⟨S_, .f32⟩
  | .hbm, ⟨20, _⟩ => ⟨S902x1024, .f32⟩
  | .hbm, ⟨21, _⟩ => ⟨S902x1024, .f32⟩
  | .hbm, ⟨22, _⟩ => ⟨S_, .f32⟩
  | .hbm, ⟨23, _⟩ => ⟨S902x1024, .f32⟩
  | .hbm, ⟨24, _⟩ => ⟨S902x1024, .f32⟩
  | .hbm, ⟨25, _⟩ => ⟨S902x1024, .f32⟩
  | .hbm, ⟨26, _⟩ => ⟨S_, .f32⟩
  | .hbm, ⟨27, _⟩ => ⟨S902x1024, .f32⟩
  | .hbm, ⟨28, _⟩ => ⟨S902x1024, .f32⟩
  | .hbm, ⟨29, _⟩ => ⟨S902x1024, .f32⟩
  | .hbm, ⟨30, _⟩ => ⟨S_, .f32⟩
  | .hbm, ⟨31, _⟩ => ⟨S902x1024, .f32⟩
  | .hbm, ⟨32, _⟩ => ⟨S902x1024, .f32⟩
  | .hbm, ⟨33, _⟩ => ⟨S902x1024, .f32⟩
  | .hbm, ⟨34, _⟩ => ⟨S_, .f32⟩
  | .hbm, ⟨35, _⟩ => ⟨S902x1024, .f32⟩
  | .hbm, ⟨36, _⟩ => ⟨S902x1024, .f32⟩
  | _, _ => ⟨S902x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallA.lean ====
abbrev S1024 : Shape := ⟨1, ![1024]⟩
abbrev S1x6144 : Shape := ⟨2, ![1, 6144]⟩
abbrev S1x4x384 : Shape := ⟨3, ![1, 4, 384]⟩

abbrev nBuf : Space → Nat
  | .hbm => 28
  | .vmem => 28
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1x6144, .f32⟩
  | .hbm, ⟨3, _⟩ => ⟨S1x4x384, .f32⟩
  | .hbm, ⟨4, _⟩ => ⟨S1024, .f32⟩
  | .hbm, ⟨5, _⟩ => ⟨S1024, .f32⟩
  | .hbm, ⟨6, _⟩ => ⟨S1x6144, .f32⟩
  | .hbm, ⟨7, _⟩ => ⟨S1x4x384, .f32⟩
  | .hbm, ⟨8, _⟩ => ⟨S1024, .f32⟩
  | .hbm, ⟨9, _⟩ => ⟨S1024, .f32⟩
  | .hbm, ⟨10, _⟩ => ⟨S1x6144, .f32⟩
  | .hbm, ⟨11, _⟩ => ⟨S1x4x384, .f32⟩
  | .hbm, ⟨12, _⟩ => ⟨S1024, .f32⟩
  | .hbm, ⟨13, _⟩ => ⟨S1024, .f32⟩
  | .hbm, ⟨14, _⟩ => ⟨S1x6144, .f32⟩
  | .hbm, ⟨15, _⟩ => ⟨S1x4x384, .f32⟩
  | .hbm, ⟨16, _⟩ => ⟨S1024, .f32⟩
  | .hbm, ⟨17, _⟩ => ⟨S1024, .f32⟩
  | .hbm, ⟨18, _⟩ => ⟨S1x6144, .f32⟩
  | .hbm, ⟨19, _⟩ => ⟨S1x4x384, .f32⟩
  | .hbm, ⟨20, _⟩ => ⟨S1024, .f32⟩
  | .hbm, ⟨21, _⟩ => ⟨S1024, .f32⟩
  | .hbm, ⟨22, _⟩ => ⟨S1x6144, .f32⟩
  | .hbm, ⟨23, _⟩ => ⟨S1x4x384, .f32⟩
  | .hbm, ⟨24, _⟩ => ⟨S1024, .f32⟩
  | .hbm, ⟨25, _⟩ => ⟨S1024, .f32⟩
  | .hbm, ⟨26, _⟩ => ⟨S1x6144, .f32⟩
  | .hbm, ⟨27, _⟩ => ⟨S1x4x384, .f32⟩
  | .local _ .vmem, ⟨0, _⟩ => ⟨S1024, .f32⟩
  | .local _ .vmem, ⟨1, _⟩ => ⟨S1024, .f32⟩
  | .local _ .vmem, ⟨2, _⟩ => ⟨S1x6144, .f32⟩
  | .local _ .vmem, ⟨3, _⟩ => ⟨S1x4x384, .f32⟩
  | .local _ .vmem, ⟨4, _⟩ => ⟨S1024, .f32⟩
  | .local _ .vmem, ⟨5, _⟩ => ⟨S1024, .f32⟩
  | .local _ .vmem, ⟨6, _⟩ => ⟨S1x6144, .f32⟩
  | .local _ .vmem, ⟨7, _⟩ => ⟨S1x4x384, .f32⟩
  | .local _ .vmem, ⟨8, _⟩ => ⟨S1024, .f32⟩
  | .local _ .vmem, ⟨9, _⟩ => ⟨S1024, .f32⟩
  | .local _ .vmem, ⟨10, _⟩ => ⟨S1x6144, .f32⟩
  | .local _ .vmem, ⟨11, _⟩ => ⟨S1x4x384, .f32⟩
  | .local _ .vmem, ⟨12, _⟩ => ⟨S1024, .f32⟩
  | .local _ .vmem, ⟨13, _⟩ => ⟨S1024, .f32⟩
  | .local _ .vmem, ⟨14, _⟩ => ⟨S1x6144, .f32⟩
  | .local _ .vmem, ⟨15, _⟩ => ⟨S1x4x384, .f32⟩
  | .local _ .vmem, ⟨16, _⟩ => ⟨S1024, .f32⟩
  | .local _ .vmem, ⟨17, _⟩ => ⟨S1024, .f32⟩
  | .local _ .vmem, ⟨18, _⟩ => ⟨S1x6144, .f32⟩
  | .local _ .vmem, ⟨19, _⟩ => ⟨S1x4x384, .f32⟩
  | .local _ .vmem, ⟨20, _⟩ => ⟨S1024, .f32⟩
  | .local _ .vmem, ⟨21, _⟩ => ⟨S1024, .f32⟩
  | .local _ .vmem, ⟨22, _⟩ => ⟨S1x6144, .f32⟩
  | .local _ .vmem, ⟨23, _⟩ => ⟨S1x4x384, .f32⟩
  | .local _ .vmem, ⟨24, _⟩ => ⟨S1024, .f32⟩
  | .local _ .vmem, ⟨25, _⟩ => ⟨S1024, .f32⟩
  | .local _ .vmem, ⟨26, _⟩ => ⟨S1x6144, .f32⟩
  | .local _ .vmem, ⟨27, _⟩ => ⟨S1x4x384, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x6144 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x6144 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallAIdeal.lean ====
abbrev S1024 : Shape := ⟨1, ![1024]⟩
abbrev S1x6144 : Shape := ⟨2, ![1, 6144]⟩
abbrev S1x4x384 : Shape := ⟨3, ![1, 4, 384]⟩

abbrev nBuf : Space → Nat
  | .hbm => 28
  | .vmem => 28
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1x6144, .f32⟩
  | .hbm, ⟨3, _⟩ => ⟨S1x4x384, .f32⟩
  | .hbm, ⟨4, _⟩ => ⟨S1024, .f32⟩
  | .hbm, ⟨5, _⟩ => ⟨S1024, .f32⟩
  | .hbm, ⟨6, _⟩ => ⟨S1x6144, .f32⟩
  | .hbm, ⟨7, _⟩ => ⟨S1x4x384, .f32⟩
  | .hbm, ⟨8, _⟩ => ⟨S1024, .f32⟩
  | .hbm, ⟨9, _⟩ => ⟨S1024, .f32⟩
  | .hbm, ⟨10, _⟩ => ⟨S1x6144, .f32⟩
  | .hbm, ⟨11, _⟩ => ⟨S1x4x384, .f32⟩
  | .hbm, ⟨12, _⟩ => ⟨S1024, .f32⟩
  | .hbm, ⟨13, _⟩ => ⟨S1024, .f32⟩
  | .hbm, ⟨14, _⟩ => ⟨S1x6144, .f32⟩
  | .hbm, ⟨15, _⟩ => ⟨S1x4x384, .f32⟩
  | .hbm, ⟨16, _⟩ => ⟨S1024, .f32⟩
  | .hbm, ⟨17, _⟩ => ⟨S1024, .f32⟩
  | .hbm, ⟨18, _⟩ => ⟨S1x6144, .f32⟩
  | .hbm, ⟨19, _⟩ => ⟨S1x4x384, .f32⟩
  | .hbm, ⟨20, _⟩ => ⟨S1024, .f32⟩
  | .hbm, ⟨21, _⟩ => ⟨S1024, .f32⟩
  | .hbm, ⟨22, _⟩ => ⟨S1x6144, .f32⟩
  | .hbm, ⟨23, _⟩ => ⟨S1x4x384, .f32⟩
  | .hbm, ⟨24, _⟩ => ⟨S1024, .f32⟩
  | .hbm, ⟨25, _⟩ => ⟨S1024, .f32⟩
  | .hbm, ⟨26, _⟩ => ⟨S1x6144, .f32⟩
  | .hbm, ⟨27, _⟩ => ⟨S1x4x384, .f32⟩
  | .local _ .vmem, ⟨0, _⟩ => ⟨S1024, .f32⟩
  | .local _ .vmem, ⟨1, _⟩ => ⟨S1024, .f32⟩
  | .local _ .vmem, ⟨2, _⟩ => ⟨S1x6144, .f32⟩
  | .local _ .vmem, ⟨3, _⟩ => ⟨S1x4x384, .f32⟩
  | .local _ .vmem, ⟨4, _⟩ => ⟨S1024, .f32⟩
  | .local _ .vmem, ⟨5, _⟩ => ⟨S1024, .f32⟩
  | .local _ .vmem, ⟨6, _⟩ => ⟨S1x6144, .f32⟩
  | .local _ .vmem, ⟨7, _⟩ => ⟨S1x4x384, .f32⟩
  | .local _ .vmem, ⟨8, _⟩ => ⟨S1024, .f32⟩
  | .local _ .vmem, ⟨9, _⟩ => ⟨S1024, .f32⟩
  | .local _ .vmem, ⟨10, _⟩ => ⟨S1x6144, .f32⟩
  | .local _ .vmem, ⟨11, _⟩ => ⟨S1x4x384, .f32⟩
  | .local _ .vmem, ⟨12, _⟩ => ⟨S1024, .f32⟩
  | .local _ .vmem, ⟨13, _⟩ => ⟨S1024, .f32⟩
  | .local _ .vmem, ⟨14, _⟩ => ⟨S1x6144, .f32⟩
  | .local _ .vmem, ⟨15, _⟩ => ⟨S1x4x384, .f32⟩
  | .local _ .vmem, ⟨16, _⟩ => ⟨S1024, .f32⟩
  | .local _ .vmem, ⟨17, _⟩ => ⟨S1024, .f32⟩
  | .local _ .vmem, ⟨18, _⟩ => ⟨S1x6144, .f32⟩
  | .local _ .vmem, ⟨19, _⟩ => ⟨S1x4x384, .f32⟩
  | .local _ .vmem, ⟨20, _⟩ => ⟨S1024, .f32⟩
  | .local _ .vmem, ⟨21, _⟩ => ⟨S1024, .f32⟩
  | .local _ .vmem, ⟨22, _⟩ => ⟨S1x6144, .f32⟩
  | .local _ .vmem, ⟨23, _⟩ => ⟨S1x4x384, .f32⟩
  | .local _ .vmem, ⟨24, _⟩ => ⟨S1024, .f32⟩
  | .local _ .vmem, ⟨25, _⟩ => ⟨S1024, .f32⟩
  | .local _ .vmem, ⟨26, _⟩ => ⟨S1x6144, .f32⟩
  | .local _ .vmem, ⟨27, _⟩ => ⟨S1x4x384, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x6144 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x6144 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallARefIdeal.lean ====
abbrev S1024 : Shape := ⟨1, ![1024]⟩
abbrev S1x6144 : Shape := ⟨2, ![1, 6144]⟩
abbrev S1x4x384 : Shape := ⟨3, ![1, 4, 384]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1024, .f32⟩
  | 1 => ⟨S1024, .f32⟩
  | 2 => ⟨S1x6144, .f32⟩
  | 3 => ⟨S1x4x384, .f32⟩
  | 4 => ⟨S1024, .f32⟩
  | 5 => ⟨S1024, .f32⟩
  | 6 => ⟨S1x6144, .f32⟩
  | 7 => ⟨S1x4x384, .f32⟩
  | 8 => ⟨S1024, .f32⟩
  | 9 => ⟨S1024, .f32⟩
  | 10 => ⟨S1x6144, .f32⟩
  | 11 => ⟨S1x4x384, .f32⟩
  | 12 => ⟨S1024, .f32⟩
  | 13 => ⟨S1024, .f32⟩
  | 14 => ⟨S1x6144, .f32⟩
  | 15 => ⟨S1x4x384, .f32⟩
  | 16 => ⟨S_, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024, .f32⟩
  | 31 => ⟨S_, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S_, .f32⟩
  | 53 => ⟨S1024, .f32⟩
  | 54 => ⟨S1024, .f32⟩
  | 55 => ⟨S1024, .f32⟩
  | 56 => ⟨S_, .f32⟩
  | 57 => ⟨S1024, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1x6144, .f32⟩
  | 84 => ⟨S1x6144, .f32⟩
  | 85 => ⟨S_, .f32⟩
  | 86 => ⟨S1x6144, .f32⟩
  | 87 => ⟨S1x6144, .f32⟩
  | 88 => ⟨S1x6144, .f32⟩
  | 89 => ⟨S_, .f32⟩
  | 90 => ⟨S1x6144, .f32⟩
  | 91 => ⟨S1x6144, .f32⟩
  | 92 => ⟨S1x6144, .f32⟩
  | 93 => ⟨S_, .f32⟩
  | 94 => ⟨S1x6144, .f32⟩
  | 95 => ⟨S1x6144, .f32⟩
  | 96 => ⟨S1x6144, .f32⟩
  | 97 => ⟨S_, .f32⟩
  | 98 => ⟨S1x6144, .f32⟩
  | 99 => ⟨S1x6144, .f32⟩
  | 100 => ⟨S_, .f32⟩
  | 101 => ⟨S1x6144, .f32⟩
  | 102 => ⟨S1x6144, .f32⟩
  | 103 => ⟨S1x6144, .f32⟩
  | 104 => ⟨S_, .f32⟩
  | 105 => ⟨S1x6144, .f32⟩
  | 106 => ⟨S1x6144, .f32⟩
  | 107 => ⟨S1x6144, .f32⟩
  | 108 => ⟨S_, .f32⟩
  | 109 => ⟨S1x6144, .f32⟩
  | 110 => ⟨S1x6144, .f32⟩
  | 111 => ⟨S1x6144, .f32⟩
  | 112 => ⟨S_, .f32⟩
  | 113 => ⟨S1x6144, .f32⟩
  | 114 => ⟨S1x6144, .f32⟩
  | 115 => ⟨S_, .f32⟩
  | 116 => ⟨S1x4x384, .f32⟩
  | 117 => ⟨S1x4x384, .f32⟩
  | 118 => ⟨S_, .f32⟩
  | 119 => ⟨S1x4x384, .f32⟩
  | 120 => ⟨S1x4x384, .f32⟩
  | 121 => ⟨S1x4x384, .f32⟩
  | 122 => ⟨S_, .f32⟩
  | 123 => ⟨S1x4x384, .f32⟩
  | 124 => ⟨S1x4x384, .f32⟩
  | 125 => ⟨S1x4x384, .f32⟩
  | 126 => ⟨S_, .f32⟩
  | 127 => ⟨S1x4x384, .f32⟩
  | _ => ⟨S1024, .f32⟩

abbrev hbmTy0_1 (i : Nat) : BufTy := match i % 128 with
  | 0 => ⟨S1x4x384, .f32⟩
  | 1 => ⟨S1x4x384, .f32⟩
  | 2 => ⟨S_, .f32⟩
  | 3 => ⟨S1x4x384, .f32⟩
  | 4 => ⟨S1x4x384, .f32⟩
  | 5 => ⟨S_, .f32⟩
  | 6 => ⟨S1x4x384, .f32⟩
  | 7 => ⟨S1x4x384, .f32⟩
  | 8 => ⟨S1x4x384, .f32⟩
  | 9 => ⟨S_, .f32⟩
  | 10 => ⟨S1x4x384, .f32⟩
  | 11 => ⟨S1x4x384, .f32⟩
  | 12 => ⟨S1x4x384, .f32⟩
  | 13 => ⟨S_, .f32⟩
  | 14 => ⟨S1x4x384, .f32⟩
  | 15 => ⟨S1x4x384, .f32⟩
  | 16 => ⟨S1x4x384, .f32⟩
  | 17 => ⟨S_, .f32⟩
  | 18 => ⟨S1x4x384, .f32⟩
  | 19 => ⟨S1x4x384, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamSmallB.lean ====
abbrev S1x4 : Shape := ⟨2, ![1, 4]⟩
abbrev S1x128 : Shape := ⟨2, ![1, 128]⟩
abbrev S1x16x64 : Shape := ⟨3, ![1, 16, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x128, .f32⟩
  | .hbm, ⟨3, _⟩ => ⟨S1x16x64, .f32⟩
  | .hbm, ⟨4, _⟩ => ⟨S1x4, .f32⟩
  | .hbm, ⟨5, _⟩ => ⟨S1x4, .f32⟩
  | .hbm, ⟨6, _⟩ => ⟨S1x128, .f32⟩
  | .hbm, ⟨7, _⟩ => ⟨S1x16x64, .f32⟩
  | .hbm, ⟨8, _⟩ => ⟨S1x4, .f32⟩
  | .hbm, ⟨9, _⟩ => ⟨S1x4, .f32⟩
  | .hbm, ⟨10, _⟩ => ⟨S1x128, .f32⟩
  | .hbm, ⟨11, _⟩ => ⟨S1x16x64, .f32⟩
  | .hbm, ⟨12, _⟩ => ⟨S1x4, .f32⟩
  | .hbm, ⟨13, _⟩ => ⟨S1x4, .f32⟩
  | .hbm, ⟨14, _⟩ => ⟨S1x128, .f32⟩
  | .hbm, ⟨15, _⟩ => ⟨S1x16x64, .f32⟩
  | .hbm, ⟨16, _⟩ => ⟨S1x4, .f32⟩
  | .hbm, ⟨17, _⟩ => ⟨S1x4, .f32⟩
  | .hbm, ⟨18, _⟩ => ⟨S1x128, .f32⟩
  | .hbm, ⟨19, _⟩ => ⟨S1x16x64, .f32⟩
  | .hbm, ⟨20, _⟩ => ⟨S1x4, .f32⟩
  | .hbm, ⟨21, _⟩ => ⟨S1x4, .f32⟩
  | .hbm, ⟨22, _⟩ => ⟨S1x128, .f32⟩
  | .hbm, ⟨23, _⟩ => ⟨S1x16x64, .f32⟩
  | .hbm, ⟨24, _⟩ => ⟨S1x4, .f32⟩
  | .hbm, ⟨25, _⟩ => ⟨S1x4, .f32⟩
  | .hbm, ⟨26, _⟩ => ⟨S1x128, .f32⟩
  | .hbm, ⟨27, _⟩ => ⟨S1x16x64, .f32⟩
  | .local _ .vmem, ⟨0, _⟩ => ⟨S1x4, .f32⟩
  | .local _ .vmem, ⟨1, _⟩ => ⟨S1x4, .f32⟩
  | .local _ .vmem, ⟨2, _⟩ => ⟨S1x128, .f32⟩
  | .local _ .vmem, ⟨3, _⟩ => ⟨S1x16x64, .f32⟩
  | .local _ .vmem, ⟨4, _⟩ => ⟨S1x4, .f32⟩
  | .local _ .vmem, ⟨5, _⟩ => ⟨S1x4, .f32⟩
  | .local _ .vmem, ⟨6, _⟩ => ⟨S1x128, .f32⟩
  | .local _ .vmem, ⟨7, _⟩ => ⟨S1x16x64, .f32⟩
  | .local _ .vmem, ⟨8, _⟩ => ⟨S1x4, .f32⟩
  | .local _ .vmem, ⟨9, _⟩ => ⟨S1x4, .f32⟩
  | .local _ .vmem, ⟨10, _⟩ => ⟨S1x128, .f32⟩
  | .local _ .vmem, ⟨11, _⟩ => ⟨S1x16x64, .f32⟩
  | .local _ .vmem, ⟨12, _⟩ => ⟨S1x4, .f32⟩
  | .local _ .vmem, ⟨13, _⟩ => ⟨S1x4, .f32⟩
  | .local _ .vmem, ⟨14, _⟩ => ⟨S1x128, .f32⟩
  | .local _ .vmem, ⟨15, _⟩ => ⟨S1x16x64, .f32⟩
  | .local _ .vmem, ⟨16, _⟩ => ⟨S1x4, .f32⟩
  | .local _ .vmem, ⟨17, _⟩ => ⟨S1x4, .f32⟩
  | .local _ .vmem, ⟨18, _⟩ => ⟨S1x128, .f32⟩
  | .local _ .vmem, ⟨19, _⟩ => ⟨S1x16x64, .f32⟩
  | .local _ .vmem, ⟨20, _⟩ => ⟨S1x4, .f32⟩
  | .local _ .vmem, ⟨21, _⟩ => ⟨S1x4, .f32⟩
  | .local _ .vmem, ⟨22, _⟩ => ⟨S1x128, .f32⟩
  | .local _ .vmem, ⟨23, _⟩ => ⟨S1x16x64, .f32⟩
  | .local _ .vmem, ⟨24, _⟩ => ⟨S1x4, .f32⟩
  | .local _ .vmem, ⟨25, _⟩ => ⟨S1x4, .f32⟩
  | .local _ .vmem, ⟨26, _⟩ => ⟨S1x128, .f32⟩
  | .local _ .vmem, ⟨27, _⟩ => ⟨S1x16x64, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallBIdeal.lean ====
abbrev S1x4 : Shape := ⟨2, ![1, 4]⟩
abbrev S1x128 : Shape := ⟨2, ![1, 128]⟩
abbrev S1x16x64 : Shape := ⟨3, ![1, 16, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x128, .f32⟩
  | .hbm, ⟨3, _⟩ => ⟨S1x16x64, .f32⟩
  | .hbm, ⟨4, _⟩ => ⟨S1x4, .f32⟩
  | .hbm, ⟨5, _⟩ => ⟨S1x4, .f32⟩
  | .hbm, ⟨6, _⟩ => ⟨S1x128, .f32⟩
  | .hbm, ⟨7, _⟩ => ⟨S1x16x64, .f32⟩
  | .hbm, ⟨8, _⟩ => ⟨S1x4, .f32⟩
  | .hbm, ⟨9, _⟩ => ⟨S1x4, .f32⟩
  | .hbm, ⟨10, _⟩ => ⟨S1x128, .f32⟩
  | .hbm, ⟨11, _⟩ => ⟨S1x16x64, .f32⟩
  | .hbm, ⟨12, _⟩ => ⟨S1x4, .f32⟩
  | .hbm, ⟨13, _⟩ => ⟨S1x4, .f32⟩
  | .hbm, ⟨14, _⟩ => ⟨S1x128, .f32⟩
  | .hbm, ⟨15, _⟩ => ⟨S1x16x64, .f32⟩
  | .hbm, ⟨16, _⟩ => ⟨S1x4, .f32⟩
  | .hbm, ⟨17, _⟩ => ⟨S1x4, .f32⟩
  | .hbm, ⟨18, _⟩ => ⟨S1x128, .f32⟩
  | .hbm, ⟨19, _⟩ => ⟨S1x16x64, .f32⟩
  | .hbm, ⟨20, _⟩ => ⟨S1x4, .f32⟩
  | .hbm, ⟨21, _⟩ => ⟨S1x4, .f32⟩
  | .hbm, ⟨22, _⟩ => ⟨S1x128, .f32⟩
  | .hbm, ⟨23, _⟩ => ⟨S1x16x64, .f32⟩
  | .hbm, ⟨24, _⟩ => ⟨S1x4, .f32⟩
  | .hbm, ⟨25, _⟩ => ⟨S1x4, .f32⟩
  | .hbm, ⟨26, _⟩ => ⟨S1x128, .f32⟩
  | .hbm, ⟨27, _⟩ => ⟨S1x16x64, .f32⟩
  | .local _ .vmem, ⟨0, _⟩ => ⟨S1x4, .f32⟩
  | .local _ .vmem, ⟨1, _⟩ => ⟨S1x4, .f32⟩
  | .local _ .vmem, ⟨2, _⟩ => ⟨S1x128, .f32⟩
  | .local _ .vmem, ⟨3, _⟩ => ⟨S1x16x64, .f32⟩
  | .local _ .vmem, ⟨4, _⟩ => ⟨S1x4, .f32⟩
  | .local _ .vmem, ⟨5, _⟩ => ⟨S1x4, .f32⟩
  | .local _ .vmem, ⟨6, _⟩ => ⟨S1x128, .f32⟩
  | .local _ .vmem, ⟨7, _⟩ => ⟨S1x16x64, .f32⟩
  | .local _ .vmem, ⟨8, _⟩ => ⟨S1x4, .f32⟩
  | .local _ .vmem, ⟨9, _⟩ => ⟨S1x4, .f32⟩
  | .local _ .vmem, ⟨10, _⟩ => ⟨S1x128, .f32⟩
  | .local _ .vmem, ⟨11, _⟩ => ⟨S1x16x64, .f32⟩
  | .local _ .vmem, ⟨12, _⟩ => ⟨S1x4, .f32⟩
  | .local _ .vmem, ⟨13, _⟩ => ⟨S1x4, .f32⟩
  | .local _ .vmem, ⟨14, _⟩ => ⟨S1x128, .f32⟩
  | .local _ .vmem, ⟨15, _⟩ => ⟨S1x16x64, .f32⟩
  | .local _ .vmem, ⟨16, _⟩ => ⟨S1x4, .f32⟩
  | .local _ .vmem, ⟨17, _⟩ => ⟨S1x4, .f32⟩
  | .local _ .vmem, ⟨18, _⟩ => ⟨S1x128, .f32⟩
  | .local _ .vmem, ⟨19, _⟩ => ⟨S1x16x64, .f32⟩
  | .local _ .vmem, ⟨20, _⟩ => ⟨S1x4, .f32⟩
  | .local _ .vmem, ⟨21, _⟩ => ⟨S1x4, .f32⟩
  | .local _ .vmem, ⟨22, _⟩ => ⟨S1x128, .f32⟩
  | .local _ .vmem, ⟨23, _⟩ => ⟨S1x16x64, .f32⟩
  | .local _ .vmem, ⟨24, _⟩ => ⟨S1x4, .f32⟩
  | .local _ .vmem, ⟨25, _⟩ => ⟨S1x4, .f32⟩
  | .local _ .vmem, ⟨26, _⟩ => ⟨S1x128, .f32⟩
  | .local _ .vmem, ⟨27, _⟩ => ⟨S1x16x64, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallBRefIdeal.lean ====
abbrev S1x4 : Shape := ⟨2, ![1, 4]⟩
abbrev S1x128 : Shape := ⟨2, ![1, 128]⟩
abbrev S1x16x64 : Shape := ⟨3, ![1, 16, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x4, .f32⟩
  | 1 => ⟨S1x4, .f32⟩
  | 2 => ⟨S1x128, .f32⟩
  | 3 => ⟨S1x16x64, .f32⟩
  | 4 => ⟨S1x4, .f32⟩
  | 5 => ⟨S1x4, .f32⟩
  | 6 => ⟨S1x128, .f32⟩
  | 7 => ⟨S1x16x64, .f32⟩
  | 8 => ⟨S1x4, .f32⟩
  | 9 => ⟨S1x4, .f32⟩
  | 10 => ⟨S1x128, .f32⟩
  | 11 => ⟨S1x16x64, .f32⟩
  | 12 => ⟨S1x4, .f32⟩
  | 13 => ⟨S1x4, .f32⟩
  | 14 => ⟨S1x128, .f32⟩
  | 15 => ⟨S1x16x64, .f32⟩
  | 16 => ⟨S_, .f32⟩
  | 17 => ⟨S1x4, .f32⟩
  | 18 => ⟨S1x4, .f32⟩
  | 19 => ⟨S_, .f32⟩
  | 20 => ⟨S1x4, .f32⟩
  | 21 => ⟨S1x4, .f32⟩
  | 22 => ⟨S1x4, .f32⟩
  | 23 => ⟨S_, .f32⟩
  | 24 => ⟨S1x4, .f32⟩
  | 25 => ⟨S1x4, .f32⟩
  | 26 => ⟨S1x4, .f32⟩
  | 27 => ⟨S_, .f32⟩
  | 28 => ⟨S1x4, .f32⟩
  | 29 => ⟨S1x4, .f32⟩
  | 30 => ⟨S1x4, .f32⟩
  | 31 => ⟨S_, .f32⟩
  | 32 => ⟨S1x4, .f32⟩
  | 33 => ⟨S1x4, .f32⟩
  | 34 => ⟨S_, .f32⟩
  | 35 => ⟨S1x4, .f32⟩
  | 36 => ⟨S1x4, .f32⟩
  | 37 => ⟨S1x4, .f32⟩
  | 38 => ⟨S_, .f32⟩
  | 39 => ⟨S1x4, .f32⟩
  | 40 => ⟨S1x4, .f32⟩
  | 41 => ⟨S1x4, .f32⟩
  | 42 => ⟨S_, .f32⟩
  | 43 => ⟨S1x4, .f32⟩
  | 44 => ⟨S1x4, .f32⟩
  | 45 => ⟨S1x4, .f32⟩
  | 46 => ⟨S_, .f32⟩
  | 47 => ⟨S1x4, .f32⟩
  | 48 => ⟨S1x4, .f32⟩
  | 49 => ⟨S_, .f32⟩
  | 50 => ⟨S1x4, .f32⟩
  | 51 => ⟨S1x4, .f32⟩
  | 52 => ⟨S_, .f32⟩
  | 53 => ⟨S1x4, .f32⟩
  | 54 => ⟨S1x4, .f32⟩
  | 55 => ⟨S1x4, .f32⟩
  | 56 => ⟨S_, .f32⟩
  | 57 => ⟨S1x4, .f32⟩
  | 58 => ⟨S1x4, .f32⟩
  | 59 => ⟨S1x4, .f32⟩
  | 60 => ⟨S_, .f32⟩
  | 61 => ⟨S1x4, .f32⟩
  | 62 => ⟨S1x4, .f32⟩
  | 63 => ⟨S1x4, .f32⟩
  | 64 => ⟨S_, .f32⟩
  | 65 => ⟨S1x4, .f32⟩
  | 66 => ⟨S1x4, .f32⟩
  | 67 => ⟨S_, .f32⟩
  | 68 => ⟨S1x4, .f32⟩
  | 69 => ⟨S1x4, .f32⟩
  | 70 => ⟨S1x4, .f32⟩
  | 71 => ⟨S_, .f32⟩
  | 72 => ⟨S1x4, .f32⟩
  | 73 => ⟨S1x4, .f32⟩
  | 74 => ⟨S1x4, .f32⟩
  | 75 => ⟨S_, .f32⟩
  | 76 => ⟨S1x4, .f32⟩
  | 77 => ⟨S1x4, .f32⟩
  | 78 => ⟨S1x4, .f32⟩
  | 79 => ⟨S_, .f32⟩
  | 80 => ⟨S1x4, .f32⟩
  | 81 => ⟨S1x4, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x16x64, .f32⟩
  | 117 => ⟨S1x16x64, .f32⟩
  | 118 => ⟨S_, .f32⟩
  | 119 => ⟨S1x16x64, .f32⟩
  | 120 => ⟨S1x16x64, .f32⟩
  | 121 => ⟨S1x16x64, .f32⟩
  | 122 => ⟨S_, .f32⟩
  | 123 => ⟨S1x16x64, .f32⟩
  | 124 => ⟨S1x16x64, .f32⟩
  | 125 => ⟨S1x16x64, .f32⟩
  | 126 => ⟨S_, .f32⟩
  | 127 => ⟨S1x16x64, .f32⟩
  | _ => ⟨S1x4, .f32⟩

abbrev hbmTy0_1 (i : Nat) : BufTy := match i % 128 with
  | 0 => ⟨S1x16x64, .f32⟩
  | 1 => ⟨S1x16x64, .f32⟩
  | 2 => ⟨S_, .f32⟩
  | 3 => ⟨S1x16x64, .f32⟩
  | 4 => ⟨S1x16x64, .f32⟩
  | 5 => ⟨S_, .f32⟩
  | 6 => ⟨S1x16x64, .f32⟩
  | 7 => ⟨S1x16x64, .f32⟩
  | 8 => ⟨S1x16x64, .f32⟩
  | 9 => ⟨S_, .f32⟩
  | 10 => ⟨S1x16x64, .f32⟩
  | 11 => ⟨S1x16x64, .f32⟩
  | 12 => ⟨S1x16x64, .f32⟩
  | 13 => ⟨S_, .f32⟩
  | 14 => ⟨S1x16x64, .f32⟩
  | 15 => ⟨S1x16x64, .f32⟩
  | 16 => ⟨S1x16x64, .f32⟩
  | 17 => ⟨S_, .f32⟩
  | 18 => ⟨S1x16x64, .f32⟩
  | 19 => ⟨S1x16x64, .f32⟩
  | _ => ⟨S1x4, .f32⟩

abbrev hbmTy (i : Nat) : BufTy := match i / 128 with
  | 0 => hbmTy0_0 i
  | 1 => hbmTy0_1 i
  | _ => ⟨S1x4, .f32⟩

abbrev bufTy : (tb : Table) → Fin (tcTables nBuf tb) → BufTy
  | .hbm, ⟨i, _⟩ => hbmTy i
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamSmallC.lean ====
abbrev S1x256 : Shape := ⟨2, ![1, 256]⟩
abbrev S1x128 : Shape := ⟨2, ![1, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x256, .f32⟩
  | .hbm, ⟨1, _⟩ => ⟨S1x128, .f32⟩
  | .hbm, ⟨2, _⟩ => ⟨S1x1024, .f32⟩
  | .hbm, ⟨3, _⟩ => ⟨S1x1024, .f32⟩
  | .hbm, ⟨4, _⟩ => ⟨S1x256, .f32⟩
  | .hbm, ⟨5, _⟩ => ⟨S1x128, .f32⟩
  | .hbm, ⟨6, _⟩ => ⟨S1x1024, .f32⟩
  | .hbm, ⟨7, _⟩ => ⟨S1x1024, .f32⟩
  | .hbm, ⟨8, _⟩ => ⟨S1x256, .f32⟩
  | .hbm, ⟨9, _⟩ => ⟨S1x128, .f32⟩
  | .hbm, ⟨10, _⟩ => ⟨S1x1024, .f32⟩
  | .hbm, ⟨11, _⟩ => ⟨S1x1024, .f32⟩
  | .hbm, ⟨12, _⟩ => ⟨S1x256, .f32⟩
  | .hbm, ⟨13, _⟩ => ⟨S1x128, .f32⟩
  | .hbm, ⟨14, _⟩ => ⟨S1x1024, .f32⟩
  | .hbm, ⟨15, _⟩ => ⟨S1x1024, .f32⟩
  | .hbm, ⟨16, _⟩ => ⟨S1x256, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1x256, .f32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S1x256, .f32⟩
  | .hbm, ⟨25, _⟩ => ⟨S1x128, .f32⟩
  | .hbm, ⟨26, _⟩ => ⟨S1x1024, .f32⟩
  | .hbm, ⟨27, _⟩ => ⟨S1x1024, .f32⟩
  | .local _ .vmem, ⟨0, _⟩ => ⟨S1x256, .f32⟩
  | .local _ .vmem, ⟨1, _⟩ => ⟨S1x128, .f32⟩
  | .local _ .vmem, ⟨2, _⟩ => ⟨S1x1024, .f32⟩
  | .local _ .vmem, ⟨3, _⟩ => ⟨S1x1024, .f32⟩
  | .local _ .vmem, ⟨4, _⟩ => ⟨S1x256, .f32⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S1x256, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x256, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x256, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1x256, .f32⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S1x256, .f32⟩
  | .local _ .vmem, ⟨25, _⟩ => ⟨S1x128, .f32⟩
  | .local _ .vmem, ⟨26, _⟩ => ⟨S1x1024, .f32⟩
  | .local _ .vmem, ⟨27, _⟩ => ⟨S1x1024, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallCIdeal.lean ====
abbrev S1x256 : Shape := ⟨2, ![1, 256]⟩
abbrev S1x128 : Shape := ⟨2, ![1, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x256, .f32⟩
  | .hbm, ⟨1, _⟩ => ⟨S1x128, .f32⟩
  | .hbm, ⟨2, _⟩ => ⟨S1x1024, .f32⟩
  | .hbm, ⟨3, _⟩ => ⟨S1x1024, .f32⟩
  | .hbm, ⟨4, _⟩ => ⟨S1x256, .f32⟩
  | .hbm, ⟨5, _⟩ => ⟨S1x128, .f32⟩
  | .hbm, ⟨6, _⟩ => ⟨S1x1024, .f32⟩
  | .hbm, ⟨7, _⟩ => ⟨S1x1024, .f32⟩
  | .hbm, ⟨8, _⟩ => ⟨S1x256, .f32⟩
  | .hbm, ⟨9, _⟩ => ⟨S1x128, .f32⟩
  | .hbm, ⟨10, _⟩ => ⟨S1x1024, .f32⟩
  | .hbm, ⟨11, _⟩ => ⟨S1x1024, .f32⟩
  | .hbm, ⟨12, _⟩ => ⟨S1x256, .f32⟩
  | .hbm, ⟨13, _⟩ => ⟨S1x128, .f32⟩
  | .hbm, ⟨14, _⟩ => ⟨S1x1024, .f32⟩
  | .hbm, ⟨15, _⟩ => ⟨S1x1024, .f32⟩
  | .hbm, ⟨16, _⟩ => ⟨S1x256, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1x256, .f32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S1x256, .f32⟩
  | .hbm, ⟨25, _⟩ => ⟨S1x128, .f32⟩
  | .hbm, ⟨26, _⟩ => ⟨S1x1024, .f32⟩
  | .hbm, ⟨27, _⟩ => ⟨S1x1024, .f32⟩
  | .local _ .vmem, ⟨0, _⟩ => ⟨S1x256, .f32⟩
  | .local _ .vmem, ⟨1, _⟩ => ⟨S1x128, .f32⟩
  | .local _ .vmem, ⟨2, _⟩ => ⟨S1x1024, .f32⟩
  | .local _ .vmem, ⟨3, _⟩ => ⟨S1x1024, .f32⟩
  | .local _ .vmem, ⟨4, _⟩ => ⟨S1x256, .f32⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S1x256, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x256, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x256, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1x256, .f32⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S1x256, .f32⟩
  | .local _ .vmem, ⟨25, _⟩ => ⟨S1x128, .f32⟩
  | .local _ .vmem, ⟨26, _⟩ => ⟨S1x1024, .f32⟩
  | .local _ .vmem, ⟨27, _⟩ => ⟨S1x1024, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallCRefIdeal.lean ====
abbrev S1x256 : Shape := ⟨2, ![1, 256]⟩
abbrev S1x128 : Shape := ⟨2, ![1, 128]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x256, .f32⟩
  | 1 => ⟨S1x128, .f32⟩
  | 2 => ⟨S1x1024, .f32⟩
  | 3 => ⟨S1x1024, .f32⟩
  | 4 => ⟨S1x256, .f32⟩
  | 5 => ⟨S1x128, .f32⟩
  | 6 => ⟨S1x1024, .f32⟩
  | 7 => ⟨S1x1024, .f32⟩
  | 8 => ⟨S1x256, .f32⟩
  | 9 => ⟨S1x128, .f32⟩
  | 10 => ⟨S1x1024, .f32⟩
  | 11 => ⟨S1x1024, .f32⟩
  | 12 => ⟨S1x256, .f32⟩
  | 13 => ⟨S1x128, .f32⟩
  | 14 => ⟨S1x1024, .f32⟩
  | 15 => ⟨S1x1024, .f32⟩
  | 16 => ⟨S_, .f32⟩
  | 17 => ⟨S1x256, .f32⟩
  | 18 => ⟨S1x256, .f32⟩
  | 19 => ⟨S_, .f32⟩
  | 20 => ⟨S1x256, .f32⟩
  | 21 => ⟨S1x256, .f32⟩
  | 22 => ⟨S1x256, .f32⟩
  | 23 => ⟨S_, .f32⟩
  | 24 => ⟨S1x256, .f32⟩
  | 25 => ⟨S1x256, .f32⟩
  | 26 => ⟨S1x256, .f32⟩
  | 27 => ⟨S_, .f32⟩
  | 28 => ⟨S1x256, .f32⟩
  | 29 => ⟨S1x256, .f32⟩
  | 30 => ⟨S1x256, .f32⟩
  | 31 => ⟨S_, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S1x256, .f32⟩
  | 42 => ⟨S_, .f32⟩
  | 43 => ⟨S1x256, .f32⟩
  | 44 => ⟨S1x256, .f32⟩
  | 45 => ⟨S1x256, .f32⟩
  | 46 => ⟨S_, .f32⟩
  | 47 => ⟨S1x256, .f32⟩
  | 48 => ⟨S1x256, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x256, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x256, .f32⟩

abbrev hbmTy (i : Nat) : BufTy := match i / 128 with
  | 0 => hbmTy0_0 i
  | 1 => hbmTy0_1 i
  | _ => ⟨S1x256, .f32⟩

abbrev bufTy : (tb : Table) → Fin (tcTables nBuf tb) → BufTy
  | .hbm, ⟨i, _⟩ => hbmTy i
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamSmallD.lean ====
abbrev S1x3x1408 : Shape := ⟨3, ![1, 3, 1408]⟩
abbrev S1x5632 : Shape := ⟨2, ![1, 5632]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x3x1408, .f32⟩
  | .hbm, ⟨1, _⟩ => ⟨S1x5632, .f32⟩
  | .hbm, ⟨2, _⟩ => ⟨S1x1024, .f32⟩
  | .hbm, ⟨3, _⟩ => ⟨S1x1024, .f32⟩
  | .hbm, ⟨4, _⟩ => ⟨S1x3x1408, .f32⟩
  | .hbm, ⟨5, _⟩ => ⟨S1x5632, .f32⟩
  | .hbm, ⟨6, _⟩ => ⟨S1x1024, .f32⟩
  | .hbm, ⟨7, _⟩ => ⟨S1x1024, .f32⟩
  | .hbm, ⟨8, _⟩ => ⟨S1x3x1408, .f32⟩
  | .hbm, ⟨9, _⟩ => ⟨S1x5632, .f32⟩
  | .hbm, ⟨10, _⟩ => ⟨S1x1024, .f32⟩
  | .hbm, ⟨11, _⟩ => ⟨S1x1024, .f32⟩
  | .hbm, ⟨12, _⟩ => ⟨S1x3x1408, .f32⟩
  | .hbm, ⟨13, _⟩ => ⟨S1x5632, .f32⟩
  | .hbm, ⟨14, _⟩ => ⟨S1x1024, .f32⟩
  | .hbm, ⟨15, _⟩ => ⟨S1x1024, .f32⟩
  | .hbm, ⟨16, _⟩ => ⟨S1x3x1408, .f32⟩
  | .hbm, ⟨17, _⟩ => ⟨S1x5632, .f32⟩
  | .hbm, ⟨18, _⟩ => ⟨S1x1024, .f32⟩
  | .hbm, ⟨19, _⟩ => ⟨S1x1024, .f32⟩
  | .hbm, ⟨20, _⟩ => ⟨S1x3x1408, .f32⟩
  | .hbm, ⟨21, _⟩ => ⟨S1x5632, .f32⟩
  | .hbm, ⟨22, _⟩ => ⟨S1x1024, .f32⟩
  | .hbm, ⟨23, _⟩ => ⟨S1x1024, .f32⟩
  | .hbm, ⟨24, _⟩ => ⟨S1x3x1408, .f32⟩
  | .hbm, ⟨25, _⟩ => ⟨S1x5632, .f32⟩
  | .hbm, ⟨26, _⟩ => ⟨S1x1024, .f32⟩
  | .hbm, ⟨27, _⟩ => ⟨S1x1024, .f32⟩
  | .local _ .vmem, ⟨0, _⟩ => ⟨S1x3x1408, .f32⟩
  | .local _ .vmem, ⟨1, _⟩ => ⟨S1x5632, .f32⟩
  | .local _ .vmem, ⟨2, _⟩ => ⟨S1x1024, .f32⟩
  | .local _ .vmem, ⟨3, _⟩ => ⟨S1x1024, .f32⟩
  | .local _ .vmem, ⟨4, _⟩ => ⟨S1x3x1408, .f32⟩
  | .local _ .vmem, ⟨5, _⟩ => ⟨S1x5632, .f32⟩
  | .local _ .vmem, ⟨6, _⟩ => ⟨S1x1024, .f32⟩
  | .local _ .vmem, ⟨7, _⟩ => ⟨S1x1024, .f32⟩
  | .local _ .vmem, ⟨8, _⟩ => ⟨S1x3x1408, .f32⟩
  | .local _ .vmem, ⟨9, _⟩ => ⟨S1x5632, .f32⟩
  | .local _ .vmem, ⟨10, _⟩ => ⟨S1x1024, .f32⟩
  | .local _ .vmem, ⟨11, _⟩ => ⟨S1x1024, .f32⟩
  | .local _ .vmem, ⟨12, _⟩ => ⟨S1x3x1408, .f32⟩
  | .local _ .vmem, ⟨13, _⟩ => ⟨S1x5632, .f32⟩
  | .local _ .vmem, ⟨14, _⟩ => ⟨S1x1024, .f32⟩
  | .local _ .vmem, ⟨15, _⟩ => ⟨S1x1024, .f32⟩
  | .local _ .vmem, ⟨16, _⟩ => ⟨S1x3x1408, .f32⟩
  | .local _ .vmem, ⟨17, _⟩ => ⟨S1x5632, .f32⟩
  | .local _ .vmem, ⟨18, _⟩ => ⟨S1x1024, .f32⟩
  | .local _ .vmem, ⟨19, _⟩ => ⟨S1x1024, .f32⟩
  | .local _ .vmem, ⟨20, _⟩ => ⟨S1x3x1408, .f32⟩
  | .local _ .vmem, ⟨21, _⟩ => ⟨S1x5632, .f32⟩
  | .local _ .vmem, ⟨22, _⟩ => ⟨S1x1024, .f32⟩
  | .local _ .vmem, ⟨23, _⟩ => ⟨S1x1024, .f32⟩
  | .local _ .vmem, ⟨24, _⟩ => ⟨S1x3x1408, .f32⟩
  | .local _ .vmem, ⟨25, _⟩ => ⟨S1x5632, .f32⟩
  | .local _ .vmem, ⟨26, _⟩ => ⟨S1x1024, .f32⟩
  | .local _ .vmem, ⟨27, _⟩ => ⟨S1x1024, .f32⟩
  | _, _ => ⟨S1x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3x1408 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x3x1408 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x3x1408 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x5632 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x3x1408 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x5632 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallDRefIdeal.lean ====
abbrev S1x3x1408 : Shape := ⟨3, ![1, 3, 1408]⟩
abbrev S1x5632 : Shape := ⟨2, ![1, 5632]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x3x1408, .f32⟩
  | 1 => ⟨S1x5632, .f32⟩
  | 2 => ⟨S1x1024, .f32⟩
  | 3 => ⟨S1x1024, .f32⟩
  | 4 => ⟨S1x3x1408, .f32⟩
  | 5 => ⟨S1x5632, .f32⟩
  | 6 => ⟨S1x1024, .f32⟩
  | 7 => ⟨S1x1024, .f32⟩
  | 8 => ⟨S1x3x1408, .f32⟩
  | 9 => ⟨S1x5632, .f32⟩
  | 10 => ⟨S1x1024, .f32⟩
  | 11 => ⟨S1x1024, .f32⟩
  | 12 => ⟨S1x3x1408, .f32⟩
  | 13 => ⟨S1x5632, .f32⟩
  | 14 => ⟨S1x1024, .f32⟩
  | 15 => ⟨S1x1024, .f32⟩
  | 16 => ⟨S_, .f32⟩
  | 17 => ⟨S1x3x1408, .f32⟩
  | 18 => ⟨S1x3x1408, .f32⟩
  | 19 => ⟨S_, .f32⟩
  | 20 => ⟨S1x3x1408, .f32⟩
  | 21 => ⟨S1x3x1408, .f32⟩
  | 22 => ⟨S1x3x1408, .f32⟩
  | 23 => ⟨S_, .f32⟩
  | 24 => ⟨S1x3x1408, .f32⟩
  | 25 => ⟨S1x3x1408, .f32⟩
  | 26 => ⟨S1x3x1408, .f32⟩
  | 27 => ⟨S_, .f32⟩
  | 28 => ⟨S1x3x1408, .f32⟩
  | 29 => ⟨S1x3x1408, .f32⟩
  | 30 => ⟨S1x3x1408, .f32⟩
  | 31 => ⟨S_, .f32⟩
  | 32 => ⟨S1x3x1408, .f32⟩
  | 33 => ⟨S1x3x1408, .f32⟩
  | 34 => ⟨S_, .f32⟩
  | 35 => ⟨S1x3x1408, .f32⟩
  | 36 => ⟨S1x3x1408, .f32⟩
  | 37 => ⟨S1x3x1408, .f32⟩
  | 38 => ⟨S_, .f32⟩
  | 39 => ⟨S1x3x1408, .f32⟩
  | 40 => ⟨S1x3x1408, .f32⟩
  | 41 => ⟨S1x3x1408, .f32⟩
  | 42 => ⟨S_, .f32⟩
  | 43 => ⟨S1x3x1408, .f32⟩
  | 44 => ⟨S1x3x1408, .f32⟩
  | 45 => ⟨S1x3x1408, .f32⟩
  | 46 => ⟨S_, .f32⟩
  | 47 => ⟨S1x3x1408, .f32⟩
  | 48 => ⟨S1x3x1408, .f32⟩
  | 49 => ⟨S_, .f32⟩
  | 50 => ⟨S1x5632, .f32⟩
  | 51 => ⟨S1x5632, .f32⟩
  | 52 => ⟨S_, .f32⟩
  | 53 => ⟨S1x5632, .f32⟩
  | 54 => ⟨S1x5632, .f32⟩
  | 55 => ⟨S1x5632, .f32⟩
  | 56 => ⟨S_, .f32⟩
  | 57 => ⟨S1x5632, .f32⟩
  | 58 => ⟨S1x5632, .f32⟩
  | 59 => ⟨S1x5632, .f32⟩
  | 60 => ⟨S_, .f32⟩
  | 61 => ⟨S1x5632, .f32⟩
  | 62 => ⟨S1x5632, .f32⟩
  | 63 => ⟨S1x5632, .f32⟩
  | 64 => ⟨S_, .f32⟩
  | 65 => ⟨S1x5632, .f32⟩
  | 66 => ⟨S1x5632, .f32⟩
  | 67 => ⟨S_, .f32⟩
  | 68 => ⟨S1x5632, .f32⟩
  | 69 => ⟨S1x5632, .f32⟩
  | 70 => ⟨S1x5632, .f32⟩
  | 71 => ⟨S_, .f32⟩
  | 72 => ⟨S1x5632, .f32⟩
  | 73 => ⟨S1x5632, .f32⟩
  | 74 => ⟨S1x5632, .f32⟩
  | 75 => ⟨S_, .f32⟩
  | 76 => ⟨S1x5632, .f32⟩
  | 77 => ⟨S1x5632, .f32⟩
  | 78 => ⟨S1x5632, .f32⟩
  | 79 => ⟨S_, .f32⟩
  | 80 => ⟨S1x5632, .f32⟩
  | 81 => ⟨S1x5632, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x3x1408, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x3x1408, .f32⟩

abbrev hbmTy (i : Nat) : BufTy := match i / 128 with
  | 0 => hbmTy0_0 i
  | 1 => hbmTy0_1 i
  | _ => ⟨S1x3x1408, .f32⟩

abbrev bufTy : (tb : Table) → Fin (tcTables nBuf tb) → BufTy
  | .hbm, ⟨i, _⟩ => hbmTy i
  | _, _ => ⟨S1x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== FfnBwd.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2x4096x2816 : Shape := ⟨3, ![2, 4096, 2816]⟩
abbrev S2x3x2816 : Shape := ⟨3, ![2, 3, 2816]⟩
abbrev S2x1x2816 : Shape := ⟨3, ![2, 1, 2816]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S2x3x256 : Shape := ⟨3, ![2, 3, 256]⟩
abbrev S2x1x256 : Shape := ⟨3, ![2, 1, 256]⟩
abbrev S256 : Shape := ⟨1, ![256]⟩
abbrev S1x2048x256 : Shape := ⟨3, ![1, 2048, 256]⟩
abbrev S1x1x256 : Shape := ⟨3, ![1, 1, 256]⟩

abbrev nBuf : Space → Nat
  | .hbm => 7
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S2x4096x2816, .bf16⟩
  | .hbm, ⟨5, _⟩ => ⟨S2x3x2816, .f32⟩
  | .hbm, ⟨6, _⟩ => ⟨S2x1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2x3x256, .f32⟩
  | .local _ .vmem, ⟨17, _⟩ => ⟨S2x3x256, .f32⟩
  | .local _ .vmem, ⟨18, _⟩ => ⟨S2x1x256, .f32⟩
  | .local _ .vmem, ⟨19, _⟩ => ⟨S2x1x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v105 : BitVec 32 := Scalar.extui v0
  let c0_i32_34 : BitVec 32 := 0#32
  let v106 : BitVec 1 := Scalar.cmpi .ne v105 c0_i32_34
  v106

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v107 : BitVec 1 := Scalar.xori v0 v_true
  let v108 : BitVec 32 := Scalar.extui v107
  let c0_i32_35 : BitVec 32 := 0#32
  let v109 : BitVec 1 := Scalar.cmpi .ne v108 c0_i32_35
  v109

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v110 : BitVec 32 := Scalar.extui v0
  let c0_i32_36 : BitVec 32 := 0#32
  let v111 : BitVec 1 := Scalar.cmpi .ne v110 c0_i32_36
  v111

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_37 : BitVec 1 := 1#1
  let v112 : BitVec 1 := Scalar.xori v0 true_37
  let v113 : BitVec 32 := Scalar.extui v112
  let c0_i32_38 : BitVec 32 := 0#32
  let v114 : BitVec 1 := Scalar.cmpi .ne v113 c0_i32_38
  v114

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v115 : BitVec 32 := Scalar.extui v0
  let c0_i32_39 : BitVec 32 := 0#32
  let v116 : BitVec 1 := Scalar.cmpi .ne v115 c0_i32_39
  v116

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_40 : BitVec 1 := 1#1
  let v117 : BitVec 1 := Scalar.xori v0 true_40
  let v118 : BitVec 32 := Scalar.extui v117
  let c0_i32_41 : BitVec 32 := 0#32
  let v119 : BitVec 1 := Scalar.cmpi .ne v118 c0_i32_41
  v119

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v163 : BitVec 32 := Scalar.extui v0
  let c0_i32_57 : BitVec 32 := 0#32
  let v164 : BitVec 1 := Scalar.cmpi .ne v163 c0_i32_57
  v164

def k0_cond10 (i : grid0.Coords) : BitVec 1 :=
  let arg1 : BitVec 32 := BitVec.ofNat 32 (i 1).val
  let c0_i32 : BitVec 32 := 0#32
  let v0 : BitVec 1 := Scalar.cmpi .eq arg1 c0_i32
  let true_58 : BitVec 1 := 1#1
  let v165 : BitVec 1 := Scalar.xori v0 true_58
  let v166 : BitVec 32 := Scalar.extui v165
  let c0_i32_59 : BitVec 32 := 0#32
  let v167 : BitVec 1 := Scalar.cmpi .ne v166 c0_i32_59
  v167

def k0_cond11 (i : grid0.Coords) : BitVec 1 :=
  let arg1 : BitVec 32 := BitVec.ofNat 32 (i 1).val
  let c0_i32 : BitVec 32 := 0#32
  let v0 : BitVec 1 := Scalar.cmpi .eq arg1 c0_i32
  let v168 : BitVec 32 := Scalar.extui v0
  let c0_i32_60 : BitVec 32 := 0#32
  let v169 : BitVec 1 := Scalar.cmpi .ne v168 c0_i32_60
  v169

def k0_cond12 (i : grid0.Coords) : BitVec 1 :=
  let arg1 : BitVec 32 := BitVec.ofNat 32 (i 1).val
  let c0_i32 : BitVec 32 := 0#32
  let v0 : BitVec 1 := Scalar.cmpi .eq arg1 c0_i32
  let true_61 : BitVec 1 := 1#1
  let v170 : BitVec 1 := Scalar.xori v0 true_61
  let v171 : BitVec 32 := Scalar.extui v170
  let c0_i32_62 : BitVec 32 := 0#32
  let v172 : BitVec 1 := Scalar.cmpi .ne v171 c0_i32_62
  v172

def k0_cond13 (i : grid0.Coords) : BitVec 1 :=
  let arg1 : BitVec 32 := BitVec.ofNat 32 (i 1).val
  let c0_i32 : BitVec 32 := 0#32
  let v0 : BitVec 1 := Scalar.cmpi .eq arg1 c0_i32
  let v173 : BitVec 32 := Scalar.extui v0
  let c0_i32_63 : BitVec 32 := 0#32
  let v174 : BitVec 1 := Scalar.cmpi .ne v173 c0_i32_63
  v174

def k0_cond14 (i : grid0.Coords) : BitVec 1 :=
  let arg1 : BitVec 32 := BitVec.ofNat 32 (i 1).val
  let c0_i32 : BitVec 32 := 0#32
  let v0 : BitVec 1 := Scalar.cmpi .eq arg1 c0_i32
  let true_64 : BitVec 1 := 1#1
  let v175 : BitVec 1 := Scalar.xori v0 true_64
  let v176 : BitVec 32 := Scalar.extui v175
  let c0_i32_65 : BitVec 32 := 0#32
  let v177 : BitVec 1 := Scalar.cmpi .ne v176 c0_i32_65
  v177

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v122 : BitVec 32 := Scalar.extui v0
  let c0_i32_43 : BitVec 32 := 0#32
  let v123 : BitVec 1 := Scalar.cmpi .ne v122 c0_i32_43
  v123

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_44 : BitVec 1 := 1#1
  let v124 : BitVec 1 := Scalar.xori v0 true_44
  let v125 : BitVec 32 := Scalar.extui v124
  let c0_i32_45 : BitVec 32 := 0#32
  let v126 : BitVec 1 := Scalar.cmpi .ne v125 c0_i32_45
  v126

def k0_cond15 (i : grid0.Coords) : BitVec 1 :=
  let arg1 : BitVec 32 := BitVec.ofNat 32 (i 1).val
  let c0_i32 : BitVec 32 := 0#32
  let v0 : BitVec 1 := Scalar.cmpi .eq arg1 c0_i32
  let v180 : BitVec 32 := Scalar.extui v0
  let c0_i32_67 : BitVec 32 := 0#32
  let v181 : BitVec 1 := Scalar.cmpi .ne v180 c0_i32_67
  v181

def k0_cond16 (i : grid0.Coords) : BitVec 1 :=
  let arg1 : BitVec 32 := BitVec.ofNat 32 (i 1).val
  let c0_i32 : BitVec 32 := 0#32
  let v0 : BitVec 1 := Scalar.cmpi .eq arg1 c0_i32
  let true_68 : BitVec 1 := 1#1
  let v182 : BitVec 1 := Scalar.xori v0 true_68
  let v183 : BitVec 32 := Scalar.extui v182
  let c0_i32_69 : BitVec 32 := 0#32
  let v184 : BitVec 1 := Scalar.cmpi .ne v183 c0_i32_69
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnBwdIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2x4096x2816 : Shape := ⟨3, ![2, 4096, 2816]⟩
abbrev S2x3x2816 : Shape := ⟨3, ![2, 3, 2816]⟩
abbrev S2x1x2816 : Shape := ⟨3, ![2, 1, 2816]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S2x3x256 : Shape := ⟨3, ![2, 3, 256]⟩
abbrev S2x1x256 : Shape := ⟨3, ![2, 1, 256]⟩
abbrev S256 : Shape := ⟨1, ![256]⟩
abbrev S1x2048x256 : Shape := ⟨3, ![1, 2048, 256]⟩
abbrev S1x1x256 : Shape := ⟨3, ![1, 1, 256]⟩

abbrev nBuf : Space → Nat
  | .hbm => 7
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S2x4096x2816, .bf16⟩
  | .hbm, ⟨5, _⟩ => ⟨S2x3x2816, .f32⟩
  | .hbm, ⟨6, _⟩ => ⟨S2x1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2x3x256, .f32⟩
  | .local _ .vmem, ⟨17, _⟩ => ⟨S2x3x256, .f32⟩
  | .local _ .vmem, ⟨18, _⟩ => ⟨S2x1x256, .f32⟩
  | .local _ .vmem, ⟨19, _⟩ => ⟨S2x1x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v105 : BitVec 32 := Scalar.extui v0
  let c0_i32_34 : BitVec 32 := 0#32
  let v106 : BitVec 1 := Scalar.cmpi .ne v105 c0_i32_34
  v106

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v107 : BitVec 1 := Scalar.xori v0 v_true
  let v108 : BitVec 32 := Scalar.extui v107
  let c0_i32_35 : BitVec 32 := 0#32
  let v109 : BitVec 1 := Scalar.cmpi .ne v108 c0_i32_35
  v109

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v110 : BitVec 32 := Scalar.extui v0
  let c0_i32_36 : BitVec 32 := 0#32
  let v111 : BitVec 1 := Scalar.cmpi .ne v110 c0_i32_36
  v111

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_37 : BitVec 1 := 1#1
  let v112 : BitVec 1 := Scalar.xori v0 true_37
  let v113 : BitVec 32 := Scalar.extui v112
  let c0_i32_38 : BitVec 32 := 0#32
  let v114 : BitVec 1 := Scalar.cmpi .ne v113 c0_i32_38
  v114

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v115 : BitVec 32 := Scalar.extui v0
  let c0_i32_39 : BitVec 32 := 0#32
  let v116 : BitVec 1 := Scalar.cmpi .ne v115 c0_i32_39
  v116

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_40 : BitVec 1 := 1#1
  let v117 : BitVec 1 := Scalar.xori v0 true_40
  let v118 : BitVec 32 := Scalar.extui v117
  let c0_i32_41 : BitVec 32 := 0#32
  let v119 : BitVec 1 := Scalar.cmpi .ne v118 c0_i32_41
  v119

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v163 : BitVec 32 := Scalar.extui v0
  let c0_i32_57 : BitVec 32 := 0#32
  let v164 : BitVec 1 := Scalar.cmpi .ne v163 c0_i32_57
  v164

def k0_cond10 (i : grid0.Coords) : BitVec 1 :=
  let arg1 : BitVec 32 := BitVec.ofNat 32 (i 1).val
  let c0_i32 : BitVec 32 := 0#32
  let v0 : BitVec 1 := Scalar.cmpi .eq arg1 c0_i32
  let true_58 : BitVec 1 := 1#1
  let v165 : BitVec 1 := Scalar.xori v0 true_58
  let v166 : BitVec 32 := Scalar.extui v165
  let c0_i32_59 : BitVec 32 := 0#32
  let v167 : BitVec 1 := Scalar.cmpi .ne v166 c0_i32_59
  v167

def k0_cond11 (i : grid0.Coords) : BitVec 1 :=
  let arg1 : BitVec 32 := BitVec.ofNat 32 (i 1).val
  let c0_i32 : BitVec 32 := 0#32
  let v0 : BitVec 1 := Scalar.cmpi .eq arg1 c0_i32
  let v168 : BitVec 32 := Scalar.extui v0
  let c0_i32_60 : BitVec 32 := 0#32
  let v169 : BitVec 1 := Scalar.cmpi .ne v168 c0_i32_60
  v169

def k0_cond12 (i : grid0.Coords) : BitVec 1 :=
  let arg1 : BitVec 32 := BitVec.ofNat 32 (i 1).val
  let c0_i32 : BitVec 32 := 0#32
  let v0 : BitVec 1 := Scalar.cmpi .eq arg1 c0_i32
  let true_61 : BitVec 1 := 1#1
  let v170 : BitVec 1 := Scalar.xori v0 true_61
  let v171 : BitVec 32 := Scalar.extui v170
  let c0_i32_62 : BitVec 32 := 0#32
  let v172 : BitVec 1 := Scalar.cmpi .ne v171 c0_i32_62
  v172

def k0_cond13 (i : grid0.Coords) : BitVec 1 :=
  let arg1 : BitVec 32 := BitVec.ofNat 32 (i 1).val
  let c0_i32 : BitVec 32 := 0#32
  let v0 : BitVec 1 := Scalar.cmpi .eq arg1 c0_i32
  let v173 : BitVec 32 := Scalar.extui v0
  let c0_i32_63 : BitVec 32 := 0#32
  let v174 : BitVec 1 := Scalar.cmpi .ne v173 c0_i32_63
  v174

def k0_cond14 (i : grid0.Coords) : BitVec 1 :=
  let arg1 : BitVec 32 := BitVec.ofNat 32 (i 1).val
  let c0_i32 : BitVec 32 := 0#32
  let v0 : BitVec 1 := Scalar.cmpi .eq arg1 c0_i32
  let true_64 : BitVec 1 := 1#1
  let v175 : BitVec 1 := Scalar.xori v0 true_64
  let v176 : BitVec 32 := Scalar.extui v175
  let c0_i32_65 : BitVec 32 := 0#32
  let v177 : BitVec 1 := Scalar.cmpi .ne v176 c0_i32_65
  v177

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v122 : BitVec 32 := Scalar.extui v0
  let c0_i32_43 : BitVec 32 := 0#32
  let v123 : BitVec 1 := Scalar.cmpi .ne v122 c0_i32_43
  v123

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_44 : BitVec 1 := 1#1
  let v124 : BitVec 1 := Scalar.xori v0 true_44
  let v125 : BitVec 32 := Scalar.extui v124
  let c0_i32_45 : BitVec 32 := 0#32
  let v126 : BitVec 1 := Scalar.cmpi .ne v125 c0_i32_45
  v126

def k0_cond15 (i : grid0.Coords) : BitVec 1 :=
  let arg1 : BitVec 32 := BitVec.ofNat 32 (i 1).val
  let c0_i32 : BitVec 32 := 0#32
  let v0 : BitVec 1 := Scalar.cmpi .eq arg1 c0_i32
  let v180 : BitVec 32 := Scalar.extui v0
  let c0_i32_67 : BitVec 32 := 0#32
  let v181 : BitVec 1 := Scalar.cmpi .ne v180 c0_i32_67
  v181

def k0_cond16 (i : grid0.Coords) : BitVec 1 :=
  let arg1 : BitVec 32 := BitVec.ofNat 32 (i 1).val
  let c0_i32 : BitVec 32 := 0#32
  let v0 : BitVec 1 := Scalar.cmpi .eq arg1 c0_i32
  let true_68 : BitVec 1 := 1#1
  let v182 : BitVec 1 := Scalar.xori v0 true_68
  let v183 : BitVec 32 := Scalar.extui v182
  let c0_i32_69 : BitVec 32 := 0#32
  let v184 : BitVec 1 := Scalar.cmpi .ne v183 c0_i32_69
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnBwdRefIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S5632 : Shape := ⟨1, ![5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S4096x2x2816 : Shape := ⟨3, ![4096, 2, 2816]⟩
abbrev S2x4096x2816 : Shape := ⟨3, ![2, 4096, 2816]⟩
abbrev S3x2x2816 : Shape := ⟨3, ![3, 2, 2816]⟩
abbrev S2x3x2816 : Shape := ⟨3, ![2, 3, 2816]⟩
abbrev S1x2x2816 : Shape := ⟨3, ![1, 2, 2816]⟩
abbrev S2x1x2816 : Shape := ⟨3, ![2, 1, 2816]⟩

abbrev nBuf : Space → Nat
  | .hbm => 121
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S5632, .f32⟩
  | .hbm, ⟨5, _⟩ => ⟨S2x2048x5632, .f32⟩
  | .hbm, ⟨6, _⟩ => ⟨S_, .f32⟩
  | .hbm, ⟨7, _⟩ => ⟨S2x2x5632, .f32⟩
  | .hbm, ⟨8, _⟩ => ⟨S2x2050x5632, .f32⟩
  | .hbm, ⟨9, _⟩ => ⟨S_, .f32⟩
  | .hbm, ⟨10, _⟩ => ⟨S2x2x5632, .f32⟩
  | .hbm, ⟨11, _⟩ => ⟨S1x5632, .f32⟩
  | .hbm, ⟨12, _⟩ => ⟨S5632, .f32⟩
  | .hbm, ⟨13, _⟩ => ⟨S2x2048x5632, .f32⟩
  | .hbm, ⟨14, _⟩ => ⟨S1x1x5632, .f32⟩
  | .hbm, ⟨15, _⟩ => ⟨S2x2048x5632, .f32⟩
  | .hbm, ⟨16, _⟩ => ⟨S2x2048x5632, .f32⟩
  | .hbm, ⟨17, _⟩ => ⟨S_, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S2x2048x5632, .f32⟩
  | .hbm, ⟨23, _⟩ => ⟨S1x1x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S4096x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x5632, .f32⟩
  | .hbm, ⟨62, _⟩ => ⟨S_, .f32⟩
  | .hbm, ⟨63, _⟩ => ⟨S5632, .f32⟩
  | .hbm, ⟨64, _⟩ => ⟨S1x1x5632, .f32⟩
  | .hbm, ⟨65, _⟩ => ⟨S_, .f32⟩
  | .hbm, ⟨66, _⟩ => ⟨S5632, .f32⟩
  | .hbm, ⟨67, _⟩ => ⟨S2x2048x5632, .f32⟩
  | .hbm, ⟨68, _⟩ => ⟨S2x2048x5632, .f32⟩
  | .hbm, ⟨69, _⟩ => ⟨S2x2048x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S_, .f32⟩
  | .hbm, ⟨74, _⟩ => ⟨S5632, .f32⟩
  | .hbm, ⟨75, _⟩ => ⟨S_, .f32⟩
  | .hbm, ⟨76, _⟩ => ⟨S2x2050x5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S2x2048x5632, .f32⟩
  | .hbm, ⟨81, _⟩ => ⟨S2x2048x5632, .f32⟩
  | .hbm, ⟨82, _⟩ => ⟨S2x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S_, .f32⟩
  | .hbm, ⟨87, _⟩ => ⟨S5632, .f32⟩
  | .hbm, ⟨88, _⟩ => ⟨S_, .f32⟩
  | .hbm, ⟨89, _⟩ => ⟨S2x2050x5632, .f32⟩
  | .hbm, ⟨90, _⟩ => ⟨S2x2050x5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S2x2048x5632, .f32⟩
  | .hbm, ⟨96, _⟩ => ⟨S2x2048x5632, .f32⟩
  | .hbm, ⟨97, _⟩ => ⟨S2x2048x5632, .f32⟩
  | .hbm, ⟨98, _⟩ => ⟨S_, .f32⟩
  | .hbm, ⟨99, _⟩ => ⟨S5632, .f32⟩
  | .hbm, ⟨100, _⟩ => ⟨S1x1x5632, .f32⟩
  | .hbm, ⟨101, _⟩ => ⟨S_, .f32⟩
  | .hbm, ⟨102, _⟩ => ⟨S5632, .f32⟩
  | .hbm, ⟨103, _⟩ => ⟨S_, .f32⟩
  | .hbm, ⟨104, _⟩ => ⟨S2x2050x5632, .f32⟩
  | .hbm, ⟨105, _⟩ => ⟨S2x2050x5632, .f32⟩
  | .hbm, ⟨106, _⟩ => ⟨S1x5632, .f32⟩
  | .hbm, ⟨107, _⟩ => ⟨S_, .f32⟩
  | .hbm, ⟨108, _⟩ => ⟨S3x5632, .f32⟩
  | .hbm, ⟨109, _⟩ => ⟨S3x5632, .f32⟩
  | .hbm, ⟨110, _⟩ => ⟨S2x2x5632, .f32⟩
  | .hbm, ⟨111, _⟩ => ⟨S2x2048x5632, .f32⟩
  | .hbm, ⟨112, _⟩ => ⟨S4096x5632, .f32⟩
  | .hbm, ⟨113, _⟩ => ⟨S4096x2x2816, .f32⟩
  | .hbm, ⟨114, _⟩ => ⟨S2x4096x2816, .f32⟩
  | .hbm, ⟨115, _⟩ => ⟨S2x4096x2816, .bf16⟩
  | .hbm, ⟨116, _⟩ => ⟨S3x2x2816, .f32⟩
  | .hbm, ⟨117, _⟩ => ⟨S2x3x2816, .f32⟩
  | .hbm, ⟨118, _⟩ => ⟨S1x5632, .f32⟩
  | .hbm, ⟨119, _⟩ => ⟨S1x2x2816, .f32⟩
  | .hbm, ⟨120, _⟩ => ⟨S2x1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== DnPreBwd.lean ====
abbrev S4096x3840 : Shape := ⟨2, ![4096, 3840]⟩
abbrev S4x1536 : Shape := ⟨2, ![4, 1536]⟩
abbrev S4096x1536 : Shape := ⟨2, ![4096, 1536]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x3840, .f32⟩
  | .hbm, ⟨1, _⟩ => ⟨S4x1536, .f32⟩
  | .hbm, ⟨2, _⟩ => ⟨S4096x1536, .f32⟩
  | .hbm, ⟨3, _⟩ => ⟨S4096x3840, .bf16⟩
  | .hbm, ⟨4, _⟩ => ⟨S4096x3840, .bf16⟩
  | .hbm, ⟨5, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v91 : BitVec 1 := Scalar.cmpi .eq arg1 c0_i32
  let v92 : BitVec 32 := Scalar.extui v91
  let c0_i32_24 : BitVec 32 := 0#32
  let v93 : BitVec 1 := Scalar.cmpi .ne v92 c0_i32_24
  v93

def k0_cond2 (i : grid0.Coords) : BitVec 1 :=
  let arg1 : BitVec 32 := BitVec.ofNat 32 (i 1).val
  let c0_i32 : BitVec 32 := 0#32
  let v91 : BitVec 1 := Scalar.cmpi .eq arg1 c0_i32
  let v_true : BitVec 1 := 1#1
  let v94 : BitVec 1 := Scalar.xori v91 v_true
  let v95 : BitVec 32 := Scalar.extui v94
  let c0_i32_25 : BitVec 32 := 0#32
  let v96 : BitVec 1 := Scalar.cmpi .ne v95 c0_i32_25
  v96

def k0_cond3 (i : grid0.Coords) : BitVec 1 :=
  let arg1 : BitVec 32 := BitVec.ofNat 32 (i 1).val
  let c0_i32 : BitVec 32 := 0#32
  let v91 : BitVec 1 := Scalar.cmpi .eq arg1 c0_i32
  let v97 : BitVec 32 := Scalar.extui v91
  let c0_i32_26 : BitVec 32 := 0#32
  let v98 : BitVec 1 := Scalar.cmpi .ne v97 c0_i32_26
  v98

def k0_cond4 (i : grid0.Coords) : BitVec 1 :=
  let arg1 : BitVec 32 := BitVec.ofNat 32 (i 1).val
  let c0_i32 : BitVec 32 := 0#32
  let v91 : BitVec 1 := Scalar.cmpi .eq arg1 c0_i32
  let true_27 : BitVec 1 := 1#1
  let v99 : BitVec 1 := Scalar.xori v91 true_27
  let v100 : BitVec 32 := Scalar.extui v99
  let c0_i32_28 : BitVec 32 := 0#32
  let v101 : BitVec 1 := Scalar.cmpi .ne v100 c0_i32_28
  v101

def k0_cond5 (i : grid0.Coords) : BitVec 1 :=
  let arg1 : BitVec 32 := BitVec.ofNat 32 (i 1).val
  let c0_i32 : BitVec 32 := 0#32
  let v91 : BitVec 1 := Scalar.cmpi .eq arg1 c0_i32
  let v102 : BitVec 32 := Scalar.extui v91
  let c0_i32_29 : BitVec 32 := 0#32
  let v103 : BitVec 1 := Scalar.cmpi .ne v102 c0_i32_29
  v103

def k0_cond6 (i : grid0.Coords) : BitVec 1 :=
  let arg1 : BitVec 32 := BitVec.ofNat 32 (i 1).val
  let c0_i32 : BitVec 32 := 0#32
  let v91 : BitVec 1 := Scalar.cmpi .eq arg1 c0_i32
  let true_30 : BitVec 1 := 1#1
  let v104 : BitVec 1 := Scalar.xori v91 true_30
  let v105 : BitVec 32 := Scalar.extui v104
  let c0_i32_31 : BitVec 32 := 0#32
  let v106 : BitVec 1 := Scalar.cmpi .ne v105 c0_i32_31
  v106

def k0_cond7 (i : grid0.Coords) : BitVec 1 :=
  let arg1 : BitVec 32 := BitVec.ofNat 32 (i 1).val
  let c0_i32 : BitVec 32 := 0#32
  let v91 : BitVec 1 := Scalar.cmpi .eq arg1 c0_i32
  let v107 : BitVec 32 := Scalar.extui v91
  let c0_i32_32 : BitVec 32 := 0#32
  let v108 : BitVec 1 := Scalar.cmpi .ne v107 c0_i32_32
  v108

def k0_cond8 (i : grid0.Coords) : BitVec 1 :=
  let arg1 : BitVec 32 := BitVec.ofNat 32 (i 1).val
  let c0_i32 : BitVec 32 := 0#32
  let v91 : BitVec 1 := Scalar.cmpi .eq arg1 c0_i32
  let true_33 : BitVec 1 := 1#1
  let v109 : BitVec 1 := Scalar.xori v91 true_33
  let v110 : BitVec 32 := Scalar.extui v109
  let c0_i32_34 : BitVec 32 := 0#32
  let v111 : BitVec 1 := Scalar.cmpi .ne v110 c0_i32_34
  v111

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DnPreBwdIdeal.lean ====
abbrev S4096x3840 : Shape := ⟨2, ![4096, 3840]⟩
abbrev S4x1536 : Shape := ⟨2, ![4, 1536]⟩
abbrev S4096x1536 : Shape := ⟨2, ![4096, 1536]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x3840, .f32⟩
  | .hbm, ⟨1, _⟩ => ⟨S4x1536, .f32⟩
  | .hbm, ⟨2, _⟩ => ⟨S4096x1536, .f32⟩
  | .hbm, ⟨3, _⟩ => ⟨S4096x3840, .bf16⟩
  | .hbm, ⟨4, _⟩ => ⟨S4096x3840, .bf16⟩
  | .hbm, ⟨5, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v91 : BitVec 1 := Scalar.cmpi .eq arg1 c0_i32
  let v92 : BitVec 32 := Scalar.extui v91
  let c0_i32_24 : BitVec 32 := 0#32
  let v93 : BitVec 1 := Scalar.cmpi .ne v92 c0_i32_24
  v93

def k0_cond2 (i : grid0.Coords) : BitVec 1 :=
  let arg1 : BitVec 32 := BitVec.ofNat 32 (i 1).val
  let c0_i32 : BitVec 32 := 0#32
  let v91 : BitVec 1 := Scalar.cmpi .eq arg1 c0_i32
  let v_true : BitVec 1 := 1#1
  let v94 : BitVec 1 := Scalar.xori v91 v_true
  let v95 : BitVec 32 := Scalar.extui v94
  let c0_i32_25 : BitVec 32 := 0#32
  let v96 : BitVec 1 := Scalar.cmpi .ne v95 c0_i32_25
  v96

def k0_cond3 (i : grid0.Coords) : BitVec 1 :=
  let arg1 : BitVec 32 := BitVec.ofNat 32 (i 1).val
  let c0_i32 : BitVec 32 := 0#32
  let v91 : BitVec 1 := Scalar.cmpi .eq arg1 c0_i32
  let v97 : BitVec 32 := Scalar.extui v91
  let c0_i32_26 : BitVec 32 := 0#32
  let v98 : BitVec 1 := Scalar.cmpi .ne v97 c0_i32_26
  v98

def k0_cond4 (i : grid0.Coords) : BitVec 1 :=
  let arg1 : BitVec 32 := BitVec.ofNat 32 (i 1).val
  let c0_i32 : BitVec 32 := 0#32
  let v91 : BitVec 1 := Scalar.cmpi .eq arg1 c0_i32
  let true_27 : BitVec 1 := 1#1
  let v99 : BitVec 1 := Scalar.xori v91 true_27
  let v100 : BitVec 32 := Scalar.extui v99
  let c0_i32_28 : BitVec 32 := 0#32
  let v101 : BitVec 1 := Scalar.cmpi .ne v100 c0_i32_28
  v101

def k0_cond5 (i : grid0.Coords) : BitVec 1 :=
  let arg1 : BitVec 32 := BitVec.ofNat 32 (i 1).val
  let c0_i32 : BitVec 32 := 0#32
  let v91 : BitVec 1 := Scalar.cmpi .eq arg1 c0_i32
  let v102 : BitVec 32 := Scalar.extui v91
  let c0_i32_29 : BitVec 32 := 0#32
  let v103 : BitVec 1 := Scalar.cmpi .ne v102 c0_i32_29
  v103

def k0_cond6 (i : grid0.Coords) : BitVec 1 :=
  let arg1 : BitVec 32 := BitVec.ofNat 32 (i 1).val
  let c0_i32 : BitVec 32 := 0#32
  let v91 : BitVec 1 := Scalar.cmpi .eq arg1 c0_i32
  let true_30 : BitVec 1 := 1#1
  let v104 : BitVec 1 := Scalar.xori v91 true_30
  let v105 : BitVec 32 := Scalar.extui v104
  let c0_i32_31 : BitVec 32 := 0#32
  let v106 : BitVec 1 := Scalar.cmpi .ne v105 c0_i32_31
  v106

def k0_cond7 (i : grid0.Coords) : BitVec 1 :=
  let arg1 : BitVec 32 := BitVec.ofNat 32 (i 1).val
  let c0_i32 : BitVec 32 := 0#32
  let v91 : BitVec 1 := Scalar.cmpi .eq arg1 c0_i32
  let v107 : BitVec 32 := Scalar.extui v91
  let c0_i32_32 : BitVec 32 := 0#32
  let v108 : BitVec 1 := Scalar.cmpi .ne v107 c0_i32_32
  v108

def k0_cond8 (i : grid0.Coords) : BitVec 1 :=
  let arg1 : BitVec 32 := BitVec.ofNat 32 (i 1).val
  let c0_i32 : BitVec 32 := 0#32
  let v91 : BitVec 1 := Scalar.cmpi .eq arg1 c0_i32
  let true_33 : BitVec 1 := 1#1
  let v109 : BitVec 1 := Scalar.xori v91 true_33
  let v110 : BitVec 32 := Scalar.extui v109
  let c0_i32_34 : BitVec 32 := 0#32
  let v111 : BitVec 1 := Scalar.cmpi .ne v110 c0_i32_34
  v111

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c14_i32 : BitVec 32 := 14#32
  let v1 : BitVec 32 := Scalar.addi c14_i32 arg0
  let c18_i32 : BitVec 32 := 18#32
  let v2 : BitVec 32 := Scalar.addi c18_i32 arg0
  let v3 : BitVec 32 := Scalar.select v0 v1 v2
  let c0_i32 : BitVec 32 := 0#32
  ![arg1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DnPreBwdRefIdeal.lean ====
abbrev S4096x3840 : Shape := ⟨2, ![4096, 3840]⟩
abbrev S4x1536 : Shape := ⟨2, ![4, 1536]⟩
abbrev S4096x1536 : Shape := ⟨2, ![4096, 1536]⟩
abbrev S4096x256 : Shape := ⟨2, ![4096, 256]⟩
abbrev S4096x1280 : Shape := ⟨2, ![4096, 1280]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩
abbrev S4096x1792 : Shape := ⟨2, ![4096, 1792]⟩
abbrev S4096x512 : Shape := ⟨2, ![4096, 512]⟩

abbrev nBuf : Space → Nat
  | .hbm => 136
  | .vmem => 0
  | .smem => 0
  | _ => 0

abbrev hbmTy0_0 (i : Nat) : BufTy := match i % 128 with
  | 0 => ⟨S4096x3840, .f32⟩
  | 1 => ⟨S4x1536, .f32⟩
  | 2 => ⟨S4096x1536, .f32⟩
  | 3 => ⟨S4096x3840, .bf16⟩
  | 4 => ⟨S4096x256, .f32⟩
  | 5 => ⟨S4096x1280, .f32⟩
  | 6 => ⟨S4096x1536, .f32⟩
  | 7 => ⟨S2x2048x1536, .f32⟩
  | 8 => ⟨S_, .f32⟩
  | 9 => ⟨S2x3x1536, .f32⟩
  | 10 => ⟨S2x2051x1536, .f32⟩
  | 11 => ⟨S_, .f32⟩
  | 12 => ⟨S2x3x1536, .f32⟩
  | 13 => ⟨S1x1536, .f32⟩
  | 14 => ⟨S1536, .f32⟩
  | 15 => ⟨S2x2048x1536, .f32⟩
  | 16 => ⟨S1x1x1536, .f32⟩
  | 17 => ⟨S2x2048x1536, .f32⟩
  | 18 => ⟨S2x2048x1536, .f32⟩
  | 19 => ⟨S_, .f32⟩
  | 20 => ⟨S2x2048x1536, .f32⟩
  | 21 => ⟨S2x2048x1536, .f32⟩
  | 22 => ⟨S1x1536, .f32⟩
  | 23 => ⟨S1536, .f32⟩
  | 24 => ⟨S2x2048x1536, .f32⟩
  | 25 => ⟨S1x1x1536, .f32⟩
  | 26 => ⟨S2x2048x1536, .f32⟩
  | 27 => ⟨S2x2048x1536, .f32⟩
  | 28 => ⟨S2x2048x1536, .f32⟩
  | 29 => ⟨S1x1536, .f32⟩
  | 30 => ⟨S1536, .f32⟩
  | 31 => ⟨S2x2048x1536, .f32⟩
  | 32 => ⟨S1x1x1536, .f32⟩
  | 33 => ⟨S2x2048x1536, .f32⟩
  | 34 => ⟨S2x2048x1536, .f32⟩
  | 35 => ⟨S2x2048x1536, .f32⟩
  | 36 => ⟨S1x1536, .f32⟩
  | 37 => ⟨S1536, .f32⟩
  | 38 => ⟨S2x2048x1536, .f32⟩
  | 39 => ⟨S1x1x1536, .f32⟩
  | 40 => ⟨S2x2048x1536, .f32⟩
  | 41 => ⟨S2x2048x1536, .f32⟩
  | 42 => ⟨S2x2048x1536, .f32⟩
  | 43 => ⟨S2x2048x1536, .f32⟩
  | 44 => ⟨S2x2048x1536, .f32⟩
  | 45 => ⟨S_, .f32⟩
  | 46 => ⟨S2x2048x1536, .f32⟩
  | 47 => ⟨S2x2048x1536, .f32⟩
  | 48 => ⟨S_, .f32⟩
  | 49 => ⟨S2x2048x1536, .f32⟩
  | 50 => ⟨S2x2048x1536, .f32⟩
  | 51 => ⟨S_, .f32⟩
  | 52 => ⟨S2x2048x1536, .f32⟩
  | 53 => ⟨S2x2048x1536, .f32⟩
  | 54 => ⟨S2x2048x1536, .f32⟩
  | 55 => ⟨S2x2048x1536, .f32⟩
  | 56 => ⟨S4096x1536, .f32⟩
  | 57 => ⟨S2x2048x1536, .f32⟩
  | 58 => ⟨S2x2048x1536, .f32⟩
  | 59 => ⟨S2x2048x1536, .f32⟩
  | 60 => ⟨S2x2048x1536, .f32⟩
  | 61 => ⟨S2x2048x1536, .f32⟩
  | 62 => ⟨S2x2048x1536, .f32⟩
  | 63 => ⟨S2x2048x1536, .f32⟩
  | 64 => ⟨S2x2048x1536, .f32⟩
  | 65 => ⟨S_, .f32⟩
  | 66 => ⟨S1536, .f32⟩
  | 67 => ⟨S1x1x1536, .f32⟩
  | 68 => ⟨S_, .f32⟩
  | 69 => ⟨S1536, .f32⟩
  | 70 => ⟨S_, .f32⟩
  | 71 => ⟨S2x2051x1536, .f32⟩
  | 72 => ⟨S1x1536, .f32⟩
  | 73 => ⟨S_, .f32⟩
  | 74 => ⟨S4x1536, .f32⟩
  | 75 => ⟨S2x2048x1536, .f32⟩
  | 76 => ⟨S2x2048x1536, .f32⟩
  | 77 => ⟨S2x2048x1536, .f32⟩
  | 78 => ⟨S_, .f32⟩
  | 79 => ⟨S1536, .f32⟩
  | 80 => ⟨S1x1x1536, .f32⟩
  | 81 => ⟨S_, .f32⟩
  | 82 => ⟨S1536, .f32⟩
  | 83 => ⟨S_, .f32⟩
  | 84 => ⟨S2x2051x1536, .f32⟩
  | 85 => ⟨S2x2051x1536, .f32⟩
  | 86 => ⟨S1x1536, .f32⟩
  | 87 => ⟨S_, .f32⟩
  | 88 => ⟨S4x1536, .f32⟩
  | 89 => ⟨S4x1536, .f32⟩
  | 90 => ⟨S2x2048x1536, .f32⟩
  | 91 => ⟨S2x2048x1536, .f32⟩
  | 92 => ⟨S2x2048x1536, .f32⟩
  | 93 => ⟨S_, .f32⟩
  | 94 => ⟨S1536, .f32⟩
  | 95 => ⟨S1x1x1536, .f32⟩
  | 96 => ⟨S_, .f32⟩
  | 97 => ⟨S1536, .f32⟩
  | 98 => ⟨S_, .f32⟩
  | 99 => ⟨S2x2051x1536, .f32⟩
  | 100 => ⟨S2x2051x1536, .f32⟩
  | 101 => ⟨S1x1536, .f32⟩
  | 102 => ⟨S_, .f32⟩
  | 103 => ⟨S4x1536, .f32⟩
  | 104 => ⟨S4x1536, .f32⟩
  | 105 => ⟨S2x2048x1536, .f32⟩
  | 106 => ⟨S2x2048x1536, .f32⟩
  | 107 => ⟨S2x2048x1536, .f32⟩
  | 108 => ⟨S_, .f32⟩
  | 109 => ⟨S1536, .f32⟩
  | 110 => ⟨S1x1x1536, .f32⟩
  | 111 => ⟨S_, .f32⟩
  | 112 => ⟨S1536, .f32⟩
  | 113 => ⟨S_, .f32⟩
  | 114 => ⟨S2x2051x1536, .f32⟩
  | 115 => ⟨S2x2051x1536, .f32⟩
  | 116 => ⟨S1x1536, .f32⟩
  | 117 => ⟨S_, .f32⟩
  | 118 => ⟨S4x1536, .f32⟩
  | 119 => ⟨S4x1536, .f32⟩
  | 120 => ⟨S2x3x1536, .f32⟩
  | 121 => ⟨S2x2048x1536, .f32⟩
  | 122 => ⟨S4096x1536, .f32⟩
  | 123 => ⟨S4096x256, .f32⟩
  | 124 => ⟨S4096x1280, .f32⟩
  | 125 => ⟨S_, .f32⟩
  | 126 => ⟨S4096x3840, .f32⟩
  | 127 => ⟨S_, .f32⟩
  | _ => ⟨S4096x3840, .f32⟩

abbrev hbmTy0_1 (i : Nat) : BufTy := match i % 128 with
  | 0 => ⟨S4096x3840, .f32⟩
  | 1 => ⟨S4096x3840, .f32⟩
  | 2 => ⟨S4096x3840, .bf16⟩
  | 3 => ⟨S4096x1792, .bf16⟩
  | 4 => ⟨S4096x256, .bf16⟩
  | 5 => ⟨S4096x512, .bf16⟩
  | 6 => ⟨S4096x1280, .bf16⟩
  | 7 => ⟨S4096x3840, .bf16⟩
  | _ => ⟨S4096x3840, .f32⟩

abbrev hbmTy (i : Nat) : BufTy := match i / 128 with
  | 0 => hbmTy0_0 i
  | 1 => hbmTy0_1 i
  | _ => ⟨S4096x3840, .f32⟩

abbrev bufTy : (tb : Table) → Fin (tcTables nBuf tb) → BufTy
  | .hbm, ⟨i, _⟩ => hbmTy i
  | _, _ => ⟨S4096x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== PairAddWUp.lean ====
abbrev S_ : Shape := ⟨0, ![]⟩
abbrev S4x2x512x1408 : Shape := ⟨4, ![4, 2, 512, 1408]⟩
abbrev S4x512x1408 : Shape := ⟨3, ![4, 512, 1408]⟩
abbrev S1 : Shape := ⟨1, ![1]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x512x1408, .f32⟩
  | .hbm, ⟨2, _⟩ => ⟨S4x512x1408, .f32⟩
  | .hbm, ⟨3, _⟩ => ⟨S4x512x1408, .bf16⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWUpIdeal.lean ====
abbrev S_ : Shape := ⟨0, ![]⟩
abbrev S4x2x512x1408 : Shape := ⟨4, ![4, 2, 512, 1408]⟩
abbrev S4x512x1408 : Shape := ⟨3, ![4, 512, 1408]⟩
abbrev S1 : Shape := ⟨1, ![1]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x512x1408, .f32⟩
  | .hbm, ⟨2, _⟩ => ⟨S4x512x1408, .f32⟩
  | .hbm, ⟨3, _⟩ => ⟨S4x512x1408, .bf16⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWUpRefIdeal.lean ====
abbrev S_ : Shape := ⟨0, ![]⟩
abbrev S4x2x512x1408 : Shape := ⟨4, ![4, 2, 512, 1408]⟩
abbrev S4x512x1408 : Shape := ⟨3, ![4, 512, 1408]⟩
abbrev S4x1x512x1408 : Shape := ⟨4, ![4, 1, 512, 1408]⟩

abbrev nBuf : Space → Nat
  | .hbm => 12
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x512x1408, .f32⟩
  | .hbm, ⟨2, _⟩ => ⟨S4x512x1408, .f32⟩
  | .hbm, ⟨3, _⟩ => ⟨S_, .i32⟩
  | .hbm, ⟨4, _⟩ => ⟨S_, .i1⟩
  | .hbm, ⟨5, _⟩ => ⟨S4x1x512x1408, .f32⟩
  | .hbm, ⟨6, _⟩ => ⟨S4x512x1408, .f32⟩
  | .hbm, ⟨7, _⟩ => ⟨S4x1x512x1408, .f32⟩
  | .hbm, ⟨8, _⟩ => ⟨S4x512x1408, .f32⟩
  | .hbm, ⟨9, _⟩ => ⟨S4x512x1408, .f32⟩
  | .hbm, ⟨10, _⟩ => ⟨S4x512x1408, .f32⟩
  | .hbm, ⟨11, _⟩ => ⟨S4x512x1408, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PairAddWDown.lean ====
abbrev S_ : Shape := ⟨0, ![]⟩
abbrev S4x2x352x1024 : Shape := ⟨4, ![4, 2, 352, 1024]⟩
abbrev S4x352x1024 : Shape := ⟨3, ![4, 352, 1024]⟩
abbrev S1 : Shape := ⟨1, ![1]⟩
abbrev S1x1x176x1024 : Shape := ⟨4, ![1, 1, 176, 1024]⟩
abbrev S1x176x1024 : Shape := ⟨3, ![1, 176, 1024]⟩
abbrev S176x1024 : Shape := ⟨2, ![176, 1024]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x352x1024, .f32⟩
  | .hbm, ⟨2, _⟩ => ⟨S4x352x1024, .f32⟩
  | .hbm, ⟨3, _⟩ => ⟨S4x352x1024, .bf16⟩
  | .local _ .vmem, ⟨0, _⟩ => ⟨S1x1x176x1024, .f32⟩
  | .local _ .vmem, ⟨1, _⟩ => ⟨S1x1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .bf16⟩
  | .local _ .vmem, ⟨5, _⟩ => ⟨S1x176x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWDownIdeal.lean ====
abbrev S_ : Shape := ⟨0, ![]⟩
abbrev S4x2x352x1024 : Shape := ⟨4, ![4, 2, 352, 1024]⟩
abbrev S4x352x1024 : Shape := ⟨3, ![4, 352, 1024]⟩
abbrev S1 : Shape := ⟨1, ![1]⟩
abbrev S1x1x176x1024 : Shape := ⟨4, ![1, 1, 176, 1024]⟩
abbrev S1x176x1024 : Shape := ⟨3, ![1, 176, 1024]⟩
abbrev S176x1024 : Shape := ⟨2, ![176, 1024]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x352x1024, .f32⟩
  | .hbm, ⟨2, _⟩ => ⟨S4x352x1024, .f32⟩
  | .hbm, ⟨3, _⟩ => ⟨S4x352x1024, .bf16⟩
  | .local _ .vmem, ⟨0, _⟩ => ⟨S1x1x176x1024, .f32⟩
  | .local _ .vmem, ⟨1, _⟩ => ⟨S1x1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .bf16⟩
  | .local _ .vmem, ⟨5, _⟩ => ⟨S1x176x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWDownRefIdeal.lean ====
abbrev S_ : Shape := ⟨0, ![]⟩
abbrev S4x2x352x1024 : Shape := ⟨4, ![4, 2, 352, 1024]⟩
abbrev S4x352x1024 : Shape := ⟨3, ![4, 352, 1024]⟩
abbrev S4x1x352x1024 : Shape := ⟨4, ![4, 1, 352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x352x1024, .f32⟩
  | .hbm, ⟨2, _⟩ => ⟨S4x352x1024, .f32⟩
  | .hbm, ⟨3, _⟩ => ⟨S_, .i32⟩
  | .hbm, ⟨4, _⟩ => ⟨S_, .i1⟩
  | .hbm, ⟨5, _⟩ => ⟨S4x1x352x1024, .f32⟩
  | .hbm, ⟨6, _⟩ => ⟨S4x352x1024, .f32⟩
  | .hbm, ⟨7, _⟩ => ⟨S4x1x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PairAddWO.lean ====
abbrev S_ : Shape := ⟨0, ![]⟩
abbrev S4x2x128x1024 : Shape := ⟨4, ![4, 2, 128, 1024]⟩
abbrev S4x128x1024 : Shape := ⟨3, ![4, 128, 1024]⟩
abbrev S1 : Shape := ⟨1, ![1]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x128x1024, .f32⟩
  | .hbm, ⟨2, _⟩ => ⟨S4x128x1024, .f32⟩
  | .hbm, ⟨3, _⟩ => ⟨S4x128x1024, .bf16⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWOIdeal.lean ====
abbrev S_ : Shape := ⟨0, ![]⟩
abbrev S4x2x128x1024 : Shape := ⟨4, ![4, 2, 128, 1024]⟩
abbrev S4x128x1024 : Shape := ⟨3, ![4, 128, 1024]⟩
abbrev S1 : Shape := ⟨1, ![1]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x128x1024, .f32⟩
  | .hbm, ⟨2, _⟩ => ⟨S4x128x1024, .f32⟩
  | .hbm, ⟨3, _⟩ => ⟨S4x128x1024, .bf16⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWORefIdeal.lean ====
abbrev S_ : Shape := ⟨0, ![]⟩
abbrev S4x2x128x1024 : Shape := ⟨4, ![4, 2, 128, 1024]⟩
abbrev S4x128x1024 : Shape := ⟨3, ![4, 128, 1024]⟩
abbrev S4x1x128x1024 : Shape := ⟨4, ![4, 1, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x128x1024, .f32⟩
  | .hbm, ⟨2, _⟩ => ⟨S4x128x1024, .f32⟩
  | .hbm, ⟨3, _⟩ => ⟨S_, .i32⟩
  | .hbm, ⟨4, _⟩ => ⟨S_, .i1⟩
  | .hbm, ⟨5, _⟩ => ⟨S4x1x128x1024, .f32⟩
  | .hbm, ⟨6, _⟩ => ⟨S4x128x1024, .f32⟩
  | .hbm, ⟨7, _⟩ => ⟨S4x1x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PairAddWIn.lean ====
abbrev S_ : Shape := ⟨0, ![]⟩
abbrev S4x2x512x902 : Shape := ⟨4, ![4, 2, 512, 902]⟩
abbrev S4x512x902 : Shape := ⟨3, ![4, 512, 902]⟩
abbrev S1 : Shape := ⟨1, ![1]⟩
abbrev S1x1x256x902 : Shape := ⟨4, ![1, 1, 256, 902]⟩
abbrev S1x256x902 : Shape := ⟨3, ![1, 256, 902]⟩
abbrev S256x902 : Shape := ⟨2, ![256, 902]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x512x902, .f32⟩
  | .hbm, ⟨2, _⟩ => ⟨S4x512x902, .f32⟩
  | .hbm, ⟨3, _⟩ => ⟨S4x512x902, .bf16⟩
  | .local _ .vmem, ⟨0, _⟩ => ⟨S1x1x256x902, .f32⟩
  | .local _ .vmem, ⟨1, _⟩ => ⟨S1x1x256x902, .f32⟩
  | .local _ .vmem, ⟨2, _⟩ => ⟨S1x256x902, .f32⟩
  | .local _ .vmem, ⟨3, _⟩ => ⟨S1x256x902, .f32⟩
  | .local _ .vmem, ⟨4, _⟩ => ⟨S1x256x902, .bf16⟩
  | .local _ .vmem, ⟨5, _⟩ => ⟨S1x256x902, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x902 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x902 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x902 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWInIdeal.lean ====
abbrev S_ : Shape := ⟨0, ![]⟩
abbrev S4x2x512x902 : Shape := ⟨4, ![4, 2, 512, 902]⟩
abbrev S4x512x902 : Shape := ⟨3, ![4, 512, 902]⟩
abbrev S1 : Shape := ⟨1, ![1]⟩
abbrev S1x1x256x902 : Shape := ⟨4, ![1, 1, 256, 902]⟩
abbrev S1x256x902 : Shape := ⟨3, ![1, 256, 902]⟩
abbrev S256x902 : Shape := ⟨2, ![256, 902]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x2x512x902, .f32⟩
  | .hbm, ⟨2, _⟩ => ⟨S4x512x902, .f32⟩
  | .hbm, ⟨3, _⟩ => ⟨S4x512x902, .bf16⟩
  | .local _ .vmem, ⟨0, _⟩ => ⟨S1x1x256x902, .f32⟩
  | .local _ .vmem, ⟨1, _⟩ => ⟨S1x1x256x902, .f32⟩
  | .local _ .vmem, ⟨2, _⟩ => ⟨S1x256x902, .f32⟩
  | .local _ .vmem, ⟨3, _⟩ => ⟨S1x256x902, .f32⟩
  | .local _ .vmem, ⟨4, _⟩ => ⟨S1x256x902, .bf16⟩
  | .local _ .vmem, ⟨5, _⟩ => ⟨S1x256x902, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x902 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x902 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x902 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddWInRefIdeal.lean ====
abbrev S_ : Shape := ⟨0, ![]⟩
abbrev S4x2x512x902 : Shape := ⟨4, ![4, 2, 512, 902]⟩
abbrev S4x512x902 : Shape := ⟨3, ![4, 512, 902]⟩
abbrev S4x1x512x902 : Shape := ⟨4, ![4, 1, 512, 902]⟩

abbrev nBuf : Space → Nat
  | .hbm => 12
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x512x902, .f32⟩
  | .hbm, ⟨2, _⟩ => ⟨S4x512x902, .f32⟩
  | .hbm, ⟨3, _⟩ => ⟨S_, .i32⟩
  | .hbm, ⟨4, _⟩ => ⟨S_, .i1⟩
  | .hbm, ⟨5, _⟩ => ⟨S4x1x512x902, .f32⟩
  | .hbm, ⟨6, _⟩ => ⟨S4x512x902, .f32⟩
  | .hbm, ⟨7, _⟩ => ⟨S4x1x512x902, .f32⟩
  | .hbm, ⟨8, _⟩ => ⟨S4x512x902, .f32⟩
  | .hbm, ⟨9, _⟩ => ⟨S4x512x902, .f32⟩
  | .hbm, ⟨10, _⟩ => ⟨S4x512x902, .f32⟩
  | .hbm, ⟨11, _⟩ => ⟨S4x512x902, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PlaceOwnWUp.lean ====
abbrev S_ : Shape := ⟨0, ![]⟩
abbrev S4x2x512x1408 : Shape := ⟨4, ![4, 2, 512, 1408]⟩
abbrev S2x512x1408 : Shape := ⟨3, ![2, 512, 1408]⟩
abbrev S1 : Shape := ⟨1, ![1]⟩
abbrev S1x256x1408 : Shape := ⟨3, ![1, 256, 1408]⟩
abbrev S1x1x256x1408 : Shape := ⟨4, ![1, 1, 256, 1408]⟩
abbrev S256x1408 : Shape := ⟨2, ![256, 1408]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x512x1408, .bf16⟩
  | .hbm, ⟨2, _⟩ => ⟨S2x512x1408, .bf16⟩
  | .hbm, ⟨3, _⟩ => ⟨S4x2x512x1408, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x1x256x1408, .bf16⟩
  | .local _ .vmem, ⟨3, _⟩ => ⟨S1x1x256x1408, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWUpIdeal.lean ====
abbrev S_ : Shape := ⟨0, ![]⟩
abbrev S4x2x512x1408 : Shape := ⟨4, ![4, 2, 512, 1408]⟩
abbrev S2x512x1408 : Shape := ⟨3, ![2, 512, 1408]⟩
abbrev S1 : Shape := ⟨1, ![1]⟩
abbrev S1x256x1408 : Shape := ⟨3, ![1, 256, 1408]⟩
abbrev S1x1x256x1408 : Shape := ⟨4, ![1, 1, 256, 1408]⟩
abbrev S256x1408 : Shape := ⟨2, ![256, 1408]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x512x1408, .bf16⟩
  | .hbm, ⟨2, _⟩ => ⟨S2x512x1408, .bf16⟩
  | .hbm, ⟨3, _⟩ => ⟨S4x2x512x1408, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x1x256x1408, .bf16⟩
  | .local _ .vmem, ⟨3, _⟩ => ⟨S1x1x256x1408, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWUpRefIdeal.lean ====
abbrev S_ : Shape := ⟨0, ![]⟩
abbrev S4x2x512x1408 : Shape := ⟨4, ![4, 2, 512, 1408]⟩
abbrev S2x512x1408 : Shape := ⟨3, ![2, 512, 1408]⟩
abbrev S4 : Shape := ⟨1, ![4]⟩
abbrev S4x1x1x1 : Shape := ⟨4, ![4, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x512x1408, .bf16⟩
  | .hbm, ⟨2, _⟩ => ⟨S2x512x1408, .bf16⟩
  | .hbm, ⟨3, _⟩ => ⟨S4, .i32⟩
  | .hbm, ⟨4, _⟩ => ⟨S4x1x1x1, .i32⟩
  | .hbm, ⟨5, _⟩ => ⟨S4x1x1x1, .i32⟩
  | .hbm, ⟨6, _⟩ => ⟨S4x1x1x1, .i1⟩
  | .hbm, ⟨7, _⟩ => ⟨S4x2x512x1408, .i1⟩
  | .hbm, ⟨8, _⟩ => ⟨S4x2x512x1408, .bf16⟩
  | .hbm, ⟨9, _⟩ => ⟨S4x2x512x1408, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== PlaceOwnWDown.lean ====
abbrev S_ : Shape := ⟨0, ![]⟩
abbrev S4x2x352x1024 : Shape := ⟨4, ![4, 2, 352, 1024]⟩
abbrev S2x352x1024 : Shape := ⟨3, ![2, 352, 1024]⟩
abbrev S1 : Shape := ⟨1, ![1]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x352x1024, .bf16⟩
  | .hbm, ⟨2, _⟩ => ⟨S2x352x1024, .bf16⟩
  | .hbm, ⟨3, _⟩ => ⟨S4x2x352x1024, .bf16⟩
  | .local _ .vmem, ⟨0, _⟩ => ⟨S1x176x1024, .bf16⟩
  | .local _ .vmem, ⟨1, _⟩ => ⟨S1x176x1024, .bf16⟩
  | .local _ .vmem, ⟨2, _⟩ => ⟨S1x1x176x1024, .bf16⟩
  | .local _ .vmem, ⟨3, _⟩ => ⟨S1x1x176x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWDownIdeal.lean ====
abbrev S_ : Shape := ⟨0, ![]⟩
abbrev S4x2x352x1024 : Shape := ⟨4, ![4, 2, 352, 1024]⟩
abbrev S2x352x1024 : Shape := ⟨3, ![2, 352, 1024]⟩
abbrev S1 : Shape := ⟨1, ![1]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x352x1024, .bf16⟩
  | .hbm, ⟨2, _⟩ => ⟨S2x352x1024, .bf16⟩
  | .hbm, ⟨3, _⟩ => ⟨S4x2x352x1024, .bf16⟩
  | .local _ .vmem, ⟨0, _⟩ => ⟨S1x176x1024, .bf16⟩
  | .local _ .vmem, ⟨1, _⟩ => ⟨S1x176x1024, .bf16⟩
  | .local _ .vmem, ⟨2, _⟩ => ⟨S1x1x176x1024, .bf16⟩
  | .local _ .vmem, ⟨3, _⟩ => ⟨S1x1x176x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWDownRefIdeal.lean ====
abbrev S_ : Shape := ⟨0, ![]⟩
abbrev S4x2x352x1024 : Shape := ⟨4, ![4, 2, 352, 1024]⟩
abbrev S2x352x1024 : Shape := ⟨3, ![2, 352, 1024]⟩
abbrev S4 : Shape := ⟨1, ![4]⟩
abbrev S4x1x1x1 : Shape := ⟨4, ![4, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x352x1024, .bf16⟩
  | .hbm, ⟨2, _⟩ => ⟨S2x352x1024, .bf16⟩
  | .hbm, ⟨3, _⟩ => ⟨S4, .i32⟩
  | .hbm, ⟨4, _⟩ => ⟨S4x1x1x1, .i32⟩
  | .hbm, ⟨5, _⟩ => ⟨S4x1x1x1, .i32⟩
  | .hbm, ⟨6, _⟩ => ⟨S4x1x1x1, .i1⟩
  | .hbm, ⟨7, _⟩ => ⟨S4x2x352x1024, .i1⟩
  | .hbm, ⟨8, _⟩ => ⟨S4x2x352x1024, .bf16⟩
  | .hbm, ⟨9, _⟩ => ⟨S4x2x352x1024, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== PlaceOwnWO.lean ====
abbrev S_ : Shape := ⟨0, ![]⟩
abbrev S4x2x128x1024 : Shape := ⟨4, ![4, 2, 128, 1024]⟩
abbrev S2x128x1024 : Shape := ⟨3, ![2, 128, 1024]⟩
abbrev S1 : Shape := ⟨1, ![1]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x128x1024, .bf16⟩
  | .hbm, ⟨2, _⟩ => ⟨S2x128x1024, .bf16⟩
  | .hbm, ⟨3, _⟩ => ⟨S4x2x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x1x128x1024, .bf16⟩
  | .local _ .vmem, ⟨3, _⟩ => ⟨S1x1x128x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWOIdeal.lean ====
abbrev S_ : Shape := ⟨0, ![]⟩
abbrev S4x2x128x1024 : Shape := ⟨4, ![4, 2, 128, 1024]⟩
abbrev S2x128x1024 : Shape := ⟨3, ![2, 128, 1024]⟩
abbrev S1 : Shape := ⟨1, ![1]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x128x1024, .bf16⟩
  | .hbm, ⟨2, _⟩ => ⟨S2x128x1024, .bf16⟩
  | .hbm, ⟨3, _⟩ => ⟨S4x2x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x1x128x1024, .bf16⟩
  | .local _ .vmem, ⟨3, _⟩ => ⟨S1x1x128x1024, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWORefIdeal.lean ====
abbrev S_ : Shape := ⟨0, ![]⟩
abbrev S4x2x128x1024 : Shape := ⟨4, ![4, 2, 128, 1024]⟩
abbrev S2x128x1024 : Shape := ⟨3, ![2, 128, 1024]⟩
abbrev S4 : Shape := ⟨1, ![4]⟩
abbrev S4x1x1x1 : Shape := ⟨4, ![4, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x128x1024, .bf16⟩
  | .hbm, ⟨2, _⟩ => ⟨S2x128x1024, .bf16⟩
  | .hbm, ⟨3, _⟩ => ⟨S4, .i32⟩
  | .hbm, ⟨4, _⟩ => ⟨S4x1x1x1, .i32⟩
  | .hbm, ⟨5, _⟩ => ⟨S4x1x1x1, .i32⟩
  | .hbm, ⟨6, _⟩ => ⟨S4x1x1x1, .i1⟩
  | .hbm, ⟨7, _⟩ => ⟨S4x2x128x1024, .i1⟩
  | .hbm, ⟨8, _⟩ => ⟨S4x2x128x1024, .bf16⟩
  | .hbm, ⟨9, _⟩ => ⟨S4x2x128x1024, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== PlaceOwnWIn.lean ====
abbrev S_ : Shape := ⟨0, ![]⟩
abbrev S4x2x512x902 : Shape := ⟨4, ![4, 2, 512, 902]⟩
abbrev S2x512x902 : Shape := ⟨3, ![2, 512, 902]⟩
abbrev S1 : Shape := ⟨1, ![1]⟩
abbrev S1x256x902 : Shape := ⟨3, ![1, 256, 902]⟩
abbrev S1x1x256x902 : Shape := ⟨4, ![1, 1, 256, 902]⟩
abbrev S256x902 : Shape := ⟨2, ![256, 902]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x512x902, .bf16⟩
  | .hbm, ⟨2, _⟩ => ⟨S2x512x902, .bf16⟩
  | .hbm, ⟨3, _⟩ => ⟨S4x2x512x902, .bf16⟩
  | .local _ .vmem, ⟨0, _⟩ => ⟨S1x256x902, .bf16⟩
  | .local _ .vmem, ⟨1, _⟩ => ⟨S1x256x902, .bf16⟩
  | .local _ .vmem, ⟨2, _⟩ => ⟨S1x1x256x902, .bf16⟩
  | .local _ .vmem, ⟨3, _⟩ => ⟨S1x1x256x902, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x256x902 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x902 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWInIdeal.lean ====
abbrev S_ : Shape := ⟨0, ![]⟩
abbrev S4x2x512x902 : Shape := ⟨4, ![4, 2, 512, 902]⟩
abbrev S2x512x902 : Shape := ⟨3, ![2, 512, 902]⟩
abbrev S1 : Shape := ⟨1, ![1]⟩
abbrev S1x256x902 : Shape := ⟨3, ![1, 256, 902]⟩
abbrev S1x1x256x902 : Shape := ⟨4, ![1, 1, 256, 902]⟩
abbrev S256x902 : Shape := ⟨2, ![256, 902]⟩

abbrev nBuf : Space → Nat
  | .hbm => 4
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2x512x902, .bf16⟩
  | .hbm, ⟨2, _⟩ => ⟨S2x512x902, .bf16⟩
  | .hbm, ⟨3, _⟩ => ⟨S4x2x512x902, .bf16⟩
  | .local _ .vmem, ⟨0, _⟩ => ⟨S1x256x902, .bf16⟩
  | .local _ .vmem, ⟨1, _⟩ => ⟨S1x256x902, .bf16⟩
  | .local _ .vmem, ⟨2, _⟩ => ⟨S1x1x256x902, .bf16⟩
  | .local _ .vmem, ⟨3, _⟩ => ⟨S1x1x256x902, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x256x902 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x902 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnWInRefIdeal.lean ====
abbrev S_ : Shape := ⟨0, ![]⟩
abbrev S4x2x512x902 : Shape := ⟨4, ![4, 2, 512, 902]⟩
abbrev S2x512x902 : Shape := ⟨3, ![2, 512, 902]⟩
abbrev S4 : Shape := ⟨1, ![4]⟩
abbrev S4x1x1x1 : Shape := ⟨4, ![4, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x512x902, .bf16⟩
  | .hbm, ⟨2, _⟩ => ⟨S2x512x902, .bf16⟩
  | .hbm, ⟨3, _⟩ => ⟨S4, .i32⟩
  | .hbm, ⟨4, _⟩ => ⟨S4x1x1x1, .i32⟩
  | .hbm, ⟨5, _⟩ => ⟨S4x1x1x1, .i32⟩
  | .hbm, ⟨6, _⟩ => ⟨S4x1x1x1, .i1⟩
  | .hbm, ⟨7, _⟩ => ⟨S4x2x512x902, .i1⟩
  | .hbm, ⟨8, _⟩ => ⟨S4x2x512x902, .bf16⟩
  | .hbm, ⟨9, _⟩ => ⟨S4x2x512x902, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== ChipAddWUp.lean ====
abbrev S_ : Shape := ⟨0, ![]⟩
abbrev S4x512x1408 : Shape := ⟨3, ![4, 512, 1408]⟩
abbrev S3x512x1408 : Shape := ⟨3, ![3, 512, 1408]⟩
abbrev S1 : Shape := ⟨1, ![1]⟩
abbrev S2 : Shape := ⟨1, ![2]⟩
abbrev S2x512x1408 : Shape := ⟨3, ![2, 512, 1408]⟩
abbrev S1x256x1408 : Shape := ⟨3, ![1, 256, 1408]⟩
abbrev S3x256x1408 : Shape := ⟨3, ![3, 256, 1408]⟩
abbrev S256x1408 : Shape := ⟨2, ![256, 1408]⟩
abbrev S1x512x1408 : Shape := ⟨3, ![1, 512, 1408]⟩
abbrev S512x1408 : Shape := ⟨2, ![512, 1408]⟩

abbrev nBuf : Space → Nat
  | .hbm => 14
  | .vmem => 6
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x512x1408, .bf16⟩
  | .hbm, ⟨3, _⟩ => ⟨S3x512x1408, .bf16⟩
  | .hbm, ⟨4, _⟩ => ⟨S1, .i32⟩
  | .hbm, ⟨5, _⟩ => ⟨S1, .i32⟩
  | .hbm, ⟨6, _⟩ => ⟨S2x512x1408, .f32⟩
  | .hbm, ⟨7, _⟩ => ⟨S_, .i32⟩
  | .hbm, ⟨8, _⟩ => ⟨S_, .i1⟩
  | .hbm, ⟨9, _⟩ => ⟨S1x512x1408, .f32⟩
  | .hbm, ⟨10, _⟩ => ⟨S512x1408, .f32⟩
  | .hbm, ⟨11, _⟩ => ⟨S1x512x1408, .f32⟩
  | .hbm, ⟨12, _⟩ => ⟨S512x1408, .f32⟩
  | .hbm, ⟨13, _⟩ => ⟨S512x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S1x256x1408, .f32⟩
  | .local _ .vmem, ⟨5, _⟩ => ⟨S1x256x1408, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipAddWUpIdeal.lean ====
abbrev S_ : Shape := ⟨0, ![]⟩
abbrev S4x512x1408 : Shape := ⟨3, ![4, 512, 1408]⟩
abbrev S3x512x1408 : Shape := ⟨3, ![3, 512, 1408]⟩
abbrev S1 : Shape := ⟨1, ![1]⟩
abbrev S2 : Shape := ⟨1, ![2]⟩
abbrev S2x512x1408 : Shape := ⟨3, ![2, 512, 1408]⟩
abbrev S1x256x1408 : Shape := ⟨3, ![1, 256, 1408]⟩
abbrev S3x256x1408 : Shape := ⟨3, ![3, 256, 1408]⟩
abbrev S256x1408 : Shape := ⟨2, ![256, 1408]⟩
abbrev S1x512x1408 : Shape := ⟨3, ![1, 512, 1408]⟩
abbrev S512x1408 : Shape := ⟨2, ![512, 1408]⟩

abbrev nBuf : Space → Nat
  | .hbm => 14
  | .vmem => 6
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x512x1408, .bf16⟩
  | .hbm, ⟨3, _⟩ => ⟨S3x512x1408, .bf16⟩
  | .hbm, ⟨4, _⟩ => ⟨S1, .i32⟩
  | .hbm, ⟨5, _⟩ => ⟨S1, .i32⟩
  | .hbm, ⟨6, _⟩ => ⟨S2x512x1408, .f32⟩
  | .hbm, ⟨7, _⟩ => ⟨S_, .i32⟩
  | .hbm, ⟨8, _⟩ => ⟨S_, .i1⟩
  | .hbm, ⟨9, _⟩ => ⟨S1x512x1408, .f32⟩
  | .hbm, ⟨10, _⟩ => ⟨S512x1408, .f32⟩
  | .hbm, ⟨11, _⟩ => ⟨S1x512x1408, .f32⟩
  | .hbm, ⟨12, _⟩ => ⟨S512x1408, .f32⟩
  | .hbm, ⟨13, _⟩ => ⟨S512x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S1x256x1408, .f32⟩
  | .local _ .vmem, ⟨5, _⟩ => ⟨S1x256x1408, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipAddWUpRefIdeal.lean ====
abbrev S_ : Shape := ⟨0, ![]⟩
abbrev S4x512x1408 : Shape := ⟨3, ![4, 512, 1408]⟩
abbrev S3x512x1408 : Shape := ⟨3, ![3, 512, 1408]⟩
abbrev S1x512x1408 : Shape := ⟨3, ![1, 512, 1408]⟩
abbrev S512x1408 : Shape := ⟨2, ![512, 1408]⟩

abbrev nBuf : Space → Nat
  | .hbm => 34
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x512x1408, .bf16⟩
  | .hbm, ⟨3, _⟩ => ⟨S3x512x1408, .bf16⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S1x512x1408, .bf16⟩
  | .hbm, ⟨9, _⟩ => ⟨S512x1408, .bf16⟩
  | .hbm, ⟨10, _⟩ => ⟨S1x512x1408, .bf16⟩
  | .hbm, ⟨11, _⟩ => ⟨S512x1408, .bf16⟩
  | .hbm, ⟨12, _⟩ => ⟨S512x1408, .bf16⟩
  | .hbm, ⟨13, _⟩ => ⟨S_, .i32⟩
  | .hbm, ⟨14, _⟩ => ⟨S_, .i1⟩
  | .hbm, ⟨15, _⟩ => ⟨S1x512x1408, .bf16⟩
  | .hbm, ⟨16, _⟩ => ⟨S512x1408, .bf16⟩
  | .hbm, ⟨17, _⟩ => ⟨S1x512x1408, .bf16⟩
  | .hbm, ⟨18, _⟩ => ⟨S512x1408, .bf16⟩
  | .hbm, ⟨19, _⟩ => ⟨S512x1408, .bf16⟩
  | .hbm, ⟨20, _⟩ => ⟨S512x1408, .bf16⟩
  | .hbm, ⟨21, _⟩ => ⟨S512x1408, .f32⟩
  | .hbm, ⟨22, _⟩ => ⟨S1x512x1408, .bf16⟩
  | .hbm, ⟨23, _⟩ => ⟨S512x1408, .bf16⟩
  | .hbm, ⟨24, _⟩ => ⟨S512x1408, .f32⟩
  | .hbm, ⟨25, _⟩ => ⟨S512x1408, .f32⟩
  | .hbm, ⟨26, _⟩ => ⟨S1x512x1408, .bf16⟩
  | .hbm, ⟨27, _⟩ => ⟨S512x1408, .bf16⟩
  | .hbm, ⟨28, _⟩ => ⟨S512x1408, .f32⟩
  | .hbm, ⟨29, _⟩ => ⟨S512x1408, .f32⟩
  | .hbm, ⟨30, _⟩ => ⟨S1x512x1408, .bf16⟩
  | .hbm, ⟨31, _⟩ => ⟨S512x1408, .bf16⟩
  | .hbm, ⟨32, _⟩ => ⟨S512x1408, .f32⟩
  | .hbm, ⟨33, _⟩ => ⟨S512x1408, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== ChipAddWDown.lean ====
abbrev S_ : Shape := ⟨0, ![]⟩
abbrev S4x352x1024 : Shape := ⟨3, ![4, 352, 1024]⟩
abbrev S3x352x1024 : Shape := ⟨3, ![3, 352, 1024]⟩
abbrev S1 : Shape := ⟨1, ![1]⟩
abbrev S2 : Shape := ⟨1, ![2]⟩
abbrev S2x352x1024 : Shape := ⟨3, ![2, 352, 1024]⟩
abbrev S1x176x1024 : Shape := ⟨3, ![1, 176, 1024]⟩
abbrev S3x176x1024 : Shape := ⟨3, ![3, 176, 1024]⟩
abbrev S176x1024 : Shape := ⟨2, ![176, 1024]⟩
abbrev S1x352x1024 : Shape := ⟨3, ![1, 352, 1024]⟩
abbrev S352x1024 : Shape := ⟨2, ![352, 1024]⟩

abbrev nBuf : Space → Nat
  | .hbm => 14
  | .vmem => 6
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x352x1024, .bf16⟩
  | .hbm, ⟨3, _⟩ => ⟨S3x352x1024, .bf16⟩
  | .hbm, ⟨4, _⟩ => ⟨S1, .i32⟩
  | .hbm, ⟨5, _⟩ => ⟨S1, .i32⟩
  | .hbm, ⟨6, _⟩ => ⟨S2x352x1024, .f32⟩
  | .hbm, ⟨7, _⟩ => ⟨S_, .i32⟩
  | .hbm, ⟨8, _⟩ => ⟨S_, .i1⟩
  | .hbm, ⟨9, _⟩ => ⟨S1x352x1024, .f32⟩
  | .hbm, ⟨10, _⟩ => ⟨S352x1024, .f32⟩
  | .hbm, ⟨11, _⟩ => ⟨S1x352x1024, .f32⟩
  | .hbm, ⟨12, _⟩ => ⟨S352x1024, .f32⟩
  | .hbm, ⟨13, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipAddWDownIdeal.lean ====
abbrev S_ : Shape := ⟨0, ![]⟩
abbrev S4x352x1024 : Shape := ⟨3, ![4, 352, 1024]⟩
abbrev S3x352x1024 : Shape := ⟨3, ![3, 352, 1024]⟩
abbrev S1 : Shape := ⟨1, ![1]⟩
abbrev S2 : Shape := ⟨1, ![2]⟩
abbrev S2x352x1024 : Shape := ⟨3, ![2, 352, 1024]⟩
abbrev S1x176x1024 : Shape := ⟨3, ![1, 176, 1024]⟩
abbrev S3x176x1024 : Shape := ⟨3, ![3, 176, 1024]⟩
abbrev S176x1024 : Shape := ⟨2, ![176, 1024]⟩
abbrev S1x352x1024 : Shape := ⟨3, ![1, 352, 1024]⟩
abbrev S352x1024 : Shape := ⟨2, ![352, 1024]⟩

abbrev nBuf : Space → Nat
  | .hbm => 14
  | .vmem => 6
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x352x1024, .bf16⟩
  | .hbm, ⟨3, _⟩ => ⟨S3x352x1024, .bf16⟩
  | .hbm, ⟨4, _⟩ => ⟨S1, .i32⟩
  | .hbm, ⟨5, _⟩ => ⟨S1, .i32⟩
  | .hbm, ⟨6, _⟩ => ⟨S2x352x1024, .f32⟩
  | .hbm, ⟨7, _⟩ => ⟨S_, .i32⟩
  | .hbm, ⟨8, _⟩ => ⟨S_, .i1⟩
  | .hbm, ⟨9, _⟩ => ⟨S1x352x1024, .f32⟩
  | .hbm, ⟨10, _⟩ => ⟨S352x1024, .f32⟩
  | .hbm, ⟨11, _⟩ => ⟨S1x352x1024, .f32⟩
  | .hbm, ⟨12, _⟩ => ⟨S352x1024, .f32⟩
  | .hbm, ⟨13, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipAddWDownRefIdeal.lean ====
abbrev S_ : Shape := ⟨0, ![]⟩
abbrev S4x352x1024 : Shape := ⟨3, ![4, 352, 1024]⟩
abbrev S3x352x1024 : Shape := ⟨3, ![3, 352, 1024]⟩
abbrev S1x352x1024 : Shape := ⟨3, ![1, 352, 1024]⟩
abbrev S352x1024 : Shape := ⟨2, ![352, 1024]⟩

abbrev nBuf : Space → Nat
  | .hbm => 34
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x352x1024, .bf16⟩
  | .hbm, ⟨3, _⟩ => ⟨S3x352x1024, .bf16⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S1x352x1024, .bf16⟩
  | .hbm, ⟨9, _⟩ => ⟨S352x1024, .bf16⟩
  | .hbm, ⟨10, _⟩ => ⟨S1x352x1024, .bf16⟩
  | .hbm, ⟨11, _⟩ => ⟨S352x1024, .bf16⟩
  | .hbm, ⟨12, _⟩ => ⟨S352x1024, .bf16⟩
  | .hbm, ⟨13, _⟩ => ⟨S_, .i32⟩
  | .hbm, ⟨14, _⟩ => ⟨S_, .i1⟩
  | .hbm, ⟨15, _⟩ => ⟨S1x352x1024, .bf16⟩
  | .hbm, ⟨16, _⟩ => ⟨S352x1024, .bf16⟩
  | .hbm, ⟨17, _⟩ => ⟨S1x352x1024, .bf16⟩
  | .hbm, ⟨18, _⟩ => ⟨S352x1024, .bf16⟩
  | .hbm, ⟨19, _⟩ => ⟨S352x1024, .bf16⟩
  | .hbm, ⟨20, _⟩ => ⟨S352x1024, .bf16⟩
  | .hbm, ⟨21, _⟩ => ⟨S352x1024, .f32⟩
  | .hbm, ⟨22, _⟩ => ⟨S1x352x1024, .bf16⟩
  | .hbm, ⟨23, _⟩ => ⟨S352x1024, .bf16⟩
  | .hbm, ⟨24, _⟩ => ⟨S352x1024, .f32⟩
  | .hbm, ⟨25, _⟩ => ⟨S352x1024, .f32⟩
  | .hbm, ⟨26, _⟩ => ⟨S1x352x1024, .bf16⟩
  | .hbm, ⟨27, _⟩ => ⟨S352x1024, .bf16⟩
  | .hbm, ⟨28, _⟩ => ⟨S352x1024, .f32⟩
  | .hbm, ⟨29, _⟩ => ⟨S352x1024, .f32⟩
  | .hbm, ⟨30, _⟩ => ⟨S1x352x1024, .bf16⟩
  | .hbm, ⟨31, _⟩ => ⟨S352x1024, .bf16⟩
  | .hbm, ⟨32, _⟩ => ⟨S352x1024, .f32⟩
  | .hbm, ⟨33, _⟩ => ⟨S352x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== ChipAddWO.lean ====
abbrev S_ : Shape := ⟨0, ![]⟩
abbrev S4x128x1024 : Shape := ⟨3, ![4, 128, 1024]⟩
abbrev S3x128x1024 : Shape := ⟨3, ![3, 128, 1024]⟩
abbrev S1 : Shape := ⟨1, ![1]⟩
abbrev S2 : Shape := ⟨1, ![2]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 14
  | .vmem => 3
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x128x1024, .bf16⟩
  | .hbm, ⟨3, _⟩ => ⟨S3x128x1024, .bf16⟩
  | .hbm, ⟨4, _⟩ => ⟨S1, .i32⟩
  | .hbm, ⟨5, _⟩ => ⟨S1, .i32⟩
  | .hbm, ⟨6, _⟩ => ⟨S2x128x1024, .f32⟩
  | .hbm, ⟨7, _⟩ => ⟨S_, .i32⟩
  | .hbm, ⟨8, _⟩ => ⟨S_, .i1⟩
  | .hbm, ⟨9, _⟩ => ⟨S1x128x1024, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S1x128x1024, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipAddWOIdeal.lean ====
abbrev S_ : Shape := ⟨0, ![]⟩
abbrev S4x128x1024 : Shape := ⟨3, ![4, 128, 1024]⟩
abbrev S3x128x1024 : Shape := ⟨3, ![3, 128, 1024]⟩
abbrev S1 : Shape := ⟨1, ![1]⟩
abbrev S2 : Shape := ⟨1, ![2]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 14
  | .vmem => 3
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x128x1024, .bf16⟩
  | .hbm, ⟨3, _⟩ => ⟨S3x128x1024, .bf16⟩
  | .hbm, ⟨4, _⟩ => ⟨S1, .i32⟩
  | .hbm, ⟨5, _⟩ => ⟨S1, .i32⟩
  | .hbm, ⟨6, _⟩ => ⟨S2x128x1024, .f32⟩
  | .hbm, ⟨7, _⟩ => ⟨S_, .i32⟩
  | .hbm, ⟨8, _⟩ => ⟨S_, .i1⟩
  | .hbm, ⟨9, _⟩ => ⟨S1x128x1024, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S1x128x1024, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipAddWORefIdeal.lean ====
abbrev S_ : Shape := ⟨0, ![]⟩
abbrev S4x128x1024 : Shape := ⟨3, ![4, 128, 1024]⟩
abbrev S3x128x1024 : Shape := ⟨3, ![3, 128, 1024]⟩
abbrev S1x128x1024 : Shape := ⟨3, ![1, 128, 1024]⟩
abbrev S128x1024 : Shape := ⟨2, ![128, 1024]⟩

abbrev nBuf : Space → Nat
  | .hbm => 34
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x128x1024, .bf16⟩
  | .hbm, ⟨3, _⟩ => ⟨S3x128x1024, .bf16⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S1x128x1024, .bf16⟩
  | .hbm, ⟨9, _⟩ => ⟨S128x1024, .bf16⟩
  | .hbm, ⟨10, _⟩ => ⟨S1x128x1024, .bf16⟩
  | .hbm, ⟨11, _⟩ => ⟨S128x1024, .bf16⟩
  | .hbm, ⟨12, _⟩ => ⟨S128x1024, .bf16⟩
  | .hbm, ⟨13, _⟩ => ⟨S_, .i32⟩
  | .hbm, ⟨14, _⟩ => ⟨S_, .i1⟩
  | .hbm, ⟨15, _⟩ => ⟨S1x128x1024, .bf16⟩
  | .hbm, ⟨16, _⟩ => ⟨S128x1024, .bf16⟩
  | .hbm, ⟨17, _⟩ => ⟨S1x128x1024, .bf16⟩
  | .hbm, ⟨18, _⟩ => ⟨S128x1024, .bf16⟩
  | .hbm, ⟨19, _⟩ => ⟨S128x1024, .bf16⟩
  | .hbm, ⟨20, _⟩ => ⟨S128x1024, .bf16⟩
  | .hbm, ⟨21, _⟩ => ⟨S128x1024, .f32⟩
  | .hbm, ⟨22, _⟩ => ⟨S1x128x1024, .bf16⟩
  | .hbm, ⟨23, _⟩ => ⟨S128x1024, .bf16⟩
  | .hbm, ⟨24, _⟩ => ⟨S128x1024, .f32⟩
  | .hbm, ⟨25, _⟩ => ⟨S128x1024, .f32⟩
  | .hbm, ⟨26, _⟩ => ⟨S1x128x1024, .bf16⟩
  | .hbm, ⟨27, _⟩ => ⟨S128x1024, .bf16⟩
  | .hbm, ⟨28, _⟩ => ⟨S128x1024, .f32⟩
  | .hbm, ⟨29, _⟩ => ⟨S128x1024, .f32⟩
  | .hbm, ⟨30, _⟩ => ⟨S1x128x1024, .bf16⟩
  | .hbm, ⟨31, _⟩ => ⟨S128x1024, .bf16⟩
  | .hbm, ⟨32, _⟩ => ⟨S128x1024, .f32⟩
  | .hbm, ⟨33, _⟩ => ⟨S128x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== ChipAddWIn.lean ====
abbrev S_ : Shape := ⟨0, ![]⟩
abbrev S4x512x902 : Shape := ⟨3, ![4, 512, 902]⟩
abbrev S3x512x902 : Shape := ⟨3, ![3, 512, 902]⟩
abbrev S1 : Shape := ⟨1, ![1]⟩
abbrev S2 : Shape := ⟨1, ![2]⟩
abbrev S2x512x902 : Shape := ⟨3, ![2, 512, 902]⟩
abbrev S1x256x902 : Shape := ⟨3, ![1, 256, 902]⟩
abbrev S3x256x902 : Shape := ⟨3, ![3, 256, 902]⟩
abbrev S256x902 : Shape := ⟨2, ![256, 902]⟩
abbrev S1x512x902 : Shape := ⟨3, ![1, 512, 902]⟩
abbrev S512x902 : Shape := ⟨2, ![512, 902]⟩

abbrev nBuf : Space → Nat
  | .hbm => 14
  | .vmem => 6
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x512x902, .bf16⟩
  | .hbm, ⟨3, _⟩ => ⟨S3x512x902, .bf16⟩
  | .hbm, ⟨4, _⟩ => ⟨S1, .i32⟩
  | .hbm, ⟨5, _⟩ => ⟨S1, .i32⟩
  | .hbm, ⟨6, _⟩ => ⟨S2x512x902, .f32⟩
  | .hbm, ⟨7, _⟩ => ⟨S_, .i32⟩
  | .hbm, ⟨8, _⟩ => ⟨S_, .i1⟩
  | .hbm, ⟨9, _⟩ => ⟨S1x512x902, .f32⟩
  | .hbm, ⟨10, _⟩ => ⟨S512x902, .f32⟩
  | .hbm, ⟨11, _⟩ => ⟨S1x512x902, .f32⟩
  | .hbm, ⟨12, _⟩ => ⟨S512x902, .f32⟩
  | .hbm, ⟨13, _⟩ => ⟨S512x902, .f32⟩
  | .local _ .vmem, ⟨0, _⟩ => ⟨S1x256x902, .bf16⟩
  | .local _ .vmem, ⟨1, _⟩ => ⟨S1x256x902, .bf16⟩
  | .local _ .vmem, ⟨2, _⟩ => ⟨S3x256x902, .bf16⟩
  | .local _ .vmem, ⟨3, _⟩ => ⟨S3x256x902, .bf16⟩
  | .local _ .vmem, ⟨4, _⟩ => ⟨S1x256x902, .f32⟩
  | .local _ .vmem, ⟨5, _⟩ => ⟨S1x256x902, .f32⟩
  | .local _ .smem, ⟨0, _⟩ => ⟨S2, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x902 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x902 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x902 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipAddWInRefIdeal.lean ====
abbrev S_ : Shape := ⟨0, ![]⟩
abbrev S4x512x902 : Shape := ⟨3, ![4, 512, 902]⟩
abbrev S3x512x902 : Shape := ⟨3, ![3, 512, 902]⟩
abbrev S1x512x902 : Shape := ⟨3, ![1, 512, 902]⟩
abbrev S512x902 : Shape := ⟨2, ![512, 902]⟩

abbrev nBuf : Space → Nat
  | .hbm => 34
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S4x512x902, .bf16⟩
  | .hbm, ⟨3, _⟩ => ⟨S3x512x902, .bf16⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S1x512x902, .bf16⟩
  | .hbm, ⟨9, _⟩ => ⟨S512x902, .bf16⟩
  | .hbm, ⟨10, _⟩ => ⟨S1x512x902, .bf16⟩
  | .hbm, ⟨11, _⟩ => ⟨S512x902, .bf16⟩
  | .hbm, ⟨12, _⟩ => ⟨S512x902, .bf16⟩
  | .hbm, ⟨13, _⟩ => ⟨S_, .i32⟩
  | .hbm, ⟨14, _⟩ => ⟨S_, .i1⟩
  | .hbm, ⟨15, _⟩ => ⟨S1x512x902, .bf16⟩
  | .hbm, ⟨16, _⟩ => ⟨S512x902, .bf16⟩
  | .hbm, ⟨17, _⟩ => ⟨S1x512x902, .bf16⟩
  | .hbm, ⟨18, _⟩ => ⟨S512x902, .bf16⟩
  | .hbm, ⟨19, _⟩ => ⟨S512x902, .bf16⟩
  | .hbm, ⟨20, _⟩ => ⟨S512x902, .bf16⟩
  | .hbm, ⟨21, _⟩ => ⟨S512x902, .f32⟩
  | .hbm, ⟨22, _⟩ => ⟨S1x512x902, .bf16⟩
  | .hbm, ⟨23, _⟩ => ⟨S512x902, .bf16⟩
  | .hbm, ⟨24, _⟩ => ⟨S512x902, .f32⟩
  | .hbm, ⟨25, _⟩ => ⟨S512x902, .f32⟩
  | .hbm, ⟨26, _⟩ => ⟨S1x512x902, .bf16⟩
  | .hbm, ⟨27, _⟩ => ⟨S512x902, .bf16⟩
  | .hbm, ⟨28, _⟩ => ⟨S512x902, .f32⟩
  | .hbm, ⟨29, _⟩ => ⟨S512x902, .f32⟩
  | .hbm, ⟨30, _⟩ => ⟨S1x512x902, .bf16⟩
  | .hbm, ⟨31, _⟩ => ⟨S512x902, .bf16⟩
  | .hbm, ⟨32, _⟩ => ⟨S512x902, .f32⟩
  | .hbm, ⟨33, _⟩ => ⟨S512x902, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.MmGDownValue.lean ====
module

public import proofs.«01_k».proof.Defs
public import proofs.«01_k».proof.Proof.Gen.MmGDownIdeal.Frame
public import proofs.«01_k».proof.Proof.Gen.MmGDownIdeal.Value
public import proofs.«01_k».proof.Proof.Gen.MmGDownRefIdeal.Run
public import Idealize.ShloMosaic.Lib.Pipeline.ValueKit
public import Idealize.ShloMosaic.Lib.Pointwise

@[expose] public section

set_option maxRecDepth 16384

/-! The gradient of the down projection in its weight, block by block against the whole product. -/

noncomputable section

namespace Cert.MmGDownRefIdeal.Value

open Cert.MmGDownRefIdeal Cert.MmGDownRefIdeal.Gen Idealize.ShloMosaic Idealize.ShloMosaic.TcCoe

/-- The reference's result as a function of the arrays it is given. -/
def product (X0 : FVec Ideal S4096x2816 .bf16) (X1 : FVec Ideal S4096x1024 .bf16) : FVec Ideal S2816x1024 .f32 :=
  transpose S2816x1024 [1, 0] (Host.dotGeneral dot_S4096x1024_S4096x2816_S1024x2816_0_0_1_1_n_n none (extf .f32 X1 bitsLt_bf16_f32) (extf .f32 X0 bitsLt_bf16_f32)) transposes_S1024x2816_S2816x1024_1_0

end Cert.MmGDownRefIdeal.Value

namespace Cert.MmGDownIdeal.Value

open Cert.MmGDownIdeal Cert.MmGDownIdeal.Gen Idealize.ShloMosaic Idealize.ShloMosaic.TcCoe Idealize.SL.Sem
open Idealize.ShloMosaic.Pipeline (Dat)
open Cert.MmGDownRefIdeal.Value (product)

variable (m : (ℓ : Loc nD τ sig) → Buf (Elt Ideal) ℓ)

/-- Where each window stands at a grid point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first slab of the contraction. -/
theorem slab_first (x0 : FVec Ideal S1024x1408 .bf16) (x1 : FVec Ideal S1024x1024 .bf16) (j : S1408x1024.Idx) : k0_pay1 (F := Ideal) x0 x1 j = (0 : EReal) + ∑ k : Fin 1024, x0 (ix2 k (j 0)) * x1 (ix2 k (j 1)) := by
  pointwise [k0_pay1, k0_pay2]

/-- A later slab is added to what the block holds. -/
theorem slab_next (x0 : FVec Ideal S1024x1408 .bf16) (x1 : FVec Ideal S1024x1024 .bf16) (acc : FVec Ideal S1408x1024 .f32) (j : S1408x1024.Idx) :
    k0_pay2 (F := Ideal) x0 x1 acc j = acc j + ∑ k : Fin 1024, x0 (ix2 k (j 0)) * x1 (ix2 k (j 1)) := by
  pointwise [k0_pay1, k0_pay2]

/-- The reference's element as a sum over the whole contracted axis. -/
theorem product_apply (X0 : FVec Ideal S4096x2816 .bf16) (X1 : FVec Ideal S4096x1024 .bf16) (j : S2816x1024.Idx) :
    product X0 X1 j = ∑ l : Fin 4096, X0 (ix2 l (j 0)) * X1 (ix2 l (j 1)) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmGDownIdeal.Value

namespace Cert.MmGDownIdeal.Claim

open Idealize.ShloMosaic Idealize.ShloMosaic.TcCoe Idealize.SL.Sem

/-- The call computes what the reference computes. -/
theorem algebraic : Cert.algebraic_MmGDownIdeal_MmGDownRefIdeal (hMmGDownIdeal := Cert.MmGDownIdeal.Gen.facts) (hMmGDownRefIdeal := Cert.MmGDownRefIdeal.Gen.facts) := by
  intro m g m' g' _ h
  refine ⟨fun c => Cert.MmGDownRefIdeal.Value.product (m (c.tc.loc Cert.MmGDownIdeal.main_arg0)) (m (c.tc.loc Cert.MmGDownIdeal.main_arg1)), ?_, ?_⟩
  · refine (θ_run _ _ _).mono (fun r hr c => ⟨(hr c).1.trans (Cert.MmGDownIdeal.Value.final m c), (hr c).2⟩) (Cert.MmGDownIdeal.Value.run_blocks m g)
  · refine (θ_run _ _ _).mono (fun r hr c => ⟨(hr c).1.trans ?_, (hr c).2⟩) (Cert.MmGDownRefIdeal.Value.run m' g')
    rw [(h c).1, (h c).2]
    rfl

end Cert.MmGDownIdeal.Claim

end
-- ==== Proof.MmDActValue.lean ====
module

public import proofs.«01_k».proof.Defs
public import proofs.«01_k».proof.Proof.Gen.MmDActIdeal.Frame
public import proofs.«01_k».proof.Proof.Gen.MmDActIdeal.Value
public import proofs.«01_k».proof.Proof.Gen.MmDActRefIdeal.Run
public import Idealize.ShloMosaic.Lib.Pipeline.ValueKit
public import Idealize.ShloMosaic.Lib.Pointwise

@[expose] public section

set_option maxRecDepth 16384

/-! The gradient of the down projection in the activations, block by block against the whole product. -/

noncomputable section

namespace Cert.MmDActRefIdeal.Value

open Cert.MmDActRefIdeal Cert.MmDActRefIdeal.Gen Idealize.ShloMosaic Idealize.ShloMosaic.TcCoe

/-- The reference's result as a function of the arrays it is given. -/
def product (X0 : FVec Ideal S4096x1024 .bf16) (X1 : FVec Ideal S2816x1024 .bf16) : FVec Ideal S4096x2816 .f32 :=
  Host.dotGeneral dot_S4096x1024_S2816x1024_S4096x2816_1_1_0_0_n_n none (extf .f32 X0 bitsLt_bf16_f32) (extf .f32 X1 bitsLt_bf16_f32)

end Cert.MmDActRefIdeal.Value

namespace Cert.MmDActIdeal.Value

open Cert.MmDActIdeal Cert.MmDActIdeal.Gen Idealize.ShloMosaic Idealize.ShloMosaic.TcCoe Idealize.SL.Sem
open Idealize.ShloMosaic.Pipeline (Dat)
open Cert.MmDActRefIdeal.Value (product)

variable (m : (ℓ : Loc nD τ sig) → Buf (Elt Ideal) ℓ)

/-- Where each window stands at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What the body stores at a block index is the product there. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmDActIdeal.Value

namespace Cert.MmDActIdeal.Claim

open Idealize.ShloMosaic Idealize.ShloMosaic.TcCoe Idealize.SL.Sem

/-- The call computes what the reference computes. -/
theorem algebraic : Cert.algebraic_MmDActIdeal_MmDActRefIdeal (hMmDActIdeal := Cert.MmDActIdeal.Gen.facts) (hMmDActRefIdeal := Cert.MmDActRefIdeal.Gen.facts) := by
  intro m g m' g' _ h
  refine ⟨fun c => Cert.MmDActRefIdeal.Value.product (m (c.tc.loc Cert.MmDActIdeal.main_arg0)) (m (c.tc.loc Cert.MmDActIdeal.main_arg1)), ?_, ?_⟩
  · refine (θ_run _ _ _).mono (fun r hr c => ⟨(hr c).1.trans (Cert.MmDActIdeal.Value.final m c), (hr c).2⟩) (Cert.MmDActIdeal.Value.run_blocks m g)
  · refine (θ_run _ _ _).mono (fun r hr c => ⟨(hr c).1.trans ?_, (hr c).2⟩) (Cert.MmDActRefIdeal.Value.run m' g')
    rw [(h c).1, (h c).2]
    rfl

end Cert.MmDActIdeal.Claim

end
-- ==== Proof.MmGUpValue.lean ====
module

public import proofs.«01_k».proof.Defs
public import proofs.«01_k».proof.Proof.Gen.MmGUpIdeal.Frame
public import proofs.«01_k».proof.Proof.Gen.MmGUpIdeal.Value
public import proofs.«01_k».proof.Proof.Gen.MmGUpRefIdeal.Run
public import Idealize.ShloMosaic.Lib.Pipeline.ValueKit
public import Idealize.ShloMosaic.Lib.Pointwise

@[expose] public section

set_option maxRecDepth 16384

/-! The gradient of the up projection in its weight, block by block against the whole product. -/

noncomputable section

namespace Cert.MmGUpRefIdeal.Value

open Cert.MmGUpRefIdeal Cert.MmGUpRefIdeal.Gen Idealize.ShloMosaic Idealize.ShloMosaic.TcCoe

/-- The reference's result as a function of the arrays it is given. -/
def product (X0 : FVec Ideal S4096x1024 .bf16) (X1 : FVec Ideal S2x4096x2816 .bf16) : FVec Ideal S4x1024x1408 .f32 :=
  transpose S4x1024x1408 [1, 0, 2] (shapeCast _ (transpose S1024x5632 [1, 0] (Host.dotGeneral dot_S4096x5632_S4096x1024_S5632x1024_0_0_1_1_n_n none (extf .f32 (shapeCast _ (transpose S4096x2x2816 [1, 0, 2] X1 transposes_S2x4096x2816_S4096x2x2816_1_0_2) shapeCasts_S4096x2x2816_S4096x5632) bitsLt_bf16_f32) (extf .f32 X0 bitsLt_bf16_f32)) transposes_S5632x1024_S1024x5632_1_0) shapeCasts_S1024x5632_S1024x4x1408) transposes_S1024x4x1408_S4x1024x1408_1_0_2

end Cert.MmGUpRefIdeal.Value

namespace Cert.MmGUpIdeal.Value

open Cert.MmGUpIdeal Cert.MmGUpIdeal.Gen Idealize.ShloMosaic Idealize.ShloMosaic.TcCoe Idealize.SL.Sem
open Idealize.ShloMosaic.Pipeline (Dat)
open Cert.MmGUpRefIdeal.Value (product)

variable (m : (ℓ : Loc nD τ sig) → Buf (Elt Ideal) ℓ)

/-- Where each window stands at a grid point. -/
theorem idx : ∀ t : Fin cfg0.N, win0_0.index t = ![t.val % 4, 0] ∧ win0_1.index t = ![t.val / 8, t.val % 4, t.val / 4 % 2] ∧ win0_2.index t = ![t.val / 4, 0, 0] :=
  (by decide +kernel : ∀ t : Fin grid0.N, _)

/-- The first slab of the contraction. -/
theorem slab_first (x0 : FVec Ideal S1024x1024 .bf16) (x1 : FVec Ideal S1x1024x1408 .bf16) (j : S1x1024x1408.Idx) : k0_pay2 (F := Ideal) x0 x1 j = (0 : EReal) + ∑ k : Fin 1024, x0 (ix2 k (j 1)) * x1 (ix3 0 k (j 2)) := by
  pointwise [k0_pay1, k0_pay2, k0_pay3]

/-- A later slab is added to what the block holds. -/
theorem slab_next (x0 : FVec Ideal S1024x1024 .bf16) (x1 : FVec Ideal S1x1024x1408 .bf16) (acc : FVec Ideal S1x1024x1408 .f32) (j : S1x1024x1408.Idx) :
    k0_pay3 (F := Ideal) x0 x1 acc j = acc j + ∑ k : Fin 1024, x0 (ix2 k (j 1)) * x1 (ix3 0 k (j 2)) := by
  pointwise [k0_pay1, k0_pay2, k0_pay3]

/-- The reference's element as a sum over the whole contracted axis. -/
theorem product_apply (X0 : FVec Ideal S4096x1024 .bf16) (X1 : FVec Ideal S2x4096x2816 .bf16) (j : S4x1024x1408.Idx) :
    product X0 X1 j = ∑ l : Fin 4096, X0 (ix2 l (j 1)) * X1 (ix3 ⟨((j 0).val * 1408 + (j 2).val) / 2816, by idx_bounds; omega⟩ l ⟨((j 0).val * 1408 + (j 2).val) % 2816, by omega⟩) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmGUpIdeal.Value

namespace Cert.MmGUpIdeal.Claim

open Idealize.ShloMosaic Idealize.ShloMosaic.TcCoe Idealize.SL.Sem

/-- The call computes what the reference computes. -/
theorem algebraic : Cert.algebraic_MmGUpIdeal_MmGUpRefIdeal (hMmGUpIdeal := Cert.MmGUpIdeal.Gen.facts) (hMmGUpRefIdeal := Cert.MmGUpRefIdeal.Gen.facts) := by
  intro m g m' g' _ h
  refine ⟨fun c => Cert.MmGUpRefIdeal.Value.product (m (c.tc.loc Cert.MmGUpIdeal.main_arg0)) (m (c.tc.loc Cert.MmGUpIdeal.main_arg1)), ?_, ?_⟩
  · refine (θ_run _ _ _).mono (fun r hr c => ⟨(hr c).1.trans (Cert.MmGUpIdeal.Value.final m c), (hr c).2⟩) (Cert.MmGUpIdeal.Value.run_blocks m g)
  · refine (θ_run _ _ _).mono (fun r hr c => ⟨(hr c).1.trans ?_, (hr c).2⟩) (Cert.MmGUpRefIdeal.Value.run m' g')
    rw [(h c).1, (h c).2]
    rfl

end Cert.MmGUpIdeal.Claim

end
-- ==== Proof.MmDH2Value.lean ====
module

public import proofs.«01_k».proof.Defs
public import proofs.«01_k».proof.Proof.Gen.MmDH2Ideal.Frame
public import proofs.«01_k».proof.Proof.Gen.MmDH2Ideal.Value
public import proofs.«01_k».proof.Proof.Gen.MmDH2RefIdeal.Run
public import Idealize.ShloMosaic.Lib.Pipeline.ValueKit
public import Idealize.ShloMosaic.Lib.Pointwise

@[expose] public section

set_option maxRecDepth 16384

/-! The gradient of the up projection in its input, block by block against the whole product. -/

noncomputable section

namespace Cert.MmDH2RefIdeal.Value

open Cert.MmDH2RefIdeal Cert.MmDH2RefIdeal.Gen Idealize.ShloMosaic Idealize.ShloMosaic.TcCoe

/-- The reference's result as a function of the arrays it is given. -/
def product (X0 : FVec Ideal S2x4096x2816 .bf16) (X1 : FVec Ideal S4x1024x1408 .bf16) : FVec Ideal S4096x1024 .f32 :=
  Host.dotGeneral dot_S4096x5632_S1024x5632_S4096x1024_1_1_0_0_n_n none (extf .f32 (shapeCast _ (transpose S4096x2x2816 [1, 0, 2] X0 transposes_S2x4096x2816_S4096x2x2816_1_0_2) shapeCasts_S4096x2x2816_S4096x5632) bitsLt_bf16_f32) (extf .f32 (shapeCast _ (transpose S1024x4x1408 [1, 0, 2] X1 transposes_S4x1024x1408_S1024x4x1408_1_0_2) shapeCasts_S1024x4x1408_S1024x5632) bitsLt_bf16_f32)

end Cert.MmDH2RefIdeal.Value

namespace Cert.MmDH2Ideal.Value

open Cert.MmDH2Ideal Cert.MmDH2Ideal.Gen Idealize.ShloMosaic Idealize.ShloMosaic.TcCoe Idealize.SL.Sem
open Idealize.ShloMosaic.Pipeline (Dat)
open Cert.MmDH2RefIdeal.Value (product)

variable (m : (ℓ : Loc nD τ sig) → Buf (Elt Ideal) ℓ)

/-- Where each window stands at a grid point. -/
theorem idx : ∀ t : Fin cfg0.N, win0_0.index t = ![t.val % 4 / 2, t.val / 4, t.val % 2] ∧ win0_1.index t = ![t.val % 4, 0, 0] ∧ win0_2.index t = ![t.val / 4, 0] :=
  (by decide +kernel : ∀ t : Fin grid0.N, _)

/-- The first slab of the contraction. -/
theorem slab_first (x0 : FVec Ideal S1x1024x1408 .bf16) (x1 : FVec Ideal S1x1024x1408 .bf16) (j : S1024x1024.Idx) : k0_pay1 (F := Ideal) x0 x1 j = (0 : EReal) + ∑ k : Fin 1408, x0 (ix3 0 (j 0) k) * x1 (ix3 0 (j 1) k) := by
  pointwise [k0_pay1, k0_pay2]

/-- A later slab is added to what the block holds. -/
theorem slab_next (x0 : FVec Ideal S1x1024x1408 .bf16) (x1 : FVec Ideal S1x1024x1408 .bf16) (acc : FVec Ideal S1024x1024 .f32) (j : S1024x1024.Idx) :
    k0_pay2 (F := Ideal) x0 x1 acc j = acc j + ∑ k : Fin 1408, x0 (ix3 0 (j 0) k) * x1 (ix3 0 (j 1) k) := by
  pointwise [k0_pay1, k0_pay2]

/-- The reference's element as a sum over the whole contracted axis. -/
theorem product_apply (X0 : FVec Ideal S2x4096x2816 .bf16) (X1 : FVec Ideal S4x1024x1408 .bf16) (j : S4096x1024.Idx) :
    product X0 X1 j = ∑ l : Fin 5632, X0 (ix3 ⟨l.val / 2816, by omega⟩ (j 0) ⟨l.val % 2816, by omega⟩) * X1 (ix3 ⟨l.val / 1408, by omega⟩ (j 1) ⟨l.val % 1408, by omega⟩) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmDH2Ideal.Value

namespace Cert.MmDH2Ideal.Claim

open Idealize.ShloMosaic Idealize.ShloMosaic.TcCoe Idealize.SL.Sem

/-- The call computes what the reference computes. -/
theorem algebraic : Cert.algebraic_MmDH2Ideal_MmDH2RefIdeal (hMmDH2Ideal := Cert.MmDH2Ideal.Gen.facts) (hMmDH2RefIdeal := Cert.MmDH2RefIdeal.Gen.facts) := by
  intro m g m' g' _ h
  refine ⟨fun c => Cert.MmDH2RefIdeal.Value.product (m (c.tc.loc Cert.MmDH2Ideal.main_arg0)) (m (c.tc.loc Cert.MmDH2Ideal.main_arg1)), ?_, ?_⟩
  · refine (θ_run _ _ _).mono (fun r hr c => ⟨(hr c).1.trans (Cert.MmDH2Ideal.Value.final m c), (hr c).2⟩) (Cert.MmDH2Ideal.Value.run_blocks m g)
  · refine (θ_run _ _ _).mono (fun r hr c => ⟨(hr c).1.trans ?_, (hr c).2⟩) (Cert.MmDH2RefIdeal.Value.run m' g')
    rw [(h c).1, (h c).2]
    rfl

end Cert.MmDH2Ideal.Claim

end
-- ==== Proof.MmGWoValue.lean ====
module

public import proofs.«01_k».proof.Defs
public import proofs.«01_k».proof.Proof.Gen.MmGWoIdeal.Frame
public import proofs.«01_k».proof.Proof.Gen.MmGWoIdeal.Value
public import proofs.«01_k».proof.Proof.Gen.MmGWoRefIdeal.Run
public import Idealize.ShloMosaic.Lib.Pipeline.ValueKit
public import Idealize.ShloMosaic.Lib.Pointwise

@[expose] public section

set_option maxRecDepth 16384

/-! The gradient of the output projection in its weight, block by block against the whole product. -/

noncomputable section

namespace Cert.MmGWoRefIdeal.Value

open Cert.MmGWoRefIdeal Cert.MmGWoRefIdeal.Gen Idealize.ShloMosaic Idealize.ShloMosaic.TcCoe

/-- The reference's result as a function of the arrays it is given. -/
def product (X0 : FVec Ideal S4096x1024 .bf16) (X1 : FVec Ideal S4096x1024 .bf16) : FVec Ideal S1024x1024 .f32 :=
  transpose S1024x1024 [1, 0] (Host.dotGeneral dot_S4096x1024_S4096x1024_S1024x1024_0_0_1_1_n_n none (extf .f32 X1 bitsLt_bf16_f32) (extf .f32 X0 bitsLt_bf16_f32)) transposes_S1024x1024_S1024x1024_1_0

end Cert.MmGWoRefIdeal.Value

namespace Cert.MmGWoIdeal.Value

open Cert.MmGWoIdeal Cert.MmGWoIdeal.Gen Idealize.ShloMosaic Idealize.ShloMosaic.TcCoe Idealize.SL.Sem
open Idealize.ShloMosaic.Pipeline (Dat)
open Cert.MmGWoRefIdeal.Value (product)

variable (m : (ℓ : Loc nD τ sig) → Buf (Elt Ideal) ℓ)

/-- Where each window stands at a grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- The first slab of the contraction. -/
theorem slab_first (x0 : FVec Ideal S1024x1024 .bf16) (x1 : FVec Ideal S1024x1024 .bf16) (j : S1024x1024.Idx) : k0_pay1 (F := Ideal) x0 x1 j = (0 : EReal) + ∑ k : Fin 1024, x0 (ix2 k (j 0)) * x1 (ix2 k (j 1)) := by
  pointwise [k0_pay1, k0_pay2]

/-- A later slab is added to what the block holds. -/
theorem slab_next (x0 : FVec Ideal S1024x1024 .bf16) (x1 : FVec Ideal S1024x1024 .bf16) (acc : FVec Ideal S1024x1024 .f32) (j : S1024x1024.Idx) :
    k0_pay2 (F := Ideal) x0 x1 acc j = acc j + ∑ k : Fin 1024, x0 (ix2 k (j 0)) * x1 (ix2 k (j 1)) := by
  pointwise [k0_pay1, k0_pay2]

/-- The reference's element as a sum over the whole contracted axis. -/
theorem product_apply (X0 : FVec Ideal S4096x1024 .bf16) (X1 : FVec Ideal S4096x1024 .bf16) (j : S1024x1024.Idx) :
    product X0 X1 j = ∑ l : Fin 4096, X0 (ix2 l (j 0)) * X1 (ix2 l (j 1)) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have h4 : t.val < 4 := t.isLt; omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmGWoIdeal.Value

namespace Cert.MmGWoIdeal.Claim

open Idealize.ShloMosaic Idealize.ShloMosaic.TcCoe Idealize.SL.Sem

/-- The call computes what the reference computes. -/
theorem algebraic : Cert.algebraic_MmGWoIdeal_MmGWoRefIdeal (hMmGWoIdeal := Cert.MmGWoIdeal.Gen.facts) (hMmGWoRefIdeal := Cert.MmGWoRefIdeal.Gen.facts) := by
  intro m g m' g' _ h
  refine ⟨fun c => Cert.MmGWoRefIdeal.Value.product (m (c.tc.loc Cert.MmGWoIdeal.main_arg0)) (m (c.tc.loc Cert.MmGWoIdeal.main_arg1)), ?_, ?_⟩
  · refine (θ_run _ _ _).mono (fun r hr c => ⟨(hr c).1.trans (Cert.MmGWoIdeal.Value.final m c), (hr c).2⟩) (Cert.MmGWoIdeal.Value.run_blocks m g)
  · refine (θ_run _ _ _).mono (fun r hr c => ⟨(hr c).1.trans ?_, (hr c).2⟩) (Cert.MmGWoRefIdeal.Value.run m' g')
    rw [(h c).1, (h c).2]
    rfl

end Cert.MmGWoIdeal.Claim

end
-- ==== Proof.MmDOValue.lean ====
module

public import proofs.«01_k».proof.Defs
public import proofs.«01_k».proof.Proof.Gen.MmDOIdeal.Frame
public import proofs.«01_k».proof.Proof.Gen.MmDOIdeal.Value
public import proofs.«01_k».proof.Proof.Gen.MmDORefIdeal.Run
public import Idealize.ShloMosaic.Lib.Pipeline.ValueKit
public import Idealize.ShloMosaic.Lib.Pointwise

@[expose] public section

set_option maxRecDepth 16384

/-! The gradient of the output projection in the mixed heads, block by block against the whole product. -/

noncomputable section

namespace Cert.MmDORefIdeal.Value

open Cert.MmDORefIdeal Cert.MmDORefIdeal.Gen Idealize.ShloMosaic Idealize.ShloMosaic.TcCoe

/-- The reference's result as a function of the arrays it is given. -/
def product (X0 : FVec Ideal S4096x1024 .bf16) (X1 : FVec Ideal S1024x1024 .bf16) : FVec Ideal S4096x1024 .f32 :=
  Host.dotGeneral dot_S4096x1024_S1024x1024_S4096x1024_1_1_0_0_n_n none (extf .f32 X0 bitsLt_bf16_f32) (extf .f32 X1 bitsLt_bf16_f32)

end Cert.MmDORefIdeal.Value

namespace Cert.MmDOIdeal.Value

open Cert.MmDOIdeal Cert.MmDOIdeal.Gen Idealize.ShloMosaic Idealize.ShloMosaic.TcCoe Idealize.SL.Sem
open Idealize.ShloMosaic.Pipeline (Dat)
open Cert.MmDORefIdeal.Value (product)

variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a block index is the product there. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmDOIdeal.Value

namespace Cert.MmDOIdeal.Claim

open Idealize.ShloMosaic Idealize.ShloMosaic.TcCoe Idealize.SL.Sem

/-- The call computes what the reference computes. -/
theorem algebraic : Cert.algebraic_MmDOIdeal_MmDORefIdeal (hMmDOIdeal := Cert.MmDOIdeal.Gen.facts) (hMmDORefIdeal := Cert.MmDORefIdeal.Gen.facts) := by
  intro m g m' g' _ h
  refine ⟨fun c => Cert.MmDORefIdeal.Value.product (m (c.tc.loc Cert.MmDOIdeal.main_arg0)) (m (c.tc.loc Cert.MmDOIdeal.main_arg1)), ?_, ?_⟩
  · refine (θ_run _ _ _).mono (fun r hr c => ⟨(hr c).1.trans (Cert.MmDOIdeal.Value.final m c), (hr c).2⟩) (Cert.MmDOIdeal.Value.run_blocks m g)
  · refine (θ_run _ _ _).mono (fun r hr c => ⟨(hr c).1.trans ?_, (hr c).2⟩) (Cert.MmDORefIdeal.Value.run m' g')
    rw [(h c).1, (h c).2]
    rfl

end Cert.MmDOIdeal.Claim

end
-- ==== Proof.MmGWinValue.lean ====
module

public import proofs.«01_k».proof.Defs
public import proofs.«01_k».proof.Proof.Gen.MmGWinIdeal.Frame
public import proofs.«01_k».proof.Proof.Gen.MmGWinIdeal.Value
public import proofs.«01_k».proof.Proof.Gen.MmGWinRefIdeal.Run
public import Idealize.ShloMosaic.Lib.Pipeline.ValueKit
public import Idealize.ShloMosaic.Lib.Pointwise

@[expose] public section

set_option maxRecDepth 16384

/-! The gradient of the input projection in its weight, block by block against the whole product. -/

noncomputable section

namespace Cert.MmGWinRefIdeal.Value

open Cert.MmGWinRefIdeal Cert.MmGWinRefIdeal.Gen Idealize.ShloMosaic Idealize.ShloMosaic.TcCoe

/-- The reference's result as a function of the arrays it is given. -/
def product (X0 : FVec Ideal S4096x1024 .bf16) (X1 : FVec Ideal S4096x3840 .bf16) : FVec Ideal S1024x3840 .f32 :=
  transpose S1024x3840 [1, 0] (Host.dotGeneral dot_S4096x3840_S4096x1024_S3840x1024_0_0_1_1_n_n none (extf .f32 X1 bitsLt_bf16_f32) (extf .f32 X0 bitsLt_bf16_f32)) transposes_S3840x1024_S1024x3840_1_0

end Cert.MmGWinRefIdeal.Value

namespace Cert.MmGWinIdeal.Value

open Cert.MmGWinIdeal Cert.MmGWinIdeal.Gen Idealize.ShloMosaic Idealize.ShloMosaic.TcCoe Idealize.SL.Sem
open Idealize.ShloMosaic.Pipeline (Dat)
open Cert.MmGWinRefIdeal.Value (product)

variable (m : (ℓ : Loc nD τ sig) → Buf (Elt Ideal) ℓ)

/-- Where each window stands at a grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The first slab of the contraction. -/
theorem slab_first (x0 : FVec Ideal S1024x1024 .bf16) (x1 : FVec Ideal S1024x1280 .bf16) (j : S1024x1280.Idx) : k0_pay1 (F := Ideal) x0 x1 j = (0 : EReal) + ∑ k : Fin 1024, x0 (ix2 k (j 0)) * x1 (ix2 k (j 1)) := by
  pointwise [k0_pay1, k0_pay2]

/-- A later slab is added to what the block holds. -/
theorem slab_next (x0 : FVec Ideal S1024x1024 .bf16) (x1 : FVec Ideal S1024x1280 .bf16) (acc : FVec Ideal S1024x1280 .f32) (j : S1024x1280.Idx) :
    k0_pay2 (F := Ideal) x0 x1 acc j = acc j + ∑ k : Fin 1024, x0 (ix2 k (j 0)) * x1 (ix2 k (j 1)) := by
  pointwise [k0_pay1, k0_pay2]

/-- The reference's element as a sum over the whole contracted axis. -/
theorem product_apply (X0 : FVec Ideal S4096x1024 .bf16) (X1 : FVec Ideal S4096x3840 .bf16) (j : S1024x3840.Idx) :
    product X0 X1 j = ∑ l : Fin 4096, X0 (ix2 l (j 0)) * X1 (ix2 l (j 1)) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmGWinIdeal.Value

namespace Cert.MmGWinIdeal.Claim

open Idealize.ShloMosaic Idealize.ShloMosaic.TcCoe Idealize.SL.Sem

/-- The call computes what the reference computes. -/
theorem algebraic : Cert.algebraic_MmGWinIdeal_MmGWinRefIdeal (hMmGWinIdeal := Cert.MmGWinIdeal.Gen.facts) (hMmGWinRefIdeal := Cert.MmGWinRefIdeal.Gen.facts) := by
  intro m g m' g' _ h
  refine ⟨fun c => Cert.MmGWinRefIdeal.Value.product (m (c.tc.loc Cert.MmGWinIdeal.main_arg0)) (m (c.tc.loc Cert.MmGWinIdeal.main_arg1)), ?_, ?_⟩
  · refine (θ_run _ _ _).mono (fun r hr c => ⟨(hr c).1.trans (Cert.MmGWinIdeal.Value.final m c), (hr c).2⟩) (Cert.MmGWinIdeal.Value.run_blocks m g)
  · refine (θ_run _ _ _).mono (fun r hr c => ⟨(hr c).1.trans ?_, (hr c).2⟩) (Cert.MmGWinRefIdeal.Value.run m' g')
    rw [(h c).1, (h c).2]
    rfl

end Cert.MmGWinIdeal.Claim

end
-- ==== Proof.MmDH1Value.lean ====
module

public import proofs.«01_k».proof.Defs
public import proofs.«01_k».proof.Proof.Gen.MmDH1Ideal.Frame
public import proofs.«01_k».proof.Proof.Gen.MmDH1Ideal.Value
public import proofs.«01_k».proof.Proof.Gen.MmDH1RefIdeal.Run
public import Idealize.ShloMosaic.Lib.Pipeline.ValueKit
public import Idealize.ShloMosaic.Lib.Pointwise

@[expose] public section

set_option maxRecDepth 16384

/-! The gradient of the input projection in its input, block by block against the whole product. -/

noncomputable section

namespace Cert.MmDH1RefIdeal.Value

open Cert.MmDH1RefIdeal Cert.MmDH1RefIdeal.Gen Idealize.ShloMosaic Idealize.ShloMosaic.TcCoe

/-- The reference's result as a function of the arrays it is given. -/
def product (X0 : FVec Ideal S4096x3840 .bf16) (X1 : FVec Ideal S1024x3840 .bf16) : FVec Ideal S4096x1024 .f32 :=
  Host.dotGeneral dot_S4096x3840_S1024x3840_S4096x1024_1_1_0_0_n_n none (extf .f32 X0 bitsLt_bf16_f32) (extf .f32 X1 bitsLt_bf16_f32)

end Cert.MmDH1RefIdeal.Value

namespace Cert.MmDH1Ideal.Value

open Cert.MmDH1Ideal Cert.MmDH1Ideal.Gen Idealize.ShloMosaic Idealize.ShloMosaic.TcCoe Idealize.SL.Sem
open Idealize.ShloMosaic.Pipeline (Dat)
open Cert.MmDH1RefIdeal.Value (product)

variable (m : (ℓ : Loc nD τ sig) → Buf (Elt Ideal) ℓ)

/-- Where each window stands at a grid point. -/
theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The first slab of the contraction. -/
theorem slab_first (x0 : FVec Ideal S1024x1280 .bf16) (x1 : FVec Ideal S1024x1280 .bf16) (j : S1024x1024.Idx) : k0_pay1 (F := Ideal) x0 x1 j = (0 : EReal) + ∑ k : Fin 1280, x0 (ix2 (j 0) k) * x1 (ix2 (j 1) k) := by
  pointwise [k0_pay1, k0_pay2]

/-- A later slab is added to what the block holds. -/
theorem slab_next (x0 : FVec Ideal S1024x1280 .bf16) (x1 : FVec Ideal S1024x1280 .bf16) (acc : FVec Ideal S1024x1024 .f32) (j : S1024x1024.Idx) :
    k0_pay2 (F := Ideal) x0 x1 acc j = acc j + ∑ k : Fin 1280, x0 (ix2 (j 0) k) * x1 (ix2 (j 1) k) := by
  pointwise [k0_pay1, k0_pay2]

/-- The reference's element as a sum over the whole contracted axis. -/
theorem product_apply (X0 : FVec Ideal S4096x3840 .bf16) (X1 : FVec Ideal S1024x3840 .bf16) (j : S4096x1024.Idx) :
    product X0 X1 j = ∑ l : Fin 3840, X0 (ix2 (j 0) l) * X1 (ix2 (j 1) l) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmDH1Ideal.Value

namespace Cert.MmDH1Ideal.Claim

open Idealize.ShloMosaic Idealize.ShloMosaic.TcCoe Idealize.SL.Sem

/-- The call computes what the reference computes. -/
theorem algebraic : Cert.algebraic_MmDH1Ideal_MmDH1RefIdeal (hMmDH1Ideal := Cert.MmDH1Ideal.Gen.facts) (hMmDH1RefIdeal := Cert.MmDH1RefIdeal.Gen.facts) := by
  intro m g m' g' _ h
  refine ⟨fun c => Cert.MmDH1RefIdeal.Value.product (m (c.tc.loc Cert.MmDH1Ideal.main_arg0)) (m (c.tc.loc Cert.MmDH1Ideal.main_arg1)), ?_, ?_⟩
  · refine (θ_run _ _ _).mono (fun r hr c => ⟨(hr c).1.trans (Cert.MmDH1Ideal.Value.final m c), (hr c).2⟩) (Cert.MmDH1Ideal.Value.run_blocks m g)
  · refine (θ_run _ _ _).mono (fun r hr c => ⟨(hr c).1.trans ?_, (hr c).2⟩) (Cert.MmDH1RefIdeal.Value.run m' g')
    rw [(h c).1, (h c).2]
    rfl

end Cert.MmDH1Ideal.Claim

end
-- ==== Proof.MmProjValue.lean ====
module

public import proofs.«01_k».proof.Defs
public import proofs.«01_k».proof.Proof.Gen.MmProjIdeal.Frame
public import proofs.«01_k».proof.Proof.Gen.MmProjIdeal.Value
public import proofs.«01_k».proof.Proof.Gen.MmProjRefIdeal.Run
public import Idealize.ShloMosaic.Lib.Pipeline.ValueKit
public import Idealize.ShloMosaic.Lib.Pointwise

@[expose] public section

set_option maxRecDepth 16384

/-! The input projection, block by block against the whole product. -/

noncomputable section

namespace Cert.MmProjRefIdeal.Value

open Cert.MmProjRefIdeal Cert.MmProjRefIdeal.Gen Idealize.ShloMosaic Idealize.ShloMosaic.TcCoe

/-- The reference's result as a function of the arrays it is given. -/
def product (X0 : FVec Ideal S4096x1024 .bf16) (X1 : FVec Ideal S1024x3840 .bf16) : FVec Ideal S4096x3840 .f32 :=
  Host.dotGeneral dot_S4096x1024_S1024x3840_S4096x3840_1_0_0_1_n_n none (extf .f32 X0 bitsLt_bf16_f32) (extf .f32 X1 bitsLt_bf16_f32)

end Cert.MmProjRefIdeal.Value

namespace Cert.MmProjIdeal.Value

open Cert.MmProjIdeal Cert.MmProjIdeal.Gen Idealize.ShloMosaic Idealize.ShloMosaic.TcCoe Idealize.SL.Sem
open Idealize.ShloMosaic.Pipeline (Dat)
open Cert.MmProjRefIdeal.Value (product)

variable (m : (ℓ : Loc nD τ sig) → Buf (Elt Ideal) ℓ)

/-- Where each window stands at a grid point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- What the body stores at a block index is the product there. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmProjIdeal.Value

namespace Cert.MmProjIdeal.Claim

open Idealize.ShloMosaic Idealize.ShloMosaic.TcCoe Idealize.SL.Sem

/-- The call computes what the reference computes. -/
theorem algebraic : Cert.algebraic_MmProjIdeal_MmProjRefIdeal (hMmProjIdeal := Cert.MmProjIdeal.Gen.facts) (hMmProjRefIdeal := Cert.MmProjRefIdeal.Gen.facts) := by
  intro m g m' g' _ h
  refine ⟨fun c => Cert.MmProjRefIdeal.Value.product (m (c.tc.loc Cert.MmProjIdeal.main_arg0)) (m (c.tc.loc Cert.MmProjIdeal.main_arg1)), ?_, ?_⟩
  · refine (θ_run _ _ _).mono (fun r hr c => ⟨(hr c).1.trans (Cert.MmProjIdeal.Value.final m c), (hr c).2⟩) (Cert.MmProjIdeal.Value.run_blocks m g)
  · refine (θ_run _ _ _).mono (fun r hr c => ⟨(hr c).1.trans ?_, (hr c).2⟩) (Cert.MmProjRefIdeal.Value.run m' g')
    rw [(h c).1, (h c).2]
    rfl

end Cert.MmProjIdeal.Claim

end
-- ==== Proof.MmWoValue.lean ====
module

public import proofs.«01_k».proof.Defs
public import proofs.«01_k».proof.Proof.Gen.MmWoIdeal.Frame
public import proofs.«01_k».proof.Proof.Gen.MmWoIdeal.Value
public import proofs.«01_k».proof.Proof.Gen.MmWoRefIdeal.Run
public import Idealize.ShloMosaic.Lib.Pipeline.ValueKit
public import Idealize.ShloMosaic.Lib.Pointwise

@[expose] public section

set_option maxRecDepth 16384

/-! The output projection, block by block against the whole product. -/

noncomputable section

namespace Cert.MmWoRefIdeal.Value

open Cert.MmWoRefIdeal Cert.MmWoRefIdeal.Gen Idealize.ShloMosaic Idealize.ShloMosaic.TcCoe

/-- The reference's result as a function of the arrays it is given. -/
def product (X0 : FVec Ideal S4096x1024 .bf16) (X1 : FVec Ideal S1024x1024 .bf16) : FVec Ideal S4096x1024 .f32 :=
  Host.dotGeneral dot_S4096x1024_S1024x1024_S4096x1024_1_0_0_1_n_n none (extf .f32 X0 bitsLt_bf16_f32) (extf .f32 X1 bitsLt_bf16_f32)

end Cert.MmWoRefIdeal.Value

namespace Cert.MmWoIdeal.Value

open Cert.MmWoIdeal Cert.MmWoIdeal.Gen Idealize.ShloMosaic Idealize.ShloMosaic.TcCoe Idealize.SL.Sem
open Idealize.ShloMosaic.Pipeline (Dat)
open Cert.MmWoRefIdeal.Value (product)

variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a block index is the product there. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmWoIdeal.Value

namespace Cert.MmWoIdeal.Claim

open Idealize.ShloMosaic Idealize.ShloMosaic.TcCoe Idealize.SL.Sem

/-- The call computes what the reference computes. -/
theorem algebraic : Cert.algebraic_MmWoIdeal_MmWoRefIdeal (hMmWoIdeal := Cert.MmWoIdeal.Gen.facts) (hMmWoRefIdeal := Cert.MmWoRefIdeal.Gen.facts) := by
  intro m g m' g' _ h
  refine ⟨fun c => Cert.MmWoRefIdeal.Value.product (m (c.tc.loc Cert.MmWoIdeal.main_arg0)) (m (c.tc.loc Cert.MmWoIdeal.main_arg1)), ?_, ?_⟩
  · refine (θ_run _ _ _).mono (fun r hr c => ⟨(hr c).1.trans (Cert.MmWoIdeal.Value.final m c), (hr c).2⟩) (Cert.MmWoIdeal.Value.run_blocks m g)
  · refine (θ_run _ _ _).mono (fun r hr c => ⟨(hr c).1.trans ?_, (hr c).2⟩) (Cert.MmWoRefIdeal.Value.run m' g')
    rw [(h c).1, (h c).2]
    rfl

end Cert.MmWoIdeal.Claim

end
-- ==== Proof.MmUpValue.lean ====
module

public import proofs.«01_k».proof.Defs
public import proofs.«01_k».proof.Proof.Gen.MmUpIdeal.Frame
public import proofs.«01_k».proof.Proof.Gen.MmUpIdeal.Value
public import proofs.«01_k».proof.Proof.Gen.MmUpRefIdeal.Run
public import Idealize.ShloMosaic.Lib.Pipeline.ValueKit
public import Idealize.ShloMosaic.Lib.Pointwise

@[expose] public section

set_option maxRecDepth 16384

/-! The up projection, block by block against the whole product. -/

noncomputable section

namespace Cert.MmUpRefIdeal.Value

open Cert.MmUpRefIdeal Cert.MmUpRefIdeal.Gen Idealize.ShloMosaic Idealize.ShloMosaic.TcCoe

/-- The reference's result as a function of the arrays it is given. -/
def product (X0 : FVec Ideal S4096x1024 .bf16) (X1 : FVec Ideal S4x1024x1408 .bf16) : FVec Ideal S4096x5632 .f32 :=
  Host.dotGeneral dot_S4096x1024_S1024x5632_S4096x5632_1_0_0_1_n_n none (extf .f32 X0 bitsLt_bf16_f32) (shapeCast _ (transpose S1024x4x1408 [1, 0, 2] (extf .f32 X1 bitsLt_bf16_f32) transposes_S4x1024x1408_S1024x4x1408_1_0_2) shapeCasts_S1024x4x1408_S1024x5632)

end Cert.MmUpRefIdeal.Value

namespace Cert.MmUpIdeal.Value

open Cert.MmUpIdeal Cert.MmUpIdeal.Gen Idealize.ShloMosaic Idealize.ShloMosaic.TcCoe Idealize.SL.Sem
open Idealize.ShloMosaic.Pipeline (Dat)
open Cert.MmUpRefIdeal.Value (product)

variable (m : (ℓ : Loc nD τ sig) → Buf (Elt Ideal) ℓ)

/-- Where each window stands at a grid point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- What the body stores at a block index is the product there. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmUpIdeal.Value

namespace Cert.MmUpIdeal.Claim

open Idealize.ShloMosaic Idealize.ShloMosaic.TcCoe Idealize.SL.Sem

/-- The call computes what the reference computes. -/
theorem algebraic : Cert.algebraic_MmUpIdeal_MmUpRefIdeal (hMmUpIdeal := Cert.MmUpIdeal.Gen.facts) (hMmUpRefIdeal := Cert.MmUpRefIdeal.Gen.facts) := by
  intro m g m' g' _ h
  refine ⟨fun c => Cert.MmUpRefIdeal.Value.product (m (c.tc.loc Cert.MmUpIdeal.main_arg0)) (m (c.tc.loc Cert.MmUpIdeal.main_arg1)), ?_, ?_⟩
  · refine (θ_run _ _ _).mono (fun r hr c => ⟨(hr c).1.trans (Cert.MmUpIdeal.Value.final m c), (hr c).2⟩) (Cert.MmUpIdeal.Value.run_blocks m g)
  · refine (θ_run _ _ _).mono (fun r hr c => ⟨(hr c).1.trans ?_, (hr c).2⟩) (Cert.MmUpRefIdeal.Value.run m' g')
    rw [(h c).1, (h c).2]
    rfl

end Cert.MmUpIdeal.Claim

end
-- ==== Proof.MmDownValue.lean ====
module

public import proofs.«01_k».proof.Defs
public import proofs.«01_k».proof.Proof.Gen.MmDownIdeal.Frame
public import proofs.«01_k».proof.Proof.Gen.MmDownIdeal.Value
public import proofs.«01_k».proof.Proof.Gen.MmDownRefIdeal.Run
public import Idealize.ShloMosaic.Lib.Pipeline.ValueKit
public import Idealize.ShloMosaic.Lib.Pointwise

@[expose] public section

set_option maxRecDepth 16384

/-! The down projection, block by block against the whole product. -/

noncomputable section

namespace Cert.MmDownRefIdeal.Value

open Cert.MmDownRefIdeal Cert.MmDownRefIdeal.Gen Idealize.ShloMosaic Idealize.ShloMosaic.TcCoe

/-- The reference's result as a function of the arrays it is given. -/
def product (X0 : FVec Ideal S4096x2816 .bf16) (X1 : FVec Ideal S2816x1024 .bf16) : FVec Ideal S4096x1024 .f32 :=
  Host.dotGeneral dot_S4096x2816_S2816x1024_S4096x1024_1_0_0_1_n_n none (extf .f32 X0 bitsLt_bf16_f32) (extf .f32 X1 bitsLt_bf16_f32)

end Cert.MmDownRefIdeal.Value

namespace Cert.MmDownIdeal.Value

open Cert.MmDownIdeal Cert.MmDownIdeal.Gen Idealize.ShloMosaic Idealize.ShloMosaic.TcCoe Idealize.SL.Sem
open Idealize.ShloMosaic.Pipeline (Dat)
open Cert.MmDownRefIdeal.Value (product)

variable (m : (ℓ : Loc nD τ sig) → Buf (Elt Ideal) ℓ)

/-- Where each window stands at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The first slab of the contraction. -/
theorem slab_first (x0 : FVec Ideal S1024x1408 .bf16) (x1 : FVec Ideal S1408x1024 .bf16) (j : S1024x1024.Idx) : k0_pay1 (F := Ideal) x0 x1 j = (0 : EReal) + ∑ k : Fin 1408, x0 (ix2 (j 0) k) * x1 (ix2 k (j 1)) := by
  pointwise [k0_pay1, k0_pay2]

/-- A later slab is added to what the block holds. -/
theorem slab_next (x0 : FVec Ideal S1024x1408 .bf16) (x1 : FVec Ideal S1408x1024 .bf16) (acc : FVec Ideal S1024x1024 .f32) (j : S1024x1024.Idx) :
    k0_pay2 (F := Ideal) x0 x1 acc j = acc j + ∑ k : Fin 1408, x0 (ix2 (j 0) k) * x1 (ix2 k (j 1)) := by
  pointwise [k0_pay1, k0_pay2]

/-- The reference's element as a sum over the whole contracted axis. -/
theorem product_apply (X0 : FVec Ideal S4096x2816 .bf16) (X1 : FVec Ideal S2816x1024 .bf16) (j : S4096x1024.Idx) :
    product X0 X1 j = ∑ l : Fin 2816, X0 (ix2 (j 0) l) * X1 (ix2 l (j 1)) := by
  pointwise! [product]

/-- The result array is the product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [slab_first])
    (fun t h j => by rw [outsAt0_B m c t h (by omega)]; frame_out; rw [slab_next])
    t ((flush0_2 t).mp hf) _, zero_add, product_apply]
  have ht := (flush0_2 t).mp hf
  refine Fin.sum_mul_add_congr fun s k hl => ?_
  blk_point [iblk, V, idx t, idx ⟨_, Pipeline.run_point_lt_of_flush t ((flush0_2 t).mp hf) s⟩]

end Cert.MmDownIdeal.Value

namespace Cert.MmDownIdeal.Claim

open Idealize.ShloMosaic Idealize.ShloMosaic.TcCoe Idealize.SL.Sem

/-- The call computes what the reference computes. -/
theorem algebraic : Cert.algebraic_MmDownIdeal_MmDownRefIdeal (hMmDownIdeal := Cert.MmDownIdeal.Gen.facts) (hMmDownRefIdeal := Cert.MmDownRefIdeal.Gen.facts) := by
  intro m g m' g' _ h
  refine ⟨fun c => Cert.MmDownRefIdeal.Value.product (m (c.tc.loc Cert.MmDownIdeal.main_arg0)) (m (c.tc.loc Cert.MmDownIdeal.main_arg1)), ?_, ?_⟩
  · refine (θ_run _ _ _).mono (fun r hr c => ⟨(hr c).1.trans (Cert.MmDownIdeal.Value.final m c), (hr c).2⟩) (Cert.MmDownIdeal.Value.run_blocks m g)
  · refine (θ_run _ _ _).mono (fun r hr c => ⟨(hr c).1.trans ?_, (hr c).2⟩) (Cert.MmDownRefIdeal.Value.run m' g')
    rw [(h c).1, (h c).2]
    rfl

end Cert.MmDownIdeal.Claim

end
-- ==== Proof.MmGAdaValue.lean ====
module

public import proofs.«01_k».proof.Defs
public import proofs.«01_k».proof.Proof.Gen.MmGAdaIdeal.Frame
public import proofs.«01_k».proof.Proof.Gen.MmGAdaIdeal.Value
public import proofs.«01_k».proof.Proof.Gen.MmGAdaRefIdeal.Run
public import Idealize.ShloMosaic.Lib.Pipeline.ValueKit
public import Idealize.ShloMosaic.Lib.Pointwise

@[expose] public section

set_option maxRecDepth 16384

/-! The gradient of the modulation weights: the conditioning against the gradient of the modulation, summed over the sixteen sequences. -/

noncomputable section

namespace Cert.MmGAdaRefIdeal.Value

open Cert.MmGAdaRefIdeal Cert.MmGAdaRefIdeal.Gen Idealize.ShloMosaic Idealize.ShloMosaic.TcCoe

/-- The reference's result as a function of the arrays it is given. -/
def product (X0 : FVec Ideal S16x1024 .f32) (X1 : FVec Ideal S16x1536 .f32) : FVec Ideal S1024x1536 .f32 :=
  transpose S1024x1536 [1, 0] (Host.dotGeneral dot_S16x1536_S16x1024_S1536x1024_0_0_1_1_n_n none X1 X0) transposes_S1536x1024_S1024x1536_1_0

/-- The reference's element as a sum over the sequences. -/
theorem product_apply (X0 : FVec Ideal S16x1024 .f32) (X1 : FVec Ideal S16x1536 .f32) (j : S1024x1536.Idx) :
    product X0 X1 j = ∑ l : Fin 16, X0 (ix2 l (j 0)) * X1 (ix2 l (j 1)) := by
  pointwise! [product]

end Cert.MmGAdaRefIdeal.Value

namespace Cert.MmGAdaIdeal.Value

open Cert.MmGAdaIdeal Cert.MmGAdaIdeal.Gen Idealize.ShloMosaic Idealize.ShloMosaic.TcCoe
open Cert.MmGAdaRefIdeal.Value (product product_apply)

/-- The kernel's block, which is the whole result, is the product. -/
theorem block_eq (X0 : FVec Ideal S16x1024 .f32) (X1 : FVec Ideal S16x1536 .f32) : G2 (F := Ideal) X0 X1 = product X0 X1 := by
  funext j
  rw [product_apply]
  have h : k0_pay1 (F := Ideal) X0 X1 j = (0 : EReal) + ∑ k : Fin 16, X0 (ix2 k (j 0)) * X1 (ix2 k (j 1)) := by
    pointwise [k0_pay1]
  rw [zero_add] at h
  exact h

end Cert.MmGAdaIdeal.Value

namespace Cert.MmGAdaIdeal.Claim

open Idealize.ShloMosaic Idealize.ShloMosaic.TcCoe Idealize.SL.Sem

/-- The call computes what the reference computes. -/
theorem algebraic : Cert.algebraic_MmGAdaIdeal_MmGAdaRefIdeal (hMmGAdaIdeal := Cert.MmGAdaIdeal.Gen.facts) (hMmGAdaRefIdeal := Cert.MmGAdaRefIdeal.Gen.facts) := by
  intro m g m' g' _ h
  refine ⟨fun c => Cert.MmGAdaRefIdeal.Value.product (m (c.tc.loc Cert.MmGAdaIdeal.main_arg0)) (m (c.tc.loc Cert.MmGAdaIdeal.main_arg1)), ?_, ?_⟩
  · refine (θ_run _ _ _).mono (fun r hr c => ⟨(hr c).1.trans (Cert.MmGAdaIdeal.Value.block_eq _ _), (hr c).2⟩) (Cert.MmGAdaIdeal.Value.run m g)
  · refine (θ_run _ _ _).mono (fun r hr c => ⟨(hr c).1.trans ?_, (hr c).2⟩) (Cert.MmGAdaRefIdeal.Value.run m' g')
    rw [(h c).1, (h c).2]
    rfl

end Cert.MmGAdaIdeal.Claim

end
-- ==== Proof.ColSumValue.lean ====
module

public import proofs.«01_k».proof.Defs
public import proofs.«01_k».proof.Proof.Gen.ColSumIdeal.Frame
public import proofs.«01_k».proof.Proof.Gen.ColSumIdeal.Value
public import proofs.«01_k».proof.Proof.Gen.ColSumRefIdeal.Run
public import Idealize.ShloMosaic.Lib.Pipeline.ValueKit
public import Idealize.ShloMosaic.Lib.Pointwise

@[expose] public section

set_option maxRecDepth 16384

/-! The gradient of the modulation bias: the sum of the gradient of the modulation over the sixteen sequences. -/

noncomputable section

namespace Cert.ColSumRefIdeal.Value

open Cert.ColSumRefIdeal Cert.ColSumRefIdeal.Gen Idealize.ShloMosaic Idealize.ShloMosaic.TcCoe

/-- The reference's result as a function of the array it is given. -/
def columns (X0 : FVec Ideal S16x6144 .f32) : FVec Ideal S1x6144 .f32 :=
  broadcastInDim S1x6144 ![1] bcast_S6144_S1x6144_1 (Host.reduceAdd X0 (constant S_ .f32 0x00000000#32) reducesTo_S16x6144_S6144_d0 h_S_)

/-- The reference's element as a sum over the sequences. -/
theorem columns_apply (X0 : FVec Ideal S16x6144 .f32) (j : S1x6144.Idx) :
    columns X0 j = ∑ l : Fin 16, X0 (ix2 l (j 1)) := by
  pointwise! [columns]

end Cert.ColSumRefIdeal.Value

namespace Cert.ColSumIdeal.Value

open Cert.ColSumIdeal Cert.ColSumIdeal.Gen Idealize.ShloMosaic Idealize.ShloMosaic.TcCoe
open Cert.ColSumRefIdeal.Value (columns columns_apply)

/-- The kernel's block, which is the whole result, is the sum over the sequences. -/
theorem block_eq (X0 : FVec Ideal S16x6144 .f32) : G1 (F := Ideal) X0 = columns X0 := by
  funext j
  rw [columns_apply]
  have h : k0_pay1 (F := Ideal) X0 j = ∑ l : Fin 16, X0 (ix2 l (j 1)) := by
    pointwise! [k0_pay1]
  exact h

end Cert.ColSumIdeal.Value

namespace Cert.ColSumIdeal.Claim

open Idealize.ShloMosaic Idealize.ShloMosaic.TcCoe Idealize.SL.Sem

/-- The call computes what the reference computes. -/
theorem algebraic : Cert.algebraic_ColSumIdeal_ColSumRefIdeal (hColSumIdeal := Cert.ColSumIdeal.Gen.facts) (hColSumRefIdeal := Cert.ColSumRefIdeal.Gen.facts) := by
  intro m g m' g' _ h
  refine ⟨fun c => Cert.ColSumRefIdeal.Value.columns (m (c.tc.loc Cert.ColSumIdeal.main_arg0)), ?_, ?_⟩
  · refine (θ_run _ _ _).mono (fun r hr c => ⟨(hr c).1.trans (Cert.ColSumIdeal.Value.block_eq _), (hr c).2⟩) (Cert.ColSumIdeal.Value.run m g)
  · refine (θ_run _ _ _).mono (fun r hr c => ⟨(hr c).1.trans ?_, (hr c).2⟩) (Cert.ColSumRefIdeal.Value.run m' g')
    rw [h c]
    rfl

end Cert.ColSumIdeal.Claim

end
-- ==== Proof.RowNorm.lean ====
module

public import Idealize.ShloMosaic.Lib.Pointwise

@[expose] public section

/-! A normalisation over a row of 1024 entries, and its gradient, as functions of that row. -/

noncomputable section

namespace Cert.RowNorm

open Idealize.ShloMosaic

/-- A row of 1024 entries. -/
abbrev Row := Fin 1024 → EReal

/-- The number of entries of a row. -/
abbrev width : EReal := Ideal.ofBits .f32 0x44800000#32

/-- A row less its mean. -/
def centred (x : Row) : Row := fun l => x l - Ideal.div (∑ k, x k) width

/-- The variance of a centred row, with the small constant added. -/
def spread (d : Row) : EReal := Ideal.div (∑ k, d k * d k) width + Ideal.ofBits .f32 0x358637BD#32

/-- A row with mean zero and variance one. -/
def normed (x : Row) : Row := fun l => centred x l * Ideal.rsqrt (spread (centred x))

/-- The coefficient of the centred row in the gradient: what reaches the row through its variance. -/
def slope (d t : Row) : EReal :=
  Ideal.div ((∑ k, d k * t k) * (Ideal.ofBits .f32 0xBF000000#32 * Ideal.div (Ideal.rsqrt (spread d)) (spread d))) width

/-- The gradient in the centred row. -/
def inner (d t : Row) : Row := fun l => t l * Ideal.rsqrt (spread d) + d l * slope d t + slope d t * d l

/-- The gradient in the row: the gradient in the centred row less its mean. -/
def outer (q : Row) : Row := fun l => q l + Ideal.div (∑ k, (0 - q k)) width

/-- Twice an extended real is its sum with itself. -/
theorem two_mul_ereal (y : EReal) : 2 * y = y + y := by
  rw [← one_add_one_eq_two, EReal.right_distrib_of_nonneg zero_le_one zero_le_one, one_mul]

/-- The word of two is two. -/
theorem two_word : Ideal.ofBits .f32 0x40000000#32 = 2 := by
  rw [show (2 : EReal) = ((2 : ℝ) : EReal) by norm_cast]
  simp [Ideal.ofBits, Ideal.ieee, -EReal.coe_mul]; norm_num

/-- The gradient in the centred row, as differentiating a square writes it. -/
theorem inner_apply (d t : Row) (l : Fin 1024) :
    inner d t l = t l * Ideal.rsqrt (spread d) + slope d t * (2 * d l) := by
  rw [inner, mul_left_comm, two_mul_ereal, mul_comm (d l), add_assoc]

end Cert.RowNorm

end
-- ==== Proof.Ln0BwdValue.lean ====
module

public import proofs.«01_k».proof.Defs
public import proofs.«01_k».proof.Proof.RowNorm
public import proofs.«01_k».proof.Proof.Gen.Ln0BwdIdeal.Frame
public import proofs.«01_k».proof.Proof.Gen.Ln0BwdIdeal.Value
public import proofs.«01_k».proof.Proof.Gen.Ln0BwdRefIdeal.Run
public import proofs.«01_k».proof.Proof.Gen.Ln0BwdRefIdeal.Read
public import Idealize.ShloMosaic.Lib.Pipeline.ValueKit
public import Idealize.ShloMosaic.Lib.Pointwise

@[expose] public section

set_option maxRecDepth 16384

/-! The gradient of the entry normalisation in its input, row by row. -/

noncomputable section

namespace Cert.Ln0BwdRefIdeal.Value

open Cert.Ln0BwdRefIdeal Cert.Ln0BwdRefIdeal.Gen Cert.Ln0BwdRefIdeal.Read Idealize.ShloMosaic Idealize.ShloMosaic.TcCoe Cert.RowNorm

variable (x : FVec Ideal S4096x1024 .f32) (g : FVec Ideal S1x1024 .f32) (mod : FVec Ideal S2x6x1024 .f32) (a h : FVec Ideal S4096x1024 .f32)

/-- A row of the input, centred. -/
abbrev rowD (i : Fin 4096) : Row := centred fun k => x (ix2 i k)

/-- A row of the gradient in the normalised input, before the division by the spread. -/
abbrev rowT (s : Fin 2) (i : Fin 4096) : Row := fun k => (a (ix2 i k) + h (ix2 i k) * (1 + mod (ix3 s 1 k))) * g (ix2 0 k)

theorem v8_apply (s : Fin 2) (r : Fin 2048) (l : Fin 1024) :
    val_main_v8 (F := Ideal) x (ix3 s r l) = rowD x ⟨s.val * 2048 + r.val, by omega⟩ l := by
  pointwise [val_main_v8, val_main_v7, val_main_v6, val_main_v5, val_main_v4, val_main_v3, val_main_cst, val_main_cst_0, val_main_v0]
  rfl

theorem v17_apply (s : Fin 2) (r : Fin 2048) (l : Fin 1) :
    val_main_v17 (F := Ideal) x (ix3 s r l) = spread (rowD x ⟨s.val * 2048 + r.val, by omega⟩) := by
  pointwise [val_main_v17, val_main_v16, val_main_v15, val_main_v14, val_main_v13, val_main_v12, val_main_v9, val_main_cst_2, val_main_cst_3, val_main_cst_4]
  simp only [v8_apply]
  rfl

theorem v58_apply (s : Fin 2) (r : Fin 2048) (l : Fin 1024) :
    val_main_v58 (F := Ideal) g mod a h (ix3 s r l) = rowT g mod a h s ⟨s.val * 2048 + r.val, by omega⟩ l := by
  pointwise [val_main_v58, val_main_v57, val_main_v24, val_main_v1, val_main_v48, val_main_v38, val_main_v47, val_main_v39, val_main_v46, val_main_v32, val_main_v31, val_main_v30, val_main_cst_6]

theorem v69_apply (s : Fin 2) (r : Fin 2048) (l : Fin 1024) :
    val_main_v69 (F := Ideal) x g mod a h (ix3 s r l) = slope (rowD x ⟨s.val * 2048 + r.val, by omega⟩) (rowT g mod a h s ⟨s.val * 2048 + r.val, by omega⟩) := by
  pointwise [val_main_v69, val_main_v68, val_main_cst_17, val_main_v67, val_main_v66, val_main_cst_16, val_main_v65, val_main_v62, val_main_v61, val_main_cst_15, val_main_v60, val_main_v21, val_main_v20, val_main_cst_5, val_main_v19, val_main_v18]
  simp only [v8_apply, v17_apply, v58_apply, Fin.sum_univ_one]
  rfl

theorem v71_apply (s : Fin 2) (r : Fin 2048) (l : Fin 1024) :
    val_main_v71 (F := Ideal) x g mod a h (ix3 s r l) = inner (rowD x ⟨s.val * 2048 + r.val, by omega⟩) (rowT g mod a h s ⟨s.val * 2048 + r.val, by omega⟩) l := by
  rw [inner_apply]
  pointwise [val_main_v71, val_main_v70, val_main_v64, val_main_v63, val_main_v18, val_main_v11, val_main_v10, val_main_cst_1]
  simp only [v8_apply, v17_apply, v58_apply, v69_apply, two_word]

theorem v79_apply (s : Fin 2) (r : Fin 2048) (l : Fin 1024) :
    val_main_v79 (F := Ideal) x g mod a h (ix3 s r l) = outer (inner (rowD x ⟨s.val * 2048 + r.val, by omega⟩) (rowT g mod a h s ⟨s.val * 2048 + r.val, by omega⟩)) l := by
  pointwise [val_main_v79, val_main_v78, val_main_v77, val_main_cst_20, val_main_v76, val_main_v75, val_main_cst_19, val_main_v74, val_main_v73, val_main_cst_18, val_main_v72]
  simp only [v71_apply, Fin.sum_univ_one]
  simp only [outer, zero_sub]

/-- The reference's result, row by row. -/
theorem result_apply (i : Fin 4096) (l : Fin 1024) :
    val_main_v82 (F := Ideal) x g mod a h (ix2 i l) = outer (inner (rowD x i) (rowT g mod a h ⟨i.val / 2048, by omega⟩ i)) l := by
  have e : (⟨(i.val / 2048) * 2048 + i.val % 2048, by omega⟩ : Fin 4096) = i := Fin.ext (by simp only []; omega)
  rw [show val_main_v82 (F := Ideal) x g mod a h (ix2 i l) = val_main_v79 (F := Ideal) x g mod a h (ix3 ⟨i.val / 2048, by omega⟩ ⟨i.val % 2048, by omega⟩ l) by pointwise [val_main_v82],
    v79_apply, e]

end Cert.Ln0BwdRefIdeal.Value

namespace Cert.Ln0BwdIdeal.Value

open Cert.Ln0BwdIdeal Cert.Ln0BwdIdeal.Gen Idealize.ShloMosaic Idealize.ShloMosaic.TcCoe Cert.RowNorm
open Idealize.ShloMosaic.Pipeline (Dat)

theorem pay7_apply (x : FVec Ideal S512x1024 .f32) (r : Fin 512) (l : Fin 1024) :
    k0_pay7 (F := Ideal) x (ix2 r l) = centred (fun k => x (ix2 r k)) l := by
  pointwise [k0_pay7]
  rfl

theorem pay8_apply (x : FVec Ideal S512x1024 .f32) (r : Fin 512) (l : Fin 1) :
    k0_pay8 (F := Ideal) x (ix2 r l) = spread (centred fun k => x (ix2 r k)) := by
  pointwise [k0_pay8]
  simp only [pay7_apply]
  rfl

/-- What the body writes in the block of the gradient, row by row. -/
theorem block_apply (x : FVec Ideal S512x1024 .f32) (g : FVec Ideal S1x1024 .f32) (sc : FVec Ideal S1x1x1024 .f32) (a h : FVec Ideal S512x1024 .f32) (r : Fin 512) (l : Fin 1024) :
    k0_pay21 (F := Ideal) g (k0_pay7 x) (k0_pay9 x) (k0_pay10 x) (k0_pay12 sc) a (k0_pay13 h) (ix2 r l)
      = outer (inner (centred fun k => x (ix2 r k)) fun k => (a (ix2 r k) + h (ix2 r k) * (1 + sc (ix3 0 0 k))) * g (ix2 0 k)) l := by
  pointwise [k0_pay21, k0_pay18, k0_pay17, k0_pay9, k0_pay10, k0_pay12, k0_pay13]
  simp only [pay7_apply, pay8_apply, Fin.sum_univ_one]
  rfl

variable (m : (ℓ : Loc nD τ sig) → Buf (Elt Ideal) ℓ)

/-- Where each window stands at a grid point. -/
theorem idx : ∀ t : Fin cfg0.N, win0_0.index t = ![t.val, 0] ∧ win0_1.index t = ![0, 0] ∧ win0_3.index t = ![t.val / 4, 0, 0] ∧ win0_4.index t = ![t.val, 0] ∧ win0_5.index t = ![t.val, 0] ∧ win0_6.index t = ![t.val, 0] :=
  (by decide +kernel : ∀ t : Fin grid0.N, _)

/-- The block of the gradient that a grid point writes. -/
def block (c : Dev nD) (t : Fin cfg0.N) : FVec Ideal S512x1024 .f32 :=
  k0_pay21 (F := Ideal) (iblk m c 1 t) (k0_pay7 (iblk m c 0 t)) (k0_pay9 (iblk m c 0 t)) (k0_pay10 (iblk m c 0 t))
    (k0_pay12 (View.ld (iblk m c 3 t) (Rect.unit ![0, 1, 0] ![1, 1, 1024] inb_S1x6x1024_S1x1x1024_0_1_0))) (iblk m c 4 t) (k0_pay13 (iblk m c 5 t))

/-- The result array is the reference's. -/
theorem final (c : Dev nD) : (dats m 0 c).arrAt 6 (cfgs 0).N = Cert.Ln0BwdRefIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hlt : t.val < 8 := t.isLt
  have key : ∀ X : FVec Ideal S512x1024 .f32, X = block m c t → X y = Cert.Ln0BwdRefIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (((View.whole main_v0_0).slice (win0_6.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    rw [hX, block, block_apply, show ((View.whole main_v0_0).slice (win0_6.rect t)).emb (ix2 r l) = ix2 (⟨t.val * 512 + r.val, by omega⟩ : Fin 4096) l by blk_ext [idx t],
      Cert.Ln0BwdRefIdeal.Value.result_apply]
    refine congrArg (fun q => outer q l) (congrArg₂ (fun p q => inner (centred p) q) (funext fun k => ?_) (funext fun k => ?_))
    · blk_point [iblk, V, idx t]
    · rw [View.ld_apply, Cert.Ln0BwdRefIdeal.Value.rowT]
      blk_point [iblk, V, idx t]
      · rfl
      · show 0 + 1 * k.val = k.val
        omega
  by_cases h4 : t.val % 4 = 0
  · by_cases h8 : t.val % 8 = 0
    · rw [outsAt0_A m c t (by omega) (by omega) (by omega) (by omega) (by omega) (by omega) (by omega) (by omega)]
      frame_out
      exact key _ rfl
    · rw [outsAt0_C m c t (by omega) (by omega) (by omega) (by omega) (by omega) (by omega) (by omega) (by omega)]
      frame_out
      exact key _ rfl
  · rw [outsAt0_B m c t (by omega) (by omega) (by omega) (by omega) (by omega) (by omega) (by omega) (by omega)]
    frame_out
    exact key _ rfl

end Cert.Ln0BwdIdeal.Value

namespace Cert.Ln0BwdIdeal.Claim

open Idealize.ShloMosaic Idealize.ShloMosaic.TcCoe Idealize.SL.Sem

/-- The call computes what the reference computes. -/
theorem algebraic : Cert.algebraic_Ln0BwdIdeal_Ln0BwdRefIdeal (hLn0BwdIdeal := Cert.Ln0BwdIdeal.Gen.facts) (hLn0BwdRefIdeal := Cert.Ln0BwdRefIdeal.Gen.facts) := by
  intro m g m' g' _ h
  refine ⟨fun c => Cert.Ln0BwdRefIdeal.Read.val_main_v82 (F := Ideal) (m (c.tc.loc Cert.Ln0BwdIdeal.main_arg0)) (m (c.tc.loc Cert.Ln0BwdIdeal.main_arg1)) (m (c.tc.loc Cert.Ln0BwdIdeal.main_arg3)) (m (c.tc.loc Cert.Ln0BwdIdeal.main_arg4)) (m (c.tc.loc Cert.Ln0BwdIdeal.main_arg5)), ?_, ?_⟩
  · refine (θ_run _ _ _).mono (fun r hr c => ⟨(hr c).1.trans (Cert.Ln0BwdIdeal.Value.final m c), (hr c).2.2.2.2⟩) (Cert.Ln0BwdIdeal.Value.run_blocks m g)
  · refine (θ_run _ _ _).mono (fun r hr c => ⟨(hr c).1.trans ?_, (hr c).2⟩) (Cert.Ln0BwdRefIdeal.Value.run m' g')
    rw [Cert.Ln0BwdRefIdeal.Read.val_main_v82_eq, (h c).1, (h c).2.1, (h c).2.2.2.1, (h c).2.2.2.2.1, (h c).2.2.2.2.2]

end Cert.Ln0BwdIdeal.Claim

end
-- ==== Proof.Ln1BwdValue.lean ====
module

public import proofs.«01_k».proof.Defs
public import proofs.«01_k».proof.Proof.RowNorm
public import proofs.«01_k».proof.Proof.Gen.Ln1BwdIdeal.Frame
public import proofs.«01_k».proof.Proof.Gen.Ln1BwdIdeal.Value
public import proofs.«01_k».proof.Proof.Gen.Ln1BwdRefIdeal.Run
public import proofs.«01_k».proof.Proof.Gen.Ln1BwdRefIdeal.Read
public import Idealize.ShloMosaic.Lib.Pipeline.ValueKit
public import Idealize.ShloMosaic.Lib.Pointwise

@[expose] public section

set_option maxRecDepth 16384

/-! The gradient of the normalisation between the mixer and the feed-forward block, in the residual stream and in the mixer's output, row by row. -/

noncomputable section

namespace Cert.Ln1BwdRefIdeal.Value

open Cert.Ln1BwdRefIdeal Cert.Ln1BwdRefIdeal.Gen Cert.Ln1BwdRefIdeal.Read Idealize.ShloMosaic Idealize.ShloMosaic.TcCoe Cert.RowNorm

variable (x y : FVec Ideal S4096x1024 .f32) (g : FVec Ideal S1x1024 .f32) (mod : FVec Ideal S2x6x1024 .f32) (a h : FVec Ideal S4096x1024 .f32)

/-- The factor of the residual stream. -/
abbrev alpha : EReal := Ideal.ofBits .f32 0x3F9837F0#32

/-- A row of the sum that is normalised, centred. -/
abbrev rowD (s : Fin 2) (i : Fin 4096) : Row := centred fun k => alpha * x (ix2 i k) + (1 + mod (ix3 s 2 k)) * y (ix2 i k)

/-- A row of the gradient in the normalised sum, before the division by the spread. -/
abbrev rowT (s : Fin 2) (i : Fin 4096) : Row := fun k => (a (ix2 i k) + h (ix2 i k) * (1 + mod (ix3 s 4 k))) * g (ix2 0 k)

theorem v17_apply (s : Fin 2) (r : Fin 2048) (l : Fin 1024) :
    val_main_v17 (F := Ideal) x y mod (ix3 s r l) = rowD x y mod s ⟨s.val * 2048 + r.val, by omega⟩ l := by
  pointwise [val_main_v17, val_main_v16, val_main_v15, val_main_v14, val_main_v13, val_main_v12, val_main_cst_1, val_main_cst_2, val_main_v9, val_main_v8, val_main_v7, val_main_v6, val_main_v5, val_main_v4, val_main_v3, val_main_v2, val_main_cst, val_main_cst_0, val_main_v1, val_main_v0]
  rfl

theorem v26_apply (s : Fin 2) (r : Fin 2048) (l : Fin 1) :
    val_main_v26 (F := Ideal) x y mod (ix3 s r l) = spread (rowD x y mod s ⟨s.val * 2048 + r.val, by omega⟩) := by
  pointwise [val_main_v26, val_main_v25, val_main_v24, val_main_v23, val_main_v22, val_main_v21, val_main_v18, val_main_cst_4, val_main_cst_5, val_main_cst_6]
  simp only [v17_apply]
  rfl

theorem v67_apply (s : Fin 2) (r : Fin 2048) (l : Fin 1024) :
    val_main_v67 (F := Ideal) g mod a h (ix3 s r l) = rowT g mod a h s ⟨s.val * 2048 + r.val, by omega⟩ l := by
  pointwise [val_main_v67, val_main_v66, val_main_v33, val_main_v10, val_main_v57, val_main_v47, val_main_v56, val_main_v48, val_main_v55, val_main_v41, val_main_v40, val_main_v39, val_main_cst_8]

theorem v78_apply (s : Fin 2) (r : Fin 2048) (l : Fin 1024) :
    val_main_v78 (F := Ideal) x y g mod a h (ix3 s r l) = slope (rowD x y mod s ⟨s.val * 2048 + r.val, by omega⟩) (rowT g mod a h s ⟨s.val * 2048 + r.val, by omega⟩) := by
  pointwise [val_main_v78, val_main_v77, val_main_cst_19, val_main_v76, val_main_v75, val_main_cst_18, val_main_v74, val_main_v71, val_main_v70, val_main_cst_17, val_main_v69, val_main_v30, val_main_v29, val_main_cst_7, val_main_v28, val_main_v27]
  simp only [v17_apply, v26_apply, v67_apply, Fin.sum_univ_one]
  rfl

theorem v80_apply (s : Fin 2) (r : Fin 2048) (l : Fin 1024) :
    val_main_v80 (F := Ideal) x y g mod a h (ix3 s r l) = inner (rowD x y mod s ⟨s.val * 2048 + r.val, by omega⟩) (rowT g mod a h s ⟨s.val * 2048 + r.val, by omega⟩) l := by
  rw [inner_apply]
  pointwise [val_main_v80, val_main_v79, val_main_v73, val_main_v72, val_main_v27, val_main_v20, val_main_v19, val_main_cst_3]
  simp only [v17_apply, v26_apply, v67_apply, v78_apply, two_word]

theorem v88_apply (s : Fin 2) (r : Fin 2048) (l : Fin 1024) :
    val_main_v88 (F := Ideal) x y g mod a h (ix3 s r l) = outer (inner (rowD x y mod s ⟨s.val * 2048 + r.val, by omega⟩) (rowT g mod a h s ⟨s.val * 2048 + r.val, by omega⟩)) l := by
  pointwise [val_main_v88, val_main_v87, val_main_cst_22, val_main_v86, val_main_v85, val_main_cst_21, val_main_v84, val_main_v83, val_main_cst_20, val_main_v82, val_main_v81]
  simp only [v80_apply, Fin.sum_univ_one]
  simp only [outer, zero_sub]

/-- A row of the gradient in the normalised sum. -/
abbrev rowG (i : Fin 4096) : Row := outer (inner (rowD x y mod ⟨i.val / 2048, by omega⟩ i) (rowT g mod a h ⟨i.val / 2048, by omega⟩ i))

theorem v88_row (i : Fin 4096) (l : Fin 1024) :
    val_main_v88 (F := Ideal) x y g mod a h (ix3 ⟨i.val / 2048, by omega⟩ ⟨i.val % 2048, by omega⟩ l) = rowG x y g mod a h i l := by
  have e : (⟨(i.val / 2048) * 2048 + i.val % 2048, by omega⟩ : Fin 4096) = i := Fin.ext (by simp only []; omega)
  rw [v88_apply, e]

/-- The reference's first result, row by row. -/
theorem stream_apply (i : Fin 4096) (l : Fin 1024) :
    val_main_v100 (F := Ideal) x y g mod a h (ix2 i l) = alpha * rowG x y g mod a h i l := by
  rw [← v88_row]
  pointwise [val_main_v100, val_main_v99, val_main_v98, val_main_cst_25]

/-- The reference's second result, row by row. -/
theorem mixer_apply (i : Fin 4096) (l : Fin 1024) :
    val_main_v102 (F := Ideal) x y g mod a h (ix2 i l) = (1 + mod (ix3 ⟨i.val / 2048, by omega⟩ 2 l)) * rowG x y g mod a h i l := by
  rw [← v88_row]
  pointwise [val_main_v102, val_main_v101, val_main_v92, val_main_v91, val_main_v6, val_main_v5, val_main_v4, val_main_cst_0]

end Cert.Ln1BwdRefIdeal.Value

namespace Cert.Ln1BwdIdeal.Value

open Cert.Ln1BwdIdeal Cert.Ln1BwdIdeal.Gen Idealize.ShloMosaic Idealize.ShloMosaic.TcCoe Cert.RowNorm
open Idealize.ShloMosaic.Pipeline (Dat)
open Cert.Ln1BwdRefIdeal.Value (alpha)

section Body

variable (x y : FVec Ideal S512x1024 .f32) (ga : FVec Ideal S1x1x1024 .f32) (g : FVec Ideal S1x1024 .f32) (sc : FVec Ideal S1x1x1024 .f32) (a h : FVec Ideal S512x1024 .f32)

/-- A row of the sum that the body normalises, centred. -/
abbrev bodyD (r : Fin 512) : Row := centred fun k => alpha * x (ix2 r k) + (1 + ga (ix3 0 0 k)) * y (ix2 r k)

/-- A row of the gradient that reaches the normalised sum in the body. -/
abbrev bodyT (r : Fin 512) : Row := fun k => (a (ix2 r k) + h (ix2 r k) * (1 + sc (ix3 0 0 k))) * g (ix2 0 k)

theorem pay8_apply (r : Fin 512) (l : Fin 1024) : k0_pay8 (F := Ideal) x y ga (ix2 r l) = bodyD x y ga r l := by
  pointwise [k0_pay8, k0_pay7]
  rfl

theorem pay9_apply (r : Fin 512) (l : Fin 1) : k0_pay9 (F := Ideal) x y ga (ix2 r l) = spread (bodyD x y ga r) := by
  pointwise [k0_pay9]
  simp only [pay8_apply]
  rfl

/-- The gradient in the centred sum, in the body. -/
def half : FVec Ideal S512x1024 .f32 := k0_pay21 (F := Ideal) g (k0_pay6 sc) (k0_pay8 x y ga) (k0_pay10 x y ga) (k0_pay11 x y ga) a h

/-- Less the mean of the gradient in the centred sum, in the body. -/
def mean : FVec Ideal S512x1 .f32 := k0_pay22 (F := Ideal) g (k0_pay6 sc) (k0_pay8 x y ga) (k0_pay10 x y ga) (k0_pay11 x y ga) a h

theorem half_apply (r : Fin 512) (l : Fin 1024) : half x y ga g sc a h (ix2 r l) = inner (bodyD x y ga r) (bodyT g sc a h r) l := by
  rw [half]
  pointwise [k0_pay21, k0_pay18, k0_pay17, k0_pay14, k0_pay6, k0_pay10, k0_pay11]
  simp only [pay8_apply, pay9_apply, Fin.sum_univ_one]
  rfl

theorem mean_apply (r : Fin 512) (l : Fin 1) : mean x y ga g sc a h (ix2 r l) = Ideal.div (∑ k, (0 - inner (bodyD x y ga r) (bodyT g sc a h r) k)) width := by
  rw [mean]
  have e : ∀ k, k0_pay21 (F := Ideal) g (k0_pay6 sc) (k0_pay8 x y ga) (k0_pay10 x y ga) (k0_pay11 x y ga) a h (ix2 r k) = inner (bodyD x y ga r) (bodyT g sc a h r) k := half_apply x y ga g sc a h r
  pointwise [k0_pay22]
  simp only [e, Ideal.ofBits_zero_f32]

/-- What the body writes in the block of the first result, row by row. -/
theorem stream_apply (r : Fin 512) (l : Fin 1024) :
    k0_pay25 (F := Ideal) (half x y ga g sc a h) (mean x y ga g sc a h) (ix2 r l) = alpha * outer (inner (bodyD x y ga r) (bodyT g sc a h r)) l := by
  pointwise [k0_pay25, k0_pay23]
  simp only [half_apply, mean_apply, Fin.sum_univ_one]
  rfl

/-- What the body writes in the block of the second result, row by row. -/
theorem mixer_apply (r : Fin 512) (l : Fin 1024) :
    k0_pay26 (F := Ideal) (k0_pay7 ga) (half x y ga g sc a h) (mean x y ga g sc a h) (ix2 r l) = (1 + ga (ix3 0 0 l)) * outer (inner (bodyD x y ga r) (bodyT g sc a h r)) l := by
  pointwise [k0_pay26, k0_pay23, k0_pay7]
  simp only [half_apply, mean_apply, Fin.sum_univ_one]
  rfl

end Body

variable (m : (ℓ : Loc nD τ sig) → Buf (Elt Ideal) ℓ)

/-- Where each window stands at a grid point. -/
theorem idx : ∀ t : Fin cfg0.N, win0_0.index t = ![t.val, 0] ∧ win0_1.index t = ![t.val, 0] ∧ win0_2.index t = ![0, 0] ∧ win0_4.index t = ![t.val / 4, 0, 0] ∧ win0_5.index t = ![t.val, 0] ∧ win0_6.index t = ![t.val, 0] ∧ win0_7.index t = ![t.val, 0] ∧ win0_8.index t = ![t.val, 0] :=
  (by decide +kernel : ∀ t : Fin grid0.N, _)

/-- The row of the modulation that scales the mixer's output at a grid point. -/
abbrev gate (c : Dev nD) (t : Fin cfg0.N) : FVec Ideal S1x1x1024 .f32 := View.ld (iblk m c 4 t) (Rect.unit ![0, 2, 0] ![1, 1, 1024] inb_S1x6x1024_S1x1x1024_0_2_0)

/-- The row of the modulation that scales the normalised sum at a grid point. -/
abbrev scale (c : Dev nD) (t : Fin cfg0.N) : FVec Ideal S1x1x1024 .f32 := View.ld (iblk m c 4 t) (Rect.unit ![0, 4, 0] ![1, 1, 1024] inb_S1x6x1024_S1x1x1024_0_4_0)

/-- The gradient in the centred sum at a grid point. -/
def bHalf (c : Dev nD) (t : Fin cfg0.N) : FVec Ideal S512x1024 .f32 := half (iblk m c 0 t) (iblk m c 1 t) (gate m c t) (iblk m c 2 t) (scale m c t) (iblk m c 5 t) (iblk m c 6 t)

/-- Less its mean at a grid point. -/
def bMean (c : Dev nD) (t : Fin cfg0.N) : FVec Ideal S512x1 .f32 := mean (iblk m c 0 t) (iblk m c 1 t) (gate m c t) (iblk m c 2 t) (scale m c t) (iblk m c 5 t) (iblk m c 6 t)

theorem gate_apply (c : Dev nD) (t : Fin cfg0.N) (k : Fin 1024) :
    gate m c t (ix3 0 0 k) = (m ((c : Thread nD τ).loc main_arg4) : FVec Ideal S2x6x1024 .f32) (ix3 ⟨t.val / 4, by have := t.isLt; have : cfg0.N = 8 := N_0; omega⟩ 2 k) := by
  rw [gate, View.ld_apply]
  blk_point [iblk, V, idx t]
  · rfl
  · show 0 + 1 * k.val = k.val
    omega

theorem scale_apply (c : Dev nD) (t : Fin cfg0.N) (k : Fin 1024) :
    scale m c t (ix3 0 0 k) = (m ((c : Thread nD τ).loc main_arg4) : FVec Ideal S2x6x1024 .f32) (ix3 ⟨t.val / 4, by have := t.isLt; have : cfg0.N = 8 := N_0; omega⟩ 4 k) := by
  rw [scale, View.ld_apply]
  blk_point [iblk, V, idx t]
  · rfl
  · show 0 + 1 * k.val = k.val
    omega

/-- The rows the body works on at a grid point are rows of the arguments. -/
theorem row_apply (c : Dev nD) (t : Fin cfg0.N) (r : Fin 512) (i : Fin 4096) (hi : i.val = t.val * 512 + r.val) :
    outer (inner (bodyD (iblk m c 0 t) (iblk m c 1 t) (gate m c t) r) (bodyT (iblk m c 2 t) (scale m c t) (iblk m c 5 t) (iblk m c 6 t) r))
      = Cert.Ln1BwdRefIdeal.Value.rowG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) i := by
  have hlt : t.val < 8 := t.isLt
  have hs : (⟨t.val / 4, by omega⟩ : Fin 2) = ⟨i.val / 2048, by omega⟩ := Fin.ext (by simp only []; omega)
  refine congrArg outer (congrArg₂ (fun p q => inner (centred p) q) (funext fun k => ?_) (funext fun k => ?_))
  · refine congrArg₂ (· + ·) (congrArg (alpha * ·) ?_) (congrArg₂ (fun p q => (1 + p) * q) ?_ ?_)
    · blk_point [iblk, V, idx t, hi]
    · rw [gate_apply, hs]
    · blk_point [iblk, V, idx t, hi]
  · refine congrArg₂ (· * ·) (congrArg₂ (· + ·) ?_ (congrArg₂ (fun p q => p * (1 + q)) ?_ ?_)) ?_
    · blk_point [iblk, V, idx t, hi]
    · blk_point [iblk, V, idx t, hi]
    · rw [scale_apply, hs]
    · blk_point [iblk, V, idx t]

/-- The first result array is the reference's. -/
theorem final7 (c : Dev nD) : (dats m 0 c).arrAt 7 (cfgs 0).N = Cert.Ln1BwdRefIdeal.Read.val_main_v100 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have hlt : t.val < 8 := t.isLt
  have key : ∀ X : FVec Ideal S512x1024 .f32, X = k0_pay25 (F := Ideal) (bHalf m c t) (bMean m c t) → X y = Cert.Ln1BwdRefIdeal.Read.val_main_v100 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (((View.whole main_v0_0).slice (win0_7.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    have hs : (⟨t.val / 4, by omega⟩ : Fin 2) = ⟨(t.val * 512 + r.val) / 2048, by omega⟩ := Fin.ext (by simp only []; omega)
    rw [hX, bHalf, bMean, stream_apply, show ((View.whole main_v0_0).slice (win0_7.rect t)).emb (ix2 r l) = ix2 (⟨t.val * 512 + r.val, by omega⟩ : Fin 4096) l by blk_ext [idx t],
      Cert.Ln1BwdRefIdeal.Value.stream_apply, row_apply m c t r ⟨t.val * 512 + r.val, by omega⟩ rfl]
  by_cases h4 : t.val % 4 = 0
  · by_cases h8 : t.val % 8 = 0
    · rw [outsAt0_A m c t (by omega) (by omega) (by omega) (by omega) (by omega) (by omega) (by omega) (by omega) (by omega) (by omega)]
      frame_out
      exact key _ rfl
    · rw [outsAt0_C m c t (by omega) (by omega) (by omega) (by omega) (by omega) (by omega) (by omega) (by omega) (by omega) (by omega)]
      frame_out
      exact key _ rfl
  · rw [outsAt0_B m c t (by omega) (by omega) (by omega) (by omega) (by omega) (by omega) (by omega) (by omega) (by omega) (by omega)]
    frame_out
    exact key _ rfl

/-- The second result array is the reference's. -/
theorem final8 (c : Dev nD) : (dats m 0 c).arrAt 8 (cfgs 0).N = Cert.Ln1BwdRefIdeal.Read.val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have hlt : t.val < 8 := t.isLt
  have key : ∀ X : FVec Ideal S512x1024 .bf16, X = k0_pay26 (F := Ideal) (k0_pay7 (gate m c t)) (bHalf m c t) (bMean m c t) → X y = Cert.Ln1BwdRefIdeal.Read.val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (((View.whole main_v0_1).slice (win0_8.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    have hs : (⟨t.val / 4, by omega⟩ : Fin 2) = ⟨(t.val * 512 + r.val) / 2048, by omega⟩ := Fin.ext (by simp only []; omega)
    rw [hX, bHalf, bMean, mixer_apply, show ((View.whole main_v0_1).slice (win0_8.rect t)).emb (ix2 r l) = ix2 (⟨t.val * 512 + r.val, by omega⟩ : Fin 4096) l by blk_ext [idx t],
      Cert.Ln1BwdRefIdeal.Value.mixer_apply, row_apply m c t r ⟨t.val * 512 + r.val, by omega⟩ rfl]
    rw [gate_apply, hs]
  by_cases h4 : t.val % 4 = 0
  · by_cases h8 : t.val % 8 = 0
    · rw [outsAt0_A m c t (by omega) (by omega) (by omega) (by omega) (by omega) (by omega) (by omega) (by omega) (by omega) (by omega)]
      frame_out
      exact key _ rfl
    · rw [outsAt0_C m c t (by omega) (by omega) (by omega) (by omega) (by omega) (by omega) (by omega) (by omega) (by omega) (by omega)]
      frame_out
      exact key _ rfl
  · rw [outsAt0_B m c t (by omega) (by omega) (by omega) (by omega) (by omega) (by omega) (by omega) (by omega) (by omega) (by omega)]
    frame_out
    exact key _ rfl

end Cert.Ln1BwdIdeal.Value

namespace Cert.Ln1BwdIdeal.Claim

open Idealize.ShloMosaic Idealize.ShloMosaic.TcCoe Idealize.SL.Sem

/-- The call computes what the reference computes. -/
theorem algebraic : Cert.algebraic_Ln1BwdIdeal_Ln1BwdRefIdeal (hLn1BwdIdeal := Cert.Ln1BwdIdeal.Gen.facts) (hLn1BwdRefIdeal := Cert.Ln1BwdRefIdeal.Gen.facts) := by
  intro m g m' g' _ h
  refine ⟨fun c => Cert.Ln1BwdRefIdeal.Read.val_main_v100 (F := Ideal) (m (c.tc.loc Cert.Ln1BwdIdeal.main_arg0)) (m (c.tc.loc Cert.Ln1BwdIdeal.main_arg1)) (m (c.tc.loc Cert.Ln1BwdIdeal.main_arg2)) (m (c.tc.loc Cert.Ln1BwdIdeal.main_arg4)) (m (c.tc.loc Cert.Ln1BwdIdeal.main_arg5)) (m (c.tc.loc Cert.Ln1BwdIdeal.main_arg6)),
    fun c => Cert.Ln1BwdRefIdeal.Read.val_main_v102 (F := Ideal) (m (c.tc.loc Cert.Ln1BwdIdeal.main_arg0)) (m (c.tc.loc Cert.Ln1BwdIdeal.main_arg1)) (m (c.tc.loc Cert.Ln1BwdIdeal.main_arg2)) (m (c.tc.loc Cert.Ln1BwdIdeal.main_arg4)) (m (c.tc.loc Cert.Ln1BwdIdeal.main_arg5)) (m (c.tc.loc Cert.Ln1BwdIdeal.main_arg6)), ?_, ?_⟩
  · refine (θ_run _ _ _).mono (fun r hr c => ⟨(hr c).1.trans (Cert.Ln1BwdIdeal.Value.final7 m c), (hr c).2.1.trans (Cert.Ln1BwdIdeal.Value.final8 m c), (hr c).2.2.2.2.2⟩) (Cert.Ln1BwdIdeal.Value.run_blocks m g)
  · refine (θ_run _ _ _).mono (fun r hr c => ⟨(hr c).1.trans ?_, (hr c).2.1.trans ?_, (hr c).2.2⟩) (Cert.Ln1BwdRefIdeal.Value.run m' g')
    · rw [Cert.Ln1BwdRefIdeal.Read.val_main_v100_eq, (h c).1, (h c).2.1, (h c).2.2.1, (h c).2.2.2.2.1, (h c).2.2.2.2.2.1, (h c).2.2.2.2.2.2]
    · rw [Cert.Ln1BwdRefIdeal.Read.val_main_v102_eq, (h c).1, (h c).2.1, (h c).2.2.1, (h c).2.2.2.2.1, (h c).2.2.2.2.2.1, (h c).2.2.2.2.2.2]

end Cert.Ln1BwdIdeal.Claim

end
-- ==== Proof.Ln2LossBwdValue.lean ====
module

public import proofs.«01_k».proof.Defs
public import proofs.«01_k».proof.Proof.RowNorm
public import proofs.«01_k».proof.Proof.Gen.Ln2LossBwdIdeal.Frame
public import proofs.«01_k».proof.Proof.Gen.Ln2LossBwdIdeal.Value
public import proofs.«01_k».proof.Proof.Gen.Ln2LossBwdRefIdeal.Run
public import proofs.«01_k».proof.Proof.Gen.Ln2LossBwdRefIdeal.Read
public import Idealize.ShloMosaic.Lib.Pipeline.ValueKit
public import Idealize.ShloMosaic.Lib.Pointwise

@[expose] public section

set_option maxRecDepth 16384

/-! The gradient of the loss through the last normalisation, in the residual stream and in the output of the feed-forward block, row by row. -/

noncomputable section

namespace Cert.Ln2LossBwdRefIdeal.Value

open Cert.Ln2LossBwdRefIdeal Cert.Ln2LossBwdRefIdeal.Gen Cert.Ln2LossBwdRefIdeal.Read Idealize.ShloMosaic Idealize.ShloMosaic.TcCoe Cert.RowNorm

variable (x y : FVec Ideal S4096x1024 .f32) (g b : FVec Ideal S1x1024 .f32) (mod : FVec Ideal S2x6x1024 .f32) (z : FVec Ideal S4096x1024 .f32)

/-- The factor of the residual stream. -/
abbrev alpha : EReal := Ideal.ofBits .f32 0x3F9837F0#32

/-- Half an entry's share of the mean over a row. -/
abbrev share : EReal := Ideal.ofBits .f32 0x3A000000#32

/-- The word of one half, divided by the width, is half an entry's share. -/
theorem share_eq : Ideal.div (Ideal.ofBits .f32 0x3F000000#32) width = share := by
  have h : Ideal.ofBits .f32 0x3F000000#32 = ((1 / 2 : ℝ) : EReal) := by
    simp [Ideal.ofBits, Ideal.ieee, -EReal.coe_mul]; norm_num
  have w : width = ((1024 : ℝ) : EReal) := by
    simp [width, Ideal.ofBits, Ideal.ieee, -EReal.coe_mul]; norm_num
  have q : share = ((1 / 2048 : ℝ) : EReal) := by
    simp [share, Ideal.ofBits, Ideal.ieee, -EReal.coe_mul]; norm_num
  rw [h, w, q, Ideal.div, if_neg (by norm_cast), ← EReal.coe_inv, ← EReal.coe_mul]
  norm_num

/-- A row of the sum that is normalised. -/
abbrev rowX (s : Fin 2) (i : Fin 4096) : Row := fun k => alpha * x (ix2 i k) + (1 + mod (ix3 s 5 k)) * y (ix2 i k)

/-- A row of the output less the target. -/
abbrev rowE (s : Fin 2) (i : Fin 4096) : Row := fun k => normed (rowX x y mod s i) k * g (ix2 0 k) + b (ix2 0 k) - z (ix2 i k)

/-- A row of the gradient in the normalised sum, before the division by the spread. -/
abbrev rowT (s : Fin 2) (i : Fin 4096) : Row := fun k => share * (2 * rowE x y g b mod z s i k) * g (ix2 0 k)

theorem v18_apply (s : Fin 2) (r : Fin 2048) (l : Fin 1024) :
    val_main_v18 (F := Ideal) x y mod (ix3 s r l) = centred (rowX x y mod s ⟨s.val * 2048 + r.val, by omega⟩) l := by
  pointwise [val_main_v18, val_main_v17, val_main_v16, val_main_v15, val_main_v14, val_main_v13, val_main_cst_1, val_main_cst_2, val_main_v10, val_main_v9, val_main_v8, val_main_v7, val_main_v6, val_main_v5, val_main_v4, val_main_v3, val_main_cst, val_main_cst_0, val_main_v1, val_main_v0]
  rfl

theorem v27_apply (s : Fin 2) (r : Fin 2048) (l : Fin 1) :
    val_main_v27 (F := Ideal) x y mod (ix3 s r l) = spread (centred (rowX x y mod s ⟨s.val * 2048 + r.val, by omega⟩)) := by
  pointwise [val_main_v27, val_main_v26, val_main_v25, val_main_v24, val_main_v23, val_main_v22, val_main_v19, val_main_cst_4, val_main_cst_5, val_main_cst_6]
  simp only [v18_apply]
  rfl

theorem v40_apply (s : Fin 2) (r : Fin 2048) (l : Fin 1024) :
    val_main_v40 (F := Ideal) x y g b mod z (ix3 s r l) = rowE x y g b mod z s ⟨s.val * 2048 + r.val, by omega⟩ l := by
  pointwise [val_main_v40, val_main_v39, val_main_v38, val_main_v37, val_main_v36, val_main_v35, val_main_v34, val_main_v33, val_main_v32, val_main_v28, val_main_v11, val_main_v12, val_main_v2]
  simp only [v18_apply, v27_apply]
  rfl

theorem v56_apply (s : Fin 2) (r : Fin 2048) (l : Fin 1024) :
    val_main_v56 (F := Ideal) x y g b mod z (ix3 s r l) = rowT x y g b mod z s ⟨s.val * 2048 + r.val, by omega⟩ l := by
  pointwise [val_main_v56, val_main_v55, val_main_v34, val_main_v11, val_main_v54, val_main_v53, val_main_v52, val_main_v51, val_main_cst_15, val_main_v50, val_main_v49, val_main_cst_14, val_main_cst_13, val_main_v43, val_main_v42, val_main_cst_8]
  simp only [v40_apply, two_word, mul_one, share_eq]

theorem v66_apply (s : Fin 2) (r : Fin 2048) (l : Fin 1024) :
    val_main_v66 (F := Ideal) x y g b mod z (ix3 s r l) = slope (centred (rowX x y mod s ⟨s.val * 2048 + r.val, by omega⟩)) (rowT x y g b mod z s ⟨s.val * 2048 + r.val, by omega⟩) := by
  pointwise [val_main_v66, val_main_v65, val_main_cst_18, val_main_v64, val_main_v63, val_main_cst_17, val_main_v62, val_main_v59, val_main_v58, val_main_cst_16, val_main_v57, val_main_v31, val_main_v30, val_main_cst_7, val_main_v29, val_main_v28]
  simp only [v18_apply, v27_apply, v56_apply, Fin.sum_univ_one]
  rfl

theorem v68_apply (s : Fin 2) (r : Fin 2048) (l : Fin 1024) :
    val_main_v68 (F := Ideal) x y g b mod z (ix3 s r l) = inner (centred (rowX x y mod s ⟨s.val * 2048 + r.val, by omega⟩)) (rowT x y g b mod z s ⟨s.val * 2048 + r.val, by omega⟩) l := by
  rw [inner_apply]
  pointwise [val_main_v68, val_main_v67, val_main_v61, val_main_v60, val_main_v28, val_main_v21, val_main_v20, val_main_cst_3]
  simp only [v18_apply, v27_apply, v56_apply, v66_apply, two_word]

theorem v76_apply (s : Fin 2) (r : Fin 2048) (l : Fin 1024) :
    val_main_v76 (F := Ideal) x y g b mod z (ix3 s r l) = outer (inner (centred (rowX x y mod s ⟨s.val * 2048 + r.val, by omega⟩)) (rowT x y g b mod z s ⟨s.val * 2048 + r.val, by omega⟩)) l := by
  pointwise [val_main_v76, val_main_v75, val_main_cst_21, val_main_v74, val_main_v73, val_main_cst_20, val_main_v72, val_main_v71, val_main_cst_19, val_main_v70, val_main_v69]
  simp only [v68_apply, Fin.sum_univ_one]
  simp only [outer, zero_sub]

/-- A row of the gradient in the normalised sum. -/
abbrev rowG (i : Fin 4096) : Row := outer (inner (centred (rowX x y mod ⟨i.val / 2048, by omega⟩ i)) (rowT x y g b mod z ⟨i.val / 2048, by omega⟩ i))

theorem v76_row (i : Fin 4096) (l : Fin 1024) :
    val_main_v76 (F := Ideal) x y g b mod z (ix3 ⟨i.val / 2048, by omega⟩ ⟨i.val % 2048, by omega⟩ l) = rowG x y g b mod z i l := by
  have e : (⟨(i.val / 2048) * 2048 + i.val % 2048, by omega⟩ : Fin 4096) = i := Fin.ext (by simp only []; omega)
  rw [v76_apply, e]

/-- The reference's first result, row by row. -/
theorem stream_apply (i : Fin 4096) (l : Fin 1024) :
    val_main_v81 (F := Ideal) x y g b mod z (ix2 i l) = alpha * rowG x y g b mod z i l := by
  rw [← v76_row]
  pointwise [val_main_v81, val_main_v80, val_main_v79, val_main_cst_22]

/-- The reference's second result, row by row. -/
theorem block_apply (i : Fin 4096) (l : Fin 1024) :
    val_main_v83 (F := Ideal) x y g b mod z (ix2 i l) = (1 + mod (ix3 ⟨i.val / 2048, by omega⟩ 5 l)) * rowG x y g b mod z i l := by
  rw [← v76_row]
  pointwise [val_main_v83, val_main_v82, val_main_v78, val_main_v77, val_main_v7, val_main_v6, val_main_v5, val_main_cst_0]

end Cert.Ln2LossBwdRefIdeal.Value

namespace Cert.Ln2LossBwdIdeal.Value

open Cert.Ln2LossBwdIdeal Cert.Ln2LossBwdIdeal.Gen Idealize.ShloMosaic Idealize.ShloMosaic.TcCoe Cert.RowNorm
open Idealize.ShloMosaic.Pipeline (Dat)
open Cert.Ln2LossBwdRefIdeal.Value (alpha share)

section Body

variable (x y : FVec Ideal S512x1024 .f32) (ga : FVec Ideal S1x1x1024 .f32) (g b : FVec Ideal S1x1024 .f32) (z : FVec Ideal S512x1024 .f32)

/-- A row of the sum that the body normalises. -/
abbrev bodyX (r : Fin 512) : Row := fun k => alpha * x (ix2 r k) + (1 + ga (ix3 0 0 k)) * y (ix2 r k)

/-- A row of the output less the target in the body. -/
abbrev bodyE (r : Fin 512) : Row := fun k => normed (bodyX x y ga r) k * g (ix2 0 k) + b (ix2 0 k) - z (ix2 r k)

/-- A row of the gradient that reaches the normalised sum in the body. -/
abbrev bodyT (r : Fin 512) : Row := fun k => share * (2 * bodyE x y ga g b z r k) * g (ix2 0 k)

theorem pay6_apply (r : Fin 512) (l : Fin 1024) : k0_pay6 (F := Ideal) x y ga (ix2 r l) = centred (bodyX x y ga r) l := by
  pointwise [k0_pay6, k0_pay5]
  rfl

theorem pay7_apply (r : Fin 512) (l : Fin 1) : k0_pay7 (F := Ideal) x y ga (ix2 r l) = spread (centred (bodyX x y ga r)) := by
  pointwise [k0_pay7]
  simp only [pay6_apply]
  rfl

theorem pay11_apply (r : Fin 512) (l : Fin 1024) : k0_pay11 (F := Ideal) x y ga g b (ix2 r l) = normed (bodyX x y ga r) l * g (ix2 0 l) + b (ix2 0 l) := by
  pointwise [k0_pay11, k0_pay10, k0_pay8]
  simp only [pay6_apply, pay7_apply]
  rfl

/-- What differentiating a square adds twice. -/
theorem twice (e c : EReal) : e * c + c * e = c * (2 * e) := by
  rw [mul_comm e, mul_left_comm, two_mul_ereal]

theorem pay14_apply (r : Fin 512) (l : Fin 1024) : k0_pay14 (F := Ideal) z (k0_pay11 x y ga g b) (ix2 r l) = share * (2 * bodyE x y ga g b z r l) := by
  rw [← twice]
  pointwise [k0_pay14, k0_pay12]
  simp only [pay11_apply, Fin.sum_univ_one, one_mul]

/-- The gradient in the centred sum, in the body. -/
def half : FVec Ideal S512x1024 .f32 := k0_pay17 (F := Ideal) z g (k0_pay6 x y ga) (k0_pay8 x y ga) (k0_pay9 x y ga) (k0_pay11 x y ga g b)

theorem half_apply (r : Fin 512) (l : Fin 1024) : half x y ga g b z (ix2 r l) = inner (centred (bodyX x y ga r)) (bodyT x y ga g b z r) l := by
  rw [half]
  pointwise [k0_pay17, k0_pay8, k0_pay9]
  simp only [pay6_apply, pay7_apply, pay14_apply, Fin.sum_univ_one]
  rfl

theorem pay19_apply (r : Fin 512) (l : Fin 1024) :
    k0_pay19 (F := Ideal) (half x y ga g b z) k0_pay18 (ix2 r l) = outer (inner (centred (bodyX x y ga r)) (bodyT x y ga g b z r)) l := by
  pointwise [k0_pay19, k0_pay18]
  simp only [half_apply, Fin.sum_univ_one]
  rfl

/-- What the body writes in the block of the first result, row by row. -/
theorem stream_apply (r : Fin 512) (l : Fin 1024) :
    k0_pay21 (F := Ideal) (half x y ga g b z) k0_pay18 (ix2 r l) = alpha * outer (inner (centred (bodyX x y ga r)) (bodyT x y ga g b z r)) l := by
  rw [← pay19_apply]
  pointwise [k0_pay21]

/-- What the body writes in the block of the second result, row by row. -/
theorem block_apply (r : Fin 512) (l : Fin 1024) :
    k0_pay22 (F := Ideal) (k0_pay5 ga) (half x y ga g b z) k0_pay18 (ix2 r l) = (1 + ga (ix3 0 0 l)) * outer (inner (centred (bodyX x y ga r)) (bodyT x y ga g b z r)) l := by
  rw [← pay19_apply]
  pointwise [k0_pay22, k0_pay5]

end Body

variable (m : (ℓ : Loc nD τ sig) → Buf (Elt Ideal) ℓ)

/-- Where each window stands at a grid point. -/
theorem idx : ∀ t : Fin cfg0.N, win0_0.index t = ![t.val, 0] ∧ win0_1.index t = ![t.val, 0] ∧ win0_2.index t = ![0, 0] ∧ win0_3.index t = ![0, 0] ∧ win0_4.index t = ![t.val / 4, 0, 0] ∧ win0_5.index t = ![t.val, 0] ∧ win0_7.index t = ![t.val, 0] ∧ win0_8.index t = ![t.val, 0] :=
  (by decide +kernel : ∀ t : Fin grid0.N, _)

/-- The row of the modulation that scales the block's output at a grid point. -/
abbrev gate (c : Dev nD) (t : Fin cfg0.N) : FVec Ideal S1x1x1024 .f32 := View.ld (iblk m c 4 t) (Rect.unit ![0, 5, 0] ![1, 1, 1024] inb_S1x6x1024_S1x1x1024_0_5_0)

/-- The gradient in the centred sum at a grid point. -/
def bHalf (c : Dev nD) (t : Fin cfg0.N) : FVec Ideal S512x1024 .f32 := half (iblk m c 0 t) (iblk m c 1 t) (gate m c t) (iblk m c 2 t) (iblk m c 3 t) (iblk m c 5 t)

theorem gate_apply (c : Dev nD) (t : Fin cfg0.N) (k : Fin 1024) (i : Fin 4096) (hi : i.val / 512 = t.val) :
    gate m c t (ix3 0 0 k) = (m ((c : Thread nD τ).loc main_arg4) : FVec Ideal S2x6x1024 .f32) (ix3 ⟨i.val / 2048, by omega⟩ 5 k) := by
  have e : i.val / 2048 = t.val / 4 := by omega
  rw [gate, View.ld_apply]
  blk_point [iblk, V, idx t, e]
  · rfl
  · show 0 + 1 * k.val = k.val
    omega

/-- The sums that the body normalises at a grid point are rows of the sum of the arguments. -/
theorem sum_apply (c : Dev nD) (t : Fin cfg0.N) (r : Fin 512) (i : Fin 4096) (hi : i.val = t.val * 512 + r.val) :
    bodyX (iblk m c 0 t) (iblk m c 1 t) (gate m c t) r = Cert.Ln2LossBwdRefIdeal.Value.rowX (m ((c : Thread nD τ).loc main_arg0)) (m ((c : Thread nD τ).loc main_arg1)) (m ((c : Thread nD τ).loc main_arg4)) ⟨i.val / 2048, by omega⟩ i := by
  have hlt : t.val < 8 := t.isLt
  refine funext fun k => congrArg₂ (· + ·) (congrArg (alpha * ·) ?_) (congrArg₂ (fun p q => (1 + p) * q) ?_ ?_)
  · blk_point [iblk, V, idx t, hi]
  · exact gate_apply m c t k i (by omega)
  · blk_point [iblk, V, idx t, hi]

/-- The gradients that reach them are the reference's. -/
theorem reach_apply (c : Dev nD) (t : Fin cfg0.N) (r : Fin 512) (i : Fin 4096) (hi : i.val = t.val * 512 + r.val) :
    bodyT (iblk m c 0 t) (iblk m c 1 t) (gate m c t) (iblk m c 2 t) (iblk m c 3 t) (iblk m c 5 t) r = Cert.Ln2LossBwdRefIdeal.Value.rowT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨i.val / 2048, by omega⟩ i := by
  have hlt : t.val < 8 := t.isLt
  have hg : ∀ k : Fin 1024, (iblk m c 2 t : FVec Ideal S1x1024 .f32) (ix2 0 k) = ((m ((c : Thread nD τ).loc main_arg2)) : FVec Ideal S1x1024 .f32) (ix2 0 k) := by
    intro k
    blk_point [iblk, V, idx t]
  refine funext fun k => congrArg₂ (· * ·) (congrArg (fun q => share * (2 * q)) (congrArg₂ (· - ·) (congrArg₂ (· + ·) (congrArg₂ (· * ·) (congrFun (congrArg normed (sum_apply m c t r i hi)) k) (hg k)) ?_) ?_)) (hg k)
  · blk_point [iblk, V, idx t]
  · blk_point [iblk, V, idx t, hi]

/-- The rows the body works on at a grid point are rows of the arguments. -/
theorem row_apply (c : Dev nD) (t : Fin cfg0.N) (r : Fin 512) (i : Fin 4096) (hi : i.val = t.val * 512 + r.val) :
    outer (inner (centred (bodyX (iblk m c 0 t) (iblk m c 1 t) (gate m c t) r)) (bodyT (iblk m c 0 t) (iblk m c 1 t) (gate m c t) (iblk m c 2 t) (iblk m c 3 t) (iblk m c 5 t) r))
      = Cert.Ln2LossBwdRefIdeal.Value.rowG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i :=
  congrArg outer (congrArg₂ (fun p q => inner (centred p) q) (sum_apply m c t r i hi) (reach_apply m c t r i hi))

/-- The first result array is the reference's. -/
theorem final7 (c : Dev nD) : (dats m 0 c).arrAt 7 (cfgs 0).N = Cert.Ln2LossBwdRefIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  have hlt : t.val < 8 := t.isLt
  have key : ∀ X : FVec Ideal S512x1024 .f32, X = k0_pay21 (F := Ideal) (bHalf m c t) k0_pay18 → X y = Cert.Ln2LossBwdRefIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((View.whole main_v0_1).slice (win0_7.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    rw [hX, bHalf, stream_apply, show ((View.whole main_v0_1).slice (win0_7.rect t)).emb (ix2 r l) = ix2 (⟨t.val * 512 + r.val, by omega⟩ : Fin 4096) l by blk_ext [idx t],
      Cert.Ln2LossBwdRefIdeal.Value.stream_apply, row_apply m c t r ⟨t.val * 512 + r.val, by omega⟩ rfl]
  by_cases h4 : t.val % 4 = 0
  · by_cases h8 : t.val % 8 = 0
    · rw [outsAt0_A m c t (by omega) (by omega) (by omega) (by omega) (by omega) (by omega) (by omega) (by omega)]
      frame_out
      exact key _ rfl
    · rw [outsAt0_C m c t (by omega) (by omega) (by omega) (by omega) (by omega) (by omega) (by omega) (by omega)]
      frame_out
      exact key _ rfl
  · rw [outsAt0_B m c t (by omega) (by omega) (by omega) (by omega) (by omega) (by omega) (by omega) (by omega)]
    frame_out
    exact key _ rfl

/-- The second result array is the reference's. -/
theorem final8 (c : Dev nD) : (dats m 0 c).arrAt 8 (cfgs 0).N = Cert.Ln2LossBwdRefIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have hlt : t.val < 8 := t.isLt
  have key : ∀ X : FVec Ideal S512x1024 .bf16, X = k0_pay22 (F := Ideal) (k0_pay5 (gate m c t)) (bHalf m c t) k0_pay18 → X y = Cert.Ln2LossBwdRefIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((View.whole main_v0_2).slice (win0_8.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    rw [hX, bHalf, block_apply, show ((View.whole main_v0_2).slice (win0_8.rect t)).emb (ix2 r l) = ix2 (⟨t.val * 512 + r.val, by omega⟩ : Fin 4096) l by blk_ext [idx t],
      Cert.Ln2LossBwdRefIdeal.Value.block_apply, row_apply m c t r ⟨t.val * 512 + r.val, by omega⟩ rfl, gate_apply m c t l ⟨t.val * 512 + r.val, by omega⟩ (by simp only []; omega)]
  by_cases h4 : t.val % 4 = 0
  · by_cases h8 : t.val % 8 = 0
    · rw [outsAt0_A m c t (by omega) (by omega) (by omega) (by omega) (by omega) (by omega) (by omega) (by omega)]
      frame_out
      exact key _ rfl
    · rw [outsAt0_C m c t (by omega) (by omega) (by omega) (by omega) (by omega) (by omega) (by omega) (by omega)]
      frame_out
      exact key _ rfl
  · rw [outsAt0_B m c t (by omega) (by omega) (by omega) (by omega) (by omega) (by omega) (by omega) (by omega)]
    frame_out
    exact key _ rfl

end Cert.Ln2LossBwdIdeal.Value

namespace Cert.Ln2LossBwdIdeal.Claim

open Idealize.ShloMosaic Idealize.ShloMosaic.TcCoe Idealize.SL.Sem

/-- The call computes what the reference computes. -/
theorem algebraic : Cert.algebraic_Ln2LossBwdIdeal_Ln2LossBwdRefIdeal (hLn2LossBwdIdeal := Cert.Ln2LossBwdIdeal.Gen.facts) (hLn2LossBwdRefIdeal := Cert.Ln2LossBwdRefIdeal.Gen.facts) := by
  intro m g m' g' _ h
  refine ⟨fun c => Cert.Ln2LossBwdRefIdeal.Read.val_main_v81 (F := Ideal) (m (c.tc.loc Cert.Ln2LossBwdIdeal.main_arg0)) (m (c.tc.loc Cert.Ln2LossBwdIdeal.main_arg1)) (m (c.tc.loc Cert.Ln2LossBwdIdeal.main_arg2)) (m (c.tc.loc Cert.Ln2LossBwdIdeal.main_arg3)) (m (c.tc.loc Cert.Ln2LossBwdIdeal.main_arg4)) (m (c.tc.loc Cert.Ln2LossBwdIdeal.main_arg5)),
    fun c => Cert.Ln2LossBwdRefIdeal.Read.val_main_v83 (F := Ideal) (m (c.tc.loc Cert.Ln2LossBwdIdeal.main_arg0)) (m (c.tc.loc Cert.Ln2LossBwdIdeal.main_arg1)) (m (c.tc.loc Cert.Ln2LossBwdIdeal.main_arg2)) (m (c.tc.loc Cert.Ln2LossBwdIdeal.main_arg3)) (m (c.tc.loc Cert.Ln2LossBwdIdeal.main_arg4)) (m (c.tc.loc Cert.Ln2LossBwdIdeal.main_arg5)), ?_, ?_⟩
  · exact (θ_run _ _ _).mono (fun r hr c => ⟨(hr c).2.1.trans (Cert.Ln2LossBwdIdeal.Value.final7 m c), (hr c).2.2.1.trans (Cert.Ln2LossBwdIdeal.Value.final8 m c), (hr c).2.2.2.2.2.2⟩) (Cert.Ln2LossBwdIdeal.Value.run_blocks m g)
  · refine (θ_run _ _ _).mono (fun r hr c => ⟨(hr c).1.trans ?_, (hr c).2.1.trans ?_, (hr c).2.2⟩) (Cert.Ln2LossBwdRefIdeal.Value.run m' g')
    · rw [Cert.Ln2LossBwdRefIdeal.Read.val_main_v81_eq, (h c).1, (h c).2.1, (h c).2.2.1, (h c).2.2.2.1, (h c).2.2.2.2.1, (h c).2.2.2.2.2]
    · rw [Cert.Ln2LossBwdRefIdeal.Read.val_main_v83_eq, (h c).1, (h c).2.1, (h c).2.2.1, (h c).2.2.2.1, (h c).2.2.2.2.1, (h c).2.2.2.2.2]

end Cert.Ln2LossBwdIdeal.Claim

end
-- ==== Proof.Ln0FwdValue.lean ====
module

public import proofs.«01_k».proof.Defs
public import proofs.«01_k».proof.Proof.RowNorm
public import proofs.«01_k».proof.Proof.Gen.Ln0FwdIdeal.Frame
public import proofs.«01_k».proof.Proof.Gen.Ln0FwdIdeal.Value
public import proofs.«01_k».proof.Proof.Gen.Ln0FwdRefIdeal.Run
public import proofs.«01_k».proof.Proof.Gen.Ln0FwdRefIdeal.Read
public import Idealize.ShloMosaic.Lib.Pipeline.ValueKit
public import Idealize.ShloMosaic.Lib.Pointwise

@[expose] public section

set_option maxRecDepth 16384

/-! The normalisation of the residual stream and its modulation, row by row. -/

noncomputable section

namespace Cert.Ln0FwdRefIdeal.Value

open Cert.Ln0FwdRefIdeal Cert.Ln0FwdRefIdeal.Gen Cert.Ln0FwdRefIdeal.Read Idealize.ShloMosaic Idealize.ShloMosaic.TcCoe Cert.RowNorm

variable (x : FVec Ideal S4096x1024 .f32) (w b : FVec Ideal S1x1024 .f32) (mod : FVec Ideal S2x6x1024 .f32)

/-- A row of the input. -/
abbrev row (i : Fin 4096) : Row := fun k => x (ix2 i k)

theorem v8_apply (s : Fin 2) (r : Fin 2048) (l : Fin 1024) :
    val_main_v8 (F := Ideal) x (ix3 s r l) = centred (row x ⟨s.val * 2048 + r.val, by omega⟩) l := by
  pointwise [val_main_v8, val_main_v7, val_main_v6, val_main_v5, val_main_cst_0, val_main_v4, val_main_v3, val_main_cst, val_main_v0]
  rfl

theorem v18_apply (s : Fin 2) (r : Fin 2048) (l : Fin 1024) :
    val_main_v18 (F := Ideal) x (ix3 s r l) = normed (row x ⟨s.val * 2048 + r.val, by omega⟩) l := by
  pointwise [val_main_v18, val_main_v17, val_main_v16, val_main_v15, val_main_v14, val_main_cst_3, val_main_v13, val_main_v12, val_main_cst_2, val_main_v11, val_main_v10, val_main_cst_1, val_main_v9]
  simp only [v8_apply]
  rfl

theorem v24_apply (s : Fin 2) (r : Fin 2048) (l : Fin 1024) :
    val_main_v24 (F := Ideal) x w b (ix3 s r l) = normed (row x ⟨s.val * 2048 + r.val, by omega⟩) l * w (ix2 0 l) + b (ix2 0 l) := by
  pointwise [val_main_v24, val_main_v23, val_main_v22, val_main_v21, val_main_v20, val_main_v19, val_main_v1, val_main_v2]
  rw [v18_apply]

theorem v24_row (i : Fin 4096) (l : Fin 1024) :
    val_main_v24 (F := Ideal) x w b (ix3 ⟨i.val / 2048, by omega⟩ ⟨i.val % 2048, by omega⟩ l) = normed (row x i) l * w (ix2 0 l) + b (ix2 0 l) := by
  have e : (⟨(i.val / 2048) * 2048 + i.val % 2048, by omega⟩ : Fin 4096) = i := Fin.ext (by simp only []; omega)
  rw [v24_apply, e]

/-- The reference's first result, row by row. -/
theorem norm_apply (i : Fin 4096) (l : Fin 1024) :
    val_main_v33 (F := Ideal) x w b (ix2 i l) = normed (row x i) l * w (ix2 0 l) + b (ix2 0 l) := by
  rw [← v24_row]
  pointwise [val_main_v33]

/-- The reference's second result, row by row. -/
theorem modulated_apply (i : Fin 4096) (l : Fin 1024) :
    val_main_v35 (F := Ideal) x w b mod (ix2 i l) = (normed (row x i) l * w (ix2 0 l) + b (ix2 0 l)) * (1 + mod (ix3 ⟨i.val / 2048, by omega⟩ 1 l)) + mod (ix3 ⟨i.val / 2048, by omega⟩ 0 l) := by
  rw [← v24_row]
  pointwise [val_main_v35, val_main_v34, val_main_v32, val_main_v31, val_main_v30, val_main_v29, val_main_v28, val_main_v27, val_main_v26, val_main_cst_4, val_main_v25]

end Cert.Ln0FwdRefIdeal.Value

namespace Cert.Ln0FwdIdeal.Value

open Cert.Ln0FwdIdeal Cert.Ln0FwdIdeal.Gen Idealize.ShloMosaic Idealize.ShloMosaic.TcCoe Cert.RowNorm
open Idealize.ShloMosaic.Pipeline (Dat)

section Body

variable (x : FVec Ideal S512x1024 .f32) (w b : FVec Ideal S1x1024 .f32) (sc sh : FVec Ideal S1x1x1024 .f32)

/-- What the body writes in the block of the first result, row by row. -/
theorem norm_apply (r : Fin 512) (l : Fin 1024) : k0_pay1 (F := Ideal) x w b (ix2 r l) = normed (fun k => x (ix2 r k)) l * w (ix2 0 l) + b (ix2 0 l) := by
  pointwise [k0_pay1]
  rfl

/-- What the body writes in the block of the second result, row by row. -/
theorem modulated_apply (r : Fin 512) (l : Fin 1024) :
    k0_pay2 (F := Ideal) x w b sc sh (ix2 r l) = (normed (fun k => x (ix2 r k)) l * w (ix2 0 l) + b (ix2 0 l)) * (1 + sc (ix3 0 0 l)) + sh (ix3 0 0 l) := by
  rw [← norm_apply x w b r l]
  pointwise [k0_pay2]

end Body

variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![0, 0] ∧ win0_3.index t = ![t.val / 4, 0, 0] ∧ win0_4.index t = ![t.val, 0] ∧ win0_5.index t = ![t.val, 0] :=
  (by decide +kernel : ∀ t : Fin grid0.N, _)

/-- The row of the modulation that scales the normalised stream at a grid point. -/
abbrev scale (c : Dev nD) (t : Fin cfg0.N) : FVec Ideal S1x1x1024 .f32 := View.ld (iblk m c 3 t) (Rect.unit ![0, 1, 0] ![1, 1, 1024] inb_S1x6x1024_S1x1x1024_0_1_0)

theorem scale_apply (c : Dev nD) (t : Fin cfg0.N) (k : Fin 1024) (i : Fin 4096) (hi : i.val / 512 = t.val) :
    scale m c t (ix3 0 0 k) = (m ((c : Thread nD τ).loc main_arg3) : FVec Ideal S2x6x1024 .f32) (ix3 ⟨i.val / 2048, by omega⟩ 1 k) := by
  have e : i.val / 2048 = t.val / 4 := by omega
  rw [scale, View.ld_apply]
  blk_point [iblk, V, idx t, e]
  · rfl
  · show 0 + 1 * k.val = k.val
    omega

/-- The row of the modulation that shifts the normalised stream at a grid point. -/
abbrev shift (c : Dev nD) (t : Fin cfg0.N) : FVec Ideal S1x1x1024 .f32 := View.ld (iblk m c 3 t) (Rect.unit ![0, 0, 0] ![1, 1, 1024] inb_S1x6x1024_S1x1x1024_0_0_0)

theorem shift_apply (c : Dev nD) (t : Fin cfg0.N) (k : Fin 1024) (i : Fin 4096) (hi : i.val / 512 = t.val) :
    shift m c t (ix3 0 0 k) = (m ((c : Thread nD τ).loc main_arg3) : FVec Ideal S2x6x1024 .f32) (ix3 ⟨i.val / 2048, by omega⟩ 0 k) := by
  have e : i.val / 2048 = t.val / 4 := by omega
  rw [shift, View.ld_apply]
  blk_point [iblk, V, idx t, e]
  · rfl
  · show 0 + 1 * k.val = k.val
    omega

/-- The normalised rows at a grid point are rows of the normalised argument. -/
theorem row_apply (c : Dev nD) (t : Fin cfg0.N) (r : Fin 512) (l : Fin 1024) (i : Fin 4096) (hi : i.val = t.val * 512 + r.val) :
    normed (fun k => (iblk m c 0 t : FVec Ideal S512x1024 .f32) (ix2 r k)) l * (iblk m c 1 t : FVec Ideal S1x1024 .f32) (ix2 0 l) + (iblk m c 2 t : FVec Ideal S1x1024 .f32) (ix2 0 l)
      = normed (Cert.Ln0FwdRefIdeal.Value.row (m ((c : Thread nD τ).loc main_arg0)) i) l * ((m ((c : Thread nD τ).loc main_arg1)) : FVec Ideal S1x1024 .f32) (ix2 0 l) + ((m ((c : Thread nD τ).loc main_arg2)) : FVec Ideal S1x1024 .f32) (ix2 0 l) := by
  have hlt : t.val < 8 := t.isLt
  refine congrArg₂ (· + ·) (congrArg₂ (· * ·) (congrFun (congrArg normed (funext fun k => ?_)) l) ?_) ?_
  · blk_point [iblk, V, idx t, hi]
  · blk_point [iblk, V, idx t]
  · blk_point [iblk, V, idx t]

/-- The first result array is the reference's. -/
theorem final4 (c : Dev nD) : (dats m 0 c).arrAt 4 (cfgs 0).N = Cert.Ln0FwdRefIdeal.Read.val_main_v33 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  have hlt : t.val < 8 := t.isLt
  obtain ⟨r, l, rfl⟩ : ∃ (r : Fin 512) (l : Fin 1024), y = ix2 r l := ⟨y 0, y 1, by funext a; match a with | ⟨0, _⟩ => rfl | ⟨1, _⟩ => rfl⟩
  rw [show ((View.whole main_v0_0).slice (win0_4.rect t)).emb (ix2 r l) = ix2 (⟨t.val * 512 + r.val, by omega⟩ : Fin 4096) l by blk_ext [idx t],
    Cert.Ln0FwdRefIdeal.Value.norm_apply, ← row_apply m c t r l ⟨t.val * 512 + r.val, by omega⟩ rfl]
  exact norm_apply _ _ _ r l

/-- The second result array is the reference's. -/
theorem final5 (c : Dev nD) : (dats m 0 c).arrAt 5 (cfgs 0).N = Cert.Ln0FwdRefIdeal.Read.val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  have hlt : t.val < 8 := t.isLt
  obtain ⟨r, l, rfl⟩ : ∃ (r : Fin 512) (l : Fin 1024), y = ix2 r l := ⟨y 0, y 1, by funext a; match a with | ⟨0, _⟩ => rfl | ⟨1, _⟩ => rfl⟩
  rw [show ((View.whole main_v0_1).slice (win0_5.rect t)).emb (ix2 r l) = ix2 (⟨t.val * 512 + r.val, by omega⟩ : Fin 4096) l by blk_ext [idx t],
    Cert.Ln0FwdRefIdeal.Value.modulated_apply, ← row_apply m c t r l ⟨t.val * 512 + r.val, by omega⟩ rfl,
    ← scale_apply m c t l ⟨t.val * 512 + r.val, by omega⟩ (by simp only []; omega), ← shift_apply m c t l ⟨t.val * 512 + r.val, by omega⟩ (by simp only []; omega)]
  exact modulated_apply _ _ _ (scale m c t) (shift m c t) r l

end Cert.Ln0FwdIdeal.Value

namespace Cert.Ln0FwdIdeal.Claim

open Idealize.ShloMosaic Idealize.ShloMosaic.TcCoe Idealize.SL.Sem

/-- The call computes what the reference computes. -/
theorem algebraic : Cert.algebraic_Ln0FwdIdeal_Ln0FwdRefIdeal (hLn0FwdIdeal := Cert.Ln0FwdIdeal.Gen.facts) (hLn0FwdRefIdeal := Cert.Ln0FwdRefIdeal.Gen.facts) := by
  intro m g m' g' _ h
  refine ⟨fun c => Cert.Ln0FwdRefIdeal.Read.val_main_v33 (F := Ideal) (m (c.tc.loc Cert.Ln0FwdIdeal.main_arg0)) (m (c.tc.loc Cert.Ln0FwdIdeal.main_arg1)) (m (c.tc.loc Cert.Ln0FwdIdeal.main_arg2)),
    fun c => Cert.Ln0FwdRefIdeal.Read.val_main_v35 (F := Ideal) (m (c.tc.loc Cert.Ln0FwdIdeal.main_arg0)) (m (c.tc.loc Cert.Ln0FwdIdeal.main_arg1)) (m (c.tc.loc Cert.Ln0FwdIdeal.main_arg2)) (m (c.tc.loc Cert.Ln0FwdIdeal.main_arg3)), ?_, ?_⟩
  · exact (θ_run _ _ _).mono (fun r hr c => ⟨(hr c).1.trans (Cert.Ln0FwdIdeal.Value.final4 m c), (hr c).2.1.trans (Cert.Ln0FwdIdeal.Value.final5 m c), (hr c).2.2⟩) (Cert.Ln0FwdIdeal.Value.run_blocks m g)
  · refine (θ_run _ _ _).mono (fun r hr c => ⟨(hr c).1.trans ?_, (hr c).2.1.trans ?_, (hr c).2.2⟩) (Cert.Ln0FwdRefIdeal.Value.run m' g')
    · rw [Cert.Ln0FwdRefIdeal.Read.val_main_v33_eq, (h c).1, (h c).2.1, (h c).2.2.1]
    · rw [Cert.Ln0FwdRefIdeal.Read.val_main_v35_eq, (h c).1, (h c).2.1, (h c).2.2.1, (h c).2.2.2]

end Cert.Ln0FwdIdeal.Claim

end
-- ==== Proof.Ln1FwdValue.lean ====
module

public import proofs.«01_k».proof.Defs
public import proofs.«01_k».proof.Proof.RowNorm
public import proofs.«01_k».proof.Proof.Gen.Ln1FwdIdeal.Frame
public import proofs.«01_k».proof.Proof.Gen.Ln1FwdIdeal.Value
public import proofs.«01_k».proof.Proof.Gen.Ln1FwdRefIdeal.Run
public import proofs.«01_k».proof.Proof.Gen.Ln1FwdRefIdeal.Read
public import Idealize.ShloMosaic.Lib.Pipeline.ValueKit
public import Idealize.ShloMosaic.Lib.Pointwise

@[expose] public section

set_option maxRecDepth 16384

/-! The normalisation between the mixer and the feed-forward block and its modulation, row by row. -/

noncomputable section

namespace Cert.Ln1FwdRefIdeal.Value

open Cert.Ln1FwdRefIdeal Cert.Ln1FwdRefIdeal.Gen Cert.Ln1FwdRefIdeal.Read Idealize.ShloMosaic Idealize.ShloMosaic.TcCoe Cert.RowNorm

variable (x y : FVec Ideal S4096x1024 .f32) (w b : FVec Ideal S1x1024 .f32) (mod : FVec Ideal S2x6x1024 .f32)

/-- The factor of the residual stream. -/
abbrev alpha : EReal := Ideal.ofBits .f32 0x3F9837F0#32

/-- A row of the sum that is normalised. -/
abbrev row (s : Fin 2) (i : Fin 4096) : Row := fun k => alpha * x (ix2 i k) + (1 + mod (ix3 s 2 k)) * y (ix2 i k)

theorem v17_apply (s : Fin 2) (r : Fin 2048) (l : Fin 1024) :
    val_main_v17 (F := Ideal) x y mod (ix3 s r l) = centred (row x y mod s ⟨s.val * 2048 + r.val, by omega⟩) l := by
  pointwise [val_main_v17, val_main_v16, val_main_v15, val_main_v14, val_main_v13, val_main_v12, val_main_cst_1, val_main_cst_2, val_main_v9, val_main_v8, val_main_v7, val_main_v6, val_main_v5, val_main_v4, val_main_v3, val_main_v2, val_main_cst, val_main_cst_0, val_main_v1, val_main_v0]
  rfl

theorem v27_apply (s : Fin 2) (r : Fin 2048) (l : Fin 1024) :
    val_main_v27 (F := Ideal) x y mod (ix3 s r l) = normed (row x y mod s ⟨s.val * 2048 + r.val, by omega⟩) l := by
  pointwise [val_main_v27, val_main_v26, val_main_v25, val_main_v24, val_main_v23, val_main_cst_5, val_main_v22, val_main_v21, val_main_cst_4, val_main_v20, val_main_v19, val_main_cst_3, val_main_v18]
  simp only [v17_apply]
  rfl

theorem v33_apply (s : Fin 2) (r : Fin 2048) (l : Fin 1024) :
    val_main_v33 (F := Ideal) x y w b mod (ix3 s r l) = normed (row x y mod s ⟨s.val * 2048 + r.val, by omega⟩) l * w (ix2 0 l) + b (ix2 0 l) := by
  pointwise [val_main_v33, val_main_v32, val_main_v31, val_main_v30, val_main_v29, val_main_v28, val_main_v10, val_main_v11]
  rw [v27_apply]

/-- A row of the sum that is normalised, its sequence read off its place. -/
abbrev rowOf (i : Fin 4096) : Row := row x y mod ⟨i.val / 2048, by omega⟩ i

theorem v33_row (i : Fin 4096) (l : Fin 1024) :
    val_main_v33 (F := Ideal) x y w b mod (ix3 ⟨i.val / 2048, by omega⟩ ⟨i.val % 2048, by omega⟩ l) = normed (rowOf x y mod i) l * w (ix2 0 l) + b (ix2 0 l) := by
  have e : (⟨(i.val / 2048) * 2048 + i.val % 2048, by omega⟩ : Fin 4096) = i := Fin.ext (by simp only []; omega)
  rw [v33_apply, e]

/-- The reference's first result, row by row. -/
theorem norm_apply (i : Fin 4096) (l : Fin 1024) :
    val_main_v42 (F := Ideal) x y w b mod (ix2 i l) = normed (rowOf x y mod i) l * w (ix2 0 l) + b (ix2 0 l) := by
  rw [← v33_row]
  pointwise [val_main_v42]

/-- The reference's second result, row by row. -/
theorem modulated_apply (i : Fin 4096) (l : Fin 1024) :
    val_main_v44 (F := Ideal) x y w b mod (ix2 i l) = (normed (rowOf x y mod i) l * w (ix2 0 l) + b (ix2 0 l)) * (1 + mod (ix3 ⟨i.val / 2048, by omega⟩ 4 l)) + mod (ix3 ⟨i.val / 2048, by omega⟩ 3 l) := by
  rw [← v33_row]
  pointwise [val_main_v44, val_main_v43, val_main_v41, val_main_v40, val_main_v39, val_main_v38, val_main_v37, val_main_v36, val_main_v35, val_main_cst_6, val_main_v34]

end Cert.Ln1FwdRefIdeal.Value

namespace Cert.Ln1FwdIdeal.Value

open Cert.Ln1FwdIdeal Cert.Ln1FwdIdeal.Gen Idealize.ShloMosaic Idealize.ShloMosaic.TcCoe Cert.RowNorm
open Idealize.ShloMosaic.Pipeline (Dat)
open Cert.Ln1FwdRefIdeal.Value (alpha)

section Body

variable (x y : FVec Ideal S512x1024 .f32) (ga : FVec Ideal S1x1x1024 .f32) (w b : FVec Ideal S1x1024 .f32) (sc sh : FVec Ideal S1x1x1024 .f32)

/-- A row of the sum that the body normalises. -/
abbrev bodyRow (r : Fin 512) : Row := fun k => alpha * x (ix2 r k) + (1 + ga (ix3 0 0 k)) * y (ix2 r k)

theorem pay5_apply (r : Fin 512) (l : Fin 1024) : k0_pay5 (F := Ideal) x y ga (ix2 r l) = normed (bodyRow x y ga r) l := by
  pointwise [k0_pay5]
  rfl

/-- What the body writes in the block of the first result, row by row. -/
theorem norm_apply (r : Fin 512) (l : Fin 1024) :
    k0_pay1 (F := Ideal) b (k0_pay5 x y ga) (k0_pay6 w) (ix2 r l) = normed (bodyRow x y ga r) l * w (ix2 0 l) + b (ix2 0 l) := by
  rw [← pay5_apply]
  pointwise [k0_pay1, k0_pay6]

/-- What the body writes in the block of the second result, row by row. -/
theorem modulated_apply (r : Fin 512) (l : Fin 1024) :
    k0_pay2 (F := Ideal) b (k0_pay3 sc) (k0_pay4 sh) (k0_pay5 x y ga) (k0_pay6 w) (ix2 r l) = (normed (bodyRow x y ga r) l * w (ix2 0 l) + b (ix2 0 l)) * (1 + sc (ix3 0 0 l)) + sh (ix3 0 0 l) := by
  rw [← norm_apply x y ga w b r l]
  pointwise [k0_pay2, k0_pay3, k0_pay4]

end Body

variable (m : (ℓ : Loc nD τ sig) → Buf (Elt Ideal) ℓ)

/-- Where each window stands at a grid point. -/
theorem idx : ∀ t : Fin cfg0.N, win0_0.index t = ![t.val, 0] ∧ win0_1.index t = ![t.val, 0] ∧ win0_2.index t = ![0, 0] ∧ win0_3.index t = ![0, 0] ∧ win0_4.index t = ![t.val / 4, 0, 0] ∧ win0_5.index t = ![t.val, 0] ∧ win0_6.index t = ![t.val, 0] :=
  (by decide +kernel : ∀ t : Fin grid0.N, _)

/-- The row of the modulation that scales the mixer's output at a grid point. -/
abbrev gate (c : Dev nD) (t : Fin cfg0.N) : FVec Ideal S1x1x1024 .f32 := View.ld (iblk m c 4 t) (Rect.unit ![0, 2, 0] ![1, 1, 1024] inb_S1x6x1024_S1x1x1024_0_2_0)

theorem gate_apply (c : Dev nD) (t : Fin cfg0.N) (k : Fin 1024) (i : Fin 4096) (hi : i.val / 512 = t.val) :
    gate m c t (ix3 0 0 k) = (m ((c : Thread nD τ).loc main_arg4) : FVec Ideal S2x6x1024 .f32) (ix3 ⟨i.val / 2048, by omega⟩ 2 k) := by
  have e : i.val / 2048 = t.val / 4 := by omega
  rw [gate, View.ld_apply]
  blk_point [iblk, V, idx t, e]
  · rfl
  · show 0 + 1 * k.val = k.val
    omega

/-- The row of the modulation that scales the normalised sum at a grid point. -/
abbrev scale (c : Dev nD) (t : Fin cfg0.N) : FVec Ideal S1x1x1024 .f32 := View.ld (iblk m c 4 t) (Rect.unit ![0, 4, 0] ![1, 1, 1024] inb_S1x6x1024_S1x1x1024_0_4_0)

theorem scale_apply (c : Dev nD) (t : Fin cfg0.N) (k : Fin 1024) (i : Fin 4096) (hi : i.val / 512 = t.val) :
    scale m c t (ix3 0 0 k) = (m ((c : Thread nD τ).loc main_arg4) : FVec Ideal S2x6x1024 .f32) (ix3 ⟨i.val / 2048, by omega⟩ 4 k) := by
  have e : i.val / 2048 = t.val / 4 := by omega
  rw [scale, View.ld_apply]
  blk_point [iblk, V, idx t, e]
  · rfl
  · show 0 + 1 * k.val = k.val
    omega

/-- The row of the modulation that shifts the normalised sum at a grid point. -/
abbrev shift (c : Dev nD) (t : Fin cfg0.N) : FVec Ideal S1x1x1024 .f32 := View.ld (iblk m c 4 t) (Rect.unit ![0, 3, 0] ![1, 1, 1024] inb_S1x6x1024_S1x1x1024_0_3_0)

theorem shift_apply (c : Dev nD) (t : Fin cfg0.N) (k : Fin 1024) (i : Fin 4096) (hi : i.val / 512 = t.val) :
    shift m c t (ix3 0 0 k) = (m ((c : Thread nD τ).loc main_arg4) : FVec Ideal S2x6x1024 .f32) (ix3 ⟨i.val / 2048, by omega⟩ 3 k) := by
  have e : i.val / 2048 = t.val / 4 := by omega
  rw [shift, View.ld_apply]
  blk_point [iblk, V, idx t, e]
  · rfl
  · show 0 + 1 * k.val = k.val
    omega

/-- The normalised rows at a grid point are rows of the normalised sum of the arguments. -/
theorem row_apply (c : Dev nD) (t : Fin cfg0.N) (r : Fin 512) (l : Fin 1024) (i : Fin 4096) (hi : i.val = t.val * 512 + r.val) :
    normed (bodyRow (iblk m c 0 t) (iblk m c 1 t) (gate m c t) r) l * (iblk m c 2 t : FVec Ideal S1x1024 .f32) (ix2 0 l) + (iblk m c 3 t : FVec Ideal S1x1024 .f32) (ix2 0 l)
      = normed (Cert.Ln1FwdRefIdeal.Value.rowOf (m ((c : Thread nD τ).loc main_arg0)) (m ((c : Thread nD τ).loc main_arg1)) (m ((c : Thread nD τ).loc main_arg4)) i) l * ((m ((c : Thread nD τ).loc main_arg2)) : FVec Ideal S1x1024 .f32) (ix2 0 l) + ((m ((c : Thread nD τ).loc main_arg3)) : FVec Ideal S1x1024 .f32) (ix2 0 l) := by
  have hlt : t.val < 8 := t.isLt
  refine congrArg₂ (· + ·) (congrArg₂ (· * ·) (congrFun (congrArg normed (funext fun k => ?_)) l) ?_) ?_
  · refine congrArg₂ (· + ·) (congrArg (alpha * ·) ?_) (congrArg₂ (fun p q => (1 + p) * q) ?_ ?_)
    · blk_point [iblk, V, idx t, hi]
    · exact gate_apply m c t k i (by omega)
    · blk_point [iblk, V, idx t, hi]
  · blk_point [iblk, V, idx t]
  · blk_point [iblk, V, idx t]

/-- The first result array is the reference's. -/
theorem final5 (c : Dev nD) : (dats m 0 c).arrAt 5 (cfgs 0).N = Cert.Ln1FwdRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hlt : t.val < 8 := t.isLt
  have key : ∀ X : FVec Ideal S512x1024 .f32, X = k0_pay1 (F := Ideal) (iblk m c 3 t) (k0_pay5 (iblk m c 0 t) (iblk m c 1 t) (gate m c t)) (k0_pay6 (iblk m c 2 t)) → X y = Cert.Ln1FwdRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((View.whole main_v0_0).slice (win0_5.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    rw [hX, show ((View.whole main_v0_0).slice (win0_5.rect t)).emb (ix2 r l) = ix2 (⟨t.val * 512 + r.val, by omega⟩ : Fin 4096) l by blk_ext [idx t],
      Cert.Ln1FwdRefIdeal.Value.norm_apply, ← row_apply m c t r l ⟨t.val * 512 + r.val, by omega⟩ rfl]
    exact norm_apply _ _ (gate m c t) _ _ r l
  unfold_out out0_5
  frame_out
  exact key _ rfl

/-- The second result array is the reference's. -/
theorem final6 (c : Dev nD) : (dats m 0 c).arrAt 6 (cfgs 0).N = Cert.Ln1FwdRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hlt : t.val < 8 := t.isLt
  have key : ∀ X : FVec Ideal S512x1024 .bf16, X = k0_pay2 (F := Ideal) (iblk m c 3 t) (k0_pay3 (scale m c t)) (k0_pay4 (shift m c t)) (k0_pay5 (iblk m c 0 t) (iblk m c 1 t) (gate m c t)) (k0_pay6 (iblk m c 2 t)) → X y = Cert.Ln1FwdRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((View.whole main_v0_1).slice (win0_6.rect t)).emb y) := by
    intro X hX
    obtain ⟨r, l, rfl⟩ : ∃ (r : Fin 512) (l : Fin 1024), y = ix2 r l := ⟨y 0, y 1, by funext a; match a with | ⟨0, _⟩ => rfl | ⟨1, _⟩ => rfl⟩
    rw [hX, show ((View.whole main_v0_1).slice (win0_6.rect t)).emb (ix2 r l) = ix2 (⟨t.val * 512 + r.val, by omega⟩ : Fin 4096) l by blk_ext [idx t],
      Cert.Ln1FwdRefIdeal.Value.modulated_apply, ← row_apply m c t r l ⟨t.val * 512 + r.val, by omega⟩ rfl,
      ← scale_apply m c t l ⟨t.val * 512 + r.val, by omega⟩ (by simp only []; omega), ← shift_apply m c t l ⟨t.val * 512 + r.val, by omega⟩ (by simp only []; omega)]
    exact modulated_apply _ _ (gate m c t) _ _ (scale m c t) (shift m c t) r l
  unfold_out out0_6
  frame_out
  exact key _ rfl

end Cert.Ln1FwdIdeal.Value

namespace Cert.Ln1FwdIdeal.Claim

open Idealize.ShloMosaic Idealize.ShloMosaic.TcCoe Idealize.SL.Sem

/-- The call computes what the reference computes. -/
theorem algebraic : Cert.algebraic_Ln1FwdIdeal_Ln1FwdRefIdeal (hLn1FwdIdeal := Cert.Ln1FwdIdeal.Gen.facts) (hLn1FwdRefIdeal := Cert.Ln1FwdRefIdeal.Gen.facts) := by
  intro m g m' g' _ h
  refine ⟨fun c => Cert.Ln1FwdRefIdeal.Read.val_main_v42 (F := Ideal) (m (c.tc.loc Cert.Ln1FwdIdeal.main_arg0)) (m (c.tc.loc Cert.Ln1FwdIdeal.main_arg1)) (m (c.tc.loc Cert.Ln1FwdIdeal.main_arg2)) (m (c.tc.loc Cert.Ln1FwdIdeal.main_arg3)) (m (c.tc.loc Cert.Ln1FwdIdeal.main_arg4)),
    fun c => Cert.Ln1FwdRefIdeal.Read.val_main_v44 (F := Ideal) (m (c.tc.loc Cert.Ln1FwdIdeal.main_arg0)) (m (c.tc.loc Cert.Ln1FwdIdeal.main_arg1)) (m (c.tc.loc Cert.Ln1FwdIdeal.main_arg2)) (m (c.tc.loc Cert.Ln1FwdIdeal.main_arg3)) (m (c.tc.loc Cert.Ln1FwdIdeal.main_arg4)), ?_, ?_⟩
  · exact (θ_run _ _ _).mono (fun r hr c => ⟨(hr c).1.trans (Cert.Ln1FwdIdeal.Value.final5 m c), (hr c).2.1.trans (Cert.Ln1FwdIdeal.Value.final6 m c), (hr c).2.2⟩) (Cert.Ln1FwdIdeal.Value.run_blocks m g)
  · refine (θ_run _ _ _).mono (fun r hr c => ⟨(hr c).1.trans ?_, (hr c).2.1.trans ?_, (hr c).2.2⟩) (Cert.Ln1FwdRefIdeal.Value.run m' g')
    · rw [Cert.Ln1FwdRefIdeal.Read.val_main_v42_eq, (h c).1, (h c).2.1, (h c).2.2.1, (h c).2.2.2.1, (h c).2.2.2.2]
    · rw [Cert.Ln1FwdRefIdeal.Read.val_main_v44_eq, (h c).1, (h c).2.1, (h c).2.2.1, (h c).2.2.2.1, (h c).2.2.2.2]

end Cert.Ln1FwdIdeal.Claim

end
-- ==== Proof.CausalConv.lean ====
module

public import Idealize.ShloMosaic.Lib.Pointwise

@[expose] public section

/-! Causal convolutions along a sequence, the gate on them, and their gradients. -/

noncomputable section

namespace Cert.CausalConv

open Idealize.ShloMosaic

/-- One channel of one sequence. -/
abbrev Series := Fin 2048 → EReal

/-- The series `n` steps ago, zero before its start. -/
def delay (n : ℕ) (x : Series) : Series := fun t => if n ≤ t.val then x ⟨t.val - n, by omega⟩ else 0

/-- The series `n` steps from now, zero after its end. -/
def ahead (n : ℕ) (x : Series) : Series := fun t => if h : t.val + n < 2048 then x ⟨t.val + n, h⟩ else 0

/-- The convolution of a channel with its three taps, and its bias. -/
def conv (a b c bias : EReal) (x : Series) : Series := fun t => a * delay 2 x t + b * delay 1 x t + c * x t + bias

/-- The convolution of a channel with four taps. -/
def conv4 (a b c d : EReal) (x : Series) : Series := fun t => a * delay 3 x t + b * delay 2 x t + c * delay 1 x t + d * x t

/-- A series through the smooth step, times itself. -/
def smooth (u : Series) : Series := fun t => u t * Ideal.logistic (u t)

/-- The gated product: the gate through its smooth step, times the value. -/
def gated (u v : Series) : Series := fun t => u t * Ideal.logistic (u t) * v t

/-- The gradient in the convolution's input. -/
def back (a b c : EReal) (du : Series) : Series := fun t => c * du t + a * ahead 2 du t + b * ahead 1 du t

/-- The gradient in the value, `d` that of the gated product. -/
def valueSlope (d u : Series) : Series := fun t => d t * (u t * Ideal.logistic (u t))

/-- The gradient in the gate, `d` that of the gated product. -/
def gateSlope (d u v : Series) : Series := fun t => d t * v t * (Ideal.logistic (u t) * (1 + u t * (1 - Ideal.logistic (u t))))

/-- One sequence's gradient of a tap. -/
def tap (du x : Series) : EReal := ∑ t, du t * x t

/-- A number of the real line. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, rfl⟩

theorem IsReal.delay {x : Series} (h : ∀ t, IsReal (x t)) (n : ℕ) (t : Fin 2048) : IsReal (delay n x t) := by
  unfold Cert.CausalConv.delay
  split_ifs
  · exact h _
  · exact IsReal.zero

theorem IsReal.conv {a b c bias : EReal} {x : Series} (ha : IsReal a) (hb : IsReal b) (hc : IsReal c) (hbias : IsReal bias) (h : ∀ t, IsReal (x t)) (t : Fin 2048) :
    IsReal (conv a b c bias x t) :=
  (((ha.mul (IsReal.delay h 2 t)).add (hb.mul (IsReal.delay h 1 t))).add (hc.mul (h t))).add hbias

/-- The two ways to write the gradient of the gate agree where the gradient that reaches it is a real number. -/
theorem gate_eq {q : EReal} (hq : IsReal q) (u : EReal) :
    q * Ideal.logistic u + u * q * (Ideal.logistic u * (1 - Ideal.logistic u)) = q * (Ideal.logistic u * (1 + u * (1 - Ideal.logistic u))) := by
  obtain ⟨r, rfl⟩ := hq
  induction u with
  | bot => simp
  | top =>
    have h : (1 : EReal) - 1 = 0 := by rw [← EReal.coe_one, ← EReal.coe_sub, sub_self, EReal.coe_zero]
    simp [h]
  | coe v =>
    rw [Ideal.logistic_coe]
    norm_cast
    ring

/-- The gradient in the gate, as a product rule writes it. -/
theorem gateSlope_eq {d u v : Series} {t : Fin 2048} (h : IsReal (d t * v t)) :
    d t * v t * Ideal.logistic (u t) + u t * (d t * v t) * (Ideal.logistic (u t) * (1 - Ideal.logistic (u t))) = gateSlope d u v t :=
  gate_eq h (u t)

/-- The gradient in the value, its factors in another order. -/
theorem valueSlope_eq (d u : Series) (t : Fin 2048) : u t * Ideal.logistic (u t) * d t = valueSlope d u t :=
  mul_comm _ _

/-- The three series that a channel's taps meet. -/
def tapped (j : Fin 3) (u : Series) : Series := match j with
  | 0 => delay 2 u
  | 1 => delay 1 u
  | 2 => u

end Cert.CausalConv

end
-- ==== Proof.Steps.lean ====
module

public import Idealize.ShloMosaic.Lib.Pointwise

@[expose] public section

set_option maxRecDepth 16384

/-! How a block masks the rows near the ends of a sequence of 2048. -/

namespace Cert.Steps

open Idealize.ShloMosaic

theorem from_three : ∀ r : Fin 2048, IntOp.cmpi .sge (BitVec.ofNat 32 r.val) 3#32 = if 3 ≤ r.val then 1#1 else 0#1 := by decide +kernel

theorem from_two : ∀ r : Fin 2048, IntOp.cmpi .sge (BitVec.ofNat 32 r.val) 2#32 = if 2 ≤ r.val then 1#1 else 0#1 := by decide +kernel

theorem from_one : ∀ r : Fin 2048, IntOp.cmpi .sge (BitVec.ofNat 32 r.val) 1#32 = if 1 ≤ r.val then 1#1 else 0#1 := by decide +kernel

theorem below_two : ∀ r : Fin 2048, IntOp.cmpi .slt (BitVec.ofNat 32 r.val) 2046#32 = if r.val + 2 < 2048 then 1#1 else 0#1 := by decide +kernel

theorem below_one : ∀ r : Fin 2048, IntOp.cmpi .slt (BitVec.ofNat 32 r.val) 2047#32 = if r.val + 1 < 2048 then 1#1 else 0#1 := by decide +kernel

/-- A choice between a value and zero, told by a condition. -/
theorem choose_eq {q : BitVec 1} {c : Prop} [Decidable c] (hq : q = if c then 1#1 else 0#1) {X V : EReal} (hp : c → X = V) (hn : ¬c → 0 = V) :
    Scalar.select q X 0 = V := by
  subst hq
  by_cases h : c
  · rw [if_pos h, Scalar.select, if_pos (show (1#1 : BitVec 1) = 1 from rfl), hp h]
  · rw [if_neg h, Scalar.select, if_neg (by decide), hn h]

end Cert.Steps
-- ==== Proof.FfnFwdValue.lean ====
module

public import proofs.«01_k».proof.Defs
public import proofs.«01_k».proof.Proof.CausalConv
public import proofs.«01_k».proof.Proof.Steps
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Pipeline.ValueKit
public import Idealize.ShloMosaic.Lib.Pointwise

@[expose] public section

set_option maxRecDepth 16384

/-! The gated convolution of the feed-forward block, channel by channel. -/

noncomputable section

namespace Cert.FfnFwdRefIdeal.Value

open Cert.FfnFwdRefIdeal Cert.FfnFwdRefIdeal.Gen Cert.FfnFwdRefIdeal.Read Idealize.ShloMosaic Idealize.ShloMosaic.TcCoe Cert.CausalConv

variable (x : FVec Ideal S4096x5632 .f32) (w : FVec Ideal S3x5632 .f32) (b : FVec Ideal S1x5632 .f32)

/-- A channel of the input over one sequence. -/
abbrev input (s : Fin 2) (k : Fin 5632) : Series := fun t => x (ix2 ⟨s.val * 2048 + t.val, by omega⟩ k)

/-- A channel of the convolution over one sequence. -/
abbrev convolved (s : Fin 2) (k : Fin 5632) : Series := conv (w (ix2 0 k)) (w (ix2 1 k)) (w (ix2 2 k)) (b (ix2 0 k)) (input x s k)

theorem v6_apply (s : Fin 2) (t : Fin 2048) (k : Fin 5632) : val_main_v6 (F := Ideal) x (ix3 s t k) = delay 2 (input x s k) t := by
  pointwise [val_main_v6, val_main_v3, val_main_v2, val_main_cst, val_main_v1]
  unfold delay
  by_cases h : 2 ≤ t.val
  · rw [if_pos h, dif_neg (by omega)]
  · rw [if_neg h, dif_pos (by omega)]

theorem v14_apply (s : Fin 2) (t : Fin 2048) (k : Fin 5632) : val_main_v14 (F := Ideal) x (ix3 s t k) = delay 1 (input x s k) t := by
  pointwise [val_main_v14, val_main_v3, val_main_v2, val_main_cst, val_main_v1]
  unfold delay
  by_cases h : 1 ≤ t.val
  · rw [if_pos h, dif_neg (by omega)]
    exact congrArg (fun q => x (ix2 q k)) (Fin.ext (by show s.val * 2048 + (1 + t.val - 2) = s.val * 2048 + (t.val - 1); omega))
  · rw [if_neg h, dif_pos (by omega)]

theorem v21_apply (s : Fin 2) (t : Fin 2048) (k : Fin 5632) : val_main_v21 (F := Ideal) x (ix3 s t k) = input x s k t := by
  pointwise [val_main_v21, val_main_v3, val_main_v2, val_main_cst, val_main_v1]

theorem v28_apply (s : Fin 2) (t : Fin 2048) (k : Fin 5632) : val_main_v28 (F := Ideal) x w b (ix3 s t k) = convolved x w b s k t := by
  pointwise [val_main_v28, val_main_v25, val_main_v18, val_main_v11, val_main_v10, val_main_cst_0, val_main_v9, val_main_v17, val_main_v24, val_main_v8, val_main_v7, val_main_v5, val_main_v4, val_main_v16, val_main_v15, val_main_v13, val_main_v12, val_main_v23, val_main_v22, val_main_v20, val_main_v19, val_main_v27, val_main_v26, val_main_v0]
  rw [v6_apply, v14_apply, v21_apply]
  rfl

theorem v32_apply (s : Fin 2) (t : Fin 2048) (k : Fin 2816) :
    val_main_v32 (F := Ideal) x w b (ix3 s t k) = gated (convolved x w b s ⟨k.val, by omega⟩) (convolved x w b s ⟨2816 + k.val, by omega⟩) t := by
  pointwise [val_main_v32, val_main_v31, val_main_v30, val_main_v29, val_main_call0_v5, val_main_call0_v4, val_main_call0_cst_0, val_main_call0_v3, val_main_call0_v2, val_main_call0_cst, val_main_call0_v1, val_main_call0_v0]
  rw [v28_apply, v28_apply]
  rfl

/-- The reference's result, channel by channel. -/
theorem result_apply (s : Fin 2) (t : Fin 2048) (k : Fin 2816) :
    val_main_v34 (F := Ideal) x w b (ix2 ⟨s.val * 2048 + t.val, by omega⟩ k) = gated (convolved x w b s ⟨k.val, by omega⟩) (convolved x w b s ⟨2816 + k.val, by omega⟩) t := by
  rw [← v32_apply]
  pointwise [val_main_v34, val_main_v33]

end Cert.FfnFwdRefIdeal.Value

namespace Cert.FfnFwdIdeal.Value

open Cert.FfnFwdIdeal Cert.FfnFwdIdeal.Gen Idealize.ShloMosaic Idealize.ShloMosaic.TcCoe Cert.CausalConv Cert.Steps
open Idealize.ShloMosaic.Pipeline (Dat)
open Cert.FfnFwdRefIdeal.Value (input convolved)

section Body

variable (x y : FVec Ideal S2048x256 .f32) (w v : FVec Ideal S3x256 .f32) (a b : FVec Ideal S1x256 .f32) (r : Fin 2048) (l : Fin 256)

/-- A channel of a block, convolved. -/
abbrev convOf (x : FVec Ideal S2048x256 .f32) (w : FVec Ideal S3x256 .f32) (a : FVec Ideal S1x256 .f32) (l : Fin 256) : Series :=
  conv (w (ix2 0 l)) (w (ix2 1 l)) (w (ix2 2 l)) (a (ix2 0 l)) fun t => x (ix2 t l)

theorem pay3_apply : k0_pay3 (F := Ideal) x (ix2 r l) = delay 2 (fun t => x (ix2 t l)) r := by
  pointwise [k0_pay3]
  refine choose_eq (from_two r) (fun h => ?_) fun h => ?_
  · rw [delay, if_pos h]
    exact congrArg (fun k => x (ix2 k l)) (Fin.ext (by show (r.val + 2048 - 2) % 2048 = r.val - 2; omega))
  · rw [delay, if_neg h]

/-- The block one step ago. -/
def prior : FVec Ideal S2048x256 .f32 := select k0_pay4 (k0_pay5 (F := Ideal) x) (broadcast S2048x256 (Scalar.ofBits .f32 0x00000000#32))

theorem prior_apply : prior x (ix2 r l) = delay 1 (fun t => x (ix2 t l)) r := by
  pointwise [prior, k0_pay4, k0_pay5]
  refine choose_eq (from_one r) (fun h => ?_) fun h => ?_
  · rw [delay, if_pos h]
    exact congrArg (fun k => x (ix2 k l)) (Fin.ext (by show (r.val + 2048 - 1) % 2048 = r.val - 1; omega))
  · rw [delay, if_neg h]

/-- The convolution of a block, its delayed blocks given. -/
def convBlock (p q : FVec Ideal S2048x256 .f32) : FVec Ideal S2048x256 .f32 :=
  addf (addf (addf (mulf (broadcastTo S2048x256 (extractStridedSlice S1x256 ![0, 0] w slices_S3x256_o0_0_S1x256) broadcasts_S1x256_S2048x256) p)
    (mulf (broadcastTo S2048x256 (extractStridedSlice S1x256 ![1, 0] w slices_S3x256_o1_0_S1x256) broadcasts_S1x256_S2048x256) q))
    (mulf (broadcastTo S2048x256 (extractStridedSlice S1x256 ![2, 0] w slices_S3x256_o2_0_S1x256) broadcasts_S1x256_S2048x256) x))
    (broadcastTo S2048x256 a broadcasts_S1x256_S2048x256)

theorem convBlock_apply : convBlock x w a (k0_pay3 x) (prior x) (ix2 r l) = convOf x w a l r := by
  pointwise [convBlock]
  rw [pay3_apply, prior_apply]
  rfl

theorem pay2_eq : k0_pay2 (F := Ideal) x w a = convBlock x w a (k0_pay3 x) (prior x) := rfl

/-- What the body writes in its block, channel by channel. -/
theorem block_apply :
    k0_pay1 (F := Ideal) (k0_pay2 x w a) y (k0_pay3 y) k0_pay4 (k0_pay5 y) v b (ix2 r l) = gated (convOf x w a l) (convOf y v b l) r := by
  have e : k0_pay1 (F := Ideal) (k0_pay2 x w a) y (k0_pay3 y) k0_pay4 (k0_pay5 y) v b
      = truncf .bf16 (mulf (mulf (k0_pay2 x w a) (logistic (k0_pay2 x w a))) (convBlock y v b (k0_pay3 y) (prior y))) bitsLt_bf16_f32 := rfl
  rw [e, pay2_eq]
  pointwise []
  rw [convBlock_apply, convBlock_apply]
  rfl

end Body

variable (m : (ℓ : Loc nD τ sig) → Buf (Elt Ideal) ℓ)

/-- Where each window stands at a grid point. -/
theorem idx : ∀ t : Fin cfg0.N, win0_0.index t = ![t.val % 2, t.val / 2] ∧ win0_1.index t = ![t.val % 2, 11 + t.val / 2] ∧ win0_2.index t = ![0, t.val / 2] ∧ win0_3.index t = ![0, 11 + t.val / 2] ∧ win0_4.index t = ![0, t.val / 2] ∧ win0_5.index t = ![0, 11 + t.val / 2] ∧ win0_6.index t = ![t.val % 2, t.val / 2] :=
  (by decide +kernel : ∀ t : Fin grid0.N, _)

section Entries

variable (c : Dev nD) (t : Fin cfg0.N) (r : Fin 2048) (l : Fin 256)

/-- The sequence a grid point works on. -/
abbrev seqOf : Fin 2 := ⟨t.val % 2, by omega⟩

/-- A channel of the gate. -/
abbrev gateChan : Fin 5632 := ⟨t.val / 2 * 256 + l.val, by have : t.val < 22 := t.isLt; omega⟩

/-- A channel of the value. -/
abbrev valueChan : Fin 5632 := ⟨2816 + (t.val / 2 * 256 + l.val), by have : t.val < 22 := t.isLt; omega⟩

theorem gate_conv : convOf (iblk m c 0 t) (iblk m c 2 t) (iblk m c 4 t) l = convolved (m ((c : Thread nD τ).loc main_arg0)) (m ((c : Thread nD τ).loc main_arg1)) (m ((c : Thread nD τ).loc main_arg2)) (seqOf t) (gateChan t l) := by
  have hlt : t.val < 22 := t.isLt
  refine congr (congr (congr (congr (congrArg conv ?_) ?_) ?_) ?_) (funext fun k => ?_)
  all_goals blk_point [iblk, V, idx t]

theorem value_conv : convOf (iblk m c 1 t) (iblk m c 3 t) (iblk m c 5 t) l = convolved (m ((c : Thread nD τ).loc main_arg0)) (m ((c : Thread nD τ).loc main_arg1)) (m ((c : Thread nD τ).loc main_arg2)) (seqOf t) (valueChan t l) := by
  have hlt : t.val < 22 := t.isLt
  refine congr (congr (congr (congr (congrArg conv ?_) ?_) ?_) ?_) (funext fun k => ?_)
  all_goals blk_point [iblk, V, idx t]

end Entries

/-- The result array is the reference's. -/
theorem final (c : Dev nD) : (dats m 0 c).arrAt 6 (cfgs 0).N = Cert.FfnFwdRefIdeal.Read.val_main_v34 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]; frame_out
  have hlt : t.val < 22 := t.isLt
  obtain ⟨r, l, rfl⟩ : ∃ (r : Fin 2048) (l : Fin 256), y = ix2 r l := ⟨y 0, y 1, by funext a; match a with | ⟨0, _⟩ => rfl | ⟨1, _⟩ => rfl⟩
  rw [show ((View.whole main_v0).slice (win0_6.rect t)).emb (ix2 r l) = ix2 (⟨(seqOf t).val * 2048 + r.val, by omega⟩ : Fin 4096) (⟨t.val / 2 * 256 + l.val, by omega⟩ : Fin 2816) by blk_ext [idx t],
    Cert.FfnFwdRefIdeal.Value.result_apply]
  exact (block_apply _ _ _ _ _ _ r l).trans (congrFun (congrArg₂ gated (gate_conv m c t l) (value_conv m c t l)) r)

end Cert.FfnFwdIdeal.Value

namespace Cert.FfnFwdIdeal.Claim

open Idealize.ShloMosaic Idealize.ShloMosaic.TcCoe Idealize.SL.Sem

/-- The call computes what the reference computes. -/
theorem algebraic : Cert.algebraic_FfnFwdIdeal_FfnFwdRefIdeal (hFfnFwdIdeal := Cert.FfnFwdIdeal.Gen.facts) (hFfnFwdRefIdeal := Cert.FfnFwdRefIdeal.Gen.facts) := by
  intro m g m' g' _ h
  refine ⟨fun c => Cert.FfnFwdRefIdeal.Read.val_main_v34 (F := Ideal) (m (c.tc.loc Cert.FfnFwdIdeal.main_arg0)) (m (c.tc.loc Cert.FfnFwdIdeal.main_arg1)) (m (c.tc.loc Cert.FfnFwdIdeal.main_arg2)), ?_, ?_⟩
  · exact (θ_run _ _ _).mono (fun r hr c => ⟨(hr c).1.trans (Cert.FfnFwdIdeal.Value.final m c), (hr c).2⟩) (Cert.FfnFwdIdeal.Value.run_blocks m g)
  · refine (θ_run _ _ _).mono (fun r hr c => ⟨(hr c).1.trans ?_, (hr c).2⟩) (Cert.FfnFwdRefIdeal.Value.run m' g')
    rw [Cert.FfnFwdRefIdeal.Read.val_main_v34_eq, (h c).1, (h c).2.1, (h c).2.2]

end Cert.FfnFwdIdeal.Claim

end
-- ==== Proof.DnPreFwdValue.lean ====
module

public import proofs.«01_k».proof.Defs
public import proofs.«01_k».proof.Proof.CausalConv
public import proofs.«01_k».proof.Proof.Steps
public import proofs.«01_k».proof.Proof.Gen.DnPreFwdIdeal.Frame
public import proofs.«01_k».proof.Proof.Gen.DnPreFwdIdeal.Value
public import proofs.«01_k».proof.Proof.Gen.DnPreFwdRefIdeal.Run
public import proofs.«01_k».proof.Proof.Gen.DnPreFwdRefIdeal.Read
public import Idealize.ShloMosaic.Lib.Pipeline.ValueKit
public import Idealize.ShloMosaic.Lib.Pointwise

@[expose] public section

set_option maxRecDepth 16384

/-! The short convolution before the delta rule, channel by channel. -/

noncomputable section

namespace Cert.DnPreFwdRefIdeal.Value

open Cert.DnPreFwdRefIdeal Cert.DnPreFwdRefIdeal.Gen Cert.DnPreFwdRefIdeal.Read Idealize.ShloMosaic Idealize.ShloMosaic.TcCoe Cert.CausalConv

variable (x : FVec Ideal S4096x3840 .f32) (w : FVec Ideal S4x1536 .f32)

/-- Where a channel of the queries, keys and values stands among the projections. -/
abbrev place (k : Fin 1536) : Fin 3840 := if h : k.val < 256 then ⟨1792 + k.val, by omega⟩ else ⟨2560 + (k.val - 256), by omega⟩

/-- A channel over one sequence. -/
abbrev input (s : Fin 2) (k : Fin 1536) : Series := fun t => x (ix2 ⟨s.val * 2048 + t.val, by omega⟩ (place k))

/-- A channel of the convolution over one sequence. -/
abbrev convolved (s : Fin 2) (k : Fin 1536) : Series := conv4 (w (ix2 0 k)) (w (ix2 1 k)) (w (ix2 2 k)) (w (ix2 3 k)) (input x s k)

theorem v2_apply (i : Fin 4096) (k : Fin 1536) : val_main_v2 (F := Ideal) x (ix2 i k) = x (ix2 i (place k)) := by
  pointwise [val_main_v2, val_main_v1, val_main_v0]
  by_cases h : k.val < 256
  · rw [dif_pos h, place, dif_pos h]
  · rw [dif_neg h, place, dif_neg h]

theorem v3_apply (s : Fin 2) (t : Fin 2048) (k : Fin 1536) : val_main_v3 (F := Ideal) x (ix3 s t k) = input x s k t := by
  show _ = x (ix2 _ (place k))
  rw [← v2_apply x]
  pointwise [val_main_v3]

theorem v8_apply (s : Fin 2) (t : Fin 2048) (k : Fin 1536) : val_main_v8 (F := Ideal) x (ix3 s t k) = delay 3 (input x s k) t := by
  pointwise [val_main_v8, val_main_v5, val_main_v4, val_main_cst]
  unfold delay
  by_cases h : 3 ≤ t.val
  · rw [if_pos h, dif_neg (by omega), v3_apply]
  · rw [if_neg h, dif_pos (by omega)]

theorem v16_apply (s : Fin 2) (t : Fin 2048) (k : Fin 1536) : val_main_v16 (F := Ideal) x (ix3 s t k) = delay 2 (input x s k) t := by
  pointwise [val_main_v16, val_main_v5, val_main_v4, val_main_cst]
  unfold delay
  by_cases h : 2 ≤ t.val
  · rw [if_pos h, dif_neg (by omega), v3_apply]
    exact congrArg (input x s k) (Fin.ext (by show 1 + t.val - 3 = t.val - 2; omega))
  · rw [if_neg h, dif_pos (by omega)]

theorem v23_apply (s : Fin 2) (t : Fin 2048) (k : Fin 1536) : val_main_v23 (F := Ideal) x (ix3 s t k) = delay 1 (input x s k) t := by
  pointwise [val_main_v23, val_main_v5, val_main_v4, val_main_cst]
  unfold delay
  by_cases h : 1 ≤ t.val
  · rw [if_pos h, dif_neg (by omega), v3_apply]
    exact congrArg (input x s k) (Fin.ext (by show 2 + t.val - 3 = t.val - 1; omega))
  · rw [if_neg h, dif_pos (by omega)]

theorem v30_apply (s : Fin 2) (t : Fin 2048) (k : Fin 1536) : val_main_v30 (F := Ideal) x (ix3 s t k) = input x s k t := by
  rw [← v3_apply]
  pointwise [val_main_v30, val_main_v5]

theorem v34_apply (s : Fin 2) (t : Fin 2048) (k : Fin 1536) : val_main_v34 (F := Ideal) x w (ix3 s t k) = convolved x w s k t := by
  pointwise [val_main_v34, val_main_v27, val_main_v20, val_main_v13, val_main_v12, val_main_cst_0, val_main_v11, val_main_v19, val_main_v26, val_main_v33, val_main_v10, val_main_v9, val_main_v7, val_main_v6, val_main_v18, val_main_v17, val_main_v15, val_main_v14, val_main_v25, val_main_v24, val_main_v22, val_main_v21, val_main_v32, val_main_v31, val_main_v29, val_main_v28]
  rw [v8_apply, v16_apply, v23_apply, v30_apply]
  rfl

theorem v35_apply (s : Fin 2) (t : Fin 2048) (k : Fin 1536) : val_main_v35 (F := Ideal) x w (ix3 s t k) = smooth (convolved x w s k) t := by
  pointwise [val_main_v35, val_main_call0_v5, val_main_call0_v4, val_main_call0_cst_0, val_main_call0_v3, val_main_call0_v2, val_main_call0_cst, val_main_call0_v1, val_main_call0_v0]
  rw [v34_apply]
  rfl

/-- The reference's result, channel by channel. -/
theorem result_apply (s : Fin 2) (t : Fin 2048) (k : Fin 1536) :
    val_main_v36 (F := Ideal) x w (ix2 ⟨s.val * 2048 + t.val, by omega⟩ k) = smooth (convolved x w s k) t := by
  rw [← v35_apply]
  pointwise [val_main_v36]

end Cert.DnPreFwdRefIdeal.Value

namespace Cert.DnPreFwdIdeal.Value

open Cert.DnPreFwdIdeal Cert.DnPreFwdIdeal.Gen Idealize.ShloMosaic Idealize.ShloMosaic.TcCoe Cert.CausalConv Cert.Steps
open Idealize.ShloMosaic.Pipeline (Dat)
open Cert.DnPreFwdRefIdeal.Value (place input convolved)

/-- A block `n` steps ago. -/
def prior (n : BitVec 32) (x : FVec Ideal S2048x128 .f32) : FVec Ideal S2048x128 .f32 :=
  select (cmpi .sge (iota .tc S2048x128 32 [0] iota_S2048x128_d0_w32) (broadcast S2048x128 n)) (dynamicRotate 0 n none x rotates_S2048x128_d0) (broadcast S2048x128 (Scalar.ofBits .f32 0x00000000#32))

theorem three_ago (x : FVec Ideal S2048x128 .f32) (r : Fin 2048) (l : Fin 128) : prior 3#32 x (ix2 r l) = delay 3 (fun t => x (ix2 t l)) r := by
  pointwise [prior]
  refine choose_eq (from_three r) (fun h => ?_) fun h => ?_
  · rw [delay, if_pos h]
    exact congrArg (fun k => x (ix2 k l)) (Fin.ext (by show (r.val + 2048 - 3) % 2048 = r.val - 3; omega))
  · rw [delay, if_neg h]

theorem two_ago (x : FVec Ideal S2048x128 .f32) (r : Fin 2048) (l : Fin 128) : prior 2#32 x (ix2 r l) = delay 2 (fun t => x (ix2 t l)) r := by
  pointwise [prior]
  refine choose_eq (from_two r) (fun h => ?_) fun h => ?_
  · rw [delay, if_pos h]
    exact congrArg (fun k => x (ix2 k l)) (Fin.ext (by show (r.val + 2048 - 2) % 2048 = r.val - 2; omega))
  · rw [delay, if_neg h]

theorem one_ago (x : FVec Ideal S2048x128 .f32) (r : Fin 2048) (l : Fin 128) : prior 1#32 x (ix2 r l) = delay 1 (fun t => x (ix2 t l)) r := by
  pointwise [prior]
  refine choose_eq (from_one r) (fun h => ?_) fun h => ?_
  · rw [delay, if_pos h]
    exact congrArg (fun k => x (ix2 k l)) (Fin.ext (by show (r.val + 2048 - 1) % 2048 = r.val - 1; omega))
  · rw [delay, if_neg h]

/-- The convolution of a block, its delayed blocks given. -/
def convBlock (x p q s : FVec Ideal S2048x128 .f32) (w : FVec Ideal S4x128 .f32) : FVec Ideal S2048x128 .f32 :=
  addf (addf (addf (mulf (broadcastTo S2048x128 (extractStridedSlice S1x128 ![0, 0] w slices_S4x128_o0_0_S1x128) broadcasts_S1x128_S2048x128) p)
    (mulf (broadcastTo S2048x128 (extractStridedSlice S1x128 ![1, 0] w slices_S4x128_o1_0_S1x128) broadcasts_S1x128_S2048x128) q))
    (mulf (broadcastTo S2048x128 (extractStridedSlice S1x128 ![2, 0] w slices_S4x128_o2_0_S1x128) broadcasts_S1x128_S2048x128) s))
    (mulf (broadcastTo S2048x128 (extractStridedSlice S1x128 ![3, 0] w slices_S4x128_o3_0_S1x128) broadcasts_S1x128_S2048x128) x)

/-- A channel of a block, convolved. -/
abbrev convOf (x : FVec Ideal S2048x128 .f32) (w : FVec Ideal S4x128 .f32) (l : Fin 128) : Series :=
  conv4 (w (ix2 0 l)) (w (ix2 1 l)) (w (ix2 2 l)) (w (ix2 3 l)) fun t => x (ix2 t l)

theorem convBlock_apply (x : FVec Ideal S2048x128 .f32) (w : FVec Ideal S4x128 .f32) (r : Fin 2048) (l : Fin 128) :
    convBlock x (prior 3#32 x) (prior 2#32 x) (prior 1#32 x) w (ix2 r l) = convOf x w l r := by
  pointwise [convBlock]
  rw [three_ago, two_ago, one_ago]
  rfl

/-- What the body writes in its block, channel by channel. -/
theorem block_apply (x : FVec Ideal S2048x128 .f32) (w : FVec Ideal S4x128 .f32) (r : Fin 2048) (l : Fin 128) :
    k0_pay1 (F := Ideal) x w (ix2 r l) = smooth (convOf x w l) r := by
  have e : k0_pay1 (F := Ideal) x w = mulf (convBlock x (prior 3#32 x) (prior 2#32 x) (prior 1#32 x) w) (logistic (convBlock x (prior 3#32 x) (prior 2#32 x) (prior 1#32 x) w)) := rfl
  rw [e]
  pointwise []
  rw [convBlock_apply]
  rfl

variable (m : (ℓ : Loc nD τ sig) → Buf (Elt Ideal) ℓ)

/-- The column of blocks among the projections that a grid point reads. -/
abbrev source (t : ℕ) : ℕ := if t / 2 < 2 then 14 + t / 2 else 18 + t / 2

/-- Where each window stands at a grid point. -/
theorem idx : ∀ t : Fin cfg0.N, win0_0.index t = ![t.val % 2, source t.val] ∧ win0_1.index t = ![0, t.val / 2] ∧ win0_2.index t = ![t.val % 2, t.val / 2] :=
  (by decide +kernel : ∀ t : Fin grid0.N, _)

/-- The sequence a grid point works on. -/
abbrev seqOf (t : Fin cfg0.N) : Fin 2 := ⟨t.val % 2, by omega⟩

/-- A channel of a grid point. -/
abbrev chan (t : Fin cfg0.N) (l : Fin 128) : Fin 1536 := ⟨t.val / 2 * 128 + l.val, by have : t.val < 24 := t.isLt; omega⟩

/-- The place of a channel, as the grid point reads it. -/
theorem place_chan (t : Fin cfg0.N) (l : Fin 128) : (place (chan t l)).val = source t.val * 128 + l.val := by
  have hlt : t.val < 24 := t.isLt
  unfold place source
  by_cases h : t.val / 2 < 2
  · rw [if_pos h, dif_pos (by show t.val / 2 * 128 + l.val < 256; omega)]
    show 1792 + (t.val / 2 * 128 + l.val) = _
    omega
  · rw [if_neg h, dif_neg (by show ¬ t.val / 2 * 128 + l.val < 256; omega)]
    show 2560 + (t.val / 2 * 128 + l.val - 256) = _
    omega

theorem chan_conv (c : Dev nD) (t : Fin cfg0.N) (l : Fin 128) :
    convOf (iblk m c 0 t) (iblk m c 1 t) l = convolved (m ((c : Thread nD τ).loc main_arg0)) (m ((c : Thread nD τ).loc main_arg1)) (seqOf t) (chan t l) := by
  have hlt : t.val < 24 := t.isLt
  refine congr (congr (congr (congr (congrArg conv4 ?_) ?_) ?_) ?_) (funext fun k => ?_)
  all_goals blk_point [iblk, V, idx t]
  exact (place_chan t l).symm

/-- The result array is the reference's. -/
theorem final2 (c : Dev nD) : (dats m 0 c).arrAt 2 (cfgs 0).N = Cert.DnPreFwdRefIdeal.Read.val_main_v36 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  have hlt : t.val < 24 := t.isLt
  obtain ⟨r, l, rfl⟩ : ∃ (r : Fin 2048) (l : Fin 128), y = ix2 r l := ⟨y 0, y 1, by funext a; match a with | ⟨0, _⟩ => rfl | ⟨1, _⟩ => rfl⟩
  rw [show ((View.whole main_v0).slice (win0_2.rect t)).emb (ix2 r l) = ix2 (⟨(seqOf t).val * 2048 + r.val, by omega⟩ : Fin 4096) (chan t l) by blk_ext [idx t],
    Cert.DnPreFwdRefIdeal.Value.result_apply]
  exact (block_apply _ _ r l).trans (congrFun (congrArg smooth (chan_conv m c t l)) r)

end Cert.DnPreFwdIdeal.Value

namespace Cert.DnPreFwdIdeal.Claim

open Idealize.ShloMosaic Idealize.ShloMosaic.TcCoe Idealize.SL.Sem

/-- The call computes what the reference computes. -/
theorem algebraic : Cert.algebraic_DnPreFwdIdeal_DnPreFwdRefIdeal (hDnPreFwdIdeal := Cert.DnPreFwdIdeal.Gen.facts) (hDnPreFwdRefIdeal := Cert.DnPreFwdRefIdeal.Gen.facts) := by
  intro m g m' g' _ h
  refine ⟨fun c => Cert.DnPreFwdRefIdeal.Read.val_main_v36 (F := Ideal) (m (c.tc.loc Cert.DnPreFwdIdeal.main_arg0)) (m (c.tc.loc Cert.DnPreFwdIdeal.main_arg1)), ?_, ?_⟩
  · exact (θ_run _ _ _).mono (fun r hr c => ⟨(hr c).1.trans (Cert.DnPreFwdIdeal.Value.final2 m c), (hr c).2⟩) (Cert.DnPreFwdIdeal.Value.run_blocks m g)
  · refine (θ_run _ _ _).mono (fun r hr c => ⟨(hr c).1.trans ?_, (hr c).2⟩) (Cert.DnPreFwdRefIdeal.Value.run m' g')
    rw [Cert.DnPreFwdRefIdeal.Read.val_main_v36_eq, (h c).1, (h c).2]

end Cert.DnPreFwdIdeal.Claim

end
-- ==== Proof.Stores.lean ====
module

public import Idealize.ShloMosaic.Lib.Pipeline.ValueKit

@[expose] public section

/-! A buffer filled by stores of different sizes, read at an index. -/

noncomputable section

namespace Cert.Stores

open Idealize.ShloMosaic

variable {Val : EltTy → Type} [∀ e, Nonempty (Val e)] {S : Shape} {e : EltTy}

/-- The last store decides where it holds the index, the earlier ones elsewhere. -/
theorem last_or (off size : Fin S.rank → Nat) (inb : ∀ a, off a + size a ≤ S.size a) (w : (Rect.unit off size inb).shape.Idx → Val e)
    (L : List (View.Piece Val S e)) (y : S.Idx) (v : Val e) (h : View.TileAt y off size w v)
    (hL : ¬(∀ a, off a ≤ (y a).val ∧ (y a).val < off a + size a) → View.canon L y = v) :
    View.canon ((⟨Rect.unit off size inb, w⟩ : View.Piece Val S e) :: L) y = v := by
  by_cases hm : y ∈ (Rect.unit off size inb).set
  · obtain ⟨x, hx⟩ := (Rect.unit off size inb).exists_idx_of_mem hm
    subst hx
    rw [show (Rect.unit off size inb).idx x = (Rect.unit off size inb).emb x from rfl, View.canon_cons_emb]
    exact h x fun a => Rect.idx_unit_val off size inb x a
  · rw [View.canon_cons_of_not_mem _ _ hm]
    refine hL fun hy => hm ?_
    have e : (Rect.unit off size inb).idx (fun a => ⟨(y a).val - off a, by have := hy a; show (y a).val - off a < size a; omega⟩) = y :=
      funext fun a => Fin.ext (by rw [Rect.idx_unit_val]; have := hy a; show off a + ((y a).val - off a) = (y a).val; omega)
    exact e ▸ (Rect.unit off size inb).idx_mem _

end Cert.Stores

end
-- ==== Proof.WInPaddedValue.lean ====
module

public import proofs.«01_k».proof.Defs
public import proofs.«01_k».proof.Proof.Stores
public import proofs.«01_k».proof.Proof.Gen.WInPaddedIdeal.Frame
public import proofs.«01_k».proof.Proof.Gen.WInPaddedIdeal.Value
public import proofs.«01_k».proof.Proof.Gen.WInPaddedRefIdeal.Run
public import proofs.«01_k».proof.Proof.Gen.WInPaddedRefIdeal.Read
public import Idealize.ShloMosaic.Lib.Pipeline.ValueKit
public import Idealize.ShloMosaic.Lib.Pointwise

@[expose] public section

set_option maxRecDepth 16384

/-! The columns of w_in, laid out as the version keeps them. -/

noncomputable section

namespace Cert.WInPaddedRefIdeal.Value

open Cert.WInPaddedRefIdeal Cert.WInPaddedRefIdeal.Gen Cert.WInPaddedRefIdeal.Read Idealize.ShloMosaic Idealize.ShloMosaic.TcCoe

variable (x : FVec Ideal S4x1024x902 .bf16)

/-- A column among all the chips' columns. -/
abbrev column (i : Fin 1024) (k : Fin 3608) : EReal := x (ix3 ⟨k.val / 902, by omega⟩ i ⟨k.val % 902, by omega⟩)

theorem v1_apply (i : Fin 1024) (k : Fin 3608) : val_main_v1 (F := Ideal) x (ix2 i k) = column x i k := by
  pointwise [val_main_v1, val_main_v0]

/-- Which of the chips' columns a column holds: columns of w_in from `b` on from column `a` of the layout on. -/
def Holds (a b n : ℕ) (k : Fin 3840) (k' : Fin 3608) : Prop := a ≤ k.val ∧ k.val < a + n ∧ k'.val = k.val - a + b

/-- The columns of the layout that hold a chip's. -/
def Run (k : Fin 3840) (k' : Fin 3608) : Prop :=
  Holds 0 2056 1536 k k' ∨ Holds 1536 2048 8 k k' ∨ Holds 1544 3592 16 k k' ∨ Holds 1792 0 256 k k' ∨ Holds 2048 1536 512 k k' ∨ Holds 2560 256 1280 k k'

theorem v10_apply (i : Fin 1024) (k : Fin 3840) (k' : Fin 3608) (h : Run k k') : val_main_v10 (F := Ideal) x (ix2 i k) = column x i k' := by
  unfold Run Holds at h
  pointwise [val_main_v10, val_main_v3, val_main_v4, val_main_v5, val_main_v6, val_main_v7, val_main_v8, val_main_v9, val_main_v2, val_main_cst]
  rw [← v1_apply]
  split_ifs
  all_goals first
    | exact absurd h (by omega)
    | exact congrArg (fun q => val_main_v1 (F := Ideal) x (ix2 i q)) (Fin.ext (by simp only []; omega))

theorem v10_padding (i : Fin 1024) (k : Fin 3840) (h : 1560 ≤ k.val) (h' : k.val < 1792) : val_main_v10 (F := Ideal) x (ix2 i k) = 0 := by
  pointwise [val_main_v10, val_main_v3, val_main_v4, val_main_v5, val_main_v6, val_main_v7, val_main_v8, val_main_v9, val_main_v2, val_main_cst]
  rw [dif_neg (by omega), dif_neg (by omega), dif_neg (by omega), dif_pos (by omega)]

/-- A column of one chip, among all. -/
theorem column_chip (i : Fin 1024) (j : Fin 4) (q : Fin 902) (k : Fin 3608) (h : k.val = j.val * 902 + q.val) : column x i k = x (ix3 j i q) := by
  have e₁ : (⟨k.val / 902, by omega⟩ : Fin 4) = j := Fin.ext (by show k.val / 902 = j.val; omega)
  have e₂ : (⟨k.val % 902, by omega⟩ : Fin 902) = q := Fin.ext (by show k.val % 902 = q.val; omega)
  rw [column, e₁, e₂]

end Cert.WInPaddedRefIdeal.Value

namespace Cert.WInPaddedIdeal.Value

open Cert.WInPaddedIdeal Cert.WInPaddedIdeal.Gen Idealize.ShloMosaic Idealize.ShloMosaic.TcCoe
open Idealize.ShloMosaic.Pipeline (Dat)

variable (m : (ℓ : Loc nD τ sig) → Buf (Elt Ideal) ℓ)

/-- Where each window stands at a grid point. -/
theorem idx : ∀ t : Fin cfg0.N, win0_0.index t = ![0, t.val, 0] ∧ win0_1.index t = ![t.val, 0] :=
  (by decide +kernel : ∀ t : Fin grid0.N, _)

theorem piece (c : Dev nD) (t : Fin cfg0.N) (r : Fin 256) (l : Fin 3840) (j : Fin 4) (q : Fin 902) (k' : Fin 3608) (v : EReal) (hv : v = iblk m c 0 t (ix3 j r q))
    (h : Cert.WInPaddedRefIdeal.Value.Run l k') (hk : k'.val = j.val * 902 + q.val) :
    v = Cert.WInPaddedRefIdeal.Read.val_main_v10 (F := Ideal) (m ((c : Thread nD τ).loc main_arg0)) (ix2 (⟨t.val * 256 + r.val, by have : t.val < 4 := t.isLt; omega⟩ : Fin 1024) l) := by
  have hlt : t.val < 4 := t.isLt
  rw [hv, Cert.WInPaddedRefIdeal.Value.v10_apply _ _ _ _ h, Cert.WInPaddedRefIdeal.Value.column_chip _ _ _ _ _ hk]
  blk_point [iblk, V, idx t]

/-- The result array is the reference's. -/
theorem final1 (c : Dev nD) : (dats m 0 c).arrAt 1 (cfgs 0).N = Cert.WInPaddedRefIdeal.Read.val_main_v10 (F := Ideal) (m ((c : Thread nD τ).loc main_arg0)) := by
  refine (dats m 0 c).arrAt_eq_of_covers 1 _ (by decide +kernel) fun t hf y => ?_
  blk_simp
  rw [after0_1]; unfold outsAt0; frame_out
  have hlt : t.val < 4 := t.isLt
  obtain ⟨r, l, rfl⟩ : ∃ (r : Fin 256) (l : Fin 3840), y = ix2 r l := ⟨y 0, y 1, by funext a; match a with | ⟨0, _⟩ => rfl | ⟨1, _⟩ => rfl⟩
  rw [show ((View.whole main_v0).slice (win0_1.rect t)).emb (ix2 r l) = ix2 (⟨t.val * 256 + r.val, by omega⟩ : Fin 1024) l by blk_ext [idx t]]
  refine Cert.Stores.last_or _ _ _ _ _ _ _ ?_ fun n0 => ?_
  · tile_intro x h
    obtain ⟨r', q, rfl⟩ : ∃ (r' : Fin 256) (q : Fin 16), x = ix2 r' q := ⟨x 0, x 1, by funext a; match a with | ⟨0, _⟩ => rfl | ⟨1, _⟩ => rfl⟩
    obtain rfl : r = r' := Fin.ext h0
    have hl : l.val = 1544 + q.val := h1
    exact piece m c t r l 3 ⟨886 + q.val, by omega⟩ ⟨3 * 902 + (886 + q.val), by omega⟩ _ (by pointwise [k0_pay3]) (by unfold Cert.WInPaddedRefIdeal.Value.Run Cert.WInPaddedRefIdeal.Value.Holds; simp only []; omega) rfl
  have l0 : ¬(1544 ≤ l.val ∧ l.val < 1544 + 16) := fun e => n0 fun a => match a with | ⟨0, _⟩ => ⟨Nat.zero_le _, by show r.val < 0 + 256; omega⟩ | ⟨1, _⟩ => e
  refine Cert.Stores.last_or _ _ _ _ _ _ _ ?_ fun n1 => ?_
  · tile_intro x h
    obtain ⟨r', q, rfl⟩ : ∃ (r' : Fin 256) (q : Fin 886), x = ix2 r' q := ⟨x 0, x 1, by funext a; match a with | ⟨0, _⟩ => rfl | ⟨1, _⟩ => rfl⟩
    obtain rfl : r = r' := Fin.ext h0
    have hl : l.val = 650 + q.val := h1
    exact piece m c t r l 3 ⟨q.val, by omega⟩ ⟨3 * 902 + q.val, by omega⟩ _ (by pointwise [k0_pay2]) (by unfold Cert.WInPaddedRefIdeal.Value.Run Cert.WInPaddedRefIdeal.Value.Holds; simp only []; omega) rfl
  have l1 : ¬(650 ≤ l.val ∧ l.val < 650 + 886) := fun e => n1 fun a => match a with | ⟨0, _⟩ => ⟨Nat.zero_le _, by show r.val < 0 + 256; omega⟩ | ⟨1, _⟩ => e
  refine Cert.Stores.last_or _ _ _ _ _ _ _ ?_ fun n2 => ?_
  · tile_intro x h
    obtain ⟨r', q, rfl⟩ : ∃ (r' : Fin 256) (q : Fin 650), x = ix2 r' q := ⟨x 0, x 1, by funext a; match a with | ⟨0, _⟩ => rfl | ⟨1, _⟩ => rfl⟩
    obtain rfl : r = r' := Fin.ext h0
    have hl : l.val = q.val := h1
    exact piece m c t r l 2 ⟨252 + q.val, by omega⟩ ⟨2 * 902 + (252 + q.val), by omega⟩ _ (by pointwise [k0_pay1]) (by unfold Cert.WInPaddedRefIdeal.Value.Run Cert.WInPaddedRefIdeal.Value.Holds; simp only []; omega) rfl
  have l2 : ¬(0 ≤ l.val ∧ l.val < 0 + 650) := fun e => n2 fun a => match a with | ⟨0, _⟩ => ⟨Nat.zero_le _, by show r.val < 0 + 256; omega⟩ | ⟨1, _⟩ => e
  refine Cert.Stores.last_or _ _ _ _ _ _ _ ?_ fun n3 => ?_
  · tile_intro x h
    obtain ⟨r', q, rfl⟩ : ∃ (r' : Fin 256) (q : Fin 8), x = ix2 r' q := ⟨x 0, x 1, by funext a; match a with | ⟨0, _⟩ => rfl | ⟨1, _⟩ => rfl⟩
    obtain rfl : r = r' := Fin.ext h0
    have hl : l.val = 1536 + q.val := h1
    exact piece m c t r l 2 ⟨244 + q.val, by omega⟩ ⟨2 * 902 + (244 + q.val), by omega⟩ _ (by pointwise [k0_pay10]) (by unfold Cert.WInPaddedRefIdeal.Value.Run Cert.WInPaddedRefIdeal.Value.Holds; simp only []; omega) rfl
  have l3 : ¬(1536 ≤ l.val ∧ l.val < 1536 + 8) := fun e => n3 fun a => match a with | ⟨0, _⟩ => ⟨Nat.zero_le _, by show r.val < 0 + 256; omega⟩ | ⟨1, _⟩ => e
  refine Cert.Stores.last_or _ _ _ _ _ _ _ ?_ fun n4 => ?_
  · tile_intro x h
    obtain ⟨r', q, rfl⟩ : ∃ (r' : Fin 256) (q : Fin 244), x = ix2 r' q := ⟨x 0, x 1, by funext a; match a with | ⟨0, _⟩ => rfl | ⟨1, _⟩ => rfl⟩
    obtain rfl : r = r' := Fin.ext h0
    have hl : l.val = 2316 + q.val := h1
    exact piece m c t r l 2 ⟨q.val, by omega⟩ ⟨2 * 902 + q.val, by omega⟩ _ (by pointwise [k0_pay9]) (by unfold Cert.WInPaddedRefIdeal.Value.Run Cert.WInPaddedRefIdeal.Value.Holds; simp only []; omega) rfl
  have l4 : ¬(2316 ≤ l.val ∧ l.val < 2316 + 244) := fun e => n4 fun a => match a with | ⟨0, _⟩ => ⟨Nat.zero_le _, by show r.val < 0 + 256; omega⟩ | ⟨1, _⟩ => e
  refine Cert.Stores.last_or _ _ _ _ _ _ _ ?_ fun n5 => ?_
  · tile_intro x h
    obtain ⟨r', q, rfl⟩ : ∃ (r' : Fin 256) (q : Fin 268), x = ix2 r' q := ⟨x 0, x 1, by funext a; match a with | ⟨0, _⟩ => rfl | ⟨1, _⟩ => rfl⟩
    obtain rfl : r = r' := Fin.ext h0
    have hl : l.val = 2048 + q.val := h1
    exact piece m c t r l 1 ⟨634 + q.val, by omega⟩ ⟨1 * 902 + (634 + q.val), by omega⟩ _ (by pointwise [k0_pay8]) (by unfold Cert.WInPaddedRefIdeal.Value.Run Cert.WInPaddedRefIdeal.Value.Holds; simp only []; omega) rfl
  have l5 : ¬(2048 ≤ l.val ∧ l.val < 2048 + 268) := fun e => n5 fun a => match a with | ⟨0, _⟩ => ⟨Nat.zero_le _, by show r.val < 0 + 256; omega⟩ | ⟨1, _⟩ => e
  refine Cert.Stores.last_or _ _ _ _ _ _ _ ?_ fun n6 => ?_
  · tile_intro x h
    obtain ⟨r', q, rfl⟩ : ∃ (r' : Fin 256) (q : Fin 634), x = ix2 r' q := ⟨x 0, x 1, by funext a; match a with | ⟨0, _⟩ => rfl | ⟨1, _⟩ => rfl⟩
    obtain rfl : r = r' := Fin.ext h0
    have hl : l.val = 3206 + q.val := h1
    exact piece m c t r l 1 ⟨q.val, by omega⟩ ⟨1 * 902 + q.val, by omega⟩ _ (by pointwise [k0_pay7]) (by unfold Cert.WInPaddedRefIdeal.Value.Run Cert.WInPaddedRefIdeal.Value.Holds; simp only []; omega) rfl
  have l6 : ¬(3206 ≤ l.val ∧ l.val < 3206 + 634) := fun e => n6 fun a => match a with | ⟨0, _⟩ => ⟨Nat.zero_le _, by show r.val < 0 + 256; omega⟩ | ⟨1, _⟩ => e
  refine Cert.Stores.last_or _ _ _ _ _ _ _ ?_ fun n7 => ?_
  · tile_intro x h
    obtain ⟨r', q, rfl⟩ : ∃ (r' : Fin 256) (q : Fin 646), x = ix2 r' q := ⟨x 0, x 1, by funext a; match a with | ⟨0, _⟩ => rfl | ⟨1, _⟩ => rfl⟩
    obtain rfl : r = r' := Fin.ext h0
    have hl : l.val = 2560 + q.val := h1
    exact piece m c t r l 0 ⟨256 + q.val, by omega⟩ ⟨0 * 902 + (256 + q.val), by omega⟩ _ (by pointwise [k0_pay6]) (by unfold Cert.WInPaddedRefIdeal.Value.Run Cert.WInPaddedRefIdeal.Value.Holds; simp only []; omega) rfl
  have l7 : ¬(2560 ≤ l.val ∧ l.val < 2560 + 646) := fun e => n7 fun a => match a with | ⟨0, _⟩ => ⟨Nat.zero_le _, by show r.val < 0 + 256; omega⟩ | ⟨1, _⟩ => e
  refine Cert.Stores.last_or _ _ _ _ _ _ _ ?_ fun n8 => ?_
  · tile_intro x h
    obtain ⟨r', q, rfl⟩ : ∃ (r' : Fin 256) (q : Fin 256), x = ix2 r' q := ⟨x 0, x 1, by funext a; match a with | ⟨0, _⟩ => rfl | ⟨1, _⟩ => rfl⟩
    obtain rfl : r = r' := Fin.ext h0
    have hl : l.val = 1792 + q.val := h1
    exact piece m c t r l 0 ⟨q.val, by omega⟩ ⟨0 * 902 + q.val, by omega⟩ _ (by pointwise [k0_pay5]) (by unfold Cert.WInPaddedRefIdeal.Value.Run Cert.WInPaddedRefIdeal.Value.Holds; simp only []; omega) rfl
  have l8 : ¬(1792 ≤ l.val ∧ l.val < 1792 + 256) := fun e => n8 fun a => match a with | ⟨0, _⟩ => ⟨Nat.zero_le _, by show r.val < 0 + 256; omega⟩ | ⟨1, _⟩ => e
  refine Cert.Stores.last_or _ _ _ _ _ _ _ ?_ fun n9 => ?_
  · tile_intro x h
    rw [Cert.WInPaddedRefIdeal.Value.v10_padding _ _ l (by omega) (by omega)]
    pointwise [k0_pay4]
  exact absurd (fun a => match a with | ⟨0, _⟩ => ⟨Nat.zero_le _, by show r.val < 0 + 256; omega⟩ | ⟨1, _⟩ => ⟨Nat.zero_le _, by show l.val < 0 + 3840; omega⟩) n9

end Cert.WInPaddedIdeal.Value

namespace Cert.WInPaddedIdeal.Claim

open Idealize.ShloMosaic Idealize.ShloMosaic.TcCoe Idealize.SL.Sem

/-- The call computes what the reference computes. -/
theorem algebraic : Cert.algebraic_WInPaddedIdeal_WInPaddedRefIdeal (hWInPaddedIdeal := Cert.WInPaddedIdeal.Gen.facts) (hWInPaddedRefIdeal := Cert.WInPaddedRefIdeal.Gen.facts) := by
  intro m g m' g' _ h
  refine ⟨fun c => Cert.WInPaddedRefIdeal.Read.val_main_v10 (F := Ideal) (m (c.tc.loc Cert.WInPaddedIdeal.main_arg0)), ?_, ?_⟩
  · refine (θ_run _ _ _).mono (fun r hr c => ⟨(hr c).1.trans (Cert.WInPaddedIdeal.Value.final1 m c), (hr c).2⟩)
      (Cert.WInPaddedIdeal.Value.run_blocks m g)
  · refine (θ_run _ _ _).mono (fun r hr c => ⟨(hr c).1.trans ?_, (hr c).2⟩) (Cert.WInPaddedRefIdeal.Value.run m' g')
    refine (Cert.WInPaddedRefIdeal.Read.val_main_v10_eq _).trans ?_
    show Cert.WInPaddedRefIdeal.Read.val_main_v10 (F := Ideal) (m' (c.tc.loc Cert.WInPaddedRefIdeal.main_arg0)) = _
    rw [h c]

end Cert.WInPaddedIdeal.Claim

end
-- ==== Proof.WInChipsValue.lean ====
module

public import proofs.«01_k».proof.Defs
public import proofs.«01_k».proof.Proof.Stores
public import proofs.«01_k».proof.Proof.Gen.WInChipsIdeal.Frame
public import proofs.«01_k».proof.Proof.Gen.WInChipsIdeal.Value
public import proofs.«01_k».proof.Proof.Gen.WInChipsRefIdeal.Run
public import proofs.«01_k».proof.Proof.Gen.WInChipsRefIdeal.Read
public import Idealize.ShloMosaic.Lib.Pipeline.ValueKit
public import Idealize.ShloMosaic.Lib.Pointwise

@[expose] public section

set_option maxRecDepth 16384

/-! The columns of w_in's gradient, given back to the chips. -/

noncomputable section

namespace Cert.WInChipsRefIdeal.Value

open Cert.WInChipsRefIdeal Cert.WInChipsRefIdeal.Gen Cert.WInChipsRefIdeal.Read Idealize.ShloMosaic Idealize.ShloMosaic.TcCoe

variable (x : FVec Ideal S1024x3840 .f32)

/-- Columns of w_in from `b` on stand from column `a` of the layout on. -/
def Holds (a b n k l : ℕ) : Prop := b ≤ k ∧ k < b + n ∧ l = k - b + a

/-- Where the layout holds a column of w_in. -/
def Run (k l : ℕ) : Prop :=
  Holds 1792 0 256 k l ∨ Holds 2560 256 1280 k l ∨ Holds 2048 1536 512 k l ∨ Holds 1536 2048 8 k l ∨ Holds 0 2056 1536 k l ∨ Holds 1544 3592 16 k l

theorem v8_apply (j : Fin 4) (i : Fin 1024) (q : Fin 902) (l : Fin 3840) (h : Run (j.val * 902 + q.val) l.val) : val_main_v8 (F := Ideal) x (ix3 j i q) = x (ix2 i l) := by
  unfold Run Holds at h
  pointwise [val_main_v8, val_main_v7, val_main_v6, val_main_v5, val_main_v4, val_main_v3, val_main_v2, val_main_v1, val_main_v0]
  split_ifs
  all_goals exact congrArg (fun k => x (ix2 i k)) (Fin.ext (by simp only []; omega))

end Cert.WInChipsRefIdeal.Value

namespace Cert.WInChipsIdeal.Value

open Cert.WInChipsIdeal Cert.WInChipsIdeal.Gen Idealize.ShloMosaic Idealize.ShloMosaic.TcCoe
open Idealize.ShloMosaic.Pipeline (Dat)

variable (m : (ℓ : Loc nD τ sig) → Buf (Elt Ideal) ℓ)

/-- Where each window stands at a grid point. -/
theorem idx : ∀ t : Fin cfg0.N, win0_0.index t = ![t.val, 0] ∧ win0_1.index t = ![0, t.val, 0] :=
  (by decide +kernel : ∀ t : Fin grid0.N, _)

theorem piece (c : Dev nD) (t : Fin cfg0.N) (j : Fin 4) (r : Fin 256) (q : Fin 902) (l : Fin 3840) (v : EReal) (hv : v = iblk m c 0 t (ix2 r l))
    (h : Cert.WInChipsRefIdeal.Value.Run (j.val * 902 + q.val) l.val) :
    v = Cert.WInChipsRefIdeal.Read.val_main_v8 (F := Ideal) (m ((c : Thread nD τ).loc main_arg0)) (ix3 j (⟨t.val * 256 + r.val, by have : t.val < 4 := t.isLt; omega⟩ : Fin 1024) q) := by
  have hlt : t.val < 4 := t.isLt
  rw [hv, Cert.WInChipsRefIdeal.Value.v8_apply _ _ _ _ l h]
  blk_point [iblk, V, idx t]

/-- The result array is the reference's. -/
theorem final1 (c : Dev nD) : (dats m 0 c).arrAt 1 (cfgs 0).N = Cert.WInChipsRefIdeal.Read.val_main_v8 (F := Ideal) (m ((c : Thread nD τ).loc main_arg0)) := by
  refine (dats m 0 c).arrAt_eq_of_covers 1 _ (by decide +kernel) fun t hf y => ?_
  blk_simp
  rw [after0_1]; unfold outsAt0; frame_out
  have hlt : t.val < 4 := t.isLt
  obtain ⟨j, r, q, rfl⟩ : ∃ (j : Fin 4) (r : Fin 256) (q : Fin 902), y = ix3 j r q := ⟨y 0, y 1, y 2, by funext a; match a with | ⟨0, _⟩ => rfl | ⟨1, _⟩ => rfl | ⟨2, _⟩ => rfl⟩
  rw [show ((View.whole main_v0).slice (win0_1.rect t)).emb (ix3 j r q) = ix3 j (⟨t.val * 256 + r.val, by omega⟩ : Fin 1024) q by blk_ext [idx t]]
  refine Cert.Stores.last_or _ _ _ _ _ _ _ ?_ fun n0 => ?_
  · tile_intro x h
    obtain ⟨z, r', q', rfl⟩ : ∃ (z : Fin 1) (r' : Fin 256) (q' : Fin 16), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 3 := h0
    have hq : q.val = 886 + q'.val := h2
    exact piece m c t j r q ⟨1544 + q'.val, by omega⟩ _ (by pointwise [k0_pay3]) (by unfold Cert.WInChipsRefIdeal.Value.Run Cert.WInChipsRefIdeal.Value.Holds; simp only []; omega)
  have l0 : ¬(j.val = 3 ∧ 886 ≤ q.val ∧ q.val < 886 + 16) := fun e => n0 fun a => match a with | ⟨0, _⟩ => ⟨by show 3 ≤ j.val; omega, by show j.val < 3 + 1; omega⟩ | ⟨1, _⟩ => ⟨Nat.zero_le _, by show r.val < 0 + 256; omega⟩ | ⟨2, _⟩ => e.2
  refine Cert.Stores.last_or _ _ _ _ _ _ _ ?_ fun n1 => ?_
  · tile_intro x h
    obtain ⟨z, r', q', rfl⟩ : ∃ (z : Fin 1) (r' : Fin 256) (q' : Fin 886), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 3 := h0
    have hq : q.val = q'.val := h2
    exact piece m c t j r q ⟨650 + q'.val, by omega⟩ _ (by pointwise [k0_pay2]) (by unfold Cert.WInChipsRefIdeal.Value.Run Cert.WInChipsRefIdeal.Value.Holds; simp only []; omega)
  have l1 : ¬(j.val = 3 ∧ 0 ≤ q.val ∧ q.val < 0 + 886) := fun e => n1 fun a => match a with | ⟨0, _⟩ => ⟨by show 3 ≤ j.val; omega, by show j.val < 3 + 1; omega⟩ | ⟨1, _⟩ => ⟨Nat.zero_le _, by show r.val < 0 + 256; omega⟩ | ⟨2, _⟩ => e.2
  refine Cert.Stores.last_or _ _ _ _ _ _ _ ?_ fun n2 => ?_
  · tile_intro x h
    obtain ⟨z, r', q', rfl⟩ : ∃ (z : Fin 1) (r' : Fin 256) (q' : Fin 650), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 2 := h0
    have hq : q.val = 252 + q'.val := h2
    exact piece m c t j r q ⟨q'.val, by omega⟩ _ (by pointwise [k0_pay1]) (by unfold Cert.WInChipsRefIdeal.Value.Run Cert.WInChipsRefIdeal.Value.Holds; simp only []; omega)
  have l2 : ¬(j.val = 2 ∧ 252 ≤ q.val ∧ q.val < 252 + 650) := fun e => n2 fun a => match a with | ⟨0, _⟩ => ⟨by show 2 ≤ j.val; omega, by show j.val < 2 + 1; omega⟩ | ⟨1, _⟩ => ⟨Nat.zero_le _, by show r.val < 0 + 256; omega⟩ | ⟨2, _⟩ => e.2
  refine Cert.Stores.last_or _ _ _ _ _ _ _ ?_ fun n3 => ?_
  · tile_intro x h
    obtain ⟨z, r', q', rfl⟩ : ∃ (z : Fin 1) (r' : Fin 256) (q' : Fin 8), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 2 := h0
    have hq : q.val = 244 + q'.val := h2
    exact piece m c t j r q ⟨1536 + q'.val, by omega⟩ _ (by pointwise [k0_pay9]) (by unfold Cert.WInChipsRefIdeal.Value.Run Cert.WInChipsRefIdeal.Value.Holds; simp only []; omega)
  have l3 : ¬(j.val = 2 ∧ 244 ≤ q.val ∧ q.val < 244 + 8) := fun e => n3 fun a => match a with | ⟨0, _⟩ => ⟨by show 2 ≤ j.val; omega, by show j.val < 2 + 1; omega⟩ | ⟨1, _⟩ => ⟨Nat.zero_le _, by show r.val < 0 + 256; omega⟩ | ⟨2, _⟩ => e.2
  refine Cert.Stores.last_or _ _ _ _ _ _ _ ?_ fun n4 => ?_
  · tile_intro x h
    obtain ⟨z, r', q', rfl⟩ : ∃ (z : Fin 1) (r' : Fin 256) (q' : Fin 244), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 2 := h0
    have hq : q.val = q'.val := h2
    exact piece m c t j r q ⟨2316 + q'.val, by omega⟩ _ (by pointwise [k0_pay8]) (by unfold Cert.WInChipsRefIdeal.Value.Run Cert.WInChipsRefIdeal.Value.Holds; simp only []; omega)
  have l4 : ¬(j.val = 2 ∧ 0 ≤ q.val ∧ q.val < 0 + 244) := fun e => n4 fun a => match a with | ⟨0, _⟩ => ⟨by show 2 ≤ j.val; omega, by show j.val < 2 + 1; omega⟩ | ⟨1, _⟩ => ⟨Nat.zero_le _, by show r.val < 0 + 256; omega⟩ | ⟨2, _⟩ => e.2
  refine Cert.Stores.last_or _ _ _ _ _ _ _ ?_ fun n5 => ?_
  · tile_intro x h
    obtain ⟨z, r', q', rfl⟩ : ∃ (z : Fin 1) (r' : Fin 256) (q' : Fin 268), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 1 := h0
    have hq : q.val = 634 + q'.val := h2
    exact piece m c t j r q ⟨2048 + q'.val, by omega⟩ _ (by pointwise [k0_pay7]) (by unfold Cert.WInChipsRefIdeal.Value.Run Cert.WInChipsRefIdeal.Value.Holds; simp only []; omega)
  have l5 : ¬(j.val = 1 ∧ 634 ≤ q.val ∧ q.val < 634 + 268) := fun e => n5 fun a => match a with | ⟨0, _⟩ => ⟨by show 1 ≤ j.val; omega, by show j.val < 1 + 1; omega⟩ | ⟨1, _⟩ => ⟨Nat.zero_le _, by show r.val < 0 + 256; omega⟩ | ⟨2, _⟩ => e.2
  refine Cert.Stores.last_or _ _ _ _ _ _ _ ?_ fun n6 => ?_
  · tile_intro x h
    obtain ⟨z, r', q', rfl⟩ : ∃ (z : Fin 1) (r' : Fin 256) (q' : Fin 634), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 1 := h0
    have hq : q.val = q'.val := h2
    exact piece m c t j r q ⟨3206 + q'.val, by omega⟩ _ (by pointwise [k0_pay6]) (by unfold Cert.WInChipsRefIdeal.Value.Run Cert.WInChipsRefIdeal.Value.Holds; simp only []; omega)
  have l6 : ¬(j.val = 1 ∧ 0 ≤ q.val ∧ q.val < 0 + 634) := fun e => n6 fun a => match a with | ⟨0, _⟩ => ⟨by show 1 ≤ j.val; omega, by show j.val < 1 + 1; omega⟩ | ⟨1, _⟩ => ⟨Nat.zero_le _, by show r.val < 0 + 256; omega⟩ | ⟨2, _⟩ => e.2
  refine Cert.Stores.last_or _ _ _ _ _ _ _ ?_ fun n7 => ?_
  · tile_intro x h
    obtain ⟨z, r', q', rfl⟩ : ∃ (z : Fin 1) (r' : Fin 256) (q' : Fin 646), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 0 := h0
    have hq : q.val = 256 + q'.val := h2
    exact piece m c t j r q ⟨2560 + q'.val, by omega⟩ _ (by pointwise [k0_pay5]) (by unfold Cert.WInChipsRefIdeal.Value.Run Cert.WInChipsRefIdeal.Value.Holds; simp only []; omega)
  have l7 : ¬(j.val = 0 ∧ 256 ≤ q.val ∧ q.val < 256 + 646) := fun e => n7 fun a => match a with | ⟨0, _⟩ => ⟨by show 0 ≤ j.val; omega, by show j.val < 0 + 1; omega⟩ | ⟨1, _⟩ => ⟨Nat.zero_le _, by show r.val < 0 + 256; omega⟩ | ⟨2, _⟩ => e.2
  refine Cert.Stores.last_or _ _ _ _ _ _ _ ?_ fun n8 => ?_
  · tile_intro x h
    obtain ⟨z, r', q', rfl⟩ : ∃ (z : Fin 1) (r' : Fin 256) (q' : Fin 256), x = ix3 z r' q' := ⟨x 0, x 1, x 2, by funext a; match a with | ⟨0, _⟩ => rfl | ⟨1, _⟩ => rfl | ⟨2, _⟩ => rfl⟩
    obtain rfl : z = 0 := Subsingleton.elim _ _
    obtain rfl : r = r' := Fin.ext h1
    have hj : j.val = 0 := h0
    have hq : q.val = q'.val := h2
    exact piece m c t j r q ⟨1792 + q'.val, by omega⟩ _ (by pointwise [k0_pay4]) (by unfold Cert.WInChipsRefIdeal.Value.Run Cert.WInChipsRefIdeal.Value.Holds; simp only []; omega)
  have l8 : ¬(j.val = 0 ∧ 0 ≤ q.val ∧ q.val < 0 + 256) := fun e => n8 fun a => match a with | ⟨0, _⟩ => ⟨by show 0 ≤ j.val; omega, by show j.val < 0 + 1; omega⟩ | ⟨1, _⟩ => ⟨Nat.zero_le _, by show r.val < 0 + 256; omega⟩ | ⟨2, _⟩ => e.2
  exact absurd j.isLt (by omega)

end Cert.WInChipsIdeal.Value

namespace Cert.WInChipsIdeal.Claim

open Idealize.ShloMosaic Idealize.ShloMosaic.TcCoe Idealize.SL.Sem

/-- The call computes what the reference computes. -/
theorem algebraic : Cert.algebraic_WInChipsIdeal_WInChipsRefIdeal (hWInChipsIdeal := Cert.WInChipsIdeal.Gen.facts) (hWInChipsRefIdeal := Cert.WInChipsRefIdeal.Gen.facts) := by
  intro m g m' g' _ h
  refine ⟨fun c => Cert.WInChipsRefIdeal.Read.val_main_v8 (F := Ideal) (m (c.tc.loc Cert.WInChipsIdeal.main_arg0)), ?_, ?_⟩
  · refine (θ_run _ _ _).mono (fun r hr c => ⟨(hr c).1.trans (Cert.WInChipsIdeal.Value.final1 m c), (hr c).2⟩)
      (Cert.WInChipsIdeal.Value.run_blocks m g)
  · refine (θ_run _ _ _).mono (fun r hr c => ⟨(hr c).1.trans ?_, (hr c).2⟩) (Cert.WInChipsRefIdeal.Value.run m' g')
    refine (Cert.WInChipsRefIdeal.Read.val_main_v8_eq _).trans ?_
    show Cert.WInChipsRefIdeal.Read.val_main_v8 (F := Ideal) (m' (c.tc.loc Cert.WInChipsRefIdeal.main_arg0)) = _
    rw [h c]

end Cert.WInChipsIdeal.Claim

end
-- ==== Proof.AdamUpValue.lean ====
module

public import proofs.«01_k».proof.Defs
public import proofs.«01_k».proof.Proof.Gen.AdamUpIdeal.Value
public import proofs.«01_k».proof.Proof.Gen.AdamUpRefIdeal.Run
public import Idealize.ShloMosaic.Lib.Pointwise

@[expose] public section

set_option maxRecDepth 16384

/-! The optimiser: the update block by block against the update of whole arrays. -/

noncomputable section

namespace Cert.AdamUpIdeal.Claim

open Cert.AdamUpIdeal Cert.AdamUpIdeal.Gen Cert.AdamUpIdeal.Value Idealize.ShloMosaic Idealize.ShloMosaic.TcCoe Idealize.SL.Sem

/-- The call computes what the reference computes: the update at every index. -/
theorem algebraic : Cert.algebraic_AdamUpIdeal_AdamUpRefIdeal (hAdamUpIdeal := Cert.AdamUpIdeal.Gen.facts) (hAdamUpRefIdeal := Cert.AdamUpRefIdeal.Gen.facts) := by
  intro m g m' g' _ h
  refine ⟨fun c => G4 (m (c.tc.loc main_arg0)) (m (c.tc.loc main_arg1)) (m (c.tc.loc main_arg2)) (m (c.tc.loc main_arg3)), fun c => G5 (m (c.tc.loc main_arg1)) (m (c.tc.loc main_arg2)), fun c => G6 (m (c.tc.loc main_arg1)) (m (c.tc.loc main_arg3)), Cert.AdamUpIdeal.Value.run m g, ?_⟩
  refine (θ_run _ _ _).mono (fun r hr c => ?_) (Cert.AdamUpRefIdeal.Value.run m' g')
  obtain ⟨h0, h1, h2, h3⟩ := h c
  obtain ⟨r0, r1, r2, kept⟩ := hr c
  refine ⟨r0.trans ?_, r1.trans ?_, r2.trans ?_, kept⟩ <;> simp only [h0, h1, h2, h3] <;> rfl

end Cert.AdamUpIdeal.Claim

end
-- ==== Proof.AdamDownValue.lean ====
module

public import proofs.«01_k».proof.Defs
public import proofs.«01_k».proof.Proof.Gen.AdamDownIdeal.Value
public import proofs.«01_k».proof.Proof.Gen.AdamDownRefIdeal.Run
public import Idealize.ShloMosaic.Lib.Pointwise

@[expose] public section

set_option maxRecDepth 16384

/-! The optimiser: the update block by block against the update of whole arrays. -/

noncomputable section

namespace Cert.AdamDownIdeal.Claim

open Cert.AdamDownIdeal Cert.AdamDownIdeal.Gen Cert.AdamDownIdeal.Value Idealize.ShloMosaic Idealize.ShloMosaic.TcCoe Idealize.SL.Sem

/-- The call computes what the reference computes: the update at every index. -/
theorem algebraic : Cert.algebraic_AdamDownIdeal_AdamDownRefIdeal (hAdamDownIdeal := Cert.AdamDownIdeal.Gen.facts) (hAdamDownRefIdeal := Cert.AdamDownRefIdeal.Gen.facts) := by
  intro m g m' g' _ h
  refine ⟨fun c => G4 (m (c.tc.loc main_arg0)) (m (c.tc.loc main_arg1)) (m (c.tc.loc main_arg2)) (m (c.tc.loc main_arg3)), fun c => G5 (m (c.tc.loc main_arg1)) (m (c.tc.loc main_arg2)), fun c => G6 (m (c.tc.loc main_arg1)) (m (c.tc.loc main_arg3)), Cert.AdamDownIdeal.Value.run m g, ?_⟩
  refine (θ_run _ _ _).mono (fun r hr c => ?_) (Cert.AdamDownRefIdeal.Value.run m' g')
  obtain ⟨h0, h1, h2, h3⟩ := h c
  obtain ⟨r0, r1, r2, kept⟩ := hr c
  refine ⟨r0.trans ?_, r1.trans ?_, r2.trans ?_, kept⟩ <;> simp only [h0, h1, h2, h3] <;> rfl

end Cert.AdamDownIdeal.Claim

end
-- ==== Proof.AdamWOValue.lean ====
module

public import proofs.«01_k».proof.Defs
public import proofs.«01_k».proof.Proof.Gen.AdamWOIdeal.Value
public import proofs.«01_k».proof.Proof.Gen.AdamWORefIdeal.Run
public import Idealize.ShloMosaic.Lib.Pointwise

@[expose] public section

set_option maxRecDepth 16384

/-! The optimiser: the update block by block against the update of whole arrays. -/

noncomputable section

namespace Cert.AdamWOIdeal.Claim

open Cert.AdamWOIdeal Cert.AdamWOIdeal.Gen Cert.AdamWOIdeal.Value Idealize.ShloMosaic Idealize.ShloMosaic.TcCoe Idealize.SL.Sem

/-- The call computes what the reference computes: the update at every index. -/
theorem algebraic : Cert.algebraic_AdamWOIdeal_AdamWORefIdeal (hAdamWOIdeal := Cert.AdamWOIdeal.Gen.facts) (hAdamWORefIdeal := Cert.AdamWORefIdeal.Gen.facts) := by
  intro m g m' g' _ h
  refine ⟨fun c => G4 (m (c.tc.loc main_arg0)) (m (c.tc.loc main_arg1)) (m (c.tc.loc main_arg2)) (m (c.tc.loc main_arg3)), fun c => G5 (m (c.tc.loc main_arg1)) (m (c.tc.loc main_arg2)), fun c => G6 (m (c.tc.loc main_arg1)) (m (c.tc.loc main_arg3)), Cert.AdamWOIdeal.Value.run m g, ?_⟩
  refine (θ_run _ _ _).mono (fun r hr c => ?_) (Cert.AdamWORefIdeal.Value.run m' g')
  obtain ⟨h0, h1, h2, h3⟩ := h c
  obtain ⟨r0, r1, r2, kept⟩ := hr c
  refine ⟨r0.trans ?_, r1.trans ?_, r2.trans ?_, kept⟩ <;> simp only [h0, h1, h2, h3] <;> rfl

end Cert.AdamWOIdeal.Claim

end
-- ==== Proof.AdamAdaValue.lean ====
module

public import proofs.«01_k».proof.Defs
public import proofs.«01_k».proof.Proof.Gen.AdamAdaIdeal.Value
public import proofs.«01_k».proof.Proof.Gen.AdamAdaRefIdeal.Run
public import Idealize.ShloMosaic.Lib.Pointwise

@[expose] public section

set_option maxRecDepth 16384

/-! The optimiser: the update block by block against the update of whole arrays. -/

noncomputable section

namespace Cert.AdamAdaIdeal.Claim

open Cert.AdamAdaIdeal Cert.AdamAdaIdeal.Gen Cert.AdamAdaIdeal.Value Idealize.ShloMosaic Idealize.ShloMosaic.TcCoe Idealize.SL.Sem

/-- The call computes what the reference computes: the update at every index. -/
theorem algebraic : Cert.algebraic_AdamAdaIdeal_AdamAdaRefIdeal (hAdamAdaIdeal := Cert.AdamAdaIdeal.Gen.facts) (hAdamAdaRefIdeal := Cert.AdamAdaRefIdeal.Gen.facts) := by
  intro m g m' g' _ h
  refine ⟨fun c => G4 (m (c.tc.loc main_arg0)) (m (c.tc.loc main_arg1)) (m (c.tc.loc main_arg2)) (m (c.tc.loc main_arg3)), fun c => G5 (m (c.tc.loc main_arg1)) (m (c.tc.loc main_arg2)), fun c => G6 (m (c.tc.loc main_arg1)) (m (c.tc.loc main_arg3)), Cert.AdamAdaIdeal.Value.run m g, ?_⟩
  refine (θ_run _ _ _).mono (fun r hr c => ?_) (Cert.AdamAdaRefIdeal.Value.run m' g')
  obtain ⟨h0, h1, h2, h3⟩ := h c
  obtain ⟨r0, r1, r2, kept⟩ := hr c
  refine ⟨r0.trans ?_, r1.trans ?_, r2.trans ?_, kept⟩ <;> simp only [h0, h1, h2, h3] <;> rfl

end Cert.AdamAdaIdeal.Claim

end
-- ==== Proof.AdamWinValue.lean ====
module

public import proofs.«01_k».proof.Defs
public import proofs.«01_k».proof.Proof.Gen.AdamWinIdeal.Value
public import proofs.«01_k».proof.Proof.Gen.AdamWinRefIdeal.Run
public import Idealize.ShloMosaic.Lib.Pointwise

@[expose] public section

set_option maxRecDepth 16384

/-! The optimiser: the update block by block against the update of whole arrays. -/

noncomputable section

namespace Cert.AdamWinIdeal.Claim

open Cert.AdamWinIdeal Cert.AdamWinIdeal.Gen Cert.AdamWinIdeal.Value Idealize.ShloMosaic Idealize.ShloMosaic.TcCoe Idealize.SL.Sem

/-- The call computes what the reference computes: the update at every index. -/
theorem algebraic : Cert.algebraic_AdamWinIdeal_AdamWinRefIdeal (hAdamWinIdeal := Cert.AdamWinIdeal.Gen.facts) (hAdamWinRefIdeal := Cert.AdamWinRefIdeal.Gen.facts) := by
  intro m g m' g' _ h
  refine ⟨fun c => G4 (m (c.tc.loc main_arg0)) (m (c.tc.loc main_arg1)) (m (c.tc.loc main_arg2)) (m (c.tc.loc main_arg3)), fun c => G5 (m (c.tc.loc main_arg1)) (m (c.tc.loc main_arg2)), fun c => G6 (m (c.tc.loc main_arg1)) (m (c.tc.loc main_arg3)), Cert.AdamWinIdeal.Value.run m g, ?_⟩
  refine (θ_run _ _ _).mono (fun r hr c => ?_) (Cert.AdamWinRefIdeal.Value.run m' g')
  obtain ⟨h0, h1, h2, h3⟩ := h c
  obtain ⟨r0, r1, r2, kept⟩ := hr c
  refine ⟨r0.trans ?_, r1.trans ?_, r2.trans ?_, kept⟩ <;> simp only [h0, h1, h2, h3] <;> rfl

end Cert.AdamWinIdeal.Claim

end
-- ==== Proof.AdamSmallAValue.lean ====
module

public import proofs.«01_k».proof.Defs
public import proofs.«01_k».proof.Proof.Gen.AdamSmallAIdeal.Value
public import proofs.«01_k».proof.Proof.Gen.AdamSmallARefIdeal.Run
public import Idealize.ShloMosaic.Lib.Pointwise

@[expose] public section

set_option maxRecDepth 16384

/-! The optimiser: the update block by block against the update of whole arrays. -/

noncomputable section

namespace Cert.AdamSmallAIdeal.Claim

open Cert.AdamSmallAIdeal Cert.AdamSmallAIdeal.Gen Cert.AdamSmallAIdeal.Value Idealize.ShloMosaic Idealize.ShloMosaic.TcCoe Idealize.SL.Sem

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The call computes what the reference computes: the update at every index. -/
theorem algebraic : Cert.algebraic_AdamSmallAIdeal_AdamSmallARefIdeal (hAdamSmallAIdeal := Cert.AdamSmallAIdeal.Gen.facts) (hAdamSmallARefIdeal := Cert.AdamSmallARefIdeal.Gen.facts) := by
  intro m g m' g' _ h
  refine ⟨fun c => G16 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G17 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G18 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G19 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G20 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G21 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G22 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G23 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G24 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G25 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G26 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), fun c => G27 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)), Cert.AdamSmallAIdeal.Value.run m g, ?_⟩
  refine (θ_run _ _ _).mono (fun r hr c => ?_) (Cert.AdamSmallARefIdeal.Value.run m' g')
  obtain ⟨h0, h1, h2, h3, h4, h5, h6, h7, h8, h9, h10, h11, h12, h13, h14, h15⟩ := h c
  obtain ⟨r0, r1, r2, r3, r4, r5, r6, r7, r8, r9, r10, r11, kept⟩ := hr c
  refine ⟨r0.trans ?_, r1.trans ?_, r2.trans ?_, r3.trans ?_, r4.trans ?_, r5.trans ?_, r6.trans ?_, r7.trans ?_, r8.trans ?_, r9.trans ?_, r10.trans ?_, r11.trans ?_, kept⟩ <;> simp only [h0, h1, h2, h3, h4, h5, h6, h7, h8, h9, h10, h11, h12, h13, h14, h15] <;> (first
    | rfl
    | (simp only [G16, G17, G18, G19, G20, G21, G22, G23, G24, G25, G26, G27, k0_pay14, k0_pay15, k0_pay16]
       repeat (first | rw [View.ld_unit_zero (S := S1024) zero1] | rw [View.ld_unit_zero (S := S1x4x384) zero3] | rw [View.ld_unit_zero (S := S1x6144) zero2])
       rfl))

end Cert.AdamSmallAIdeal.Claim

end
-- ==== Proof.AdamSmallBValue.lean ====
module

public import proofs.«01_k».proof.Defs
public import proofs.«01_k».proof.Proof.Gen.AdamSmallBIdeal.Value
public import proofs.«01_k».proof.Proof.Gen.AdamSmallBRefIdeal.Run
public import Idealize.ShloMosaic.Lib.Pointwise

@[expose] public section

set_option maxRecDepth 16384

/-! The optimiser: the update block by block against the update of whole arrays. -/

noncomputable section

namespace Cert.AdamSmallBIdeal.Claim

open Cert.AdamSmallBIdeal Cert.AdamSmallBIdeal.Gen Cert.AdamSmallBIdeal.Value Idealize.ShloMosaic Idealize.ShloMosaic.TcCoe Idealize.SL.Sem

/-- The call computes what the reference computes: the update at every index. -/
theorem algebraic : Cert.algebraic_AdamSmallBIdeal_AdamSmallBRefIdeal (hAdamSmallBIdeal := Cert.AdamSmallBIdeal.Gen.facts) (hAdamSmallBRefIdeal := Cert.AdamSmallBRefIdeal.Gen.facts) := by
  intro m g m' g' _ h
  refine ⟨fun c => G16 (m (c.tc.loc main_arg0)) (m (c.tc.loc main_arg4)) (m (c.tc.loc main_arg8)) (m (c.tc.loc main_arg12)), fun c => G17 (m (c.tc.loc main_arg1)) (m (c.tc.loc main_arg5)) (m (c.tc.loc main_arg9)) (m (c.tc.loc main_arg13)), fun c => G18 (m (c.tc.loc main_arg2)) (m (c.tc.loc main_arg6)) (m (c.tc.loc main_arg10)) (m (c.tc.loc main_arg14)), fun c => G19 (m (c.tc.loc main_arg3)) (m (c.tc.loc main_arg7)) (m (c.tc.loc main_arg11)) (m (c.tc.loc main_arg15)), fun c => G20 (m (c.tc.loc main_arg4)) (m (c.tc.loc main_arg8)), fun c => G21 (m (c.tc.loc main_arg5)) (m (c.tc.loc main_arg9)), fun c => G22 (m (c.tc.loc main_arg6)) (m (c.tc.loc main_arg10)), fun c => G23 (m (c.tc.loc main_arg7)) (m (c.tc.loc main_arg11)), fun c => G24 (m (c.tc.loc main_arg4)) (m (c.tc.loc main_arg12)), fun c => G25 (m (c.tc.loc main_arg5)) (m (c.tc.loc main_arg13)), fun c => G26 (m (c.tc.loc main_arg6)) (m (c.tc.loc main_arg14)), fun c => G27 (m (c.tc.loc main_arg7)) (m (c.tc.loc main_arg15)), Cert.AdamSmallBIdeal.Value.run m g, ?_⟩
  refine (θ_run _ _ _).mono (fun r hr c => ?_) (Cert.AdamSmallBRefIdeal.Value.run m' g')
  obtain ⟨h0, h1, h2, h3, h4, h5, h6, h7, h8, h9, h10, h11, h12, h13, h14, h15⟩ := h c
  obtain ⟨r0, r1, r2, r3, r4, r5, r6, r7, r8, r9, r10, r11, kept⟩ := hr c
  refine ⟨r0.trans ?_, r1.trans ?_, r2.trans ?_, r3.trans ?_, r4.trans ?_, r5.trans ?_, r6.trans ?_, r7.trans ?_, r8.trans ?_, r9.trans ?_, r10.trans ?_, r11.trans ?_, kept⟩ <;> simp only [h0, h1, h2, h3, h4, h5, h6, h7, h8, h9, h10, h11, h12, h13, h14, h15] <;> rfl

end Cert.AdamSmallBIdeal.Claim

end
-- ==== Proof.AdamSmallCValue.lean ====
module

public import proofs.«01_k».proof.Defs
public import proofs.«01_k».proof.Proof.Gen.AdamSmallCIdeal.Value
public import proofs.«01_k».proof.Proof.Gen.AdamSmallCRefIdeal.Run
public import Idealize.ShloMosaic.Lib.Pointwise

@[expose] public section

set_option maxRecDepth 16384

/-! The optimiser: the update block by block against the update of whole arrays. -/

noncomputable section

namespace Cert.AdamSmallCIdeal.Claim

open Cert.AdamSmallCIdeal Cert.AdamSmallCIdeal.Gen Cert.AdamSmallCIdeal.Value Idealize.ShloMosaic Idealize.ShloMosaic.TcCoe Idealize.SL.Sem

/-- The call computes what the reference computes: the update at every index. -/
theorem algebraic : Cert.algebraic_AdamSmallCIdeal_AdamSmallCRefIdeal (hAdamSmallCIdeal := Cert.AdamSmallCIdeal.Gen.facts) (hAdamSmallCRefIdeal := Cert.AdamSmallCRefIdeal.Gen.facts) := by
  intro m g m' g' _ h
  refine ⟨fun c => G16 (m (c.tc.loc main_arg0)) (m (c.tc.loc main_arg4)) (m (c.tc.loc main_arg8)) (m (c.tc.loc main_arg12)), fun c => G17 (m (c.tc.loc main_arg1)) (m (c.tc.loc main_arg5)) (m (c.tc.loc main_arg9)) (m (c.tc.loc main_arg13)), fun c => G18 (m (c.tc.loc main_arg2)) (m (c.tc.loc main_arg6)) (m (c.tc.loc main_arg10)) (m (c.tc.loc main_arg14)), fun c => G19 (m (c.tc.loc main_arg3)) (m (c.tc.loc main_arg7)) (m (c.tc.loc main_arg11)) (m (c.tc.loc main_arg15)), fun c => G20 (m (c.tc.loc main_arg4)) (m (c.tc.loc main_arg8)), fun c => G21 (m (c.tc.loc main_arg5)) (m (c.tc.loc main_arg9)), fun c => G22 (m (c.tc.loc main_arg6)) (m (c.tc.loc main_arg10)), fun c => G23 (m (c.tc.loc main_arg7)) (m (c.tc.loc main_arg11)), fun c => G24 (m (c.tc.loc main_arg4)) (m (c.tc.loc main_arg12)), fun c => G25 (m (c.tc.loc main_arg5)) (m (c.tc.loc main_arg13)), fun c => G26 (m (c.tc.loc main_arg6)) (m (c.tc.loc main_arg14)), fun c => G27 (m (c.tc.loc main_arg7)) (m (c.tc.loc main_arg15)), Cert.AdamSmallCIdeal.Value.run m g, ?_⟩
  refine (θ_run _ _ _).mono (fun r hr c => ?_) (Cert.AdamSmallCRefIdeal.Value.run m' g')
  obtain ⟨h0, h1, h2, h3, h4, h5, h6, h7, h8, h9, h10, h11, h12, h13, h14, h15⟩ := h c
  obtain ⟨r0, r1, r2, r3, r4, r5, r6, r7, r8, r9, r10, r11, kept⟩ := hr c
  refine ⟨r0.trans ?_, r1.trans ?_, r2.trans ?_, r3.trans ?_, r4.trans ?_, r5.trans ?_, r6.trans ?_, r7.trans ?_, r8.trans ?_, r9.trans ?_, r10.trans ?_, r11.trans ?_, kept⟩ <;> simp only [h0, h1, h2, h3, h4, h5, h6, h7, h8, h9, h10, h11, h12, h13, h14, h15] <;> rfl

end Cert.AdamSmallCIdeal.Claim

end
-- ==== Proof.AdamSmallDValue.lean ====
module

public import proofs.«01_k».proof.Defs
public import proofs.«01_k».proof.Proof.Gen.AdamSmallDIdeal.Value
public import proofs.«01_k».proof.Proof.Gen.AdamSmallDRefIdeal.Run
public import Idealize.ShloMosaic.Lib.Pointwise

@[expose] public section

set_option maxRecDepth 16384

/-! The optimiser: the update block by block against the update of whole arrays. -/

noncomputable section

namespace Cert.AdamSmallDIdeal.Claim

open Cert.AdamSmallDIdeal Cert.AdamSmallDIdeal.Gen Cert.AdamSmallDIdeal.Value Idealize.ShloMosaic Idealize.ShloMosaic.TcCoe Idealize.SL.Sem

/-- The call computes what the reference computes: the update at every index. -/
theorem algebraic : Cert.algebraic_AdamSmallDIdeal_AdamSmallDRefIdeal (hAdamSmallDIdeal := Cert.AdamSmallDIdeal.Gen.facts) (hAdamSmallDRefIdeal := Cert.AdamSmallDRefIdeal.Gen.facts) := by
  intro m g m' g' _ h
  refine ⟨fun c => G16 (m (c.tc.loc main_arg0)) (m (c.tc.loc main_arg4)) (m (c.tc.loc main_arg8)) (m (c.tc.loc main_arg12)), fun c => G17 (m (c.tc.loc main_arg1)) (m (c.tc.loc main_arg5)) (m (c.tc.loc main_arg9)) (m (c.tc.loc main_arg13)), fun c => G18 (m (c.tc.loc main_arg2)) (m (c.tc.loc main_arg6)) (m (c.tc.loc main_arg10)) (m (c.tc.loc main_arg14)), fun c => G19 (m (c.tc.loc main_arg3)) (m (c.tc.loc main_arg7)) (m (c.tc.loc main_arg11)) (m (c.tc.loc main_arg15)), fun c => G20 (m (c.tc.loc main_arg4)) (m (c.tc.loc main_arg8)), fun c => G21 (m (c.tc.loc main_arg5)) (m (c.tc.loc main_arg9)), fun c => G22 (m (c.tc.loc main_arg6)) (m (c.tc.loc main_arg10)), fun c => G23 (m (c.tc.loc main_arg7)) (m (c.tc.loc main_arg11)), fun c => G24 (m (c.tc.loc main_arg4)) (m (c.tc.loc main_arg12)), fun c => G25 (m (c.tc.loc main_arg5)) (m (c.tc.loc main_arg13)), fun c => G26 (m (c.tc.loc main_arg6)) (m (c.tc.loc main_arg14)), fun c => G27 (m (c.tc.loc main_arg7)) (m (c.tc.loc main_arg15)), Cert.AdamSmallDIdeal.Value.run m g, ?_⟩
  refine (θ_run _ _ _).mono (fun r hr c => ?_) (Cert.AdamSmallDRefIdeal.Value.run m' g')
  obtain ⟨h0, h1, h2, h3, h4, h5, h6, h7, h8, h9, h10, h11, h12, h13, h14, h15⟩ := h c
  obtain ⟨r0, r1, r2, r3, r4, r5, r6, r7, r8, r9, r10, r11, kept⟩ := hr c
  refine ⟨r0.trans ?_, r1.trans ?_, r2.trans ?_, r3.trans ?_, r4.trans ?_, r5.trans ?_, r6.trans ?_, r7.trans ?_, r8.trans ?_, r9.trans ?_, r10.trans ?_, r11.trans ?_, kept⟩ <;> simp only [h0, h1, h2, h3, h4, h5, h6, h7, h8, h9, h10, h11, h12, h13, h14, h15] <;> rfl

end Cert.AdamSmallDIdeal.Claim

end
-- ==== Proof.FfnBwdBody.lean ====
module

public import proofs.«01_k».proof.Proof.CausalConv
public import proofs.«01_k».proof.Proof.Steps
public import proofs.«01_k».proof.Proof.Gen.FfnBwdIdeal.Skeleton
public import Idealize.ShloMosaic.Lib.Pointwise

@[expose] public section

set_option maxRecDepth 16384

/-! What the kernel's body computes, channel by channel. -/

noncomputable section

namespace Cert.FfnBwdIdeal.Value

open Cert.FfnBwdIdeal Cert.FfnBwdIdeal.Gen Idealize.ShloMosaic Idealize.ShloMosaic.TcCoe Cert.CausalConv Cert.Steps

section Taps

variable (x : FVec Ideal S2048x256 .f32) (r : Fin 2048) (l : Fin 256)

theorem pay10_apply : k0_pay10 (F := Ideal) x (ix2 r l) = delay 2 (fun t => x (ix2 t l)) r := by
  pointwise [k0_pay10]
  refine choose_eq (from_two r) (fun h => ?_) fun h => ?_
  · rw [delay, if_pos h]
    exact congrArg (fun k => x (ix2 k l)) (Fin.ext (by show (r.val + 2048 - 2) % 2048 = r.val - 2; omega))
  · rw [delay, if_neg h]

theorem pay11_apply : k0_pay11 (F := Ideal) x (ix2 r l) = delay 1 (fun t => x (ix2 t l)) r := by
  pointwise [k0_pay11]
  refine choose_eq (from_one r) (fun h => ?_) fun h => ?_
  · rw [delay, if_pos h]
    exact congrArg (fun k => x (ix2 k l)) (Fin.ext (by show (r.val + 2048 - 1) % 2048 = r.val - 1; omega))
  · rw [delay, if_neg h]

theorem pay12_eq : k0_pay12 (F := Ideal) x = k0_pay10 x := rfl

theorem pay13_eq : k0_pay13 (F := Ideal) x = k0_pay11 x := rfl

end Taps

section Backward

variable (w : FVec Ideal S3x256 .f32) (x : FVec Ideal S2048x256 .f32) (r : Fin 2048) (l : Fin 256)

theorem pay39_apply : k0_pay39 (F := Ideal) w x (ix3 0 r l) = back (w (ix2 0 l)) (w (ix2 1 l)) (w (ix2 2 l)) (fun t => x (ix2 t l)) r := by
  pointwise [k0_pay39]
  rw [back, ahead, ahead]
  refine congrArg₂ (· + ·) (congrArg₂ (· + ·) rfl (choose_eq (below_two r) (fun h => ?_) fun h => ?_)) (choose_eq (below_one r) (fun h => ?_) fun h => ?_)
  · rw [dif_pos h]
    exact congrArg (fun k => w (ix2 0 l) * x (ix2 k l)) (Fin.ext (by show (r.val + 2048 - 2046) % 2048 = r.val + 2; omega))
  · rw [dif_neg h, mul_zero]
  · rw [dif_pos h]
    exact congrArg (fun k => w (ix2 1 l) * x (ix2 k l)) (Fin.ext (by show (r.val + 2048 - 2047) % 2048 = r.val + 1; omega))
  · rw [dif_neg h, mul_zero]

end Backward

section Gate

variable (x y : FVec Ideal S2048x256 .f32) (w v : FVec Ideal S3x256 .f32) (a b : FVec Ideal S1x256 .f32) (d : FVec Ideal S2048x256 .f32) (r : Fin 2048) (l : Fin 256)

/-- A channel of a block, convolved. -/
abbrev convOf (x : FVec Ideal S2048x256 .f32) (w : FVec Ideal S3x256 .f32) (a : FVec Ideal S1x256 .f32) (l : Fin 256) : Series :=
  conv (w (ix2 0 l)) (w (ix2 1 l)) (w (ix2 2 l)) (a (ix2 0 l)) fun t => x (ix2 t l)

/-- The block of the gradient in the gate. -/
abbrev gateBlock : FVec Ideal S2048x256 .f32 := k0_pay19 (F := Ideal) x y (k0_pay12 y) (k0_pay13 y) v (k0_pay14 x w) (k0_pay15 w) a b d

/-- The block of the gradient in the value. -/
abbrev valueBlock : FVec Ideal S2048x256 .f32 := k0_pay18 (F := Ideal) x (k0_pay14 x w) (k0_pay15 w) a d

theorem pay16_apply : k0_pay16 (F := Ideal) x (k0_pay14 x w) (k0_pay15 w) a (ix2 r l) = convOf x w a l r := by
  pointwise [k0_pay16, k0_pay15, k0_pay14]
  rw [pay10_apply, pay11_apply]
  rfl

theorem valueBlock_apply : valueBlock x w a d (ix2 r l) = valueSlope (fun t => d (ix2 t l)) (convOf x w a l) r := by
  pointwise [k0_pay18, k0_pay17]
  rw [pay16_apply]
  rfl

theorem gateBlock_apply : gateBlock x y w v a b d (ix2 r l) = gateSlope (fun t => d (ix2 t l)) (convOf x w a l) (convOf y v b l) r := by
  rw [gateBlock, pay12_eq, pay13_eq]
  pointwise [k0_pay19, k0_pay17]
  rw [pay16_apply, pay10_apply, pay11_apply]
  rfl

theorem pay20_apply : k0_pay26 (F := Ideal) (gateBlock x y w v a b d) (k0_pay20 x y (k0_pay12 y) (k0_pay13 y) w v (k0_pay14 x w) (k0_pay15 w) a b d) (k0_pay21 w) (iota .tc S2048x256 32 [0] iota_S2048x256_d0_w32) k0_pay22 (ix3 0 r l)
    = back (w (ix2 0 l)) (w (ix2 1 l)) (w (ix2 2 l)) (fun t => gateBlock x y w v a b d (ix2 t l)) r := by
  generalize hg : gateBlock x y w v a b d = G
  rw [← pay39_apply]
  subst hg
  rfl

end Gate

section Sums

variable (x y : FVec Ideal S2048x256 .f32) (z : FVec Ideal S1x1x256 .f32) (l : Fin 256)

theorem pay23_apply : k0_pay23 (F := Ideal) x y (ix2 0 l) = tap (fun t => y (ix2 t l)) (fun t => x (ix2 t l)) := by
  pointwise [k0_pay23]
  rfl

theorem pay27_apply : k0_pay27 (F := Ideal) x y (ix3 0 0 l) = tap (fun t => y (ix2 t l)) (fun t => x (ix2 t l)) := by
  rw [← pay23_apply]
  pointwise [k0_pay27]

theorem pay28_apply : k0_pay28 (F := Ideal) x y z (ix3 0 0 l) = z (ix3 0 0 l) + tap (fun t => y (ix2 t l)) (fun t => x (ix2 t l)) := by
  rw [← pay23_apply]
  pointwise [k0_pay28]

theorem pay29_apply : k0_pay29 (F := Ideal) x y (ix3 0 0 l) = tap (fun t => y (ix2 t l)) (fun t => x (ix2 t l)) := pay27_apply x y l

theorem pay30_apply : k0_pay30 (F := Ideal) x y z (ix3 0 0 l) = z (ix3 0 0 l) + tap (fun t => y (ix2 t l)) (fun t => x (ix2 t l)) := pay28_apply x y z l

theorem pay31_apply : k0_pay31 (F := Ideal) x y (ix3 0 0 l) = tap (fun t => y (ix2 t l)) (fun t => x (ix2 t l)) := pay27_apply x y l

theorem pay32_apply : k0_pay32 (F := Ideal) x y z (ix3 0 0 l) = z (ix3 0 0 l) + tap (fun t => y (ix2 t l)) (fun t => x (ix2 t l)) := pay28_apply x y z l

theorem pay1_apply : k0_pay1 (F := Ideal) (k0_pay36 x y) (ix3 0 0 l) = tap (fun t => y (ix2 t l)) (fun t => x (ix2 t l)) := pay27_apply x y l

theorem pay2_apply : k0_pay2 (F := Ideal) (k0_pay36 x y) z (ix3 0 0 l) = z (ix3 0 0 l) + tap (fun t => y (ix2 t l)) (fun t => x (ix2 t l)) := pay28_apply x y z l

theorem pay3_apply : k0_pay3 (F := Ideal) (k0_pay37 x y) (ix3 0 0 l) = tap (fun t => y (ix2 t l)) (fun t => x (ix2 t l)) := pay27_apply x y l

theorem pay4_apply : k0_pay4 (F := Ideal) (k0_pay37 x y) z (ix3 0 0 l) = z (ix3 0 0 l) + tap (fun t => y (ix2 t l)) (fun t => x (ix2 t l)) := pay28_apply x y z l

theorem pay5_apply : k0_pay5 (F := Ideal) (k0_pay38 x y) (ix3 0 0 l) = tap (fun t => y (ix2 t l)) (fun t => x (ix2 t l)) := pay27_apply x y l

theorem pay6_apply : k0_pay6 (F := Ideal) (k0_pay38 x y) z (ix3 0 0 l) = z (ix3 0 0 l) + tap (fun t => y (ix2 t l)) (fun t => x (ix2 t l)) := pay28_apply x y z l

theorem pay33_apply : k0_pay33 (F := Ideal) y (ix2 0 l) = ∑ t, y (ix2 t l) := by
  pointwise [k0_pay33]

theorem pay34_apply : k0_pay34 (F := Ideal) y (ix3 0 0 l) = ∑ t, y (ix2 t l) := by
  rw [← pay33_apply]
  pointwise [k0_pay34]

theorem pay35_apply : k0_pay35 (F := Ideal) y z (ix3 0 0 l) = z (ix3 0 0 l) + ∑ t, y (ix2 t l) := by
  rw [← pay33_apply]
  pointwise [k0_pay35]

theorem pay8_apply : k0_pay8 (F := Ideal) y (ix3 0 0 l) = ∑ t, y (ix2 t l) := pay34_apply y l

theorem pay9_apply : k0_pay9 (F := Ideal) y z (ix3 0 0 l) = z (ix3 0 0 l) + ∑ t, y (ix2 t l) := pay35_apply y z l

end Sums

end Cert.FfnBwdIdeal.Value

end
-- ==== Proof.FfnBwdReference.lean ====
module

public import proofs.«01_k».proof.Proof.CausalConv
public import proofs.«01_k».proof.Proof.Gen.FfnBwdRefIdeal.Read
public import Idealize.ShloMosaic.Lib.Pointwise

@[expose] public section

set_option maxRecDepth 16384

/-! What the reference of the gated convolution's gradient computes, channel by channel. -/

noncomputable section

namespace Cert.FfnBwdRefIdeal.Value

open Cert.FfnBwdRefIdeal Cert.FfnBwdRefIdeal.Gen Cert.FfnBwdRefIdeal.Read Idealize.ShloMosaic Idealize.ShloMosaic.TcCoe Cert.CausalConv

variable (x : FVec Ideal S4096x5632 .f32) (w : FVec Ideal S3x5632 .f32) (b : FVec Ideal S1x5632 .f32) (d : FVec Ideal S4096x2816 .f32)

/-- A channel of the input over one sequence. -/
abbrev input (s : Fin 2) (k : Fin 5632) : Series := fun t => x (ix2 ⟨s.val * 2048 + t.val, by omega⟩ k)

/-- A channel of the convolution over one sequence. -/
abbrev convolved (s : Fin 2) (k : Fin 5632) : Series := conv (w (ix2 0 k)) (w (ix2 1 k)) (w (ix2 2 k)) (b (ix2 0 k)) (input x s k)

/-- A channel of the gradient given over one sequence. -/
abbrev given (s : Fin 2) (k : Fin 2816) : Series := fun t => d (ix2 ⟨s.val * 2048 + t.val, by omega⟩ k)

/-- The gradient in the convolution's output, channel by channel: the gate's channels, then the value's. -/
def slope (s : Fin 2) (k : Fin 5632) : Series :=
  if h : k.val < 2816 then gateSlope (given d s ⟨k.val, h⟩) (convolved x w b s k) (convolved x w b s ⟨2816 + k.val, by omega⟩)
  else valueSlope (given d s ⟨k.val - 2816, by omega⟩) (convolved x w b s ⟨k.val - 2816, by omega⟩)

theorem v7_apply (s : Fin 2) (t : Fin 2048) (k : Fin 5632) : val_main_v7 (F := Ideal) x (ix3 s t k) = delay 2 (input x s k) t := by
  pointwise [val_main_v7, val_main_v3, val_main_v2, val_main_cst, val_main_v1]
  unfold delay
  by_cases h : 2 ≤ t.val
  · rw [if_pos h, dif_neg (by omega)]
  · rw [if_neg h, dif_pos (by omega)]

theorem v15_apply (s : Fin 2) (t : Fin 2048) (k : Fin 5632) : val_main_v15 (F := Ideal) x (ix3 s t k) = delay 1 (input x s k) t := by
  pointwise [val_main_v15, val_main_v3, val_main_v2, val_main_cst, val_main_v1]
  unfold delay
  by_cases h : 1 ≤ t.val
  · rw [if_pos h, dif_neg (by omega)]
    exact congrArg (fun q => x (ix2 q k)) (Fin.ext (by show s.val * 2048 + (1 + t.val - 2) = s.val * 2048 + (t.val - 1); omega))
  · rw [if_neg h, dif_pos (by omega)]

theorem v22_apply (s : Fin 2) (t : Fin 2048) (k : Fin 5632) : val_main_v22 (F := Ideal) x (ix3 s t k) = input x s k t := by
  pointwise [val_main_v22, val_main_v3, val_main_v2, val_main_cst, val_main_v1]

theorem v29_apply (s : Fin 2) (t : Fin 2048) (k : Fin 5632) : val_main_v29 (F := Ideal) x w b (ix3 s t k) = convolved x w b s k t := by
  pointwise [val_main_v29, val_main_v26, val_main_v19, val_main_v12, val_main_v11, val_main_cst_1, val_main_v10, val_main_v18, val_main_v25, val_main_v9, val_main_v8, val_main_v6, val_main_v5, val_main_v17, val_main_v16, val_main_v14, val_main_v13, val_main_v24, val_main_v23, val_main_v21, val_main_v20, val_main_v28, val_main_v27, val_main_v0]
  rw [v7_apply, v15_apply, v22_apply]
  rfl

/-- Where the gradient that reaches the gate is everywhere a real number. -/
def Finite : Prop := ∀ (s : Fin 2) (t : Fin 2048) (k : Fin 2816), IsReal (given d s k t * convolved x w b s ⟨2816 + k.val, by omega⟩ t)

theorem v38_apply (hf : Finite x w b d) (s : Fin 2) (t : Fin 2048) (k : Fin 2816) :
    val_main_v38 (F := Ideal) x w b d (ix3 s t k) = gateSlope (given d s k) (convolved x w b s ⟨k.val, by omega⟩) (convolved x w b s ⟨2816 + k.val, by omega⟩) t := by
  pointwise [val_main_v38, val_main_call1_v2, val_main_call1_v1, val_main_call1_v0, val_main_v37, val_main_v35, val_main_v31, val_main_v30, val_main_v32_2, val_main_v32_1, val_main_call0_v7, val_main_call0_v6, val_main_call0_cst_1, val_main_call0_v4, val_main_call0_cst_0, val_main_call0_v3, val_main_call0_v2, val_main_call0_cst, val_main_call0_v1, val_main_call0_v0]
  rw [v29_apply, v29_apply]
  exact gateSlope_eq (hf s t k)

theorem v36_apply (s : Fin 2) (t : Fin 2048) (k : Fin 2816) :
    val_main_v36 (F := Ideal) x w b d (ix3 s t k) = valueSlope (given d s k) (convolved x w b s ⟨k.val, by omega⟩) t := by
  pointwise [val_main_v36, val_main_v35, val_main_v30, val_main_v32_0, val_main_v32_2, val_main_call0_v4, val_main_call0_cst_0, val_main_call0_v3, val_main_call0_v2, val_main_call0_cst, val_main_call0_v1, val_main_call0_v0]
  rw [v29_apply]
  exact valueSlope_eq (given d s k) (convolved x w b s ⟨k.val, by omega⟩) t

theorem v39_apply (hf : Finite x w b d) (s : Fin 2) (t : Fin 2048) (k : Fin 5632) : val_main_v39 (F := Ideal) x w b d (ix3 s t k) = slope x w b d s k t := by
  pointwise [val_main_v39]
  rw [slope]
  by_cases h : k.val < 2816
  · rw [dif_pos h, dif_pos h, v38_apply x w b d hf]
  · rw [dif_neg h, dif_neg h, v36_apply]

end Cert.FfnBwdRefIdeal.Value

end
-- ==== Proof.FfnBwdBlocks.lean ====
module

public import proofs.«01_k».proof.Proof.FfnBwdBody
public import proofs.«01_k».proof.Proof.FfnBwdReference
public import proofs.«01_k».proof.Proof.Gen.FfnBwdIdeal.Frame
public import proofs.«01_k».proof.Proof.Gen.FfnBwdIdeal.Value
public import Idealize.ShloMosaic.Lib.Pipeline.ValueKit
public import Idealize.ShloMosaic.Lib.Pointwise

@[expose] public section

set_option maxRecDepth 16384

/-! What each grid point of the gated convolution's gradient writes, channel by channel: point `t` holds channel tile `t / 2` of sequence `t % 2`. -/

noncomputable section

namespace Cert.FfnBwdIdeal.Value

open Cert.FfnBwdIdeal Cert.FfnBwdIdeal.Gen Idealize.ShloMosaic Idealize.ShloMosaic.TcCoe Cert.CausalConv
open Idealize.ShloMosaic.Pipeline (Dat)

variable (m : (ℓ : Loc nD τ sig) → Buf (Elt Ideal) ℓ)

/-- Where each window stands at a grid point. -/
theorem idx : ∀ t : Fin cfg0.N, win0_0.index t = ![t.val % 2, t.val / 2] ∧ win0_1.index t = ![t.val % 2, 11 + t.val / 2] ∧ win0_2.index t = ![0, t.val / 2] ∧ win0_3.index t = ![0, 11 + t.val / 2]
    ∧ win0_4.index t = ![0, t.val / 2] ∧ win0_5.index t = ![0, 11 + t.val / 2] ∧ win0_6.index t = ![t.val % 2, t.val / 2]
    ∧ win0_7.index t = ![0, t.val % 2, t.val / 2] ∧ win0_8.index t = ![0, 0, t.val / 2] ∧ win0_9.index t = ![0, 0, t.val / 2] :=
  (by decide +kernel : ∀ t : Fin grid0.N, _)

/-- The half of the channels that a slab of the results belongs to: its input, taps and bias at a grid point. -/
def half (c : Dev nD) (t : Fin cfg0.N) : Fin 2 → FVec Ideal S2048x256 .f32 × FVec Ideal S3x256 .f32 × FVec Ideal S1x256 .f32
  | 0 => (iblk m c 0 t, iblk m c 2 t, iblk m c 4 t)
  | 1 => (iblk m c 1 t, iblk m c 3 t, iblk m c 5 t)

/-- The gradient in the convolution's output at a grid point: the gate's slab, then the value's. -/
def slab (c : Dev nD) (t : Fin cfg0.N) : Fin 2 → FVec Ideal S2048x256 .f32
  | 0 => gateBlock (iblk m c 0 t) (iblk m c 1 t) (iblk m c 2 t) (iblk m c 3 t) (iblk m c 4 t) (iblk m c 5 t) (iblk m c 6 t)
  | 1 => valueBlock (iblk m c 0 t) (iblk m c 2 t) (iblk m c 4 t) (iblk m c 6 t)

/-- A channel of a slab's input at a grid point. -/
abbrev chan (c : Dev nD) (t : Fin cfg0.N) (s : Fin 2) (l : Fin 256) : Series := fun r => (half m c t s).1 (ix2 r l)

theorem only (x : S1x1x256.Idx) {s n : ℕ} {i : Fin s} {k : Fin n} (l : Fin 256) (h : ((ix3 i k l : (⟨3, ![s, n, 256]⟩ : Shape).Idx) 2).val = (x 2).val) : ix3 0 0 l = x := by
  funext a
  match a with
  | ⟨0, _⟩ => exact Subsingleton.elim (α := Fin 1) _ _
  | ⟨1, _⟩ => exact Subsingleton.elim (α := Fin 1) _ _
  | ⟨2, _⟩ => exact Fin.ext h

theorem only_rows (x : S1x2048x256.Idx) {s : ℕ} {i : Fin s} (r : Fin 2048) (l : Fin 256) (h1 : ((ix3 i r l : (⟨3, ![s, 2048, 256]⟩ : Shape).Idx) 1).val = (x 1).val)
    (h2 : ((ix3 i r l : (⟨3, ![s, 2048, 256]⟩ : Shape).Idx) 2).val = (x 2).val) : ix3 0 r l = x := by
  funext a
  match a with
  | ⟨0, _⟩ => exact Subsingleton.elim (α := Fin 1) _ _
  | ⟨1, _⟩ => exact Fin.ext h1
  | ⟨2, _⟩ => exact Fin.ext h2

theorem ld_taps (z : FVec Ideal S2x3x256 .f32) (a : Fin 2) (b : Fin 3) (h : ∀ q, ![a.val, b.val, 0] q + ![1, 1, 256] q ≤ S2x3x256.size q) (l : Fin 256) :
    View.ld (Val := Elt Ideal) (e' := .f32) z (Rect.unit ![a.val, b.val, 0] ![1, 1, 256] h) (ix3 0 0 l : S1x1x256.Idx) = z (ix3 a b l) := by
  rw [View.ld_apply]
  refine congrArg z (funext fun q => Fin.ext ?_)
  match q with
  | ⟨0, _⟩ => rfl
  | ⟨1, _⟩ => rfl
  | ⟨2, _⟩ => show 0 + 1 * l.val = l.val; omega

theorem ld_bias (z : FVec Ideal S2x1x256 .f32) (a : Fin 2) (h : ∀ q, ![a.val, 0, 0] q + ![1, 1, 256] q ≤ S2x1x256.size q) (l : Fin 256) :
    View.ld (Val := Elt Ideal) (e' := .f32) z (Rect.unit ![a.val, 0, 0] ![1, 1, 256] h) (ix3 0 0 l : S1x1x256.Idx) = z (ix3 a 0 l) := by
  rw [View.ld_apply]
  refine congrArg z (funext fun q => Fin.ext ?_)
  match q with
  | ⟨0, _⟩ => rfl
  | ⟨1, _⟩ => rfl
  | ⟨2, _⟩ => show 0 + 1 * l.val = l.val; omega

theorem out7_apply (c : Dev nD) (t : Fin cfg0.N) (s : Fin 2) (r : Fin 2048) (l : Fin 256) : (outsAt0 m c t.val t.isLt).1 (ix3 s r l)
    = back ((half m c t s).2.1 (ix2 0 l)) ((half m c t s).2.1 (ix2 1 l)) ((half m c t s).2.1 (ix2 2 l)) (fun q => slab m c t s (ix2 q l)) r := by
  have hlt : t.val < 22 := t.isLt
  by_cases h4 : t.val % 2 = 0
  · rw [outsAt0_A m c t (by omega) (by omega) (by omega) (by omega) (by omega) (by omega) (by omega) (by omega) (by omega) (by omega) (by omega) (by omega) (by omega) (by omega) (by omega) (by omega)]
    frame_out
    canon_tiles x h
    · obtain rfl : s = 1 := Fin.ext (by have : s.val = 1 + (x 0).val := h0; show s.val = 1; omega)
      obtain rfl := only_rows x r l h1 h2
      exact pay39_apply _ _ r l
    · obtain rfl : s = 0 := Fin.ext (by have : s.val = (x 0).val := h0; show s.val = 0; omega)
      obtain rfl := only_rows x r l h1 h2
      exact pay20_apply _ _ _ _ _ _ _ r l
  · rw [outsAt0_B m c t (by omega) (by omega) (by omega) (by omega) (by omega) (by omega) (by omega) (by omega) (by omega) (by omega) (by omega) (by omega) (by omega) (by omega) (by omega) (by omega)]
    frame_out
    canon_tiles x h
    · obtain rfl : s = 1 := Fin.ext (by have : s.val = 1 + (x 0).val := h0; show s.val = 1; omega)
      obtain rfl := only_rows x r l h1 h2
      exact pay39_apply _ _ r l
    · obtain rfl : s = 0 := Fin.ext (by have : s.val = (x 0).val := h0; show s.val = 0; omega)
      obtain rfl := only_rows x r l h1 h2
      exact pay20_apply _ _ _ _ _ _ _ r l

theorem out8_first (c : Dev nD) (t : Fin cfg0.N) (ht : t.val % 2 = 0) (s : Fin 2) (j : Fin 3) (l : Fin 256) : (outsAt0 m c t.val t.isLt).2.1 (ix3 s j l)
    = tap (fun q => slab m c t s (ix2 q l)) (tapped j (chan m c t s l)) := by
  rw [outsAt0_A m c t (by omega) (by omega) (by omega) (by omega) (by omega) (by omega) (by omega) (by omega) (by omega) (by omega) (by omega) (by omega) (by omega) (by omega) (by omega) (by omega)]
  frame_out
  canon_tiles x h
  · obtain rfl : s = 1 := Fin.ext (by have : s.val = 1 + (x 0).val := h0; show s.val = 1; omega)
    obtain rfl : j = 2 := Fin.ext (by have : j.val = 2 + (x 1).val := h1; show j.val = 2; omega)
    obtain rfl := only x l h2
    exact pay5_apply _ _ l
  · obtain rfl : s = 1 := Fin.ext (by have : s.val = 1 + (x 0).val := h0; show s.val = 1; omega)
    obtain rfl : j = 1 := Fin.ext (by have : j.val = 1 + (x 1).val := h1; show j.val = 1; omega)
    obtain rfl := only x l h2
    exact (pay3_apply _ _ l).trans (congrArg (tap _) (funext fun q => pay11_apply _ q l))
  · obtain rfl : s = 1 := Fin.ext (by have : s.val = 1 + (x 0).val := h0; show s.val = 1; omega)
    obtain rfl : j = 0 := Fin.ext (by have : j.val = (x 1).val := h1; show j.val = 0; omega)
    obtain rfl := only x l h2
    exact (pay1_apply _ _ l).trans (congrArg (tap _) (funext fun q => pay10_apply _ q l))
  · obtain rfl : s = 0 := Fin.ext (by have : s.val = (x 0).val := h0; show s.val = 0; omega)
    obtain rfl : j = 2 := Fin.ext (by have : j.val = 2 + (x 1).val := h1; show j.val = 2; omega)
    obtain rfl := only x l h2
    exact pay31_apply _ _ l
  · obtain rfl : s = 0 := Fin.ext (by have : s.val = (x 0).val := h0; show s.val = 0; omega)
    obtain rfl : j = 1 := Fin.ext (by have : j.val = 1 + (x 1).val := h1; show j.val = 1; omega)
    obtain rfl := only x l h2
    exact (pay29_apply _ _ l).trans (congrArg (tap _) (funext fun q => pay11_apply _ q l))
  · obtain rfl : s = 0 := Fin.ext (by have : s.val = (x 0).val := h0; show s.val = 0; omega)
    obtain rfl : j = 0 := Fin.ext (by have : j.val = (x 1).val := h1; show j.val = 0; omega)
    obtain rfl := only x l h2
    exact (pay27_apply _ _ l).trans (congrArg (tap _) (funext fun q => pay10_apply _ q l))

theorem out8_later (c : Dev nD) (t : Fin cfg0.N) (ht : t.val % 2 = 1) (s : Fin 2) (j : Fin 3) (l : Fin 256) : (outsAt0 m c t.val t.isLt).2.1 (ix3 s j l)
    = (outsAt0 m c (t.val - 1) (Nat.lt_of_le_of_lt (Nat.sub_le _ _) t.isLt)).2.1 (ix3 s j l) + tap (fun q => slab m c t s (ix2 q l)) (tapped j (chan m c t s l)) := by
  rw [outsAt0_B m c t (by omega) (by omega) (by omega) (by omega) (by omega) (by omega) (by omega) (by omega) (by omega) (by omega) (by omega) (by omega) (by omega) (by omega) (by omega) (by omega)]
  generalize outsAt0 m c (t.val - 1) (Nat.lt_of_le_of_lt (Nat.sub_le _ _) t.isLt) = prev
  frame_out
  canon_tiles x h
  · obtain rfl : s = 1 := Fin.ext (by have : s.val = 1 + (x 0).val := h0; show s.val = 1; omega)
    obtain rfl : j = 2 := Fin.ext (by have : j.val = 2 + (x 1).val := h1; show j.val = 2; omega)
    obtain rfl := only x l h2
    exact (pay6_apply _ _ _ l).trans (congrArg (· + _) (ld_taps _ 1 2 _ l))
  · obtain rfl : s = 1 := Fin.ext (by have : s.val = 1 + (x 0).val := h0; show s.val = 1; omega)
    obtain rfl : j = 1 := Fin.ext (by have : j.val = 1 + (x 1).val := h1; show j.val = 1; omega)
    obtain rfl := only x l h2
    exact (pay4_apply _ _ _ l).trans (congrArg₂ (· + ·) (ld_taps _ 1 1 _ l) (congrArg (tap _) (funext fun q => pay11_apply _ q l)))
  · obtain rfl : s = 1 := Fin.ext (by have : s.val = 1 + (x 0).val := h0; show s.val = 1; omega)
    obtain rfl : j = 0 := Fin.ext (by have : j.val = (x 1).val := h1; show j.val = 0; omega)
    obtain rfl := only x l h2
    exact (pay2_apply _ _ _ l).trans (congrArg₂ (· + ·) (ld_taps _ 1 0 _ l) (congrArg (tap _) (funext fun q => pay10_apply _ q l)))
  · obtain rfl : s = 0 := Fin.ext (by have : s.val = (x 0).val := h0; show s.val = 0; omega)
    obtain rfl : j = 2 := Fin.ext (by have : j.val = 2 + (x 1).val := h1; show j.val = 2; omega)
    obtain rfl := only x l h2
    exact (pay32_apply _ _ _ l).trans (congrArg (· + _) (ld_taps _ 0 2 _ l))
  · obtain rfl : s = 0 := Fin.ext (by have : s.val = (x 0).val := h0; show s.val = 0; omega)
    obtain rfl : j = 1 := Fin.ext (by have : j.val = 1 + (x 1).val := h1; show j.val = 1; omega)
    obtain rfl := only x l h2
    exact (pay30_apply _ _ _ l).trans (congrArg₂ (· + ·) (ld_taps _ 0 1 _ l) (congrArg (tap _) (funext fun q => pay11_apply _ q l)))
  · obtain rfl : s = 0 := Fin.ext (by have : s.val = (x 0).val := h0; show s.val = 0; omega)
    obtain rfl : j = 0 := Fin.ext (by have : j.val = (x 1).val := h1; show j.val = 0; omega)
    obtain rfl := only x l h2
    exact (pay28_apply _ _ _ l).trans (congrArg₂ (· + ·) (ld_taps _ 0 0 _ l) (congrArg (tap _) (funext fun q => pay10_apply _ q l)))

theorem out9_first (c : Dev nD) (t : Fin cfg0.N) (ht : t.val % 2 = 0) (s : Fin 2) (l : Fin 256) : (outsAt0 m c t.val t.isLt).2.2 (ix3 s 0 l)
    = ∑ q, slab m c t s (ix2 q l) := by
  rw [outsAt0_A m c t (by omega) (by omega) (by omega) (by omega) (by omega) (by omega) (by omega) (by omega) (by omega) (by omega) (by omega) (by omega) (by omega) (by omega) (by omega) (by omega)]
  frame_out
  canon_tiles x h
  · obtain rfl : s = 1 := Fin.ext (by have : s.val = 1 + (x 0).val := h0; show s.val = 1; omega)
    obtain rfl := only x l h2
    exact pay8_apply _ l
  · obtain rfl : s = 0 := Fin.ext (by have : s.val = (x 0).val := h0; show s.val = 0; omega)
    obtain rfl := only x l h2
    exact pay34_apply _ l

theorem out9_later (c : Dev nD) (t : Fin cfg0.N) (ht : t.val % 2 = 1) (s : Fin 2) (l : Fin 256) : (outsAt0 m c t.val t.isLt).2.2 (ix3 s 0 l)
    = (outsAt0 m c (t.val - 1) (Nat.lt_of_le_of_lt (Nat.sub_le _ _) t.isLt)).2.2 (ix3 s 0 l) + ∑ q, slab m c t s (ix2 q l) := by
  rw [outsAt0_B m c t (by omega) (by omega) (by omega) (by omega) (by omega) (by omega) (by omega) (by omega) (by omega) (by omega) (by omega) (by omega) (by omega) (by omega) (by omega) (by omega)]
  generalize outsAt0 m c (t.val - 1) (Nat.lt_of_le_of_lt (Nat.sub_le _ _) t.isLt) = prev
  frame_out
  canon_tiles x h
  · obtain rfl : s = 1 := Fin.ext (by have : s.val = 1 + (x 0).val := h0; show s.val = 1; omega)
    obtain rfl := only x l h2
    exact (pay9_apply _ _ l).trans (congrArg (· + _) (ld_bias _ 1 _ l))
  · obtain rfl : s = 0 := Fin.ext (by have : s.val = (x 0).val := h0; show s.val = 0; omega)
    obtain rfl := only x l h2
    exact (pay35_apply _ _ l).trans (congrArg (· + _) (ld_bias _ 0 _ l))

end Cert.FfnBwdIdeal.Value

end
-- ==== Proof.FfnBwdFinite.lean ====
module

public import proofs.«01_k».proof.Defs
public import proofs.«01_k».proof.Proof.FfnBwdReference
public import proofs.«01_k».proof.Proof.Gen.Pre_value_finite
public import Idealize.ShloMosaic.Lib.Pointwise

@[expose] public section

set_option maxRecDepth 16384

/-! The precondition says that the gradient reaching the gate is a real number everywhere. -/

noncomputable section

namespace Cert.FfnBwdRefIdeal.Value

open Cert.FfnBwdRefIdeal Cert.FfnBwdRefIdeal.Gen Idealize.ShloMosaic Idealize.ShloMosaic.TcCoe Cert.CausalConv

variable (x : FVec Ideal S4096x5632 .f32) (w : FVec Ideal S3x5632 .f32) (b : FVec Ideal S1x5632 .f32) (d : FVec Ideal S4096x2816 .f32)

theorem both : ∀ {a b : BitVec 1}, IntOp.andi a b = 1#1 → a = 1#1 ∧ b = 1#1 := by decide

/-- A number below the infinite word in size is real. -/
theorem isReal_of_below {y c : EReal} (h : BitVec.ofBool (decide (FloatOps.absf (F := Ideal) (φ := .f32) y < c)) = 1#1) : IsReal y := by
  have hlt : max y (-y) < c := by
    by_contra hn
    rw [show decide (FloatOps.absf (F := Ideal) (φ := .f32) y < c) = false from decide_eq_false hn] at h
    exact absurd h (by decide)
  have hy : y < ⊤ := lt_of_le_of_lt (le_max_left _ _) (lt_of_lt_of_le hlt le_top)
  have hn : -y < ⊤ := lt_of_le_of_lt (le_max_right _ _) (lt_of_lt_of_le hlt le_top)
  exact ⟨y.toReal, (EReal.coe_toReal hy.ne fun e => by rw [e, EReal.neg_bot] at hn; exact absurd hn (lt_irrefl _)).symm⟩

/-- What the precondition says of one entry. -/
theorem entry (i : Fin 4096) (k : Fin 2816) (h : Cert.Pre_value_finite.fn (F := Ideal) x w b d (ix2 i k) = 1#1) :
    IsReal (x (ix2 i ⟨2816 + k.val, by omega⟩)) ∧ IsReal (d (ix2 i k)) ∧ (IsReal (w (ix2 0 ⟨2816 + k.val, by omega⟩)) ∧ IsReal (w (ix2 1 ⟨2816 + k.val, by omega⟩)) ∧ IsReal (w (ix2 2 ⟨2816 + k.val, by omega⟩))) ∧ IsReal (b (ix2 0 ⟨2816 + k.val, by omega⟩)) := by
  revert h
  pointwise [Cert.Pre_value_finite.fn, Cert.Pre_value_finite.fn_part1]
  intro h
  obtain ⟨h1, h2⟩ := both h
  obtain ⟨hx, hd⟩ := both h1
  obtain ⟨h3, hb⟩ := both h2
  obtain ⟨h4, hw2⟩ := both h3
  obtain ⟨hw0, hw1⟩ := both h4
  exact ⟨isReal_of_below hx, isReal_of_below hd, ⟨isReal_of_below hw0, isReal_of_below hw1, isReal_of_below hw2⟩, isReal_of_below hb⟩

theorem finite_of (h : Cert.Pre_value_finite.fn (F := Ideal) x w b d = fun _ => 1#1) : Finite x w b d := by
  intro s t k
  have e := fun r : Fin 2048 => entry x w b d ⟨s.val * 2048 + r.val, by omega⟩ k (congrFun h _)
  exact ((e t).2.1).mul (IsReal.conv (e t).2.2.1.1 (e t).2.2.1.2.1 (e t).2.2.1.2.2 (e t).2.2.2 (fun r => (e r).1) t)

end Cert.FfnBwdRefIdeal.Value

end
-- ==== Proof.SumTwo.lean ====
module

public import Idealize.ShloMosaic.Lib.Pointwise

@[expose] public section

/-! The sum of a three-axis array over its first two axes, entry by entry. -/

noncomputable section

namespace Cert.SumTwo

open Idealize.ShloMosaic

variable {a b n : ℕ} (h : (⟨3, ![a, b, n]⟩ : Shape).ReducesTo [0, 1] ⟨1, ![n]⟩)

theorem fiber (k : Fin n) (i : (⟨3, ![a, b, n]⟩ : Shape).Idx) : h.drop i = ix1 k ↔ ∃ p : Fin a × Fin b, ix3 p.1 p.2 k = i := by
  constructor
  · intro e
    refine ⟨(i 0, i 1), ?_⟩
    funext q
    apply Fin.ext
    match q with
    | ⟨0, _⟩ => rfl
    | ⟨1, _⟩ => rfl
    | ⟨2, _⟩ => exact (congrArg Fin.val (congrFun e 0)).symm
  · rintro ⟨p, rfl⟩
    funext q
    match q with
    | ⟨0, _⟩ => rfl

/-- The sum of an array over its first two axes. -/
theorem apply (v : (⟨3, ![a, b, n]⟩ : Shape).Idx → EReal) (init : EReal) (k : Fin n) :
    Ideal.hostReduceAdd h v init (ix1 k) = init + ∑ s : Fin a, ∑ t : Fin b, v (ix3 s t k) := by
  refine congrArg (init + ·) ((Finset.sum_filter_eq_sum_of_fiber _ (fun p : Fin a × Fin b => ix3 p.1 p.2 k)
    (fun _ _ e => Prod.ext (congrFun e 0) (congrFun e 1)) (fiber h k) v).trans ?_)
  simp only [Fintype.sum_prod_type]

end Cert.SumTwo

end
-- ==== Proof.FfnBwdInput.lean ====
module

public import proofs.«01_k».proof.Proof.FfnBwdReference
public import proofs.«01_k».proof.Proof.SumTwo

@[expose] public section

set_option maxRecDepth 16384

/-! The results of the reference of the gated convolution's gradient. -/

noncomputable section

namespace Cert.FfnBwdRefIdeal.Value

open Cert.FfnBwdRefIdeal Cert.FfnBwdRefIdeal.Gen Cert.FfnBwdRefIdeal.Read Idealize.ShloMosaic Idealize.ShloMosaic.TcCoe Cert.CausalConv

variable (x : FVec Ideal S4096x5632 .f32) (w : FVec Ideal S3x5632 .f32) (b : FVec Ideal S1x5632 .f32) (d : FVec Ideal S4096x2816 .f32)

/-- The gradient in the convolution's input, with the terms in the reference's order and with its bounds. -/
theorem back_eq {c : Fin 5632 → Series} (a0 a1 a2 : EReal) {k : Fin 5632} {t : Fin 2048} {p0 p1 p2 : Prop} [Decidable p0] [Decidable p1] [Decidable p2]
    (h0 : p0) (h1 : p1 ↔ t.val + 1 < 2048) (h2 : p2 ↔ t.val + 2 < 2048)
    {f0 : p0 → EReal} {f1 : p1 → EReal} {f2 : p2 → EReal} (e0 : ∀ h, f0 h = a2 * c k t) (e1 : ∀ h (h' : t.val + 1 < 2048), f1 h = a1 * c k ⟨t.val + 1, h'⟩)
    (e2 : ∀ h (h' : t.val + 2 < 2048), f2 h = a0 * c k ⟨t.val + 2, h'⟩) :
    (if h : p0 then f0 h else 0) + (if h : p1 then f1 h else 0) + (if h : p2 then f2 h else 0) = back a0 a1 a2 (c k) t := by
  rw [back, add_right_comm, ahead, ahead, dif_pos h0, e0]
  refine congrArg₂ (· + ·) (congrArg (a2 * c k t + ·) ?_) ?_
  · by_cases h : t.val + 2 < 2048
    · rw [dif_pos h, dif_pos (h2.mpr h), e2 _ h]
    · rw [dif_neg h, dif_neg (mt h2.mp h), mul_zero]
  · by_cases h : t.val + 1 < 2048
    · rw [dif_pos h, dif_pos (h1.mpr h), e1 _ h]
    · rw [dif_neg h, dif_neg (mt h1.mp h), mul_zero]

/-- The same for the entry of one half, row and column. -/
theorem back_entry (y : FVec Ideal S2x2048x5632 .f32) (c : Fin 2 → Fin 5632 → Series) (e : ∀ s t k, y (ix3 s t k) = c s k t) (q : Fin 2) (i : Fin 4096) (k : Fin 2816) :
    (((if h : i.val / 2048 < 2 ∧ i.val % 2048 < 2048 ∧ q.val * 2816 + k.val < 5632 then
          w (ix2 2 ⟨q.val * 2816 + k.val, by omega⟩) * y (ix3 ⟨i.val / 2048, by omega⟩ ⟨i.val % 2048, by omega⟩ ⟨q.val * 2816 + k.val, by omega⟩) else 0)
      + if h : i.val / 2048 < 2 ∧ (1 ≤ 2 + i.val % 2048 ∧ 2 + i.val % 2048 - 1 < 2048) ∧ q.val * 2816 + k.val < 5632 then
          w (ix2 1 ⟨q.val * 2816 + k.val, by omega⟩) * y (ix3 ⟨i.val / 2048, by omega⟩ ⟨2 + i.val % 2048 - 1, by omega⟩ ⟨q.val * 2816 + k.val, by omega⟩) else 0)
      + if h : i.val / 2048 < 2 ∧ 2 + i.val % 2048 < 2048 ∧ q.val * 2816 + k.val < 5632 then
          w (ix2 0 ⟨q.val * 2816 + k.val, by omega⟩) * y (ix3 ⟨i.val / 2048, by omega⟩ ⟨2 + i.val % 2048, by omega⟩ ⟨q.val * 2816 + k.val, by omega⟩) else 0)
    = back (w (ix2 0 ⟨q.val * 2816 + k.val, by omega⟩)) (w (ix2 1 ⟨q.val * 2816 + k.val, by omega⟩)) (w (ix2 2 ⟨q.val * 2816 + k.val, by omega⟩))
        (c ⟨i.val / 2048, by omega⟩ ⟨q.val * 2816 + k.val, by omega⟩) ⟨i.val % 2048, by omega⟩ := by
  refine back_eq (c := c ⟨i.val / 2048, by omega⟩) _ _ _ (by omega) (by show _ ↔ i.val % 2048 + 1 < 2048; omega) (by show _ ↔ i.val % 2048 + 2 < 2048; omega) ?_ ?_ ?_
  · intro h; rw [e]
  · intro h h'
    rw [e]
    exact congrArg (_ * ·) (congrArg (c _ _) (Fin.ext (by show 2 + i.val % 2048 - 1 = i.val % 2048 + 1; omega)))
  · intro h h'
    rw [e]
    exact congrArg (_ * ·) (congrArg (c _ _) (Fin.ext (by show 2 + i.val % 2048 = i.val % 2048 + 2; omega)))

theorem v79_apply (hf : Finite x w b d) (q : Fin 2) (i : Fin 4096) (k : Fin 2816) : val_main_v79 (F := Ideal) x w b d (ix3 q i k)
    = back (w (ix2 0 ⟨q.val * 2816 + k.val, by omega⟩)) (w (ix2 1 ⟨q.val * 2816 + k.val, by omega⟩)) (w (ix2 2 ⟨q.val * 2816 + k.val, by omega⟩))
        (slope x w b d ⟨i.val / 2048, by omega⟩ ⟨q.val * 2816 + k.val, by omega⟩) ⟨i.val % 2048, by omega⟩ := by
  pointwise [val_main_v79, val_main_v78, val_main_v77, val_main_v76, val_main_v75, val_main_v70, val_main_v69, val_main_cst_14, val_main_v64, val_main_v63, val_main_v59, val_main_v58, val_main_cst_10, val_main_v53, val_main_v52, val_main_v49, val_main_cst_6, val_main_v44, val_main_v43, val_main_v8, val_main_v6, val_main_v5, val_main_v16, val_main_v14, val_main_v13, val_main_v23, val_main_v21, val_main_v20]
  exact back_entry w (val_main_v39 (F := Ideal) x w b d) (slope x w b d) (v39_apply x w b d hf) q i k

end Cert.FfnBwdRefIdeal.Value

end
-- ==== Proof.FfnBwdTaps.lean ====
module

public import proofs.«01_k».proof.Proof.FfnBwdReference
public import proofs.«01_k».proof.Proof.SumTwo

@[expose] public section

set_option maxRecDepth 16384

/-! The results of the reference of the gated convolution's gradient. -/

noncomputable section

namespace Cert.FfnBwdRefIdeal.Value

open Cert.FfnBwdRefIdeal Cert.FfnBwdRefIdeal.Gen Cert.FfnBwdRefIdeal.Read Idealize.ShloMosaic Idealize.ShloMosaic.TcCoe Cert.CausalConv

variable (x : FVec Ideal S4096x5632 .f32) (w : FVec Ideal S3x5632 .f32) (b : FVec Ideal S1x5632 .f32) (d : FVec Ideal S4096x2816 .f32)

/-- A sum over the sequences and their steps, the way the reference takes it. -/
theorem twice (v : FVec Ideal S2x2048x5632 .f32) (k : Fin 5632) :
    Host.reduceAdd (F := Ideal) (shapeCast S1x1x5632 (Host.reduceAdd (F := Ideal) v (constant S_ .f32 0#32) reducesTo_S2x2048x5632_S5632_d0_1 h_S_) shapeCasts_S5632_S1x1x5632)
      (constant S_ .f32 0#32) reducesTo_S1x1x5632_S5632_d0_1 h_S_ (ix1 k) = ∑ s : Fin 2, ∑ t : Fin 2048, v (ix3 s t k) := by
  have cast : ∀ y : FVec Ideal S5632 .f32, shapeCast S1x1x5632 y shapeCasts_S5632_S1x1x5632 (ix3 0 0 k) = y (ix1 k) := fun y => by pointwise
  refine (Cert.SumTwo.apply _ _ _ k).trans ?_
  rw [Fin.sum_univ_one, Fin.sum_univ_one, cast]
  refine (congrArg _ (Cert.SumTwo.apply _ _ _ k)).trans ?_
  pointwise

theorem v48_apply (hf : Finite x w b d) (k : Fin 5632) : val_main_v48 (F := Ideal) x w b d (ix1 k) = ∑ s, tap (slope x w b d s k) (input x s k) := by
  refine (twice (val_main_v45 (F := Ideal) x w b d) k).trans (Finset.sum_congr rfl fun s _ => Finset.sum_congr rfl fun t _ => ?_)
  rw [← v39_apply x w b d hf, ← v22_apply]
  rfl

theorem v57_apply (hf : Finite x w b d) (k : Fin 5632) : val_main_v57 (F := Ideal) x w b d (ix1 k) = ∑ s, tap (slope x w b d s k) (delay 1 (input x s k)) := by
  refine (twice (val_main_v54 (F := Ideal) x w b d) k).trans (Finset.sum_congr rfl fun s _ => Finset.sum_congr rfl fun t _ => ?_)
  rw [← v39_apply x w b d hf, ← v15_apply]
  rfl

theorem v68_apply (hf : Finite x w b d) (k : Fin 5632) : val_main_v68 (F := Ideal) x w b d (ix1 k) = ∑ s, tap (slope x w b d s k) (delay 2 (input x s k)) := by
  refine (twice (val_main_v65 (F := Ideal) x w b d) k).trans (Finset.sum_congr rfl fun s _ => Finset.sum_congr rfl fun t _ => ?_)
  rw [← v39_apply x w b d hf, ← v7_apply]
  rfl

theorem v84_apply (hf : Finite x w b d) (q : Fin 2) (k : Fin 2816) :
    val_main_v84 (F := Ideal) x w b d (ix3 q 0 k) = ∑ s, ∑ t, slope x w b d s ⟨q.val * 2816 + k.val, by omega⟩ t := by
  rw [show val_main_v84 (F := Ideal) x w b d (ix3 q 0 k) = val_main_v42 (F := Ideal) x w b d (ix1 ⟨q.val * 2816 + k.val, by omega⟩) by
    pointwise [val_main_v84, val_main_v83, val_main_v82]]
  refine (twice (val_main_v39 (F := Ideal) x w b d) _).trans (Finset.sum_congr rfl fun s _ => Finset.sum_congr rfl fun t _ => ?_)
  rw [← v39_apply x w b d hf]

/-- The three taps' sums stacked: of each entry one is there. -/
theorem stacked (y0 y1 y2 : FVec Ideal S5632 .f32) (q : Fin 2) (j : Fin 3) (k : Fin 2816) (v : Fin 3 → EReal)
    (e0 : y0 (ix1 ⟨q.val * 2816 + k.val, by omega⟩) = v 2) (e1 : y1 (ix1 ⟨q.val * 2816 + k.val, by omega⟩) = v 1) (e2 : y2 (ix1 ⟨q.val * 2816 + k.val, by omega⟩) = v 0) :
    (((if h : (2 ≤ j.val ∧ j.val - 2 < 1) ∧ q.val * 2816 + k.val < 5632 then y0 (ix1 ⟨q.val * 2816 + k.val, by omega⟩) else 0)
      + if h : (1 ≤ j.val ∧ j.val - 1 < 1) ∧ q.val * 2816 + k.val < 5632 then y1 (ix1 ⟨q.val * 2816 + k.val, by omega⟩) else 0)
      + if h : j.val < 1 ∧ q.val * 2816 + k.val < 5632 then y2 (ix1 ⟨q.val * 2816 + k.val, by omega⟩) else 0) = v j := by
  simp only [e0, e1, e2]
  have hk : q.val * 2816 + k.val < 5632 := by omega
  match j with
  | 0 => simp [hk]
  | 1 => simp [hk]
  | 2 => simp [hk]

theorem v81_apply (hf : Finite x w b d) (q : Fin 2) (j : Fin 3) (k : Fin 2816) : val_main_v81 (F := Ideal) x w b d (ix3 q j k)
    = ∑ s, tap (slope x w b d s ⟨q.val * 2816 + k.val, by omega⟩) (tapped j (input x s ⟨q.val * 2816 + k.val, by omega⟩)) := by
  pointwise [val_main_v81, val_main_v80, val_main_v73, val_main_v72, val_main_cst_15, val_main_v71, val_main_v62, val_main_v61, val_main_cst_11, val_main_v60, val_main_v51, val_main_cst_7, val_main_v50]
  exact stacked (val_main_v48 (F := Ideal) x w b d) (val_main_v57 (F := Ideal) x w b d) (val_main_v68 (F := Ideal) x w b d) q j k
    (fun j => ∑ s, tap (slope x w b d s ⟨q.val * 2816 + k.val, by omega⟩) (tapped j (input x s ⟨q.val * 2816 + k.val, by omega⟩)))
    (v48_apply x w b d hf _) (v57_apply x w b d hf _) (v68_apply x w b d hf _)

end Cert.FfnBwdRefIdeal.Value

end
-- ==== Proof.FfnBwdValue.lean ====
module

public import proofs.«01_k».proof.Proof.FfnBwdBlocks
public import proofs.«01_k».proof.Proof.FfnBwdFinite
public import proofs.«01_k».proof.Proof.FfnBwdInput
public import proofs.«01_k».proof.Proof.FfnBwdTaps
public import proofs.«01_k».proof.Proof.Gen.FfnBwdRefIdeal.Run

@[expose] public section

set_option maxRecDepth 16384

/-! The gated convolution's gradient is the reference's, array by array. -/

noncomputable section

namespace Cert.FfnBwdIdeal.Value

open Cert.FfnBwdIdeal Cert.FfnBwdIdeal.Gen Idealize.ShloMosaic Idealize.ShloMosaic.TcCoe Cert.CausalConv
open Idealize.ShloMosaic.Pipeline (Dat)
open Cert.FfnBwdRefIdeal.Value (input convolved given Finite)
open Cert.FfnBwdRefIdeal.Value renaming slope → slopes

variable (m : (ℓ : Loc nD τ sig) → Buf (Elt Ideal) ℓ)

/-- The sequence a grid point works on. -/
abbrev seqOf (t : Fin cfg0.N) : Fin 2 := ⟨t.val % 2, by omega⟩

/-- A channel of a half, among all. -/
abbrev chanOf (t : Fin cfg0.N) (s : Fin 2) (l : Fin 256) : Fin 5632 :=
  ⟨s.val * 2816 + (t.val / 2 * 256 + l.val), by have : t.val < 22 := t.isLt; omega⟩

section Entries

variable (c : Dev nD) (t : Fin cfg0.N) (s : Fin 2) (r : Fin 2048) (l : Fin 256)

theorem half_input : (half m c t s).1 (ix2 r l) = input (m ((c : Thread nD τ).loc main_arg0)) (seqOf t) (chanOf t s l) r := by
  have hlt : t.val < 22 := t.isLt
  match s with
  | 0 =>
    show iblk m c 0 t (ix2 r l) = m ((c : Thread nD τ).loc main_arg0) (ix2 (⟨t.val % 2 * 2048 + r.val, by omega⟩ : Fin 4096) (⟨0 * 2816 + (t.val / 2 * 256 + l.val), by omega⟩ : Fin 5632))
    blk_point [iblk, V, idx t]
  | 1 =>
    show iblk m c 1 t (ix2 r l) = m ((c : Thread nD τ).loc main_arg0) (ix2 (⟨t.val % 2 * 2048 + r.val, by omega⟩ : Fin 4096) (⟨1 * 2816 + (t.val / 2 * 256 + l.val), by omega⟩ : Fin 5632))
    blk_point [iblk, V, idx t]

theorem half_taps (j : Fin 3) : (half m c t s).2.1 (ix2 j l) = m ((c : Thread nD τ).loc main_arg1) (ix2 j (chanOf t s l)) := by
  have hlt : t.val < 22 := t.isLt
  match s with
  | 0 =>
    show iblk m c 2 t (ix2 j l) = m ((c : Thread nD τ).loc main_arg1) (ix2 j (⟨0 * 2816 + (t.val / 2 * 256 + l.val), by omega⟩ : Fin 5632))
    blk_point [iblk, V, idx t]
  | 1 =>
    show iblk m c 3 t (ix2 j l) = m ((c : Thread nD τ).loc main_arg1) (ix2 j (⟨1 * 2816 + (t.val / 2 * 256 + l.val), by omega⟩ : Fin 5632))
    blk_point [iblk, V, idx t]

theorem half_bias : (half m c t s).2.2 (ix2 0 l) = m ((c : Thread nD τ).loc main_arg2) (ix2 0 (chanOf t s l)) := by
  have hlt : t.val < 22 := t.isLt
  match s with
  | 0 =>
    show iblk m c 4 t (ix2 0 l) = m ((c : Thread nD τ).loc main_arg2) (ix2 0 (⟨0 * 2816 + (t.val / 2 * 256 + l.val), by omega⟩ : Fin 5632))
    blk_point [iblk, V, idx t]
  | 1 =>
    show iblk m c 5 t (ix2 0 l) = m ((c : Thread nD τ).loc main_arg2) (ix2 0 (⟨1 * 2816 + (t.val / 2 * 256 + l.val), by omega⟩ : Fin 5632))
    blk_point [iblk, V, idx t]

theorem given_entry : iblk m c 6 t (ix2 r l) = given (m ((c : Thread nD τ).loc main_arg3)) (seqOf t) ⟨t.val / 2 * 256 + l.val, by have : t.val < 22 := t.isLt; omega⟩ r := by
  have hlt : t.val < 22 := t.isLt
  show iblk m c 6 t (ix2 r l) = m ((c : Thread nD τ).loc main_arg3) (ix2 (⟨t.val % 2 * 2048 + r.val, by omega⟩ : Fin 4096) (⟨t.val / 2 * 256 + l.val, by omega⟩ : Fin 2816))
  blk_point [iblk, V, idx t]

theorem chan_eq : chan m c t s l = input (m ((c : Thread nD τ).loc main_arg0)) (seqOf t) (chanOf t s l) := funext fun r => half_input m c t s r l

theorem conv_eq : convOf (half m c t s).1 (half m c t s).2.1 (half m c t s).2.2 l = convolved (m ((c : Thread nD τ).loc main_arg0)) (m ((c : Thread nD τ).loc main_arg1)) (m ((c : Thread nD τ).loc main_arg2)) (seqOf t) (chanOf t s l) := by
  have e : (fun r => (half m c t s).1 (ix2 r l)) = input (m ((c : Thread nD τ).loc main_arg0)) (seqOf t) (chanOf t s l) := chan_eq m c t s l
  rw [convOf, half_taps, half_taps, half_taps, half_bias, e]

/-- A channel of the gradient in the convolution's output at a grid point is the reference's. -/
theorem slab_eq : (fun r => slab m c t s (ix2 r l)) = slopes (m ((c : Thread nD τ).loc main_arg0)) (m ((c : Thread nD τ).loc main_arg1)) (m ((c : Thread nD τ).loc main_arg2)) (m ((c : Thread nD τ).loc main_arg3)) (seqOf t) (chanOf t s l) := by
  have hlt : t.val < 22 := t.isLt
  have hd : (fun r => iblk m c 6 t (ix2 r l)) = given (m ((c : Thread nD τ).loc main_arg3)) (seqOf t) ⟨t.val / 2 * 256 + l.val, by omega⟩ := funext fun r => given_entry m c t r l
  have h0 := conv_eq m c t 0 l
  have h1 := conv_eq m c t 1 l
  match s with
  | 0 =>
    rw [Cert.FfnBwdRefIdeal.Value.slope, dif_pos (show (chanOf t 0 l).val < 2816 by show 0 * 2816 + (t.val / 2 * 256 + l.val) < 2816; omega)]
    funext r
    refine (gateBlock_apply _ _ _ _ _ _ _ r l).trans ?_
    refine congrFun (congr (congr (congrArg gateSlope (hd.trans ?_)) h0) (h1.trans ?_)) r
    · exact congrArg (given _ _) (Fin.ext (by show t.val / 2 * 256 + l.val = 0 * 2816 + (t.val / 2 * 256 + l.val); omega))
    · exact congrArg (convolved _ _ _ _) (Fin.ext (by show 1 * 2816 + (t.val / 2 * 256 + l.val) = 2816 + (0 * 2816 + (t.val / 2 * 256 + l.val)); omega))
  | 1 =>
    rw [Cert.FfnBwdRefIdeal.Value.slope, dif_neg (show ¬(chanOf t 1 l).val < 2816 by show ¬1 * 2816 + (t.val / 2 * 256 + l.val) < 2816; omega)]
    funext r
    refine (valueBlock_apply _ _ _ _ r l).trans ?_
    refine congrFun (congr (congrArg valueSlope (hd.trans ?_)) (h0.trans ?_)) r
    · exact congrArg (given _ _) (Fin.ext (by show t.val / 2 * 256 + l.val = 1 * 2816 + (t.val / 2 * 256 + l.val) - 2816; omega))
    · exact congrArg (convolved _ _ _ _) (Fin.ext (by show 0 * 2816 + (t.val / 2 * 256 + l.val) = 1 * 2816 + (t.val / 2 * 256 + l.val) - 2816; omega))

end Entries

/-- The point before one of the second sequence. -/
abbrev prior (t : Fin cfg0.N) : Fin cfg0.N := ⟨t.val - 1, Nat.lt_of_le_of_lt (Nat.sub_le _ _) t.isLt⟩

theorem prior_chan (t : Fin cfg0.N) (ht : t.val % 2 = 1) (s : Fin 2) (l : Fin 256) : chanOf (prior t) s l = chanOf t s l :=
  Fin.ext (by show s.val * 2816 + ((t.val - 1) / 2 * 256 + l.val) = s.val * 2816 + (t.val / 2 * 256 + l.val); omega)

theorem prior_seq (t : Fin cfg0.N) (ht : t.val % 2 = 1) : seqOf (prior t) = 0 := Fin.ext (by show (t.val - 1) % 2 = 0; omega)

theorem this_seq (t : Fin cfg0.N) (ht : t.val % 2 = 1) : seqOf t = 1 := Fin.ext ht

theorem flush8 : ∀ t : Fin cfg0.N, (cfg0.win 8).flush t = true → t.val % 2 = 1 := (by decide +kernel : ∀ t : Fin grid0.N, (cfg0.win 8).flush t = true → t.val % 2 = 1)

theorem flush9 : ∀ t : Fin cfg0.N, (cfg0.win 9).flush t = true → t.val % 2 = 1 := (by decide +kernel : ∀ t : Fin grid0.N, (cfg0.win 9).flush t = true → t.val % 2 = 1)

/-- The taps' gradients after both sequences. -/
theorem out8_apply (c : Dev nD) (t : Fin cfg0.N) (ht : t.val % 2 = 1) (s : Fin 2) (j : Fin 3) (l : Fin 256) : (outsAt0 m c t.val t.isLt).2.1 (ix3 s j l)
    = ∑ q, tap (slopes (m ((c : Thread nD τ).loc main_arg0)) (m ((c : Thread nD τ).loc main_arg1)) (m ((c : Thread nD τ).loc main_arg2)) (m ((c : Thread nD τ).loc main_arg3)) q (chanOf t s l)) (tapped j (input (m ((c : Thread nD τ).loc main_arg0)) q (chanOf t s l))) := by
  rw [out8_later m c t ht, out8_first m c (prior t) (by show (t.val - 1) % 2 = 0; omega), slab_eq, slab_eq, chan_eq, chan_eq, prior_chan t ht, prior_seq t ht, this_seq t ht, Fin.sum_univ_two]

/-- The bias's gradients after both sequences. -/
theorem out9_apply (c : Dev nD) (t : Fin cfg0.N) (ht : t.val % 2 = 1) (s : Fin 2) (l : Fin 256) : (outsAt0 m c t.val t.isLt).2.2 (ix3 s 0 l)
    = ∑ q, ∑ r, slopes (m ((c : Thread nD τ).loc main_arg0)) (m ((c : Thread nD τ).loc main_arg1)) (m ((c : Thread nD τ).loc main_arg2)) (m ((c : Thread nD τ).loc main_arg3)) q (chanOf t s l) r := by
  have e := fun t' => slab_eq m c t' s l
  rw [out9_later m c t ht, out9_first m c (prior t) (by show (t.val - 1) % 2 = 0; omega), Finset.sum_congr rfl fun r _ => congrFun (e t) r, Finset.sum_congr rfl fun r _ => congrFun (e (prior t)) r,
    prior_chan t ht, prior_seq t ht, this_seq t ht, Fin.sum_univ_two]

section Arrays

variable (c : Dev nD)

theorem final7 (hf : Finite (m ((c : Thread nD τ).loc main_arg0)) (m ((c : Thread nD τ).loc main_arg1)) (m ((c : Thread nD τ).loc main_arg2)) (m ((c : Thread nD τ).loc main_arg3))) : (dats m 0 c).arrAt 7 (cfgs 0).N = Cert.FfnBwdRefIdeal.Read.val_main_v79 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  have hlt : t.val < 22 := t.isLt
  obtain ⟨s, r, l, rfl⟩ : ∃ (s : Fin 2) (r : Fin 2048) (l : Fin 256), y = ix3 s r l := ⟨y 0, y 1, y 2, by funext a; match a with | ⟨0, _⟩ => rfl | ⟨1, _⟩ => rfl | ⟨2, _⟩ => rfl⟩
  rw [show ((View.whole main_v0_0).slice (win0_7.rect t)).emb (ix3 s r l) = ix3 s (⟨t.val % 2 * 2048 + r.val, by omega⟩ : Fin 4096) (⟨t.val / 2 * 256 + l.val, by omega⟩ : Fin 2816) by blk_ext [idx t],
    Cert.FfnBwdRefIdeal.Value.v79_apply _ _ _ _ hf]
  refine (out7_apply m c t s r l).trans ?_
  rw [slab_eq, half_taps, half_taps, half_taps]
  exact congr (congrArg (back _ _ _) (congrArg (slopes _ _ _ _ · _) (Fin.ext (by show t.val % 2 = (t.val % 2 * 2048 + r.val) / 2048; omega)))) (Fin.ext (by show r.val = (t.val % 2 * 2048 + r.val) % 2048; omega))

theorem final8 (hf : Finite (m ((c : Thread nD τ).loc main_arg0)) (m ((c : Thread nD τ).loc main_arg1)) (m ((c : Thread nD τ).loc main_arg2)) (m ((c : Thread nD τ).loc main_arg3))) : (dats m 0 c).arrAt 8 (cfgs 0).N = Cert.FfnBwdRefIdeal.Read.val_main_v81 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t ht y => ?_
  blk_simp
  rw [after0_8]
  have hlt : t.val < 22 := t.isLt
  obtain ⟨s, j, l, rfl⟩ : ∃ (s : Fin 2) (j : Fin 3) (l : Fin 256), y = ix3 s j l := ⟨y 0, y 1, y 2, by funext a; match a with | ⟨0, _⟩ => rfl | ⟨1, _⟩ => rfl | ⟨2, _⟩ => rfl⟩
  rw [show ((View.whole main_v0_1).slice (win0_8.rect t)).emb (ix3 s j l) = ix3 s j (⟨t.val / 2 * 256 + l.val, by omega⟩ : Fin 2816) by blk_ext [idx t],
    Cert.FfnBwdRefIdeal.Value.v81_apply _ _ _ _ hf]
  exact out8_apply m c t (flush8 t ht) s j l

theorem final9 (hf : Finite (m ((c : Thread nD τ).loc main_arg0)) (m ((c : Thread nD τ).loc main_arg1)) (m ((c : Thread nD τ).loc main_arg2)) (m ((c : Thread nD τ).loc main_arg3))) : (dats m 0 c).arrAt 9 (cfgs 0).N = Cert.FfnBwdRefIdeal.Read.val_main_v84 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t ht y => ?_
  blk_simp
  rw [after0_9]
  have hlt : t.val < 22 := t.isLt
  obtain ⟨s, l, rfl⟩ : ∃ (s : Fin 2) (l : Fin 256), y = ix3 s 0 l := ⟨y 0, y 2, by funext a; match a with | ⟨0, _⟩ => rfl | ⟨1, _⟩ => exact Subsingleton.elim (α := Fin 1) _ _ | ⟨2, _⟩ => rfl⟩
  rw [show ((View.whole main_v0_2).slice (win0_9.rect t)).emb (ix3 s 0 l) = ix3 s 0 (⟨t.val / 2 * 256 + l.val, by omega⟩ : Fin 2816) by blk_ext [idx t],
    Cert.FfnBwdRefIdeal.Value.v84_apply _ _ _ _ hf]
  exact out9_apply m c t (flush9 t ht) s l

end Arrays

end Cert.FfnBwdIdeal.Value

namespace Cert.FfnBwdIdeal.Claim

open Idealize.ShloMosaic Idealize.ShloMosaic.TcCoe Idealize.SL.Sem

/-- The call computes what the reference computes, where the gradient reaching the gate is real. -/
theorem algebraic : Cert.algebraic_FfnBwdIdeal_FfnBwdRefIdeal_pre_value_finite (hFfnBwdIdeal := Cert.FfnBwdIdeal.Gen.facts) (hFfnBwdRefIdeal := Cert.FfnBwdRefIdeal.Gen.facts) (hPre_value_finite := Cert.Pre_value_finite.Gen.facts) := by
  intro m g m' g' hp h
  have hf := fun c => Cert.FfnBwdRefIdeal.Value.finite_of _ _ _ _ (hp c)
  refine ⟨fun c => Cert.FfnBwdRefIdeal.Read.val_main_v79 (F := Ideal) (m (c.tc.loc Cert.FfnBwdIdeal.main_arg0)) (m (c.tc.loc Cert.FfnBwdIdeal.main_arg1)) (m (c.tc.loc Cert.FfnBwdIdeal.main_arg2)) (m (c.tc.loc Cert.FfnBwdIdeal.main_arg3)),
    fun c => Cert.FfnBwdRefIdeal.Read.val_main_v81 (F := Ideal) (m (c.tc.loc Cert.FfnBwdIdeal.main_arg0)) (m (c.tc.loc Cert.FfnBwdIdeal.main_arg1)) (m (c.tc.loc Cert.FfnBwdIdeal.main_arg2)) (m (c.tc.loc Cert.FfnBwdIdeal.main_arg3)),
    fun c => Cert.FfnBwdRefIdeal.Read.val_main_v84 (F := Ideal) (m (c.tc.loc Cert.FfnBwdIdeal.main_arg0)) (m (c.tc.loc Cert.FfnBwdIdeal.main_arg1)) (m (c.tc.loc Cert.FfnBwdIdeal.main_arg2)) (m (c.tc.loc Cert.FfnBwdIdeal.main_arg3)), ?_, ?_⟩
  · refine (θ_run _ _ _).mono (fun r hr c => ⟨(hr c).1.trans (Cert.FfnBwdIdeal.Value.final7 m c (hf c)), (hr c).2.1.trans (Cert.FfnBwdIdeal.Value.final8 m c (hf c)), (hr c).2.2.1.trans (Cert.FfnBwdIdeal.Value.final9 m c (hf c)), (hr c).2.2.2⟩)
      (Cert.FfnBwdIdeal.Value.run_blocks m g)
  · refine (θ_run _ _ _).mono (fun r hr c => ⟨(hr c).1.trans ?_, (hr c).2.1.trans ?_, (hr c).2.2.1.trans ?_, (hr c).2.2.2⟩) (Cert.FfnBwdRefIdeal.Value.run m' g')
    · rw [Cert.FfnBwdRefIdeal.Read.val_main_v79_eq, (h c).1, (h c).2.1, (h c).2.2.1, (h c).2.2.2]
    · rw [Cert.FfnBwdRefIdeal.Read.val_main_v81_eq, (h c).1, (h c).2.1, (h c).2.2.1, (h c).2.2.2]
    · rw [Cert.FfnBwdRefIdeal.Read.val_main_v84_eq, (h c).1, (h c).2.1, (h c).2.2.1, (h c).2.2.2]

end Cert.FfnBwdIdeal.Claim

end
-- ==== Proof.ShortConv.lean ====
module

public import proofs.«01_k».proof.Proof.CausalConv
public import Idealize.ShloMosaic.Lib.Pointwise

@[expose] public section

set_option maxRecDepth 16384

/-! The gradient of the causal convolution with four taps and of the smooth step behind it. -/

noncomputable section

namespace Cert.CausalConv

open Idealize.ShloMosaic

/-- The gradient in the input of the convolution with four taps. -/
def back4 (a b c d : EReal) (du : Series) : Series := fun t => d * du t + a * ahead 3 du t + b * ahead 2 du t + c * ahead 1 du t

/-- The gradient before the smooth step, `d` the one behind it. -/
def smoothSlope (d u : Series) : Series := fun t => d t * (Ideal.logistic (u t) * (1 + u t * (1 - Ideal.logistic (u t))))

/-- The four series that a channel's taps meet. -/
def tapped4 (j : Fin 4) (u : Series) : Series := match j with
  | 0 => delay 3 u
  | 1 => delay 2 u
  | 2 => delay 1 u
  | 3 => u

/-- The gradient before the smooth step, as a product rule writes it. -/
theorem smoothSlope_eq {d u : Series} {t : Fin 2048} (h : IsReal (d t)) :
    d t * Ideal.logistic (u t) + u t * d t * (Ideal.logistic (u t) * (1 - Ideal.logistic (u t))) = smoothSlope d u t :=
  gate_eq h (u t)

/-- A number below another in size is real. -/
theorem isReal_of_size {y c : EReal} (h : BitVec.ofBool (decide (FloatOps.absf (F := Ideal) (φ := .f32) y < c)) = 1#1) : IsReal y := by
  have hlt : max y (-y) < c := by
    by_contra hn
    rw [show decide (FloatOps.absf (F := Ideal) (φ := .f32) y < c) = false from decide_eq_false hn] at h
    exact absurd h (by decide)
  have hy : y < ⊤ := lt_of_le_of_lt (le_max_left _ _) (lt_of_lt_of_le hlt le_top)
  have hn : -y < ⊤ := lt_of_le_of_lt (le_max_right _ _) (lt_of_lt_of_le hlt le_top)
  exact ⟨y.toReal, (EReal.coe_toReal hy.ne fun e => by rw [e, EReal.neg_bot] at hn; exact absurd hn (lt_irrefl _)).symm⟩

end Cert.CausalConv

end
-- ==== Proof.DnPreBwdReference.lean ====
module

public import proofs.«01_k».proof.Defs
public import proofs.«01_k».proof.Proof.ShortConv
public import proofs.«01_k».proof.Proof.SumTwo
public import proofs.«01_k».proof.Proof.Gen.Pre_given_finite
public import proofs.«01_k».proof.Proof.Gen.DnPreBwdRefIdeal.Read
public import Idealize.ShloMosaic.Lib.Pointwise

@[expose] public section

set_option maxRecDepth 16384

/-! What the reference of the short convolution's gradient computes, channel by channel. -/

noncomputable section

namespace Cert.DnPreBwdRefIdeal.Value

open Cert.DnPreBwdRefIdeal Cert.DnPreBwdRefIdeal.Gen Cert.DnPreBwdRefIdeal.Read Idealize.ShloMosaic Idealize.ShloMosaic.TcCoe Cert.CausalConv

variable (x : FVec Ideal S4096x3840 .f32) (w : FVec Ideal S4x1536 .f32) (d : FVec Ideal S4096x1536 .f32) (p : FVec Ideal S4096x3840 .bf16)

/-- Where a channel of the queries, keys and values stands among the projections. -/
abbrev place (k : Fin 1536) : Fin 3840 := if h : k.val < 256 then ⟨1792 + k.val, by omega⟩ else ⟨2560 + (k.val - 256), by omega⟩

/-- A channel over one sequence. -/
abbrev input (s : Fin 2) (k : Fin 1536) : Series := fun t => x (ix2 ⟨s.val * 2048 + t.val, by omega⟩ (place k))

/-- A channel of the convolution over one sequence. -/
abbrev convolved (s : Fin 2) (k : Fin 1536) : Series := conv4 (w (ix2 0 k)) (w (ix2 1 k)) (w (ix2 2 k)) (w (ix2 3 k)) (input x s k)

/-- A channel of the gradient given over one sequence. -/
abbrev given (s : Fin 2) (k : Fin 1536) : Series := fun t => d (ix2 ⟨s.val * 2048 + t.val, by omega⟩ k)

/-- The gradient in the convolution's output, channel by channel. -/
abbrev slope (s : Fin 2) (k : Fin 1536) : Series := smoothSlope (given d s k) (convolved x w s k)

/-- The gradient in the convolution's input, channel by channel. -/
abbrev backward (s : Fin 2) (k : Fin 1536) : Series := back4 (w (ix2 0 k)) (w (ix2 1 k)) (w (ix2 2 k)) (w (ix2 3 k)) (slope x w d s k)

theorem v2_apply (i : Fin 4096) (k : Fin 1536) : val_main_v2 (F := Ideal) x (ix2 i k) = x (ix2 i (place k)) := by
  pointwise [val_main_v2, val_main_v1, val_main_v0]
  by_cases h : k.val < 256
  · rw [dif_pos h, place, dif_pos h]
  · rw [dif_neg h, place, dif_neg h]

theorem v3_apply (s : Fin 2) (t : Fin 2048) (k : Fin 1536) : val_main_v3 (F := Ideal) x (ix3 s t k) = input x s k t := by
  show _ = x (ix2 _ (place k))
  rw [← v2_apply x]
  pointwise [val_main_v3]

theorem v9_apply (s : Fin 2) (t : Fin 2048) (k : Fin 1536) : val_main_v9 (F := Ideal) x (ix3 s t k) = delay 3 (input x s k) t := by
  pointwise [val_main_v9, val_main_v5, val_main_v4, val_main_cst]
  unfold delay
  by_cases h : 3 ≤ t.val
  · rw [if_pos h, dif_neg (by omega), v3_apply]
  · rw [if_neg h, dif_pos (by omega)]

theorem v17_apply (s : Fin 2) (t : Fin 2048) (k : Fin 1536) : val_main_v17 (F := Ideal) x (ix3 s t k) = delay 2 (input x s k) t := by
  pointwise [val_main_v17, val_main_v5, val_main_v4, val_main_cst]
  unfold delay
  by_cases h : 2 ≤ t.val
  · rw [if_pos h, dif_neg (by omega), v3_apply]
    exact congrArg (input x s k) (Fin.ext (by show 1 + t.val - 3 = t.val - 2; omega))
  · rw [if_neg h, dif_pos (by omega)]

theorem v24_apply (s : Fin 2) (t : Fin 2048) (k : Fin 1536) : val_main_v24 (F := Ideal) x (ix3 s t k) = delay 1 (input x s k) t := by
  pointwise [val_main_v24, val_main_v5, val_main_v4, val_main_cst]
  unfold delay
  by_cases h : 1 ≤ t.val
  · rw [if_pos h, dif_neg (by omega), v3_apply]
    exact congrArg (input x s k) (Fin.ext (by show 2 + t.val - 3 = t.val - 1; omega))
  · rw [if_neg h, dif_pos (by omega)]

theorem v31_apply (s : Fin 2) (t : Fin 2048) (k : Fin 1536) : val_main_v31 (F := Ideal) x (ix3 s t k) = input x s k t := by
  rw [← v3_apply]
  pointwise [val_main_v31, val_main_v5, val_main_v4, val_main_cst]

theorem v35_apply (s : Fin 2) (t : Fin 2048) (k : Fin 1536) : val_main_v35 (F := Ideal) x w (ix3 s t k) = convolved x w s k t := by
  pointwise [val_main_v35, val_main_v34, val_main_v33, val_main_v32, val_main_v30, val_main_v29, val_main_v28, val_main_v27, val_main_v26, val_main_v25, val_main_v23, val_main_v22, val_main_v21, val_main_v20, val_main_v19, val_main_v18, val_main_v16, val_main_v15, val_main_v14, val_main_v13, val_main_cst_1, val_main_v12, val_main_v11, val_main_v10, val_main_v8, val_main_v7]
  rw [v9_apply, v17_apply, v24_apply, v31_apply]
  rfl

/-- Where the gradient given is everywhere a real number. -/
def Finite : Prop := ∀ (s : Fin 2) (t : Fin 2048) (k : Fin 1536), IsReal (given d s k t)

theorem finite_of (h : Cert.Pre_given_finite.fn (F := Ideal) x w d p = fun _ => 1#1) : Finite d := by
  intro s t k
  have e := congrFun h (ix2 ⟨s.val * 2048 + t.val, by omega⟩ k)
  revert e
  pointwise [Cert.Pre_given_finite.fn]
  exact isReal_of_size

theorem v39_apply (hf : Finite d) (s : Fin 2) (t : Fin 2048) (k : Fin 1536) : val_main_v39 (F := Ideal) x w d (ix3 s t k) = slope x w d s k t := by
  pointwise [val_main_v39, val_main_call1_v2, val_main_call1_v1, val_main_call1_v0, val_main_v38, val_main_v36_2, val_main_v36_1, val_main_call0_v7, val_main_call0_v6, val_main_call0_cst_1, val_main_call0_v4, val_main_call0_cst_0, val_main_call0_v3, val_main_call0_v2, val_main_call0_cst, val_main_call0_v1, val_main_call0_v0]
  rw [v35_apply]
  exact smoothSlope_eq (hf s t k)

/-- A sum over the sequences and their steps, the way the reference takes it. -/
theorem twice (v : FVec Ideal S2x2048x1536 .f32) (k : Fin 1536) :
    Host.reduceAdd (F := Ideal) (shapeCast S1x1x1536 (Host.reduceAdd (F := Ideal) v (constant S_ .f32 0#32) reducesTo_S2x2048x1536_S1536_d0_1 h_S_) shapeCasts_S1536_S1x1x1536)
      (constant S_ .f32 0#32) reducesTo_S1x1x1536_S1536_d0_1 h_S_ (ix1 k) = ∑ s : Fin 2, ∑ t : Fin 2048, v (ix3 s t k) := by
  have cast : ∀ y : FVec Ideal S1536 .f32, shapeCast S1x1x1536 y shapeCasts_S1536_S1x1x1536 (ix3 0 0 k) = y (ix1 k) := fun y => by pointwise
  refine (Cert.SumTwo.apply _ _ _ k).trans ?_
  rw [Fin.sum_univ_one, Fin.sum_univ_one, cast]
  refine (congrArg _ (Cert.SumTwo.apply _ _ _ k)).trans ?_
  pointwise

theorem v45_apply (hf : Finite d) (k : Fin 1536) : val_main_v45 (F := Ideal) x w d (ix1 k) = ∑ s, tap (slope x w d s k) (input x s k) := by
  refine (twice (val_main_v42 (F := Ideal) x w d) k).trans (Finset.sum_congr rfl fun s _ => Finset.sum_congr rfl fun t _ => ?_)
  rw [← v39_apply x w d hf, ← v31_apply]
  rfl

theorem v54_apply (hf : Finite d) (k : Fin 1536) : val_main_v54 (F := Ideal) x w d (ix1 k) = ∑ s, tap (slope x w d s k) (delay 1 (input x s k)) := by
  refine (twice (val_main_v51 (F := Ideal) x w d) k).trans (Finset.sum_congr rfl fun s _ => Finset.sum_congr rfl fun t _ => ?_)
  rw [← v39_apply x w d hf, ← v24_apply]
  rfl

theorem v65_apply (hf : Finite d) (k : Fin 1536) : val_main_v65 (F := Ideal) x w d (ix1 k) = ∑ s, tap (slope x w d s k) (delay 2 (input x s k)) := by
  refine (twice (val_main_v62 (F := Ideal) x w d) k).trans (Finset.sum_congr rfl fun s _ => Finset.sum_congr rfl fun t _ => ?_)
  rw [← v39_apply x w d hf, ← v17_apply]
  rfl

theorem v76_apply (hf : Finite d) (k : Fin 1536) : val_main_v76 (F := Ideal) x w d (ix1 k) = ∑ s, tap (slope x w d s k) (delay 3 (input x s k)) := by
  refine (twice (val_main_v73 (F := Ideal) x w d) k).trans (Finset.sum_congr rfl fun s _ => Finset.sum_congr rfl fun t _ => ?_)
  rw [← v39_apply x w d hf, ← v9_apply]
  rfl

theorem v81_apply (hf : Finite d) (j : Fin 4) (k : Fin 1536) : val_main_v81 (F := Ideal) x w d (ix2 j k) = ∑ s, tap (slope x w d s k) (tapped4 j (input x s k)) := by
  pointwise [val_main_v81, val_main_v80, val_main_v79, val_main_cst_17, val_main_v70, val_main_v69, val_main_v68, val_main_cst_13, val_main_v59, val_main_v58, val_main_v57, val_main_cst_9, val_main_v48, val_main_v47, val_main_cst_5]
  rw [v45_apply x w d hf, v54_apply x w d hf, v65_apply x w d hf, v76_apply x w d hf]
  match j with
  | 0 => simp [tapped4]
  | 1 => simp [tapped4]
  | 2 => simp [tapped4]
  | 3 => simp [tapped4]

/-- The gradient in the convolution's input, with the terms in the reference's order and with its bounds. -/
theorem back4_eq (a b c e : EReal) (y : Series) (t : Fin 2048) :
    (((e * y t + if h : 2 ≤ 3 + t.val ∧ 3 + t.val - 2 < 2048 then c * y ⟨3 + t.val - 2, by omega⟩ else 0)
      + if h : 1 ≤ 3 + t.val ∧ 3 + t.val - 1 < 2048 then b * y ⟨3 + t.val - 1, by omega⟩ else 0)
      + if h : 3 + t.val < 2048 then a * y ⟨3 + t.val, by omega⟩ else 0) = back4 a b c e y t := by
  have key : ∀ (n : ℕ) (z : EReal) (q : Prop) [Decidable q] (hq : q ↔ t.val + n < 2048) (i : q → Fin 2048) (hi : ∀ h, (i h).val = t.val + n),
      (if h : q then z * y (i h) else 0) = z * ahead n y t := by
    intro n z q _ hq i hi
    rw [ahead]
    by_cases h : q
    · rw [dif_pos h, dif_pos (hq.mp h)]
      exact congrArg (fun r => z * y r) (Fin.ext (hi h))
    · rw [dif_neg h, dif_neg (mt hq.mpr h), mul_zero]
  rw [key 1 c _ (by omega) _ fun h => by show 3 + t.val - 2 = t.val + 1; omega, key 2 b _ (by omega) _ fun h => by show 3 + t.val - 1 = t.val + 2; omega,
    key 3 a _ (by omega) _ fun h => by show 3 + t.val = t.val + 3; omega, back4]
  abel

theorem v83_apply (hf : Finite d) (s : Fin 2) (t : Fin 2048) (k : Fin 1536) : val_main_v83 (F := Ideal) x w d (ix3 s t k) = backward x w d s k t := by
  pointwise [val_main_v83, val_main_v78, val_main_v77, val_main_v72, val_main_v71, val_main_cst_16, val_main_v67, val_main_v66, val_main_v61, val_main_v60, val_main_cst_12, val_main_v56, val_main_v55, val_main_v50, val_main_v49, val_main_cst_8, val_main_v46, val_main_v41, val_main_v40, val_main_cst_4, val_main_v32, val_main_v30, val_main_v29, val_main_v25, val_main_v23, val_main_v22, val_main_v18, val_main_v16, val_main_v15, val_main_v10, val_main_v8, val_main_v7]
  simp only [v39_apply x w d hf]
  exact back4_eq _ _ _ _ (slope x w d s k) t

theorem v84_apply (hf : Finite d) (s : Fin 2) (t : Fin 2048) (k : Fin 1536) :
    val_main_v84 (F := Ideal) x w d (ix2 ⟨s.val * 2048 + t.val, by omega⟩ k) = backward x w d s k t := by
  rw [← v83_apply x w d hf]
  pointwise [val_main_v84]

/-- The columns of the projections that are queries, keys or values hold the gradient. -/
theorem v95_inside (hf : Finite d) (s : Fin 2) (t : Fin 2048) (k : Fin 1536) :
    val_main_v95 (F := Ideal) x w d p (ix2 ⟨s.val * 2048 + t.val, by omega⟩ (place k)) = backward x w d s k t := by
  rw [← v84_apply x w d hf, place]
  by_cases h : k.val < 256
  · rw [dif_pos h]
    pointwise [val_main_v95, val_main_v92, val_main_v90, val_main_v89, val_main_v88, val_main_cst_19, val_main_v87, val_main_cst_18, val_main_v86, val_main_v85]
    refine (dif_pos h).trans ?_
    exact (congrArg₂ (· + ·) (dif_neg (by omega)) (dif_pos (by omega))).trans (zero_add (M := EReal) _)
  · rw [dif_neg h]
    pointwise [val_main_v95, val_main_v94, val_main_v90, val_main_v89, val_main_v88, val_main_cst_19, val_main_v87, val_main_cst_18, val_main_v86, val_main_v85]
    refine (dif_neg (by omega)).trans ((dif_neg (by omega)).trans ((dif_neg (by omega)).trans ?_))
    refine (congrArg₂ (· + ·) (dif_pos (by omega)) (dif_neg (by omega))).trans ((add_zero (M := EReal) _).trans ?_)
    exact congrArg (fun q => val_main_v84 (F := Ideal) x w d (ix2 _ q)) (Fin.ext (by show 256 + (2560 + (k.val - 256) - 1792 - 256 - 512) = k.val; omega))

/-- The other columns are as given. -/
theorem v95_outside (i : Fin 4096) (k : Fin 3840) (h : k.val < 1792 ∨ 2048 ≤ k.val ∧ k.val < 2560) :
    val_main_v95 (F := Ideal) x w d p (ix2 i k) = p (ix2 i k) := by
  pointwise [val_main_v95, val_main_v91, val_main_v93]
  by_cases h' : k.val < 1792
  · rw [dif_pos h']
  · rw [dif_neg h', dif_neg (by omega), dif_pos (by omega)]
    exact congrArg (fun q => p (ix2 i q)) (Fin.ext (by show 2048 + (k.val - 1792 - 256) = k.val; omega))

end Cert.DnPreBwdRefIdeal.Value

end
-- ==== Proof.DnPreBwdValue.lean ====
module

public import proofs.«01_k».proof.Proof.DnPreBwdReference
public import proofs.«01_k».proof.Proof.Steps
public import proofs.«01_k».proof.Proof.Gen.DnPreBwdIdeal.Frame
public import proofs.«01_k».proof.Proof.Gen.DnPreBwdIdeal.Value
public import proofs.«01_k».proof.Proof.Gen.DnPreBwdRefIdeal.Run
public import proofs.«01_k».proof.Defs
public import Idealize.ShloMosaic.Lib.Pipeline.ValueKit
public import Idealize.ShloMosaic.Lib.Pointwise

@[expose] public section

set_option maxRecDepth 16384

/-! The gradient of the short convolution is the reference's: point `t` holds channel tile `t / 2` of sequence `t % 2`. -/

noncomputable section

namespace Cert.DnPreBwdIdeal.Value

open Cert.DnPreBwdIdeal Cert.DnPreBwdIdeal.Gen Idealize.ShloMosaic Idealize.ShloMosaic.TcCoe Cert.CausalConv Cert.Steps
open Idealize.ShloMosaic.Pipeline (Dat)
open Cert.DnPreBwdRefIdeal.Value (place input convolved given slope backward Finite)

section Body

variable (x d : FVec Ideal S2048x128 .f32) (w : FVec Ideal S4x128 .f32) (r : Fin 2048) (l : Fin 128)

theorem three_ago : k0_pay7 (F := Ideal) x (ix2 r l) = delay 3 (fun t => x (ix2 t l)) r := by
  pointwise [k0_pay7]
  refine choose_eq (from_three r) (fun h => ?_) fun h => ?_
  · rw [delay, if_pos h]
    exact congrArg (fun k => x (ix2 k l)) (Fin.ext (by show (r.val + 2048 - 3) % 2048 = r.val - 3; omega))
  · rw [delay, if_neg h]

theorem two_ago : k0_pay8 (F := Ideal) x (ix2 r l) = delay 2 (fun t => x (ix2 t l)) r := by
  pointwise [k0_pay8]
  refine choose_eq (from_two r) (fun h => ?_) fun h => ?_
  · rw [delay, if_pos h]
    exact congrArg (fun k => x (ix2 k l)) (Fin.ext (by show (r.val + 2048 - 2) % 2048 = r.val - 2; omega))
  · rw [delay, if_neg h]

theorem one_ago : k0_pay9 (F := Ideal) x (ix2 r l) = delay 1 (fun t => x (ix2 t l)) r := by
  pointwise [k0_pay9]
  refine choose_eq (from_one r) (fun h => ?_) fun h => ?_
  · rw [delay, if_pos h]
    exact congrArg (fun k => x (ix2 k l)) (Fin.ext (by show (r.val + 2048 - 1) % 2048 = r.val - 1; omega))
  · rw [delay, if_neg h]

/-- A channel of a block, convolved. -/
abbrev convOf (x : FVec Ideal S2048x128 .f32) (w : FVec Ideal S4x128 .f32) (l : Fin 128) : Series :=
  conv4 (w (ix2 0 l)) (w (ix2 1 l)) (w (ix2 2 l)) (w (ix2 3 l)) fun t => x (ix2 t l)

theorem convolved_apply : k0_pay10 (F := Ideal) x w (ix2 r l) = convOf x w l r := by
  pointwise [k0_pay10]
  rw [three_ago, two_ago, one_ago]
  rfl

/-- The block of the gradient in the convolution's output. -/
abbrev slopeBlock (x d : FVec Ideal S2048x128 .f32) (w : FVec Ideal S4x128 .f32) : FVec Ideal S2048x128 .f32 :=
  k0_pay14 (F := Ideal) d (k0_pay11 x w) (k0_pay12 x w) k0_pay13

theorem slopeBlock_apply : slopeBlock x d w (ix2 r l) = smoothSlope (fun t => d (ix2 t l)) (convOf x w l) r := by
  pointwise [slopeBlock, k0_pay14, k0_pay13, k0_pay12, k0_pay11]
  rw [convolved_apply]
  rfl

theorem below_three : ∀ r : Fin 2048, IntOp.cmpi .slt (BitVec.ofNat 32 r.val) 2045#32 = if r.val + 3 < 2048 then 1#1 else 0#1 := by decide +kernel

/-- The gradient in the convolution's input, channel by channel. -/
theorem back_apply : k0_pay2 (F := Ideal) (k0_pay15 w d (k0_pay11 x w) (k0_pay12 x w) k0_pay13) (ix2 r l)
    = back4 (w (ix2 0 l)) (w (ix2 1 l)) (w (ix2 2 l)) (w (ix2 3 l)) (fun t => slopeBlock x d w (ix2 t l)) r := by
  pointwise [k0_pay2, k0_pay15]
  rw [back4, ahead, ahead, ahead]
  refine congrArg₂ (· + ·) (congrArg₂ (· + ·) (congrArg₂ (· + ·) rfl (choose_eq (below_three r) (fun h => ?_) fun h => ?_)) (choose_eq (below_two r) (fun h => ?_) fun h => ?_)) (choose_eq (below_one r) (fun h => ?_) fun h => ?_)
  · rw [dif_pos h]
    exact congrArg (fun k => w (ix2 0 l) * slopeBlock x d w (ix2 k l)) (Fin.ext (by show (r.val + 2048 - 2045) % 2048 = r.val + 3; omega))
  · rw [dif_neg h, mul_zero]
  · rw [dif_pos h]
    exact congrArg (fun k => w (ix2 1 l) * slopeBlock x d w (ix2 k l)) (Fin.ext (by show (r.val + 2048 - 2046) % 2048 = r.val + 2; omega))
  · rw [dif_neg h, mul_zero]
  · rw [dif_pos h]
    exact congrArg (fun k => w (ix2 2 l) * slopeBlock x d w (ix2 k l)) (Fin.ext (by show (r.val + 2048 - 2047) % 2048 = r.val + 1; omega))
  · rw [dif_neg h, mul_zero]

end Body

section Sums

variable (x y d : FVec Ideal S2048x128 .f32) (w : FVec Ideal S4x128 .f32) (z : FVec Ideal S1x128 .f32) (l : Fin 128)

theorem pay16_apply : k0_pay16 (F := Ideal) y d (k0_pay11 x w) (k0_pay12 x w) k0_pay13 (ix2 0 l) = tap (fun t => slopeBlock x d w (ix2 t l)) (fun t => y (ix2 t l)) := by
  pointwise [k0_pay16]
  rfl

theorem pay17_apply : k0_pay17 (F := Ideal) y d (k0_pay11 x w) (k0_pay12 x w) k0_pay13 (ix2 0 l) = tap (fun t => slopeBlock x d w (ix2 t l)) (fun t => y (ix2 t l)) :=
  pay16_apply x y d w l

theorem pay18_apply : k0_pay18 (F := Ideal) y d (k0_pay11 x w) (k0_pay12 x w) k0_pay13 (ix2 0 l) = tap (fun t => slopeBlock x d w (ix2 t l)) (fun t => y (ix2 t l)) :=
  pay16_apply x y d w l

theorem pay1_apply : k0_pay1 (F := Ideal) (k0_pay19 y d (k0_pay11 x w) (k0_pay12 x w) k0_pay13) (ix2 0 l) = tap (fun t => slopeBlock x d w (ix2 t l)) (fun t => y (ix2 t l)) :=
  pay16_apply x y d w l

theorem pay3_apply (u : FVec Ideal S1x128 .f32) : k0_pay3 (F := Ideal) u z (ix2 0 l) = z (ix2 0 l) + u (ix2 0 l) := by
  pointwise [k0_pay3]

theorem pay4_apply (u : FVec Ideal S1x128 .f32) : k0_pay4 (F := Ideal) u z (ix2 0 l) = z (ix2 0 l) + u (ix2 0 l) := by
  pointwise [k0_pay4]

theorem pay5_apply (u : FVec Ideal S1x128 .f32) : k0_pay5 (F := Ideal) u z (ix2 0 l) = z (ix2 0 l) + u (ix2 0 l) := by
  pointwise [k0_pay5]

theorem pay6_apply (u : FVec Ideal S128 .f32) : k0_pay6 (F := Ideal) u z (ix2 0 l) = z (ix2 0 l) + k0_pay1 (F := Ideal) u (ix2 0 l) := by
  pointwise [k0_pay6, k0_pay1]

theorem ld_row (z : FVec Ideal S4x128 .f32) (a : Fin 4) (h : ∀ q, ![a.val, 0] q + ![1, 128] q ≤ S4x128.size q) :
    View.ld (Val := Elt Ideal) (e' := .f32) z (Rect.unit ![a.val, 0] ![1, 128] h) (ix2 0 l : S1x128.Idx) = z (ix2 a l) := by
  refine View.ld_unit_apply_of (Val := Elt Ideal) (e := .f32) z _ _ _ _ _ fun q => ?_
  match q with
  | ⟨0, _⟩ => rfl
  | ⟨1, _⟩ => exact (Nat.zero_add l.val).symm

end Sums

variable (m : (ℓ : Loc nD τ sig) → Buf (Elt Ideal) ℓ)

/-- The column of blocks among the projections that a grid point works on. -/
abbrev source (t : ℕ) : ℕ := if t / 2 < 2 then 14 + t / 2 else 18 + t / 2

/-- Where each window stands at a grid point. -/
theorem idx : ∀ t : Fin cfg0.N, win0_0.index t = ![t.val % 2, source t.val] ∧ win0_1.index t = ![0, t.val / 2] ∧ win0_2.index t = ![t.val % 2, t.val / 2]
    ∧ win0_3.index t = ![t.val % 2, source t.val] ∧ win0_4.index t = ![0, t.val / 2] :=
  (by decide +kernel : ∀ t : Fin grid0.N, _)

/-- The sequence a grid point works on. -/
abbrev seqOf (t : Fin cfg0.N) : Fin 2 := ⟨t.val % 2, by omega⟩

/-- A channel of a grid point. -/
abbrev chan (t : Fin cfg0.N) (l : Fin 128) : Fin 1536 := ⟨t.val / 2 * 128 + l.val, by have : t.val < 24 := t.isLt; omega⟩

/-- The place of a channel, as the grid point reads it. -/
theorem place_chan (t : Fin cfg0.N) (l : Fin 128) : (place (chan t l)).val = source t.val * 128 + l.val := by
  have hlt : t.val < 24 := t.isLt
  unfold place source
  by_cases h : t.val / 2 < 2
  · rw [if_pos h, dif_pos (by show t.val / 2 * 128 + l.val < 256; omega)]
    show 1792 + (t.val / 2 * 128 + l.val) = _
    omega
  · rw [if_neg h, dif_neg (by show ¬ t.val / 2 * 128 + l.val < 256; omega)]
    show 2560 + (t.val / 2 * 128 + l.val - 256) = _
    omega

/-- The block of the gradient in the convolution's output at a grid point. -/
def slab (c : Dev nD) (t : Fin cfg0.N) : FVec Ideal S2048x128 .f32 := slopeBlock (iblk m c 0 t) (iblk m c 2 t) (iblk m c 1 t)

section Entries

variable (c : Dev nD) (t : Fin cfg0.N) (l : Fin 128)

theorem chan_input : (fun r => iblk m c 0 t (ix2 r l)) = input (m ((c : Thread nD τ).loc main_arg0)) (seqOf t) (chan t l) := by
  have hlt : t.val < 24 := t.isLt
  funext k
  blk_point [iblk, V, idx t]
  exact (place_chan t l).symm

theorem chan_taps (j : Fin 4) : iblk m c 1 t (ix2 j l) = m ((c : Thread nD τ).loc main_arg1) (ix2 j (chan t l)) := by
  have hlt : t.val < 24 := t.isLt
  blk_point [iblk, V, idx t]

theorem chan_given : (fun r => iblk m c 2 t (ix2 r l)) = given (m ((c : Thread nD τ).loc main_arg2)) (seqOf t) (chan t l) := by
  have hlt : t.val < 24 := t.isLt
  funext k
  blk_point [iblk, V, idx t]

theorem slab_eq : (fun r => slab m c t (ix2 r l)) = slope (m ((c : Thread nD τ).loc main_arg0)) (m ((c : Thread nD τ).loc main_arg1)) (m ((c : Thread nD τ).loc main_arg2)) (seqOf t) (chan t l) := by
  funext r
  refine (slopeBlock_apply _ _ _ r l).trans ?_
  rw [convOf, chan_taps, chan_taps, chan_taps, chan_taps]
  exact congrFun (congr (congrArg smoothSlope (chan_given m c t l)) (congrArg _ (chan_input m c t l))) r

end Entries

theorem out3_apply (c : Dev nD) (t : Fin cfg0.N) (r : Fin 2048) (l : Fin 128) : (outsAt0 m c t.val t.isLt).1 (ix2 r l)
    = backward (m ((c : Thread nD τ).loc main_arg0)) (m ((c : Thread nD τ).loc main_arg1)) (m ((c : Thread nD τ).loc main_arg2)) (seqOf t) (chan t l) r := by
  have hlt : t.val < 24 := t.isLt
  have key : k0_pay2 (F := Ideal) (k0_pay15 (iblk m c 1 t) (iblk m c 2 t) (k0_pay11 (iblk m c 0 t) (iblk m c 1 t)) (k0_pay12 (iblk m c 0 t) (iblk m c 1 t)) k0_pay13) (ix2 r l)
      = backward (m ((c : Thread nD τ).loc main_arg0)) (m ((c : Thread nD τ).loc main_arg1)) (m ((c : Thread nD τ).loc main_arg2)) (seqOf t) (chan t l) r := by
    rw [back_apply, chan_taps, chan_taps, chan_taps, chan_taps]
    exact congrFun (congrArg (back4 _ _ _ _) (slab_eq m c t l)) r
  by_cases h : t.val % 2 = 0
  · rw [outsAt0_A m c t (by omega) (by omega) (by omega) (by omega) (by omega) (by omega) (by omega) (by omega)]
    frame_out
    exact key
  · rw [outsAt0_B m c t (by omega) (by omega) (by omega) (by omega) (by omega) (by omega) (by omega) (by omega)]
    frame_out
    exact key

theorem only (x : S1x128.Idx) {n : ℕ} {i : Fin n} (l : Fin 128) (h : ((ix2 i l : (⟨2, ![n, 128]⟩ : Shape).Idx) 1).val = (x 1).val) : ix2 0 l = x := by
  funext a
  match a with
  | ⟨0, _⟩ => exact Subsingleton.elim (α := Fin 1) _ _
  | ⟨1, _⟩ => exact Fin.ext h

theorem out4_first (c : Dev nD) (t : Fin cfg0.N) (ht : t.val % 2 = 0) (j : Fin 4) (l : Fin 128) : (outsAt0 m c t.val t.isLt).2 (ix2 j l)
    = tap (fun q => slab m c t (ix2 q l)) (tapped4 j (fun q => iblk m c 0 t (ix2 q l))) := by
  rw [outsAt0_A m c t (by omega) (by omega) (by omega) (by omega) (by omega) (by omega) (by omega) (by omega)]
  frame_out
  canon_tiles x h
  · obtain rfl : j = 3 := Fin.ext (by have : j.val = 3 + (x 0).val := h0; show j.val = 3; omega)
    obtain rfl := only x l h1
    exact pay1_apply _ _ _ _ l
  · obtain rfl : j = 2 := Fin.ext (by have : j.val = 2 + (x 0).val := h0; show j.val = 2; omega)
    obtain rfl := only x l h1
    exact (pay18_apply _ _ _ _ l).trans (congrArg (tap _) (funext fun q => one_ago _ q l))
  · obtain rfl : j = 1 := Fin.ext (by have : j.val = 1 + (x 0).val := h0; show j.val = 1; omega)
    obtain rfl := only x l h1
    exact (pay17_apply _ _ _ _ l).trans (congrArg (tap _) (funext fun q => two_ago _ q l))
  · obtain rfl : j = 0 := Fin.ext (by have : j.val = (x 0).val := h0; show j.val = 0; omega)
    obtain rfl := only x l h1
    exact (pay16_apply _ _ _ _ l).trans (congrArg (tap _) (funext fun q => three_ago _ q l))

theorem out4_later (c : Dev nD) (t : Fin cfg0.N) (ht : t.val % 2 = 1) (j : Fin 4) (l : Fin 128) : (outsAt0 m c t.val t.isLt).2 (ix2 j l)
    = (outsAt0 m c (t.val - 1) (Nat.lt_of_le_of_lt (Nat.sub_le _ _) t.isLt)).2 (ix2 j l) + tap (fun q => slab m c t (ix2 q l)) (tapped4 j (fun q => iblk m c 0 t (ix2 q l))) := by
  rw [outsAt0_B m c t (by omega) (by omega) (by omega) (by omega) (by omega) (by omega) (by omega) (by omega)]
  generalize outsAt0 m c (t.val - 1) (Nat.lt_of_le_of_lt (Nat.sub_le _ _) t.isLt) = prev
  frame_out
  canon_tiles x h
  · obtain rfl : j = 3 := Fin.ext (by have : j.val = 3 + (x 0).val := h0; show j.val = 3; omega)
    obtain rfl := only x l h1
    exact (pay6_apply _ l _).trans (congrArg₂ (· + ·) (ld_row l _ 3 _) (pay1_apply _ _ _ _ l))
  · obtain rfl : j = 2 := Fin.ext (by have : j.val = 2 + (x 0).val := h0; show j.val = 2; omega)
    obtain rfl := only x l h1
    exact (pay5_apply _ l _).trans (congrArg₂ (· + ·) (ld_row l _ 2 _) ((pay18_apply _ _ _ _ l).trans (congrArg (tap _) (funext fun q => one_ago _ q l))))
  · obtain rfl : j = 1 := Fin.ext (by have : j.val = 1 + (x 0).val := h0; show j.val = 1; omega)
    obtain rfl := only x l h1
    exact (pay4_apply _ l _).trans (congrArg₂ (· + ·) (ld_row l _ 1 _) ((pay17_apply _ _ _ _ l).trans (congrArg (tap _) (funext fun q => two_ago _ q l))))
  · obtain rfl : j = 0 := Fin.ext (by have : j.val = (x 0).val := h0; show j.val = 0; omega)
    obtain rfl := only x l h1
    exact (pay3_apply _ l _).trans (congrArg₂ (· + ·) (ld_row l _ 0 _) ((pay16_apply _ _ _ _ l).trans (congrArg (tap _) (funext fun q => three_ago _ q l))))

/-- The point before one of the second sequence. -/
abbrev prior (t : Fin cfg0.N) : Fin cfg0.N := ⟨t.val - 1, Nat.lt_of_le_of_lt (Nat.sub_le _ _) t.isLt⟩

theorem prior_chan (t : Fin cfg0.N) (ht : t.val % 2 = 1) (l : Fin 128) : chan (prior t) l = chan t l :=
  Fin.ext (by show (t.val - 1) / 2 * 128 + l.val = t.val / 2 * 128 + l.val; omega)

theorem prior_seq (t : Fin cfg0.N) (ht : t.val % 2 = 1) : seqOf (prior t) = 0 := Fin.ext (by show (t.val - 1) % 2 = 0; omega)

theorem this_seq (t : Fin cfg0.N) (ht : t.val % 2 = 1) : seqOf t = 1 := Fin.ext ht

theorem flush4 : ∀ t : Fin cfg0.N, (cfg0.win 4).flush t = true → t.val % 2 = 1 := (by decide +kernel : ∀ t : Fin grid0.N, (cfg0.win 4).flush t = true → t.val % 2 = 1)

/-- The taps' gradients after both sequences. -/
theorem out4_apply (c : Dev nD) (t : Fin cfg0.N) (ht : t.val % 2 = 1) (j : Fin 4) (l : Fin 128) : (outsAt0 m c t.val t.isLt).2 (ix2 j l)
    = ∑ q, tap (slope (m ((c : Thread nD τ).loc main_arg0)) (m ((c : Thread nD τ).loc main_arg1)) (m ((c : Thread nD τ).loc main_arg2)) q (chan t l)) (tapped4 j (input (m ((c : Thread nD τ).loc main_arg0)) q (chan t l))) := by
  rw [out4_later m c t ht, out4_first m c (prior t) (by show (t.val - 1) % 2 = 0; omega), slab_eq, slab_eq, chan_input, chan_input, prior_chan t ht, prior_seq t ht, this_seq t ht, Fin.sum_univ_two]

section Arrays

variable (c : Dev nD)

/-- The projections' gradient: the channels the kernel writes, the rest as given. -/
theorem final3 (hf : Finite (m ((c : Thread nD τ).loc main_arg2))) : (dats m 0 c).arrAt 3 (cfgs 0).N = Cert.DnPreBwdRefIdeal.Read.val_main_v95 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 3 _ (fun β => 14 ≤ β (1 : Fin 2) ∧ β (1 : Fin 2) < 16 ∨ 20 ≤ β (1 : Fin 2)) (by decide +kernel) (fun t _ y => ?_) fun j hj => ?_
  · blk_simp
    rw [after0_3]
    have hlt : t.val < 24 := t.isLt
    obtain ⟨r, l, rfl⟩ : ∃ (r : Fin 2048) (l : Fin 128), y = ix2 r l := ⟨y 0, y 1, by funext a; match a with | ⟨0, _⟩ => rfl | ⟨1, _⟩ => rfl⟩
    have hp := place_chan t l
    rw [show ((View.whole main_v0_0).slice (win0_3.rect t)).emb (ix2 r l) = ix2 (⟨(seqOf t).val * 2048 + r.val, by show t.val % 2 * 2048 + r.val < 4096; omega⟩ : Fin 4096) (place (chan t l)) by blk_ext [idx t],
      Cert.DnPreBwdRefIdeal.Value.v95_inside _ _ _ _ hf]
    exact out3_apply m c t r l
  · obtain ⟨r, k, rfl⟩ : ∃ (r : Fin 4096) (k : Fin 3840), j = ix2 r k := ⟨j 0, j 1, by funext a; match a with | ⟨0, _⟩ => rfl | ⟨1, _⟩ => rfl⟩
    have hk : ¬(14 ≤ k.val / 128 ∧ k.val / 128 < 16 ∨ 20 ≤ k.val / 128) := hj
    refine Eq.trans ?_ (Cert.DnPreBwdRefIdeal.Value.v95_outside _ _ _ _ r k (by omega)).symm
    rfl

theorem final4 (hf : Finite (m ((c : Thread nD τ).loc main_arg2))) : (dats m 0 c).arrAt 4 (cfgs 0).N = Cert.DnPreBwdRefIdeal.Read.val_main_v81 (F := Ideal) (m ((c : Thread nD τ).loc main_arg0)) (m ((c : Thread nD τ).loc main_arg1)) (m ((c : Thread nD τ).loc main_arg2)) := by
  refine (dats m 0 c).arrAt_eq_of_covers 4 _ (by decide +kernel) fun t ht y => ?_
  blk_simp
  rw [after0_4]
  have hlt : t.val < 24 := t.isLt
  obtain ⟨j, l, rfl⟩ : ∃ (j : Fin 4) (l : Fin 128), y = ix2 j l := ⟨y 0, y 1, by funext a; match a with | ⟨0, _⟩ => rfl | ⟨1, _⟩ => rfl⟩
  rw [show ((View.whole main_v0_1).slice (win0_4.rect t)).emb (ix2 j l) = ix2 j (chan t l) by blk_ext [idx t],
    Cert.DnPreBwdRefIdeal.Value.v81_apply _ _ _ hf]
  exact out4_apply m c t (flush4 t ht) j l

end Arrays

end Cert.DnPreBwdIdeal.Value

namespace Cert.DnPreBwdIdeal.Claim

open Idealize.ShloMosaic Idealize.ShloMosaic.TcCoe Idealize.SL.Sem

/-- The call computes what the reference computes, where the gradient given is finite. -/
theorem algebraic : Cert.algebraic_DnPreBwdIdeal_DnPreBwdRefIdeal_pre_given_finite (hDnPreBwdIdeal := Cert.DnPreBwdIdeal.Gen.facts) (hDnPreBwdRefIdeal := Cert.DnPreBwdRefIdeal.Gen.facts) (hPre_given_finite := Cert.Pre_given_finite.Gen.facts) := by
  intro m g m' g' hp h
  have hf := fun c => Cert.DnPreBwdRefIdeal.Value.finite_of _ _ _ _ (hp c)
  refine ⟨fun c => Cert.DnPreBwdRefIdeal.Read.val_main_v95 (F := Ideal) (m (c.tc.loc Cert.DnPreBwdIdeal.main_arg0)) (m (c.tc.loc Cert.DnPreBwdIdeal.main_arg1)) (m (c.tc.loc Cert.DnPreBwdIdeal.main_arg2)) (m (c.tc.loc Cert.DnPreBwdIdeal.main_arg3)),
    fun c => Cert.DnPreBwdRefIdeal.Read.val_main_v81 (F := Ideal) (m (c.tc.loc Cert.DnPreBwdIdeal.main_arg0)) (m (c.tc.loc Cert.DnPreBwdIdeal.main_arg1)) (m (c.tc.loc Cert.DnPreBwdIdeal.main_arg2)), ?_, ?_⟩
  · refine (θ_run _ _ _).mono (fun r hr c => ⟨(hr c).1.trans (Cert.DnPreBwdIdeal.Value.final3 m c (hf c)), (hr c).2.1.trans (Cert.DnPreBwdIdeal.Value.final4 m c (hf c)), (hr c).2.2⟩)
      (Cert.DnPreBwdIdeal.Value.run_blocks m g)
  · refine (θ_run _ _ _).mono (fun r hr c => ⟨(hr c).1.trans ?_, (hr c).2.1.trans ?_, (hr c).2.2⟩) (Cert.DnPreBwdRefIdeal.Value.run m' g')
    · refine (Cert.DnPreBwdRefIdeal.Read.val_main_v95_eq _).trans ?_
      show Cert.DnPreBwdRefIdeal.Read.val_main_v95 (F := Ideal) (m' (c.tc.loc Cert.DnPreBwdRefIdeal.main_arg0)) (m' (c.tc.loc Cert.DnPreBwdRefIdeal.main_arg1)) (m' (c.tc.loc Cert.DnPreBwdRefIdeal.main_arg2)) (m' (c.tc.loc Cert.DnPreBwdRefIdeal.main_arg3)) = _
      rw [(h c).1, (h c).2.1, (h c).2.2.1, (h c).2.2.2]
    · refine (Cert.DnPreBwdRefIdeal.Read.val_main_v81_eq _).trans ?_
      show Cert.DnPreBwdRefIdeal.Read.val_main_v81 (F := Ideal) (m' (c.tc.loc Cert.DnPreBwdRefIdeal.main_arg0)) (m' (c.tc.loc Cert.DnPreBwdRefIdeal.main_arg1)) (m' (c.tc.loc Cert.DnPreBwdRefIdeal.main_arg2)) = _
      rw [(h c).1, (h c).2.1, (h c).2.2.1]

end Cert.DnPreBwdIdeal.Claim

end
-- ==== Proof.PairAddWUpValue.lean ====
module

public import proofs.«01_k».proof.Defs
public import proofs.«01_k».proof.Proof.Gen.Pre_a_core_w_up
public import proofs.«01_k».proof.Proof.Gen.PairAddWUp.Frame
public import proofs.«01_k».proof.Proof.Gen.PairAddWUpIdeal.Frame
public import proofs.«01_k».proof.Proof.Gen.PairAddWUpRefIdeal.Run
public import proofs.«01_k».proof.Proof.Gen.PairAddWUpRefIdeal.Read
public import Idealize.ShloMosaic.Lib.Pipeline.ValueKit
public import Idealize.ShloMosaic.Lib.Pipeline.Value
public import Idealize.ShloMosaic.Lib.Pointwise

@[expose] public section

set_option maxRecDepth 16384

/-! The core's half of a gradient plus what the neighbour gave of it. -/

noncomputable section

namespace Cert.PairAddWUp.Table

open Cert.PairAddWUp Cert.PairAddWUp.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWUp (hPre_a_core_w_up := Cert.Pre_a_core_w_up.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_up.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x256x1408.size a ≤ S4x2x512x1408.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 256 ≤ 512; omega
    | ⟨3, _⟩ => show (0 + 1) * 1408 ≤ 1408; omega
  exact ⟨b, .inl rfl⟩

theorem ok_of_pre (h : Cert.Pre_PairAddWUp (hPre_a_core_w_up := Cert.Pre_a_core_w_up.Gen.facts) m) : Ok m := ok_of_lt m (word_lt m h)

end Cert.PairAddWUp.Table

namespace Cert.PairAddWUpIdeal.Table

open Cert.PairAddWUpIdeal Cert.PairAddWUpIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWUpIdeal (hPre_a_core_w_up := Cert.Pre_a_core_w_up.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_up.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x256x1408.size a ≤ S4x2x512x1408.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 256 ≤ 512; omega
    | ⟨3, _⟩ => show (0 + 1) * 1408 ≤ 1408; omega
  exact ⟨b, .inl rfl⟩

theorem ok_of_pre (h : Cert.Pre_PairAddWUpIdeal (hPre_a_core_w_up := Cert.Pre_a_core_w_up.Gen.facts) m) : Ok m := ok_of_lt m (word_lt m h)

end Cert.PairAddWUpIdeal.Table

namespace Cert.PairAddWUpRefIdeal.Value

open Cert.PairAddWUpRefIdeal Cert.PairAddWUpRefIdeal.Gen Cert.PairAddWUpRefIdeal.Read Idealize.ShloMosaic Idealize.ShloMosaic.TcCoe

variable (n : IVec S_ 32) (x : FVec Ideal S4x2x512x1408 .f32) (y : FVec Ideal S4x512x1408 .f32)

theorem v7_apply (b : Fin 4) (i : Fin 512) (j : Fin 1408) (k : Fin 2) (h : k.val = (n (fun a => a.elim0)).toNat) :
    val_main_v7 (F := Ideal) n x y (ix3 b i j) = x (ix4 b k i j) + y (ix3 b i j) := by
  have e5 : val_main_v5 (F := Ideal) n x (ix3 b i j) = x (ix4 b k i j) := by
    have e2 : val_main_v2 (F := Ideal) x (ix3 b i j) = x (ix4 b 0 i j) := by pointwise [val_main_v2, val_main_v1]
    have e4 : val_main_v4 (F := Ideal) x (ix3 b i j) = x (ix4 b 1 i j) := by pointwise [val_main_v4, val_main_v3]
    have e0 : broadcastInDim S4x512x1408 ![] bcast_S_S4x512x1408 (val_main_v0 (F := Ideal) n) (ix3 b i j) = BitVec.ofBool (n (fun a => a.elim0) == 0#32) := by
      show IntOp.cmpi .eq (n _) 0#32 = _
      exact congrArg (fun z => IntOp.cmpi .eq (n z) 0#32) (Subsingleton.elim (α := S_.Idx) _ (fun a => a.elim0))
    unfold val_main_v5
    show Scalar.select _ _ _ = _
    rw [e0, e2, e4]
    match k, h with
    | ⟨0, _⟩, h =>
      have z : n (fun a => a.elim0) = 0#32 := BitVec.eq_of_toNat_eq h.symm
      rw [z]; rfl
    | ⟨1, _⟩, h =>
      have z : n (fun a => a.elim0) = 1#32 := BitVec.eq_of_toNat_eq h.symm
      rw [z]; rfl
  show val_main_v5 (F := Ideal) n x (ix3 b i j) + _ = _
  rw [e5]

end Cert.PairAddWUpRefIdeal.Value

namespace Cert.PairAddWUpIdeal.Value

open Cert.PairAddWUpIdeal Cert.PairAddWUpIdeal.Gen Cert.PairAddWUpIdeal.Table Idealize.ShloMosaic Idealize.ShloMosaic.TcCoe
open Idealize.ShloMosaic.Pipeline (Dat)

variable (m : (ℓ : Loc nD τ sig) → Buf (Elt Ideal) ℓ)

/-- The grid's points: the chip's block, and the half of its rows. -/
theorem coords : ∀ t : Fin grid0.N, (grid0.coords t 0).val = t.val / 2 ∧ (grid0.coords t 1).val = t.val % 2 := by decide +kernel

/-- Where the windows that do not read the number stand. -/
theorem idx : ∀ t : Fin grid0.N, cc0_transform_1 (grid0.coords t) = ![t.val / 2, t.val % 2, 0] ∧ cc0_transform_2 (grid0.coords t) = ![t.val / 2, t.val % 2, 0] := by decide +kernel

/-- The block of the partial sums at a point: the core's half. -/
theorem blk0 (hO : Ok m) (c : Dev nD) (t : Fin (cfgM m hO).N) (k : Fin 2) (hk : k.val = (word m).toNat) (r : Fin 256) (j : Fin 1408) :
    iblk m hO c 0 t (ix4 0 0 r j) = m ((c : Thread nD τ).loc main_arg1) (ix4 (⟨t.val / 2, by have : t.val < 8 := t.isLt; omega⟩ : Fin 4) k (⟨t.val % 2 * 256 + r.val, by omega⟩ : Fin 512) j) := by
  have e := index_eq m (grid0.coords t)
  obtain ⟨q0, q1⟩ := coords t
  show V m c main_arg1 _ = _
  rw [V_main_arg1]
  congr 1
  funext a
  apply Fin.ext
  show cc0_transform_0 inb_S1_S1_0 numel1_S1 (tbl m) (grid0.coords t) a * S1x1x256x1408.size a + 1 * (ix4 (0 : Fin 1) (0 : Fin 1) r j a).val = _
  rw [e, q0, q1, ← hk]
  match a with
  | ⟨0, _⟩ => show t.val / 2 * 1 + 1 * 0 = t.val / 2; omega
  | ⟨1, _⟩ => show k.val * 1 + 1 * 0 = k.val; omega
  | ⟨2, _⟩ => show t.val % 2 * 256 + 1 * r.val = t.val % 2 * 256 + r.val; omega
  | ⟨3, _⟩ => show 0 * 1408 + 1 * j.val = j.val; omega

/-- The block of what the neighbour gave. -/
theorem blk1 (hO : Ok m) (c : Dev nD) (t : Fin (cfgM m hO).N) (r : Fin 256) (j : Fin 1408) :
    iblk m hO c 1 t (ix3 0 r j) = m ((c : Thread nD τ).loc main_arg2) (ix3 (⟨t.val / 2, by have : t.val < 8 := t.isLt; omega⟩ : Fin 4) (⟨t.val % 2 * 256 + r.val, by omega⟩ : Fin 512) j) := by
  have e := (idx t).1
  show V m c main_arg2 _ = _
  rw [V_main_arg2]
  congr 1
  funext a
  apply Fin.ext
  show cc0_transform_1 (grid0.coords t) a * S1x256x1408.size a + 1 * (ix3 (0 : Fin 1) r j a).val = _
  rw [e]
  match a with
  | ⟨0, _⟩ => show t.val / 2 * 1 + 1 * 0 = t.val / 2; omega
  | ⟨1, _⟩ => show t.val % 2 * 256 + 1 * r.val = t.val % 2 * 256 + r.val; omega
  | ⟨2, _⟩ => show 0 * 1408 + 1 * j.val = j.val; omega

theorem split_blk (y : S1x256x1408.Idx) : ∃ (r : Fin 256) (j : Fin 1408), y = ix3 (0 : Fin 1) r j :=
  ⟨y 1, y 2, by funext a; match a with | ⟨0, _⟩ => exact Subsingleton.elim (α := Fin 1) _ _ | ⟨1, _⟩ => rfl | ⟨2, _⟩ => rfl⟩

theorem split_arr (y : S4x512x1408.Idx) : ∃ (b : Fin 4) (r : Fin 512) (j : Fin 1408), y = ix3 b r j :=
  ⟨y 0, y 1, y 2, by funext a; match a with | ⟨0, _⟩ => rfl | ⟨1, _⟩ => rfl | ⟨2, _⟩ => rfl⟩

/-- A result array is what its blocks are. -/
theorem of_blocks (hO : Ok m) (c : Dev nD) (G : S4x512x1408.Idx → EReal)
    (hG : ∀ (t : Fin (cfgM m hO).N) (r : Fin 256) (j : Fin 1408), outsAt0 m hO c t (ix3 0 r j) = G (ix3 (⟨t.val / 2, by have : t.val < 8 := t.isLt; omega⟩ : Fin 4) (⟨t.val % 2 * 256 + r.val, by omega⟩ : Fin 512) j)) :
    (dats m hO 0 c).arrAt 2 (cfgM m hO).N = G := by
  refine (dats m hO 0 c).arrAt_eq_of_cover 2 _ (fun t hf => ?_) fun i => ?_
  · funext y
    obtain ⟨r, j, rfl⟩ := split_blk y
    have hlt : t.val < 8 := t.isLt
    have e := (idx t).2
    have p : (((cfgM m hO).win 2).blk t).view.emb (ix3 (0 : Fin 1) r j : S1x256x1408.Idx) = (ix3 (⟨t.val / 2, by omega⟩ : Fin 4) (⟨t.val % 2 * 256 + r.val, by omega⟩ : Fin 512) j : S4x512x1408.Idx) := by
      funext a
      apply Fin.ext
      show cc0_transform_2 (grid0.coords t) a * S1x256x1408.size a + 1 * (ix3 (0 : Fin 1) r j a).val = _
      rw [e]
      match a with
      | ⟨0, _⟩ => show t.val / 2 * 1 + 1 * 0 = t.val / 2; omega
      | ⟨1, _⟩ => show t.val % 2 * 256 + 1 * r.val = t.val % 2 * 256 + r.val; omega
      | ⟨2, _⟩ => show 0 * 1408 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = G ((((cfgM m hO).win 2).blk t).view.emb (ix3 (0 : Fin 1) r j : S1x256x1408.Idx))
    rw [p]
    exact hG t r j
  · obtain ⟨b, r, j, rfl⟩ := split_arr i
    let t : Fin (cfgM m hO).N := (⟨b.val * 2 + r.val / 256, by show _ < 8; omega⟩ : Fin 8)
    refine ⟨t, flush0_2 _ t, ?_⟩
    have e := (idx t).2
    refine (Pipeline.Window.emb_mem_blk_iff ((cfgM m hO).win 2) t (ix3 b r j)).mpr fun a => ?_
    show cc0_transform_2 (grid0.coords t) a * S1x256x1408.size a ≤ (ix3 b r j a).val ∧ (ix3 b r j a).val < cc0_transform_2 (grid0.coords t) a * S1x256x1408.size a + S1x256x1408.size a
    rw [e]
    match a with
    | ⟨0, _⟩ => show (b.val * 2 + r.val / 256) / 2 * 1 ≤ b.val ∧ b.val < (b.val * 2 + r.val / 256) / 2 * 1 + 1; omega
    | ⟨1, _⟩ => show (b.val * 2 + r.val / 256) % 2 * 256 ≤ r.val ∧ r.val < (b.val * 2 + r.val / 256) % 2 * 256 + 256; omega
    | ⟨2, _⟩ => show 0 * 1408 ≤ j.val ∧ j.val < 0 * 1408 + 1408; omega

theorem block (hO : Ok m) (hw : (word m).toNat < 2) (c : Dev nD) (t : Fin (cfgM m hO).N) (r : Fin 256) (j : Fin 1408) (u v : EReal)
    (hu : iblk m hO c 0 t (ix4 0 0 r j) = u) (hv : iblk m hO c 1 t (ix3 0 r j) = v) : outsAt0 m hO c t (ix3 0 r j) = u + v := by
  unfold outsAt0; frame_out
  pointwise [k0_pay1]
  exact congrArg₂ (fun a b : EReal => a + b) ((congrFun ((hs0_0 m hO t).read_unread _) _).trans hu) ((congrFun ((hs0_1 m hO t).read_unread _) _).trans hv)

/-- The result array is the reference's. -/
theorem final (hO : Ok m) (hw : (word m).toNat < 2) (c : Dev nD) : (dats m hO 0 c).arrAt 2 (cfgM m hO).N
    = Cert.PairAddWUpRefIdeal.Read.val_main_v7 (F := Ideal) (m ((c : Thread nD τ).loc main_arg0)) (m ((c : Thread nD τ).loc main_arg1)) (m ((c : Thread nD τ).loc main_arg2)) := by
  obtain rfl : c = 0 := Subsingleton.elim _ _
  refine of_blocks m hO 0 _ fun t r j => ?_
  exact (block m hO hw 0 t r j _ _ (blk0 m hO 0 t ⟨(word m).toNat, hw⟩ rfl r j) (blk1 m hO 0 t r j)).trans
    (Cert.PairAddWUpRefIdeal.Value.v7_apply _ _ _ _ _ _ ⟨(word m).toNat, hw⟩ rfl).symm

end Cert.PairAddWUpIdeal.Value

namespace Cert.PairAddWUpIdeal.Claim

open Idealize.ShloMosaic Idealize.ShloMosaic.TcCoe Idealize.SL.Sem

/-- The call computes what the reference computes. -/
theorem algebraic : Cert.algebraic_PairAddWUpIdeal_PairAddWUpRefIdeal (hPairAddWUpIdeal := Cert.PairAddWUpIdeal.Gen.facts) (hPairAddWUpRefIdeal := Cert.PairAddWUpRefIdeal.Gen.facts) (hPre_a_core_w_up := Cert.Pre_a_core_w_up.Gen.facts) := by
  intro m g m' g' pre h
  have hw := Cert.PairAddWUpIdeal.Table.word_lt m pre
  have hO := Cert.PairAddWUpIdeal.Table.ok_of_pre m pre
  refine ⟨fun c => Cert.PairAddWUpRefIdeal.Read.val_main_v7 (F := Ideal) (m (c.tc.loc Cert.PairAddWUpIdeal.main_arg0)) (m (c.tc.loc Cert.PairAddWUpIdeal.main_arg1)) (m (c.tc.loc Cert.PairAddWUpIdeal.main_arg2)), ?_, ?_⟩
  · refine (θ_run _ _ _).mono (fun r hr c => ⟨?_, hr.2 c⟩) (θ_run_and (Cert.PairAddWUpIdeal.Gen.run_main m g hO) (Cert.PairAddWUpIdeal.Gen.unchanged m g hO))
    exact ((hr.1 c).1 2).trans (Cert.PairAddWUpIdeal.Value.final m hO hw c)
  · refine (θ_run _ _ _).mono (fun r hr c => ⟨(hr c).1.trans ?_, (hr c).2⟩) (Cert.PairAddWUpRefIdeal.Value.run m' g')
    refine (Cert.PairAddWUpRefIdeal.Read.val_main_v7_eq _ _ _).trans ?_
    show Cert.PairAddWUpRefIdeal.Read.val_main_v7 (F := Ideal) (m' (c.tc.loc Cert.PairAddWUpRefIdeal.main_arg0)) (m' (c.tc.loc Cert.PairAddWUpRefIdeal.main_arg1)) (m' (c.tc.loc Cert.PairAddWUpRefIdeal.main_arg2)) = _
    rw [(h c).1, (h c).2.1, (h c).2.2]

end Cert.PairAddWUpIdeal.Claim

end
-- ==== Proof.PairAddWDownValue.lean ====
module

public import proofs.«01_k».proof.Defs
public import proofs.«01_k».proof.Proof.Gen.Pre_a_core_w_down
public import proofs.«01_k».proof.Proof.Gen.PairAddWDown.Frame
public import proofs.«01_k».proof.Proof.Gen.PairAddWDownIdeal.Frame
public import proofs.«01_k».proof.Proof.Gen.PairAddWDownRefIdeal.Run
public import proofs.«01_k».proof.Proof.Gen.PairAddWDownRefIdeal.Read
public import Idealize.ShloMosaic.Lib.Pipeline.ValueKit
public import Idealize.ShloMosaic.Lib.Pipeline.Value
public import Idealize.ShloMosaic.Lib.Pointwise

@[expose] public section

set_option maxRecDepth 16384

/-! The core's half of a gradient plus what the neighbour gave of it. -/

noncomputable section

namespace Cert.PairAddWDown.Table

open Cert.PairAddWDown Cert.PairAddWDown.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWDown (hPre_a_core_w_down := Cert.Pre_a_core_w_down.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_down.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x176x1024.size a ≤ S4x2x352x1024.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 176 ≤ 352; omega
    | ⟨3, _⟩ => show (0 + 1) * 1024 ≤ 1024; omega
  exact ⟨b, .inl rfl⟩

theorem ok_of_pre (h : Cert.Pre_PairAddWDown (hPre_a_core_w_down := Cert.Pre_a_core_w_down.Gen.facts) m) : Ok m := ok_of_lt m (word_lt m h)

end Cert.PairAddWDown.Table

namespace Cert.PairAddWDownIdeal.Table

open Cert.PairAddWDownIdeal Cert.PairAddWDownIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWDownIdeal (hPre_a_core_w_down := Cert.Pre_a_core_w_down.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_down.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x176x1024.size a ≤ S4x2x352x1024.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 176 ≤ 352; omega
    | ⟨3, _⟩ => show (0 + 1) * 1024 ≤ 1024; omega
  exact ⟨b, .inl rfl⟩

theorem ok_of_pre (h : Cert.Pre_PairAddWDownIdeal (hPre_a_core_w_down := Cert.Pre_a_core_w_down.Gen.facts) m) : Ok m := ok_of_lt m (word_lt m h)

end Cert.PairAddWDownIdeal.Table

namespace Cert.PairAddWDownRefIdeal.Value

open Cert.PairAddWDownRefIdeal Cert.PairAddWDownRefIdeal.Gen Cert.PairAddWDownRefIdeal.Read Idealize.ShloMosaic Idealize.ShloMosaic.TcCoe

variable (n : IVec S_ 32) (x : FVec Ideal S4x2x352x1024 .f32) (y : FVec Ideal S4x352x1024 .f32)

theorem v7_apply (b : Fin 4) (i : Fin 352) (j : Fin 1024) (k : Fin 2) (h : k.val = (n (fun a => a.elim0)).toNat) :
    val_main_v7 (F := Ideal) n x y (ix3 b i j) = x (ix4 b k i j) + y (ix3 b i j) := by
  have e5 : val_main_v5 (F := Ideal) n x (ix3 b i j) = x (ix4 b k i j) := by
    have e2 : val_main_v2 (F := Ideal) x (ix3 b i j) = x (ix4 b 0 i j) := by pointwise [val_main_v2, val_main_v1]
    have e4 : val_main_v4 (F := Ideal) x (ix3 b i j) = x (ix4 b 1 i j) := by pointwise [val_main_v4, val_main_v3]
    have e0 : broadcastInDim S4x352x1024 ![] bcast_S_S4x352x1024 (val_main_v0 (F := Ideal) n) (ix3 b i j) = BitVec.ofBool (n (fun a => a.elim0) == 0#32) := by
      show IntOp.cmpi .eq (n _) 0#32 = _
      exact congrArg (fun z => IntOp.cmpi .eq (n z) 0#32) (Subsingleton.elim (α := S_.Idx) _ (fun a => a.elim0))
    unfold val_main_v5
    show Scalar.select _ _ _ = _
    rw [e0, e2, e4]
    match k, h with
    | ⟨0, _⟩, h =>
      have z : n (fun a => a.elim0) = 0#32 := BitVec.eq_of_toNat_eq h.symm
      rw [z]; rfl
    | ⟨1, _⟩, h =>
      have z : n (fun a => a.elim0) = 1#32 := BitVec.eq_of_toNat_eq h.symm
      rw [z]; rfl
  show val_main_v5 (F := Ideal) n x (ix3 b i j) + _ = _
  rw [e5]

end Cert.PairAddWDownRefIdeal.Value

namespace Cert.PairAddWDownIdeal.Value

open Cert.PairAddWDownIdeal Cert.PairAddWDownIdeal.Gen Cert.PairAddWDownIdeal.Table Idealize.ShloMosaic Idealize.ShloMosaic.TcCoe
open Idealize.ShloMosaic.Pipeline (Dat)

variable (m : (ℓ : Loc nD τ sig) → Buf (Elt Ideal) ℓ)

/-- The grid's points: the chip's block, and the half of its rows. -/
theorem coords : ∀ t : Fin grid0.N, (grid0.coords t 0).val = t.val / 2 ∧ (grid0.coords t 1).val = t.val % 2 := by decide +kernel

/-- Where the windows that do not read the number stand. -/
theorem idx : ∀ t : Fin grid0.N, cc0_transform_1 (grid0.coords t) = ![t.val / 2, t.val % 2, 0] ∧ cc0_transform_2 (grid0.coords t) = ![t.val / 2, t.val % 2, 0] := by decide +kernel

/-- The block of the partial sums at a point: the core's half. -/
theorem blk0 (hO : Ok m) (c : Dev nD) (t : Fin (cfgM m hO).N) (k : Fin 2) (hk : k.val = (word m).toNat) (r : Fin 176) (j : Fin 1024) :
    iblk m hO c 0 t (ix4 0 0 r j) = m ((c : Thread nD τ).loc main_arg1) (ix4 (⟨t.val / 2, by have : t.val < 8 := t.isLt; omega⟩ : Fin 4) k (⟨t.val % 2 * 176 + r.val, by omega⟩ : Fin 352) j) := by
  have e := index_eq m (grid0.coords t)
  obtain ⟨q0, q1⟩ := coords t
  show V m c main_arg1 _ = _
  rw [V_main_arg1]
  congr 1
  funext a
  apply Fin.ext
  show cc0_transform_0 inb_S1_S1_0 numel1_S1 (tbl m) (grid0.coords t) a * S1x1x176x1024.size a + 1 * (ix4 (0 : Fin 1) (0 : Fin 1) r j a).val = _
  rw [e, q0, q1, ← hk]
  match a with
  | ⟨0, _⟩ => show t.val / 2 * 1 + 1 * 0 = t.val / 2; omega
  | ⟨1, _⟩ => show k.val * 1 + 1 * 0 = k.val; omega
  | ⟨2, _⟩ => show t.val % 2 * 176 + 1 * r.val = t.val % 2 * 176 + r.val; omega
  | ⟨3, _⟩ => show 0 * 1024 + 1 * j.val = j.val; omega

/-- The block of what the neighbour gave. -/
theorem blk1 (hO : Ok m) (c : Dev nD) (t : Fin (cfgM m hO).N) (r : Fin 176) (j : Fin 1024) :
    iblk m hO c 1 t (ix3 0 r j) = m ((c : Thread nD τ).loc main_arg2) (ix3 (⟨t.val / 2, by have : t.val < 8 := t.isLt; omega⟩ : Fin 4) (⟨t.val % 2 * 176 + r.val, by omega⟩ : Fin 352) j) := by
  have e := (idx t).1
  show V m c main_arg2 _ = _
  rw [V_main_arg2]
  congr 1
  funext a
  apply Fin.ext
  show cc0_transform_1 (grid0.coords t) a * S1x176x1024.size a + 1 * (ix3 (0 : Fin 1) r j a).val = _
  rw [e]
  match a with
  | ⟨0, _⟩ => show t.val / 2 * 1 + 1 * 0 = t.val / 2; omega
  | ⟨1, _⟩ => show t.val % 2 * 176 + 1 * r.val = t.val % 2 * 176 + r.val; omega
  | ⟨2, _⟩ => show 0 * 1024 + 1 * j.val = j.val; omega

theorem split_blk (y : S1x176x1024.Idx) : ∃ (r : Fin 176) (j : Fin 1024), y = ix3 (0 : Fin 1) r j :=
  ⟨y 1, y 2, by funext a; match a with | ⟨0, _⟩ => exact Subsingleton.elim (α := Fin 1) _ _ | ⟨1, _⟩ => rfl | ⟨2, _⟩ => rfl⟩

theorem split_arr (y : S4x352x1024.Idx) : ∃ (b : Fin 4) (r : Fin 352) (j : Fin 1024), y = ix3 b r j :=
  ⟨y 0, y 1, y 2, by funext a; match a with | ⟨0, _⟩ => rfl | ⟨1, _⟩ => rfl | ⟨2, _⟩ => rfl⟩

/-- A result array is what its blocks are. -/
theorem of_blocks (hO : Ok m) (c : Dev nD) (G : S4x352x1024.Idx → EReal)
    (hG : ∀ (t : Fin (cfgM m hO).N) (r : Fin 176) (j : Fin 1024), outsAt0 m hO c t (ix3 0 r j) = G (ix3 (⟨t.val / 2, by have : t.val < 8 := t.isLt; omega⟩ : Fin 4) (⟨t.val % 2 * 176 + r.val, by omega⟩ : Fin 352) j)) :
    (dats m hO 0 c).arrAt 2 (cfgM m hO).N = G := by
  refine (dats m hO 0 c).arrAt_eq_of_cover 2 _ (fun t hf => ?_) fun i => ?_
  · funext y
    obtain ⟨r, j, rfl⟩ := split_blk y
    have hlt : t.val < 8 := t.isLt
    have e := (idx t).2
    have p : (((cfgM m hO).win 2).blk t).view.emb (ix3 (0 : Fin 1) r j : S1x176x1024.Idx) = (ix3 (⟨t.val / 2, by omega⟩ : Fin 4) (⟨t.val % 2 * 176 + r.val, by omega⟩ : Fin 352) j : S4x352x1024.Idx) := by
      funext a
      apply Fin.ext
      show cc0_transform_2 (grid0.coords t) a * S1x176x1024.size a + 1 * (ix3 (0 : Fin 1) r j a).val = _
      rw [e]
      match a with
      | ⟨0, _⟩ => show t.val / 2 * 1 + 1 * 0 = t.val / 2; omega
      | ⟨1, _⟩ => show t.val % 2 * 176 + 1 * r.val = t.val % 2 * 176 + r.val; omega
      | ⟨2, _⟩ => show 0 * 1024 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = G ((((cfgM m hO).win 2).blk t).view.emb (ix3 (0 : Fin 1) r j : S1x176x1024.Idx))
    rw [p]
    exact hG t r j
  · obtain ⟨b, r, j, rfl⟩ := split_arr i
    let t : Fin (cfgM m hO).N := (⟨b.val * 2 + r.val / 176, by show _ < 8; omega⟩ : Fin 8)
    refine ⟨t, flush0_2 _ t, ?_⟩
    have e := (idx t).2
    refine (Pipeline.Window.emb_mem_blk_iff ((cfgM m hO).win 2) t (ix3 b r j)).mpr fun a => ?_
    show cc0_transform_2 (grid0.coords t) a * S1x176x1024.size a ≤ (ix3 b r j a).val ∧ (ix3 b r j a).val < cc0_transform_2 (grid0.coords t) a * S1x176x1024.size a + S1x176x1024.size a
    rw [e]
    match a with
    | ⟨0, _⟩ => show (b.val * 2 + r.val / 176) / 2 * 1 ≤ b.val ∧ b.val < (b.val * 2 + r.val / 176) / 2 * 1 + 1; omega
    | ⟨1, _⟩ => show (b.val * 2 + r.val / 176) % 2 * 176 ≤ r.val ∧ r.val < (b.val * 2 + r.val / 176) % 2 * 176 + 176; omega
    | ⟨2, _⟩ => show 0 * 1024 ≤ j.val ∧ j.val < 0 * 1024 + 1024; omega

theorem block (hO : Ok m) (hw : (word m).toNat < 2) (c : Dev nD) (t : Fin (cfgM m hO).N) (r : Fin 176) (j : Fin 1024) (u v : EReal)
    (hu : iblk m hO c 0 t (ix4 0 0 r j) = u) (hv : iblk m hO c 1 t (ix3 0 r j) = v) : outsAt0 m hO c t (ix3 0 r j) = u + v := by
  unfold outsAt0; frame_out
  pointwise [k0_pay1]
  exact congrArg₂ (fun a b : EReal => a + b) ((congrFun ((hs0_0 m hO t).read_unread _) _).trans hu) ((congrFun ((hs0_1 m hO t).read_unread _) _).trans hv)

/-- The result array is the reference's. -/
theorem final (hO : Ok m) (hw : (word m).toNat < 2) (c : Dev nD) : (dats m hO 0 c).arrAt 2 (cfgM m hO).N
    = Cert.PairAddWDownRefIdeal.Read.val_main_v7 (F := Ideal) (m ((c : Thread nD τ).loc main_arg0)) (m ((c : Thread nD τ).loc main_arg1)) (m ((c : Thread nD τ).loc main_arg2)) := by
  obtain rfl : c = 0 := Subsingleton.elim _ _
  refine of_blocks m hO 0 _ fun t r j => ?_
  exact (block m hO hw 0 t r j _ _ (blk0 m hO 0 t ⟨(word m).toNat, hw⟩ rfl r j) (blk1 m hO 0 t r j)).trans
    (Cert.PairAddWDownRefIdeal.Value.v7_apply _ _ _ _ _ _ ⟨(word m).toNat, hw⟩ rfl).symm

end Cert.PairAddWDownIdeal.Value

namespace Cert.PairAddWDownIdeal.Claim

open Idealize.ShloMosaic Idealize.ShloMosaic.TcCoe Idealize.SL.Sem

/-- The call computes what the reference computes. -/
theorem algebraic : Cert.algebraic_PairAddWDownIdeal_PairAddWDownRefIdeal (hPairAddWDownIdeal := Cert.PairAddWDownIdeal.Gen.facts) (hPairAddWDownRefIdeal := Cert.PairAddWDownRefIdeal.Gen.facts) (hPre_a_core_w_down := Cert.Pre_a_core_w_down.Gen.facts) := by
  intro m g m' g' pre h
  have hw := Cert.PairAddWDownIdeal.Table.word_lt m pre
  have hO := Cert.PairAddWDownIdeal.Table.ok_of_pre m pre
  refine ⟨fun c => Cert.PairAddWDownRefIdeal.Read.val_main_v7 (F := Ideal) (m (c.tc.loc Cert.PairAddWDownIdeal.main_arg0)) (m (c.tc.loc Cert.PairAddWDownIdeal.main_arg1)) (m (c.tc.loc Cert.PairAddWDownIdeal.main_arg2)), ?_, ?_⟩
  · refine (θ_run _ _ _).mono (fun r hr c => ⟨?_, hr.2 c⟩) (θ_run_and (Cert.PairAddWDownIdeal.Gen.run_main m g hO) (Cert.PairAddWDownIdeal.Gen.unchanged m g hO))
    exact ((hr.1 c).1 2).trans (Cert.PairAddWDownIdeal.Value.final m hO hw c)
  · refine (θ_run _ _ _).mono (fun r hr c => ⟨(hr c).1.trans ?_, (hr c).2⟩) (Cert.PairAddWDownRefIdeal.Value.run m' g')
    refine (Cert.PairAddWDownRefIdeal.Read.val_main_v7_eq _ _ _).trans ?_
    show Cert.PairAddWDownRefIdeal.Read.val_main_v7 (F := Ideal) (m' (c.tc.loc Cert.PairAddWDownRefIdeal.main_arg0)) (m' (c.tc.loc Cert.PairAddWDownRefIdeal.main_arg1)) (m' (c.tc.loc Cert.PairAddWDownRefIdeal.main_arg2)) = _
    rw [(h c).1, (h c).2.1, (h c).2.2]

end Cert.PairAddWDownIdeal.Claim

end
-- ==== Proof.PairAddWOValue.lean ====
module

public import proofs.«01_k».proof.Defs
public import proofs.«01_k».proof.Proof.Gen.Pre_a_core_w_o
public import proofs.«01_k».proof.Proof.Gen.PairAddWO.Frame
public import proofs.«01_k».proof.Proof.Gen.PairAddWOIdeal.Frame
public import proofs.«01_k».proof.Proof.Gen.PairAddWORefIdeal.Run
public import proofs.«01_k».proof.Proof.Gen.PairAddWORefIdeal.Read
public import Idealize.ShloMosaic.Lib.Pipeline.ValueKit
public import Idealize.ShloMosaic.Lib.Pipeline.Value
public import Idealize.ShloMosaic.Lib.Pointwise

@[expose] public section

set_option maxRecDepth 16384

/-! The core's half of a gradient plus what the neighbour gave of it. -/

noncomputable section

namespace Cert.PairAddWO.Table

open Cert.PairAddWO Cert.PairAddWO.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 1 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWO (hPre_a_core_w_o := Cert.Pre_a_core_w_o.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_o.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 1 := (i 1).isLt
  have b : ∀ a, (cc0_transform_0 inb_S1_S1_0 numel1_S1 (tbl m) i a + 1) * S1x1x128x1024.size a ≤ S4x2x128x1024.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 128 ≤ 128; omega
    | ⟨3, _⟩ => show (0 + 1) * 1024 ≤ 1024; omega
  exact ⟨b, .inl rfl⟩

theorem ok_of_pre (h : Cert.Pre_PairAddWO (hPre_a_core_w_o := Cert.Pre_a_core_w_o.Gen.facts) m) : Ok m := ok_of_lt m (word_lt m h)

end Cert.PairAddWO.Table

namespace Cert.PairAddWOIdeal.Table

open Cert.PairAddWOIdeal Cert.PairAddWOIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 1 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWOIdeal (hPre_a_core_w_o := Cert.Pre_a_core_w_o.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_o.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 1 := (i 1).isLt
  have b : ∀ a, (cc0_transform_0 inb_S1_S1_0 numel1_S1 (tbl m) i a + 1) * S1x1x128x1024.size a ≤ S4x2x128x1024.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 128 ≤ 128; omega
    | ⟨3, _⟩ => show (0 + 1) * 1024 ≤ 1024; omega
  exact ⟨b, .inl rfl⟩

theorem ok_of_pre (h : Cert.Pre_PairAddWOIdeal (hPre_a_core_w_o := Cert.Pre_a_core_w_o.Gen.facts) m) : Ok m := ok_of_lt m (word_lt m h)

end Cert.PairAddWOIdeal.Table

namespace Cert.PairAddWORefIdeal.Value

open Cert.PairAddWORefIdeal Cert.PairAddWORefIdeal.Gen Cert.PairAddWORefIdeal.Read Idealize.ShloMosaic Idealize.ShloMosaic.TcCoe

variable (n : IVec S_ 32) (x : FVec Ideal S4x2x128x1024 .f32) (y : FVec Ideal S4x128x1024 .f32)

theorem v7_apply (b : Fin 4) (i : Fin 128) (j : Fin 1024) (k : Fin 2) (h : k.val = (n (fun a => a.elim0)).toNat) :
    val_main_v7 (F := Ideal) n x y (ix3 b i j) = x (ix4 b k i j) + y (ix3 b i j) := by
  have e5 : val_main_v5 (F := Ideal) n x (ix3 b i j) = x (ix4 b k i j) := by
    have e2 : val_main_v2 (F := Ideal) x (ix3 b i j) = x (ix4 b 0 i j) := by pointwise [val_main_v2, val_main_v1]
    have e4 : val_main_v4 (F := Ideal) x (ix3 b i j) = x (ix4 b 1 i j) := by pointwise [val_main_v4, val_main_v3]
    have e0 : broadcastInDim S4x128x1024 ![] bcast_S_S4x128x1024 (val_main_v0 (F := Ideal) n) (ix3 b i j) = BitVec.ofBool (n (fun a => a.elim0) == 0#32) := by
      show IntOp.cmpi .eq (n _) 0#32 = _
      exact congrArg (fun z => IntOp.cmpi .eq (n z) 0#32) (Subsingleton.elim (α := S_.Idx) _ (fun a => a.elim0))
    unfold val_main_v5
    show Scalar.select _ _ _ = _
    rw [e0, e2, e4]
    match k, h with
    | ⟨0, _⟩, h =>
      have z : n (fun a => a.elim0) = 0#32 := BitVec.eq_of_toNat_eq h.symm
      rw [z]; rfl
    | ⟨1, _⟩, h =>
      have z : n (fun a => a.elim0) = 1#32 := BitVec.eq_of_toNat_eq h.symm
      rw [z]; rfl
  show val_main_v5 (F := Ideal) n x (ix3 b i j) + _ = _
  rw [e5]

end Cert.PairAddWORefIdeal.Value

namespace Cert.PairAddWOIdeal.Value

open Cert.PairAddWOIdeal Cert.PairAddWOIdeal.Gen Cert.PairAddWOIdeal.Table Idealize.ShloMosaic Idealize.ShloMosaic.TcCoe
open Idealize.ShloMosaic.Pipeline (Dat)

variable (m : (ℓ : Loc nD τ sig) → Buf (Elt Ideal) ℓ)

/-- The grid's points: the chip's block, and the half of its rows. -/
theorem coords : ∀ t : Fin grid0.N, (grid0.coords t 0).val = t.val / 1 ∧ (grid0.coords t 1).val = t.val % 1 := by decide +kernel

/-- Where the windows that do not read the number stand. -/
theorem idx : ∀ t : Fin grid0.N, cc0_transform_1 (grid0.coords t) = ![t.val / 1, t.val % 1, 0] ∧ cc0_transform_2 (grid0.coords t) = ![t.val / 1, t.val % 1, 0] := by decide +kernel

/-- The block of the partial sums at a point: the core's half. -/
theorem blk0 (hO : Ok m) (c : Dev nD) (t : Fin (cfgM m hO).N) (k : Fin 2) (hk : k.val = (word m).toNat) (r : Fin 128) (j : Fin 1024) :
    iblk m hO c 0 t (ix4 0 0 r j) = m ((c : Thread nD τ).loc main_arg1) (ix4 (⟨t.val / 1, by have : t.val < 4 := t.isLt; omega⟩ : Fin 4) k (⟨t.val % 1 * 128 + r.val, by omega⟩ : Fin 128) j) := by
  have e := index_eq m (grid0.coords t)
  obtain ⟨q0, q1⟩ := coords t
  show V m c main_arg1 _ = _
  rw [V_main_arg1]
  congr 1
  funext a
  apply Fin.ext
  show cc0_transform_0 inb_S1_S1_0 numel1_S1 (tbl m) (grid0.coords t) a * S1x1x128x1024.size a + 1 * (ix4 (0 : Fin 1) (0 : Fin 1) r j a).val = _
  rw [e, q0, q1, ← hk]
  match a with
  | ⟨0, _⟩ => show t.val / 1 * 1 + 1 * 0 = t.val / 1; omega
  | ⟨1, _⟩ => show k.val * 1 + 1 * 0 = k.val; omega
  | ⟨2, _⟩ => show t.val % 1 * 128 + 1 * r.val = t.val % 1 * 128 + r.val; omega
  | ⟨3, _⟩ => show 0 * 1024 + 1 * j.val = j.val; omega

/-- The block of what the neighbour gave. -/
theorem blk1 (hO : Ok m) (c : Dev nD) (t : Fin (cfgM m hO).N) (r : Fin 128) (j : Fin 1024) :
    iblk m hO c 1 t (ix3 0 r j) = m ((c : Thread nD τ).loc main_arg2) (ix3 (⟨t.val / 1, by have : t.val < 4 := t.isLt; omega⟩ : Fin 4) (⟨t.val % 1 * 128 + r.val, by omega⟩ : Fin 128) j) := by
  have e := (idx t).1
  show V m c main_arg2 _ = _
  rw [V_main_arg2]
  congr 1
  funext a
  apply Fin.ext
  show cc0_transform_1 (grid0.coords t) a * S1x128x1024.size a + 1 * (ix3 (0 : Fin 1) r j a).val = _
  rw [e]
  match a with
  | ⟨0, _⟩ => show t.val / 1 * 1 + 1 * 0 = t.val / 1; omega
  | ⟨1, _⟩ => show t.val % 1 * 128 + 1 * r.val = t.val % 1 * 128 + r.val; omega
  | ⟨2, _⟩ => show 0 * 1024 + 1 * j.val = j.val; omega

theorem split_blk (y : S1x128x1024.Idx) : ∃ (r : Fin 128) (j : Fin 1024), y = ix3 (0 : Fin 1) r j :=
  ⟨y 1, y 2, by funext a; match a with | ⟨0, _⟩ => exact Subsingleton.elim (α := Fin 1) _ _ | ⟨1, _⟩ => rfl | ⟨2, _⟩ => rfl⟩

theorem split_arr (y : S4x128x1024.Idx) : ∃ (b : Fin 4) (r : Fin 128) (j : Fin 1024), y = ix3 b r j :=
  ⟨y 0, y 1, y 2, by funext a; match a with | ⟨0, _⟩ => rfl | ⟨1, _⟩ => rfl | ⟨2, _⟩ => rfl⟩

/-- A result array is what its blocks are. -/
theorem of_blocks (hO : Ok m) (c : Dev nD) (G : S4x128x1024.Idx → EReal)
    (hG : ∀ (t : Fin (cfgM m hO).N) (r : Fin 128) (j : Fin 1024), outsAt0 m hO c t (ix3 0 r j) = G (ix3 (⟨t.val / 1, by have : t.val < 4 := t.isLt; omega⟩ : Fin 4) (⟨t.val % 1 * 128 + r.val, by omega⟩ : Fin 128) j)) :
    (dats m hO 0 c).arrAt 2 (cfgM m hO).N = G := by
  refine (dats m hO 0 c).arrAt_eq_of_cover 2 _ (fun t hf => ?_) fun i => ?_
  · funext y
    obtain ⟨r, j, rfl⟩ := split_blk y
    have hlt : t.val < 4 := t.isLt
    have e := (idx t).2
    have p : (((cfgM m hO).win 2).blk t).view.emb (ix3 (0 : Fin 1) r j : S1x128x1024.Idx) = (ix3 (⟨t.val / 1, by omega⟩ : Fin 4) (⟨t.val % 1 * 128 + r.val, by omega⟩ : Fin 128) j : S4x128x1024.Idx) := by
      funext a
      apply Fin.ext
      show cc0_transform_2 (grid0.coords t) a * S1x128x1024.size a + 1 * (ix3 (0 : Fin 1) r j a).val = _
      rw [e]
      match a with
      | ⟨0, _⟩ => show t.val / 1 * 1 + 1 * 0 = t.val / 1; omega
      | ⟨1, _⟩ => show t.val % 1 * 128 + 1 * r.val = t.val % 1 * 128 + r.val; omega
      | ⟨2, _⟩ => show 0 * 1024 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = G ((((cfgM m hO).win 2).blk t).view.emb (ix3 (0 : Fin 1) r j : S1x128x1024.Idx))
    rw [p]
    exact hG t r j
  · obtain ⟨b, r, j, rfl⟩ := split_arr i
    let t : Fin (cfgM m hO).N := (⟨b.val * 1 + r.val / 128, by show _ < 4; omega⟩ : Fin 4)
    refine ⟨t, flush0_2 _ t, ?_⟩
    have e := (idx t).2
    refine (Pipeline.Window.emb_mem_blk_iff ((cfgM m hO).win 2) t (ix3 b r j)).mpr fun a => ?_
    show cc0_transform_2 (grid0.coords t) a * S1x128x1024.size a ≤ (ix3 b r j a).val ∧ (ix3 b r j a).val < cc0_transform_2 (grid0.coords t) a * S1x128x1024.size a + S1x128x1024.size a
    rw [e]
    match a with
    | ⟨0, _⟩ => show (b.val * 1 + r.val / 128) / 1 * 1 ≤ b.val ∧ b.val < (b.val * 1 + r.val / 128) / 1 * 1 + 1; omega
    | ⟨1, _⟩ => show (b.val * 1 + r.val / 128) % 1 * 128 ≤ r.val ∧ r.val < (b.val * 1 + r.val / 128) % 1 * 128 + 128; omega
    | ⟨2, _⟩ => show 0 * 1024 ≤ j.val ∧ j.val < 0 * 1024 + 1024; omega

theorem block (hO : Ok m) (hw : (word m).toNat < 2) (c : Dev nD) (t : Fin (cfgM m hO).N) (r : Fin 128) (j : Fin 1024) (u v : EReal)
    (hu : iblk m hO c 0 t (ix4 0 0 r j) = u) (hv : iblk m hO c 1 t (ix3 0 r j) = v) : outsAt0 m hO c t (ix3 0 r j) = u + v := by
  unfold outsAt0; frame_out
  pointwise [k0_pay1]
  exact congrArg₂ (fun a b : EReal => a + b) ((congrFun ((hs0_0 m hO t).read_unread _) _).trans hu) ((congrFun ((hs0_1 m hO t).read_unread _) _).trans hv)

/-- The result array is the reference's. -/
theorem final (hO : Ok m) (hw : (word m).toNat < 2) (c : Dev nD) : (dats m hO 0 c).arrAt 2 (cfgM m hO).N
    = Cert.PairAddWORefIdeal.Read.val_main_v7 (F := Ideal) (m ((c : Thread nD τ).loc main_arg0)) (m ((c : Thread nD τ).loc main_arg1)) (m ((c : Thread nD τ).loc main_arg2)) := by
  obtain rfl : c = 0 := Subsingleton.elim _ _
  refine of_blocks m hO 0 _ fun t r j => ?_
  exact (block m hO hw 0 t r j _ _ (blk0 m hO 0 t ⟨(word m).toNat, hw⟩ rfl r j) (blk1 m hO 0 t r j)).trans
    (Cert.PairAddWORefIdeal.Value.v7_apply _ _ _ _ _ _ ⟨(word m).toNat, hw⟩ rfl).symm

end Cert.PairAddWOIdeal.Value

namespace Cert.PairAddWOIdeal.Claim

open Idealize.ShloMosaic Idealize.ShloMosaic.TcCoe Idealize.SL.Sem

/-- The call computes what the reference computes. -/
theorem algebraic : Cert.algebraic_PairAddWOIdeal_PairAddWORefIdeal (hPairAddWOIdeal := Cert.PairAddWOIdeal.Gen.facts) (hPairAddWORefIdeal := Cert.PairAddWORefIdeal.Gen.facts) (hPre_a_core_w_o := Cert.Pre_a_core_w_o.Gen.facts) := by
  intro m g m' g' pre h
  have hw := Cert.PairAddWOIdeal.Table.word_lt m pre
  have hO := Cert.PairAddWOIdeal.Table.ok_of_pre m pre
  refine ⟨fun c => Cert.PairAddWORefIdeal.Read.val_main_v7 (F := Ideal) (m (c.tc.loc Cert.PairAddWOIdeal.main_arg0)) (m (c.tc.loc Cert.PairAddWOIdeal.main_arg1)) (m (c.tc.loc Cert.PairAddWOIdeal.main_arg2)), ?_, ?_⟩
  · refine (θ_run _ _ _).mono (fun r hr c => ⟨?_, hr.2 c⟩) (θ_run_and (Cert.PairAddWOIdeal.Gen.run_main m g hO) (Cert.PairAddWOIdeal.Gen.unchanged m g hO))
    exact ((hr.1 c).1 2).trans (Cert.PairAddWOIdeal.Value.final m hO hw c)
  · refine (θ_run _ _ _).mono (fun r hr c => ⟨(hr c).1.trans ?_, (hr c).2⟩) (Cert.PairAddWORefIdeal.Value.run m' g')
    refine (Cert.PairAddWORefIdeal.Read.val_main_v7_eq _ _ _).trans ?_
    show Cert.PairAddWORefIdeal.Read.val_main_v7 (F := Ideal) (m' (c.tc.loc Cert.PairAddWORefIdeal.main_arg0)) (m' (c.tc.loc Cert.PairAddWORefIdeal.main_arg1)) (m' (c.tc.loc Cert.PairAddWORefIdeal.main_arg2)) = _
    rw [(h c).1, (h c).2.1, (h c).2.2]

end Cert.PairAddWOIdeal.Claim

end
-- ==== Proof.PairAddWInValue.lean ====
module

public import proofs.«01_k».proof.Defs
public import proofs.«01_k».proof.Proof.Gen.Pre_a_core_w_in
public import proofs.«01_k».proof.Proof.Gen.PairAddWIn.Frame
public import proofs.«01_k».proof.Proof.Gen.PairAddWInIdeal.Frame
public import proofs.«01_k».proof.Proof.Gen.PairAddWInRefIdeal.Run
public import proofs.«01_k».proof.Proof.Gen.PairAddWInRefIdeal.Read
public import Idealize.ShloMosaic.Lib.Pipeline.ValueKit
public import Idealize.ShloMosaic.Lib.Pipeline.Value
public import Idealize.ShloMosaic.Lib.Pointwise

@[expose] public section

set_option maxRecDepth 16384

/-! The core's half of a gradient plus what the neighbour gave of it. -/

noncomputable section

namespace Cert.PairAddWIn.Table

open Cert.PairAddWIn Cert.PairAddWIn.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWIn (hPre_a_core_w_in := Cert.Pre_a_core_w_in.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_in.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x256x902.size a ≤ S4x2x512x902.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 256 ≤ 512; omega
    | ⟨3, _⟩ => show (0 + 1) * 902 ≤ 902; omega
  exact ⟨b, .inl rfl⟩

theorem ok_of_pre (h : Cert.Pre_PairAddWIn (hPre_a_core_w_in := Cert.Pre_a_core_w_in.Gen.facts) m) : Ok m := ok_of_lt m (word_lt m h)

end Cert.PairAddWIn.Table

namespace Cert.PairAddWInIdeal.Table

open Cert.PairAddWInIdeal Cert.PairAddWInIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_0 inb_S1_S1_0 numel1_S1 (tbl m) i = ![(i 0).val, (word m).toNat, (i 1).val, 0] := by
  have h0 : (i 0).val < 4 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_0
  simp only [e, t0, t1]
  rfl

/-- The number is in range. -/
theorem word_lt (h : Cert.Pre_PairAddWInIdeal (hPre_a_core_w_in := Cert.Pre_a_core_w_in.Gen.facts) m) : (word m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_core_w_in.fn, constantI, cmpi, andi, andi_one, IntOp.cmpi, ofBool_one, BitVec.sle, BitVec.slt, decide_eq_true_eq] at e
  have g : ∀ w : BitVec 32, (0#32).toInt ≤ w.toInt → w.toInt < (2#32).toInt → w.toNat < 2 := fun w h0 h1 => by
    simp only [BitVec.toInt, BitVec.toNat_ofNat] at h0 h1
    have := w.isLt
    omega
  exact g _ (of_decide_eq_true e.1) (of_decide_eq_true e.2)

theorem ok_of_lt (h : (word m).toNat < 2) : Ok m := fun i => by
  have h0 : (i 0).val < 4 := (i 0).isLt
  have h1 : (i 1).val < 2 := (i 1).isLt
  have b : ∀ a, (cc0_transform_0 inb_S1_S1_0 numel1_S1 (tbl m) i a + 1) * S1x1x256x902.size a ≤ S4x2x512x902.size a := by
    rw [index_eq]
    intro a
    match a with
    | ⟨0, _⟩ => show (((i 0).val) + 1) * 1 ≤ 4; omega
    | ⟨1, _⟩ => show (((word m).toNat) + 1) * 1 ≤ 2; omega
    | ⟨2, _⟩ => show ((i 1).val + 1) * 256 ≤ 512; omega
    | ⟨3, _⟩ => show (0 + 1) * 902 ≤ 902; omega
  exact ⟨b, .inl rfl⟩

theorem ok_of_pre (h : Cert.Pre_PairAddWInIdeal (hPre_a_core_w_in := Cert.Pre_a_core_w_in.Gen.facts) m) : Ok m := ok_of_lt m (word_lt m h)

end Cert.PairAddWInIdeal.Table

namespace Cert.PairAddWInRefIdeal.Value

open Cert.PairAddWInRefIdeal Cert.PairAddWInRefIdeal.Gen Cert.PairAddWInRefIdeal.Read Idealize.ShloMosaic Idealize.ShloMosaic.TcCoe

variable (n : IVec S_ 32) (x : FVec Ideal S4x2x512x902 .f32) (y : FVec Ideal S4x512x902 .f32)

theorem v7_apply (b : Fin 4) (i : Fin 512) (j : Fin 902) (k : Fin 2) (h : k.val = (n (fun a => a.elim0)).toNat) :
    val_main_v7 (F := Ideal) n x y (ix3 b i j) = x (ix4 b k i j) + y (ix3 b i j) := by
  have e5 : val_main_v5 (F := Ideal) n x (ix3 b i j) = x (ix4 b k i j) := by
    have e2 : val_main_v2 (F := Ideal) x (ix3 b i j) = x (ix4 b 0 i j) := by pointwise [val_main_v2, val_main_v1]
    have e4 : val_main_v4 (F := Ideal) x (ix3 b i j) = x (ix4 b 1 i j) := by pointwise [val_main_v4, val_main_v3]
    have e0 : broadcastInDim S4x512x902 ![] bcast_S_S4x512x902 (val_main_v0 (F := Ideal) n) (ix3 b i j) = BitVec.ofBool (n (fun a => a.elim0) == 0#32) := by
      show IntOp.cmpi .eq (n _) 0#32 = _
      exact congrArg (fun z => IntOp.cmpi .eq (n z) 0#32) (Subsingleton.elim (α := S_.Idx) _ (fun a => a.elim0))
    unfold val_main_v5
    show Scalar.select _ _ _ = _
    rw [e0, e2, e4]
    match k, h with
    | ⟨0, _⟩, h =>
      have z : n (fun a => a.elim0) = 0#32 := BitVec.eq_of_toNat_eq h.symm
      rw [z]; rfl
    | ⟨1, _⟩, h =>
      have z : n (fun a => a.elim0) = 1#32 := BitVec.eq_of_toNat_eq h.symm
      rw [z]; rfl
  show val_main_v5 (F := Ideal) n x (ix3 b i j) + _ = _
  rw [e5]

end Cert.PairAddWInRefIdeal.Value

namespace Cert.PairAddWInIdeal.Value

open Cert.PairAddWInIdeal Cert.PairAddWInIdeal.Gen Cert.PairAddWInIdeal.Table Idealize.ShloMosaic Idealize.ShloMosaic.TcCoe
open Idealize.ShloMosaic.Pipeline (Dat)

variable (m : (ℓ : Loc nD τ sig) → Buf (Elt Ideal) ℓ)

/-- The grid's points: the chip's block, and the half of its rows. -/
theorem coords : ∀ t : Fin grid0.N, (grid0.coords t 0).val = t.val / 2 ∧ (grid0.coords t 1).val = t.val % 2 := by decide +kernel

/-- Where the windows that do not read the number stand. -/
theorem idx : ∀ t : Fin grid0.N, cc0_transform_1 (grid0.coords t) = ![t.val / 2, t.val % 2, 0] ∧ cc0_transform_2 (grid0.coords t) = ![t.val / 2, t.val % 2, 0] := by decide +kernel

/-- The block of the partial sums at a point: the core's half. -/
theorem blk0 (hO : Ok m) (c : Dev nD) (t : Fin (cfgM m hO).N) (k : Fin 2) (hk : k.val = (word m).toNat) (r : Fin 256) (j : Fin 902) :
    iblk m hO c 0 t (ix4 0 0 r j) = m ((c : Thread nD τ).loc main_arg1) (ix4 (⟨t.val / 2, by have : t.val < 8 := t.isLt; omega⟩ : Fin 4) k (⟨t.val % 2 * 256 + r.val, by omega⟩ : Fin 512) j) := by
  have e := index_eq m (grid0.coords t)
  obtain ⟨q0, q1⟩ := coords t
  show V m c main_arg1 _ = _
  rw [V_main_arg1]
  congr 1
  funext a
  apply Fin.ext
  show cc0_transform_0 inb_S1_S1_0 numel1_S1 (tbl m) (grid0.coords t) a * S1x1x256x902.size a + 1 * (ix4 (0 : Fin 1) (0 : Fin 1) r j a).val = _
  rw [e, q0, q1, ← hk]
  match a with
  | ⟨0, _⟩ => show t.val / 2 * 1 + 1 * 0 = t.val / 2; omega
  | ⟨1, _⟩ => show k.val * 1 + 1 * 0 = k.val; omega
  | ⟨2, _⟩ => show t.val % 2 * 256 + 1 * r.val = t.val % 2 * 256 + r.val; omega
  | ⟨3, _⟩ => show 0 * 902 + 1 * j.val = j.val; omega

/-- The block of what the neighbour gave. -/
theorem blk1 (hO : Ok m) (c : Dev nD) (t : Fin (cfgM m hO).N) (r : Fin 256) (j : Fin 902) :
    iblk m hO c 1 t (ix3 0 r j) = m ((c : Thread nD τ).loc main_arg2) (ix3 (⟨t.val / 2, by have : t.val < 8 := t.isLt; omega⟩ : Fin 4) (⟨t.val % 2 * 256 + r.val, by omega⟩ : Fin 512) j) := by
  have e := (idx t).1
  show V m c main_arg2 _ = _
  rw [V_main_arg2]
  congr 1
  funext a
  apply Fin.ext
  show cc0_transform_1 (grid0.coords t) a * S1x256x902.size a + 1 * (ix3 (0 : Fin 1) r j a).val = _
  rw [e]
  match a with
  | ⟨0, _⟩ => show t.val / 2 * 1 + 1 * 0 = t.val / 2; omega
  | ⟨1, _⟩ => show t.val % 2 * 256 + 1 * r.val = t.val % 2 * 256 + r.val; omega
  | ⟨2, _⟩ => show 0 * 902 + 1 * j.val = j.val; omega

theorem split_blk (y : S1x256x902.Idx) : ∃ (r : Fin 256) (j : Fin 902), y = ix3 (0 : Fin 1) r j :=
  ⟨y 1, y 2, by funext a; match a with | ⟨0, _⟩ => exact Subsingleton.elim (α := Fin 1) _ _ | ⟨1, _⟩ => rfl | ⟨2, _⟩ => rfl⟩

theorem split_arr (y : S4x512x902.Idx) : ∃ (b : Fin 4) (r : Fin 512) (j : Fin 902), y = ix3 b r j :=
  ⟨y 0, y 1, y 2, by funext a; match a with | ⟨0, _⟩ => rfl | ⟨1, _⟩ => rfl | ⟨2, _⟩ => rfl⟩

/-- A result array is what its blocks are. -/
theorem of_blocks (hO : Ok m) (c : Dev nD) (G : S4x512x902.Idx → EReal)
    (hG : ∀ (t : Fin (cfgM m hO).N) (r : Fin 256) (j : Fin 902), outsAt0 m hO c t (ix3 0 r j) = G (ix3 (⟨t.val / 2, by have : t.val < 8 := t.isLt; omega⟩ : Fin 4) (⟨t.val % 2 * 256 + r.val, by omega⟩ : Fin 512) j)) :
    (dats m hO 0 c).arrAt 2 (cfgM m hO).N = G := by
  refine (dats m hO 0 c).arrAt_eq_of_cover 2 _ (fun t hf => ?_) fun i => ?_
  · funext y
    obtain ⟨r, j, rfl⟩ := split_blk y
    have hlt : t.val < 8 := t.isLt
    have e := (idx t).2
    have p : (((cfgM m hO).win 2).blk t).view.emb (ix3 (0 : Fin 1) r j : S1x256x902.Idx) = (ix3 (⟨t.val / 2, by omega⟩ : Fin 4) (⟨t.val % 2 * 256 + r.val, by omega⟩ : Fin 512) j : S4x512x902.Idx) := by
      funext a
      apply Fin.ext
      show cc0_transform_2 (grid0.coords t) a * S1x256x902.size a + 1 * (ix3 (0 : Fin 1) r j a).val = _
      rw [e]
      match a with
      | ⟨0, _⟩ => show t.val / 2 * 1 + 1 * 0 = t.val / 2; omega
      | ⟨1, _⟩ => show t.val % 2 * 256 + 1 * r.val = t.val % 2 * 256 + r.val; omega
      | ⟨2, _⟩ => show 0 * 902 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = G ((((cfgM m hO).win 2).blk t).view.emb (ix3 (0 : Fin 1) r j : S1x256x902.Idx))
    rw [p]
    exact hG t r j
  · obtain ⟨b, r, j, rfl⟩ := split_arr i
    let t : Fin (cfgM m hO).N := (⟨b.val * 2 + r.val / 256, by show _ < 8; omega⟩ : Fin 8)
    refine ⟨t, flush0_2 _ t, ?_⟩
    have e := (idx t).2
    refine (Pipeline.Window.emb_mem_blk_iff ((cfgM m hO).win 2) t (ix3 b r j)).mpr fun a => ?_
    show cc0_transform_2 (grid0.coords t) a * S1x256x902.size a ≤ (ix3 b r j a).val ∧ (ix3 b r j a).val < cc0_transform_2 (grid0.coords t) a * S1x256x902.size a + S1x256x902.size a
    rw [e]
    match a with
    | ⟨0, _⟩ => show (b.val * 2 + r.val / 256) / 2 * 1 ≤ b.val ∧ b.val < (b.val * 2 + r.val / 256) / 2 * 1 + 1; omega
    | ⟨1, _⟩ => show (b.val * 2 + r.val / 256) % 2 * 256 ≤ r.val ∧ r.val < (b.val * 2 + r.val / 256) % 2 * 256 + 256; omega
    | ⟨2, _⟩ => show 0 * 902 ≤ j.val ∧ j.val < 0 * 902 + 902; omega

theorem block (hO : Ok m) (hw : (word m).toNat < 2) (c : Dev nD) (t : Fin (cfgM m hO).N) (r : Fin 256) (j : Fin 902) (u v : EReal)
    (hu : iblk m hO c 0 t (ix4 0 0 r j) = u) (hv : iblk m hO c 1 t (ix3 0 r j) = v) : outsAt0 m hO c t (ix3 0 r j) = u + v := by
  unfold outsAt0; frame_out
  pointwise [k0_pay1]
  exact congrArg₂ (fun a b : EReal => a + b) ((congrFun ((hs0_0 m hO t).read_unread _) _).trans hu) ((congrFun ((hs0_1 m hO t).read_unread _) _).trans hv)

/-- The result array is the reference's. -/
theorem final (hO : Ok m) (hw : (word m).toNat < 2) (c : Dev nD) : (dats m hO 0 c).arrAt 2 (cfgM m hO).N
    = Cert.PairAddWInRefIdeal.Read.val_main_v7 (F := Ideal) (m ((c : Thread nD τ).loc main_arg0)) (m ((c : Thread nD τ).loc main_arg1)) (m ((c : Thread nD τ).loc main_arg2)) := by
  obtain rfl : c = 0 := Subsingleton.elim _ _
  refine of_blocks m hO 0 _ fun t r j => ?_
  exact (block m hO hw 0 t r j _ _ (blk0 m hO 0 t ⟨(word m).toNat, hw⟩ rfl r j) (blk1 m hO 0 t r j)).trans
    (Cert.PairAddWInRefIdeal.Value.v7_apply _ _ _ _ _ _ ⟨(word m).toNat, hw⟩ rfl).symm

end Cert.PairAddWInIdeal.Value

namespace Cert.PairAddWInIdeal.Claim

open Idealize.ShloMosaic Idealize.ShloMosaic.TcCoe Idealize.SL.Sem

/-- The call computes what the reference computes. -/
theorem algebraic : Cert.algebraic_PairAddWInIdeal_PairAddWInRefIdeal (hPairAddWInIdeal := Cert.PairAddWInIdeal.Gen.facts) (hPairAddWInRefIdeal := Cert.PairAddWInRefIdeal.Gen.facts) (hPre_a_core_w_in := Cert.Pre_a_core_w_in.Gen.facts) := by
  intro m g m' g' pre h
  have hw := Cert.PairAddWInIdeal.Table.word_lt m pre
  have hO := Cert.PairAddWInIdeal.Table.ok_of_pre m pre
  refine ⟨fun c => Cert.PairAddWInRefIdeal.Read.val_main_v7 (F := Ideal) (m (c.tc.loc Cert.PairAddWInIdeal.main_arg0)) (m (c.tc.loc Cert.PairAddWInIdeal.main_arg1)) (m (c.tc.loc Cert.PairAddWInIdeal.main_arg2)), ?_, ?_⟩
  · refine (θ_run _ _ _).mono (fun r hr c => ⟨?_, hr.2 c⟩) (θ_run_and (Cert.PairAddWInIdeal.Gen.run_main m g hO) (Cert.PairAddWInIdeal.Gen.unchanged m g hO))
    exact ((hr.1 c).1 2).trans (Cert.PairAddWInIdeal.Value.final m hO hw c)
  · refine (θ_run _ _ _).mono (fun r hr c => ⟨(hr c).1.trans ?_, (hr c).2⟩) (Cert.PairAddWInRefIdeal.Value.run m' g')
    refine (Cert.PairAddWInRefIdeal.Read.val_main_v7_eq _ _ _).trans ?_
    show Cert.PairAddWInRefIdeal.Read.val_main_v7 (F := Ideal) (m' (c.tc.loc Cert.PairAddWInRefIdeal.main_arg0)) (m' (c.tc.loc Cert.PairAddWInRefIdeal.main_arg1)) (m' (c.tc.loc Cert.PairAddWInRefIdeal.main_arg2)) = _
    rw [(h c).1, (h c).2.1, (h c).2.2]

end Cert.PairAddWInIdeal.Claim

end
-- ==== Proof.PlaceOwnWUpValue.lean ====
module

public import proofs.«01_k».proof.Defs
public import proofs.«01_k».proof.Proof.Gen.Pre_a_chip_w_up
public import proofs.«01_k».proof.Proof.Gen.PlaceOwnWUp.Frame
public import proofs.«01_k».proof.Proof.Gen.PlaceOwnWUpIdeal.Frame
public import proofs.«01_k».proof.Proof.Gen.PlaceOwnWUpRefIdeal.Run
public import proofs.«01_k».proof.Proof.Gen.PlaceOwnWUpRefIdeal.Read
public import Idealize.ShloMosaic.Lib.Pipeline.ValueKit
public import Idealize.ShloMosaic.Lib.Pipeline.Value
public import Idealize.ShloMosaic.Lib.Pointwise

@[expose] public section

set_option maxRecDepth 16384

/-! The chip's shard of a gradient put in its place among the gathered shards. -/

noncomputable section

namespace Cert.PlaceOwnWUp.Table

open Cert.PlaceOwnWUp Cert.PlaceOwnWUp.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWUp (hPre_a_chip_w_up := Cert.Pre_a_chip_w_up.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_up.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x256x1408.size a ≤ S4x2x512x1408.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 256 ≤ 512; omega
    | ⟨3, _⟩ => show (0 + 1) * 1408 ≤ 1408; omega
  exact ⟨b, .inr (Affine.block_words_dvd (of_decide_eq_true rfl) (by decide))⟩

theorem ok_of_pre (h : Cert.Pre_PlaceOwnWUp (hPre_a_chip_w_up := Cert.Pre_a_chip_w_up.Gen.facts) m) : Ok m := ok_of_lt m (word_lt m h)

end Cert.PlaceOwnWUp.Table

namespace Cert.PlaceOwnWUpIdeal.Table

open Cert.PlaceOwnWUpIdeal Cert.PlaceOwnWUpIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWUpIdeal (hPre_a_chip_w_up := Cert.Pre_a_chip_w_up.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_up.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x256x1408.size a ≤ S4x2x512x1408.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 256 ≤ 512; omega
    | ⟨3, _⟩ => show (0 + 1) * 1408 ≤ 1408; omega
  exact ⟨b, .inr (Affine.block_words_dvd (of_decide_eq_true rfl) (by decide))⟩

theorem ok_of_pre (h : Cert.Pre_PlaceOwnWUpIdeal (hPre_a_chip_w_up := Cert.Pre_a_chip_w_up.Gen.facts) m) : Ok m := ok_of_lt m (word_lt m h)

end Cert.PlaceOwnWUpIdeal.Table

namespace Cert.PlaceOwnWUpRefIdeal.Value

open Cert.PlaceOwnWUpRefIdeal Cert.PlaceOwnWUpRefIdeal.Gen Cert.PlaceOwnWUpRefIdeal.Read Idealize.ShloMosaic Idealize.ShloMosaic.TcCoe

variable (n : IVec S_ 32) (x : FVec Ideal S4x2x512x1408 .bf16) (y : FVec Ideal S2x512x1408 .bf16)

theorem v4_apply (b : Fin 4) (k : Fin 2) (i : Fin 512) (j : Fin 1408) :
    val_main_v4 (F := Ideal) n x y (ix4 b k i j) = if b.val = (n (fun a => a.elim0)).toNat then y (ix3 k i j) else x (ix4 b k i j) := by
  have e0 : val_main_call0_v0 (F := Ideal) n (ix4 b k i j) = BitVec.ofBool (BitVec.ofNat 32 b.val == n (fun a => a.elim0)) := by
    rw [val_main_call0_v0_apply, val_main_v3_apply, val_main_v1_apply, val_main_v0_apply, val_main_v2_apply, Subsingleton.elim (α := S_.Idx) (idx_main_v2 _) (fun a => a.elim0)]
    show BitVec.ofBool (BitVec.ofNat 32 (((b.val * 1 + 0) * 1 + 0) * 1 + 0) == n (fun a => a.elim0)) = _
    simp only [Nat.mul_one, Nat.add_zero]
  have e1 : val_main_call0_v1 (F := Ideal) y (ix4 b k i j) = y (ix3 k i j) := by pointwise [val_main_call0_v1]
  rw [val_main_v4_apply, e0, e1]
  have hb : (BitVec.ofNat 32 b.val).toNat = b.val := by rw [BitVec.toNat_ofNat]; omega
  by_cases h : b.val = (n (fun a => a.elim0)).toNat
  · rw [if_pos h, show BitVec.ofNat 32 b.val = n (fun a => a.elim0) from BitVec.eq_of_toNat_eq (hb.trans h), beq_self_eq_true]; rfl
  · rw [if_neg h, beq_false_of_ne (fun e => h (hb.symm.trans (congrArg BitVec.toNat e)))]; rfl

end Cert.PlaceOwnWUpRefIdeal.Value

namespace Cert.PlaceOwnWUpIdeal.Value

open Cert.PlaceOwnWUpIdeal Cert.PlaceOwnWUpIdeal.Gen Cert.PlaceOwnWUpIdeal.Table Idealize.ShloMosaic Idealize.ShloMosaic.TcCoe
open Idealize.ShloMosaic.Pipeline (Dat)

variable (m : (ℓ : Loc nD τ sig) → Buf (Elt Ideal) ℓ)

/-- The grid's points: the core's half, and the half of its rows. -/
theorem coords : ∀ t : Fin grid0.N, (grid0.coords t 0).val = t.val / 2 ∧ (grid0.coords t 1).val = t.val % 2 := by decide +kernel

/-- Where the shard's window stands. -/
theorem idx : ∀ t : Fin grid0.N, cc0_transform_0 (grid0.coords t) = ![t.val / 2, t.val % 2, 0] := by decide +kernel

/-- Every point writes its block back. -/
theorem flush (hO : Ok m) (t : Fin (cfgM m hO).N) : ((cfgM m hO).win 1).flush t = true :=
  (Pipeline.Window.flushOf_reads (G := grid0) (cc0_transform_2 inb_S1_S1_0 numel1_S1 (tbl m)) reads0_1 (hreads0_1 (tbl m)) 1 (by decide) (by decide)
    (Pipeline.Window.sep_of_coord (cc0_transform_2 inb_S1_S1_0 numel1_S1 (tbl m)) 1 2 (fun _ => rfl) (by decide)) (P := 1) (m := 0) (by decide) rfl t).mpr (Nat.mod_one _)

/-- The shard's block at a point. -/
theorem blk0 (hO : Ok m) (c : Dev nD) (t : Fin (cfgM m hO).N) (r : Fin 256) (j : Fin 1408) :
    iblk m hO c 0 t (ix3 0 r j) = m ((c : Thread nD τ).loc main_arg2) (ix3 (⟨t.val / 2, by have : t.val < 4 := t.isLt; omega⟩ : Fin 2) (⟨t.val % 2 * 256 + r.val, by omega⟩ : Fin 512) j) := by
  have e := idx t
  show V m c main_arg2 _ = _
  rw [V_main_arg2]
  congr 1
  funext a
  apply Fin.ext
  show cc0_transform_0 (grid0.coords t) a * S1x256x1408.size a + 1 * (ix3 (0 : Fin 1) r j a).val = _
  rw [e]
  match a with
  | ⟨0, _⟩ => show t.val / 2 * 1 + 1 * 0 = t.val / 2; omega
  | ⟨1, _⟩ => show t.val % 2 * 256 + 1 * r.val = t.val % 2 * 256 + r.val; omega
  | ⟨2, _⟩ => show 0 * 1408 + 1 * j.val = j.val; omega

theorem split_blk (y : S1x1x256x1408.Idx) : ∃ (r : Fin 256) (j : Fin 1408), y = ix4 (0 : Fin 1) (0 : Fin 1) r j :=
  ⟨y 2, y 3, by funext a; match a with | ⟨0, _⟩ => exact Subsingleton.elim (α := Fin 1) _ _ | ⟨1, _⟩ => exact Subsingleton.elim (α := Fin 1) _ _ | ⟨2, _⟩ => rfl | ⟨3, _⟩ => rfl⟩

theorem split_arr (y : S4x2x512x1408.Idx) : ∃ (b : Fin 4) (k : Fin 2) (r : Fin 512) (j : Fin 1408), y = ix4 b k r j :=
  ⟨y 0, y 1, y 2, y 3, by funext a; match a with | ⟨0, _⟩ => rfl | ⟨1, _⟩ => rfl | ⟨2, _⟩ => rfl | ⟨3, _⟩ => rfl⟩

/-- What the result's buffer holds before the call. -/
theorem entry (hO : Ok m) (c : Dev nD) : (dats m hO 0 c).A 1 = m ((c : Thread nD τ).loc main_arg1) := by
  rw [A_eq]
  show StableHlo.after hostOps0 (fun b => m (c, b)) (Proc.devRef .tc main_v1) = _
  simp only [hostOps0, StableHlo.after]
  rfl

/-- A result array is what its blocks are, and elsewhere what it was. -/
theorem of_blocks (hO : Ok m) (hw : (word m).toNat < 4) (c : Dev nD) (G : S4x2x512x1408.Idx → EReal)
    (hG : ∀ (t : Fin (cfgM m hO).N) (r : Fin 256) (j : Fin 1408), outsAt0 m hO c t (ix4 0 0 r j)
      = G (ix4 (⟨(word m).toNat, hw⟩ : Fin 4) (⟨t.val / 2, by have : t.val < 4 := t.isLt; omega⟩ : Fin 2) (⟨t.val % 2 * 256 + r.val, by omega⟩ : Fin 512) j))
    (hE : ∀ (b : Fin 4) (k : Fin 2) (r : Fin 512) (j : Fin 1408), b.val ≠ (word m).toNat → m ((c : Thread nD τ).loc main_arg1) (ix4 b k r j) = G (ix4 b k r j)) :
    (dats m hO 0 c).arrAt 1 (cfgM m hO).N = G := by
  funext i
  refine ((dats m hO 0 c).arrAt_eq_piecewise 1 G (fun t hf => ?_) i).trans ?_
  · funext y
    obtain ⟨r, j, rfl⟩ := split_blk y
    have hlt : t.val < 4 := t.isLt
    have e := index_eq m (grid0.coords t)
    obtain ⟨q0, q1⟩ := coords t
    have p : (((cfgM m hO).win 1).blk t).view.emb (ix4 (0 : Fin 1) (0 : Fin 1) r j : S1x1x256x1408.Idx)
        = (ix4 (⟨(word m).toNat, hw⟩ : Fin 4) (⟨t.val / 2, by omega⟩ : Fin 2) (⟨t.val % 2 * 256 + r.val, by omega⟩ : Fin 512) j : S4x2x512x1408.Idx) := by
      funext a
      apply Fin.ext
      show cc0_transform_2 inb_S1_S1_0 numel1_S1 (tbl m) (grid0.coords t) a * S1x1x256x1408.size a + 1 * (ix4 (0 : Fin 1) (0 : Fin 1) r j a).val = _
      rw [e, q0, q1]
      match a with
      | ⟨0, _⟩ => show (word m).toNat * 1 + 1 * 0 = (word m).toNat; omega
      | ⟨1, _⟩ => show t.val / 2 * 1 + 1 * 0 = t.val / 2; omega
      | ⟨2, _⟩ => show t.val % 2 * 256 + 1 * r.val = t.val % 2 * 256 + r.val; omega
      | ⟨3, _⟩ => show 0 * 1408 + 1 * j.val = j.val; omega
    have f : (dats m hO 0 c).flushed 1 t = ((cfgM m hO).win 1).cut (grid0.coords t) (outsAt0 m hO c t) := by
      show ((cfgM m hO).win 1).cut (grid0.coords t) ((dats m hO 0 c).after 1 t) = _
      rw [after0_1]
    rw [f]
    show outsAt0 m hO c t (ix4 (0 : Fin 1) (0 : Fin 1) r j) = G ((((cfgM m hO).win 1).blk t).view.emb (ix4 (0 : Fin 1) (0 : Fin 1) r j : S1x1x256x1408.Idx))
    rw [p]
    exact hG t r j
  · obtain ⟨b, k, r, j, rfl⟩ := split_arr i
    by_cases hb : b.val = (word m).toNat
    · refine if_pos ?_
      let t : Fin (cfgM m hO).N := (⟨k.val * 2 + r.val / 256, by show _ < 4; omega⟩ : Fin 4)
      refine ⟨t, flush m hO t, ?_⟩
      have e := index_eq m (grid0.coords t)
      obtain ⟨q0, q1⟩ := coords t
      refine (Pipeline.Window.emb_mem_blk_iff ((cfgM m hO).win 1) t (ix4 b k r j)).mpr fun a => ?_
      show cc0_transform_2 inb_S1_S1_0 numel1_S1 (tbl m) (grid0.coords t) a * S1x1x256x1408.size a ≤ (ix4 b k r j a).val
        ∧ (ix4 b k r j a).val < cc0_transform_2 inb_S1_S1_0 numel1_S1 (tbl m) (grid0.coords t) a * S1x1x256x1408.size a + S1x1x256x1408.size a
      rw [e, q0, q1, ← hb]
      match a with
      | ⟨0, _⟩ => show b.val * 1 ≤ b.val ∧ b.val < b.val * 1 + 1; omega
      | ⟨1, _⟩ => show (k.val * 2 + r.val / 256) / 2 * 1 ≤ k.val ∧ k.val < (k.val * 2 + r.val / 256) / 2 * 1 + 1; omega
      | ⟨2, _⟩ => show (k.val * 2 + r.val / 256) % 2 * 256 ≤ r.val ∧ r.val < (k.val * 2 + r.val / 256) % 2 * 256 + 256; omega
      | ⟨3, _⟩ => show 0 * 1408 ≤ j.val ∧ j.val < 0 * 1408 + 1408; omega
    · by_cases h : ∃ t : Fin (cfgM m hO).N, ((cfgM m hO).win 1).flush t = true ∧ (ix4 b k r j : S4x2x512x1408.Idx) ∈ (((cfgM m hO).win 1).blk t).view.set
      · exact if_pos h
      · exact (if_neg h).trans ((congrFun (entry m hO c) _).trans (hE b k r j hb))

theorem block (hO : Ok m) (c : Dev nD) (t : Fin (cfgM m hO).N) (r : Fin 256) (j : Fin 1408) (u : EReal)
    (hu : iblk m hO c 0 t (ix3 0 r j) = u) : outsAt0 m hO c t (ix4 0 0 r j) = u := by
  unfold outsAt0; frame_out
  pointwise [k0_pay1]
  exact (congrFun ((hs0_0 m hO t).read_unread _) _).trans hu

/-- The result array is the reference's. -/
theorem final (hO : Ok m) (hw : (word m).toNat < 4) (c : Dev nD) : (dats m hO 0 c).arrAt 1 (cfgM m hO).N
    = Cert.PlaceOwnWUpRefIdeal.Read.val_main_v4 (F := Ideal) (m ((c : Thread nD τ).loc main_arg0)) (m ((c : Thread nD τ).loc main_arg1)) (m ((c : Thread nD τ).loc main_arg2)) := by
  obtain rfl : c = 0 := Subsingleton.elim _ _
  refine of_blocks m hO hw 0 _ (fun t r j => ?_) fun b k r j hb => ?_
  · exact (block m hO 0 t r j _ (blk0 m hO 0 t r j)).trans ((Cert.PlaceOwnWUpRefIdeal.Value.v4_apply _ _ _ _ _ _ _).trans (if_pos rfl)).symm
  · exact ((Cert.PlaceOwnWUpRefIdeal.Value.v4_apply _ _ _ b k r j).trans (if_neg hb)).symm

end Cert.PlaceOwnWUpIdeal.Value

namespace Cert.PlaceOwnWUpIdeal.Claim

open Idealize.ShloMosaic Idealize.ShloMosaic.TcCoe Idealize.SL.Sem

/-- The call computes what the reference computes. -/
theorem algebraic : Cert.algebraic_PlaceOwnWUpIdeal_PlaceOwnWUpRefIdeal (hPlaceOwnWUpIdeal := Cert.PlaceOwnWUpIdeal.Gen.facts) (hPlaceOwnWUpRefIdeal := Cert.PlaceOwnWUpRefIdeal.Gen.facts) (hPre_a_chip_w_up := Cert.Pre_a_chip_w_up.Gen.facts) := by
  intro m g m' g' pre h
  have hw := Cert.PlaceOwnWUpIdeal.Table.word_lt m pre
  have hO := Cert.PlaceOwnWUpIdeal.Table.ok_of_pre m pre
  refine ⟨fun c => Cert.PlaceOwnWUpRefIdeal.Read.val_main_v4 (F := Ideal) (m (c.tc.loc Cert.PlaceOwnWUpIdeal.main_arg0)) (m (c.tc.loc Cert.PlaceOwnWUpIdeal.main_arg1)) (m (c.tc.loc Cert.PlaceOwnWUpIdeal.main_arg2)), ?_, ?_⟩
  · refine (θ_run _ _ _).mono (fun r hr c => ⟨?_, hr.2 c⟩) (θ_run_and (Cert.PlaceOwnWUpIdeal.Gen.run_main m g hO) (Cert.PlaceOwnWUpIdeal.Gen.unchanged m g hO))
    exact ((hr.1 c).1 1).trans (Cert.PlaceOwnWUpIdeal.Value.final m hO hw c)
  · refine (θ_run _ _ _).mono (fun r hr c => ⟨(hr c).1.trans ?_, (hr c).2⟩) (Cert.PlaceOwnWUpRefIdeal.Value.run m' g')
    refine (Cert.PlaceOwnWUpRefIdeal.Read.val_main_v4_eq _ _ _).trans ?_
    show Cert.PlaceOwnWUpRefIdeal.Read.val_main_v4 (F := Ideal) (m' (c.tc.loc Cert.PlaceOwnWUpRefIdeal.main_arg0)) (m' (c.tc.loc Cert.PlaceOwnWUpRefIdeal.main_arg1)) (m' (c.tc.loc Cert.PlaceOwnWUpRefIdeal.main_arg2)) = _
    rw [(h c).1, (h c).2.1, (h c).2.2]

end Cert.PlaceOwnWUpIdeal.Claim

end
-- ==== Proof.PlaceOwnWDownValue.lean ====
module

public import proofs.«01_k».proof.Defs
public import proofs.«01_k».proof.Proof.Gen.Pre_a_chip_w_down
public import proofs.«01_k».proof.Proof.Gen.PlaceOwnWDown.Frame
public import proofs.«01_k».proof.Proof.Gen.PlaceOwnWDownIdeal.Frame
public import proofs.«01_k».proof.Proof.Gen.PlaceOwnWDownRefIdeal.Run
public import proofs.«01_k».proof.Proof.Gen.PlaceOwnWDownRefIdeal.Read
public import Idealize.ShloMosaic.Lib.Pipeline.ValueKit
public import Idealize.ShloMosaic.Lib.Pipeline.Value
public import Idealize.ShloMosaic.Lib.Pointwise

@[expose] public section

set_option maxRecDepth 16384

/-! The chip's shard of a gradient put in its place among the gathered shards. -/

noncomputable section

namespace Cert.PlaceOwnWDown.Table

open Cert.PlaceOwnWDown Cert.PlaceOwnWDown.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWDown (hPre_a_chip_w_down := Cert.Pre_a_chip_w_down.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_down.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x176x1024.size a ≤ S4x2x352x1024.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 176 ≤ 352; omega
    | ⟨3, _⟩ => show (0 + 1) * 1024 ≤ 1024; omega
  exact ⟨b, .inr (Affine.block_words_dvd (of_decide_eq_true rfl) (by decide))⟩

theorem ok_of_pre (h : Cert.Pre_PlaceOwnWDown (hPre_a_chip_w_down := Cert.Pre_a_chip_w_down.Gen.facts) m) : Ok m := ok_of_lt m (word_lt m h)

end Cert.PlaceOwnWDown.Table

namespace Cert.PlaceOwnWDownIdeal.Table

open Cert.PlaceOwnWDownIdeal Cert.PlaceOwnWDownIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWDownIdeal (hPre_a_chip_w_down := Cert.Pre_a_chip_w_down.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_down.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x176x1024.size a ≤ S4x2x352x1024.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 176 ≤ 352; omega
    | ⟨3, _⟩ => show (0 + 1) * 1024 ≤ 1024; omega
  exact ⟨b, .inr (Affine.block_words_dvd (of_decide_eq_true rfl) (by decide))⟩

theorem ok_of_pre (h : Cert.Pre_PlaceOwnWDownIdeal (hPre_a_chip_w_down := Cert.Pre_a_chip_w_down.Gen.facts) m) : Ok m := ok_of_lt m (word_lt m h)

end Cert.PlaceOwnWDownIdeal.Table

namespace Cert.PlaceOwnWDownRefIdeal.Value

open Cert.PlaceOwnWDownRefIdeal Cert.PlaceOwnWDownRefIdeal.Gen Cert.PlaceOwnWDownRefIdeal.Read Idealize.ShloMosaic Idealize.ShloMosaic.TcCoe

variable (n : IVec S_ 32) (x : FVec Ideal S4x2x352x1024 .bf16) (y : FVec Ideal S2x352x1024 .bf16)

theorem v4_apply (b : Fin 4) (k : Fin 2) (i : Fin 352) (j : Fin 1024) :
    val_main_v4 (F := Ideal) n x y (ix4 b k i j) = if b.val = (n (fun a => a.elim0)).toNat then y (ix3 k i j) else x (ix4 b k i j) := by
  have e0 : val_main_call0_v0 (F := Ideal) n (ix4 b k i j) = BitVec.ofBool (BitVec.ofNat 32 b.val == n (fun a => a.elim0)) := by
    rw [val_main_call0_v0_apply, val_main_v3_apply, val_main_v1_apply, val_main_v0_apply, val_main_v2_apply, Subsingleton.elim (α := S_.Idx) (idx_main_v2 _) (fun a => a.elim0)]
    show BitVec.ofBool (BitVec.ofNat 32 (((b.val * 1 + 0) * 1 + 0) * 1 + 0) == n (fun a => a.elim0)) = _
    simp only [Nat.mul_one, Nat.add_zero]
  have e1 : val_main_call0_v1 (F := Ideal) y (ix4 b k i j) = y (ix3 k i j) := by pointwise [val_main_call0_v1]
  rw [val_main_v4_apply, e0, e1]
  have hb : (BitVec.ofNat 32 b.val).toNat = b.val := by rw [BitVec.toNat_ofNat]; omega
  by_cases h : b.val = (n (fun a => a.elim0)).toNat
  · rw [if_pos h, show BitVec.ofNat 32 b.val = n (fun a => a.elim0) from BitVec.eq_of_toNat_eq (hb.trans h), beq_self_eq_true]; rfl
  · rw [if_neg h, beq_false_of_ne (fun e => h (hb.symm.trans (congrArg BitVec.toNat e)))]; rfl

end Cert.PlaceOwnWDownRefIdeal.Value

namespace Cert.PlaceOwnWDownIdeal.Value

open Cert.PlaceOwnWDownIdeal Cert.PlaceOwnWDownIdeal.Gen Cert.PlaceOwnWDownIdeal.Table Idealize.ShloMosaic Idealize.ShloMosaic.TcCoe
open Idealize.ShloMosaic.Pipeline (Dat)

variable (m : (ℓ : Loc nD τ sig) → Buf (Elt Ideal) ℓ)

/-- The grid's points: the core's half, and the half of its rows. -/
theorem coords : ∀ t : Fin grid0.N, (grid0.coords t 0).val = t.val / 2 ∧ (grid0.coords t 1).val = t.val % 2 := by decide +kernel

/-- Where the shard's window stands. -/
theorem idx : ∀ t : Fin grid0.N, cc0_transform_0 (grid0.coords t) = ![t.val / 2, t.val % 2, 0] := by decide +kernel

/-- Every point writes its block back. -/
theorem flush (hO : Ok m) (t : Fin (cfgM m hO).N) : ((cfgM m hO).win 1).flush t = true :=
  (Pipeline.Window.flushOf_reads (G := grid0) (cc0_transform_2 inb_S1_S1_0 numel1_S1 (tbl m)) reads0_1 (hreads0_1 (tbl m)) 1 (by decide) (by decide)
    (Pipeline.Window.sep_of_coord (cc0_transform_2 inb_S1_S1_0 numel1_S1 (tbl m)) 1 2 (fun _ => rfl) (by decide)) (P := 1) (m := 0) (by decide) rfl t).mpr (Nat.mod_one _)

/-- The shard's block at a point. -/
theorem blk0 (hO : Ok m) (c : Dev nD) (t : Fin (cfgM m hO).N) (r : Fin 176) (j : Fin 1024) :
    iblk m hO c 0 t (ix3 0 r j) = m ((c : Thread nD τ).loc main_arg2) (ix3 (⟨t.val / 2, by have : t.val < 4 := t.isLt; omega⟩ : Fin 2) (⟨t.val % 2 * 176 + r.val, by omega⟩ : Fin 352) j) := by
  have e := idx t
  show V m c main_arg2 _ = _
  rw [V_main_arg2]
  congr 1
  funext a
  apply Fin.ext
  show cc0_transform_0 (grid0.coords t) a * S1x176x1024.size a + 1 * (ix3 (0 : Fin 1) r j a).val = _
  rw [e]
  match a with
  | ⟨0, _⟩ => show t.val / 2 * 1 + 1 * 0 = t.val / 2; omega
  | ⟨1, _⟩ => show t.val % 2 * 176 + 1 * r.val = t.val % 2 * 176 + r.val; omega
  | ⟨2, _⟩ => show 0 * 1024 + 1 * j.val = j.val; omega

theorem split_blk (y : S1x1x176x1024.Idx) : ∃ (r : Fin 176) (j : Fin 1024), y = ix4 (0 : Fin 1) (0 : Fin 1) r j :=
  ⟨y 2, y 3, by funext a; match a with | ⟨0, _⟩ => exact Subsingleton.elim (α := Fin 1) _ _ | ⟨1, _⟩ => exact Subsingleton.elim (α := Fin 1) _ _ | ⟨2, _⟩ => rfl | ⟨3, _⟩ => rfl⟩

theorem split_arr (y : S4x2x352x1024.Idx) : ∃ (b : Fin 4) (k : Fin 2) (r : Fin 352) (j : Fin 1024), y = ix4 b k r j :=
  ⟨y 0, y 1, y 2, y 3, by funext a; match a with | ⟨0, _⟩ => rfl | ⟨1, _⟩ => rfl | ⟨2, _⟩ => rfl | ⟨3, _⟩ => rfl⟩

/-- What the result's buffer holds before the call. -/
theorem entry (hO : Ok m) (c : Dev nD) : (dats m hO 0 c).A 1 = m ((c : Thread nD τ).loc main_arg1) := by
  rw [A_eq]
  show StableHlo.after hostOps0 (fun b => m (c, b)) (Proc.devRef .tc main_v1) = _
  simp only [hostOps0, StableHlo.after]
  rfl

/-- A result array is what its blocks are, and elsewhere what it was. -/
theorem of_blocks (hO : Ok m) (hw : (word m).toNat < 4) (c : Dev nD) (G : S4x2x352x1024.Idx → EReal)
    (hG : ∀ (t : Fin (cfgM m hO).N) (r : Fin 176) (j : Fin 1024), outsAt0 m hO c t (ix4 0 0 r j)
      = G (ix4 (⟨(word m).toNat, hw⟩ : Fin 4) (⟨t.val / 2, by have : t.val < 4 := t.isLt; omega⟩ : Fin 2) (⟨t.val % 2 * 176 + r.val, by omega⟩ : Fin 352) j))
    (hE : ∀ (b : Fin 4) (k : Fin 2) (r : Fin 352) (j : Fin 1024), b.val ≠ (word m).toNat → m ((c : Thread nD τ).loc main_arg1) (ix4 b k r j) = G (ix4 b k r j)) :
    (dats m hO 0 c).arrAt 1 (cfgM m hO).N = G := by
  funext i
  refine ((dats m hO 0 c).arrAt_eq_piecewise 1 G (fun t hf => ?_) i).trans ?_
  · funext y
    obtain ⟨r, j, rfl⟩ := split_blk y
    have hlt : t.val < 4 := t.isLt
    have e := index_eq m (grid0.coords t)
    obtain ⟨q0, q1⟩ := coords t
    have p : (((cfgM m hO).win 1).blk t).view.emb (ix4 (0 : Fin 1) (0 : Fin 1) r j : S1x1x176x1024.Idx)
        = (ix4 (⟨(word m).toNat, hw⟩ : Fin 4) (⟨t.val / 2, by omega⟩ : Fin 2) (⟨t.val % 2 * 176 + r.val, by omega⟩ : Fin 352) j : S4x2x352x1024.Idx) := by
      funext a
      apply Fin.ext
      show cc0_transform_2 inb_S1_S1_0 numel1_S1 (tbl m) (grid0.coords t) a * S1x1x176x1024.size a + 1 * (ix4 (0 : Fin 1) (0 : Fin 1) r j a).val = _
      rw [e, q0, q1]
      match a with
      | ⟨0, _⟩ => show (word m).toNat * 1 + 1 * 0 = (word m).toNat; omega
      | ⟨1, _⟩ => show t.val / 2 * 1 + 1 * 0 = t.val / 2; omega
      | ⟨2, _⟩ => show t.val % 2 * 176 + 1 * r.val = t.val % 2 * 176 + r.val; omega
      | ⟨3, _⟩ => show 0 * 1024 + 1 * j.val = j.val; omega
    have f : (dats m hO 0 c).flushed 1 t = ((cfgM m hO).win 1).cut (grid0.coords t) (outsAt0 m hO c t) := by
      show ((cfgM m hO).win 1).cut (grid0.coords t) ((dats m hO 0 c).after 1 t) = _
      rw [after0_1]
    rw [f]
    show outsAt0 m hO c t (ix4 (0 : Fin 1) (0 : Fin 1) r j) = G ((((cfgM m hO).win 1).blk t).view.emb (ix4 (0 : Fin 1) (0 : Fin 1) r j : S1x1x176x1024.Idx))
    rw [p]
    exact hG t r j
  · obtain ⟨b, k, r, j, rfl⟩ := split_arr i
    by_cases hb : b.val = (word m).toNat
    · refine if_pos ?_
      let t : Fin (cfgM m hO).N := (⟨k.val * 2 + r.val / 176, by show _ < 4; omega⟩ : Fin 4)
      refine ⟨t, flush m hO t, ?_⟩
      have e := index_eq m (grid0.coords t)
      obtain ⟨q0, q1⟩ := coords t
      refine (Pipeline.Window.emb_mem_blk_iff ((cfgM m hO).win 1) t (ix4 b k r j)).mpr fun a => ?_
      show cc0_transform_2 inb_S1_S1_0 numel1_S1 (tbl m) (grid0.coords t) a * S1x1x176x1024.size a ≤ (ix4 b k r j a).val
        ∧ (ix4 b k r j a).val < cc0_transform_2 inb_S1_S1_0 numel1_S1 (tbl m) (grid0.coords t) a * S1x1x176x1024.size a + S1x1x176x1024.size a
      rw [e, q0, q1, ← hb]
      match a with
      | ⟨0, _⟩ => show b.val * 1 ≤ b.val ∧ b.val < b.val * 1 + 1; omega
      | ⟨1, _⟩ => show (k.val * 2 + r.val / 176) / 2 * 1 ≤ k.val ∧ k.val < (k.val * 2 + r.val / 176) / 2 * 1 + 1; omega
      | ⟨2, _⟩ => show (k.val * 2 + r.val / 176) % 2 * 176 ≤ r.val ∧ r.val < (k.val * 2 + r.val / 176) % 2 * 176 + 176; omega
      | ⟨3, _⟩ => show 0 * 1024 ≤ j.val ∧ j.val < 0 * 1024 + 1024; omega
    · by_cases h : ∃ t : Fin (cfgM m hO).N, ((cfgM m hO).win 1).flush t = true ∧ (ix4 b k r j : S4x2x352x1024.Idx) ∈ (((cfgM m hO).win 1).blk t).view.set
      · exact if_pos h
      · exact (if_neg h).trans ((congrFun (entry m hO c) _).trans (hE b k r j hb))

theorem block (hO : Ok m) (c : Dev nD) (t : Fin (cfgM m hO).N) (r : Fin 176) (j : Fin 1024) (u : EReal)
    (hu : iblk m hO c 0 t (ix3 0 r j) = u) : outsAt0 m hO c t (ix4 0 0 r j) = u := by
  unfold outsAt0; frame_out
  pointwise [k0_pay1]
  exact (congrFun ((hs0_0 m hO t).read_unread _) _).trans hu

/-- The result array is the reference's. -/
theorem final (hO : Ok m) (hw : (word m).toNat < 4) (c : Dev nD) : (dats m hO 0 c).arrAt 1 (cfgM m hO).N
    = Cert.PlaceOwnWDownRefIdeal.Read.val_main_v4 (F := Ideal) (m ((c : Thread nD τ).loc main_arg0)) (m ((c : Thread nD τ).loc main_arg1)) (m ((c : Thread nD τ).loc main_arg2)) := by
  obtain rfl : c = 0 := Subsingleton.elim _ _
  refine of_blocks m hO hw 0 _ (fun t r j => ?_) fun b k r j hb => ?_
  · exact (block m hO 0 t r j _ (blk0 m hO 0 t r j)).trans ((Cert.PlaceOwnWDownRefIdeal.Value.v4_apply _ _ _ _ _ _ _).trans (if_pos rfl)).symm
  · exact ((Cert.PlaceOwnWDownRefIdeal.Value.v4_apply _ _ _ b k r j).trans (if_neg hb)).symm

end Cert.PlaceOwnWDownIdeal.Value

namespace Cert.PlaceOwnWDownIdeal.Claim

open Idealize.ShloMosaic Idealize.ShloMosaic.TcCoe Idealize.SL.Sem

/-- The call computes what the reference computes. -/
theorem algebraic : Cert.algebraic_PlaceOwnWDownIdeal_PlaceOwnWDownRefIdeal (hPlaceOwnWDownIdeal := Cert.PlaceOwnWDownIdeal.Gen.facts) (hPlaceOwnWDownRefIdeal := Cert.PlaceOwnWDownRefIdeal.Gen.facts) (hPre_a_chip_w_down := Cert.Pre_a_chip_w_down.Gen.facts) := by
  intro m g m' g' pre h
  have hw := Cert.PlaceOwnWDownIdeal.Table.word_lt m pre
  have hO := Cert.PlaceOwnWDownIdeal.Table.ok_of_pre m pre
  refine ⟨fun c => Cert.PlaceOwnWDownRefIdeal.Read.val_main_v4 (F := Ideal) (m (c.tc.loc Cert.PlaceOwnWDownIdeal.main_arg0)) (m (c.tc.loc Cert.PlaceOwnWDownIdeal.main_arg1)) (m (c.tc.loc Cert.PlaceOwnWDownIdeal.main_arg2)), ?_, ?_⟩
  · refine (θ_run _ _ _).mono (fun r hr c => ⟨?_, hr.2 c⟩) (θ_run_and (Cert.PlaceOwnWDownIdeal.Gen.run_main m g hO) (Cert.PlaceOwnWDownIdeal.Gen.unchanged m g hO))
    exact ((hr.1 c).1 1).trans (Cert.PlaceOwnWDownIdeal.Value.final m hO hw c)
  · refine (θ_run _ _ _).mono (fun r hr c => ⟨(hr c).1.trans ?_, (hr c).2⟩) (Cert.PlaceOwnWDownRefIdeal.Value.run m' g')
    refine (Cert.PlaceOwnWDownRefIdeal.Read.val_main_v4_eq _ _ _).trans ?_
    show Cert.PlaceOwnWDownRefIdeal.Read.val_main_v4 (F := Ideal) (m' (c.tc.loc Cert.PlaceOwnWDownRefIdeal.main_arg0)) (m' (c.tc.loc Cert.PlaceOwnWDownRefIdeal.main_arg1)) (m' (c.tc.loc Cert.PlaceOwnWDownRefIdeal.main_arg2)) = _
    rw [(h c).1, (h c).2.1, (h c).2.2]

end Cert.PlaceOwnWDownIdeal.Claim

end
-- ==== Proof.PlaceOwnWOValue.lean ====
module

public import proofs.«01_k».proof.Defs
public import proofs.«01_k».proof.Proof.Gen.Pre_a_chip_w_o
public import proofs.«01_k».proof.Proof.Gen.PlaceOwnWO.Frame
public import proofs.«01_k».proof.Proof.Gen.PlaceOwnWOIdeal.Frame
public import proofs.«01_k».proof.Proof.Gen.PlaceOwnWORefIdeal.Run
public import proofs.«01_k».proof.Proof.Gen.PlaceOwnWORefIdeal.Read
public import Idealize.ShloMosaic.Lib.Pipeline.ValueKit
public import Idealize.ShloMosaic.Lib.Pipeline.Value
public import Idealize.ShloMosaic.Lib.Pointwise

@[expose] public section

set_option maxRecDepth 16384

/-! The chip's shard of a gradient put in its place among the gathered shards. -/

noncomputable section

namespace Cert.PlaceOwnWO.Table

open Cert.PlaceOwnWO Cert.PlaceOwnWO.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 1 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWO (hPre_a_chip_w_o := Cert.Pre_a_chip_w_o.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_o.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 1 := (i 1).isLt
  have b : ∀ a, (cc0_transform_2 inb_S1_S1_0 numel1_S1 (tbl m) i a + 1) * S1x1x128x1024.size a ≤ S4x2x128x1024.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 128 ≤ 128; omega
    | ⟨3, _⟩ => show (0 + 1) * 1024 ≤ 1024; omega
  exact ⟨b, .inr (Affine.block_words_dvd (of_decide_eq_true rfl) (by decide))⟩

theorem ok_of_pre (h : Cert.Pre_PlaceOwnWO (hPre_a_chip_w_o := Cert.Pre_a_chip_w_o.Gen.facts) m) : Ok m := ok_of_lt m (word_lt m h)

end Cert.PlaceOwnWO.Table

namespace Cert.PlaceOwnWOIdeal.Table

open Cert.PlaceOwnWOIdeal Cert.PlaceOwnWOIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 1 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWOIdeal (hPre_a_chip_w_o := Cert.Pre_a_chip_w_o.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_o.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 1 := (i 1).isLt
  have b : ∀ a, (cc0_transform_2 inb_S1_S1_0 numel1_S1 (tbl m) i a + 1) * S1x1x128x1024.size a ≤ S4x2x128x1024.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 128 ≤ 128; omega
    | ⟨3, _⟩ => show (0 + 1) * 1024 ≤ 1024; omega
  exact ⟨b, .inr (Affine.block_words_dvd (of_decide_eq_true rfl) (by decide))⟩

theorem ok_of_pre (h : Cert.Pre_PlaceOwnWOIdeal (hPre_a_chip_w_o := Cert.Pre_a_chip_w_o.Gen.facts) m) : Ok m := ok_of_lt m (word_lt m h)

end Cert.PlaceOwnWOIdeal.Table

namespace Cert.PlaceOwnWORefIdeal.Value

open Cert.PlaceOwnWORefIdeal Cert.PlaceOwnWORefIdeal.Gen Cert.PlaceOwnWORefIdeal.Read Idealize.ShloMosaic Idealize.ShloMosaic.TcCoe

variable (n : IVec S_ 32) (x : FVec Ideal S4x2x128x1024 .bf16) (y : FVec Ideal S2x128x1024 .bf16)

theorem v4_apply (b : Fin 4) (k : Fin 2) (i : Fin 128) (j : Fin 1024) :
    val_main_v4 (F := Ideal) n x y (ix4 b k i j) = if b.val = (n (fun a => a.elim0)).toNat then y (ix3 k i j) else x (ix4 b k i j) := by
  have e0 : val_main_call0_v0 (F := Ideal) n (ix4 b k i j) = BitVec.ofBool (BitVec.ofNat 32 b.val == n (fun a => a.elim0)) := by
    rw [val_main_call0_v0_apply, val_main_v3_apply, val_main_v1_apply, val_main_v0_apply, val_main_v2_apply, Subsingleton.elim (α := S_.Idx) (idx_main_v2 _) (fun a => a.elim0)]
    show BitVec.ofBool (BitVec.ofNat 32 (((b.val * 1 + 0) * 1 + 0) * 1 + 0) == n (fun a => a.elim0)) = _
    simp only [Nat.mul_one, Nat.add_zero]
  have e1 : val_main_call0_v1 (F := Ideal) y (ix4 b k i j) = y (ix3 k i j) := by pointwise [val_main_call0_v1]
  rw [val_main_v4_apply, e0, e1]
  have hb : (BitVec.ofNat 32 b.val).toNat = b.val := by rw [BitVec.toNat_ofNat]; omega
  by_cases h : b.val = (n (fun a => a.elim0)).toNat
  · rw [if_pos h, show BitVec.ofNat 32 b.val = n (fun a => a.elim0) from BitVec.eq_of_toNat_eq (hb.trans h), beq_self_eq_true]; rfl
  · rw [if_neg h, beq_false_of_ne (fun e => h (hb.symm.trans (congrArg BitVec.toNat e)))]; rfl

end Cert.PlaceOwnWORefIdeal.Value

namespace Cert.PlaceOwnWOIdeal.Value

open Cert.PlaceOwnWOIdeal Cert.PlaceOwnWOIdeal.Gen Cert.PlaceOwnWOIdeal.Table Idealize.ShloMosaic Idealize.ShloMosaic.TcCoe
open Idealize.ShloMosaic.Pipeline (Dat)

variable (m : (ℓ : Loc nD τ sig) → Buf (Elt Ideal) ℓ)

/-- The grid's points: the core's half, and the half of its rows. -/
theorem coords : ∀ t : Fin grid0.N, (grid0.coords t 0).val = t.val / 1 ∧ (grid0.coords t 1).val = t.val % 1 := by decide +kernel

/-- Where the shard's window stands. -/
theorem idx : ∀ t : Fin grid0.N, cc0_transform_0 (grid0.coords t) = ![t.val / 1, t.val % 1, 0] := by decide +kernel

/-- Every point writes its block back. -/
theorem flush (hO : Ok m) (t : Fin (cfgM m hO).N) : ((cfgM m hO).win 1).flush t = true :=
  (Pipeline.Window.flushOf_reads (G := grid0) (cc0_transform_2 inb_S1_S1_0 numel1_S1 (tbl m)) reads0_1 (hreads0_1 (tbl m)) 0 (by decide) (by decide)
    (Pipeline.Window.sep_of_coord (cc0_transform_2 inb_S1_S1_0 numel1_S1 (tbl m)) 0 1 (fun _ => rfl) (by decide)) (P := 1) (m := 0) (by decide) rfl t).mpr (Nat.mod_one _)

/-- The shard's block at a point. -/
theorem blk0 (hO : Ok m) (c : Dev nD) (t : Fin (cfgM m hO).N) (r : Fin 128) (j : Fin 1024) :
    iblk m hO c 0 t (ix3 0 r j) = m ((c : Thread nD τ).loc main_arg2) (ix3 (⟨t.val / 1, by have : t.val < 2 := t.isLt; omega⟩ : Fin 2) (⟨t.val % 1 * 128 + r.val, by omega⟩ : Fin 128) j) := by
  have e := idx t
  show V m c main_arg2 _ = _
  rw [V_main_arg2]
  congr 1
  funext a
  apply Fin.ext
  show cc0_transform_0 (grid0.coords t) a * S1x128x1024.size a + 1 * (ix3 (0 : Fin 1) r j a).val = _
  rw [e]
  match a with
  | ⟨0, _⟩ => show t.val / 1 * 1 + 1 * 0 = t.val / 1; omega
  | ⟨1, _⟩ => show t.val % 1 * 128 + 1 * r.val = t.val % 1 * 128 + r.val; omega
  | ⟨2, _⟩ => show 0 * 1024 + 1 * j.val = j.val; omega

theorem split_blk (y : S1x1x128x1024.Idx) : ∃ (r : Fin 128) (j : Fin 1024), y = ix4 (0 : Fin 1) (0 : Fin 1) r j :=
  ⟨y 2, y 3, by funext a; match a with | ⟨0, _⟩ => exact Subsingleton.elim (α := Fin 1) _ _ | ⟨1, _⟩ => exact Subsingleton.elim (α := Fin 1) _ _ | ⟨2, _⟩ => rfl | ⟨3, _⟩ => rfl⟩

theorem split_arr (y : S4x2x128x1024.Idx) : ∃ (b : Fin 4) (k : Fin 2) (r : Fin 128) (j : Fin 1024), y = ix4 b k r j :=
  ⟨y 0, y 1, y 2, y 3, by funext a; match a with | ⟨0, _⟩ => rfl | ⟨1, _⟩ => rfl | ⟨2, _⟩ => rfl | ⟨3, _⟩ => rfl⟩

/-- What the result's buffer holds before the call. -/
theorem entry (hO : Ok m) (c : Dev nD) : (dats m hO 0 c).A 1 = m ((c : Thread nD τ).loc main_arg1) := by
  rw [A_eq]
  show StableHlo.after hostOps0 (fun b => m (c, b)) (Proc.devRef .tc main_v1) = _
  simp only [hostOps0, StableHlo.after]
  rfl

/-- A result array is what its blocks are, and elsewhere what it was. -/
theorem of_blocks (hO : Ok m) (hw : (word m).toNat < 4) (c : Dev nD) (G : S4x2x128x1024.Idx → EReal)
    (hG : ∀ (t : Fin (cfgM m hO).N) (r : Fin 128) (j : Fin 1024), outsAt0 m hO c t (ix4 0 0 r j)
      = G (ix4 (⟨(word m).toNat, hw⟩ : Fin 4) (⟨t.val / 1, by have : t.val < 2 := t.isLt; omega⟩ : Fin 2) (⟨t.val % 1 * 128 + r.val, by omega⟩ : Fin 128) j))
    (hE : ∀ (b : Fin 4) (k : Fin 2) (r : Fin 128) (j : Fin 1024), b.val ≠ (word m).toNat → m ((c : Thread nD τ).loc main_arg1) (ix4 b k r j) = G (ix4 b k r j)) :
    (dats m hO 0 c).arrAt 1 (cfgM m hO).N = G := by
  funext i
  refine ((dats m hO 0 c).arrAt_eq_piecewise 1 G (fun t hf => ?_) i).trans ?_
  · funext y
    obtain ⟨r, j, rfl⟩ := split_blk y
    have hlt : t.val < 2 := t.isLt
    have e := index_eq m (grid0.coords t)
    obtain ⟨q0, q1⟩ := coords t
    have p : (((cfgM m hO).win 1).blk t).view.emb (ix4 (0 : Fin 1) (0 : Fin 1) r j : S1x1x128x1024.Idx)
        = (ix4 (⟨(word m).toNat, hw⟩ : Fin 4) (⟨t.val / 1, by omega⟩ : Fin 2) (⟨t.val % 1 * 128 + r.val, by omega⟩ : Fin 128) j : S4x2x128x1024.Idx) := by
      funext a
      apply Fin.ext
      show cc0_transform_2 inb_S1_S1_0 numel1_S1 (tbl m) (grid0.coords t) a * S1x1x128x1024.size a + 1 * (ix4 (0 : Fin 1) (0 : Fin 1) r j a).val = _
      rw [e, q0, q1]
      match a with
      | ⟨0, _⟩ => show (word m).toNat * 1 + 1 * 0 = (word m).toNat; omega
      | ⟨1, _⟩ => show t.val / 1 * 1 + 1 * 0 = t.val / 1; omega
      | ⟨2, _⟩ => show t.val % 1 * 128 + 1 * r.val = t.val % 1 * 128 + r.val; omega
      | ⟨3, _⟩ => show 0 * 1024 + 1 * j.val = j.val; omega
    have f : (dats m hO 0 c).flushed 1 t = ((cfgM m hO).win 1).cut (grid0.coords t) (outsAt0 m hO c t) := by
      show ((cfgM m hO).win 1).cut (grid0.coords t) ((dats m hO 0 c).after 1 t) = _
      rw [after0_1]
    rw [f]
    show outsAt0 m hO c t (ix4 (0 : Fin 1) (0 : Fin 1) r j) = G ((((cfgM m hO).win 1).blk t).view.emb (ix4 (0 : Fin 1) (0 : Fin 1) r j : S1x1x128x1024.Idx))
    rw [p]
    exact hG t r j
  · obtain ⟨b, k, r, j, rfl⟩ := split_arr i
    by_cases hb : b.val = (word m).toNat
    · refine if_pos ?_
      let t : Fin (cfgM m hO).N := (⟨k.val * 1 + r.val / 128, by show _ < 2; omega⟩ : Fin 2)
      refine ⟨t, flush m hO t, ?_⟩
      have e := index_eq m (grid0.coords t)
      obtain ⟨q0, q1⟩ := coords t
      refine (Pipeline.Window.emb_mem_blk_iff ((cfgM m hO).win 1) t (ix4 b k r j)).mpr fun a => ?_
      show cc0_transform_2 inb_S1_S1_0 numel1_S1 (tbl m) (grid0.coords t) a * S1x1x128x1024.size a ≤ (ix4 b k r j a).val
        ∧ (ix4 b k r j a).val < cc0_transform_2 inb_S1_S1_0 numel1_S1 (tbl m) (grid0.coords t) a * S1x1x128x1024.size a + S1x1x128x1024.size a
      rw [e, q0, q1, ← hb]
      match a with
      | ⟨0, _⟩ => show b.val * 1 ≤ b.val ∧ b.val < b.val * 1 + 1; omega
      | ⟨1, _⟩ => show (k.val * 1 + r.val / 128) / 1 * 1 ≤ k.val ∧ k.val < (k.val * 1 + r.val / 128) / 1 * 1 + 1; omega
      | ⟨2, _⟩ => show (k.val * 1 + r.val / 128) % 1 * 128 ≤ r.val ∧ r.val < (k.val * 1 + r.val / 128) % 1 * 128 + 128; omega
      | ⟨3, _⟩ => show 0 * 1024 ≤ j.val ∧ j.val < 0 * 1024 + 1024; omega
    · by_cases h : ∃ t : Fin (cfgM m hO).N, ((cfgM m hO).win 1).flush t = true ∧ (ix4 b k r j : S4x2x128x1024.Idx) ∈ (((cfgM m hO).win 1).blk t).view.set
      · exact if_pos h
      · exact (if_neg h).trans ((congrFun (entry m hO c) _).trans (hE b k r j hb))

theorem block (hO : Ok m) (c : Dev nD) (t : Fin (cfgM m hO).N) (r : Fin 128) (j : Fin 1024) (u : EReal)
    (hu : iblk m hO c 0 t (ix3 0 r j) = u) : outsAt0 m hO c t (ix4 0 0 r j) = u := by
  unfold outsAt0; frame_out
  pointwise [k0_pay1]
  exact (congrFun ((hs0_0 m hO t).read_unread _) _).trans hu

/-- The result array is the reference's. -/
theorem final (hO : Ok m) (hw : (word m).toNat < 4) (c : Dev nD) : (dats m hO 0 c).arrAt 1 (cfgM m hO).N
    = Cert.PlaceOwnWORefIdeal.Read.val_main_v4 (F := Ideal) (m ((c : Thread nD τ).loc main_arg0)) (m ((c : Thread nD τ).loc main_arg1)) (m ((c : Thread nD τ).loc main_arg2)) := by
  obtain rfl : c = 0 := Subsingleton.elim _ _
  refine of_blocks m hO hw 0 _ (fun t r j => ?_) fun b k r j hb => ?_
  · exact (block m hO 0 t r j _ (blk0 m hO 0 t r j)).trans ((Cert.PlaceOwnWORefIdeal.Value.v4_apply _ _ _ _ _ _ _).trans (if_pos rfl)).symm
  · exact ((Cert.PlaceOwnWORefIdeal.Value.v4_apply _ _ _ b k r j).trans (if_neg hb)).symm

end Cert.PlaceOwnWOIdeal.Value

namespace Cert.PlaceOwnWOIdeal.Claim

open Idealize.ShloMosaic Idealize.ShloMosaic.TcCoe Idealize.SL.Sem

/-- The call computes what the reference computes. -/
theorem algebraic : Cert.algebraic_PlaceOwnWOIdeal_PlaceOwnWORefIdeal (hPlaceOwnWOIdeal := Cert.PlaceOwnWOIdeal.Gen.facts) (hPlaceOwnWORefIdeal := Cert.PlaceOwnWORefIdeal.Gen.facts) (hPre_a_chip_w_o := Cert.Pre_a_chip_w_o.Gen.facts) := by
  intro m g m' g' pre h
  have hw := Cert.PlaceOwnWOIdeal.Table.word_lt m pre
  have hO := Cert.PlaceOwnWOIdeal.Table.ok_of_pre m pre
  refine ⟨fun c => Cert.PlaceOwnWORefIdeal.Read.val_main_v4 (F := Ideal) (m (c.tc.loc Cert.PlaceOwnWOIdeal.main_arg0)) (m (c.tc.loc Cert.PlaceOwnWOIdeal.main_arg1)) (m (c.tc.loc Cert.PlaceOwnWOIdeal.main_arg2)), ?_, ?_⟩
  · refine (θ_run _ _ _).mono (fun r hr c => ⟨?_, hr.2 c⟩) (θ_run_and (Cert.PlaceOwnWOIdeal.Gen.run_main m g hO) (Cert.PlaceOwnWOIdeal.Gen.unchanged m g hO))
    exact ((hr.1 c).1 1).trans (Cert.PlaceOwnWOIdeal.Value.final m hO hw c)
  · refine (θ_run _ _ _).mono (fun r hr c => ⟨(hr c).1.trans ?_, (hr c).2⟩) (Cert.PlaceOwnWORefIdeal.Value.run m' g')
    refine (Cert.PlaceOwnWORefIdeal.Read.val_main_v4_eq _ _ _).trans ?_
    show Cert.PlaceOwnWORefIdeal.Read.val_main_v4 (F := Ideal) (m' (c.tc.loc Cert.PlaceOwnWORefIdeal.main_arg0)) (m' (c.tc.loc Cert.PlaceOwnWORefIdeal.main_arg1)) (m' (c.tc.loc Cert.PlaceOwnWORefIdeal.main_arg2)) = _
    rw [(h c).1, (h c).2.1, (h c).2.2]

end Cert.PlaceOwnWOIdeal.Claim

end
-- ==== Proof.PlaceOwnWInValue.lean ====
module

public import proofs.«01_k».proof.Defs
public import proofs.«01_k».proof.Proof.Gen.Pre_a_chip_w_in
public import proofs.«01_k».proof.Proof.Gen.PlaceOwnWIn.Frame
public import proofs.«01_k».proof.Proof.Gen.PlaceOwnWInIdeal.Frame
public import proofs.«01_k».proof.Proof.Gen.PlaceOwnWInRefIdeal.Run
public import proofs.«01_k».proof.Proof.Gen.PlaceOwnWInRefIdeal.Read
public import Idealize.ShloMosaic.Lib.Pipeline.ValueKit
public import Idealize.ShloMosaic.Lib.Pipeline.Value
public import Idealize.ShloMosaic.Lib.Pointwise

@[expose] public section

set_option maxRecDepth 16384

/-! The chip's shard of a gradient put in its place among the gathered shards. -/

noncomputable section

namespace Cert.PlaceOwnWIn.Table

open Cert.PlaceOwnWIn Cert.PlaceOwnWIn.Gen Idealize.ShloMosaic Idealize.ShloMosaic.TcCoe

variable (m : (ℓ : Loc nD τ sig) → Buf (Elt Bits) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWIn (hPre_a_chip_w_in := Cert.Pre_a_chip_w_in.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_in.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x256x902.size a ≤ S4x2x512x902.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 256 ≤ 512; omega
    | ⟨3, _⟩ => show (0 + 1) * 902 ≤ 902; omega
  exact ⟨b, .inr (Affine.block_words_dvd (of_decide_eq_true rfl) (by decide))⟩

theorem ok_of_pre (h : Cert.Pre_PlaceOwnWIn (hPre_a_chip_w_in := Cert.Pre_a_chip_w_in.Gen.facts) m) : Ok m := ok_of_lt m (word_lt m h)

end Cert.PlaceOwnWIn.Table

namespace Cert.PlaceOwnWInIdeal.Table

open Cert.PlaceOwnWInIdeal Cert.PlaceOwnWInIdeal.Gen Idealize.ShloMosaic Idealize.ShloMosaic.TcCoe

variable (m : (ℓ : Loc nD τ sig) → Buf (Elt Ideal) ℓ)

/-- The number the call is given. -/
def word : BitVec 32 := m (((0 : Dev nD) : Thread nD τ).loc main_arg0) (fun a => a.elim0)

theorem tbl_apply (x : S1.Idx) : tbl m 0 x = word m := by
  have e : V m (0 : Dev nD) main_v0 = shapeCast S1 (m (((0 : Dev nD) : Thread nD τ).loc main_arg0)) shapeCasts_S_S1 := by
    show StableHlo.after hostOps0 (fun b => m ((0 : Dev nD), b)) (Proc.devRef .tc main_v0) = _
    simp only [hostOps0, StableHlo.after]
    rfl
  show V m (0 : Dev nD) main_v0 x = _
  rw [e]
  exact congrArg (m (((0 : Dev nD) : Thread nD τ).loc main_arg0)) (Subsingleton.elim (α := S_.Idx) _ _)

/-- Where the window the number chooses stands. -/
theorem index_eq (i : grid0.Coords) : cc0_transform_2 inb_S1_S1_0 numel1_S1 (tbl m) i = ![(word m).toNat, (i 0).val, (i 1).val, 0] := by
  have h0 : (i 0).val < 2 := (i 0).isLt
  have h1 : (i 1).val < 2 := (i 1).isLt
  have e : (tbl m).at 0 (Rect.unit (s := S1) ![0] S1.size inb_S1_S1_0) numel1_S1 = word m := tbl_apply m _
  have t0 : (BitVec.ofNat 32 (i 0).val).toNat = (i 0).val := by rw [BitVec.toNat_ofNat]; omega
  have t1 : (BitVec.ofNat 32 (i 1).val).toNat = (i 1).val := by rw [BitVec.toNat_ofNat]; omega
  unfold cc0_transform_2
  simp only [e, t0, t1]
  rfl

/-- The number is in range. -/
theorem word_lt (h : Cert.Pre_PlaceOwnWInIdeal (hPre_a_chip_w_in := Cert.Pre_a_chip_w_in.Gen.facts) m) : (word m).toNat < 4 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_chip_w_in.fn, constantI, cmpi, andi, andi_one, IntOp.cmpi, ofBool_one, BitVec.sle, BitVec.slt, decide_eq_true_eq] at e
  have g : ∀ w : BitVec 32, (0#32).toInt ≤ w.toInt → w.toInt < (4#32).toInt → w.toNat < 4 := fun w h0 h1 => by
    simp only [BitVec.toInt, BitVec.toNat_ofNat] at h0 h1
    have := w.isLt
    omega
  exact g _ (of_decide_eq_true e.1) (of_decide_eq_true e.2)

theorem ok_of_lt (h : (word m).toNat < 4) : Ok m := fun i => by
  have h0 : (i 0).val < 2 := (i 0).isLt
  have h1 : (i 1).val < 2 := (i 1).isLt
  have b : ∀ a, (cc0_transform_2 inb_S1_S1_0 numel1_S1 (tbl m) i a + 1) * S1x1x256x902.size a ≤ S4x2x512x902.size a := by
    rw [index_eq]
    intro a
    match a with
    | ⟨0, _⟩ => show (((word m).toNat) + 1) * 1 ≤ 4; omega
    | ⟨1, _⟩ => show (((i 0).val) + 1) * 1 ≤ 2; omega
    | ⟨2, _⟩ => show ((i 1).val + 1) * 256 ≤ 512; omega
    | ⟨3, _⟩ => show (0 + 1) * 902 ≤ 902; omega
  exact ⟨b, .inr (Affine.block_words_dvd (of_decide_eq_true rfl) (by decide))⟩

theorem ok_of_pre (h : Cert.Pre_PlaceOwnWInIdeal (hPre_a_chip_w_in := Cert.Pre_a_chip_w_in.Gen.facts) m) : Ok m := ok_of_lt m (word_lt m h)

end Cert.PlaceOwnWInIdeal.Table

namespace Cert.PlaceOwnWInRefIdeal.Value

open Cert.PlaceOwnWInRefIdeal Cert.PlaceOwnWInRefIdeal.Gen Cert.PlaceOwnWInRefIdeal.Read Idealize.ShloMosaic Idealize.ShloMosaic.TcCoe

variable (n : IVec S_ 32) (x : FVec Ideal S4x2x512x902 .bf16) (y : FVec Ideal S2x512x902 .bf16)

theorem v4_apply (b : Fin 4) (k : Fin 2) (i : Fin 512) (j : Fin 902) :
    val_main_v4 (F := Ideal) n x y (ix4 b k i j) = if b.val = (n (fun a => a.elim0)).toNat then y (ix3 k i j) else x (ix4 b k i j) := by
  have e0 : val_main_call0_v0 (F := Ideal) n (ix4 b k i j) = BitVec.ofBool (BitVec.ofNat 32 b.val == n (fun a => a.elim0)) := by
    rw [val_main_call0_v0_apply, val_main_v3_apply, val_main_v1_apply, val_main_v0_apply, val_main_v2_apply, Subsingleton.elim (α := S_.Idx) (idx_main_v2 _) (fun a => a.elim0)]
    show BitVec.ofBool (BitVec.ofNat 32 (((b.val * 1 + 0) * 1 + 0) * 1 + 0) == n (fun a => a.elim0)) = _
    simp only [Nat.mul_one, Nat.add_zero]
  have e1 : val_main_call0_v1 (F := Ideal) y (ix4 b k i j) = y (ix3 k i j) := by pointwise [val_main_call0_v1]
  rw [val_main_v4_apply, e0, e1]
  have hb : (BitVec.ofNat 32 b.val).toNat = b.val := by rw [BitVec.toNat_ofNat]; omega
  by_cases h : b.val = (n (fun a => a.elim0)).toNat
  · rw [if_pos h, show BitVec.ofNat 32 b.val = n (fun a => a.elim0) from BitVec.eq_of_toNat_eq (hb.trans h), beq_self_eq_true]; rfl
  · rw [if_neg h, beq_false_of_ne (fun e => h (hb.symm.trans (congrArg BitVec.toNat e)))]; rfl

end Cert.PlaceOwnWInRefIdeal.Value

namespace Cert.PlaceOwnWInIdeal.Value

open Cert.PlaceOwnWInIdeal Cert.PlaceOwnWInIdeal.Gen Cert.PlaceOwnWInIdeal.Table Idealize.ShloMosaic Idealize.ShloMosaic.TcCoe
open Idealize.ShloMosaic.Pipeline (Dat)

variable (m : (ℓ : Loc nD τ sig) → Buf (Elt Ideal) ℓ)

/-- The grid's points: the core's half, and the half of its rows. -/
theorem coords : ∀ t : Fin grid0.N, (grid0.coords t 0).val = t.val / 2 ∧ (grid0.coords t 1).val = t.val % 2 := by decide +kernel

/-- Where the shard's window stands. -/
theorem idx : ∀ t : Fin grid0.N, cc0_transform_0 (grid0.coords t) = ![t.val / 2, t.val % 2, 0] := by decide +kernel

/-- Every point writes its block back. -/
theorem flush (hO : Ok m) (t : Fin (cfgM m hO).N) : ((cfgM m hO).win 1).flush t = true :=
  (Pipeline.Window.flushOf_reads (G := grid0) (cc0_transform_2 inb_S1_S1_0 numel1_S1 (tbl m)) reads0_1 (hreads0_1 (tbl m)) 1 (by decide) (by decide)
    (Pipeline.Window.sep_of_coord (cc0_transform_2 inb_S1_S1_0 numel1_S1 (tbl m)) 1 2 (fun _ => rfl) (by decide)) (P := 1) (m := 0) (by decide) rfl t).mpr (Nat.mod_one _)

/-- The shard's block at a point. -/
theorem blk0 (hO : Ok m) (c : Dev nD) (t : Fin (cfgM m hO).N) (r : Fin 256) (j : Fin 902) :
    iblk m hO c 0 t (ix3 0 r j) = m ((c : Thread nD τ).loc main_arg2) (ix3 (⟨t.val / 2, by have : t.val < 4 := t.isLt; omega⟩ : Fin 2) (⟨t.val % 2 * 256 + r.val, by omega⟩ : Fin 512) j) := by
  have e := idx t
  show V m c main_arg2 _ = _
  rw [V_main_arg2]
  congr 1
  funext a
  apply Fin.ext
  show cc0_transform_0 (grid0.coords t) a * S1x256x902.size a + 1 * (ix3 (0 : Fin 1) r j a).val = _
  rw [e]
  match a with
  | ⟨0, _⟩ => show t.val / 2 * 1 + 1 * 0 = t.val / 2; omega
  | ⟨1, _⟩ => show t.val % 2 * 256 + 1 * r.val = t.val % 2 * 256 + r.val; omega
  | ⟨2, _⟩ => show 0 * 902 + 1 * j.val = j.val; omega

theorem split_blk (y : S1x1x256x902.Idx) : ∃ (r : Fin 256) (j : Fin 902), y = ix4 (0 : Fin 1) (0 : Fin 1) r j :=
  ⟨y 2, y 3, by funext a; match a with | ⟨0, _⟩ => exact Subsingleton.elim (α := Fin 1) _ _ | ⟨1, _⟩ => exact Subsingleton.elim (α := Fin 1) _ _ | ⟨2, _⟩ => rfl | ⟨3, _⟩ => rfl⟩

theorem split_arr (y : S4x2x512x902.Idx) : ∃ (b : Fin 4) (k : Fin 2) (r : Fin 512) (j : Fin 902), y = ix4 b k r j :=
  ⟨y 0, y 1, y 2, y 3, by funext a; match a with | ⟨0, _⟩ => rfl | ⟨1, _⟩ => rfl | ⟨2, _⟩ => rfl | ⟨3, _⟩ => rfl⟩

/-- What the result's buffer holds before the call. -/
theorem entry (hO : Ok m) (c : Dev nD) : (dats m hO 0 c).A 1 = m ((c : Thread nD τ).loc main_arg1) := by
  rw [A_eq]
  show StableHlo.after hostOps0 (fun b => m (c, b)) (Proc.devRef .tc main_v1) = _
  simp only [hostOps0, StableHlo.after]
  rfl

/-- A result array is what its blocks are, and elsewhere what it was. -/
theorem of_blocks (hO : Ok m) (hw : (word m).toNat < 4) (c : Dev nD) (G : S4x2x512x902.Idx → EReal)
    (hG : ∀ (t : Fin (cfgM m hO).N) (r : Fin 256) (j : Fin 902), outsAt0 m hO c t (ix4 0 0 r j)
      = G (ix4 (⟨(word m).toNat, hw⟩ : Fin 4) (⟨t.val / 2, by have : t.val < 4 := t.isLt; omega⟩ : Fin 2) (⟨t.val % 2 * 256 + r.val, by omega⟩ : Fin 512) j))
    (hE : ∀ (b : Fin 4) (k : Fin 2) (r : Fin 512) (j : Fin 902), b.val ≠ (word m).toNat → m ((c : Thread nD τ).loc main_arg1) (ix4 b k r j) = G (ix4 b k r j)) :
    (dats m hO 0 c).arrAt 1 (cfgM m hO).N = G := by
  funext i
  refine ((dats m hO 0 c).arrAt_eq_piecewise 1 G (fun t hf => ?_) i).trans ?_
  · funext y
    obtain ⟨r, j, rfl⟩ := split_blk y
    have hlt : t.val < 4 := t.isLt
    have e := index_eq m (grid0.coords t)
    obtain ⟨q0, q1⟩ := coords t
    have p : (((cfgM m hO).win 1).blk t).view.emb (ix4 (0 : Fin 1) (0 : Fin 1) r j : S1x1x256x902.Idx)
        = (ix4 (⟨(word m).toNat, hw⟩ : Fin 4) (⟨t.val / 2, by omega⟩ : Fin 2) (⟨t.val % 2 * 256 + r.val, by omega⟩ : Fin 512) j : S4x2x512x902.Idx) := by
      funext a
      apply Fin.ext
      show cc0_transform_2 inb_S1_S1_0 numel1_S1 (tbl m) (grid0.coords t) a * S1x1x256x902.size a + 1 * (ix4 (0 : Fin 1) (0 : Fin 1) r j a).val = _
      rw [e, q0, q1]
      match a with
      | ⟨0, _⟩ => show (word m).toNat * 1 + 1 * 0 = (word m).toNat; omega
      | ⟨1, _⟩ => show t.val / 2 * 1 + 1 * 0 = t.val / 2; omega
      | ⟨2, _⟩ => show t.val % 2 * 256 + 1 * r.val = t.val % 2 * 256 + r.val; omega
      | ⟨3, _⟩ => show 0 * 902 + 1 * j.val = j.val; omega
    have f : (dats m hO 0 c).flushed 1 t = ((cfgM m hO).win 1).cut (grid0.coords t) (outsAt0 m hO c t) := by
      show ((cfgM m hO).win 1).cut (grid0.coords t) ((dats m hO 0 c).after 1 t) = _
      rw [after0_1]
    rw [f]
    show outsAt0 m hO c t (ix4 (0 : Fin 1) (0 : Fin 1) r j) = G ((((cfgM m hO).win 1).blk t).view.emb (ix4 (0 : Fin 1) (0 : Fin 1) r j : S1x1x256x902.Idx))
    rw [p]
    exact hG t r j
  · obtain ⟨b, k, r, j, rfl⟩ := split_arr i
    by_cases hb : b.val = (word m).toNat
    · refine if_pos ?_
      let t : Fin (cfgM m hO).N := (⟨k.val * 2 + r.val / 256, by show _ < 4; omega⟩ : Fin 4)
      refine ⟨t, flush m hO t, ?_⟩
      have e := index_eq m (grid0.coords t)
      obtain ⟨q0, q1⟩ := coords t
      refine (Pipeline.Window.emb_mem_blk_iff ((cfgM m hO).win 1) t (ix4 b k r j)).mpr fun a => ?_
      show cc0_transform_2 inb_S1_S1_0 numel1_S1 (tbl m) (grid0.coords t) a * S1x1x256x902.size a ≤ (ix4 b k r j a).val
        ∧ (ix4 b k r j a).val < cc0_transform_2 inb_S1_S1_0 numel1_S1 (tbl m) (grid0.coords t) a * S1x1x256x902.size a + S1x1x256x902.size a
      rw [e, q0, q1, ← hb]
      match a with
      | ⟨0, _⟩ => show b.val * 1 ≤ b.val ∧ b.val < b.val * 1 + 1; omega
      | ⟨1, _⟩ => show (k.val * 2 + r.val / 256) / 2 * 1 ≤ k.val ∧ k.val < (k.val * 2 + r.val / 256) / 2 * 1 + 1; omega
      | ⟨2, _⟩ => show (k.val * 2 + r.val / 256) % 2 * 256 ≤ r.val ∧ r.val < (k.val * 2 + r.val / 256) % 2 * 256 + 256; omega
      | ⟨3, _⟩ => show 0 * 902 ≤ j.val ∧ j.val < 0 * 902 + 902; omega
    · by_cases h : ∃ t : Fin (cfgM m hO).N, ((cfgM m hO).win 1).flush t = true ∧ (ix4 b k r j : S4x2x512x902.Idx) ∈ (((cfgM m hO).win 1).blk t).view.set
      · exact if_pos h
      · exact (if_neg h).trans ((congrFun (entry m hO c) _).trans (hE b k r j hb))

theorem block (hO : Ok m) (c : Dev nD) (t : Fin (cfgM m hO).N) (r : Fin 256) (j : Fin 902) (u : EReal)
    (hu : iblk m hO c 0 t (ix3 0 r j) = u) : outsAt0 m hO c t (ix4 0 0 r j) = u := by
  unfold outsAt0; frame_out
  pointwise [k0_pay1]
  exact (congrFun ((hs0_0 m hO t).read_unread _) _).trans hu

/-- The result array is the reference's. -/
theorem final (hO : Ok m) (hw : (word m).toNat < 4) (c : Dev nD) : (dats m hO 0 c).arrAt 1 (cfgM m hO).N
    = Cert.PlaceOwnWInRefIdeal.Read.val_main_v4 (F := Ideal) (m ((c : Thread nD τ).loc main_arg0)) (m ((c : Thread nD τ).loc main_arg1)) (m ((c : Thread nD τ).loc main_arg2)) := by
  obtain rfl : c = 0 := Subsingleton.elim _ _
  refine of_blocks m hO hw 0 _ (fun t r j => ?_) fun b k r j hb => ?_
  · exact (block m hO 0 t r j _ (blk0 m hO 0 t r j)).trans ((Cert.PlaceOwnWInRefIdeal.Value.v4_apply _ _ _ _ _ _ _).trans (if_pos rfl)).symm
  · exact ((Cert.PlaceOwnWInRefIdeal.Value.v4_apply _ _ _ b k r j).trans (if_neg hb)).symm

end Cert.PlaceOwnWInIdeal.Value

namespace Cert.PlaceOwnWInIdeal.Claim

open Idealize.ShloMosaic Idealize.ShloMosaic.TcCoe Idealize.SL.Sem

/-- The call computes what the reference computes. -/
theorem algebraic : Cert.algebraic_PlaceOwnWInIdeal_PlaceOwnWInRefIdeal (hPlaceOwnWInIdeal := Cert.PlaceOwnWInIdeal.Gen.facts) (hPlaceOwnWInRefIdeal := Cert.PlaceOwnWInRefIdeal.Gen.facts) (hPre_a_chip_w_in := Cert.Pre_a_chip_w_in.Gen.facts) := by
  intro m g m' g' pre h
  have hw := Cert.PlaceOwnWInIdeal.Table.word_lt m pre
  have hO := Cert.PlaceOwnWInIdeal.Table.ok_of_pre m pre
  refine ⟨fun c => Cert.PlaceOwnWInRefIdeal.Read.val_main_v4 (F := Ideal) (m (c.tc.loc Cert.PlaceOwnWInIdeal.main_arg0)) (m (c.tc.loc Cert.PlaceOwnWInIdeal.main_arg1)) (m (c.tc.loc Cert.PlaceOwnWInIdeal.main_arg2)), ?_, ?_⟩
  · refine (θ_run _ _ _).mono (fun r hr c => ⟨?_, hr.2 c⟩) (θ_run_and (Cert.PlaceOwnWInIdeal.Gen.run_main m g hO) (Cert.PlaceOwnWInIdeal.Gen.unchanged m g hO))
    exact ((hr.1 c).1 1).trans (Cert.PlaceOwnWInIdeal.Value.final m hO hw c)
  · refine (θ_run _ _ _).mono (fun r hr c => ⟨(hr c).1.trans ?_, (hr c).2⟩) (Cert.PlaceOwnWInRefIdeal.Value.run m' g')
    refine (Cert.PlaceOwnWInRefIdeal.Read.val_main_v4_eq _ _ _).trans ?_
    show Cert.PlaceOwnWInRefIdeal.Read.val_main_v4 (F := Ideal) (m' (c.tc.loc Cert.PlaceOwnWInRefIdeal.main_arg0)) (m' (c.tc.loc Cert.PlaceOwnWInRefIdeal.main_arg1)) (m' (c.tc.loc Cert.PlaceOwnWInRefIdeal.main_arg2)) = _
    rw [(h c).1, (h c).2.1, (h c).2.2]

end Cert.PlaceOwnWInIdeal.Claim

end
-- ==== Proof.ChipAddWUpValue.lean ====
module

public import proofs.«01_k».proof.Defs
public import proofs.«01_k».proof.Proof.Gen.Pre_a_place_w_up
public import proofs.«01_k».proof.Proof.Gen.ChipAddWUp.Frame
public import proofs.«01_k».proof.Proof.Gen.ChipAddWUpIdeal.Frame
public import proofs.«01_k».proof.Proof.Gen.ChipAddWUpRefIdeal.Run
public import proofs.«01_k».proof.Proof.Gen.ChipAddWUpRefIdeal.Read
public import Idealize.ShloMosaic.Lib.Pipeline.ValueKit
public import Idealize.ShloMosaic.Lib.Pipeline.Value
public import Idealize.ShloMosaic.Lib.Pointwise

@[expose] public section

set_option maxRecDepth 16384

/-! The chip's own block of a gradient's sums plus what the three other chips gave of it. -/

noncomputable section

namespace Cert.ChipAddWUp.Table

open Cert.ChipAddWUp Cert.ChipAddWUp.Gen Idealize.ShloMosaic Idealize.ShloMosaic.TcCoe

variable (m : (ℓ : Loc nD τ sig) → Buf (Elt Bits) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWUp (hPre_a_place_w_up := Cert.Pre_a_place_w_up.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_up.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x256x1408.size a ≤ S4x512x1408.size a := by
      rw [chip_index]
      intro a
      match a with
      | ⟨0, _⟩ => show ((chip m).toNat + 1) * 1 ≤ 4; omega
      | ⟨1, _⟩ => show ((i 0).val + 1) * 256 ≤ 512; omega
      | ⟨2, _⟩ => show (0 + 1) * 1408 ≤ 1408; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x256x1408.size a ≤ S2x512x1408.size a := by
      rw [core_index]
      intro a
      match a with
      | ⟨0, _⟩ => show ((core m).toNat + 1) * 1 ≤ 2; omega
      | ⟨1, _⟩ => show ((i 0).val + 1) * 256 ≤ 512; omega
      | ⟨2, _⟩ => show (0 + 1) * 1408 ≤ 1408; omega
    exact ⟨b, .inl rfl⟩

theorem ok_of_pre (h : Cert.Pre_ChipAddWUp (hPre_a_place_w_up := Cert.Pre_a_place_w_up.Gen.facts) m) : Ok m := ok_of_range m (in_range m h)

end Cert.ChipAddWUp.Table

namespace Cert.ChipAddWUpIdeal.Table

open Cert.ChipAddWUpIdeal Cert.ChipAddWUpIdeal.Gen Idealize.ShloMosaic Idealize.ShloMosaic.TcCoe

variable (m : (ℓ : Loc nD τ sig) → Buf (Elt Ideal) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWUpIdeal (hPre_a_place_w_up := Cert.Pre_a_place_w_up.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_up.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x256x1408.size a ≤ S4x512x1408.size a := by
      rw [chip_index]
      intro a
      match a with
      | ⟨0, _⟩ => show ((chip m).toNat + 1) * 1 ≤ 4; omega
      | ⟨1, _⟩ => show ((i 0).val + 1) * 256 ≤ 512; omega
      | ⟨2, _⟩ => show (0 + 1) * 1408 ≤ 1408; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x256x1408.size a ≤ S2x512x1408.size a := by
      rw [core_index]
      intro a
      match a with
      | ⟨0, _⟩ => show ((core m).toNat + 1) * 1 ≤ 2; omega
      | ⟨1, _⟩ => show ((i 0).val + 1) * 256 ≤ 512; omega
      | ⟨2, _⟩ => show (0 + 1) * 1408 ≤ 1408; omega
    exact ⟨b, .inl rfl⟩

theorem ok_of_pre (h : Cert.Pre_ChipAddWUpIdeal (hPre_a_place_w_up := Cert.Pre_a_place_w_up.Gen.facts) m) : Ok m := ok_of_range m (in_range m h)

end Cert.ChipAddWUpIdeal.Table

namespace Cert.ChipAddWUpRefIdeal.Value

open Cert.ChipAddWUpRefIdeal Cert.ChipAddWUpRefIdeal.Gen Cert.ChipAddWUpRefIdeal.Read Idealize.ShloMosaic Idealize.ShloMosaic.TcCoe

variable (n : IVec S_ 32) (x : FVec Ideal S4x512x1408 .bf16) (y : FVec Ideal S3x512x1408 .bf16)

theorem own_apply (i : Fin 512) (j : Fin 1408) (b : Fin 4) (h : b.val = (n (fun a => a.elim0)).toNat) :
    val_main_v13 (F := Ideal) n x (ix2 i j) = x (ix3 b i j) := by
  have e3 : val_main_v3 (F := Ideal) x (ix2 i j) = x (ix3 0 i j) := by pointwise [val_main_v3, val_main_v2]
  have e5 : val_main_v5 (F := Ideal) x (ix2 i j) = x (ix3 1 i j) := by pointwise [val_main_v5, val_main_v4]
  have e9 : val_main_v9 (F := Ideal) x (ix2 i j) = x (ix3 2 i j) := by pointwise [val_main_v9, val_main_v8]
  have e11 : val_main_v11 (F := Ideal) x (ix2 i j) = x (ix3 3 i j) := by pointwise [val_main_v11, val_main_v10]
  have c0 : broadcastInDim S512x1408 ![] bcast_S_S512x1408 (val_main_v0 (F := Ideal) n) (ix2 i j) = IntOp.cmpi .slt (n (fun a => a.elim0)) 2#32 :=
    congrArg (fun z => IntOp.cmpi .slt (n z) 2#32) (Subsingleton.elim (α := S_.Idx) _ (fun a => a.elim0))
  have c1 : broadcastInDim S512x1408 ![] bcast_S_S512x1408 (val_main_v1 (F := Ideal) n) (ix2 i j) = IntOp.cmpi .eq (n (fun a => a.elim0)) 0#32 :=
    congrArg (fun z => IntOp.cmpi .eq (n z) 0#32) (Subsingleton.elim (α := S_.Idx) _ (fun a => a.elim0))
  have c7 : broadcastInDim S512x1408 ![] bcast_S_S512x1408 (val_main_v7 (F := Ideal) n) (ix2 i j) = IntOp.cmpi .eq (n (fun a => a.elim0)) 2#32 :=
    congrArg (fun z => IntOp.cmpi .eq (n z) 2#32) (Subsingleton.elim (α := S_.Idx) _ (fun a => a.elim0))
  unfold val_main_v13 val_main_v6 val_main_v12
  show Scalar.select _ (Scalar.select _ _ _) (Scalar.select _ _ _) = _
  rw [c0, c1, c7, e3, e5, e9, e11]
  match b, h with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl
  | ⟨2, _⟩, h => rw [show n (fun a => a.elim0) = 2#32 from BitVec.eq_of_toNat_eq h.symm]; rfl
  | ⟨3, _⟩, h => rw [show n (fun a => a.elim0) = 3#32 from BitVec.eq_of_toNat_eq h.symm]; rfl

theorem v26_apply (i : Fin 512) (j : Fin 1408) (b : Fin 4) (h : b.val = (n (fun a => a.elim0)).toNat) :
    val_main_v26 (F := Ideal) n x y (ix2 i j) = ((x (ix3 b i j) + y (ix3 0 i j)) + y (ix3 1 i j)) + y (ix3 2 i j) := by
  have e16 : val_main_v16 (F := Ideal) y (ix2 i j) = y (ix3 0 i j) := by pointwise [val_main_v16, val_main_v15]
  have e20 : val_main_v20 (F := Ideal) y (ix2 i j) = y (ix3 1 i j) := by pointwise [val_main_v20, val_main_v19]
  have e24 : val_main_v24 (F := Ideal) y (ix2 i j) = y (ix3 2 i j) := by pointwise [val_main_v24, val_main_v23]
  show ((val_main_v13 (F := Ideal) n x (ix2 i j) + val_main_v16 (F := Ideal) y (ix2 i j)) + val_main_v20 (F := Ideal) y (ix2 i j)) + val_main_v24 (F := Ideal) y (ix2 i j) = _
  rw [own_apply n x i j b h, e16, e20, e24]

end Cert.ChipAddWUpRefIdeal.Value

namespace Cert.ChipAddWUpIdeal.Value

open Cert.ChipAddWUpIdeal Cert.ChipAddWUpIdeal.Gen Cert.ChipAddWUpIdeal.Table Idealize.ShloMosaic Idealize.ShloMosaic.TcCoe
open Idealize.ShloMosaic.Pipeline (Dat)

variable (m : (ℓ : Loc nD τ sig) → Buf (Elt Ideal) ℓ)

/-- The grid's points: a block of the rows. -/
theorem coords : ∀ t : Fin grid0.N, (grid0.coords t 0).val = t.val := by decide +kernel

/-- Where the window of what the others gave stands. -/
theorem idx : ∀ t : Fin grid0.N, cc0_transform_1 (grid0.coords t) = ![0, t.val, 0] := by decide +kernel

/-- Every point writes its block back. -/
theorem flush (hO : Ok m) (t : Fin (cfgM m hO).N) : ((cfgM m hO).win 2).flush t = true :=
  (Pipeline.Window.flushOf_reads (G := grid0) (cc0_transform_2 inb_S2_S1_1 numel1_S1 (tbl m)) reads0_2 (hreads0_2 (tbl m)) 0 (by decide) (by decide)
    (Pipeline.Window.sep_of_coord (cc0_transform_2 inb_S2_S1_1 numel1_S1 (tbl m)) 0 1 (fun _ => rfl) (by decide)) (P := 1) (m := 0) (by decide) rfl t).mpr (Nat.mod_one _)

/-- The block of the chip's sums at a point. -/
theorem blk0 (hO : Ok m) (c : Dev nD) (t : Fin (cfgM m hO).N) (k : Fin 4) (hk : k.val = (chip m).toNat) (r : Fin 256) (j : Fin 1408) :
    iblk m hO c 0 t (ix3 0 r j) = m ((c : Thread nD τ).loc main_arg2) (ix3 k (⟨t.val * 256 + r.val, by have : t.val < 2 := t.isLt; omega⟩ : Fin 512) j) := by
  have e := chip_index m (grid0.coords t)
  have q := coords t
  show V m c main_arg2 _ = _
  rw [V_main_arg2]
  congr 1
  funext a
  apply Fin.ext
  show cc0_transform_0 inb_S2_S1_0 numel1_S1 (tbl m) (grid0.coords t) a * S1x256x1408.size a + 1 * (ix3 (0 : Fin 1) r j a).val = _
  rw [e, q, ← hk]
  match a with
  | ⟨0, _⟩ => show k.val * 1 + 1 * 0 = k.val; omega
  | ⟨1, _⟩ => show t.val * 256 + 1 * r.val = t.val * 256 + r.val; omega
  | ⟨2, _⟩ => show 0 * 1408 + 1 * j.val = j.val; omega

/-- The block of what the others gave. -/
theorem blk1 (hO : Ok m) (c : Dev nD) (t : Fin (cfgM m hO).N) (b : Fin 3) (r : Fin 256) (j : Fin 1408) :
    iblk m hO c 1 t (ix3 b r j) = m ((c : Thread nD τ).loc main_arg3) (ix3 b (⟨t.val * 256 + r.val, by have : t.val < 2 := t.isLt; omega⟩ : Fin 512) j) := by
  have e := idx t
  show V m c main_arg3 _ = _
  rw [V_main_arg3]
  congr 1
  funext a
  apply Fin.ext
  show cc0_transform_1 (grid0.coords t) a * S3x256x1408.size a + 1 * (ix3 b r j a).val = _
  rw [e]
  match a with
  | ⟨0, _⟩ => show 0 * 3 + 1 * b.val = b.val; omega
  | ⟨1, _⟩ => show t.val * 256 + 1 * r.val = t.val * 256 + r.val; omega
  | ⟨2, _⟩ => show 0 * 1408 + 1 * j.val = j.val; omega

theorem split_blk (y : S1x256x1408.Idx) : ∃ (r : Fin 256) (j : Fin 1408), y = ix3 (0 : Fin 1) r j :=
  ⟨y 1, y 2, by funext a; match a with | ⟨0, _⟩ => exact Subsingleton.elim (α := Fin 1) _ _ | ⟨1, _⟩ => rfl | ⟨2, _⟩ => rfl⟩

theorem split_half (y : S512x1408.Idx) : ∃ (r : Fin 512) (j : Fin 1408), y = ix2 r j :=
  ⟨y 0, y 1, by funext a; match a with | ⟨0, _⟩ => rfl | ⟨1, _⟩ => rfl⟩

/-- The core's half of the array is what its blocks are. -/
theorem of_blocks (hO : Ok m) (c : Dev nD) (k : Fin 2) (hk : k.val = (core m).toNat) (G : S512x1408.Idx → EReal)
    (hG : ∀ (t : Fin (cfgM m hO).N) (r : Fin 256) (j : Fin 1408), outsAt0 m hO c t (ix3 0 r j) = G (ix2 (⟨t.val * 256 + r.val, by have : t.val < 2 := t.isLt; omega⟩ : Fin 512) j))
    (r : Fin 512) (j : Fin 1408) : (dats m hO 0 c).arrAt 2 (cfgM m hO).N (ix3 k r j : S2x512x1408.Idx) = G (ix2 r j) := by
  refine ((dats m hO 0 c).arrAt_eq_piecewise 2 (fun i : S2x512x1408.Idx => G (ix2 (i 1 : Fin 512) (i 2 : Fin 1408))) (fun t hf => ?_) (ix3 k r j : S2x512x1408.Idx)).trans (if_pos ?_)
  · funext y
    obtain ⟨r, j, rfl⟩ := split_blk y
    have hlt : t.val < 2 := t.isLt
    have e := core_index m (grid0.coords t)
    have q := coords t
    have p : (((cfgM m hO).win 2).blk t).view.emb (ix3 (0 : Fin 1) r j : S1x256x1408.Idx) = (ix3 k (⟨t.val * 256 + r.val, by omega⟩ : Fin 512) j : S2x512x1408.Idx) := by
      funext a
      apply Fin.ext
      show cc0_transform_2 inb_S2_S1_1 numel1_S1 (tbl m) (grid0.coords t) a * S1x256x1408.size a + 1 * (ix3 (0 : Fin 1) r j a).val = _
      rw [e, q, ← hk]
      match a with
      | ⟨0, _⟩ => show k.val * 1 + 1 * 0 = k.val; omega
      | ⟨1, _⟩ => show t.val * 256 + 1 * r.val = t.val * 256 + r.val; omega
      | ⟨2, _⟩ => show 0 * 1408 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = (fun i : S2x512x1408.Idx => G (ix2 (i 1 : Fin 512) (i 2 : Fin 1408))) ((((cfgM m hO).win 2).blk t).view.emb (ix3 (0 : Fin 1) r j : S1x256x1408.Idx))
    rw [p]
    exact hG t r j
  · let t : Fin (cfgM m hO).N := (⟨r.val / 256, by show _ < 2; omega⟩ : Fin 2)
    refine ⟨t, flush m hO t, ?_⟩
    have e := core_index m (grid0.coords t)
    have q := coords t
    refine (Pipeline.Window.emb_mem_blk_iff ((cfgM m hO).win 2) t (ix3 k r j)).mpr fun a => ?_
    show cc0_transform_2 inb_S2_S1_1 numel1_S1 (tbl m) (grid0.coords t) a * S1x256x1408.size a ≤ (ix3 k r j a).val ∧ (ix3 k r j a).val < cc0_transform_2 inb_S2_S1_1 numel1_S1 (tbl m) (grid0.coords t) a * S1x256x1408.size a + S1x256x1408.size a
    rw [e, q, ← hk]
    match a with
    | ⟨0, _⟩ => show k.val * 1 ≤ k.val ∧ k.val < k.val * 1 + 1; omega
    | ⟨1, _⟩ => show r.val / 256 * 256 ≤ r.val ∧ r.val < r.val / 256 * 256 + 256; omega
    | ⟨2, _⟩ => show 0 * 1408 ≤ j.val ∧ j.val < 0 * 1408 + 1408; omega

theorem block (hO : Ok m) (c : Dev nD) (t : Fin (cfgM m hO).N) (r : Fin 256) (j : Fin 1408) (u v0 v1 v2 : EReal)
    (hu : iblk m hO c 0 t (ix3 0 r j) = u) (h0 : iblk m hO c 1 t (ix3 0 r j) = v0) (h1 : iblk m hO c 1 t (ix3 1 r j) = v1) (h2 : iblk m hO c 1 t (ix3 2 r j) = v2) :
    outsAt0 m hO c t (ix3 0 r j) = ((u + v0) + v1) + v2 := by
  unfold outsAt0; frame_out
  pointwise [k0_pay1]
  have p : ∀ {a b a' b' : EReal}, a = a' → b = b' → a + b = a' + b' := fun h h' => congrArg₂ (fun a b : EReal => a + b) h h'
  exact p (p (p ((congrFun ((hs0_0 m hO t).read_unread _) _).trans hu) ((congrFun ((hs0_1 m hO t).read_unread _) _).trans h0))
    ((congrFun ((hs0_1 m hO t).read_unread _) _).trans h1)) ((congrFun ((hs0_1 m hO t).read_unread _) _).trans h2)

/-- What the lines behind the call make of its result: the half that the core's number names. -/
theorem tail (W : Valuation τ sig (Elt Ideal)) (A : FVec Ideal S2x512x1408 .f32) (n : IVec S_ 32)
    (hA : W (Proc.devRef .tc main_v3) = A) (hn : W (Proc.devRef .tc main_arg1) = n) :
    StableHlo.after (List.flatten [hostOps1, hostOps1_1]) W (Proc.devRef .tc main_v9)
      = (select (broadcastInDim S512x1408 ![] bcast_S_S512x1408 (cmpi .eq n (constantI S_ 32 0#32)))
          (shapeCast S512x1408 (extractStridedSlice S1x512x1408 ![0, 0, 0] A slices_S2x512x1408_S1x512x1408_0_0_0) shapeCasts_S1x512x1408_S512x1408)
          (shapeCast S512x1408 (extractStridedSlice S1x512x1408 ![1, 0, 0] A slices_S2x512x1408_S1x512x1408_1_0_0) shapeCasts_S1x512x1408_S512x1408) : FVec Ideal S512x1408 .f32) := by
  subst hA hn
  simp only [hostOps1, hostOps1_1, List.flatten_cons, List.flatten_nil, List.append_nil, List.cons_append, List.nil_append, StableHlo.after]
  rfl

theorem half_apply (A : FVec Ideal S2x512x1408 .f32) (n : IVec S_ 32) (k : Fin 2) (hk : k.val = (n (fun a => a.elim0)).toNat) (r : Fin 512) (j : Fin 1408) :
    (select (broadcastInDim S512x1408 ![] bcast_S_S512x1408 (cmpi .eq n (constantI S_ 32 0#32)))
          (shapeCast S512x1408 (extractStridedSlice S1x512x1408 ![0, 0, 0] A slices_S2x512x1408_S1x512x1408_0_0_0) shapeCasts_S1x512x1408_S512x1408)
          (shapeCast S512x1408 (extractStridedSlice S1x512x1408 ![1, 0, 0] A slices_S2x512x1408_S1x512x1408_1_0_0) shapeCasts_S1x512x1408_S512x1408) : FVec Ideal S512x1408 .f32) (ix2 r j)
      = A (ix3 k r j) := by
  have e0 : (shapeCast S512x1408 (extractStridedSlice S1x512x1408 ![0, 0, 0] A slices_S2x512x1408_S1x512x1408_0_0_0) shapeCasts_S1x512x1408_S512x1408 : FVec Ideal S512x1408 .f32) (ix2 r j) = A (ix3 0 r j) := by pointwise []
  have e1 : (shapeCast S512x1408 (extractStridedSlice S1x512x1408 ![1, 0, 0] A slices_S2x512x1408_S1x512x1408_1_0_0) shapeCasts_S1x512x1408_S512x1408 : FVec Ideal S512x1408 .f32) (ix2 r j) = A (ix3 1 r j) := by pointwise []
  have c : broadcastInDim S512x1408 ![] bcast_S_S512x1408 (cmpi .eq n (constantI S_ 32 0#32)) (ix2 r j) = IntOp.cmpi .eq (n (fun a => a.elim0)) 0#32 :=
    congrArg (fun z => IntOp.cmpi .eq (n z) 0#32) (Subsingleton.elim (α := S_.Idx) _ (fun a => a.elim0))
  show Scalar.select _ _ _ = _
  rw [c, e0, e1]
  match k, hk with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl

/-- The half is the reference's result. -/
theorem final (hO : Ok m) (hc : (chip m).toNat < 4) (hw : (core m).toNat < 2) (c : Dev nD) :
    Pipeline.afterTail pcfgs (fun _ => adm m hO) (dats m hO) 0 (V0 m) [hostOps1, hostOps1_1] c main_v9
    = Cert.ChipAddWUpRefIdeal.Read.val_main_v26 (F := Ideal) (m ((c : Thread nD τ).loc main_arg0)) (m ((c : Thread nD τ).loc main_arg2)) (m ((c : Thread nD τ).loc main_arg3)) := by
  obtain rfl : c = 0 := Subsingleton.elim _ _
  unfold Pipeline.afterTail
  refine (tail _ ((dats m hO 0 0).arrAt 2 (cfgM m hO).N) (m (((0 : Dev nD) : Thread nD τ).loc main_arg1))
    (Pipeline.withArrays_arr spec0 (by decide) 0 (V0 m 0) _ 2)
    ((Pipeline.withArrays_of_ne spec0 0 (V0 m 0) _ main_arg1 (by exact (by decide : ∀ w, Pipeline.arrRef spec0 w ≠ main_arg1))).trans (V_main_arg1 m 0))).trans ?_
  funext y
  obtain ⟨r, j, rfl⟩ := split_half y
  refine (half_apply _ _ ⟨(core m).toNat, hw⟩ rfl r j).trans ?_
  refine of_blocks m hO 0 ⟨(core m).toNat, hw⟩ rfl _ (fun t r j => ?_) r j
  exact (block m hO 0 t r j _ _ _ _ (blk0 m hO 0 t ⟨(chip m).toNat, hc⟩ rfl r j) (blk1 m hO 0 t 0 r j) (blk1 m hO 0 t 1 r j) (blk1 m hO 0 t 2 r j)).trans
    (Cert.ChipAddWUpRefIdeal.Value.v26_apply _ _ _ _ _ ⟨(chip m).toNat, hc⟩ rfl).symm

end Cert.ChipAddWUpIdeal.Value

namespace Cert.ChipAddWUpIdeal.Claim

open Idealize.ShloMosaic Idealize.ShloMosaic.TcCoe Idealize.SL.Sem

/-- The call computes what the reference computes. -/
theorem algebraic : Cert.algebraic_ChipAddWUpIdeal_ChipAddWUpRefIdeal (hChipAddWUpIdeal := Cert.ChipAddWUpIdeal.Gen.facts) (hChipAddWUpRefIdeal := Cert.ChipAddWUpRefIdeal.Gen.facts) (hPre_a_place_w_up := Cert.Pre_a_place_w_up.Gen.facts) := by
  intro m g m' g' pre h
  have hw := Cert.ChipAddWUpIdeal.Table.in_range m pre
  have hO := Cert.ChipAddWUpIdeal.Table.ok_of_pre m pre
  refine ⟨fun c => Cert.ChipAddWUpRefIdeal.Read.val_main_v26 (F := Ideal) (m (c.tc.loc Cert.ChipAddWUpIdeal.main_arg0)) (m (c.tc.loc Cert.ChipAddWUpIdeal.main_arg2)) (m (c.tc.loc Cert.ChipAddWUpIdeal.main_arg3)), ?_, ?_⟩
  · refine (θ_run _ _ _).mono (fun r hr c => ⟨?_, hr.2 c⟩) (θ_run_and (Cert.ChipAddWUpIdeal.Gen.run_main m g hO) (Cert.ChipAddWUpIdeal.Gen.unchanged m g hO))
    exact ((hr.1 c).2 Cert.ChipAddWUpIdeal.main_v9 (by decide : Cert.ChipAddWUpIdeal.main_v9 ∈ Pipeline.restRefs Cert.ChipAddWUpIdeal.sig Cert.ChipAddWUpIdeal.spec0)).trans (Cert.ChipAddWUpIdeal.Value.final m hO hw.1 hw.2 c)
  · refine (θ_run _ _ _).mono (fun r hr c => ⟨(hr c).1.trans ?_, (hr c).2⟩) (Cert.ChipAddWUpRefIdeal.Value.run m' g')
    refine (Cert.ChipAddWUpRefIdeal.Read.val_main_v26_eq _ _ _).trans ?_
    show Cert.ChipAddWUpRefIdeal.Read.val_main_v26 (F := Ideal) (m' (c.tc.loc Cert.ChipAddWUpRefIdeal.main_arg0)) (m' (c.tc.loc Cert.ChipAddWUpRefIdeal.main_arg2)) (m' (c.tc.loc Cert.ChipAddWUpRefIdeal.main_arg3)) = _
    rw [(h c).1, (h c).2.2.1, (h c).2.2.2]

end Cert.ChipAddWUpIdeal.Claim

end
-- ==== Proof.ChipAddWDownValue.lean ====
module

public import proofs.«01_k».proof.Defs
public import proofs.«01_k».proof.Proof.Gen.Pre_a_place_w_down
public import proofs.«01_k».proof.Proof.Gen.ChipAddWDown.Frame
public import proofs.«01_k».proof.Proof.Gen.ChipAddWDownIdeal.Frame
public import proofs.«01_k».proof.Proof.Gen.ChipAddWDownRefIdeal.Run
public import proofs.«01_k».proof.Proof.Gen.ChipAddWDownRefIdeal.Read
public import Idealize.ShloMosaic.Lib.Pipeline.ValueKit
public import Idealize.ShloMosaic.Lib.Pipeline.Value
public import Idealize.ShloMosaic.Lib.Pointwise

@[expose] public section

set_option maxRecDepth 16384

/-! The chip's own block of a gradient's sums plus what the three other chips gave of it. -/

noncomputable section

namespace Cert.ChipAddWDown.Table

open Cert.ChipAddWDown Cert.ChipAddWDown.Gen Idealize.ShloMosaic Idealize.ShloMosaic.TcCoe

variable (m : (ℓ : Loc nD τ sig) → Buf (Elt Bits) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWDown (hPre_a_place_w_down := Cert.Pre_a_place_w_down.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_down.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x176x1024.size a ≤ S4x352x1024.size a := by
      rw [chip_index]
      intro a
      match a with
      | ⟨0, _⟩ => show ((chip m).toNat + 1) * 1 ≤ 4; omega
      | ⟨1, _⟩ => show ((i 0).val + 1) * 176 ≤ 352; omega
      | ⟨2, _⟩ => show (0 + 1) * 1024 ≤ 1024; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x176x1024.size a ≤ S2x352x1024.size a := by
      rw [core_index]
      intro a
      match a with
      | ⟨0, _⟩ => show ((core m).toNat + 1) * 1 ≤ 2; omega
      | ⟨1, _⟩ => show ((i 0).val + 1) * 176 ≤ 352; omega
      | ⟨2, _⟩ => show (0 + 1) * 1024 ≤ 1024; omega
    exact ⟨b, .inl rfl⟩

theorem ok_of_pre (h : Cert.Pre_ChipAddWDown (hPre_a_place_w_down := Cert.Pre_a_place_w_down.Gen.facts) m) : Ok m := ok_of_range m (in_range m h)

end Cert.ChipAddWDown.Table

namespace Cert.ChipAddWDownIdeal.Table

open Cert.ChipAddWDownIdeal Cert.ChipAddWDownIdeal.Gen Idealize.ShloMosaic Idealize.ShloMosaic.TcCoe

variable (m : (ℓ : Loc nD τ sig) → Buf (Elt Ideal) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWDownIdeal (hPre_a_place_w_down := Cert.Pre_a_place_w_down.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_down.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x176x1024.size a ≤ S4x352x1024.size a := by
      rw [chip_index]
      intro a
      match a with
      | ⟨0, _⟩ => show ((chip m).toNat + 1) * 1 ≤ 4; omega
      | ⟨1, _⟩ => show ((i 0).val + 1) * 176 ≤ 352; omega
      | ⟨2, _⟩ => show (0 + 1) * 1024 ≤ 1024; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x176x1024.size a ≤ S2x352x1024.size a := by
      rw [core_index]
      intro a
      match a with
      | ⟨0, _⟩ => show ((core m).toNat + 1) * 1 ≤ 2; omega
      | ⟨1, _⟩ => show ((i 0).val + 1) * 176 ≤ 352; omega
      | ⟨2, _⟩ => show (0 + 1) * 1024 ≤ 1024; omega
    exact ⟨b, .inl rfl⟩

theorem ok_of_pre (h : Cert.Pre_ChipAddWDownIdeal (hPre_a_place_w_down := Cert.Pre_a_place_w_down.Gen.facts) m) : Ok m := ok_of_range m (in_range m h)

end Cert.ChipAddWDownIdeal.Table

namespace Cert.ChipAddWDownRefIdeal.Value

open Cert.ChipAddWDownRefIdeal Cert.ChipAddWDownRefIdeal.Gen Cert.ChipAddWDownRefIdeal.Read Idealize.ShloMosaic Idealize.ShloMosaic.TcCoe

variable (n : IVec S_ 32) (x : FVec Ideal S4x352x1024 .bf16) (y : FVec Ideal S3x352x1024 .bf16)

theorem own_apply (i : Fin 352) (j : Fin 1024) (b : Fin 4) (h : b.val = (n (fun a => a.elim0)).toNat) :
    val_main_v13 (F := Ideal) n x (ix2 i j) = x (ix3 b i j) := by
  have e3 : val_main_v3 (F := Ideal) x (ix2 i j) = x (ix3 0 i j) := by pointwise [val_main_v3, val_main_v2]
  have e5 : val_main_v5 (F := Ideal) x (ix2 i j) = x (ix3 1 i j) := by pointwise [val_main_v5, val_main_v4]
  have e9 : val_main_v9 (F := Ideal) x (ix2 i j) = x (ix3 2 i j) := by pointwise [val_main_v9, val_main_v8]
  have e11 : val_main_v11 (F := Ideal) x (ix2 i j) = x (ix3 3 i j) := by pointwise [val_main_v11, val_main_v10]
  have c0 : broadcastInDim S352x1024 ![] bcast_S_S352x1024 (val_main_v0 (F := Ideal) n) (ix2 i j) = IntOp.cmpi .slt (n (fun a => a.elim0)) 2#32 :=
    congrArg (fun z => IntOp.cmpi .slt (n z) 2#32) (Subsingleton.elim (α := S_.Idx) _ (fun a => a.elim0))
  have c1 : broadcastInDim S352x1024 ![] bcast_S_S352x1024 (val_main_v1 (F := Ideal) n) (ix2 i j) = IntOp.cmpi .eq (n (fun a => a.elim0)) 0#32 :=
    congrArg (fun z => IntOp.cmpi .eq (n z) 0#32) (Subsingleton.elim (α := S_.Idx) _ (fun a => a.elim0))
  have c7 : broadcastInDim S352x1024 ![] bcast_S_S352x1024 (val_main_v7 (F := Ideal) n) (ix2 i j) = IntOp.cmpi .eq (n (fun a => a.elim0)) 2#32 :=
    congrArg (fun z => IntOp.cmpi .eq (n z) 2#32) (Subsingleton.elim (α := S_.Idx) _ (fun a => a.elim0))
  unfold val_main_v13 val_main_v6 val_main_v12
  show Scalar.select _ (Scalar.select _ _ _) (Scalar.select _ _ _) = _
  rw [c0, c1, c7, e3, e5, e9, e11]
  match b, h with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl
  | ⟨2, _⟩, h => rw [show n (fun a => a.elim0) = 2#32 from BitVec.eq_of_toNat_eq h.symm]; rfl
  | ⟨3, _⟩, h => rw [show n (fun a => a.elim0) = 3#32 from BitVec.eq_of_toNat_eq h.symm]; rfl

theorem v26_apply (i : Fin 352) (j : Fin 1024) (b : Fin 4) (h : b.val = (n (fun a => a.elim0)).toNat) :
    val_main_v26 (F := Ideal) n x y (ix2 i j) = ((x (ix3 b i j) + y (ix3 0 i j)) + y (ix3 1 i j)) + y (ix3 2 i j) := by
  have e16 : val_main_v16 (F := Ideal) y (ix2 i j) = y (ix3 0 i j) := by pointwise [val_main_v16, val_main_v15]
  have e20 : val_main_v20 (F := Ideal) y (ix2 i j) = y (ix3 1 i j) := by pointwise [val_main_v20, val_main_v19]
  have e24 : val_main_v24 (F := Ideal) y (ix2 i j) = y (ix3 2 i j) := by pointwise [val_main_v24, val_main_v23]
  show ((val_main_v13 (F := Ideal) n x (ix2 i j) + val_main_v16 (F := Ideal) y (ix2 i j)) + val_main_v20 (F := Ideal) y (ix2 i j)) + val_main_v24 (F := Ideal) y (ix2 i j) = _
  rw [own_apply n x i j b h, e16, e20, e24]

end Cert.ChipAddWDownRefIdeal.Value

namespace Cert.ChipAddWDownIdeal.Value

open Cert.ChipAddWDownIdeal Cert.ChipAddWDownIdeal.Gen Cert.ChipAddWDownIdeal.Table Idealize.ShloMosaic Idealize.ShloMosaic.TcCoe
open Idealize.ShloMosaic.Pipeline (Dat)

variable (m : (ℓ : Loc nD τ sig) → Buf (Elt Ideal) ℓ)

/-- The grid's points: a block of the rows. -/
theorem coords : ∀ t : Fin grid0.N, (grid0.coords t 0).val = t.val := by decide +kernel

/-- Where the window of what the others gave stands. -/
theorem idx : ∀ t : Fin grid0.N, cc0_transform_1 (grid0.coords t) = ![0, t.val, 0] := by decide +kernel

/-- Every point writes its block back. -/
theorem flush (hO : Ok m) (t : Fin (cfgM m hO).N) : ((cfgM m hO).win 2).flush t = true :=
  (Pipeline.Window.flushOf_reads (G := grid0) (cc0_transform_2 inb_S2_S1_1 numel1_S1 (tbl m)) reads0_2 (hreads0_2 (tbl m)) 0 (by decide) (by decide)
    (Pipeline.Window.sep_of_coord (cc0_transform_2 inb_S2_S1_1 numel1_S1 (tbl m)) 0 1 (fun _ => rfl) (by decide)) (P := 1) (m := 0) (by decide) rfl t).mpr (Nat.mod_one _)

/-- The block of the chip's sums at a point. -/
theorem blk0 (hO : Ok m) (c : Dev nD) (t : Fin (cfgM m hO).N) (k : Fin 4) (hk : k.val = (chip m).toNat) (r : Fin 176) (j : Fin 1024) :
    iblk m hO c 0 t (ix3 0 r j) = m ((c : Thread nD τ).loc main_arg2) (ix3 k (⟨t.val * 176 + r.val, by have : t.val < 2 := t.isLt; omega⟩ : Fin 352) j) := by
  have e := chip_index m (grid0.coords t)
  have q := coords t
  show V m c main_arg2 _ = _
  rw [V_main_arg2]
  congr 1
  funext a
  apply Fin.ext
  show cc0_transform_0 inb_S2_S1_0 numel1_S1 (tbl m) (grid0.coords t) a * S1x176x1024.size a + 1 * (ix3 (0 : Fin 1) r j a).val = _
  rw [e, q, ← hk]
  match a with
  | ⟨0, _⟩ => show k.val * 1 + 1 * 0 = k.val; omega
  | ⟨1, _⟩ => show t.val * 176 + 1 * r.val = t.val * 176 + r.val; omega
  | ⟨2, _⟩ => show 0 * 1024 + 1 * j.val = j.val; omega

/-- The block of what the others gave. -/
theorem blk1 (hO : Ok m) (c : Dev nD) (t : Fin (cfgM m hO).N) (b : Fin 3) (r : Fin 176) (j : Fin 1024) :
    iblk m hO c 1 t (ix3 b r j) = m ((c : Thread nD τ).loc main_arg3) (ix3 b (⟨t.val * 176 + r.val, by have : t.val < 2 := t.isLt; omega⟩ : Fin 352) j) := by
  have e := idx t
  show V m c main_arg3 _ = _
  rw [V_main_arg3]
  congr 1
  funext a
  apply Fin.ext
  show cc0_transform_1 (grid0.coords t) a * S3x176x1024.size a + 1 * (ix3 b r j a).val = _
  rw [e]
  match a with
  | ⟨0, _⟩ => show 0 * 3 + 1 * b.val = b.val; omega
  | ⟨1, _⟩ => show t.val * 176 + 1 * r.val = t.val * 176 + r.val; omega
  | ⟨2, _⟩ => show 0 * 1024 + 1 * j.val = j.val; omega

theorem split_blk (y : S1x176x1024.Idx) : ∃ (r : Fin 176) (j : Fin 1024), y = ix3 (0 : Fin 1) r j :=
  ⟨y 1, y 2, by funext a; match a with | ⟨0, _⟩ => exact Subsingleton.elim (α := Fin 1) _ _ | ⟨1, _⟩ => rfl | ⟨2, _⟩ => rfl⟩

theorem split_half (y : S352x1024.Idx) : ∃ (r : Fin 352) (j : Fin 1024), y = ix2 r j :=
  ⟨y 0, y 1, by funext a; match a with | ⟨0, _⟩ => rfl | ⟨1, _⟩ => rfl⟩

/-- The core's half of the array is what its blocks are. -/
theorem of_blocks (hO : Ok m) (c : Dev nD) (k : Fin 2) (hk : k.val = (core m).toNat) (G : S352x1024.Idx → EReal)
    (hG : ∀ (t : Fin (cfgM m hO).N) (r : Fin 176) (j : Fin 1024), outsAt0 m hO c t (ix3 0 r j) = G (ix2 (⟨t.val * 176 + r.val, by have : t.val < 2 := t.isLt; omega⟩ : Fin 352) j))
    (r : Fin 352) (j : Fin 1024) : (dats m hO 0 c).arrAt 2 (cfgM m hO).N (ix3 k r j : S2x352x1024.Idx) = G (ix2 r j) := by
  refine ((dats m hO 0 c).arrAt_eq_piecewise 2 (fun i : S2x352x1024.Idx => G (ix2 (i 1 : Fin 352) (i 2 : Fin 1024))) (fun t hf => ?_) (ix3 k r j : S2x352x1024.Idx)).trans (if_pos ?_)
  · funext y
    obtain ⟨r, j, rfl⟩ := split_blk y
    have hlt : t.val < 2 := t.isLt
    have e := core_index m (grid0.coords t)
    have q := coords t
    have p : (((cfgM m hO).win 2).blk t).view.emb (ix3 (0 : Fin 1) r j : S1x176x1024.Idx) = (ix3 k (⟨t.val * 176 + r.val, by omega⟩ : Fin 352) j : S2x352x1024.Idx) := by
      funext a
      apply Fin.ext
      show cc0_transform_2 inb_S2_S1_1 numel1_S1 (tbl m) (grid0.coords t) a * S1x176x1024.size a + 1 * (ix3 (0 : Fin 1) r j a).val = _
      rw [e, q, ← hk]
      match a with
      | ⟨0, _⟩ => show k.val * 1 + 1 * 0 = k.val; omega
      | ⟨1, _⟩ => show t.val * 176 + 1 * r.val = t.val * 176 + r.val; omega
      | ⟨2, _⟩ => show 0 * 1024 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = (fun i : S2x352x1024.Idx => G (ix2 (i 1 : Fin 352) (i 2 : Fin 1024))) ((((cfgM m hO).win 2).blk t).view.emb (ix3 (0 : Fin 1) r j : S1x176x1024.Idx))
    rw [p]
    exact hG t r j
  · let t : Fin (cfgM m hO).N := (⟨r.val / 176, by show _ < 2; omega⟩ : Fin 2)
    refine ⟨t, flush m hO t, ?_⟩
    have e := core_index m (grid0.coords t)
    have q := coords t
    refine (Pipeline.Window.emb_mem_blk_iff ((cfgM m hO).win 2) t (ix3 k r j)).mpr fun a => ?_
    show cc0_transform_2 inb_S2_S1_1 numel1_S1 (tbl m) (grid0.coords t) a * S1x176x1024.size a ≤ (ix3 k r j a).val ∧ (ix3 k r j a).val < cc0_transform_2 inb_S2_S1_1 numel1_S1 (tbl m) (grid0.coords t) a * S1x176x1024.size a + S1x176x1024.size a
    rw [e, q, ← hk]
    match a with
    | ⟨0, _⟩ => show k.val * 1 ≤ k.val ∧ k.val < k.val * 1 + 1; omega
    | ⟨1, _⟩ => show r.val / 176 * 176 ≤ r.val ∧ r.val < r.val / 176 * 176 + 176; omega
    | ⟨2, _⟩ => show 0 * 1024 ≤ j.val ∧ j.val < 0 * 1024 + 1024; omega

theorem block (hO : Ok m) (c : Dev nD) (t : Fin (cfgM m hO).N) (r : Fin 176) (j : Fin 1024) (u v0 v1 v2 : EReal)
    (hu : iblk m hO c 0 t (ix3 0 r j) = u) (h0 : iblk m hO c 1 t (ix3 0 r j) = v0) (h1 : iblk m hO c 1 t (ix3 1 r j) = v1) (h2 : iblk m hO c 1 t (ix3 2 r j) = v2) :
    outsAt0 m hO c t (ix3 0 r j) = ((u + v0) + v1) + v2 := by
  unfold outsAt0; frame_out
  pointwise [k0_pay1]
  have p : ∀ {a b a' b' : EReal}, a = a' → b = b' → a + b = a' + b' := fun h h' => congrArg₂ (fun a b : EReal => a + b) h h'
  exact p (p (p ((congrFun ((hs0_0 m hO t).read_unread _) _).trans hu) ((congrFun ((hs0_1 m hO t).read_unread _) _).trans h0))
    ((congrFun ((hs0_1 m hO t).read_unread _) _).trans h1)) ((congrFun ((hs0_1 m hO t).read_unread _) _).trans h2)

/-- What the lines behind the call make of its result: the half that the core's number names. -/
theorem tail (W : Valuation τ sig (Elt Ideal)) (A : FVec Ideal S2x352x1024 .f32) (n : IVec S_ 32)
    (hA : W (Proc.devRef .tc main_v3) = A) (hn : W (Proc.devRef .tc main_arg1) = n) :
    StableHlo.after (List.flatten [hostOps1, hostOps1_1]) W (Proc.devRef .tc main_v9)
      = (select (broadcastInDim S352x1024 ![] bcast_S_S352x1024 (cmpi .eq n (constantI S_ 32 0#32)))
          (shapeCast S352x1024 (extractStridedSlice S1x352x1024 ![0, 0, 0] A slices_S2x352x1024_S1x352x1024_0_0_0) shapeCasts_S1x352x1024_S352x1024)
          (shapeCast S352x1024 (extractStridedSlice S1x352x1024 ![1, 0, 0] A slices_S2x352x1024_S1x352x1024_1_0_0) shapeCasts_S1x352x1024_S352x1024) : FVec Ideal S352x1024 .f32) := by
  subst hA hn
  simp only [hostOps1, hostOps1_1, List.flatten_cons, List.flatten_nil, List.append_nil, List.cons_append, List.nil_append, StableHlo.after]
  rfl

theorem half_apply (A : FVec Ideal S2x352x1024 .f32) (n : IVec S_ 32) (k : Fin 2) (hk : k.val = (n (fun a => a.elim0)).toNat) (r : Fin 352) (j : Fin 1024) :
    (select (broadcastInDim S352x1024 ![] bcast_S_S352x1024 (cmpi .eq n (constantI S_ 32 0#32)))
          (shapeCast S352x1024 (extractStridedSlice S1x352x1024 ![0, 0, 0] A slices_S2x352x1024_S1x352x1024_0_0_0) shapeCasts_S1x352x1024_S352x1024)
          (shapeCast S352x1024 (extractStridedSlice S1x352x1024 ![1, 0, 0] A slices_S2x352x1024_S1x352x1024_1_0_0) shapeCasts_S1x352x1024_S352x1024) : FVec Ideal S352x1024 .f32) (ix2 r j)
      = A (ix3 k r j) := by
  have e0 : (shapeCast S352x1024 (extractStridedSlice S1x352x1024 ![0, 0, 0] A slices_S2x352x1024_S1x352x1024_0_0_0) shapeCasts_S1x352x1024_S352x1024 : FVec Ideal S352x1024 .f32) (ix2 r j) = A (ix3 0 r j) := by pointwise []
  have e1 : (shapeCast S352x1024 (extractStridedSlice S1x352x1024 ![1, 0, 0] A slices_S2x352x1024_S1x352x1024_1_0_0) shapeCasts_S1x352x1024_S352x1024 : FVec Ideal S352x1024 .f32) (ix2 r j) = A (ix3 1 r j) := by pointwise []
  have c : broadcastInDim S352x1024 ![] bcast_S_S352x1024 (cmpi .eq n (constantI S_ 32 0#32)) (ix2 r j) = IntOp.cmpi .eq (n (fun a => a.elim0)) 0#32 :=
    congrArg (fun z => IntOp.cmpi .eq (n z) 0#32) (Subsingleton.elim (α := S_.Idx) _ (fun a => a.elim0))
  show Scalar.select _ _ _ = _
  rw [c, e0, e1]
  match k, hk with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl

/-- The half is the reference's result. -/
theorem final (hO : Ok m) (hc : (chip m).toNat < 4) (hw : (core m).toNat < 2) (c : Dev nD) :
    Pipeline.afterTail pcfgs (fun _ => adm m hO) (dats m hO) 0 (V0 m) [hostOps1, hostOps1_1] c main_v9
    = Cert.ChipAddWDownRefIdeal.Read.val_main_v26 (F := Ideal) (m ((c : Thread nD τ).loc main_arg0)) (m ((c : Thread nD τ).loc main_arg2)) (m ((c : Thread nD τ).loc main_arg3)) := by
  obtain rfl : c = 0 := Subsingleton.elim _ _
  unfold Pipeline.afterTail
  refine (tail _ ((dats m hO 0 0).arrAt 2 (cfgM m hO).N) (m (((0 : Dev nD) : Thread nD τ).loc main_arg1))
    (Pipeline.withArrays_arr spec0 (by decide) 0 (V0 m 0) _ 2)
    ((Pipeline.withArrays_of_ne spec0 0 (V0 m 0) _ main_arg1 (by exact (by decide : ∀ w, Pipeline.arrRef spec0 w ≠ main_arg1))).trans (V_main_arg1 m 0))).trans ?_
  funext y
  obtain ⟨r, j, rfl⟩ := split_half y
  refine (half_apply _ _ ⟨(core m).toNat, hw⟩ rfl r j).trans ?_
  refine of_blocks m hO 0 ⟨(core m).toNat, hw⟩ rfl _ (fun t r j => ?_) r j
  exact (block m hO 0 t r j _ _ _ _ (blk0 m hO 0 t ⟨(chip m).toNat, hc⟩ rfl r j) (blk1 m hO 0 t 0 r j) (blk1 m hO 0 t 1 r j) (blk1 m hO 0 t 2 r j)).trans
    (Cert.ChipAddWDownRefIdeal.Value.v26_apply _ _ _ _ _ ⟨(chip m).toNat, hc⟩ rfl).symm

end Cert.ChipAddWDownIdeal.Value

namespace Cert.ChipAddWDownIdeal.Claim

open Idealize.ShloMosaic Idealize.ShloMosaic.TcCoe Idealize.SL.Sem

/-- The call computes what the reference computes. -/
theorem algebraic : Cert.algebraic_ChipAddWDownIdeal_ChipAddWDownRefIdeal (hChipAddWDownIdeal := Cert.ChipAddWDownIdeal.Gen.facts) (hChipAddWDownRefIdeal := Cert.ChipAddWDownRefIdeal.Gen.facts) (hPre_a_place_w_down := Cert.Pre_a_place_w_down.Gen.facts) := by
  intro m g m' g' pre h
  have hw := Cert.ChipAddWDownIdeal.Table.in_range m pre
  have hO := Cert.ChipAddWDownIdeal.Table.ok_of_pre m pre
  refine ⟨fun c => Cert.ChipAddWDownRefIdeal.Read.val_main_v26 (F := Ideal) (m (c.tc.loc Cert.ChipAddWDownIdeal.main_arg0)) (m (c.tc.loc Cert.ChipAddWDownIdeal.main_arg2)) (m (c.tc.loc Cert.ChipAddWDownIdeal.main_arg3)), ?_, ?_⟩
  · refine (θ_run _ _ _).mono (fun r hr c => ⟨?_, hr.2 c⟩) (θ_run_and (Cert.ChipAddWDownIdeal.Gen.run_main m g hO) (Cert.ChipAddWDownIdeal.Gen.unchanged m g hO))
    exact ((hr.1 c).2 Cert.ChipAddWDownIdeal.main_v9 (by decide : Cert.ChipAddWDownIdeal.main_v9 ∈ Pipeline.restRefs Cert.ChipAddWDownIdeal.sig Cert.ChipAddWDownIdeal.spec0)).trans (Cert.ChipAddWDownIdeal.Value.final m hO hw.1 hw.2 c)
  · refine (θ_run _ _ _).mono (fun r hr c => ⟨(hr c).1.trans ?_, (hr c).2⟩) (Cert.ChipAddWDownRefIdeal.Value.run m' g')
    refine (Cert.ChipAddWDownRefIdeal.Read.val_main_v26_eq _ _ _).trans ?_
    show Cert.ChipAddWDownRefIdeal.Read.val_main_v26 (F := Ideal) (m' (c.tc.loc Cert.ChipAddWDownRefIdeal.main_arg0)) (m' (c.tc.loc Cert.ChipAddWDownRefIdeal.main_arg2)) (m' (c.tc.loc Cert.ChipAddWDownRefIdeal.main_arg3)) = _
    rw [(h c).1, (h c).2.2.1, (h c).2.2.2]

end Cert.ChipAddWDownIdeal.Claim

end
-- ==== Proof.ChipAddWOValue.lean ====
module

public import proofs.«01_k».proof.Defs
public import proofs.«01_k».proof.Proof.Gen.Pre_a_place_w_o
public import proofs.«01_k».proof.Proof.Gen.ChipAddWO.Frame
public import proofs.«01_k».proof.Proof.Gen.ChipAddWOIdeal.Frame
public import proofs.«01_k».proof.Proof.Gen.ChipAddWORefIdeal.Run
public import proofs.«01_k».proof.Proof.Gen.ChipAddWORefIdeal.Read
public import Idealize.ShloMosaic.Lib.Pipeline.ValueKit
public import Idealize.ShloMosaic.Lib.Pipeline.Value
public import Idealize.ShloMosaic.Lib.Pointwise

@[expose] public section

set_option maxRecDepth 16384

/-! The chip's own block of a gradient's sums plus what the three other chips gave of it. -/

noncomputable section

namespace Cert.ChipAddWO.Table

open Cert.ChipAddWO Cert.ChipAddWO.Gen Idealize.ShloMosaic Idealize.ShloMosaic.TcCoe

variable (m : (ℓ : Loc nD τ sig) → Buf (Elt Bits) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 1 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 1 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWO (hPre_a_place_w_o := Cert.Pre_a_place_w_o.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_o.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 1 := (i 0).isLt
    have b : ∀ a, (cc0_transform_0 inb_S2_S1_0 numel1_S1 (tbl m) i a + 1) * S1x128x1024.size a ≤ S4x128x1024.size a := by
      rw [chip_index]
      intro a
      match a with
      | ⟨0, _⟩ => show ((chip m).toNat + 1) * 1 ≤ 4; omega
      | ⟨1, _⟩ => show ((i 0).val + 1) * 128 ≤ 128; omega
      | ⟨2, _⟩ => show (0 + 1) * 1024 ≤ 1024; omega
    exact ⟨b, .inr (Affine.block_words_dvd (of_decide_eq_true rfl) (by decide))⟩
  · have h0 : (i 0).val < 1 := (i 0).isLt
    have b : ∀ a, (cc0_transform_2 inb_S2_S1_1 numel1_S1 (tbl m) i a + 1) * S1x128x1024.size a ≤ S2x128x1024.size a := by
      rw [core_index]
      intro a
      match a with
      | ⟨0, _⟩ => show ((core m).toNat + 1) * 1 ≤ 2; omega
      | ⟨1, _⟩ => show ((i 0).val + 1) * 128 ≤ 128; omega
      | ⟨2, _⟩ => show (0 + 1) * 1024 ≤ 1024; omega
    exact ⟨b, .inl rfl⟩

theorem ok_of_pre (h : Cert.Pre_ChipAddWO (hPre_a_place_w_o := Cert.Pre_a_place_w_o.Gen.facts) m) : Ok m := ok_of_range m (in_range m h)

end Cert.ChipAddWO.Table

namespace Cert.ChipAddWOIdeal.Table

open Cert.ChipAddWOIdeal Cert.ChipAddWOIdeal.Gen Idealize.ShloMosaic Idealize.ShloMosaic.TcCoe

variable (m : (ℓ : Loc nD τ sig) → Buf (Elt Ideal) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 1 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 1 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWOIdeal (hPre_a_place_w_o := Cert.Pre_a_place_w_o.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_o.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 1 := (i 0).isLt
    have b : ∀ a, (cc0_transform_0 inb_S2_S1_0 numel1_S1 (tbl m) i a + 1) * S1x128x1024.size a ≤ S4x128x1024.size a := by
      rw [chip_index]
      intro a
      match a with
      | ⟨0, _⟩ => show ((chip m).toNat + 1) * 1 ≤ 4; omega
      | ⟨1, _⟩ => show ((i 0).val + 1) * 128 ≤ 128; omega
      | ⟨2, _⟩ => show (0 + 1) * 1024 ≤ 1024; omega
    exact ⟨b, .inr (Affine.block_words_dvd (of_decide_eq_true rfl) (by decide))⟩
  · have h0 : (i 0).val < 1 := (i 0).isLt
    have b : ∀ a, (cc0_transform_2 inb_S2_S1_1 numel1_S1 (tbl m) i a + 1) * S1x128x1024.size a ≤ S2x128x1024.size a := by
      rw [core_index]
      intro a
      match a with
      | ⟨0, _⟩ => show ((core m).toNat + 1) * 1 ≤ 2; omega
      | ⟨1, _⟩ => show ((i 0).val + 1) * 128 ≤ 128; omega
      | ⟨2, _⟩ => show (0 + 1) * 1024 ≤ 1024; omega
    exact ⟨b, .inl rfl⟩

theorem ok_of_pre (h : Cert.Pre_ChipAddWOIdeal (hPre_a_place_w_o := Cert.Pre_a_place_w_o.Gen.facts) m) : Ok m := ok_of_range m (in_range m h)

end Cert.ChipAddWOIdeal.Table

namespace Cert.ChipAddWORefIdeal.Value

open Cert.ChipAddWORefIdeal Cert.ChipAddWORefIdeal.Gen Cert.ChipAddWORefIdeal.Read Idealize.ShloMosaic Idealize.ShloMosaic.TcCoe

variable (n : IVec S_ 32) (x : FVec Ideal S4x128x1024 .bf16) (y : FVec Ideal S3x128x1024 .bf16)

theorem own_apply (i : Fin 128) (j : Fin 1024) (b : Fin 4) (h : b.val = (n (fun a => a.elim0)).toNat) :
    val_main_v13 (F := Ideal) n x (ix2 i j) = x (ix3 b i j) := by
  have e3 : val_main_v3 (F := Ideal) x (ix2 i j) = x (ix3 0 i j) := by pointwise [val_main_v3, val_main_v2]
  have e5 : val_main_v5 (F := Ideal) x (ix2 i j) = x (ix3 1 i j) := by pointwise [val_main_v5, val_main_v4]
  have e9 : val_main_v9 (F := Ideal) x (ix2 i j) = x (ix3 2 i j) := by pointwise [val_main_v9, val_main_v8]
  have e11 : val_main_v11 (F := Ideal) x (ix2 i j) = x (ix3 3 i j) := by pointwise [val_main_v11, val_main_v10]
  have c0 : broadcastInDim S128x1024 ![] bcast_S_S128x1024 (val_main_v0 (F := Ideal) n) (ix2 i j) = IntOp.cmpi .slt (n (fun a => a.elim0)) 2#32 :=
    congrArg (fun z => IntOp.cmpi .slt (n z) 2#32) (Subsingleton.elim (α := S_.Idx) _ (fun a => a.elim0))
  have c1 : broadcastInDim S128x1024 ![] bcast_S_S128x1024 (val_main_v1 (F := Ideal) n) (ix2 i j) = IntOp.cmpi .eq (n (fun a => a.elim0)) 0#32 :=
    congrArg (fun z => IntOp.cmpi .eq (n z) 0#32) (Subsingleton.elim (α := S_.Idx) _ (fun a => a.elim0))
  have c7 : broadcastInDim S128x1024 ![] bcast_S_S128x1024 (val_main_v7 (F := Ideal) n) (ix2 i j) = IntOp.cmpi .eq (n (fun a => a.elim0)) 2#32 :=
    congrArg (fun z => IntOp.cmpi .eq (n z) 2#32) (Subsingleton.elim (α := S_.Idx) _ (fun a => a.elim0))
  unfold val_main_v13 val_main_v6 val_main_v12
  show Scalar.select _ (Scalar.select _ _ _) (Scalar.select _ _ _) = _
  rw [c0, c1, c7, e3, e5, e9, e11]
  match b, h with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl
  | ⟨2, _⟩, h => rw [show n (fun a => a.elim0) = 2#32 from BitVec.eq_of_toNat_eq h.symm]; rfl
  | ⟨3, _⟩, h => rw [show n (fun a => a.elim0) = 3#32 from BitVec.eq_of_toNat_eq h.symm]; rfl

theorem v26_apply (i : Fin 128) (j : Fin 1024) (b : Fin 4) (h : b.val = (n (fun a => a.elim0)).toNat) :
    val_main_v26 (F := Ideal) n x y (ix2 i j) = ((x (ix3 b i j) + y (ix3 0 i j)) + y (ix3 1 i j)) + y (ix3 2 i j) := by
  have e16 : val_main_v16 (F := Ideal) y (ix2 i j) = y (ix3 0 i j) := by pointwise [val_main_v16, val_main_v15]
  have e20 : val_main_v20 (F := Ideal) y (ix2 i j) = y (ix3 1 i j) := by pointwise [val_main_v20, val_main_v19]
  have e24 : val_main_v24 (F := Ideal) y (ix2 i j) = y (ix3 2 i j) := by pointwise [val_main_v24, val_main_v23]
  show ((val_main_v13 (F := Ideal) n x (ix2 i j) + val_main_v16 (F := Ideal) y (ix2 i j)) + val_main_v20 (F := Ideal) y (ix2 i j)) + val_main_v24 (F := Ideal) y (ix2 i j) = _
  rw [own_apply n x i j b h, e16, e20, e24]

end Cert.ChipAddWORefIdeal.Value

namespace Cert.ChipAddWOIdeal.Value

open Cert.ChipAddWOIdeal Cert.ChipAddWOIdeal.Gen Cert.ChipAddWOIdeal.Table Idealize.ShloMosaic Idealize.ShloMosaic.TcCoe
open Idealize.ShloMosaic.Pipeline (Dat)

variable (m : (ℓ : Loc nD τ sig) → Buf (Elt Ideal) ℓ)

/-- The grid's points: a block of the rows. -/
theorem coords : ∀ t : Fin grid0.N, (grid0.coords t 0).val = t.val := by decide +kernel

/-- Where the window of what the others gave stands. -/
theorem idx : ∀ t : Fin grid0.N, cc0_transform_1 (grid0.coords t) = ![0, t.val, 0] := by decide +kernel

/-- Every point writes its block back. -/
theorem flush (hO : Ok m) (t : Fin (cfgM m hO).N) : ((cfgM m hO).win 2).flush t = true :=
  (Pipeline.Window.flushOf_const (G := grid0) (cc0_transform_2 inb_S2_S1_1 numel1_S1 (tbl m))
    (fun i i' => hreads0_2 (tbl m) i i' fun a _ => match a with | ⟨0, _⟩ => Subsingleton.elim (α := Fin 1) (i 0) (i' 0)) (n := 1) (m := 0) (by decide) rfl t).mpr (Nat.mod_one _)

/-- The block of the chip's sums at a point. -/
theorem blk0 (hO : Ok m) (c : Dev nD) (t : Fin (cfgM m hO).N) (k : Fin 4) (hk : k.val = (chip m).toNat) (r : Fin 128) (j : Fin 1024) :
    iblk m hO c 0 t (ix3 0 r j) = m ((c : Thread nD τ).loc main_arg2) (ix3 k (⟨t.val * 128 + r.val, by have : t.val < 1 := t.isLt; omega⟩ : Fin 128) j) := by
  have e := chip_index m (grid0.coords t)
  have q := coords t
  show V m c main_arg2 _ = _
  rw [V_main_arg2]
  congr 1
  funext a
  apply Fin.ext
  show cc0_transform_0 inb_S2_S1_0 numel1_S1 (tbl m) (grid0.coords t) a * S1x128x1024.size a + 1 * (ix3 (0 : Fin 1) r j a).val = _
  rw [e, q, ← hk]
  match a with
  | ⟨0, _⟩ => show k.val * 1 + 1 * 0 = k.val; omega
  | ⟨1, _⟩ => show t.val * 128 + 1 * r.val = t.val * 128 + r.val; omega
  | ⟨2, _⟩ => show 0 * 1024 + 1 * j.val = j.val; omega

/-- The block of what the others gave. -/
theorem blk1 (hO : Ok m) (c : Dev nD) (t : Fin (cfgM m hO).N) (b : Fin 3) (r : Fin 128) (j : Fin 1024) :
    iblk m hO c 1 t (ix3 b r j) = m ((c : Thread nD τ).loc main_arg3) (ix3 b (⟨t.val * 128 + r.val, by have : t.val < 1 := t.isLt; omega⟩ : Fin 128) j) := by
  have e := idx t
  show V m c main_arg3 _ = _
  rw [V_main_arg3]
  congr 1
  funext a
  apply Fin.ext
  show cc0_transform_1 (grid0.coords t) a * S3x128x1024.size a + 1 * (ix3 b r j a).val = _
  rw [e]
  match a with
  | ⟨0, _⟩ => show 0 * 3 + 1 * b.val = b.val; omega
  | ⟨1, _⟩ => show t.val * 128 + 1 * r.val = t.val * 128 + r.val; omega
  | ⟨2, _⟩ => show 0 * 1024 + 1 * j.val = j.val; omega

theorem split_blk (y : S1x128x1024.Idx) : ∃ (r : Fin 128) (j : Fin 1024), y = ix3 (0 : Fin 1) r j :=
  ⟨y 1, y 2, by funext a; match a with | ⟨0, _⟩ => exact Subsingleton.elim (α := Fin 1) _ _ | ⟨1, _⟩ => rfl | ⟨2, _⟩ => rfl⟩

theorem split_half (y : S128x1024.Idx) : ∃ (r : Fin 128) (j : Fin 1024), y = ix2 r j :=
  ⟨y 0, y 1, by funext a; match a with | ⟨0, _⟩ => rfl | ⟨1, _⟩ => rfl⟩

/-- The core's half of the array is what its blocks are. -/
theorem of_blocks (hO : Ok m) (c : Dev nD) (k : Fin 2) (hk : k.val = (core m).toNat) (G : S128x1024.Idx → EReal)
    (hG : ∀ (t : Fin (cfgM m hO).N) (r : Fin 128) (j : Fin 1024), outsAt0 m hO c t (ix3 0 r j) = G (ix2 (⟨t.val * 128 + r.val, by have : t.val < 1 := t.isLt; omega⟩ : Fin 128) j))
    (r : Fin 128) (j : Fin 1024) : (dats m hO 0 c).arrAt 2 (cfgM m hO).N (ix3 k r j : S2x128x1024.Idx) = G (ix2 r j) := by
  refine ((dats m hO 0 c).arrAt_eq_piecewise 2 (fun i : S2x128x1024.Idx => G (ix2 (i 1 : Fin 128) (i 2 : Fin 1024))) (fun t hf => ?_) (ix3 k r j : S2x128x1024.Idx)).trans (if_pos ?_)
  · funext y
    obtain ⟨r, j, rfl⟩ := split_blk y
    have hlt : t.val < 1 := t.isLt
    have e := core_index m (grid0.coords t)
    have q := coords t
    have p : (((cfgM m hO).win 2).blk t).view.emb (ix3 (0 : Fin 1) r j : S1x128x1024.Idx) = (ix3 k (⟨t.val * 128 + r.val, by omega⟩ : Fin 128) j : S2x128x1024.Idx) := by
      funext a
      apply Fin.ext
      show cc0_transform_2 inb_S2_S1_1 numel1_S1 (tbl m) (grid0.coords t) a * S1x128x1024.size a + 1 * (ix3 (0 : Fin 1) r j a).val = _
      rw [e, q, ← hk]
      match a with
      | ⟨0, _⟩ => show k.val * 1 + 1 * 0 = k.val; omega
      | ⟨1, _⟩ => show t.val * 128 + 1 * r.val = t.val * 128 + r.val; omega
      | ⟨2, _⟩ => show 0 * 1024 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = (fun i : S2x128x1024.Idx => G (ix2 (i 1 : Fin 128) (i 2 : Fin 1024))) ((((cfgM m hO).win 2).blk t).view.emb (ix3 (0 : Fin 1) r j : S1x128x1024.Idx))
    rw [p]
    exact hG t r j
  · let t : Fin (cfgM m hO).N := (⟨r.val / 128, by show _ < 1; omega⟩ : Fin 1)
    refine ⟨t, flush m hO t, ?_⟩
    have e := core_index m (grid0.coords t)
    have q := coords t
    refine (Pipeline.Window.emb_mem_blk_iff ((cfgM m hO).win 2) t (ix3 k r j)).mpr fun a => ?_
    show cc0_transform_2 inb_S2_S1_1 numel1_S1 (tbl m) (grid0.coords t) a * S1x128x1024.size a ≤ (ix3 k r j a).val ∧ (ix3 k r j a).val < cc0_transform_2 inb_S2_S1_1 numel1_S1 (tbl m) (grid0.coords t) a * S1x128x1024.size a + S1x128x1024.size a
    rw [e, q, ← hk]
    match a with
    | ⟨0, _⟩ => show k.val * 1 ≤ k.val ∧ k.val < k.val * 1 + 1; omega
    | ⟨1, _⟩ => show r.val / 128 * 128 ≤ r.val ∧ r.val < r.val / 128 * 128 + 128; omega
    | ⟨2, _⟩ => show 0 * 1024 ≤ j.val ∧ j.val < 0 * 1024 + 1024; omega

theorem block (hO : Ok m) (c : Dev nD) (t : Fin (cfgM m hO).N) (r : Fin 128) (j : Fin 1024) (u v0 v1 v2 : EReal)
    (hu : iblk m hO c 0 t (ix3 0 r j) = u) (h0 : iblk m hO c 1 t (ix3 0 r j) = v0) (h1 : iblk m hO c 1 t (ix3 1 r j) = v1) (h2 : iblk m hO c 1 t (ix3 2 r j) = v2) :
    outsAt0 m hO c t (ix3 0 r j) = ((u + v0) + v1) + v2 := by
  unfold outsAt0; frame_out
  pointwise [k0_pay1]
  have p : ∀ {a b a' b' : EReal}, a = a' → b = b' → a + b = a' + b' := fun h h' => congrArg₂ (fun a b : EReal => a + b) h h'
  exact p (p (p ((congrFun ((hs0_0 m hO t).read_unread _) _).trans hu) ((congrFun ((hs0_1 m hO t).read_unread _) _).trans h0))
    ((congrFun ((hs0_1 m hO t).read_unread _) _).trans h1)) ((congrFun ((hs0_1 m hO t).read_unread _) _).trans h2)

/-- What the lines behind the call make of its result: the half that the core's number names. -/
theorem tail (W : Valuation τ sig (Elt Ideal)) (A : FVec Ideal S2x128x1024 .f32) (n : IVec S_ 32)
    (hA : W (Proc.devRef .tc main_v3) = A) (hn : W (Proc.devRef .tc main_arg1) = n) :
    StableHlo.after (List.flatten [hostOps1, hostOps1_1]) W (Proc.devRef .tc main_v9)
      = (select (broadcastInDim S128x1024 ![] bcast_S_S128x1024 (cmpi .eq n (constantI S_ 32 0#32)))
          (shapeCast S128x1024 (extractStridedSlice S1x128x1024 ![0, 0, 0] A slices_S2x128x1024_S1x128x1024_0_0_0) shapeCasts_S1x128x1024_S128x1024)
          (shapeCast S128x1024 (extractStridedSlice S1x128x1024 ![1, 0, 0] A slices_S2x128x1024_S1x128x1024_1_0_0) shapeCasts_S1x128x1024_S128x1024) : FVec Ideal S128x1024 .f32) := by
  subst hA hn
  simp only [hostOps1, hostOps1_1, List.flatten_cons, List.flatten_nil, List.append_nil, List.cons_append, List.nil_append, StableHlo.after]
  rfl

theorem half_apply (A : FVec Ideal S2x128x1024 .f32) (n : IVec S_ 32) (k : Fin 2) (hk : k.val = (n (fun a => a.elim0)).toNat) (r : Fin 128) (j : Fin 1024) :
    (select (broadcastInDim S128x1024 ![] bcast_S_S128x1024 (cmpi .eq n (constantI S_ 32 0#32)))
          (shapeCast S128x1024 (extractStridedSlice S1x128x1024 ![0, 0, 0] A slices_S2x128x1024_S1x128x1024_0_0_0) shapeCasts_S1x128x1024_S128x1024)
          (shapeCast S128x1024 (extractStridedSlice S1x128x1024 ![1, 0, 0] A slices_S2x128x1024_S1x128x1024_1_0_0) shapeCasts_S1x128x1024_S128x1024) : FVec Ideal S128x1024 .f32) (ix2 r j)
      = A (ix3 k r j) := by
  have e0 : (shapeCast S128x1024 (extractStridedSlice S1x128x1024 ![0, 0, 0] A slices_S2x128x1024_S1x128x1024_0_0_0) shapeCasts_S1x128x1024_S128x1024 : FVec Ideal S128x1024 .f32) (ix2 r j) = A (ix3 0 r j) := by pointwise []
  have e1 : (shapeCast S128x1024 (extractStridedSlice S1x128x1024 ![1, 0, 0] A slices_S2x128x1024_S1x128x1024_1_0_0) shapeCasts_S1x128x1024_S128x1024 : FVec Ideal S128x1024 .f32) (ix2 r j) = A (ix3 1 r j) := by pointwise []
  have c : broadcastInDim S128x1024 ![] bcast_S_S128x1024 (cmpi .eq n (constantI S_ 32 0#32)) (ix2 r j) = IntOp.cmpi .eq (n (fun a => a.elim0)) 0#32 :=
    congrArg (fun z => IntOp.cmpi .eq (n z) 0#32) (Subsingleton.elim (α := S_.Idx) _ (fun a => a.elim0))
  show Scalar.select _ _ _ = _
  rw [c, e0, e1]
  match k, hk with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl

/-- The half is the reference's result. -/
theorem final (hO : Ok m) (hc : (chip m).toNat < 4) (hw : (core m).toNat < 2) (c : Dev nD) :
    Pipeline.afterTail pcfgs (fun _ => adm m hO) (dats m hO) 0 (V0 m) [hostOps1, hostOps1_1] c main_v9
    = Cert.ChipAddWORefIdeal.Read.val_main_v26 (F := Ideal) (m ((c : Thread nD τ).loc main_arg0)) (m ((c : Thread nD τ).loc main_arg2)) (m ((c : Thread nD τ).loc main_arg3)) := by
  obtain rfl : c = 0 := Subsingleton.elim _ _
  unfold Pipeline.afterTail
  refine (tail _ ((dats m hO 0 0).arrAt 2 (cfgM m hO).N) (m (((0 : Dev nD) : Thread nD τ).loc main_arg1))
    (Pipeline.withArrays_arr spec0 (by decide) 0 (V0 m 0) _ 2)
    ((Pipeline.withArrays_of_ne spec0 0 (V0 m 0) _ main_arg1 (by exact (by decide : ∀ w, Pipeline.arrRef spec0 w ≠ main_arg1))).trans (V_main_arg1 m 0))).trans ?_
  funext y
  obtain ⟨r, j, rfl⟩ := split_half y
  refine (half_apply _ _ ⟨(core m).toNat, hw⟩ rfl r j).trans ?_
  refine of_blocks m hO 0 ⟨(core m).toNat, hw⟩ rfl _ (fun t r j => ?_) r j
  exact (block m hO 0 t r j _ _ _ _ (blk0 m hO 0 t ⟨(chip m).toNat, hc⟩ rfl r j) (blk1 m hO 0 t 0 r j) (blk1 m hO 0 t 1 r j) (blk1 m hO 0 t 2 r j)).trans
    (Cert.ChipAddWORefIdeal.Value.v26_apply _ _ _ _ _ ⟨(chip m).toNat, hc⟩ rfl).symm

end Cert.ChipAddWOIdeal.Value

namespace Cert.ChipAddWOIdeal.Claim

open Idealize.ShloMosaic Idealize.ShloMosaic.TcCoe Idealize.SL.Sem

/-- The call computes what the reference computes. -/
theorem algebraic : Cert.algebraic_ChipAddWOIdeal_ChipAddWORefIdeal (hChipAddWOIdeal := Cert.ChipAddWOIdeal.Gen.facts) (hChipAddWORefIdeal := Cert.ChipAddWORefIdeal.Gen.facts) (hPre_a_place_w_o := Cert.Pre_a_place_w_o.Gen.facts) := by
  intro m g m' g' pre h
  have hw := Cert.ChipAddWOIdeal.Table.in_range m pre
  have hO := Cert.ChipAddWOIdeal.Table.ok_of_pre m pre
  refine ⟨fun c => Cert.ChipAddWORefIdeal.Read.val_main_v26 (F := Ideal) (m (c.tc.loc Cert.ChipAddWOIdeal.main_arg0)) (m (c.tc.loc Cert.ChipAddWOIdeal.main_arg2)) (m (c.tc.loc Cert.ChipAddWOIdeal.main_arg3)), ?_, ?_⟩
  · refine (θ_run _ _ _).mono (fun r hr c => ⟨?_, hr.2 c⟩) (θ_run_and (Cert.ChipAddWOIdeal.Gen.run_main m g hO) (Cert.ChipAddWOIdeal.Gen.unchanged m g hO))
    exact ((hr.1 c).2 Cert.ChipAddWOIdeal.main_v9 (by decide : Cert.ChipAddWOIdeal.main_v9 ∈ Pipeline.restRefs Cert.ChipAddWOIdeal.sig Cert.ChipAddWOIdeal.spec0)).trans (Cert.ChipAddWOIdeal.Value.final m hO hw.1 hw.2 c)
  · refine (θ_run _ _ _).mono (fun r hr c => ⟨(hr c).1.trans ?_, (hr c).2⟩) (Cert.ChipAddWORefIdeal.Value.run m' g')
    refine (Cert.ChipAddWORefIdeal.Read.val_main_v26_eq _ _ _).trans ?_
    show Cert.ChipAddWORefIdeal.Read.val_main_v26 (F := Ideal) (m' (c.tc.loc Cert.ChipAddWORefIdeal.main_arg0)) (m' (c.tc.loc Cert.ChipAddWORefIdeal.main_arg2)) (m' (c.tc.loc Cert.ChipAddWORefIdeal.main_arg3)) = _
    rw [(h c).1, (h c).2.2.1, (h c).2.2.2]

end Cert.ChipAddWOIdeal.Claim

end
-- ==== Proof.ChipAddWInValue.lean ====
module

public import proofs.«01_k».proof.Defs
public import proofs.«01_k».proof.Proof.Gen.Pre_a_place_w_in
public import proofs.«01_k».proof.Proof.Gen.ChipAddWIn.Frame
public import proofs.«01_k».proof.Proof.Gen.ChipAddWInIdeal.Frame
public import proofs.«01_k».proof.Proof.Gen.ChipAddWInRefIdeal.Run
public import proofs.«01_k».proof.Proof.Gen.ChipAddWInRefIdeal.Read
public import Idealize.ShloMosaic.Lib.Pipeline.ValueKit
public import Idealize.ShloMosaic.Lib.Pipeline.Value
public import Idealize.ShloMosaic.Lib.Pointwise

@[expose] public section

set_option maxRecDepth 16384

/-! The chip's own block of a gradient's sums plus what the three other chips gave of it. -/

noncomputable section

namespace Cert.ChipAddWIn.Table

open Cert.ChipAddWIn Cert.ChipAddWIn.Gen Idealize.ShloMosaic Idealize.ShloMosaic.TcCoe

variable (m : (ℓ : Loc nD τ sig) → Buf (Elt Bits) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWIn (hPre_a_place_w_in := Cert.Pre_a_place_w_in.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_in.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x256x902.size a ≤ S4x512x902.size a := by
      rw [chip_index]
      intro a
      match a with
      | ⟨0, _⟩ => show ((chip m).toNat + 1) * 1 ≤ 4; omega
      | ⟨1, _⟩ => show ((i 0).val + 1) * 256 ≤ 512; omega
      | ⟨2, _⟩ => show (0 + 1) * 902 ≤ 902; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x256x902.size a ≤ S2x512x902.size a := by
      rw [core_index]
      intro a
      match a with
      | ⟨0, _⟩ => show ((core m).toNat + 1) * 1 ≤ 2; omega
      | ⟨1, _⟩ => show ((i 0).val + 1) * 256 ≤ 512; omega
      | ⟨2, _⟩ => show (0 + 1) * 902 ≤ 902; omega
    exact ⟨b, .inl rfl⟩

theorem ok_of_pre (h : Cert.Pre_ChipAddWIn (hPre_a_place_w_in := Cert.Pre_a_place_w_in.Gen.facts) m) : Ok m := ok_of_range m (in_range m h)

end Cert.ChipAddWIn.Table

namespace Cert.ChipAddWInIdeal.Table

open Cert.ChipAddWInIdeal Cert.ChipAddWInIdeal.Gen Idealize.ShloMosaic Idealize.ShloMosaic.TcCoe

variable (m : (ℓ : Loc nD τ sig) → Buf (Elt Ideal) ℓ)

/-- The numbers the call is given. -/
def chip : BitVec 32 := m (((0 : Dev nD) : Thread nD τ).loc main_arg0) (fun a => a.elim0)
def core : BitVec 32 := m (((0 : Dev nD) : Thread nD τ).loc main_arg1) (fun a => a.elim0)

theorem tbl_eq : tbl m 0 = concatenate S2 0 [⟨S1, broadcastInDim S1 ![] bcast_S_S1 (m (((0 : Dev nD) : Thread nD τ).loc main_arg0))⟩,
    ⟨S1, broadcastInDim S1 ![] bcast_S_S1 (m (((0 : Dev nD) : Thread nD τ).loc main_arg1))⟩] concatenates_S1_S1_S2_d0 := by
  show StableHlo.after (List.flatten [hostOps0]) (fun b => m ((0 : Dev nD), b)) (Proc.devRef .tc main_v2) = _
  simp only [hostOps0, List.flatten_cons, List.flatten_nil, List.append_nil, StableHlo.after]
  rfl

theorem tbl_chip (x : S2.Idx) (h : (x 0).val = 0) : tbl m 0 x = chip m := by
  rw [tbl_eq]
  refine (concatenate_pair_apply_left (s₁ := S1) (s₂ := S1) (0 : Fin S2.rank) _ _ _ x rfl (ix1 (0 : Fin 1) : S1.Idx) (fun b => ?_)).trans ?_
  · match b with | ⟨0, _⟩ => exact h.symm
  · exact congrArg (m (((0 : Dev nD) : Thread nD τ).loc main_arg0)) (Subsingleton.elim (α := S_.Idx) _ _)

theorem tbl_core (x : S2.Idx) (h : (x 0).val = 1) : tbl m 0 x = core m := by
  rw [tbl_eq]
  refine (concatenate_pair_apply_right (s₁ := S1) (s₂ := S1) (0 : Fin S2.rank) _ _ _ x rfl rfl (ix1 (0 : Fin 1) : S1.Idx) (fun b hb => ?_) ?_).trans ?_
  · match b with | ⟨0, _⟩ => exact absurd rfl hb
  · exact h.symm
  · exact congrArg (m (((0 : Dev nD) : Thread nD τ).loc main_arg1)) (Subsingleton.elim (α := S_.Idx) _ _)

/-- Where the windows the numbers choose stand. -/
theorem chip_index (i : grid0.Coords) : cc0_transform_0 inb_S2_S1_0 numel1_S1 (tbl m) i = ![(chip m).toNat, (i 0).val, 0] := by
  have h0 : (i 0).val < 2 := (i 0).isLt
  have e : (tbl m).at 0 (Rect.unit (s := S2) ![0] S1.size inb_S2_S1_0) numel1_S1 = chip m := tbl_chip m _ rfl
  have t0 : (BitVec.ofNat 32 (i 0).val).toNat = (i 0).val := by rw [BitVec.toNat_ofNat]; omega
  unfold cc0_transform_0
  simp only [e, t0]
  rfl

theorem core_index (i : grid0.Coords) : cc0_transform_2 inb_S2_S1_1 numel1_S1 (tbl m) i = ![(core m).toNat, (i 0).val, 0] := by
  have h0 : (i 0).val < 2 := (i 0).isLt
  have e : (tbl m).at 0 (Rect.unit (s := S2) ![1] S1.size inb_S2_S1_1) numel1_S1 = core m := tbl_core m _ rfl
  have t0 : (BitVec.ofNat 32 (i 0).val).toNat = (i 0).val := by rw [BitVec.toNat_ofNat]; omega
  unfold cc0_transform_2
  simp only [e, t0]
  rfl

/-- The numbers are in range. -/
theorem in_range (h : Cert.Pre_ChipAddWInIdeal (hPre_a_place_w_in := Cert.Pre_a_place_w_in.Gen.facts) m) : (chip m).toNat < 4 ∧ (core m).toNat < 2 := by
  have e := congrFun (h 0) (fun a => a.elim0)
  have andi_one (a b : BitVec 1) : IntOp.andi a b = 1#1 ↔ a = 1#1 ∧ b = 1#1 := by revert a b; decide
  have ofBool_one (p : Bool) : (BitVec.ofBool p = 1#1) ↔ p = true := by cases p <;> decide
  simp only [Cert.Pre_a_place_w_in.fn, constantI, cmpi, andi, andi_one, IntOp.cmpi, ofBool_one, BitVec.sle, BitVec.slt, decide_eq_true_eq] at e
  have g4 : ∀ w : BitVec 32, (0#32).toInt ≤ w.toInt → w.toInt < (4#32).toInt → w.toNat < 4 := fun w h0 h1 => by
    simp only [BitVec.toInt, BitVec.toNat_ofNat] at h0 h1
    have := w.isLt
    omega
  have g2 : ∀ w : BitVec 32, (0#32).toInt ≤ w.toInt → w.toInt < (2#32).toInt → w.toNat < 2 := fun w h0 h1 => by
    simp only [BitVec.toInt, BitVec.toNat_ofNat] at h0 h1
    have := w.isLt
    omega
  exact ⟨g4 _ (of_decide_eq_true e.1.1.1) (of_decide_eq_true e.1.1.2), g2 _ (of_decide_eq_true e.1.2) (of_decide_eq_true e.2)⟩

theorem ok_of_range (h : (chip m).toNat < 4 ∧ (core m).toNat < 2) : Ok m := by
  obtain ⟨hc, hw⟩ := h
  refine ⟨fun i => ?_, fun i => ?_⟩
  · have h0 : (i 0).val < 2 := (i 0).isLt
    have b : ∀ a, (cc0_transform_0 inb_S2_S1_0 numel1_S1 (tbl m) i a + 1) * S1x256x902.size a ≤ S4x512x902.size a := by
      rw [chip_index]
      intro a
      match a with
      | ⟨0, _⟩ => show ((chip m).toNat + 1) * 1 ≤ 4; omega
      | ⟨1, _⟩ => show ((i 0).val + 1) * 256 ≤ 512; omega
      | ⟨2, _⟩ => show (0 + 1) * 902 ≤ 902; omega
    exact ⟨b, .inr (Affine.block_words_dvd (of_decide_eq_true rfl) (by decide))⟩
  · have h0 : (i 0).val < 2 := (i 0).isLt
    have b : ∀ a, (cc0_transform_2 inb_S2_S1_1 numel1_S1 (tbl m) i a + 1) * S1x256x902.size a ≤ S2x512x902.size a := by
      rw [core_index]
      intro a
      match a with
      | ⟨0, _⟩ => show ((core m).toNat + 1) * 1 ≤ 2; omega
      | ⟨1, _⟩ => show ((i 0).val + 1) * 256 ≤ 512; omega
      | ⟨2, _⟩ => show (0 + 1) * 902 ≤ 902; omega
    exact ⟨b, .inl rfl⟩

theorem ok_of_pre (h : Cert.Pre_ChipAddWInIdeal (hPre_a_place_w_in := Cert.Pre_a_place_w_in.Gen.facts) m) : Ok m := ok_of_range m (in_range m h)

end Cert.ChipAddWInIdeal.Table

namespace Cert.ChipAddWInRefIdeal.Value

open Cert.ChipAddWInRefIdeal Cert.ChipAddWInRefIdeal.Gen Cert.ChipAddWInRefIdeal.Read Idealize.ShloMosaic Idealize.ShloMosaic.TcCoe

variable (n : IVec S_ 32) (x : FVec Ideal S4x512x902 .bf16) (y : FVec Ideal S3x512x902 .bf16)

theorem own_apply (i : Fin 512) (j : Fin 902) (b : Fin 4) (h : b.val = (n (fun a => a.elim0)).toNat) :
    val_main_v13 (F := Ideal) n x (ix2 i j) = x (ix3 b i j) := by
  have e3 : val_main_v3 (F := Ideal) x (ix2 i j) = x (ix3 0 i j) := by pointwise [val_main_v3, val_main_v2]
  have e5 : val_main_v5 (F := Ideal) x (ix2 i j) = x (ix3 1 i j) := by pointwise [val_main_v5, val_main_v4]
  have e9 : val_main_v9 (F := Ideal) x (ix2 i j) = x (ix3 2 i j) := by pointwise [val_main_v9, val_main_v8]
  have e11 : val_main_v11 (F := Ideal) x (ix2 i j) = x (ix3 3 i j) := by pointwise [val_main_v11, val_main_v10]
  have c0 : broadcastInDim S512x902 ![] bcast_S_S512x902 (val_main_v0 (F := Ideal) n) (ix2 i j) = IntOp.cmpi .slt (n (fun a => a.elim0)) 2#32 :=
    congrArg (fun z => IntOp.cmpi .slt (n z) 2#32) (Subsingleton.elim (α := S_.Idx) _ (fun a => a.elim0))
  have c1 : broadcastInDim S512x902 ![] bcast_S_S512x902 (val_main_v1 (F := Ideal) n) (ix2 i j) = IntOp.cmpi .eq (n (fun a => a.elim0)) 0#32 :=
    congrArg (fun z => IntOp.cmpi .eq (n z) 0#32) (Subsingleton.elim (α := S_.Idx) _ (fun a => a.elim0))
  have c7 : broadcastInDim S512x902 ![] bcast_S_S512x902 (val_main_v7 (F := Ideal) n) (ix2 i j) = IntOp.cmpi .eq (n (fun a => a.elim0)) 2#32 :=
    congrArg (fun z => IntOp.cmpi .eq (n z) 2#32) (Subsingleton.elim (α := S_.Idx) _ (fun a => a.elim0))
  unfold val_main_v13 val_main_v6 val_main_v12
  show Scalar.select _ (Scalar.select _ _ _) (Scalar.select _ _ _) = _
  rw [c0, c1, c7, e3, e5, e9, e11]
  match b, h with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl
  | ⟨2, _⟩, h => rw [show n (fun a => a.elim0) = 2#32 from BitVec.eq_of_toNat_eq h.symm]; rfl
  | ⟨3, _⟩, h => rw [show n (fun a => a.elim0) = 3#32 from BitVec.eq_of_toNat_eq h.symm]; rfl

theorem v26_apply (i : Fin 512) (j : Fin 902) (b : Fin 4) (h : b.val = (n (fun a => a.elim0)).toNat) :
    val_main_v26 (F := Ideal) n x y (ix2 i j) = ((x (ix3 b i j) + y (ix3 0 i j)) + y (ix3 1 i j)) + y (ix3 2 i j) := by
  have e16 : val_main_v16 (F := Ideal) y (ix2 i j) = y (ix3 0 i j) := by pointwise [val_main_v16, val_main_v15]
  have e20 : val_main_v20 (F := Ideal) y (ix2 i j) = y (ix3 1 i j) := by pointwise [val_main_v20, val_main_v19]
  have e24 : val_main_v24 (F := Ideal) y (ix2 i j) = y (ix3 2 i j) := by pointwise [val_main_v24, val_main_v23]
  show ((val_main_v13 (F := Ideal) n x (ix2 i j) + val_main_v16 (F := Ideal) y (ix2 i j)) + val_main_v20 (F := Ideal) y (ix2 i j)) + val_main_v24 (F := Ideal) y (ix2 i j) = _
  rw [own_apply n x i j b h, e16, e20, e24]

end Cert.ChipAddWInRefIdeal.Value

namespace Cert.ChipAddWInIdeal.Value

open Cert.ChipAddWInIdeal Cert.ChipAddWInIdeal.Gen Cert.ChipAddWInIdeal.Table Idealize.ShloMosaic Idealize.ShloMosaic.TcCoe
open Idealize.ShloMosaic.Pipeline (Dat)

variable (m : (ℓ : Loc nD τ sig) → Buf (Elt Ideal) ℓ)

/-- The grid's points: a block of the rows. -/
theorem coords : ∀ t : Fin grid0.N, (grid0.coords t 0).val = t.val := by decide +kernel

/-- Where the window of what the others gave stands. -/
theorem idx : ∀ t : Fin grid0.N, cc0_transform_1 (grid0.coords t) = ![0, t.val, 0] := by decide +kernel

/-- Every point writes its block back. -/
theorem flush (hO : Ok m) (t : Fin (cfgM m hO).N) : ((cfgM m hO).win 2).flush t = true :=
  (Pipeline.Window.flushOf_reads (G := grid0) (cc0_transform_2 inb_S2_S1_1 numel1_S1 (tbl m)) reads0_2 (hreads0_2 (tbl m)) 0 (by decide) (by decide)
    (Pipeline.Window.sep_of_coord (cc0_transform_2 inb_S2_S1_1 numel1_S1 (tbl m)) 0 1 (fun _ => rfl) (by decide)) (P := 1) (m := 0) (by decide) rfl t).mpr (Nat.mod_one _)

/-- The block of the chip's sums at a point. -/
theorem blk0 (hO : Ok m) (c : Dev nD) (t : Fin (cfgM m hO).N) (k : Fin 4) (hk : k.val = (chip m).toNat) (r : Fin 256) (j : Fin 902) :
    iblk m hO c 0 t (ix3 0 r j) = m ((c : Thread nD τ).loc main_arg2) (ix3 k (⟨t.val * 256 + r.val, by have : t.val < 2 := t.isLt; omega⟩ : Fin 512) j) := by
  have e := chip_index m (grid0.coords t)
  have q := coords t
  show V m c main_arg2 _ = _
  rw [V_main_arg2]
  congr 1
  funext a
  apply Fin.ext
  show cc0_transform_0 inb_S2_S1_0 numel1_S1 (tbl m) (grid0.coords t) a * S1x256x902.size a + 1 * (ix3 (0 : Fin 1) r j a).val = _
  rw [e, q, ← hk]
  match a with
  | ⟨0, _⟩ => show k.val * 1 + 1 * 0 = k.val; omega
  | ⟨1, _⟩ => show t.val * 256 + 1 * r.val = t.val * 256 + r.val; omega
  | ⟨2, _⟩ => show 0 * 902 + 1 * j.val = j.val; omega

/-- The block of what the others gave. -/
theorem blk1 (hO : Ok m) (c : Dev nD) (t : Fin (cfgM m hO).N) (b : Fin 3) (r : Fin 256) (j : Fin 902) :
    iblk m hO c 1 t (ix3 b r j) = m ((c : Thread nD τ).loc main_arg3) (ix3 b (⟨t.val * 256 + r.val, by have : t.val < 2 := t.isLt; omega⟩ : Fin 512) j) := by
  have e := idx t
  show V m c main_arg3 _ = _
  rw [V_main_arg3]
  congr 1
  funext a
  apply Fin.ext
  show cc0_transform_1 (grid0.coords t) a * S3x256x902.size a + 1 * (ix3 b r j a).val = _
  rw [e]
  match a with
  | ⟨0, _⟩ => show 0 * 3 + 1 * b.val = b.val; omega
  | ⟨1, _⟩ => show t.val * 256 + 1 * r.val = t.val * 256 + r.val; omega
  | ⟨2, _⟩ => show 0 * 902 + 1 * j.val = j.val; omega

theorem split_blk (y : S1x256x902.Idx) : ∃ (r : Fin 256) (j : Fin 902), y = ix3 (0 : Fin 1) r j :=
  ⟨y 1, y 2, by funext a; match a with | ⟨0, _⟩ => exact Subsingleton.elim (α := Fin 1) _ _ | ⟨1, _⟩ => rfl | ⟨2, _⟩ => rfl⟩

theorem split_half (y : S512x902.Idx) : ∃ (r : Fin 512) (j : Fin 902), y = ix2 r j :=
  ⟨y 0, y 1, by funext a; match a with | ⟨0, _⟩ => rfl | ⟨1, _⟩ => rfl⟩

/-- The core's half of the array is what its blocks are. -/
theorem of_blocks (hO : Ok m) (c : Dev nD) (k : Fin 2) (hk : k.val = (core m).toNat) (G : S512x902.Idx → EReal)
    (hG : ∀ (t : Fin (cfgM m hO).N) (r : Fin 256) (j : Fin 902), outsAt0 m hO c t (ix3 0 r j) = G (ix2 (⟨t.val * 256 + r.val, by have : t.val < 2 := t.isLt; omega⟩ : Fin 512) j))
    (r : Fin 512) (j : Fin 902) : (dats m hO 0 c).arrAt 2 (cfgM m hO).N (ix3 k r j : S2x512x902.Idx) = G (ix2 r j) := by
  refine ((dats m hO 0 c).arrAt_eq_piecewise 2 (fun i : S2x512x902.Idx => G (ix2 (i 1 : Fin 512) (i 2 : Fin 902))) (fun t hf => ?_) (ix3 k r j : S2x512x902.Idx)).trans (if_pos ?_)
  · funext y
    obtain ⟨r, j, rfl⟩ := split_blk y
    have hlt : t.val < 2 := t.isLt
    have e := core_index m (grid0.coords t)
    have q := coords t
    have p : (((cfgM m hO).win 2).blk t).view.emb (ix3 (0 : Fin 1) r j : S1x256x902.Idx) = (ix3 k (⟨t.val * 256 + r.val, by omega⟩ : Fin 512) j : S2x512x902.Idx) := by
      funext a
      apply Fin.ext
      show cc0_transform_2 inb_S2_S1_1 numel1_S1 (tbl m) (grid0.coords t) a * S1x256x902.size a + 1 * (ix3 (0 : Fin 1) r j a).val = _
      rw [e, q, ← hk]
      match a with
      | ⟨0, _⟩ => show k.val * 1 + 1 * 0 = k.val; omega
      | ⟨1, _⟩ => show t.val * 256 + 1 * r.val = t.val * 256 + r.val; omega
      | ⟨2, _⟩ => show 0 * 902 + 1 * j.val = j.val; omega
    have f : (dats m hO 0 c).flushed 2 t = ((cfgM m hO).win 2).cut (grid0.coords t) (outsAt0 m hO c t) := by
      show ((cfgM m hO).win 2).cut (grid0.coords t) ((dats m hO 0 c).after 2 t) = _
      rw [after0_2]
    rw [f]
    show outsAt0 m hO c t (ix3 (0 : Fin 1) r j) = (fun i : S2x512x902.Idx => G (ix2 (i 1 : Fin 512) (i 2 : Fin 902))) ((((cfgM m hO).win 2).blk t).view.emb (ix3 (0 : Fin 1) r j : S1x256x902.Idx))
    rw [p]
    exact hG t r j
  · let t : Fin (cfgM m hO).N := (⟨r.val / 256, by show _ < 2; omega⟩ : Fin 2)
    refine ⟨t, flush m hO t, ?_⟩
    have e := core_index m (grid0.coords t)
    have q := coords t
    refine (Pipeline.Window.emb_mem_blk_iff ((cfgM m hO).win 2) t (ix3 k r j)).mpr fun a => ?_
    show cc0_transform_2 inb_S2_S1_1 numel1_S1 (tbl m) (grid0.coords t) a * S1x256x902.size a ≤ (ix3 k r j a).val ∧ (ix3 k r j a).val < cc0_transform_2 inb_S2_S1_1 numel1_S1 (tbl m) (grid0.coords t) a * S1x256x902.size a + S1x256x902.size a
    rw [e, q, ← hk]
    match a with
    | ⟨0, _⟩ => show k.val * 1 ≤ k.val ∧ k.val < k.val * 1 + 1; omega
    | ⟨1, _⟩ => show r.val / 256 * 256 ≤ r.val ∧ r.val < r.val / 256 * 256 + 256; omega
    | ⟨2, _⟩ => show 0 * 902 ≤ j.val ∧ j.val < 0 * 902 + 902; omega

theorem block (hO : Ok m) (c : Dev nD) (t : Fin (cfgM m hO).N) (r : Fin 256) (j : Fin 902) (u v0 v1 v2 : EReal)
    (hu : iblk m hO c 0 t (ix3 0 r j) = u) (h0 : iblk m hO c 1 t (ix3 0 r j) = v0) (h1 : iblk m hO c 1 t (ix3 1 r j) = v1) (h2 : iblk m hO c 1 t (ix3 2 r j) = v2) :
    outsAt0 m hO c t (ix3 0 r j) = ((u + v0) + v1) + v2 := by
  unfold outsAt0; frame_out
  pointwise [k0_pay1]
  have p : ∀ {a b a' b' : EReal}, a = a' → b = b' → a + b = a' + b' := fun h h' => congrArg₂ (fun a b : EReal => a + b) h h'
  exact p (p (p ((congrFun ((hs0_0 m hO t).read_unread _) _).trans hu) ((congrFun ((hs0_1 m hO t).read_unread _) _).trans h0))
    ((congrFun ((hs0_1 m hO t).read_unread _) _).trans h1)) ((congrFun ((hs0_1 m hO t).read_unread _) _).trans h2)

/-- What the lines behind the call make of its result: the half that the core's number names. -/
theorem tail (W : Valuation τ sig (Elt Ideal)) (A : FVec Ideal S2x512x902 .f32) (n : IVec S_ 32)
    (hA : W (Proc.devRef .tc main_v3) = A) (hn : W (Proc.devRef .tc main_arg1) = n) :
    StableHlo.after (List.flatten [hostOps1, hostOps1_1]) W (Proc.devRef .tc main_v9)
      = (select (broadcastInDim S512x902 ![] bcast_S_S512x902 (cmpi .eq n (constantI S_ 32 0#32)))
          (shapeCast S512x902 (extractStridedSlice S1x512x902 ![0, 0, 0] A slices_S2x512x902_S1x512x902_0_0_0) shapeCasts_S1x512x902_S512x902)
          (shapeCast S512x902 (extractStridedSlice S1x512x902 ![1, 0, 0] A slices_S2x512x902_S1x512x902_1_0_0) shapeCasts_S1x512x902_S512x902) : FVec Ideal S512x902 .f32) := by
  subst hA hn
  simp only [hostOps1, hostOps1_1, List.flatten_cons, List.flatten_nil, List.append_nil, List.cons_append, List.nil_append, StableHlo.after]
  rfl

theorem half_apply (A : FVec Ideal S2x512x902 .f32) (n : IVec S_ 32) (k : Fin 2) (hk : k.val = (n (fun a => a.elim0)).toNat) (r : Fin 512) (j : Fin 902) :
    (select (broadcastInDim S512x902 ![] bcast_S_S512x902 (cmpi .eq n (constantI S_ 32 0#32)))
          (shapeCast S512x902 (extractStridedSlice S1x512x902 ![0, 0, 0] A slices_S2x512x902_S1x512x902_0_0_0) shapeCasts_S1x512x902_S512x902)
          (shapeCast S512x902 (extractStridedSlice S1x512x902 ![1, 0, 0] A slices_S2x512x902_S1x512x902_1_0_0) shapeCasts_S1x512x902_S512x902) : FVec Ideal S512x902 .f32) (ix2 r j)
      = A (ix3 k r j) := by
  have e0 : (shapeCast S512x902 (extractStridedSlice S1x512x902 ![0, 0, 0] A slices_S2x512x902_S1x512x902_0_0_0) shapeCasts_S1x512x902_S512x902 : FVec Ideal S512x902 .f32) (ix2 r j) = A (ix3 0 r j) := by pointwise []
  have e1 : (shapeCast S512x902 (extractStridedSlice S1x512x902 ![1, 0, 0] A slices_S2x512x902_S1x512x902_1_0_0) shapeCasts_S1x512x902_S512x902 : FVec Ideal S512x902 .f32) (ix2 r j) = A (ix3 1 r j) := by pointwise []
  have c : broadcastInDim S512x902 ![] bcast_S_S512x902 (cmpi .eq n (constantI S_ 32 0#32)) (ix2 r j) = IntOp.cmpi .eq (n (fun a => a.elim0)) 0#32 :=
    congrArg (fun z => IntOp.cmpi .eq (n z) 0#32) (Subsingleton.elim (α := S_.Idx) _ (fun a => a.elim0))
  show Scalar.select _ _ _ = _
  rw [c, e0, e1]
  match k, hk with
  | ⟨0, _⟩, h => rw [show n (fun a => a.elim0) = 0#32 from BitVec.eq_of_toNat_eq h.symm]; rfl
  | ⟨1, _⟩, h => rw [show n (fun a => a.elim0) = 1#32 from BitVec.eq_of_toNat_eq h.symm]; rfl

/-- The half is the reference's result. -/
theorem final (hO : Ok m) (hc : (chip m).toNat < 4) (hw : (core m).toNat < 2) (c : Dev nD) :
    Pipeline.afterTail pcfgs (fun _ => adm m hO) (dats m hO) 0 (V0 m) [hostOps1, hostOps1_1] c main_v9
    = Cert.ChipAddWInRefIdeal.Read.val_main_v26 (F := Ideal) (m ((c : Thread nD τ).loc main_arg0)) (m ((c : Thread nD τ).loc main_arg2)) (m ((c : Thread nD τ).loc main_arg3)) := by
  obtain rfl : c = 0 := Subsingleton.elim _ _
  unfold Pipeline.afterTail
  refine (tail _ ((dats m hO 0 0).arrAt 2 (cfgM m hO).N) (m (((0 : Dev nD) : Thread nD τ).loc main_arg1))
    (Pipeline.withArrays_arr spec0 (by decide) 0 (V0 m 0) _ 2)
    ((Pipeline.withArrays_of_ne spec0 0 (V0 m 0) _ main_arg1 (by exact (by decide : ∀ w, Pipeline.arrRef spec0 w ≠ main_arg1))).trans (V_main_arg1 m 0))).trans ?_
  funext y
  obtain ⟨r, j, rfl⟩ := split_half y
  refine (half_apply _ _ ⟨(core m).toNat, hw⟩ rfl r j).trans ?_
  refine of_blocks m hO 0 ⟨(core m).toNat, hw⟩ rfl _ (fun t r j => ?_) r j
  exact (block m hO 0 t r j _ _ _ _ (blk0 m hO 0 t ⟨(chip m).toNat, hc⟩ rfl r j) (blk1 m hO 0 t 0 r j) (blk1 m hO 0 t 1 r j) (blk1 m hO 0 t 2 r j)).trans
    (Cert.ChipAddWInRefIdeal.Value.v26_apply _ _ _ _ _ ⟨(chip m).toNat, hc⟩ rfl).symm

end Cert.ChipAddWInIdeal.Value

namespace Cert.ChipAddWInIdeal.Claim

open Idealize.ShloMosaic Idealize.ShloMosaic.TcCoe Idealize.SL.Sem

/-- The call computes what the reference computes. -/
theorem algebraic : Cert.algebraic_ChipAddWInIdeal_ChipAddWInRefIdeal (hChipAddWInIdeal := Cert.ChipAddWInIdeal.Gen.facts) (hChipAddWInRefIdeal := Cert.ChipAddWInRefIdeal.Gen.facts) (hPre_a_place_w_in := Cert.Pre_a_place_w_in.Gen.facts) := by
  intro m g m' g' pre h
  have hw := Cert.ChipAddWInIdeal.Table.in_range m pre
  have hO := Cert.ChipAddWInIdeal.Table.ok_of_pre m pre
  refine ⟨fun c => Cert.ChipAddWInRefIdeal.Read.val_main_v26 (F := Ideal) (m (c.tc.loc Cert.ChipAddWInIdeal.main_arg0)) (m (c.tc.loc Cert.ChipAddWInIdeal.main_arg2)) (m (c.tc.loc Cert.ChipAddWInIdeal.main_arg3)), ?_, ?_⟩
  · refine (θ_run _ _ _).mono (fun r hr c => ⟨?_, hr.2 c⟩) (θ_run_and (Cert.ChipAddWInIdeal.Gen.run_main m g hO) (Cert.ChipAddWInIdeal.Gen.unchanged m g hO))
    exact ((hr.1 c).2 Cert.ChipAddWInIdeal.main_v9 (by decide : Cert.ChipAddWInIdeal.main_v9 ∈ Pipeline.restRefs Cert.ChipAddWInIdeal.sig Cert.ChipAddWInIdeal.spec0)).trans (Cert.ChipAddWInIdeal.Value.final m hO hw.1 hw.2 c)
  · refine (θ_run _ _ _).mono (fun r hr c => ⟨(hr c).1.trans ?_, (hr c).2⟩) (Cert.ChipAddWInRefIdeal.Value.run m' g')
    refine (Cert.ChipAddWInRefIdeal.Read.val_main_v26_eq _ _ _).trans ?_
    show Cert.ChipAddWInRefIdeal.Read.val_main_v26 (F := Ideal) (m' (c.tc.loc Cert.ChipAddWInRefIdeal.main_arg0)) (m' (c.tc.loc Cert.ChipAddWInRefIdeal.main_arg2)) (m' (c.tc.loc Cert.ChipAddWInRefIdeal.main_arg3)) = _
    rw [(h c).1, (h c).2.2.1, (h c).2.2.2]

end Cert.ChipAddWInIdeal.Claim

end
-- ==== Proof.lean ====
module

public import proofs.«01_k».proof.Defs
public import proofs.«01_k».proof.Proof.Gen.Pre_value_finite
public import proofs.«01_k».proof.Proof.Gen.Pre_given_finite
public import proofs.«01_k».proof.Proof.Gen.Pre_a_core_w_up
public import proofs.«01_k».proof.Proof.Gen.Pre_a_core_w_down
public import proofs.«01_k».proof.Proof.Gen.Pre_a_core_w_o
public import proofs.«01_k».proof.Proof.Gen.Pre_a_core_w_in
public import proofs.«01_k».proof.Proof.Gen.Pre_a_chip_w_up
public import proofs.«01_k».proof.Proof.Gen.Pre_a_chip_w_down
public import proofs.«01_k».proof.Proof.Gen.Pre_a_chip_w_o
public import proofs.«01_k».proof.Proof.Gen.Pre_a_chip_w_in
public import proofs.«01_k».proof.Proof.Gen.Pre_a_place_w_up
public import proofs.«01_k».proof.Proof.Gen.Pre_a_place_w_down
public import proofs.«01_k».proof.Proof.Gen.Pre_a_place_w_o
public import proofs.«01_k».proof.Proof.Gen.Pre_a_place_w_in
public import proofs.«01_k».proof.Proof.Gen.MmGDown
public import proofs.«01_k».proof.Proof.Gen.MmGDown.Skeleton
public import proofs.«01_k».proof.Proof.Gen.MmGDown.Launch
public import proofs.«01_k».proof.Proof.Gen.MmGDown.Points
public import proofs.«01_k».proof.Proof.Gen.MmGDown.Frame
public import proofs.«01_k».proof.Proof.Gen.MmGDownIdeal
public import proofs.«01_k».proof.Proof.Gen.MmGDownIdeal.Skeleton
public import proofs.«01_k».proof.Proof.Gen.MmGDownIdeal.Launch
public import proofs.«01_k».proof.Proof.Gen.MmGDownIdeal.Points
public import proofs.«01_k».proof.Proof.Gen.MmGDownIdeal.Frame
public import proofs.«01_k».proof.Proof.Gen.MmGDownIdeal.Value
public import proofs.«01_k».proof.Proof.Gen.MmGDownRefIdeal
public import proofs.«01_k».proof.Proof.Gen.MmGDownRefIdeal.Run
public import proofs.«01_k».proof.Proof.Gen.MmGDownRefIdeal.Read
public import proofs.«01_k».proof.Proof.Gen.MmDAct
public import proofs.«01_k».proof.Proof.Gen.MmDAct.Skeleton
public import proofs.«01_k».proof.Proof.Gen.MmDAct.Launch
public import proofs.«01_k».proof.Proof.Gen.MmDAct.Points
public import proofs.«01_k».proof.Proof.Gen.MmDAct.Frame
public import proofs.«01_k».proof.Proof.Gen.MmDActIdeal
public import proofs.«01_k».proof.Proof.Gen.MmDActIdeal.Skeleton
public import proofs.«01_k».proof.Proof.Gen.MmDActIdeal.Launch
public import proofs.«01_k».proof.Proof.Gen.MmDActIdeal.Points
public import proofs.«01_k».proof.Proof.Gen.MmDActIdeal.Frame
public import proofs.«01_k».proof.Proof.Gen.MmDActIdeal.Value
public import proofs.«01_k».proof.Proof.Gen.MmDActRefIdeal
public import proofs.«01_k».proof.Proof.Gen.MmDActRefIdeal.Run
public import proofs.«01_k».proof.Proof.Gen.MmDActRefIdeal.Read
public import proofs.«01_k».proof.Proof.Gen.MmGUp
public import proofs.«01_k».proof.Proof.Gen.MmGUp.Skeleton
public import proofs.«01_k».proof.Proof.Gen.MmGUp.Launch
public import proofs.«01_k».proof.Proof.Gen.MmGUp.Points
public import proofs.«01_k».proof.Proof.Gen.MmGUp.Frame
public import proofs.«01_k».proof.Proof.Gen.MmGUpIdeal
public import proofs.«01_k».proof.Proof.Gen.MmGUpIdeal.Skeleton
public import proofs.«01_k».proof.Proof.Gen.MmGUpIdeal.Launch
public import proofs.«01_k».proof.Proof.Gen.MmGUpIdeal.Points
public import proofs.«01_k».proof.Proof.Gen.MmGUpIdeal.Frame
public import proofs.«01_k».proof.Proof.Gen.MmGUpIdeal.Value
public import proofs.«01_k».proof.Proof.Gen.MmGUpRefIdeal
public import proofs.«01_k».proof.Proof.Gen.MmGUpRefIdeal.Run
public import proofs.«01_k».proof.Proof.Gen.MmGUpRefIdeal.Read
public import proofs.«01_k».proof.Proof.Gen.MmDH2
public import proofs.«01_k».proof.Proof.Gen.MmDH2.Skeleton
public import proofs.«01_k».proof.Proof.Gen.MmDH2.Launch
public import proofs.«01_k».proof.Proof.Gen.MmDH2.Points
public import proofs.«01_k».proof.Proof.Gen.MmDH2.Frame
public import proofs.«01_k».proof.Proof.Gen.MmDH2Ideal
public import proofs.«01_k».proof.Proof.Gen.MmDH2Ideal.Skeleton
public import proofs.«01_k».proof.Proof.Gen.MmDH2Ideal.Launch
public import proofs.«01_k».proof.Proof.Gen.MmDH2Ideal.Points
public import proofs.«01_k».proof.Proof.Gen.MmDH2Ideal.Frame
public import proofs.«01_k».proof.Proof.Gen.MmDH2Ideal.Value
public import proofs.«01_k».proof.Proof.Gen.MmDH2RefIdeal
public import proofs.«01_k».proof.Proof.Gen.MmDH2RefIdeal.Run
public import proofs.«01_k».proof.Proof.Gen.MmDH2RefIdeal.Read
public import proofs.«01_k».proof.Proof.Gen.MmGWo
public import proofs.«01_k».proof.Proof.Gen.MmGWo.Skeleton
public import proofs.«01_k».proof.Proof.Gen.MmGWo.Launch
public import proofs.«01_k».proof.Proof.Gen.MmGWo.Points
public import proofs.«01_k».proof.Proof.Gen.MmGWo.Frame
public import proofs.«01_k».proof.Proof.Gen.MmGWoIdeal
public import proofs.«01_k».proof.Proof.Gen.MmGWoIdeal.Skeleton
public import proofs.«01_k».proof.Proof.Gen.MmGWoIdeal.Launch
public import proofs.«01_k».proof.Proof.Gen.MmGWoIdeal.Points
public import proofs.«01_k».proof.Proof.Gen.MmGWoIdeal.Frame
public import proofs.«01_k».proof.Proof.Gen.MmGWoIdeal.Value
public import proofs.«01_k».proof.Proof.Gen.MmGWoRefIdeal
public import proofs.«01_k».proof.Proof.Gen.MmGWoRefIdeal.Run
public import proofs.«01_k».proof.Proof.Gen.MmGWoRefIdeal.Read
public import proofs.«01_k».proof.Proof.Gen.MmDO
public import proofs.«01_k».proof.Proof.Gen.MmDO.Skeleton
public import proofs.«01_k».proof.Proof.Gen.MmDO.Launch
public import proofs.«01_k».proof.Proof.Gen.MmDO.Points
public import proofs.«01_k».proof.Proof.Gen.MmDO.Frame
public import proofs.«01_k».proof.Proof.Gen.MmDOIdeal
public import proofs.«01_k».proof.Proof.Gen.MmDOIdeal.Skeleton
public import proofs.«01_k».proof.Proof.Gen.MmDOIdeal.Launch
public import proofs.«01_k».proof.Proof.Gen.MmDOIdeal.Points
public import proofs.«01_k».proof.Proof.Gen.MmDOIdeal.Frame
public import proofs.«01_k».proof.Proof.Gen.MmDOIdeal.Value
public import proofs.«01_k».proof.Proof.Gen.MmDORefIdeal
public import proofs.«01_k».proof.Proof.Gen.MmDORefIdeal.Run
public import proofs.«01_k».proof.Proof.Gen.MmDORefIdeal.Read
public import proofs.«01_k».proof.Proof.Gen.MmGWin
public import proofs.«01_k».proof.Proof.Gen.MmGWin.Skeleton
public import proofs.«01_k».proof.Proof.Gen.MmGWin.Launch
public import proofs.«01_k».proof.Proof.Gen.MmGWin.Points
public import proofs.«01_k».proof.Proof.Gen.MmGWin.Frame
public import proofs.«01_k».proof.Proof.Gen.MmGWinIdeal
public import proofs.«01_k».proof.Proof.Gen.MmGWinIdeal.Skeleton
public import proofs.«01_k».proof.Proof.Gen.MmGWinIdeal.Launch
public import proofs.«01_k».proof.Proof.Gen.MmGWinIdeal.Points
public import proofs.«01_k».proof.Proof.Gen.MmGWinIdeal.Frame
public import proofs.«01_k».proof.Proof.Gen.MmGWinIdeal.Value
public import proofs.«01_k».proof.Proof.Gen.MmGWinRefIdeal
public import proofs.«01_k».proof.Proof.Gen.MmGWinRefIdeal.Run
public import proofs.«01_k».proof.Proof.Gen.MmGWinRefIdeal.Read
public import proofs.«01_k».proof.Proof.Gen.MmDH1
public import proofs.«01_k».proof.Proof.Gen.MmDH1.Skeleton
public import proofs.«01_k».proof.Proof.Gen.MmDH1.Launch
public import proofs.«01_k».proof.Proof.Gen.MmDH1.Points
public import proofs.«01_k».proof.Proof.Gen.MmDH1.Frame
public import proofs.«01_k».proof.Proof.Gen.MmDH1Ideal
public import proofs.«01_k».proof.Proof.Gen.MmDH1Ideal.Skeleton
public import proofs.«01_k».proof.Proof.Gen.MmDH1Ideal.Launch
public import proofs.«01_k».proof.Proof.Gen.MmDH1Ideal.Points
public import proofs.«01_k».proof.Proof.Gen.MmDH1Ideal.Frame
public import proofs.«01_k».proof.Proof.Gen.MmDH1Ideal.Value
public import proofs.«01_k».proof.Proof.Gen.MmDH1RefIdeal
public import proofs.«01_k».proof.Proof.Gen.MmDH1RefIdeal.Run
public import proofs.«01_k».proof.Proof.Gen.MmDH1RefIdeal.Read
public import proofs.«01_k».proof.Proof.Gen.MmProj
public import proofs.«01_k».proof.Proof.Gen.MmProj.Skeleton
public import proofs.«01_k».proof.Proof.Gen.MmProj.Launch
public import proofs.«01_k».proof.Proof.Gen.MmProj.Points
public import proofs.«01_k».proof.Proof.Gen.MmProj.Frame
public import proofs.«01_k».proof.Proof.Gen.MmProjIdeal
public import proofs.«01_k».proof.Proof.Gen.MmProjIdeal.Skeleton
public import proofs.«01_k».proof.Proof.Gen.MmProjIdeal.Launch
public import proofs.«01_k».proof.Proof.Gen.MmProjIdeal.Points
public import proofs.«01_k».proof.Proof.Gen.MmProjIdeal.Frame
public import proofs.«01_k».proof.Proof.Gen.MmProjIdeal.Value
public import proofs.«01_k».proof.Proof.Gen.MmProjRefIdeal
public import proofs.«01_k».proof.Proof.Gen.MmProjRefIdeal.Run
public import proofs.«01_k».proof.Proof.Gen.MmProjRefIdeal.Read
public import proofs.«01_k».proof.Proof.Gen.MmWo
public import proofs.«01_k».proof.Proof.Gen.MmWo.Skeleton
public import proofs.«01_k».proof.Proof.Gen.MmWo.Launch
public import proofs.«01_k».proof.Proof.Gen.MmWo.Points
public import proofs.«01_k».proof.Proof.Gen.MmWo.Frame
public import proofs.«01_k».proof.Proof.Gen.MmWoIdeal
public import proofs.«01_k».proof.Proof.Gen.MmWoIdeal.Skeleton
public import proofs.«01_k».proof.Proof.Gen.MmWoIdeal.Launch
public import proofs.«01_k».proof.Proof.Gen.MmWoIdeal.Points
public import proofs.«01_k».proof.Proof.Gen.MmWoIdeal.Frame
public import proofs.«01_k».proof.Proof.Gen.MmWoIdeal.Value
public import proofs.«01_k».proof.Proof.Gen.MmWoRefIdeal
public import proofs.«01_k».proof.Proof.Gen.MmWoRefIdeal.Run
public import proofs.«01_k».proof.Proof.Gen.MmWoRefIdeal.Read
public import proofs.«01_k».proof.Proof.Gen.MmUp
public import proofs.«01_k».proof.Proof.Gen.MmUp.Skeleton
public import proofs.«01_k».proof.Proof.Gen.MmUp.Launch
public import proofs.«01_k».proof.Proof.Gen.MmUp.Points
public import proofs.«01_k».proof.Proof.Gen.MmUp.Frame
public import proofs.«01_k».proof.Proof.Gen.MmUpIdeal
public import proofs.«01_k».proof.Proof.Gen.MmUpIdeal.Skeleton
public import proofs.«01_k».proof.Proof.Gen.MmUpIdeal.Launch
public import proofs.«01_k».proof.Proof.Gen.MmUpIdeal.Points
public import proofs.«01_k».proof.Proof.Gen.MmUpIdeal.Frame
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmUpRefIdeal.Read
public import proofs.«01_k».proof.Proof.Gen.MmDown
public import proofs.«01_k».proof.Proof.Gen.MmDown.Skeleton
public import proofs.«01_k».proof.Proof.Gen.MmDown.Launch
public import proofs.«01_k».proof.Proof.Gen.MmDown.Points
public import proofs.«01_k».proof.Proof.Gen.MmDown.Frame
public import proofs.«01_k».proof.Proof.Gen.MmDownIdeal
public import proofs.«01_k».proof.Proof.Gen.MmDownIdeal.Skeleton
public import proofs.«01_k».proof.Proof.Gen.MmDownIdeal.Launch
public import proofs.«01_k».proof.Proof.Gen.MmDownIdeal.Points
public import proofs.«01_k».proof.Proof.Gen.MmDownIdeal.Frame
public import proofs.«01_k».proof.Proof.Gen.MmDownIdeal.Value
public import proofs.«01_k».proof.Proof.Gen.MmDownRefIdeal
public import proofs.«01_k».proof.Proof.Gen.MmDownRefIdeal.Run
public import proofs.«01_k».proof.Proof.Gen.MmDownRefIdeal.Read
public import proofs.«01_k».proof.Proof.Gen.MmGAda
public import proofs.«01_k».proof.Proof.Gen.MmGAda.Skeleton
public import proofs.«01_k».proof.Proof.Gen.MmGAda.Launch
public import proofs.«01_k».proof.Proof.Gen.MmGAda.Points
public import proofs.«01_k».proof.Proof.Gen.MmGAda.Frame
public import proofs.«01_k».proof.Proof.Gen.MmGAdaIdeal
public import proofs.«01_k».proof.Proof.Gen.MmGAdaIdeal.Skeleton
public import proofs.«01_k».proof.Proof.Gen.MmGAdaIdeal.Launch
public import proofs.«01_k».proof.Proof.Gen.MmGAdaIdeal.Points
public import proofs.«01_k».proof.Proof.Gen.MmGAdaIdeal.Frame
public import proofs.«01_k».proof.Proof.Gen.MmGAdaIdeal.Value
public import proofs.«01_k».proof.Proof.Gen.MmGAdaRefIdeal
public import proofs.«01_k».proof.Proof.Gen.MmGAdaRefIdeal.Run
public import proofs.«01_k».proof.Proof.Gen.MmGAdaRefIdeal.Read
public import proofs.«01_k».proof.Proof.Gen.ColSum
public import proofs.«01_k».proof.Proof.Gen.ColSum.Skeleton
public import proofs.«01_k».proof.Proof.Gen.ColSum.Launch
public import proofs.«01_k».proof.Proof.Gen.ColSum.Points
public import proofs.«01_k».proof.Proof.Gen.ColSum.Frame
public import proofs.«01_k».proof.Proof.Gen.ColSumIdeal
public import proofs.«01_k».proof.Proof.Gen.ColSumIdeal.Skeleton
public import proofs.«01_k».proof.Proof.Gen.ColSumIdeal.Launch
public import proofs.«01_k».proof.Proof.Gen.ColSumIdeal.Points
public import proofs.«01_k».proof.Proof.Gen.ColSumIdeal.Frame
public import proofs.«01_k».proof.Proof.Gen.ColSumIdeal.Value
public import proofs.«01_k».proof.Proof.Gen.ColSumRefIdeal
public import proofs.«01_k».proof.Proof.Gen.ColSumRefIdeal.Run
public import proofs.«01_k».proof.Proof.Gen.ColSumRefIdeal.Read
public import proofs.«01_k».proof.Proof.Gen.Ln0Bwd
public import proofs.«01_k».proof.Proof.Gen.Ln0Bwd.Skeleton
public import proofs.«01_k».proof.Proof.Gen.Ln0Bwd.Launch
public import proofs.«01_k».proof.Proof.Gen.Ln0Bwd.Points
public import proofs.«01_k».proof.Proof.Gen.Ln0Bwd.Frame
public import proofs.«01_k».proof.Proof.Gen.Ln0BwdIdeal
public import proofs.«01_k».proof.Proof.Gen.Ln0BwdIdeal.Skeleton
public import proofs.«01_k».proof.Proof.Gen.Ln0BwdIdeal.Launch
public import proofs.«01_k».proof.Proof.Gen.Ln0BwdIdeal.Points
public import proofs.«01_k».proof.Proof.Gen.Ln0BwdIdeal.Frame
public import proofs.«01_k».proof.Proof.Gen.Ln0BwdIdeal.Value
public import proofs.«01_k».proof.Proof.Gen.Ln0BwdRefIdeal
public import proofs.«01_k».proof.Proof.Gen.Ln0BwdRefIdeal.Run
public import proofs.«01_k».proof.Proof.Gen.Ln0BwdRefIdeal.Read
public import proofs.«01_k».proof.Proof.Gen.Ln1Bwd
public import proofs.«01_k».proof.Proof.Gen.Ln1Bwd.Skeleton
public import proofs.«01_k».proof.Proof.Gen.Ln1Bwd.Launch
public import proofs.«01_k».proof.Proof.Gen.Ln1Bwd.Points
public import proofs.«01_k».proof.Proof.Gen.Ln1Bwd.Frame
public import proofs.«01_k».proof.Proof.Gen.Ln1BwdIdeal
public import proofs.«01_k».proof.Proof.Gen.Ln1BwdIdeal.Skeleton
public import proofs.«01_k».proof.Proof.Gen.Ln1BwdIdeal.Launch
public import proofs.«01_k».proof.Proof.Gen.Ln1BwdIdeal.Points
public import proofs.«01_k».proof.Proof.Gen.Ln1BwdIdeal.Frame
public import proofs.«01_k».proof.Proof.Gen.Ln1BwdIdeal.Value
public import proofs.«01_k».proof.Proof.Gen.Ln1BwdRefIdeal
public import proofs.«01_k».proof.Proof.Gen.Ln1BwdRefIdeal.Run
public import proofs.«01_k».proof.Proof.Gen.Ln1BwdRefIdeal.Read
public import proofs.«01_k».proof.Proof.Gen.Ln2LossBwd
public import proofs.«01_k».proof.Proof.Gen.Ln2LossBwd.Skeleton
public import proofs.«01_k».proof.Proof.Gen.Ln2LossBwd.Launch
public import proofs.«01_k».proof.Proof.Gen.Ln2LossBwd.Points
public import proofs.«01_k».proof.Proof.Gen.Ln2LossBwd.Frame
public import proofs.«01_k».proof.Proof.Gen.Ln2LossBwdIdeal
public import proofs.«01_k».proof.Proof.Gen.Ln2LossBwdIdeal.Skeleton
public import proofs.«01_k».proof.Proof.Gen.Ln2LossBwdIdeal.Launch
public import proofs.«01_k».proof.Proof.Gen.Ln2LossBwdIdeal.Points
public import proofs.«01_k».proof.Proof.Gen.Ln2LossBwdIdeal.Frame
public import proofs.«01_k».proof.Proof.Gen.Ln2LossBwdIdeal.Value
public import proofs.«01_k».proof.Proof.Gen.Ln2LossBwdRefIdeal
public import proofs.«01_k».proof.Proof.Gen.Ln2LossBwdRefIdeal.Run
public import proofs.«01_k».proof.Proof.Gen.Ln2LossBwdRefIdeal.Read
public import proofs.«01_k».proof.Proof.Gen.Ln0Fwd
public import proofs.«01_k».proof.Proof.Gen.Ln0Fwd.Skeleton
public import proofs.«01_k».proof.Proof.Gen.Ln0Fwd.Launch
public import proofs.«01_k».proof.Proof.Gen.Ln0Fwd.Points
public import proofs.«01_k».proof.Proof.Gen.Ln0Fwd.Frame
public import proofs.«01_k».proof.Proof.Gen.Ln0FwdIdeal
public import proofs.«01_k».proof.Proof.Gen.Ln0FwdIdeal.Skeleton
public import proofs.«01_k».proof.Proof.Gen.Ln0FwdIdeal.Launch
public import proofs.«01_k».proof.Proof.Gen.Ln0FwdIdeal.Points
public import proofs.«01_k».proof.Proof.Gen.Ln0FwdIdeal.Frame
public import proofs.«01_k».proof.Proof.Gen.Ln0FwdIdeal.Value
public import proofs.«01_k».proof.Proof.Gen.Ln0FwdRefIdeal
public import proofs.«01_k».proof.Proof.Gen.Ln0FwdRefIdeal.Run
public import proofs.«01_k».proof.Proof.Gen.Ln0FwdRefIdeal.Read
public import proofs.«01_k».proof.Proof.Gen.Ln1Fwd
public import proofs.«01_k».proof.Proof.Gen.Ln1Fwd.Skeleton
public import proofs.«01_k».proof.Proof.Gen.Ln1Fwd.Launch
public import proofs.«01_k».proof.Proof.Gen.Ln1Fwd.Points
public import proofs.«01_k».proof.Proof.Gen.Ln1Fwd.Frame
public import proofs.«01_k».proof.Proof.Gen.Ln1FwdIdeal
public import proofs.«01_k».proof.Proof.Gen.Ln1FwdIdeal.Skeleton
public import proofs.«01_k».proof.Proof.Gen.Ln1FwdIdeal.Launch
public import proofs.«01_k».proof.Proof.Gen.Ln1FwdIdeal.Points
public import proofs.«01_k».proof.Proof.Gen.Ln1FwdIdeal.Frame
public import proofs.«01_k».proof.Proof.Gen.Ln1FwdIdeal.Value
public import proofs.«01_k».proof.Proof.Gen.Ln1FwdRefIdeal
public import proofs.«01_k».proof.Proof.Gen.Ln1FwdRefIdeal.Run
public import proofs.«01_k».proof.Proof.Gen.Ln1FwdRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.DnPreFwd
public import proofs.«01_k».proof.Proof.Gen.DnPreFwd.Skeleton
public import proofs.«01_k».proof.Proof.Gen.DnPreFwd.Launch
public import proofs.«01_k».proof.Proof.Gen.DnPreFwd.Points
public import proofs.«01_k».proof.Proof.Gen.DnPreFwd.Frame
public import proofs.«01_k».proof.Proof.Gen.DnPreFwdIdeal
public import proofs.«01_k».proof.Proof.Gen.DnPreFwdIdeal.Skeleton
public import proofs.«01_k».proof.Proof.Gen.DnPreFwdIdeal.Launch
public import proofs.«01_k».proof.Proof.Gen.DnPreFwdIdeal.Points
public import proofs.«01_k».proof.Proof.Gen.DnPreFwdIdeal.Frame
public import proofs.«01_k».proof.Proof.Gen.DnPreFwdIdeal.Value
public import proofs.«01_k».proof.Proof.Gen.DnPreFwdRefIdeal
public import proofs.«01_k».proof.Proof.Gen.DnPreFwdRefIdeal.Run
public import proofs.«01_k».proof.Proof.Gen.DnPreFwdRefIdeal.Read
public import proofs.«01_k».proof.Proof.Gen.WInPadded
public import proofs.«01_k».proof.Proof.Gen.WInPadded.Skeleton
public import proofs.«01_k».proof.Proof.Gen.WInPadded.Launch
public import proofs.«01_k».proof.Proof.Gen.WInPadded.Points
public import proofs.«01_k».proof.Proof.Gen.WInPadded.Frame
public import proofs.«01_k».proof.Proof.Gen.WInPaddedIdeal
public import proofs.«01_k».proof.Proof.Gen.WInPaddedIdeal.Skeleton
public import proofs.«01_k».proof.Proof.Gen.WInPaddedIdeal.Launch
public import proofs.«01_k».proof.Proof.Gen.WInPaddedIdeal.Points
public import proofs.«01_k».proof.Proof.Gen.WInPaddedIdeal.Frame
public import proofs.«01_k».proof.Proof.Gen.WInPaddedIdeal.Value
public import proofs.«01_k».proof.Proof.Gen.WInPaddedRefIdeal
public import proofs.«01_k».proof.Proof.Gen.WInPaddedRefIdeal.Run
public import proofs.«01_k».proof.Proof.Gen.WInPaddedRefIdeal.Read
public import proofs.«01_k».proof.Proof.Gen.WInChips
public import proofs.«01_k».proof.Proof.Gen.WInChips.Skeleton
public import proofs.«01_k».proof.Proof.Gen.WInChips.Launch
public import proofs.«01_k».proof.Proof.Gen.WInChips.Points
public import proofs.«01_k».proof.Proof.Gen.WInChips.Frame
public import proofs.«01_k».proof.Proof.Gen.WInChipsIdeal
public import proofs.«01_k».proof.Proof.Gen.WInChipsIdeal.Skeleton
public import proofs.«01_k».proof.Proof.Gen.WInChipsIdeal.Launch
public import proofs.«01_k».proof.Proof.Gen.WInChipsIdeal.Points
public import proofs.«01_k».proof.Proof.Gen.WInChipsIdeal.Frame
public import proofs.«01_k».proof.Proof.Gen.WInChipsIdeal.Value
public import proofs.«01_k».proof.Proof.Gen.WInChipsRefIdeal
public import proofs.«01_k».proof.Proof.Gen.WInChipsRefIdeal.Run
public import proofs.«01_k».proof.Proof.Gen.WInChipsRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamWO
public import proofs.«01_k».proof.Proof.Gen.AdamWO.Skeleton
public import proofs.«01_k».proof.Proof.Gen.AdamWO.Launch
public import proofs.«01_k».proof.Proof.Gen.AdamWO.Points
public import proofs.«01_k».proof.Proof.Gen.AdamWO.Frame
public import proofs.«01_k».proof.Proof.Gen.AdamWOIdeal
public import proofs.«01_k».proof.Proof.Gen.AdamWOIdeal.Skeleton
public import proofs.«01_k».proof.Proof.Gen.AdamWOIdeal.Launch
public import proofs.«01_k».proof.Proof.Gen.AdamWOIdeal.Points
public import proofs.«01_k».proof.Proof.Gen.AdamWOIdeal.Frame
public import proofs.«01_k».proof.Proof.Gen.AdamWOIdeal.Value
public import proofs.«01_k».proof.Proof.Gen.AdamWORefIdeal
public import proofs.«01_k».proof.Proof.Gen.AdamWORefIdeal.Run
public import proofs.«01_k».proof.Proof.Gen.AdamWORefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamWin
public import proofs.«01_k».proof.Proof.Gen.AdamWin.Skeleton
public import proofs.«01_k».proof.Proof.Gen.AdamWin.Launch
public import proofs.«01_k».proof.Proof.Gen.AdamWin.Points
public import proofs.«01_k».proof.Proof.Gen.AdamWin.Frame
public import proofs.«01_k».proof.Proof.Gen.AdamWinIdeal
public import proofs.«01_k».proof.Proof.Gen.AdamWinIdeal.Skeleton
public import proofs.«01_k».proof.Proof.Gen.AdamWinIdeal.Launch
public import proofs.«01_k».proof.Proof.Gen.AdamWinIdeal.Points
public import proofs.«01_k».proof.Proof.Gen.AdamWinIdeal.Frame
public import proofs.«01_k».proof.Proof.Gen.AdamWinIdeal.Value
public import proofs.«01_k».proof.Proof.Gen.AdamWinRefIdeal
public import proofs.«01_k».proof.Proof.Gen.AdamWinRefIdeal.Run
public import proofs.«01_k».proof.Proof.Gen.AdamWinRefIdeal.Read
public import proofs.«01_k».proof.Proof.Gen.AdamSmallA
public import proofs.«01_k».proof.Proof.Gen.AdamSmallA.Skeleton
public import proofs.«01_k».proof.Proof.Gen.AdamSmallA.Launch
public import proofs.«01_k».proof.Proof.Gen.AdamSmallA.Points
public import proofs.«01_k».proof.Proof.Gen.AdamSmallA.Frame
public import proofs.«01_k».proof.Proof.Gen.AdamSmallAIdeal
public import proofs.«01_k».proof.Proof.Gen.AdamSmallAIdeal.Skeleton
public import proofs.«01_k».proof.Proof.Gen.AdamSmallAIdeal.Launch
public import proofs.«01_k».proof.Proof.Gen.AdamSmallAIdeal.Points
public import proofs.«01_k».proof.Proof.Gen.AdamSmallAIdeal.Frame
public import proofs.«01_k».proof.Proof.Gen.AdamSmallAIdeal.Value
public import proofs.«01_k».proof.Proof.Gen.AdamSmallARefIdeal
public import proofs.«01_k».proof.Proof.Gen.AdamSmallARefIdeal.Run
public import proofs.«01_k».proof.Proof.Gen.AdamSmallARefIdeal.Read
public import proofs.«01_k».proof.Proof.Gen.AdamSmallB
public import proofs.«01_k».proof.Proof.Gen.AdamSmallB.Skeleton
public import proofs.«01_k».proof.Proof.Gen.AdamSmallB.Launch
public import proofs.«01_k».proof.Proof.Gen.AdamSmallB.Points
public import proofs.«01_k».proof.Proof.Gen.AdamSmallB.Frame
public import proofs.«01_k».proof.Proof.Gen.AdamSmallBIdeal
public import proofs.«01_k».proof.Proof.Gen.AdamSmallBIdeal.Skeleton
public import proofs.«01_k».proof.Proof.Gen.AdamSmallBIdeal.Launch
public import proofs.«01_k».proof.Proof.Gen.AdamSmallBIdeal.Points
public import proofs.«01_k».proof.Proof.Gen.AdamSmallBIdeal.Frame
public import proofs.«01_k».proof.Proof.Gen.AdamSmallBIdeal.Value
public import proofs.«01_k».proof.Proof.Gen.AdamSmallBRefIdeal
public import proofs.«01_k».proof.Proof.Gen.AdamSmallBRefIdeal.Run
public import proofs.«01_k».proof.Proof.Gen.AdamSmallBRefIdeal.Read
public import proofs.«01_k».proof.Proof.Gen.AdamSmallC
public import proofs.«01_k».proof.Proof.Gen.AdamSmallC.Skeleton
public import proofs.«01_k».proof.Proof.Gen.AdamSmallC.Launch
public import proofs.«01_k».proof.Proof.Gen.AdamSmallC.Points
public import proofs.«01_k».proof.Proof.Gen.AdamSmallC.Frame
public import proofs.«01_k».proof.Proof.Gen.AdamSmallCIdeal
public import proofs.«01_k».proof.Proof.Gen.AdamSmallCIdeal.Skeleton
public import proofs.«01_k».proof.Proof.Gen.AdamSmallCIdeal.Launch
public import proofs.«01_k».proof.Proof.Gen.AdamSmallCIdeal.Points
public import proofs.«01_k».proof.Proof.Gen.AdamSmallCIdeal.Frame
public import proofs.«01_k».proof.Proof.Gen.AdamSmallCIdeal.Value
public import proofs.«01_k».proof.Proof.Gen.AdamSmallCRefIdeal
public import proofs.«01_k».proof.Proof.Gen.AdamSmallCRefIdeal.Run
public import proofs.«01_k».proof.Proof.Gen.AdamSmallCRefIdeal.Read
public import proofs.«01_k».proof.Proof.Gen.AdamSmallD
public import proofs.«01_k».proof.Proof.Gen.AdamSmallD.Skeleton
public import proofs.«01_k».proof.Proof.Gen.AdamSmallD.Launch
public import proofs.«01_k».proof.Proof.Gen.AdamSmallD.Points
public import proofs.«01_k».proof.Proof.Gen.AdamSmallD.Frame
public import proofs.«01_k».proof.Proof.Gen.AdamSmallDIdeal
public import proofs.«01_k».proof.Proof.Gen.AdamSmallDIdeal.Skeleton
public import proofs.«01_k».proof.Proof.Gen.AdamSmallDIdeal.Launch
public import proofs.«01_k».proof.Proof.Gen.AdamSmallDIdeal.Points
public import proofs.«01_k».proof.Proof.Gen.AdamSmallDIdeal.Frame
public import proofs.«01_k».proof.Proof.Gen.AdamSmallDIdeal.Value
public import proofs.«01_k».proof.Proof.Gen.AdamSmallDRefIdeal
public import proofs.«01_k».proof.Proof.Gen.AdamSmallDRefIdeal.Run
public import proofs.«01_k».proof.Proof.Gen.AdamSmallDRefIdeal.Read
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.DnPreBwd
public import proofs.«01_k».proof.Proof.Gen.DnPreBwd.Skeleton
public import proofs.«01_k».proof.Proof.Gen.DnPreBwd.Launch
public import proofs.«01_k».proof.Proof.Gen.DnPreBwd.Points
public import proofs.«01_k».proof.Proof.Gen.DnPreBwd.Frame
public import proofs.«01_k».proof.Proof.Gen.DnPreBwdIdeal
public import proofs.«01_k».proof.Proof.Gen.DnPreBwdIdeal.Skeleton
public import proofs.«01_k».proof.Proof.Gen.DnPreBwdIdeal.Launch
public import proofs.«01_k».proof.Proof.Gen.DnPreBwdIdeal.Points
public import proofs.«01_k».proof.Proof.Gen.DnPreBwdIdeal.Frame
public import proofs.«01_k».proof.Proof.Gen.DnPreBwdIdeal.Value
public import proofs.«01_k».proof.Proof.Gen.DnPreBwdRefIdeal
public import proofs.«01_k».proof.Proof.Gen.DnPreBwdRefIdeal.Run
public import proofs.«01_k».proof.Proof.Gen.DnPreBwdRefIdeal.Read
public import proofs.«01_k».proof.Proof.Gen.PairAddWUp
public import proofs.«01_k».proof.Proof.Gen.PairAddWUp.Skeleton
public import proofs.«01_k».proof.Proof.Gen.PairAddWUp.Launch
public import proofs.«01_k».proof.Proof.Gen.PairAddWUp.Points
public import proofs.«01_k».proof.Proof.Gen.PairAddWUp.Frame
public import proofs.«01_k».proof.Proof.Gen.PairAddWUpIdeal
public import proofs.«01_k».proof.Proof.Gen.PairAddWUpIdeal.Skeleton
public import proofs.«01_k».proof.Proof.Gen.PairAddWUpIdeal.Launch
public import proofs.«01_k».proof.Proof.Gen.PairAddWUpIdeal.Points
public import proofs.«01_k».proof.Proof.Gen.PairAddWUpIdeal.Frame
public import proofs.«01_k».proof.Proof.Gen.PairAddWUpRefIdeal
public import proofs.«01_k».proof.Proof.Gen.PairAddWUpRefIdeal.Run
public import proofs.«01_k».proof.Proof.Gen.PairAddWUpRefIdeal.Read
public import proofs.«01_k».proof.Proof.Gen.PairAddWDown
public import proofs.«01_k».proof.Proof.Gen.PairAddWDown.Skeleton
public import proofs.«01_k».proof.Proof.Gen.PairAddWDown.Launch
public import proofs.«01_k».proof.Proof.Gen.PairAddWDown.Points
public import proofs.«01_k».proof.Proof.Gen.PairAddWDown.Frame
public import proofs.«01_k».proof.Proof.Gen.PairAddWDownIdeal
public import proofs.«01_k».proof.Proof.Gen.PairAddWDownIdeal.Skeleton
public import proofs.«01_k».proof.Proof.Gen.PairAddWDownIdeal.Launch
public import proofs.«01_k».proof.Proof.Gen.PairAddWDownIdeal.Points
public import proofs.«01_k».proof.Proof.Gen.PairAddWDownIdeal.Frame
public import proofs.«01_k».proof.Proof.Gen.PairAddWDownRefIdeal
public import proofs.«01_k».proof.Proof.Gen.PairAddWDownRefIdeal.Run
public import proofs.«01_k».proof.Proof.Gen.PairAddWDownRefIdeal.Read
public import proofs.«01_k».proof.Proof.Gen.PairAddWO
public import proofs.«01_k».proof.Proof.Gen.PairAddWO.Skeleton
public import proofs.«01_k».proof.Proof.Gen.PairAddWO.Launch
public import proofs.«01_k».proof.Proof.Gen.PairAddWO.Points
public import proofs.«01_k».proof.Proof.Gen.PairAddWO.Frame
public import proofs.«01_k».proof.Proof.Gen.PairAddWOIdeal
public import proofs.«01_k».proof.Proof.Gen.PairAddWOIdeal.Skeleton
public import proofs.«01_k».proof.Proof.Gen.PairAddWOIdeal.Launch
public import proofs.«01_k».proof.Proof.Gen.PairAddWOIdeal.Points
public import proofs.«01_k».proof.Proof.Gen.PairAddWOIdeal.Frame
public import proofs.«01_k».proof.Proof.Gen.PairAddWORefIdeal
public import proofs.«01_k».proof.Proof.Gen.PairAddWORefIdeal.Run
public import proofs.«01_k».proof.Proof.Gen.PairAddWORefIdeal.Read
public import proofs.«01_k».proof.Proof.Gen.PairAddWIn
public import proofs.«01_k».proof.Proof.Gen.PairAddWIn.Skeleton
public import proofs.«01_k».proof.Proof.Gen.PairAddWIn.Launch
public import proofs.«01_k».proof.Proof.Gen.PairAddWIn.Points
public import proofs.«01_k».proof.Proof.Gen.PairAddWIn.Frame
public import proofs.«01_k».proof.Proof.Gen.PairAddWInIdeal
public import proofs.«01_k».proof.Proof.Gen.PairAddWInIdeal.Skeleton
public import proofs.«01_k».proof.Proof.Gen.PairAddWInIdeal.Launch
public import proofs.«01_k».proof.Proof.Gen.PairAddWInIdeal.Points
public import proofs.«01_k».proof.Proof.Gen.PairAddWInIdeal.Frame
public import proofs.«01_k».proof.Proof.Gen.PairAddWInRefIdeal
public import proofs.«01_k».proof.Proof.Gen.PairAddWInRefIdeal.Run
public import proofs.«01_k».proof.Proof.Gen.PairAddWInRefIdeal.Read
public import proofs.«01_k».proof.Proof.Gen.PlaceOwnWUp
public import proofs.«01_k».proof.Proof.Gen.PlaceOwnWUp.Skeleton
public import proofs.«01_k».proof.Proof.Gen.PlaceOwnWUp.Launch
public import proofs.«01_k».proof.Proof.Gen.PlaceOwnWUp.Points
public import proofs.«01_k».proof.Proof.Gen.PlaceOwnWUp.Frame
public import proofs.«01_k».proof.Proof.Gen.PlaceOwnWUpIdeal
public import proofs.«01_k».proof.Proof.Gen.PlaceOwnWUpIdeal.Skeleton
public import proofs.«01_k».proof.Proof.Gen.PlaceOwnWUpIdeal.Launch
public import proofs.«01_k».proof.Proof.Gen.PlaceOwnWUpIdeal.Points
public import proofs.«01_k».proof.Proof.Gen.PlaceOwnWUpIdeal.Frame
public import proofs.«01_k».proof.Proof.Gen.PlaceOwnWUpRefIdeal
public import proofs.«01_k».proof.Proof.Gen.PlaceOwnWUpRefIdeal.Run
public import proofs.«01_k».proof.Proof.Gen.PlaceOwnWUpRefIdeal.Read
public import proofs.«01_k».proof.Proof.Gen.PlaceOwnWDown
public import proofs.«01_k».proof.Proof.Gen.PlaceOwnWDown.Skeleton
public import proofs.«01_k».proof.Proof.Gen.PlaceOwnWDown.Launch
public import proofs.«01_k».proof.Proof.Gen.PlaceOwnWDown.Points
public import proofs.«01_k».proof.Proof.Gen.PlaceOwnWDown.Frame
public import proofs.«01_k».proof.Proof.Gen.PlaceOwnWDownIdeal
public import proofs.«01_k».proof.Proof.Gen.PlaceOwnWDownIdeal.Skeleton
public import proofs.«01_k».proof.Proof.Gen.PlaceOwnWDownIdeal.Launch
public import proofs.«01_k».proof.Proof.Gen.PlaceOwnWDownIdeal.Points
public import proofs.«01_k».proof.Proof.Gen.PlaceOwnWDownIdeal.Frame
public import proofs.«01_k».proof.Proof.Gen.PlaceOwnWDownRefIdeal
public import proofs.«01_k».proof.Proof.Gen.PlaceOwnWDownRefIdeal.Run
public import proofs.«01_k».proof.Proof.Gen.PlaceOwnWDownRefIdeal.Read
public import proofs.«01_k».proof.Proof.Gen.PlaceOwnWO
public import proofs.«01_k».proof.Proof.Gen.PlaceOwnWO.Skeleton
public import proofs.«01_k».proof.Proof.Gen.PlaceOwnWO.Launch
public import proofs.«01_k».proof.Proof.Gen.PlaceOwnWO.Points
public import proofs.«01_k».proof.Proof.Gen.PlaceOwnWO.Frame
public import proofs.«01_k».proof.Proof.Gen.PlaceOwnWOIdeal
public import proofs.«01_k».proof.Proof.Gen.PlaceOwnWOIdeal.Skeleton
public import proofs.«01_k».proof.Proof.Gen.PlaceOwnWOIdeal.Launch
public import proofs.«01_k».proof.Proof.Gen.PlaceOwnWOIdeal.Points
public import proofs.«01_k».proof.Proof.Gen.PlaceOwnWOIdeal.Frame
public import proofs.«01_k».proof.Proof.Gen.PlaceOwnWORefIdeal
public import proofs.«01_k».proof.Proof.Gen.PlaceOwnWORefIdeal.Run
public import proofs.«01_k».proof.Proof.Gen.PlaceOwnWORefIdeal.Read
public import proofs.«01_k».proof.Proof.Gen.PlaceOwnWIn
public import proofs.«01_k».proof.Proof.Gen.PlaceOwnWIn.Skeleton
public import proofs.«01_k».proof.Proof.Gen.PlaceOwnWIn.Launch
public import proofs.«01_k».proof.Proof.Gen.PlaceOwnWIn.Points
public import proofs.«01_k».proof.Proof.Gen.PlaceOwnWIn.Frame
public import proofs.«01_k».proof.Proof.Gen.PlaceOwnWInIdeal
public import proofs.«01_k».proof.Proof.Gen.PlaceOwnWInIdeal.Skeleton
public import proofs.«01_k».proof.Proof.Gen.PlaceOwnWInIdeal.Launch
public import proofs.«01_k».proof.Proof.Gen.PlaceOwnWInIdeal.Points
public import proofs.«01_k».proof.Proof.Gen.PlaceOwnWInIdeal.Frame
public import proofs.«01_k».proof.Proof.Gen.PlaceOwnWInRefIdeal
public import proofs.«01_k».proof.Proof.Gen.PlaceOwnWInRefIdeal.Run
public import proofs.«01_k».proof.Proof.Gen.PlaceOwnWInRefIdeal.Read
public import proofs.«01_k».proof.Proof.Gen.ChipAddWUp
public import proofs.«01_k».proof.Proof.Gen.ChipAddWUp.Skeleton
public import proofs.«01_k».proof.Proof.Gen.ChipAddWUp.Launch
public import proofs.«01_k».proof.Proof.Gen.ChipAddWUp.Points
public import proofs.«01_k».proof.Proof.Gen.ChipAddWUp.Frame
public import proofs.«01_k».proof.Proof.Gen.ChipAddWUpIdeal
public import proofs.«01_k».proof.Proof.Gen.ChipAddWUpIdeal.Skeleton
public import proofs.«01_k».proof.Proof.Gen.ChipAddWUpIdeal.Launch
public import proofs.«01_k».proof.Proof.Gen.ChipAddWUpIdeal.Points
public import proofs.«01_k».proof.Proof.Gen.ChipAddWUpIdeal.Frame
public import proofs.«01_k».proof.Proof.Gen.ChipAddWUpRefIdeal
public import proofs.«01_k».proof.Proof.Gen.ChipAddWUpRefIdeal.Run
public import proofs.«01_k».proof.Proof.Gen.ChipAddWUpRefIdeal.Read
public import proofs.«01_k».proof.Proof.Gen.ChipAddWDown
public import proofs.«01_k».proof.Proof.Gen.ChipAddWDown.Skeleton
public import proofs.«01_k».proof.Proof.Gen.ChipAddWDown.Launch
public import proofs.«01_k».proof.Proof.Gen.ChipAddWDown.Points
public import proofs.«01_k».proof.Proof.Gen.ChipAddWDown.Frame
public import proofs.«01_k».proof.Proof.Gen.ChipAddWDownIdeal
public import proofs.«01_k».proof.Proof.Gen.ChipAddWDownIdeal.Skeleton
public import proofs.«01_k».proof.Proof.Gen.ChipAddWDownIdeal.Launch
public import proofs.«01_k».proof.Proof.Gen.ChipAddWDownIdeal.Points
public import proofs.«01_k».proof.Proof.Gen.ChipAddWDownIdeal.Frame
public import proofs.«01_k».proof.Proof.Gen.ChipAddWDownRefIdeal
public import proofs.«01_k».proof.Proof.Gen.ChipAddWDownRefIdeal.Run
public import proofs.«01_k».proof.Proof.Gen.ChipAddWDownRefIdeal.Read
public import proofs.«01_k».proof.Proof.Gen.ChipAddWO
public import proofs.«01_k».proof.Proof.Gen.ChipAddWO.Skeleton
public import proofs.«01_k».proof.Proof.Gen.ChipAddWO.Launch
public import proofs.«01_k».proof.Proof.Gen.ChipAddWO.Points
public import proofs.«01_k».proof.Proof.Gen.ChipAddWO.Frame
public import proofs.«01_k».proof.Proof.Gen.ChipAddWOIdeal
public import proofs.«01_k».proof.Proof.Gen.ChipAddWOIdeal.Skeleton
public import proofs.«01_k».proof.Proof.Gen.ChipAddWOIdeal.Launch
public import proofs.«01_k».proof.Proof.Gen.ChipAddWOIdeal.Points
public import proofs.«01_k».proof.Proof.Gen.ChipAddWOIdeal.Frame
public import proofs.«01_k».proof.Proof.Gen.ChipAddWORefIdeal
public import proofs.«01_k».proof.Proof.Gen.ChipAddWORefIdeal.Run
public import proofs.«01_k».proof.Proof.Gen.ChipAddWORefIdeal.Read
public import proofs.«01_k».proof.Proof.Gen.ChipAddWIn
public import proofs.«01_k».proof.Proof.Gen.ChipAddWIn.Skeleton
public import proofs.«01_k».proof.Proof.Gen.ChipAddWIn.Launch
public import proofs.«01_k».proof.Proof.Gen.ChipAddWIn.Points
public import proofs.«01_k».proof.Proof.Gen.ChipAddWIn.Frame
public import proofs.«01_k».proof.Proof.Gen.ChipAddWInIdeal
public import proofs.«01_k».proof.Proof.Gen.ChipAddWInIdeal.Skeleton
public import proofs.«01_k».proof.Proof.Gen.ChipAddWInIdeal.Launch
public import proofs.«01_k».proof.Proof.Gen.ChipAddWInIdeal.Points
public import proofs.«01_k».proof.Proof.Gen.ChipAddWInIdeal.Frame
public import proofs.«01_k».proof.Proof.Gen.ChipAddWInRefIdeal
public import proofs.«01_k».proof.Proof.Gen.ChipAddWInRefIdeal.Run
public import proofs.«01_k».proof.Proof.Gen.ChipAddWInRefIdeal.Read
public import proofs.«01_k».proof.Proof.MmGDownValue
public import proofs.«01_k».proof.Proof.MmDActValue
public import proofs.«01_k».proof.Proof.MmGUpValue
public import proofs.«01_k».proof.Proof.MmDH2Value
public import proofs.«01_k».proof.Proof.MmGWoValue
public import proofs.«01_k».proof.Proof.MmDOValue
public import proofs.«01_k».proof.Proof.MmGWinValue
public import proofs.«01_k».proof.Proof.MmDH1Value
public import proofs.«01_k».proof.Proof.MmProjValue
public import proofs.«01_k».proof.Proof.MmWoValue
public import proofs.«01_k».proof.Proof.MmUpValue
public import proofs.«01_k».proof.Proof.MmDownValue
public import proofs.«01_k».proof.Proof.MmGAdaValue
public import proofs.«01_k».proof.Proof.ColSumValue
public import proofs.«01_k».proof.Proof.Ln0BwdValue
public import proofs.«01_k».proof.Proof.Ln1BwdValue
public import proofs.«01_k».proof.Proof.Ln2LossBwdValue
public import proofs.«01_k».proof.Proof.Ln0FwdValue
public import proofs.«01_k».proof.Proof.Ln1FwdValue
public import proofs.«01_k».proof.Proof.FfnFwdValue
public import proofs.«01_k».proof.Proof.DnPreFwdValue
public import proofs.«01_k».proof.Proof.WInPaddedValue
public import proofs.«01_k».proof.Proof.WInChipsValue
public import proofs.«01_k».proof.Proof.AdamUpValue
public import proofs.«01_k».proof.Proof.AdamDownValue
public import proofs.«01_k».proof.Proof.AdamWOValue
public import proofs.«01_k».proof.Proof.AdamAdaValue
public import proofs.«01_k».proof.Proof.AdamWinValue
public import proofs.«01_k».proof.Proof.AdamSmallAValue
public import proofs.«01_k».proof.Proof.AdamSmallBValue
public import proofs.«01_k».proof.Proof.AdamSmallCValue
public import proofs.«01_k».proof.Proof.AdamSmallDValue
public import proofs.«01_k».proof.Proof.FfnBwdValue
public import proofs.«01_k».proof.Proof.DnPreBwdValue
public import proofs.«01_k».proof.Proof.PairAddWUpValue
public import proofs.«01_k».proof.Proof.PairAddWDownValue
public import proofs.«01_k».proof.Proof.PairAddWOValue
public import proofs.«01_k».proof.Proof.PairAddWInValue
public import proofs.«01_k».proof.Proof.PlaceOwnWUpValue
public import proofs.«01_k».proof.Proof.PlaceOwnWDownValue
public import proofs.«01_k».proof.Proof.PlaceOwnWOValue
public import proofs.«01_k».proof.Proof.PlaceOwnWInValue
public import proofs.«01_k».proof.Proof.ChipAddWUpValue
public import proofs.«01_k».proof.Proof.ChipAddWDownValue
public import proofs.«01_k».proof.Proof.ChipAddWOValue
public import proofs.«01_k».proof.Proof.ChipAddWInValue
public import Idealize.ShloMosaic.Adequacy
public import Idealize.ShloMosaic.Init

@[expose] public section

noncomputable section

namespace Cert.Proof

open Idealize.ShloMosaic Idealize.SL.Sem

/-- Every program runs, leaves its arguments and its counters as it should, and every call that has a
    reference computes what the reference computes. -/
theorem claim : Cert.Claim :=
  ⟨Cert.MmGDown.Gen.facts,
   Cert.MmGDownIdeal.Gen.facts,
   Cert.MmGDownRefIdeal.Gen.facts,
   Cert.MmDAct.Gen.facts,
   Cert.MmDActIdeal.Gen.facts,
   Cert.MmDActRefIdeal.Gen.facts,
   Cert.MmGUp.Gen.facts,
   Cert.MmGUpIdeal.Gen.facts,
   Cert.MmGUpRefIdeal.Gen.facts,
   Cert.MmDH2.Gen.facts,
   Cert.MmDH2Ideal.Gen.facts,
   Cert.MmDH2RefIdeal.Gen.facts,
   Cert.MmGWo.Gen.facts,
   Cert.MmGWoIdeal.Gen.facts,
   Cert.MmGWoRefIdeal.Gen.facts,
   Cert.MmDO.Gen.facts,
   Cert.MmDOIdeal.Gen.facts,
   Cert.MmDORefIdeal.Gen.facts,
   Cert.MmGWin.Gen.facts,
   Cert.MmGWinIdeal.Gen.facts,
   Cert.MmGWinRefIdeal.Gen.facts,
   Cert.MmDH1.Gen.facts,
   Cert.MmDH1Ideal.Gen.facts,
   Cert.MmDH1RefIdeal.Gen.facts,
   Cert.MmProj.Gen.facts,
   Cert.MmProjIdeal.Gen.facts,
   Cert.MmProjRefIdeal.Gen.facts,
   Cert.MmWo.Gen.facts,
   Cert.MmWoIdeal.Gen.facts,
   Cert.MmWoRefIdeal.Gen.facts,
   Cert.MmUp.Gen.facts,
   Cert.MmUpIdeal.Gen.facts,
   Cert.MmUpRefIdeal.Gen.facts,
   Cert.MmDown.Gen.facts,
   Cert.MmDownIdeal.Gen.facts,
   Cert.MmDownRefIdeal.Gen.facts,
   Cert.MmGAda.Gen.facts,
   Cert.MmGAdaIdeal.Gen.facts,
   Cert.MmGAdaRefIdeal.Gen.facts,
   Cert.ColSum.Gen.facts,
   Cert.ColSumIdeal.Gen.facts,
   Cert.ColSumRefIdeal.Gen.facts,
   Cert.Ln0Bwd.Gen.facts,
   Cert.Ln0BwdIdeal.Gen.facts,
   Cert.Ln0BwdRefIdeal.Gen.facts,
   Cert.Ln1Bwd.Gen.facts,
   Cert.Ln1BwdIdeal.Gen.facts,
   Cert.Ln1BwdRefIdeal.Gen.facts,
   Cert.Ln2LossBwd.Gen.facts,
   Cert.Ln2LossBwdIdeal.Gen.facts,
   Cert.Ln2LossBwdRefIdeal.Gen.facts,
   Cert.Ln0Fwd.Gen.facts,
   Cert.Ln0FwdIdeal.Gen.facts,
   Cert.Ln0FwdRefIdeal.Gen.facts,
   Cert.Ln1Fwd.Gen.facts,
   Cert.Ln1FwdIdeal.Gen.facts,
   Cert.Ln1FwdRefIdeal.Gen.facts,
   Cert.FfnFwd.Gen.facts,
   Cert.FfnFwdIdeal.Gen.facts,
   Cert.FfnFwdRefIdeal.Gen.facts,
   Cert.DnPreFwd.Gen.facts,
   Cert.DnPreFwdIdeal.Gen.facts,
   Cert.DnPreFwdRefIdeal.Gen.facts,
   Cert.WInPadded.Gen.facts,
   Cert.WInPaddedIdeal.Gen.facts,
   Cert.WInPaddedRefIdeal.Gen.facts,
   Cert.WInChips.Gen.facts,
   Cert.WInChipsIdeal.Gen.facts,
   Cert.WInChipsRefIdeal.Gen.facts,
   Cert.AdamUp.Gen.facts,
   Cert.AdamUpIdeal.Gen.facts,
   Cert.AdamUpRefIdeal.Gen.facts,
   Cert.AdamDown.Gen.facts,
   Cert.AdamDownIdeal.Gen.facts,
   Cert.AdamDownRefIdeal.Gen.facts,
   Cert.AdamWO.Gen.facts,
   Cert.AdamWOIdeal.Gen.facts,
   Cert.AdamWORefIdeal.Gen.facts,
   Cert.AdamAda.Gen.facts,
   Cert.AdamAdaIdeal.Gen.facts,
   Cert.AdamAdaRefIdeal.Gen.facts,
   Cert.AdamWin.Gen.facts,
   Cert.AdamWinIdeal.Gen.facts,
   Cert.AdamWinRefIdeal.Gen.facts,
   Cert.AdamSmallA.Gen.facts,
   Cert.AdamSmallAIdeal.Gen.facts,
   Cert.AdamSmallARefIdeal.Gen.facts,
   Cert.AdamSmallB.Gen.facts,
   Cert.AdamSmallBIdeal.Gen.facts,
   Cert.AdamSmallBRefIdeal.Gen.facts,
   Cert.AdamSmallC.Gen.facts,
   Cert.AdamSmallCIdeal.Gen.facts,
   Cert.AdamSmallCRefIdeal.Gen.facts,
   Cert.AdamSmallD.Gen.facts,
   Cert.AdamSmallDIdeal.Gen.facts,
   Cert.AdamSmallDRefIdeal.Gen.facts,
   Cert.FfnBwd.Gen.facts,
   Cert.FfnBwdIdeal.Gen.facts,
   Cert.FfnBwdRefIdeal.Gen.facts,
   Cert.DnPreBwd.Gen.facts,
   Cert.DnPreBwdIdeal.Gen.facts,
   Cert.DnPreBwdRefIdeal.Gen.facts,
   Cert.PairAddWUp.Gen.facts,
   Cert.PairAddWUpIdeal.Gen.facts,
   Cert.PairAddWUpRefIdeal.Gen.facts,
   Cert.PairAddWDown.Gen.facts,
   Cert.PairAddWDownIdeal.Gen.facts,
   Cert.PairAddWDownRefIdeal.Gen.facts,
   Cert.PairAddWO.Gen.facts,
   Cert.PairAddWOIdeal.Gen.facts,
   Cert.PairAddWORefIdeal.Gen.facts,
   Cert.PairAddWIn.Gen.facts,
   Cert.PairAddWInIdeal.Gen.facts,
   Cert.PairAddWInRefIdeal.Gen.facts,
   Cert.PlaceOwnWUp.Gen.facts,
   Cert.PlaceOwnWUpIdeal.Gen.facts,
   Cert.PlaceOwnWUpRefIdeal.Gen.facts,
   Cert.PlaceOwnWDown.Gen.facts,
   Cert.PlaceOwnWDownIdeal.Gen.facts,
   Cert.PlaceOwnWDownRefIdeal.Gen.facts,
   Cert.PlaceOwnWO.Gen.facts,
   Cert.PlaceOwnWOIdeal.Gen.facts,
   Cert.PlaceOwnWORefIdeal.Gen.facts,
   Cert.PlaceOwnWIn.Gen.facts,
   Cert.PlaceOwnWInIdeal.Gen.facts,
   Cert.PlaceOwnWInRefIdeal.Gen.facts,
   Cert.ChipAddWUp.Gen.facts,
   Cert.ChipAddWUpIdeal.Gen.facts,
   Cert.ChipAddWUpRefIdeal.Gen.facts,
   Cert.ChipAddWDown.Gen.facts,
   Cert.ChipAddWDownIdeal.Gen.facts,
   Cert.ChipAddWDownRefIdeal.Gen.facts,
   Cert.ChipAddWO.Gen.facts,
   Cert.ChipAddWOIdeal.Gen.facts,
   Cert.ChipAddWORefIdeal.Gen.facts,
   Cert.ChipAddWIn.Gen.facts,
   Cert.ChipAddWInIdeal.Gen.facts,
   Cert.ChipAddWInRefIdeal.Gen.facts,
   Cert.Pre_value_finite.Gen.facts,
   Cert.Pre_given_finite.Gen.facts,
   Cert.Pre_a_core_w_up.Gen.facts,
   Cert.Pre_a_core_w_down.Gen.facts,
   Cert.Pre_a_core_w_o.Gen.facts,
   Cert.Pre_a_core_w_in.Gen.facts,
   Cert.Pre_a_chip_w_up.Gen.facts,
   Cert.Pre_a_chip_w_down.Gen.facts,
   Cert.Pre_a_chip_w_o.Gen.facts,
   Cert.Pre_a_chip_w_in.Gen.facts,
   Cert.Pre_a_place_w_up.Gen.facts,
   Cert.Pre_a_place_w_down.Gen.facts,
   Cert.Pre_a_place_w_o.Gen.facts,
   Cert.Pre_a_place_w_in.Gen.facts,
   fun m ρ _ => Cert.MmGDown.Gen.frame m ρ,
   fun m ρ _ => Cert.MmGDownIdeal.Gen.frame m ρ,
   fun m ρ _ => (θ_run Cert.MmGDownRefIdeal.defs _ _).mono (fun r h => ⟨fun c => (h c).2, sem_eq_zero_of_no_sems (by decide) r.2⟩) (Cert.MmGDownRefIdeal.Value.run (F := Ideal) m ρ),
   fun m ρ _ => Cert.MmDAct.Gen.frame m ρ,
   fun m ρ _ => Cert.MmDActIdeal.Gen.frame m ρ,
   fun m ρ _ => (θ_run Cert.MmDActRefIdeal.defs _ _).mono (fun r h => ⟨fun c => (h c).2, sem_eq_zero_of_no_sems (by decide) r.2⟩) (Cert.MmDActRefIdeal.Value.run (F := Ideal) m ρ),
   fun m ρ _ => Cert.MmGUp.Gen.frame m ρ,
   fun m ρ _ => Cert.MmGUpIdeal.Gen.frame m ρ,
   fun m ρ _ => (θ_run Cert.MmGUpRefIdeal.defs _ _).mono (fun r h => ⟨fun c => (h c).2, sem_eq_zero_of_no_sems (by decide) r.2⟩) (Cert.MmGUpRefIdeal.Value.run (F := Ideal) m ρ),
   fun m ρ _ => Cert.MmDH2.Gen.frame m ρ,
   fun m ρ _ => Cert.MmDH2Ideal.Gen.frame m ρ,
   fun m ρ _ => (θ_run Cert.MmDH2RefIdeal.defs _ _).mono (fun r h => ⟨fun c => (h c).2, sem_eq_zero_of_no_sems (by decide) r.2⟩) (Cert.MmDH2RefIdeal.Value.run (F := Ideal) m ρ),
   fun m ρ _ => Cert.MmGWo.Gen.frame m ρ,
   fun m ρ _ => Cert.MmGWoIdeal.Gen.frame m ρ,
   fun m ρ _ => (θ_run Cert.MmGWoRefIdeal.defs _ _).mono (fun r h => ⟨fun c => (h c).2, sem_eq_zero_of_no_sems (by decide) r.2⟩) (Cert.MmGWoRefIdeal.Value.run (F := Ideal) m ρ),
   fun m ρ _ => Cert.MmDO.Gen.frame m ρ,
   fun m ρ _ => Cert.MmDOIdeal.Gen.frame m ρ,
   fun m ρ _ => (θ_run Cert.MmDORefIdeal.defs _ _).mono (fun r h => ⟨fun c => (h c).2, sem_eq_zero_of_no_sems (by decide) r.2⟩) (Cert.MmDORefIdeal.Value.run (F := Ideal) m ρ),
   fun m ρ _ => Cert.MmGWin.Gen.frame m ρ,
   fun m ρ _ => Cert.MmGWinIdeal.Gen.frame m ρ,
   fun m ρ _ => (θ_run Cert.MmGWinRefIdeal.defs _ _).mono (fun r h => ⟨fun c => (h c).2, sem_eq_zero_of_no_sems (by decide) r.2⟩) (Cert.MmGWinRefIdeal.Value.run (F := Ideal) m ρ),
   fun m ρ _ => Cert.MmDH1.Gen.frame m ρ,
   fun m ρ _ => Cert.MmDH1Ideal.Gen.frame m ρ,
   fun m ρ _ => (θ_run Cert.MmDH1RefIdeal.defs _ _).mono (fun r h => ⟨fun c => (h c).2, sem_eq_zero_of_no_sems (by decide) r.2⟩) (Cert.MmDH1RefIdeal.Value.run (F := Ideal) m ρ),
   fun m ρ _ => Cert.MmProj.Gen.frame m ρ,
   fun m ρ _ => Cert.MmProjIdeal.Gen.frame m ρ,
   fun m ρ _ => (θ_run Cert.MmProjRefIdeal.defs _ _).mono (fun r h => ⟨fun c => (h c).2, sem_eq_zero_of_no_sems (by decide) r.2⟩) (Cert.MmProjRefIdeal.Value.run (F := Ideal) m ρ),
   fun m ρ _ => Cert.MmWo.Gen.frame m ρ,
   fun m ρ _ => Cert.MmWoIdeal.Gen.frame m ρ,
   fun m ρ _ => (θ_run Cert.MmWoRefIdeal.defs _ _).mono (fun r h => ⟨fun c => (h c).2, sem_eq_zero_of_no_sems (by decide) r.2⟩) (Cert.MmWoRefIdeal.Value.run (F := Ideal) m ρ),
   fun m ρ _ => Cert.MmUp.Gen.frame m ρ,
   fun m ρ _ => Cert.MmUpIdeal.Gen.frame m ρ,
   fun m ρ _ => (θ_run Cert.MmUpRefIdeal.defs _ _).mono (fun r h => ⟨fun c => (h c).2, sem_eq_zero_of_no_sems (by decide) r.2⟩) (Cert.MmUpRefIdeal.Value.run (F := Ideal) m ρ),
   fun m ρ _ => Cert.MmDown.Gen.frame m ρ,
   fun m ρ _ => Cert.MmDownIdeal.Gen.frame m ρ,
   fun m ρ _ => (θ_run Cert.MmDownRefIdeal.defs _ _).mono (fun r h => ⟨fun c => (h c).2, sem_eq_zero_of_no_sems (by decide) r.2⟩) (Cert.MmDownRefIdeal.Value.run (F := Ideal) m ρ),
   fun m ρ _ => Cert.MmGAda.Gen.frame m ρ,
   fun m ρ _ => Cert.MmGAdaIdeal.Gen.frame m ρ,
   fun m ρ _ => (θ_run Cert.MmGAdaRefIdeal.defs _ _).mono (fun r h => ⟨fun c => (h c).2, sem_eq_zero_of_no_sems (by decide) r.2⟩) (Cert.MmGAdaRefIdeal.Value.run (F := Ideal) m ρ),
   fun m ρ _ => Cert.ColSum.Gen.frame m ρ,
   fun m ρ _ => Cert.ColSumIdeal.Gen.frame m ρ,
   fun m ρ _ => (θ_run Cert.ColSumRefIdeal.defs _ _).mono (fun r h => ⟨fun c => (h c).2, sem_eq_zero_of_no_sems (by decide) r.2⟩) (Cert.ColSumRefIdeal.Value.run (F := Ideal) m ρ),
   fun m ρ _ => Cert.Ln0Bwd.Gen.frame m ρ,
   fun m ρ _ => Cert.Ln0BwdIdeal.Gen.frame m ρ,
   fun m ρ _ => (θ_run Cert.Ln0BwdRefIdeal.defs _ _).mono (fun r h => ⟨fun c => (h c).2, sem_eq_zero_of_no_sems (by decide) r.2⟩) (Cert.Ln0BwdRefIdeal.Value.run (F := Ideal) m ρ),
   fun m ρ _ => Cert.Ln1Bwd.Gen.frame m ρ,
   fun m ρ _ => Cert.Ln1BwdIdeal.Gen.frame m ρ,
   fun m ρ _ => (θ_run Cert.Ln1BwdRefIdeal.defs _ _).mono (fun r h => ⟨fun c => (h c).2.2, sem_eq_zero_of_no_sems (by decide) r.2⟩) (Cert.Ln1BwdRefIdeal.Value.run (F := Ideal) m ρ),
   fun m ρ _ => Cert.Ln2LossBwd.Gen.frame m ρ,
   fun m ρ _ => Cert.Ln2LossBwdIdeal.Gen.frame m ρ,
   fun m ρ _ => (θ_run Cert.Ln2LossBwdRefIdeal.defs _ _).mono (fun r h => ⟨fun c => (h c).2.2, sem_eq_zero_of_no_sems (by decide) r.2⟩) (Cert.Ln2LossBwdRefIdeal.Value.run (F := Ideal) m ρ),
   fun m ρ _ => Cert.Ln0Fwd.Gen.frame m ρ,
   fun m ρ _ => Cert.Ln0FwdIdeal.Gen.frame m ρ,
   fun m ρ _ => (θ_run Cert.Ln0FwdRefIdeal.defs _ _).mono (fun r h => ⟨fun c => (h c).2.2, sem_eq_zero_of_no_sems (by decide) r.2⟩) (Cert.Ln0FwdRefIdeal.Value.run (F := Ideal) m ρ),
   fun m ρ _ => Cert.Ln1Fwd.Gen.frame m ρ,
   fun m ρ _ => Cert.Ln1FwdIdeal.Gen.frame m ρ,
   fun m ρ _ => (θ_run Cert.Ln1FwdRefIdeal.defs _ _).mono (fun r h => ⟨fun c => (h c).2.2, sem_eq_zero_of_no_sems (by decide) r.2⟩) (Cert.Ln1FwdRefIdeal.Value.run (F := Ideal) m ρ),
   fun m ρ _ => Cert.FfnFwd.Gen.frame m ρ,
   fun m ρ _ => Cert.FfnFwdIdeal.Gen.frame m ρ,
   fun m ρ _ => (θ_run Cert.FfnFwdRefIdeal.defs _ _).mono (fun r h => ⟨fun c => (h c).2, sem_eq_zero_of_no_sems (by decide) r.2⟩) (Cert.FfnFwdRefIdeal.Value.run (F := Ideal) m ρ),
   fun m ρ _ => Cert.DnPreFwd.Gen.frame m ρ,
   fun m ρ _ => Cert.DnPreFwdIdeal.Gen.frame m ρ,
   fun m ρ _ => (θ_run Cert.DnPreFwdRefIdeal.defs _ _).mono (fun r h => ⟨fun c => (h c).2, sem_eq_zero_of_no_sems (by decide) r.2⟩) (Cert.DnPreFwdRefIdeal.Value.run (F := Ideal) m ρ),
   fun m ρ _ => Cert.WInPadded.Gen.frame m ρ,
   fun m ρ _ => Cert.WInPaddedIdeal.Gen.frame m ρ,
   fun m ρ _ => (θ_run Cert.WInPaddedRefIdeal.defs _ _).mono (fun r h => ⟨fun c => (h c).2, sem_eq_zero_of_no_sems (by decide) r.2⟩) (Cert.WInPaddedRefIdeal.Value.run (F := Ideal) m ρ),
   fun m ρ _ => Cert.WInChips.Gen.frame m ρ,
   fun m ρ _ => Cert.WInChipsIdeal.Gen.frame m ρ,
   fun m ρ _ => (θ_run Cert.WInChipsRefIdeal.defs _ _).mono (fun r h => ⟨fun c => (h c).2, sem_eq_zero_of_no_sems (by decide) r.2⟩) (Cert.WInChipsRefIdeal.Value.run (F := Ideal) m ρ),
   fun m ρ _ => Cert.AdamUp.Gen.frame m ρ,
   fun m ρ _ => Cert.AdamUpIdeal.Gen.frame m ρ,
   fun m ρ _ => (θ_run Cert.AdamUpRefIdeal.defs _ _).mono (fun r h => ⟨fun c => (h c).2.2.2, sem_eq_zero_of_no_sems (by decide) r.2⟩) (Cert.AdamUpRefIdeal.Value.run (F := Ideal) m ρ),
   fun m ρ _ => Cert.AdamDown.Gen.frame m ρ,
   fun m ρ _ => Cert.AdamDownIdeal.Gen.frame m ρ,
   fun m ρ _ => (θ_run Cert.AdamDownRefIdeal.defs _ _).mono (fun r h => ⟨fun c => (h c).2.2.2, sem_eq_zero_of_no_sems (by decide) r.2⟩) (Cert.AdamDownRefIdeal.Value.run (F := Ideal) m ρ),
   fun m ρ _ => Cert.AdamWO.Gen.frame m ρ,
   fun m ρ _ => Cert.AdamWOIdeal.Gen.frame m ρ,
   fun m ρ _ => (θ_run Cert.AdamWORefIdeal.defs _ _).mono (fun r h => ⟨fun c => (h c).2.2.2, sem_eq_zero_of_no_sems (by decide) r.2⟩) (Cert.AdamWORefIdeal.Value.run (F := Ideal) m ρ),
   fun m ρ _ => Cert.AdamAda.Gen.frame m ρ,
   fun m ρ _ => Cert.AdamAdaIdeal.Gen.frame m ρ,
   fun m ρ _ => (θ_run Cert.AdamAdaRefIdeal.defs _ _).mono (fun r h => ⟨fun c => (h c).2.2.2, sem_eq_zero_of_no_sems (by decide) r.2⟩) (Cert.AdamAdaRefIdeal.Value.run (F := Ideal) m ρ),
   fun m ρ _ => Cert.AdamWin.Gen.frame m ρ,
   fun m ρ _ => Cert.AdamWinIdeal.Gen.frame m ρ,
   fun m ρ _ => (θ_run Cert.AdamWinRefIdeal.defs _ _).mono (fun r h => ⟨fun c => (h c).2.2.2, sem_eq_zero_of_no_sems (by decide) r.2⟩) (Cert.AdamWinRefIdeal.Value.run (F := Ideal) m ρ),
   fun m ρ _ => Cert.AdamSmallA.Gen.frame m ρ,
   fun m ρ _ => Cert.AdamSmallAIdeal.Gen.frame m ρ,
   fun m ρ _ => (θ_run Cert.AdamSmallARefIdeal.defs _ _).mono (fun r h => ⟨fun c => (h c).2.2.2.2.2.2.2.2.2.2.2.2, sem_eq_zero_of_no_sems (by decide) r.2⟩) (Cert.AdamSmallARefIdeal.Value.run (F := Ideal) m ρ),
   fun m ρ _ => Cert.AdamSmallB.Gen.frame m ρ,
   fun m ρ _ => Cert.AdamSmallBIdeal.Gen.frame m ρ,
   fun m ρ _ => (θ_run Cert.AdamSmallBRefIdeal.defs _ _).mono (fun r h => ⟨fun c => (h c).2.2.2.2.2.2.2.2.2.2.2.2, sem_eq_zero_of_no_sems (by decide) r.2⟩) (Cert.AdamSmallBRefIdeal.Value.run (F := Ideal) m ρ),
   fun m ρ _ => Cert.AdamSmallC.Gen.frame m ρ,
   fun m ρ _ => Cert.AdamSmallCIdeal.Gen.frame m ρ,
   fun m ρ _ => (θ_run Cert.AdamSmallCRefIdeal.defs _ _).mono (fun r h => ⟨fun c => (h c).2.2.2.2.2.2.2.2.2.2.2.2, sem_eq_zero_of_no_sems (by decide) r.2⟩) (Cert.AdamSmallCRefIdeal.Value.run (F := Ideal) m ρ),
   fun m ρ _ => Cert.AdamSmallD.Gen.frame m ρ,
   fun m ρ _ => Cert.AdamSmallDIdeal.Gen.frame m ρ,
   fun m ρ _ => (θ_run Cert.AdamSmallDRefIdeal.defs _ _).mono (fun r h => ⟨fun c => (h c).2.2.2.2.2.2.2.2.2.2.2.2, sem_eq_zero_of_no_sems (by decide) r.2⟩) (Cert.AdamSmallDRefIdeal.Value.run (F := Ideal) m ρ),
   fun m ρ _ => Cert.FfnBwd.Gen.frame m ρ,
   fun m ρ _ => Cert.FfnBwdIdeal.Gen.frame m ρ,
   fun m ρ _ => Cert.FfnBwdIdeal.Gen.frame m ρ,
   fun m ρ _ => (θ_run Cert.FfnBwdRefIdeal.defs _ _).mono (fun r h => ⟨fun c => (h c).2.2.2, sem_eq_zero_of_no_sems (by decide) r.2⟩) (Cert.FfnBwdRefIdeal.Value.run (F := Ideal) m ρ),
   fun m ρ _ => (θ_run Cert.FfnBwdRefIdeal.defs _ _).mono (fun r h => ⟨fun c => (h c).2.2.2, sem_eq_zero_of_no_sems (by decide) r.2⟩) (Cert.FfnBwdRefIdeal.Value.run (F := Ideal) m ρ),
   fun m ρ _ => Cert.DnPreBwd.Gen.frame m ρ,
   fun m ρ _ => Cert.DnPreBwdIdeal.Gen.frame m ρ,
   fun m ρ _ => Cert.DnPreBwdIdeal.Gen.frame m ρ,
   fun m ρ _ => (θ_run Cert.DnPreBwdRefIdeal.defs _ _).mono (fun r h => ⟨fun c => (h c).2.2, sem_eq_zero_of_no_sems (by decide) r.2⟩) (Cert.DnPreBwdRefIdeal.Value.run (F := Ideal) m ρ),
   fun m ρ _ => (θ_run Cert.DnPreBwdRefIdeal.defs _ _).mono (fun r h => ⟨fun c => (h c).2.2, sem_eq_zero_of_no_sems (by decide) r.2⟩) (Cert.DnPreBwdRefIdeal.Value.run (F := Ideal) m ρ),
   fun m ρ h => Cert.PairAddWUp.Gen.frame m ρ (Cert.PairAddWUp.Table.ok_of_pre m h),
   fun m ρ h => Cert.PairAddWUpIdeal.Gen.frame m ρ (Cert.PairAddWUpIdeal.Table.ok_of_pre m h),
   fun m ρ _ => (θ_run Cert.PairAddWUpRefIdeal.defs _ _).mono (fun r h => ⟨fun c => (h c).2, sem_eq_zero_of_no_sems (by decide) r.2⟩) (Cert.PairAddWUpRefIdeal.Value.run (F := Ideal) m ρ),
   fun m ρ _ => (θ_run Cert.PairAddWUpRefIdeal.defs _ _).mono (fun r h => ⟨fun c => (h c).2, sem_eq_zero_of_no_sems (by decide) r.2⟩) (Cert.PairAddWUpRefIdeal.Value.run (F := Ideal) m ρ),
   fun m ρ h => Cert.PairAddWDown.Gen.frame m ρ (Cert.PairAddWDown.Table.ok_of_pre m h),
   fun m ρ h => Cert.PairAddWDownIdeal.Gen.frame m ρ (Cert.PairAddWDownIdeal.Table.ok_of_pre m h),
   fun m ρ _ => (θ_run Cert.PairAddWDownRefIdeal.defs _ _).mono (fun r h => ⟨fun c => (h c).2, sem_eq_zero_of_no_sems (by decide) r.2⟩) (Cert.PairAddWDownRefIdeal.Value.run (F := Ideal) m ρ),
   fun m ρ _ => (θ_run Cert.PairAddWDownRefIdeal.defs _ _).mono (fun r h => ⟨fun c => (h c).2, sem_eq_zero_of_no_sems (by decide) r.2⟩) (Cert.PairAddWDownRefIdeal.Value.run (F := Ideal) m ρ),
   fun m ρ h => Cert.PairAddWO.Gen.frame m ρ (Cert.PairAddWO.Table.ok_of_pre m h),
   fun m ρ h => Cert.PairAddWOIdeal.Gen.frame m ρ (Cert.PairAddWOIdeal.Table.ok_of_pre m h),
   fun m ρ _ => (θ_run Cert.PairAddWORefIdeal.defs _ _).mono (fun r h => ⟨fun c => (h c).2, sem_eq_zero_of_no_sems (by decide) r.2⟩) (Cert.PairAddWORefIdeal.Value.run (F := Ideal) m ρ),
   fun m ρ _ => (θ_run Cert.PairAddWORefIdeal.defs _ _).mono (fun r h => ⟨fun c => (h c).2, sem_eq_zero_of_no_sems (by decide) r.2⟩) (Cert.PairAddWORefIdeal.Value.run (F := Ideal) m ρ),
   fun m ρ h => Cert.PairAddWIn.Gen.frame m ρ (Cert.PairAddWIn.Table.ok_of_pre m h),
   fun m ρ h => Cert.PairAddWInIdeal.Gen.frame m ρ (Cert.PairAddWInIdeal.Table.ok_of_pre m h),
   fun m ρ _ => (θ_run Cert.PairAddWInRefIdeal.defs _ _).mono (fun r h => ⟨fun c => (h c).2, sem_eq_zero_of_no_sems (by decide) r.2⟩) (Cert.PairAddWInRefIdeal.Value.run (F := Ideal) m ρ),
   fun m ρ _ => (θ_run Cert.PairAddWInRefIdeal.defs _ _).mono (fun r h => ⟨fun c => (h c).2, sem_eq_zero_of_no_sems (by decide) r.2⟩) (Cert.PairAddWInRefIdeal.Value.run (F := Ideal) m ρ),
   fun m ρ h => Cert.PlaceOwnWUp.Gen.frame m ρ (Cert.PlaceOwnWUp.Table.ok_of_pre m h),
   fun m ρ h => Cert.PlaceOwnWUpIdeal.Gen.frame m ρ (Cert.PlaceOwnWUpIdeal.Table.ok_of_pre m h),
   fun m ρ _ => (θ_run Cert.PlaceOwnWUpRefIdeal.defs _ _).mono (fun r h => ⟨fun c => (h c).2, sem_eq_zero_of_no_sems (by decide) r.2⟩) (Cert.PlaceOwnWUpRefIdeal.Value.run (F := Ideal) m ρ),
   fun m ρ _ => (θ_run Cert.PlaceOwnWUpRefIdeal.defs _ _).mono (fun r h => ⟨fun c => (h c).2, sem_eq_zero_of_no_sems (by decide) r.2⟩) (Cert.PlaceOwnWUpRefIdeal.Value.run (F := Ideal) m ρ),
   fun m ρ h => Cert.PlaceOwnWDown.Gen.frame m ρ (Cert.PlaceOwnWDown.Table.ok_of_pre m h),
   fun m ρ h => Cert.PlaceOwnWDownIdeal.Gen.frame m ρ (Cert.PlaceOwnWDownIdeal.Table.ok_of_pre m h),
   fun m ρ _ => (θ_run Cert.PlaceOwnWDownRefIdeal.defs _ _).mono (fun r h => ⟨fun c => (h c).2, sem_eq_zero_of_no_sems (by decide) r.2⟩) (Cert.PlaceOwnWDownRefIdeal.Value.run (F := Ideal) m ρ),
   fun m ρ _ => (θ_run Cert.PlaceOwnWDownRefIdeal.defs _ _).mono (fun r h => ⟨fun c => (h c).2, sem_eq_zero_of_no_sems (by decide) r.2⟩) (Cert.PlaceOwnWDownRefIdeal.Value.run (F := Ideal) m ρ),
   fun m ρ h => Cert.PlaceOwnWO.Gen.frame m ρ (Cert.PlaceOwnWO.Table.ok_of_pre m h),
   fun m ρ h => Cert.PlaceOwnWOIdeal.Gen.frame m ρ (Cert.PlaceOwnWOIdeal.Table.ok_of_pre m h),
   fun m ρ _ => (θ_run Cert.PlaceOwnWORefIdeal.defs _ _).mono (fun r h => ⟨fun c => (h c).2, sem_eq_zero_of_no_sems (by decide) r.2⟩) (Cert.PlaceOwnWORefIdeal.Value.run (F := Ideal) m ρ),
   fun m ρ _ => (θ_run Cert.PlaceOwnWORefIdeal.defs _ _).mono (fun r h => ⟨fun c => (h c).2, sem_eq_zero_of_no_sems (by decide) r.2⟩) (Cert.PlaceOwnWORefIdeal.Value.run (F := Ideal) m ρ),
   fun m ρ h => Cert.PlaceOwnWIn.Gen.frame m ρ (Cert.PlaceOwnWIn.Table.ok_of_pre m h),
   fun m ρ h => Cert.PlaceOwnWInIdeal.Gen.frame m ρ (Cert.PlaceOwnWInIdeal.Table.ok_of_pre m h),
   fun m ρ _ => (θ_run Cert.PlaceOwnWInRefIdeal.defs _ _).mono (fun r h => ⟨fun c => (h c).2, sem_eq_zero_of_no_sems (by decide) r.2⟩) (Cert.PlaceOwnWInRefIdeal.Value.run (F := Ideal) m ρ),
   fun m ρ _ => (θ_run Cert.PlaceOwnWInRefIdeal.defs _ _).mono (fun r h => ⟨fun c => (h c).2, sem_eq_zero_of_no_sems (by decide) r.2⟩) (Cert.PlaceOwnWInRefIdeal.Value.run (F := Ideal) m ρ),
   fun m ρ h => Cert.ChipAddWUp.Gen.frame m ρ (Cert.ChipAddWUp.Table.ok_of_pre m h),
   fun m ρ h => Cert.ChipAddWUpIdeal.Gen.frame m ρ (Cert.ChipAddWUpIdeal.Table.ok_of_pre m h),
   fun m ρ _ => (θ_run Cert.ChipAddWUpRefIdeal.defs _ _).mono (fun r h => ⟨fun c => (h c).2, sem_eq_zero_of_no_sems (by decide) r.2⟩) (Cert.ChipAddWUpRefIdeal.Value.run (F := Ideal) m ρ),
   fun m ρ _ => (θ_run Cert.ChipAddWUpRefIdeal.defs _ _).mono (fun r h => ⟨fun c => (h c).2, sem_eq_zero_of_no_sems (by decide) r.2⟩) (Cert.ChipAddWUpRefIdeal.Value.run (F := Ideal) m ρ),
   fun m ρ h => Cert.ChipAddWDown.Gen.frame m ρ (Cert.ChipAddWDown.Table.ok_of_pre m h),
   fun m ρ h => Cert.ChipAddWDownIdeal.Gen.frame m ρ (Cert.ChipAddWDownIdeal.Table.ok_of_pre m h),
   fun m ρ _ => (θ_run Cert.ChipAddWDownRefIdeal.defs _ _).mono (fun r h => ⟨fun c => (h c).2, sem_eq_zero_of_no_sems (by decide) r.2⟩) (Cert.ChipAddWDownRefIdeal.Value.run (F := Ideal) m ρ),
   fun m ρ _ => (θ_run Cert.ChipAddWDownRefIdeal.defs _ _).mono (fun r h => ⟨fun c => (h c).2, sem_eq_zero_of_no_sems (by decide) r.2⟩) (Cert.ChipAddWDownRefIdeal.Value.run (F := Ideal) m ρ),
   fun m ρ h => Cert.ChipAddWO.Gen.frame m ρ (Cert.ChipAddWO.Table.ok_of_pre m h),
   fun m ρ h => Cert.ChipAddWOIdeal.Gen.frame m ρ (Cert.ChipAddWOIdeal.Table.ok_of_pre m h),
   fun m ρ _ => (θ_run Cert.ChipAddWORefIdeal.defs _ _).mono (fun r h => ⟨fun c => (h c).2, sem_eq_zero_of_no_sems (by decide) r.2⟩) (Cert.ChipAddWORefIdeal.Value.run (F := Ideal) m ρ),
   fun m ρ _ => (θ_run Cert.ChipAddWORefIdeal.defs _ _).mono (fun r h => ⟨fun c => (h c).2, sem_eq_zero_of_no_sems (by decide) r.2⟩) (Cert.ChipAddWORefIdeal.Value.run (F := Ideal) m ρ),
   fun m ρ h => Cert.ChipAddWIn.Gen.frame m ρ (Cert.ChipAddWIn.Table.ok_of_pre m h),
   fun m ρ h => Cert.ChipAddWInIdeal.Gen.frame m ρ (Cert.ChipAddWInIdeal.Table.ok_of_pre m h),
   fun m ρ _ => (θ_run Cert.ChipAddWInRefIdeal.defs _ _).mono (fun r h => ⟨fun c => (h c).2, sem_eq_zero_of_no_sems (by decide) r.2⟩) (Cert.ChipAddWInRefIdeal.Value.run (F := Ideal) m ρ),
   fun m ρ _ => (θ_run Cert.ChipAddWInRefIdeal.defs _ _).mono (fun r h => ⟨fun c => (h c).2, sem_eq_zero_of_no_sems (by decide) r.2⟩) (Cert.ChipAddWInRefIdeal.Value.run (F := Ideal) m ρ),
   trivial,
   Cert.MmGDownIdeal.Claim.algebraic,
   trivial,
   Cert.MmDActIdeal.Claim.algebraic,
   trivial,
   Cert.MmGUpIdeal.Claim.algebraic,
   trivial,
   Cert.MmDH2Ideal.Claim.algebraic,
   trivial,
   Cert.MmGWoIdeal.Claim.algebraic,
   trivial,
   Cert.MmDOIdeal.Claim.algebraic,
   trivial,
   Cert.MmGWinIdeal.Claim.algebraic,
   trivial,
   Cert.MmDH1Ideal.Claim.algebraic,
   trivial,
   Cert.MmProjIdeal.Claim.algebraic,
   trivial,
   Cert.MmWoIdeal.Claim.algebraic,
   trivial,
   Cert.MmUpIdeal.Claim.algebraic,
   trivial,
   Cert.MmDownIdeal.Claim.algebraic,
   trivial,
   Cert.MmGAdaIdeal.Claim.algebraic,
   trivial,
   Cert.ColSumIdeal.Claim.algebraic,
   trivial,
   Cert.Ln0BwdIdeal.Claim.algebraic,
   trivial,
   Cert.Ln1BwdIdeal.Claim.algebraic,
   trivial,
   Cert.Ln2LossBwdIdeal.Claim.algebraic,
   trivial,
   Cert.Ln0FwdIdeal.Claim.algebraic,
   trivial,
   Cert.Ln1FwdIdeal.Claim.algebraic,
   trivial,
   Cert.FfnFwdIdeal.Claim.algebraic,
   trivial,
   Cert.DnPreFwdIdeal.Claim.algebraic,
   trivial,
   Cert.WInPaddedIdeal.Claim.algebraic,
   trivial,
   Cert.WInChipsIdeal.Claim.algebraic,
   trivial,
   Cert.AdamUpIdeal.Claim.algebraic,
   trivial,
   Cert.AdamDownIdeal.Claim.algebraic,
   trivial,
   Cert.AdamWOIdeal.Claim.algebraic,
   trivial,
   Cert.AdamAdaIdeal.Claim.algebraic,
   trivial,
   Cert.AdamWinIdeal.Claim.algebraic,
   trivial,
   Cert.AdamSmallAIdeal.Claim.algebraic,
   trivial,
   Cert.AdamSmallBIdeal.Claim.algebraic,
   trivial,
   Cert.AdamSmallCIdeal.Claim.algebraic,
   trivial,
   Cert.AdamSmallDIdeal.Claim.algebraic,
   trivial,
   Cert.FfnBwdIdeal.Claim.algebraic,
   trivial,
   Cert.DnPreBwdIdeal.Claim.algebraic,
   trivial,
   Cert.PairAddWUpIdeal.Claim.algebraic,
   trivial,
   Cert.PairAddWDownIdeal.Claim.algebraic,
   trivial,
   Cert.PairAddWOIdeal.Claim.algebraic,
   trivial,
   Cert.PairAddWInIdeal.Claim.algebraic,
   trivial,
   Cert.PlaceOwnWUpIdeal.Claim.algebraic,
   trivial,
   Cert.PlaceOwnWDownIdeal.Claim.algebraic,
   trivial,
   Cert.PlaceOwnWOIdeal.Claim.algebraic,
   trivial,
   Cert.PlaceOwnWInIdeal.Claim.algebraic,
   trivial,
   Cert.ChipAddWUpIdeal.Claim.algebraic,
   trivial,
   Cert.ChipAddWDownIdeal.Claim.algebraic,
   trivial,
   Cert.ChipAddWOIdeal.Claim.algebraic,
   trivial,
   Cert.ChipAddWInIdeal.Claim.algebraic⟩

end Cert.Proof

end
